-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_2)) (v3 : (c : Dev Cert.KernelIdeal.nD) → Buf (Elt Ideal) ((c.tc : Thread Cert.KernelIdeal.nD Cert.KernelIdeal.τ).loc Cert.KernelIdeal.main_v11)) (v4 : (c : Dev Cert.KernelIdeal.nD) → Buf (Elt Ideal) ((c.tc : Thread Cert.KernelIdeal.nD Cert.KernelIdeal.τ).loc Cert.KernelIdeal.main_v12)) (v5 : (c : Dev Cert.KernelIdeal.nD) → Buf (Elt Ideal) ((c.tc : Thread Cert.KernelIdeal.nD Cert.KernelIdeal.τ).loc Cert.KernelIdeal.main_v10_5)) (v6 : (c : Dev Cert.KernelIdeal.nD) → Buf (Elt Ideal) ((c.tc : Thread Cert.KernelIdeal.nD Cert.KernelIdeal.τ).loc Cert.KernelIdeal.main_v13)) (v7 : (c : Dev Cert.KernelIdeal.nD) → Buf (Elt Ideal) ((c.tc : Thread Cert.KernelIdeal.nD Cert.KernelIdeal.τ).loc Cert.KernelIdeal.main_v10_7)) (v8 : (c : Dev Cert.KernelIdeal.nD) → Buf (Elt Ideal) ((c.tc : Thread Cert.KernelIdeal.nD Cert.KernelIdeal.τ).loc Cert.KernelIdeal.main_v14)) (v9 : (c : Dev Cert.KernelIdeal.nD) → Buf (Elt Ideal) ((c.tc : Thread Cert.KernelIdeal.nD Cert.KernelIdeal.τ).loc Cert.KernelIdeal.main_v10_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_2) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_v10_5) = v5 c
          ∧ r.2.mem ((c.tc : Thread Cert.KernelIdeal.nD Cert.KernelIdeal.τ).loc Cert.KernelIdeal.main_v13) = v6 c
          ∧ r.2.mem ((c.tc : Thread Cert.KernelIdeal.nD Cert.KernelIdeal.τ).loc Cert.KernelIdeal.main_v10_7) = v7 c
          ∧ r.2.mem ((c.tc : Thread Cert.KernelIdeal.nD Cert.KernelIdeal.τ).loc Cert.KernelIdeal.main_v14) = v8 c
          ∧ r.2.mem ((c.tc : Thread Cert.KernelIdeal.nD Cert.KernelIdeal.τ).loc Cert.KernelIdeal.main_v10_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v175) = v1 c
          ∧ r.2.mem ((c.tc : Thread Cert.ReferenceIdeal.nD Cert.ReferenceIdeal.τ).loc Cert.ReferenceIdeal.main_v177) = v2 c
          ∧ r.2.mem ((c.tc : Thread Cert.ReferenceIdeal.nD Cert.ReferenceIdeal.τ).loc Cert.ReferenceIdeal.main_v178) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v66) = v5 c
          ∧ r.2.mem ((c.tc : Thread Cert.ReferenceIdeal.nD Cert.ReferenceIdeal.τ).loc Cert.ReferenceIdeal.main_v119) = v6 c
          ∧ r.2.mem ((c.tc : Thread Cert.ReferenceIdeal.nD Cert.ReferenceIdeal.τ).loc Cert.ReferenceIdeal.main_v112) = v7 c
          ∧ r.2.mem ((c.tc : Thread Cert.ReferenceIdeal.nD Cert.ReferenceIdeal.τ).loc Cert.ReferenceIdeal.main_v143) = v8 c
          ∧ r.2.mem ((c.tc : Thread Cert.ReferenceIdeal.nD Cert.ReferenceIdeal.τ).loc Cert.ReferenceIdeal.main_v136) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x1536x1024 : Shape := ⟨3, ![6, 1536, 1024]⟩
abbrev S1024x4096 : Shape := ⟨2, ![1024, 4096]⟩
abbrev S4096x1024 : Shape := ⟨2, ![4096, 1024]⟩
abbrev S512x4096 : Shape := ⟨2, ![512, 4096]⟩
abbrev S2048x1024 : Shape := ⟨2, ![2048, 1024]⟩
abbrev S8x4096 : Shape := ⟨2, ![8, 4096]⟩
abbrev S32x1024 : Shape := ⟨2, ![32, 1024]⟩
abbrev S8x1x4096 : Shape := ⟨3, ![8, 1, 4096]⟩
abbrev S256x2048 : Shape := ⟨2, ![256, 2048]⟩
abbrev S4x1x2048 : Shape := ⟨3, ![4, 1, 2048]⟩
abbrev S512x2048 : Shape := ⟨2, ![512, 2048]⟩
abbrev S64x2048 : Shape := ⟨2, ![64, 2048]⟩
abbrev S128x2048 : Shape := ⟨2, ![128, 2048]⟩
abbrev S1x1x2048 : Shape := ⟨3, ![1, 1, 2048]⟩
abbrev S1x2048 : Shape := ⟨2, ![1, 2048]⟩
abbrev S32x1x1024 : Shape := ⟨3, ![32, 1, 1024]⟩
abbrev S256x1024 : Shape := ⟨2, ![256, 1024]⟩
abbrev S4x1x1024 : Shape := ⟨3, ![4, 1, 1024]⟩
abbrev S512x1024 : Shape := ⟨2, ![512, 1024]⟩
abbrev S64x1024 : Shape := ⟨2, ![64, 1024]⟩
abbrev S128x1024 : Shape := ⟨2, ![128, 1024]⟩
abbrev S1x1x1024 : Shape := ⟨3, ![1, 1, 1024]⟩
abbrev S1x1024 : Shape := ⟨2, ![1, 1024]⟩
abbrev S9216x1024 : Shape := ⟨2, ![9216, 1024]⟩
abbrev S4x6x1536 : Shape := ⟨3, ![4, 6, 1536]⟩
abbrev S4x1024 : Shape := ⟨2, ![4, 1024]⟩
abbrev S6x1536 : Shape := ⟨2, ![6, 1536]⟩
abbrev S9216x4096 : Shape := ⟨2, ![9216, 4096]⟩
abbrev S384x1024 : Shape := ⟨2, ![384, 1024]⟩
abbrev S1024x512 : Shape := ⟨2, ![1024, 512]⟩
abbrev S4096x256 : Shape := ⟨2, ![4096, 256]⟩
abbrev S384x4096 : Shape := ⟨2, ![384, 4096]⟩
abbrev S384x128 : Shape := ⟨2, ![384, 128]⟩
abbrev S5x384x128 : Shape := ⟨3, ![5, 384, 128]⟩
abbrev S4x8x1024 : Shape := ⟨3, ![4, 8, 1024]⟩
abbrev S384 : Shape := ⟨1, ![384]⟩
abbrev S384x1 : Shape := ⟨2, ![384, 1]⟩
abbrev S128x384 : Shape := ⟨2, ![128, 384]⟩
abbrev S1x384 : Shape := ⟨2, ![1, 384]⟩
abbrev S384x512 : Shape := ⟨2, ![384, 512]⟩
abbrev S384x256 : Shape := ⟨2, ![384, 256]⟩
abbrev S1x384x128 : Shape := ⟨3, ![1, 384, 128]⟩
abbrev S1x8x256 : Shape := ⟨3, ![1, 8, 256]⟩
abbrev S8x256 : Shape := ⟨2, ![8, 256]⟩
abbrev S48x8x256 : Shape := ⟨3, ![48, 8, 256]⟩
abbrev S1x1x384 : Shape := ⟨3, ![1, 1, 384]⟩
abbrev S1x8x1024 : Shape := ⟨3, ![1, 8, 1024]⟩
abbrev S8x1024 : Shape := ⟨2, ![8, 1024]⟩
abbrev S1024 : Shape := ⟨1, ![1024]⟩
abbrev S6x1536x4096 : Shape := ⟨3, ![6, 1536, 4096]⟩

abbrev nBuf : Space → Nat
  | .hbm => 37
  | .vmem => 65
  | .smem => 0
  | _ => 0

abbrev bufTy : (tb : Table) → Fin (tcTables nBuf tb) → BufTy
  | .hbm, ⟨0, _⟩ => ⟨S6x1536x1024, .bf16⟩
  | .hbm, ⟨1, _⟩ => ⟨S1024x4096, .bf16⟩
  | .hbm, ⟨2, _⟩ => ⟨S1024x4096, .bf16⟩
  | .hbm, ⟨3, _⟩ => ⟨S4096x1024, .bf16⟩
  | .hbm, ⟨4, _⟩ => ⟨S512x4096, .i8⟩
  | .hbm, ⟨5, _⟩ => ⟨S512x4096, .i8⟩
  | .hbm, ⟨6, _⟩ => ⟨S2048x1024, .i8⟩
  | .hbm, ⟨7, _⟩ => ⟨S8x4096, .f32⟩
  | .hbm, ⟨8, _⟩ => ⟨S8x4096, .i8⟩
  | .hbm, ⟨9, _⟩ => ⟨S8x4096, .f32⟩
  | .hbm, ⟨10, _⟩ => ⟨S8x4096, .i8⟩
  | .hbm, ⟨11, _⟩ => ⟨S32x1024, .f32⟩
  | .hbm, ⟨12, _⟩ => ⟨S32x1024, .i8⟩
  | .hbm, ⟨13, _⟩ => ⟨S8x1x4096, .f32⟩
  | .hbm, ⟨14, _⟩ => ⟨S8x1x4096, .i8⟩
  | .hbm, ⟨15, _⟩ => ⟨S1024x4096, .bf16⟩
  | .hbm, ⟨16, _⟩ => ⟨S8x1x4096, .f32⟩
  | .hbm, ⟨17, _⟩ => ⟨S8x1x4096, .i8⟩
  | .hbm, ⟨18, _⟩ => ⟨S1024x4096, .bf16⟩
  | .hbm, ⟨19, _⟩ => ⟨S32x1x1024, .f32⟩
  | .hbm, ⟨20, _⟩ => ⟨S32x1x1024, .i8⟩
  | .hbm, ⟨21, _⟩ => ⟨S4096x1024, .bf16⟩
  | .hbm, ⟨22, _⟩ => ⟨S9216x1024, .bf16⟩
  | .hbm, ⟨23, _⟩ => ⟨S4x6x1536, .f32⟩
  | .hbm, ⟨24, _⟩ => ⟨S4x1024, .f32⟩
  | .hbm, ⟨25, _⟩ => ⟨S6x1536, .f32⟩
  | .hbm, ⟨26, _⟩ => ⟨S9216x1024, .bf16⟩
  | .hbm, ⟨27, _⟩ => ⟨S9216x1024, .i8⟩
  | .hbm, ⟨28, _⟩ => ⟨S6x1536, .f32⟩
  | .hbm, ⟨29, _⟩ => ⟨S9216x4096, .i8⟩
  | .hbm, ⟨30, _⟩ => ⟨S6x1536, .f32⟩
  | .hbm, ⟨31, _⟩ => ⟨S9216x4096, .i8⟩
  | .hbm, ⟨32, _⟩ => ⟨S6x1536, .f32⟩
  | .hbm, ⟨33, _⟩ => ⟨S6x1536x1024, .bf16⟩
  | .hbm, ⟨34, _⟩ => ⟨S6x1536x1024, .i8⟩
  | .hbm, ⟨35, _⟩ => ⟨S6x1536x4096, .i8⟩
  | .hbm, ⟨36, _⟩ => ⟨S6x1536x4096, .i8⟩
  | .local _ .vmem, ⟨0, _⟩ => ⟨S256x2048, .i8⟩
  | .local _ .vmem, ⟨1, _⟩ => ⟨S256x2048, .i8⟩
  | .local _ .vmem, ⟨2, _⟩ => ⟨S4x1x2048, .f32⟩
  | .local _ .vmem, ⟨3, _⟩ => ⟨S4x1x2048, .f32⟩
  | .local _ .vmem, ⟨4, _⟩ => ⟨S4x1x2048, .i8⟩
  | .local _ .vmem, ⟨5, _⟩ => ⟨S4x1x2048, .i8⟩
  | .local _ .vmem, ⟨6, _⟩ => ⟨S512x2048, .bf16⟩
  | .local _ .vmem, ⟨7, _⟩ => ⟨S512x2048, .bf16⟩
  | .local _ .vmem, ⟨8, _⟩ => ⟨S256x2048, .i8⟩
  | .local _ .vmem, ⟨9, _⟩ => ⟨S256x2048, .i8⟩
  | .local _ .vmem, ⟨10, _⟩ => ⟨S4x1x2048, .f32⟩
  | .local _ .vmem, ⟨11, _⟩ => ⟨S4x1x2048, .f32⟩
  | .local _ .vmem, ⟨12, _⟩ => ⟨S4x1x2048, .i8⟩
  | .local _ .vmem, ⟨13, _⟩ => ⟨S4x1x2048, .i8⟩
  | .local _ .vmem, ⟨14, _⟩ => ⟨S512x2048, .bf16⟩
  | .local _ .vmem, ⟨15, _⟩ => ⟨S512x2048, .bf16⟩
  | .local _ .vmem, ⟨16, _⟩ => ⟨S256x1024, .i8⟩
  | .local _ .vmem, ⟨17, _⟩ => ⟨S256x1024, .i8⟩
  | .local _ .vmem, ⟨18, _⟩ => ⟨S4x1x1024, .f32⟩
  | .local _ .vmem, ⟨19, _⟩ => ⟨S4x1x1024, .f32⟩
  | .local _ .vmem, ⟨20, _⟩ => ⟨S4x1x1024, .i8⟩
  | .local _ .vmem, ⟨21, _⟩ => ⟨S4x1x1024, .i8⟩
  | .local _ .vmem, ⟨22, _⟩ => ⟨S512x1024, .bf16⟩
  | .local _ .vmem, ⟨23, _⟩ => ⟨S512x1024, .bf16⟩
  | .local _ .vmem, ⟨24, _⟩ => ⟨S384x1024, .bf16⟩
  | .local _ .vmem, ⟨25, _⟩ => ⟨S384x1024, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .bf16⟩
  | .local _ .vmem, ⟨29, _⟩ => ⟨S1024x512, .bf16⟩
  | .local _ .vmem, ⟨30, _⟩ => ⟨S1024x512, .bf16⟩
  | .local _ .vmem, ⟨31, _⟩ => ⟨S1024x512, .bf16⟩
  | .local _ .vmem, ⟨32, _⟩ => ⟨S1024x512, .bf16⟩
  | .local _ .vmem, ⟨33, _⟩ => ⟨S1024x512, .bf16⟩
  | .local _ .vmem, ⟨34, _⟩ => ⟨S4096x256, .bf16⟩
  | .local _ .vmem, ⟨35, _⟩ => ⟨S4096x256, .bf16⟩
  | .local _ .vmem, ⟨36, _⟩ => ⟨S4096x256, .bf16⟩
  | .local _ .vmem, ⟨37, _⟩ => ⟨S4096x256, .bf16⟩
  | .local _ .vmem, ⟨38, _⟩ => ⟨S4x6x1536, .f32⟩
  | .local _ .vmem, ⟨39, _⟩ => ⟨S4x1024, .f32⟩
  | .local _ .vmem, ⟨40, _⟩ => ⟨S6x1536, .f32⟩
  | .local _ .vmem, ⟨41, _⟩ => ⟨S384x1024, .bf16⟩
  | .local _ .vmem, ⟨42, _⟩ => ⟨S384x1024, .bf16⟩
  | .local _ .vmem, ⟨43, _⟩ => ⟨S384x1024, .i8⟩
  | .local _ .vmem, ⟨44, _⟩ => ⟨S384x1024, .i8⟩
  | .local _ .vmem, ⟨45, _⟩ => ⟨S6x1536, .f32⟩
  | .local _ .vmem, ⟨46, _⟩ => ⟨S384x4096, .i8⟩
  | .local _ .vmem, ⟨47, _⟩ => ⟨S384x4096, .i8⟩
  | .local _ .vmem, ⟨48, _⟩ => ⟨S6x1536, .f32⟩
  | .local _ .vmem, ⟨49, _⟩ => ⟨S384x4096, .i8⟩
  | .local _ .vmem, ⟨50, _⟩ => ⟨S384x4096, .i8⟩
  | .local _ .vmem, ⟨51, _⟩ => ⟨S6x1536, .f32⟩
  | .local _ .vmem, ⟨52, _⟩ => ⟨S384x1024, .bf16⟩
  | .local _ .vmem, ⟨53, _⟩ => ⟨S384x128, .f32⟩
  | .local _ .vmem, ⟨54, _⟩ => ⟨S384x4096, .f32⟩
  | .local _ .vmem, ⟨55, _⟩ => ⟨S384x4096, .f32⟩
  | .local _ .vmem, ⟨56, _⟩ => ⟨S384x4096, .bf16⟩
  | .local _ .vmem, ⟨57, _⟩ => ⟨S384x4096, .bf16⟩
  | .local _ .vmem, ⟨58, _⟩ => ⟨S384x4096, .bf16⟩
  | .local _ .vmem, ⟨59, _⟩ => ⟨S384x128, .f32⟩
  | .local _ .vmem, ⟨60, _⟩ => ⟨S384x128, .f32⟩
  | .local _ .vmem, ⟨61, _⟩ => ⟨S384x128, .f32⟩
  | .local _ .vmem, ⟨62, _⟩ => ⟨S384x128, .f32⟩
  | .local _ .vmem, ⟨63, _⟩ => ⟨S5x384x128, .f32⟩
  | .local _ .vmem, ⟨64, _⟩ => ⟨S4x8x1024, .f32⟩
  | _, _ => ⟨S6x1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v10_6 : Ref sig .tc := ⟨.hbm, 29, rfl⟩
abbrev main_v10_7 : Ref sig .tc := ⟨.hbm, 30, rfl⟩
abbrev main_v10_8 : Ref sig .tc := ⟨.hbm, 31, rfl⟩
abbrev main_v10_9 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg8_0 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg10_1 : Ref sig .tc := ⟨.vmem, 42, rfl⟩
abbrev cc3_stg11_0 : Ref sig .tc := ⟨.vmem, 43, rfl⟩
abbrev cc3_stg11_1 : Ref sig .tc := ⟨.vmem, 44, rfl⟩
abbrev cc3_stg12_0 : Ref sig .tc := ⟨.vmem, 45, rfl⟩
abbrev cc3_stg13_0 : Ref sig .tc := ⟨.vmem, 46, rfl⟩
abbrev cc3_stg13_1 : Ref sig .tc := ⟨.vmem, 47, rfl⟩
abbrev cc3_stg14_0 : Ref sig .tc := ⟨.vmem, 48, rfl⟩
abbrev cc3_stg15_0 : Ref sig .tc := ⟨.vmem, 49, rfl⟩
abbrev cc3_stg15_1 : Ref sig .tc := ⟨.vmem, 50, rfl⟩
abbrev cc3_stg16_0 : Ref sig .tc := ⟨.vmem, 51, rfl⟩
abbrev cc3_scratch0 : Ref sig .tc := ⟨.vmem, 52, rfl⟩
abbrev cc3_scratch1 : Ref sig .tc := ⟨.vmem, 53, rfl⟩
abbrev cc3_scratch2 : Ref sig .tc := ⟨.vmem, 54, rfl⟩
abbrev cc3_scratch3 : Ref sig .tc := ⟨.vmem, 55, rfl⟩
abbrev cc3_scratch4 : Ref sig .tc := ⟨.vmem, 56, rfl⟩
abbrev cc3_scratch5 : Ref sig .tc := ⟨.vmem, 57, rfl⟩
abbrev cc3_scratch6 : Ref sig .tc := ⟨.vmem, 58, rfl⟩
abbrev cc3_scratch7 : Ref sig .tc := ⟨.vmem, 59, rfl⟩
abbrev cc3_scratch8 : Ref sig .tc := ⟨.vmem, 60, rfl⟩
abbrev cc3_scratch9 : Ref sig .tc := ⟨.vmem, 61, rfl⟩
abbrev cc3_scratch10 : Ref sig .tc := ⟨.vmem, 62, rfl⟩
abbrev cc3_scratch11 : Ref sig .tc := ⟨.vmem, 63, rfl⟩
abbrev cc3_scratch12 : Ref sig .tc := ⟨.vmem, 64, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc3_sem5_0 : DmaSem sig := 34
abbrev cc3_sem5_1 : DmaSem sig := 35
abbrev cc3_sem6_0 : DmaSem sig := 36
abbrev cc3_sem6_1 : DmaSem sig := 37
abbrev cc3_sem7_0 : DmaSem sig := 38
abbrev cc3_sem8_0 : DmaSem sig := 39
abbrev cc3_sem9_0 : DmaSem sig := 40
abbrev cc3_sem10_0 : DmaSem sig := 41
abbrev cc3_sem10_1 : DmaSem sig := 42
abbrev cc3_sem11_0 : DmaSem sig := 43
abbrev cc3_sem11_1 : DmaSem sig := 44
abbrev cc3_sem12_0 : DmaSem sig := 45
abbrev cc3_sem13_0 : DmaSem sig := 46
abbrev cc3_sem13_1 : DmaSem sig := 47
abbrev cc3_sem14_0 : DmaSem sig := 48
abbrev cc3_sem15_0 : DmaSem sig := 49
abbrev cc3_sem15_1 : DmaSem sig := 50
abbrev cc3_sem16_0 : DmaSem sig := 51

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1x2048 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x2048 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4x1x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x1x2048 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x1024 .i8 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S4x1x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S4x1x1024 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![24, 12], ![false, false]⟩

def k3_mult1 (i : grid3.Coords) : BitVec 32 :=
  let arg0 : BitVec 32 := BitVec.ofNat 32 (i 0).val
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  v27
def k3_cond1 (i : grid3.Coords) : BitVec 1 :=
  let arg1 : BitVec 32 := BitVec.ofNat 32 (i 1).val
  let c0_i32_10 : BitVec 32 := 0#32
  let v29 : BitVec 1 := Scalar.cmpi .eq arg1 c0_i32_10
  let v30 : BitVec 32 := Scalar.extui v29
  let c0_i32_11 : BitVec 32 := 0#32
  let v31 : BitVec 1 := Scalar.cmpi .ne v30 c0_i32_11
  v31

def k3_off1 (i : grid3.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v100 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let v28 : BitVec 32 := v27
  let v101 : Index := Scalar.indexCast v28
  ![v100.toNat, v101.toNat]
def k3_cond3 (i : grid3.Coords) : BitVec 1 :=
  let arg1 : BitVec 32 := BitVec.ofNat 32 (i 1).val
  let c8_i32 : BitVec 32 := 8#32
  let v37 : BitVec 1 := Scalar.cmpi .slt arg1 c8_i32
  let v38 : BitVec 32 := Scalar.extui v37
  let c0_i32_15 : BitVec 32 := 0#32
  let v39 : BitVec 1 := Scalar.cmpi .ne v38 c0_i32_15
  v39

def k3_mult2 (i : grid3.Coords) : BitVec 32 :=
  let arg1 : BitVec 32 := BitVec.ofNat 32 (i 1).val
  let c512_i32 : BitVec 32 := 512#32
  let v54 : BitVec 32 := Scalar.muli arg1 c512_i32
  v54
def k3_off2 (i : grid3.Coords) : Fin 2 → Nat :=
  let c0_39 : Index := 0#32
  let arg1 : BitVec 32 := BitVec.ofNat 32 (i 1).val
  let c512_i32 : BitVec 32 := 512#32
  let v54 : BitVec 32 := Scalar.muli arg1 c512_i32
  let v55 : BitVec 32 := v54
  let v80 : Index := Scalar.indexCast v55
  ![0, v80.toNat]
def k3_cond4 (i : grid3.Coords) : BitVec 1 :=
  let arg1 : BitVec 32 := BitVec.ofNat 32 (i 1).val
  let c8_i32_16 : BitVec 32 := 8#32
  let v40 : BitVec 1 := Scalar.cmpi .eq arg1 c8_i32_16
  let v41 : BitVec 32 := Scalar.extui v40
  let c0_i32_17 : BitVec 32 := 0#32
  let v42 : BitVec 1 := Scalar.cmpi .ne v41 c0_i32_17
  v42

def k3_off3 (i : grid3.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v72 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let v28 : BitVec 32 := v27
  let v73 : Index := Scalar.indexCast v28
  ![v72.toNat, v73.toNat]
def k3_cond5 (i : grid3.Coords) : BitVec 1 :=
  let arg1 : BitVec 32 := BitVec.ofNat 32 (i 1).val
  let c8_i32_18 : BitVec 32 := 8#32
  let v43 : BitVec 1 := Scalar.cmpi .sge arg1 c8_i32_18
  let v44 : BitVec 32 := Scalar.extui v43
  let c0_i32_19 : BitVec 32 := 0#32
  let v45 : BitVec 1 := Scalar.cmpi .ne v44 c0_i32_19
  v45

def k3_mult3 (i : grid3.Coords) : BitVec 32 :=
  let arg1 : BitVec 32 := BitVec.ofNat 32 (i 1).val
  let c8_i32_23 : BitVec 32 := 8#32
  let v54 : BitVec 32 := Scalar.subi arg1 c8_i32_23
  let c256_i32 : BitVec 32 := 256#32
  let v55 : BitVec 32 := Scalar.muli v54 c256_i32
  v55
def k3_off4 (i : grid3.Coords) : Fin 2 → Nat :=
  let c0_29 : Index := 0#32
  let arg1 : BitVec 32 := BitVec.ofNat 32 (i 1).val
  let c8_i32_23 : BitVec 32 := 8#32
  let v54 : BitVec 32 := Scalar.subi arg1 c8_i32_23
  let c256_i32 : BitVec 32 := 256#32
  let v55 : BitVec 32 := Scalar.muli v54 c256_i32
  let v56 : BitVec 32 := v55
  let v63 : Index := Scalar.indexCast v56
  ![0, v63.toNat]
def k3_off5 (i : grid3.Coords) : Fin 3 → Nat :=
  let c0_57 : Index := 0#32
  let c0_58 : Index := 0#32
  let arg1 : BitVec 32 := BitVec.ofNat 32 (i 1).val
  let c8_i32_23 : BitVec 32 := 8#32
  let v54 : BitVec 32 := Scalar.subi arg1 c8_i32_23
  let c256_i32 : BitVec 32 := 256#32
  let v55 : BitVec 32 := Scalar.muli v54 c256_i32
  let v56 : BitVec 32 := v55
  let v107 : Index := Scalar.indexCast v56
  ![0, 0, v107.toNat]
def k3_off6 (i : grid3.Coords) : Fin 3 → Nat :=
  let c1_67 : Index := 1#32
  let c0_68 : Index := 0#32
  let arg1 : BitVec 32 := BitVec.ofNat 32 (i 1).val
  let c8_i32_23 : BitVec 32 := 8#32
  let v54 : BitVec 32 := Scalar.subi arg1 c8_i32_23
  let c256_i32 : BitVec 32 := 256#32
  let v55 : BitVec 32 := Scalar.muli v54 c256_i32
  let v56 : BitVec 32 := v55
  let v128 : Index := Scalar.indexCast v56
  ![1, 0, v128.toNat]
def k3_off7 (i : grid3.Coords) : Fin 3 → Nat :=
  let c2_77 : Index := 2#32
  let c0_78 : Index := 0#32
  let arg1 : BitVec 32 := BitVec.ofNat 32 (i 1).val
  let c8_i32_23 : BitVec 32 := 8#32
  let v54 : BitVec 32 := Scalar.subi arg1 c8_i32_23
  let c256_i32 : BitVec 32 := 256#32
  let v55 : BitVec 32 := Scalar.muli v54 c256_i32
  let v56 : BitVec 32 := v55
  let v149 : Index := Scalar.indexCast v56
  ![2, 0, v149.toNat]
def k3_off8 (i : grid3.Coords) : Fin 3 → Nat :=
  let c3_87 : Index := 3#32
  let c0_88 : Index := 0#32
  let arg1 : BitVec 32 := BitVec.ofNat 32 (i 1).val
  let c8_i32_23 : BitVec 32 := 8#32
  let v54 : BitVec 32 := Scalar.subi arg1 c8_i32_23
  let c256_i32 : BitVec 32 := 256#32
  let v55 : BitVec 32 := Scalar.muli v54 c256_i32
  let v56 : BitVec 32 := v55
  let v170 : Index := Scalar.indexCast v56
  ![3, 0, v170.toNat]
def k3_cond6 (i : grid3.Coords) : BitVec 1 :=
  let arg1 : BitVec 32 := BitVec.ofNat 32 (i 1).val
  let c11_i32 : BitVec 32 := 11#32
  let v46 : BitVec 1 := Scalar.cmpi .eq arg1 c11_i32
  let v47 : BitVec 32 := Scalar.extui v46
  let c0_i32_20 : BitVec 32 := 0#32
  let v48 : BitVec 1 := Scalar.cmpi .ne v47 c0_i32_20
  v48

def k3_off9 (i : grid3.Coords) : Fin 3 → Nat :=
  let c0_25 : Index := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v62 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let v28 : BitVec 32 := v27
  let v63 : Index := Scalar.indexCast v28
  ![0, v62.toNat, v63.toNat]
def k3_off10 (i : grid3.Coords) : Fin 3 → Nat :=
  let c1_29 : Index := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v75 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let v28 : BitVec 32 := v27
  let v76 : Index := Scalar.indexCast v28
  ![1, v75.toNat, v76.toNat]
def k3_off11 (i : grid3.Coords) : Fin 3 → Nat :=
  let c2_33 : Index := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v88 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let v28 : BitVec 32 := v27
  let v89 : Index := Scalar.indexCast v28
  ![2, v88.toNat, v89.toNat]
def k3_off12 (i : grid3.Coords) : Fin 3 → Nat :=
  let c3_37 : Index := 3#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v101 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let v28 : BitVec 32 := v27
  let v102 : Index := Scalar.indexCast v28
  ![3, v101.toNat, v102.toNat]
def k3_off13 (i : grid3.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v114 : Index := Scalar.indexCast v16
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c384_i32 : BitVec 32 := 384#32
  let v27 : BitVec 32 := Scalar.muli v26 c384_i32
  let v28 : BitVec 32 := v27
  let v115 : Index := Scalar.indexCast v28
  ![v114.toNat, v115.toNat]
def k3_cond7 (i : grid3.Coords) : BitVec 1 :=
  let arg0 : BitVec 32 := BitVec.ofNat 32 (i 0).val
  let c23_i32 : BitVec 32 := 23#32
  let v49 : BitVec 1 := Scalar.cmpi .eq arg0 c23_i32
  let arg1 : BitVec 32 := BitVec.ofNat 32 (i 1).val
  let c11_i32_21 : BitVec 32 := 11#32
  let v50 : BitVec 1 := Scalar.cmpi .eq arg1 c11_i32_21
  let v51 : BitVec 1 := Scalar.andi v49 v50
  let v52 : BitVec 32 := Scalar.extui v51
  let c0_i32_22 : BitVec 32 := 0#32
  let v53 : BitVec 1 := Scalar.cmpi .ne v52 c0_i32_22
  v53

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc3_transform_4 (i : grid3.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc3_transform_5 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc3_transform_6 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S384x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S1024x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![false, true]

abbrev stage3_5 : Fin 2 → Memref sig .tc .vmem S4096x256 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![false, true]

abbrev stage3_6 : Fin 2 → Memref sig .tc .vmem S4096x256 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![false, true]

abbrev stage3_7 : Fin 1 → Memref sig .tc .vmem S4x6x1536 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S4x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S6x1536 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 2 → Memref sig .tc .vmem S384x1024 .bf16 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, false]

abbrev stage3_11 : Fin 2 → Memref sig .tc .vmem S384x1024 .i8 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, false]

abbrev stage3_12 : Fin 1 → Memref sig .tc .vmem S6x1536 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 2 → Memref sig .tc .vmem S384x4096 .i8 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true, false]

abbrev stage3_14 : Fin 1 → Memref sig .tc .vmem S6x1536 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false, false]

abbrev stage3_15 : Fin 2 → Memref sig .tc .vmem S384x4096 .i8 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, false]

abbrev stage3_16 : Fin 1 → Memref sig .tc .vmem S6x1536 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false, false]
-- ==== ReferenceIdeal.lean ====
abbrev S6x1536x1024 : Shape := ⟨3, ![6, 1536, 1024]⟩
abbrev S1024x4096 : Shape := ⟨2, ![1024, 4096]⟩
abbrev S4096x1024 : Shape := ⟨2, ![4096, 1024]⟩
abbrev S512x4096 : Shape := ⟨2, ![512, 4096]⟩
abbrev S2048x1024 : Shape := ⟨2, ![2048, 1024]⟩
abbrev S8x4096 : Shape := ⟨2, ![8, 4096]⟩
abbrev S32x1024 : Shape := ⟨2, ![32, 1024]⟩
abbrev S8x128x4096 : Shape := ⟨3, ![8, 128, 4096]⟩
abbrev S_ : Shape := ⟨0, ![]⟩
abbrev S512x1x4096 : Shape := ⟨3, ![512, 1, 4096]⟩
abbrev S512x2x4096 : Shape := ⟨3, ![512, 2, 4096]⟩
abbrev S32x128x1024 : Shape := ⟨3, ![32, 128, 1024]⟩
abbrev S2048x1x1024 : Shape := ⟨3, ![2048, 1, 1024]⟩
abbrev S2048x2x1024 : Shape := ⟨3, ![2048, 2, 1024]⟩
abbrev S6x1536x4096 : Shape := ⟨3, ![6, 1536, 4096]⟩
abbrev S6x1536 : Shape := ⟨2, ![6, 1536]⟩
abbrev S6x1536x1 : Shape := ⟨3, ![6, 1536, 1]⟩
abbrev S1024 : Shape := ⟨1, ![1024]⟩
abbrev S1x6x1536 : Shape := ⟨3, ![1, 6, 1536]⟩
abbrev S4x6x1536 : Shape := ⟨3, ![4, 6, 1536]⟩
abbrev S1x1024 : Shape := ⟨2, ![1, 1024]⟩
abbrev S4x1024 : Shape := ⟨2, ![4, 1024]⟩

abbrev nBuf : Space → Nat
  | .hbm => 250
  | .vmem => 0
  | .smem => 0
  | _ => 0

abbrev hbmTy0_0 (i : Nat) : BufTy := match i % 128 with
  | 0 => ⟨S6x1536x1024, .bf16⟩
  | 1 => ⟨S1024x4096, .bf16⟩
  | 2 => ⟨S1024x4096, .bf16⟩
  | 3 => ⟨S4096x1024, .bf16⟩
  | 4 => ⟨S512x4096, .i8⟩
  | 5 => ⟨S512x4096, .i8⟩
  | 6 => ⟨S2048x1024, .i8⟩
  | 7 => ⟨S8x4096, .f32⟩
  | 8 => ⟨S8x4096, .i8⟩
  | 9 => ⟨S8x4096, .f32⟩
  | 10 => ⟨S8x4096, .i8⟩
  | 11 => ⟨S32x1024, .f32⟩
  | 12 => ⟨S32x1024, .i8⟩
  | 13 => ⟨S8x128x4096, .f32⟩
  | 14 => ⟨S1024x4096, .f32⟩
  | 15 => ⟨S1024x4096, .bf16⟩
  | 16 => ⟨S8x128x4096, .i8⟩
  | 17 => ⟨S1024x4096, .i8⟩
  | 18 => ⟨S1024x4096, .i32⟩
  | 19 => ⟨S1024x4096, .bf16⟩
  | 20 => ⟨S512x4096, .i32⟩
  | 21 => ⟨S_, .i32⟩
  | 22 => ⟨S512x4096, .i32⟩
  | 23 => ⟨S512x4096, .i32⟩
  | 24 => ⟨S_, .i32⟩
  | 25 => ⟨S512x4096, .i32⟩
  | 26 => ⟨S512x4096, .i32⟩
  | 27 => ⟨S512x1x4096, .i32⟩
  | 28 => ⟨S512x1x4096, .i32⟩
  | 29 => ⟨S512x2x4096, .i32⟩
  | 30 => ⟨S1024x4096, .i32⟩
  | 31 => ⟨S1024x4096, .bf16⟩
  | 32 => ⟨S1024x4096, .bf16⟩
  | 33 => ⟨S1024x4096, .bf16⟩
  | 34 => ⟨S8x128x4096, .f32⟩
  | 35 => ⟨S1024x4096, .f32⟩
  | 36 => ⟨S1024x4096, .bf16⟩
  | 37 => ⟨S8x128x4096, .i8⟩
  | 38 => ⟨S1024x4096, .i8⟩
  | 39 => ⟨S1024x4096, .i32⟩
  | 40 => ⟨S1024x4096, .bf16⟩
  | 41 => ⟨S512x4096, .i32⟩
  | 42 => ⟨S_, .i32⟩
  | 43 => ⟨S512x4096, .i32⟩
  | 44 => ⟨S512x4096, .i32⟩
  | 45 => ⟨S_, .i32⟩
  | 46 => ⟨S512x4096, .i32⟩
  | 47 => ⟨S512x4096, .i32⟩
  | 48 => ⟨S512x1x4096, .i32⟩
  | 49 => ⟨S512x1x4096, .i32⟩
  | 50 => ⟨S512x2x4096, .i32⟩
  | 51 => ⟨S1024x4096, .i32⟩
  | 52 => ⟨S1024x4096, .bf16⟩
  | 53 => ⟨S1024x4096, .bf16⟩
  | 54 => ⟨S1024x4096, .bf16⟩
  | 55 => ⟨S32x128x1024, .f32⟩
  | 56 => ⟨S4096x1024, .f32⟩
  | 57 => ⟨S4096x1024, .bf16⟩
  | 58 => ⟨S32x128x1024, .i8⟩
  | 59 => ⟨S4096x1024, .i8⟩
  | 60 => ⟨S4096x1024, .i32⟩
  | 61 => ⟨S4096x1024, .bf16⟩
  | 62 => ⟨S2048x1024, .i32⟩
  | 63 => ⟨S_, .i32⟩
  | 64 => ⟨S2048x1024, .i32⟩
  | 65 => ⟨S2048x1024, .i32⟩
  | 66 => ⟨S_, .i32⟩
  | 67 => ⟨S2048x1024, .i32⟩
  | 68 => ⟨S2048x1024, .i32⟩
  | 69 => ⟨S2048x1x1024, .i32⟩
  | 70 => ⟨S2048x1x1024, .i32⟩
  | 71 => ⟨S2048x2x1024, .i32⟩
  | 72 => ⟨S4096x1024, .i32⟩
  | 73 => ⟨S4096x1024, .bf16⟩
  | 74 => ⟨S4096x1024, .bf16⟩
  | 75 => ⟨S4096x1024, .bf16⟩
  | 76 => ⟨S6x1536x4096, .f32⟩
  | 77 => ⟨S6x1536x4096, .f32⟩
  | 78 => ⟨S6x1536x1024, .f32⟩
  | 79 => ⟨S6x1536x1024, .f32⟩
  | 80 => ⟨S_, .f32⟩
  | 81 => ⟨S6x1536, .f32⟩
  | 82 => ⟨S_, .f32⟩
  | 83 => ⟨S6x1536, .f32⟩
  | 84 => ⟨S6x1536, .i1⟩
  | 85 => ⟨S_, .f32⟩
  | 86 => ⟨S6x1536, .f32⟩
  | 87 => ⟨S6x1536, .f32⟩
  | 88 => ⟨S_, .f32⟩
  | 89 => ⟨S_, .f32⟩
  | 90 => ⟨S6x1536, .f32⟩
  | 91 => ⟨S6x1536, .f32⟩
  | 92 => ⟨S6x1536x1, .f32⟩
  | 93 => ⟨S6x1536x1024, .f32⟩
  | 94 => ⟨S6x1536x1024, .f32⟩
  | 95 => ⟨S6x1536x1024, .f32⟩
  | 96 => ⟨S_, .f32⟩
  | 97 => ⟨S_, .f32⟩
  | 98 => ⟨S_, .f32⟩
  | 99 => ⟨S6x1536x1024, .f32⟩
  | 100 => ⟨S6x1536x1024, .f32⟩
  | 101 => ⟨S_, .f32⟩
  | 102 => ⟨S6x1536x1024, .f32⟩
  | 103 => ⟨S6x1536x1024, .f32⟩
  | 104 => ⟨S6x1536x1024, .i32⟩
  | 105 => ⟨S6x1536x1024, .i8⟩
  | 106 => ⟨S6x1536x1024, .i32⟩
  | 107 => ⟨S6x1536x1024, .bf16⟩
  | 108 => ⟨S6x1536x4096, .f32⟩
  | 109 => ⟨S6x1536x1, .f32⟩
  | 110 => ⟨S6x1536x4096, .f32⟩
  | 111 => ⟨S6x1536x4096, .f32⟩
  | 112 => ⟨S6x1536x1024, .i32⟩
  | 113 => ⟨S6x1536x1024, .bf16⟩
  | 114 => ⟨S6x1536x4096, .f32⟩
  | 115 => ⟨S6x1536x1, .f32⟩
  | 116 => ⟨S6x1536x4096, .f32⟩
  | 117 => ⟨S6x1536x4096, .f32⟩
  | 118 => ⟨S6x1536x4096, .f32⟩
  | 119 => ⟨S6x1536x4096, .f32⟩
  | 120 => ⟨S_, .f32⟩
  | 121 => ⟨S6x1536x4096, .f32⟩
  | 122 => ⟨S6x1536x4096, .f32⟩
  | 123 => ⟨S_, .f32⟩
  | 124 => ⟨S6x1536x4096, .f32⟩
  | 125 => ⟨S6x1536x4096, .f32⟩
  | 126 => ⟨S6x1536x4096, .f32⟩
  | 127 => ⟨S6x1536x4096, .f32⟩
  | _ => ⟨S6x1536x1024, .bf16⟩

abbrev hbmTy0_1 (i : Nat) : BufTy := match i % 128 with
  | 0 => ⟨S6x1536x4096, .f32⟩
  | 1 => ⟨S_, .f32⟩
  | 2 => ⟨S6x1536x4096, .f32⟩
  | 3 => ⟨S6x1536x4096, .f32⟩
  | 4 => ⟨S_, .f32⟩
  | 5 => ⟨S6x1536x4096, .f32⟩
  | 6 => ⟨S6x1536x4096, .f32⟩
  | 7 => ⟨S6x1536x4096, .f32⟩
  | 8 => ⟨S6x1536x4096, .f32⟩
  | 9 => ⟨S6x1536x4096, .f32⟩
  | 10 => ⟨S6x1536x4096, .f32⟩
  | 11 => ⟨S6x1536x4096, .f32⟩
  | 12 => ⟨S6x1536x4096, .bf16⟩
  | 13 => ⟨S6x1536x1024, .f32⟩
  | 14 => ⟨S6x1536x4096, .f32⟩
  | 15 => ⟨S_, .f32⟩
  | 16 => ⟨S6x1536, .f32⟩
  | 17 => ⟨S_, .f32⟩
  | 18 => ⟨S6x1536, .f32⟩
  | 19 => ⟨S6x1536, .i1⟩
  | 20 => ⟨S_, .f32⟩
  | 21 => ⟨S6x1536, .f32⟩
  | 22 => ⟨S6x1536, .f32⟩
  | 23 => ⟨S_, .f32⟩
  | 24 => ⟨S_, .f32⟩
  | 25 => ⟨S6x1536, .f32⟩
  | 26 => ⟨S6x1536, .f32⟩
  | 27 => ⟨S6x1536x1, .f32⟩
  | 28 => ⟨S6x1536x4096, .f32⟩
  | 29 => ⟨S6x1536x4096, .f32⟩
  | 30 => ⟨S6x1536x4096, .f32⟩
  | 31 => ⟨S_, .f32⟩
  | 32 => ⟨S_, .f32⟩
  | 33 => ⟨S_, .f32⟩
  | 34 => ⟨S6x1536x4096, .f32⟩
  | 35 => ⟨S6x1536x4096, .f32⟩
  | 36 => ⟨S_, .f32⟩
  | 37 => ⟨S6x1536x4096, .f32⟩
  | 38 => ⟨S6x1536x4096, .f32⟩
  | 39 => ⟨S6x1536x4096, .i32⟩
  | 40 => ⟨S6x1536x4096, .i8⟩
  | 41 => ⟨S6x1536x4096, .i32⟩
  | 42 => ⟨S6x1536x4096, .bf16⟩
  | 43 => ⟨S6x1536x1024, .f32⟩
  | 44 => ⟨S6x1536x1, .f32⟩
  | 45 => ⟨S6x1536x1024, .f32⟩
  | 46 => ⟨S6x1536x1024, .f32⟩
  | 47 => ⟨S6x1536x4096, .bf16⟩
  | 48 => ⟨S6x1536x1024, .f32⟩
  | 49 => ⟨S6x1536x4096, .bf16⟩
  | 50 => ⟨S6x1536x1024, .f32⟩
  | 51 => ⟨S6x1536x4096, .f32⟩
  | 52 => ⟨S_, .f32⟩
  | 53 => ⟨S6x1536, .f32⟩
  | 54 => ⟨S_, .f32⟩
  | 55 => ⟨S6x1536, .f32⟩
  | 56 => ⟨S6x1536, .i1⟩
  | 57 => ⟨S_, .f32⟩
  | 58 => ⟨S6x1536, .f32⟩
  | 59 => ⟨S6x1536, .f32⟩
  | 60 => ⟨S_, .f32⟩
  | 61 => ⟨S_, .f32⟩
  | 62 => ⟨S6x1536, .f32⟩
  | 63 => ⟨S6x1536, .f32⟩
  | 64 => ⟨S6x1536x1, .f32⟩
  | 65 => ⟨S6x1536x4096, .f32⟩
  | 66 => ⟨S6x1536x4096, .f32⟩
  | 67 => ⟨S6x1536x4096, .f32⟩
  | 68 => ⟨S_, .f32⟩
  | 69 => ⟨S_, .f32⟩
  | 70 => ⟨S_, .f32⟩
  | 71 => ⟨S6x1536x4096, .f32⟩
  | 72 => ⟨S6x1536x4096, .f32⟩
  | 73 => ⟨S_, .f32⟩
  | 74 => ⟨S6x1536x4096, .f32⟩
  | 75 => ⟨S6x1536x4096, .f32⟩
  | 76 => ⟨S6x1536x4096, .i32⟩
  | 77 => ⟨S6x1536x4096, .i8⟩
  | 78 => ⟨S6x1536x4096, .i32⟩
  | 79 => ⟨S6x1536x4096, .bf16⟩
  | 80 => ⟨S6x1536x1024, .f32⟩
  | 81 => ⟨S6x1536x1, .f32⟩
  | 82 => ⟨S6x1536x1024, .f32⟩
  | 83 => ⟨S6x1536x1024, .f32⟩
  | 84 => ⟨S6x1536x1024, .f32⟩
  | 85 => ⟨S6x1536x1024, .f32⟩
  | 86 => ⟨S_, .f32⟩
  | 87 => ⟨S6x1536, .f32⟩
  | 88 => ⟨S_, .f32⟩
  | 89 => ⟨S1024, .f32⟩
  | 90 => ⟨S6x1536x1024, .f32⟩
  | 91 => ⟨S6x1536x1024, .f32⟩
  | 92 => ⟨S_, .f32⟩
  | 93 => ⟨S6x1536, .f32⟩
  | 94 => ⟨S_, .f32⟩
  | 95 => ⟨S1024, .f32⟩
  | 96 => ⟨S6x1536x1024, .f32⟩
  | 97 => ⟨S6x1536x1024, .f32⟩
  | 98 => ⟨S_, .f32⟩
  | 99 => ⟨S6x1536, .f32⟩
  | 100 => ⟨S_, .f32⟩
  | 101 => ⟨S1024, .f32⟩
  | 102 => ⟨S6x1536x1024, .f32⟩
  | 103 => ⟨S6x1536x1024, .f32⟩
  | 104 => ⟨S_, .f32⟩
  | 105 => ⟨S6x1536, .f32⟩
  | 106 => ⟨S_, .f32⟩
  | 107 => ⟨S1024, .f32⟩
  | 108 => ⟨S1x6x1536, .f32⟩
  | 109 => ⟨S1x6x1536, .f32⟩
  | 110 => ⟨S1x6x1536, .f32⟩
  | 111 => ⟨S1x6x1536, .f32⟩
  | 112 => ⟨S4x6x1536, .f32⟩
  | 113 => ⟨S1x1024, .f32⟩
  | 114 => ⟨S1x1024, .f32⟩
  | 115 => ⟨S1x1024, .f32⟩
  | 116 => ⟨S1x1024, .f32⟩
  | 117 => ⟨S4x1024, .f32⟩
  | 118 => ⟨S6x1536x1024, .f32⟩
  | 119 => ⟨S_, .f32⟩
  | 120 => ⟨S6x1536, .f32⟩
  | 121 => ⟨S6x1536x1024, .bf16⟩
  | _ => ⟨S6x1536x1024, .bf16⟩

abbrev hbmTy (i : Nat) : BufTy := match i / 128 with
  | 0 => hbmTy0_0 i
  | 1 => hbmTy0_1 i
  | _ => ⟨S6x1536x1024, .bf16⟩

abbrev bufTy : (tb : Table) → Fin (tcTables nBuf tb) → BufTy
  | .hbm, ⟨i, _⟩ => hbmTy i
  | _, _ => ⟨S6x1536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_1 : Ref sig .tc := ⟨.hbm, 42, rfl⟩
abbrev main_v27 : Ref sig .tc := ⟨.hbm, 43, rfl⟩
abbrev main_v28 : Ref sig .tc := ⟨.hbm, 44, rfl⟩
abbrev main_c_2 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_3 : Ref sig .tc := ⟨.hbm, 63, rfl⟩
abbrev main_v46 : Ref sig .tc := ⟨.hbm, 64, rfl⟩
abbrev main_v47 : Ref sig .tc := ⟨.hbm, 65, rfl⟩
abbrev main_c_4 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst : Ref sig .tc := ⟨.hbm, 80, rfl⟩
abbrev main_v61 : Ref sig .tc := ⟨.hbm, 81, rfl⟩
abbrev main_cst_5 : Ref sig .tc := ⟨.hbm, 82, rfl⟩
abbrev main_v62 : Ref sig .tc := ⟨.hbm, 83, rfl⟩
abbrev main_v63 : Ref sig .tc := ⟨.hbm, 84, rfl⟩
abbrev main_cst_6 : Ref sig .tc := ⟨.hbm, 85, rfl⟩
abbrev main_v64 : Ref sig .tc := ⟨.hbm, 86, rfl⟩
abbrev main_v65 : Ref sig .tc := ⟨.hbm, 87, rfl⟩
abbrev main_cst_7 : Ref sig .tc := ⟨.hbm, 88, rfl⟩
abbrev main_call0_v0 : Ref sig .tc := ⟨.hbm, 89, rfl⟩
abbrev main_call0_v1 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_8 : Ref sig .tc := ⟨.hbm, 96, rfl⟩
abbrev main_cst_9 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_10 : Ref sig .tc := ⟨.hbm, 120, rfl⟩
abbrev main_v88 : Ref sig .tc := ⟨.hbm, 121, rfl⟩
abbrev main_v89 : Ref sig .tc := ⟨.hbm, 122, rfl⟩
abbrev main_cst_11 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_12 : Ref sig .tc := ⟨.hbm, 129, rfl⟩
abbrev main_v95 : Ref sig .tc := ⟨.hbm, 130, rfl⟩
abbrev main_v96 : Ref sig .tc := ⟨.hbm, 131, rfl⟩
abbrev main_cst_13 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_14 : Ref sig .tc := ⟨.hbm, 143, rfl⟩
abbrev main_v107 : Ref sig .tc := ⟨.hbm, 144, rfl⟩
abbrev main_cst_15 : Ref sig .tc := ⟨.hbm, 145, rfl⟩
abbrev main_v108 : Ref sig .tc := ⟨.hbm, 146, rfl⟩
abbrev main_v109 : Ref sig .tc := ⟨.hbm, 147, rfl⟩
abbrev main_cst_16 : Ref sig .tc := ⟨.hbm, 148, rfl⟩
abbrev main_v110 : Ref sig .tc := ⟨.hbm, 149, rfl⟩
abbrev main_v111 : Ref sig .tc := ⟨.hbm, 150, rfl⟩
abbrev main_cst_17 : Ref sig .tc := ⟨.hbm, 151, rfl⟩
abbrev main_call3_v0 : Ref sig .tc := ⟨.hbm, 152, rfl⟩
abbrev main_call3_v1 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_cst_18 : Ref sig .tc := ⟨.hbm, 159, rfl⟩
abbrev main_cst_19 : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_20 : Ref sig .tc := ⟨.hbm, 180, rfl⟩
abbrev main_v131 : Ref sig .tc := ⟨.hbm, 181, rfl⟩
abbrev main_cst_21 : Ref sig .tc := ⟨.hbm, 182, rfl⟩
abbrev main_v132 : Ref sig .tc := ⟨.hbm, 183, rfl⟩
abbrev main_v133 : Ref sig .tc := ⟨.hbm, 184, rfl⟩
abbrev main_cst_22 : Ref sig .tc := ⟨.hbm, 185, rfl⟩
abbrev main_v134 : Ref sig .tc := ⟨.hbm, 186, rfl⟩
abbrev main_v135 : Ref sig .tc := ⟨.hbm, 187, rfl⟩
abbrev main_cst_23 : Ref sig .tc := ⟨.hbm, 188, rfl⟩
abbrev main_call6_v0 : Ref sig .tc := ⟨.hbm, 189, rfl⟩
abbrev main_call6_v1 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_cst_24 : Ref sig .tc := ⟨.hbm, 196, rfl⟩
abbrev main_cst_25 : Ref sig .tc := ⟨.hbm, 197, rfl⟩
abbrev main_call8_v0 : Ref sig .tc := ⟨.hbm, 198, rfl⟩
abbrev main_call8_v1 : Ref sig .tc := ⟨.hbm, 199, rfl⟩
abbrev main_call8_v2 : Ref sig .tc := ⟨.hbm, 200, rfl⟩
abbrev main_call8_v3 : Ref sig .tc := ⟨.hbm, 201, rfl⟩
abbrev main_call8_v4 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_cst_26 : Ref sig .tc := ⟨.hbm, 214, rfl⟩
abbrev main_v152 : Ref sig .tc := ⟨.hbm, 215, rfl⟩
abbrev main_cst_27 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_28 : Ref sig .tc := ⟨.hbm, 220, rfl⟩
abbrev main_v156 : Ref sig .tc := ⟨.hbm, 221, rfl⟩
abbrev main_cst_29 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_cst_30 : Ref sig .tc := ⟨.hbm, 226, rfl⟩
abbrev main_v160 : Ref sig .tc := ⟨.hbm, 227, rfl⟩
abbrev main_cst_31 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_cst_32 : Ref sig .tc := ⟨.hbm, 232, rfl⟩
abbrev main_v164 : Ref sig .tc := ⟨.hbm, 233, rfl⟩
abbrev main_cst_33 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_cst_34 : Ref sig .tc := ⟨.hbm, 247, rfl⟩
abbrev main_v177 : Ref sig .tc := ⟨.hbm, 248, rfl⟩
abbrev main_v178 : Ref sig .tc := ⟨.hbm, 249, rfl⟩

abbrev nD : Nat := 1
abbrev τ : Topo := Topo.v7x

variable {F : FTy → Type} [FloatOps F]
-- ==== Proof.Kit.lean ====
/- A kernel region of @main whose proof data is a relation: it is entered from every buffer the launch leaves at known
   contents, and left with every such buffer at some contents that the region's write-backs allow. -/
module

public import Idealize.ShloMosaic.Lib.Pipeline.Regions
public import Idealize.ShloMosaic.Lib.Pipeline.RegionsOwned
public import Idealize.ShloMosaic.Lib.Pipeline.RegionArraysF

@[expose] public section

noncomputable section

namespace Cert.Hand

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem

/-- Values prescribed along an injection extend a function. -/
theorem exists_extend {ι κ : Type*} {β : κ → Type*} (f : ι → κ) (hf : Function.Injective f) (G : (i : ι) → β (f i)) (W : (k : κ) → β k) :
    ∃ V : (k : κ) → β k, (∀ i, V (f i) = G i) ∧ ∀ k, (∀ i, f i ≠ k) → V k = W k := by
  classical
  refine ⟨fun k => if h : ∃ i, f i = k then h.choose_spec ▸ G h.choose else W k, fun i => ?_, fun k hk => ?_⟩
  · have h : ∃ j, f j = f i := ⟨i, rfl⟩
    dsimp only
    rw [dif_pos h]
    have key : ∀ (j : ι) (e : f j = f i), (e ▸ G j : β (f i)) = G i := by
      intro j e
      obtain rfl := hf e
      rfl
    exact key _ _
  · dsimp only
    exact dif_neg fun ⟨i, hi⟩ => hk i hi

section Region

variable {nD : Nat} {τ : Topo} {sig : RefSig} {Ix : Type} [DecidableEq Ix]
variable {Val : EltTy → Type} [∀ e, Nonempty (Val e)] {U : Type} [URA U] {Lvl : Type} [Preorder Lvl]
variable {Λ₀ : Labels} {P : Type} [Fintype P] [DecidableEq P]

variable (pcs : P → PCfg sig Λ₀ Val) (a : (p : P) → (pcs p).Adm)
  (rdats : (p : P) → (c : Dev nD) → RDat τ Val Ix ℕ U Lvl (pin pcs a p) c) (ι : Ix)
  (defs₀ : Defs nD τ sig Val Λ₀) (𝒱₀ : Variants)
  (L : GSem nD τ sig → Finset Ix) (lv : GSem nD τ sig → Ix → Lvl)

/-- What a region leaves of the buffers: each windowed array at contents its write-backs allow, every other buffer as
    it was. -/
def LeftAt (p : P) (W : (c : Dev nD) → Valuation τ sig Val) (c : Dev nD) (V : Valuation τ sig Val) : Prop :=
  (∀ w, (rdats p c).ArrAt w (pin pcs a p).N (V (Proc.devRef .tc (arrRef (pin pcs a p).spec w))))
    ∧ ∀ d, (∀ w, (Proc.devRef (τ := τ) .tc (arrRef (pin pcs a p).spec w)) ≠ d) → V d = W c d

/-- The region's record. -/
def regionOf (p : P) (kit : PLaunchFacts (nD := nD) (τ := τ) pcs p) (hK : (pcs p).pre.K = 0)
    (ho : OwnSemFacts (pcs p).spec (fun k : Fin 0 => k.elim0))
    (hbody : ∀ c, (rdats p c).BodyObligation defs₀ 𝒱₀ ι Set.univ)
    (howed : ∀ c t, (rdats p c).owed t = 0) (hrec : ∀ c, (rdats p c).recorded 0 = Set.univ)
    (hshare : ∀ c w, (rdats p c).share w = fullShare)
    (W : (c : Dev nD) → Valuation τ sig Val)
    (hW : ∀ c w, (rdats p c).A w = W c (Proc.devRef .tc (arrRef (pin pcs a p).spec w)))
    (hin : ∀ c, (scopedRest (pin pcs a p).spec c : sProp (MT nD τ sig Ix Val ℕ U Lvl)) ⊢ (rdats p c).Φ 0)
    (hout : ∀ c, (rdats p c).Φ (Fin.last (pin pcs a p).N) ⊢ (scopedRest (pin pcs a p).spec c : sProp (MT nD τ sig Ix Val ℕ U Lvl))) :
    RDat.RegionSeg pcs a rdats ι defs₀ 𝒱₀ L lv p where
  win := kit.to₀.win
  block_pos := kit.to₀.block_pos
  stage_whole := kit.to₀.stage_whole
  K := Fin 0
  osem := fun k => k.elim0
  ho := ho
  hbody := hbody
  hwaits := RDat.hwaits_of_owed_zero pcs a rdats ι L lv p howed
  pre c := iprop(StableHlo.held (c.tc : Thread nD τ) (ucRefs τ sig) (W c) ∗ ∃ Wd, owes (c.tc : Thread nD τ) (0 : CellTallies nD τ sig Ix) Wd)
  post c := iprop((∃ V, ⌜LeftAt pcs a rdats p W c V⌝ ∗ StableHlo.held (c.tc : Thread nD τ) (ucRefs τ sig) V)
    ∗ ∃ Wd, owes (c.tc : Thread nD τ) (0 : CellTallies nD τ sig Ix) Wd)
  X c := iprop(emp)
  Y c := iprop(emp)
  Z c := unscopedRest (pin pcs a p).spec c (fun b => W c (Proc.devRef .tc b))
  hentry c := by
    have hs := RDat.arrays_of_unscopedBufs pcs a rdats (p := p) kit.win kit.arr_whole c (hshare c) (fun b => W c (Proc.devRef .tc b)) (hW c)
    rw [← unscopedBufs_held, prefHeld_of_none _ hK]
    iintro ⟨⟨Hh, HO⟩, -, -⟩
    ihave H := hs $$ Hh
    icases H with ⟨Ha, Hr⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitr; · iempintro
    iexact Hr
  hin c := by
    iintro ⟨-, -, Hr⟩
    iapply (hin c); iexact Hr
  hout c := by
    iintro H
    ihave Hr := (hout c) $$ H
    isplitr; · iempintro
    isplitr
    · unfold ownSems0
      rw [show (Finset.univ : Finset (Fin 0)) = ∅ from rfl, BI.bigSep_empty]; iempintro
    iexact Hr
  hexit c := by
    unfold RDat.arraysAt
    iintro ⟨Ha, HO, -, Hr⟩
    ihave Ha := (BI.bigSep_exists_pi Finset.univ _) $$ Ha
    icases Ha with ⟨%G, Ha⟩
    ihave H' := (BI.bigSep_pure_sep Finset.univ (fun w => (rdats p c).ArrAt w (pin pcs a p).N (G w)) _) $$ Ha
    icases H' with ⟨%hG, Ha⟩
    obtain ⟨V, hV, hV'⟩ := exists_extend (fun w => Proc.devRef (τ := τ) .tc (arrRef (pin pcs a p).spec w))
      (fun w w' h => kit.win.arr_inj (Proc.devRef_injective _ h)) G (W c)
    imodintro
    isplitl [Ha Hr]
    · iexists V
      isplitr
      · ipureintro
        exact ⟨fun w => by rw [hV]; exact hG w (Finset.mem_univ w), hV'⟩
      rw [← unscopedBufs_held, unscopedBufs_split (pin pcs a) p kit.win.arr_unscoped kit.win.arr_inj c (fun b => V (Proc.devRef .tc b))]
      have e2 : (unscopedRest (pin pcs a p).spec c (fun b => V (Proc.devRef .tc b)) : sProp (MT nD τ sig Ix Val ℕ U Lvl))
          = unscopedRest (pin pcs a p).spec c (fun b => W c (Proc.devRef .tc b)) :=
        bigSep_congr fun b hb => by
          dsimp only
          rw [hV' (Proc.devRef .tc b) fun w h => (Finset.mem_sdiff.mp hb).2
            (Finset.mem_image.mpr ⟨w, Finset.mem_univ _, Proc.devRef_injective _ h⟩)]
      rw [e2]
      isplitl [Ha]
      · have e1 : (bigSep Finset.univ fun w => (((c.tc : Thread nD τ).loc (arrRef (pin pcs a p).spec w)) ↦{fullShare} V (Proc.devRef .tc (arrRef (pin pcs a p).spec w)) : sProp (MT nD τ sig Ix Val ℕ U Lvl)))
            = bigSep Finset.univ fun w => ((pin pcs a p).win w).arr.view.loc (c.tc : Thread nD τ) ↦[((pin pcs a p).win w).arr.view.set]{(rdats p c).share w} G w :=
          bigSep_congr fun w _ => by
            rw [hshare c w, (kit.arr_whole w).set_eq_univ]
            exact congrArg (fun B => (((c.tc : Thread nD τ).loc (arrRef (pin pcs a p).spec w)) ↦{fullShare} B : sProp (MT nD τ sig Ix Val ℕ U Lvl))) (hV w)
        rw [e1]; iexact Ha
      iexact Hr
    · unfold RDat.owesAt owesWithin
      rw [howed c (Fin.last _)]
      icases HO with ⟨%Wd, -, HO⟩; iexists Wd; iexact HO

end Region
end Cert.Hand
-- ==== Proof.Mem.lean ====
/- Loads and stores as steps of a pure state: holding a memref at the contents `X` it reads, a load hands over `X` at the
   loaded rectangle and a store leaves `X` with the rectangle's entries replaced. A body run this way ends in a state
   that is a function of the state it began in. -/
module

public import Idealize.ShloMosaic.Lib.Pipeline.Frame
public import Idealize.ShloMosaic.Lib.WritesUnit
public import Idealize.ShloMosaic.Rules.Step

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- Contents with the entries of a unit-stride rectangle replaced. -/
def ovl {α : Type} {s : Shape} (X : s.Idx → α) (off size : Fin s.rank → ℕ) (inb : ∀ a, off a + size a ≤ s.size a)
    (w : (Rect.unit (s := s) off size inb).shape.Idx → α) : s.Idx → α :=
  fun y => if h : ∀ a, off a ≤ (y a).val ∧ (y a).val < off a + size a then w (Rect.unitLocal (s := s) (off := off) (size := size) y h) else X y

theorem ovl_of_mem {α : Type} {s : Shape} (X : s.Idx → α) (off size : Fin s.rank → ℕ) (inb : ∀ a, off a + size a ≤ s.size a)
    (w : (Rect.unit (s := s) off size inb).shape.Idx → α) (y : s.Idx)
    (h : ∀ a, off a ≤ (y a).val ∧ (y a).val < off a + size a) : ovl X off size inb w y = w (Rect.unitLocal (s := s) (off := off) (size := size) y h) := dif_pos h

theorem ovl_of_not_mem {α : Type} {s : Shape} (X : s.Idx → α) (off size : Fin s.rank → ℕ) (inb : ∀ a, off a + size a ≤ s.size a)
    (w : (Rect.unit (s := s) off size inb).shape.Idx → α) (y : s.Idx)
    (h : ¬ ∀ a, off a ≤ (y a).val ∧ (y a).val < off a + size a) : ovl X off size inb w y = X y := dif_neg h

/-- Contents at a loaded rectangle. -/
def rd {α : Type} {s : Shape} (X : s.Idx → α) (r : LoadRect s) : r.shape.Idx → α := fun x => X (r.idx x)

section Rules

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ} {𝒱 : Variants} {c : Thread nD τ}
variable {bd : Option 𝒱.V} {Γ : PendingWaitsCtx sig Ix} {E : Set Name} {α : Type}
variable {Q : α → sProp (MT nD τ sig Ix Val Name U Lvl)} {P P' R : sProp (MT nD τ sig Ix Val Name U Lvl)}
variable {cs : CoreSpace} {s : Shape} {e : EltTy}

/-- A load: the state is kept and the program goes on with the contents at the rectangle. -/
theorem ld_rule {m : Memref sig c.2.kind cs s e} {X : s.Idx → Val e}
    (hP : P ⊢ iprop(owns c m fullShare X ∗ R)) (hP' : iprop(owns c m fullShare X ∗ R) ⊢ P)
    {r : LoadRect s} {hl : m.view.LoadsAt r} {k : (r.shape.Idx → Val e) → Prog (TpuEff nD τ sig Val Λ c.2) α}
    (h : P ⊢ wp frame (wpE' defs 𝒱 c bd Γ) E (k (rd X r)) Q) :
    P ⊢ wp frame (wpE' defs 𝒱 c bd Γ) E (Prog.lift (.load m r hl) >>= k) Q := by
  refine hP.trans ?_
  unfold owns
  iintro ⟨⟨%f, %hf, H⟩, HR⟩
  subst hf
  iapply (wp_load 𝒱 c bd E (S := m.view.set) (hl := hl) (k := k) (Q := Q) ?_) $$ [H]
  · unfold View.set; exact Finset.map_subset_map.mpr (Finset.subset_univ _)
  · iexact H
  iintro H
  iapply h
  iapply hP'
  isplitl [H]
  · iapply (owns_intro c m fullShare f); iexact H
  iexact HR

/-- A store: the state is the old one with the rectangle's entries replaced. -/
theorem st_rule {m : Memref sig c.2.kind cs s e} {X : s.Idx → Val e}
    (hP : P ⊢ iprop(owns c m fullShare X ∗ R))
    {off size : Fin s.rank → ℕ} {inb : ∀ a, off a + size a ≤ s.size a} {w : (Rect.unit (s := s) off size inb).shape.Idx → Val e}
    (hP' : iprop(owns c m fullShare (ovl X off size inb w) ∗ R) ⊢ P')
    {hx : (m.access (Rect.unit (s := s) off size inb)).Stores Finset.univ} {hm : (Finset.univ : Finset (Rect.unit (s := s) off size inb).shape.Idx) = Finset.univ ∨ ∀ a, (Rect.unit (s := s) off size inb).stride a = 1}
    {k : PUnit → Prog (TpuEff nD τ sig Val Λ c.2) α}
    (h : P' ⊢ wp frame (wpE' defs 𝒱 c bd Γ) E (k ⟨⟩) Q) :
    P ⊢ wp frame (wpE' defs 𝒱 c bd Γ) E (Prog.lift (.store m (Rect.unit (s := s) off size inb) w Finset.univ hx hm) >>= k) Q := by
  refine hP.trans ?_
  unfold owns at hP' ⊢
  iintro ⟨⟨%f, %hf, H⟩, HR⟩
  subst hf
  iapply (wp_store 𝒱 c bd E (S := m.view.set) (f := f) (hx := hx) (hm := hm) (k := k) (Q := Q) ?_) $$ [H]
  · exact m.view.set_slice_subset _
  · iexact H
  iintro H
  iapply h
  iapply hP'
  isplitl [H]
  · iexists _
    isplitr
    swap
    · iexact H
    ipureintro
    exact funext fun y => View.read_writes_cons_unit m.view f inb w [] y rfl
  iexact HR

end Rules

theorem ovl4_congr {α : Type} {s : Idealize.ShloMosaic.Shape} (X X' : s.Idx → α) (o0 z0 : Fin s.rank → ℕ) (i0 : ∀ a, o0 a + z0 a ≤ s.size a) (w0 : _)
    (o1 z1 : Fin s.rank → ℕ) (i1 : ∀ a, o1 a + z1 a ≤ s.size a) (w1 : _) (o2 z2 : Fin s.rank → ℕ) (i2 : ∀ a, o2 a + z2 a ≤ s.size a) (w2 : _)
    (o3 z3 : Fin s.rank → ℕ) (i3 : ∀ a, o3 a + z3 a ≤ s.size a) (w3 : _)
    (h : ∀ y : s.Idx, (∀ a, o0 a ≤ (y a).val ∧ (y a).val < o0 a + z0 a) ∨ (∀ a, o1 a ≤ (y a).val ∧ (y a).val < o1 a + z1 a)
      ∨ (∀ a, o2 a ≤ (y a).val ∧ (y a).val < o2 a + z2 a) ∨ (∀ a, o3 a ≤ (y a).val ∧ (y a).val < o3 a + z3 a)) :
    ovl (ovl (ovl (ovl X o0 z0 i0 w0) o1 z1 i1 w1) o2 z2 i2 w2) o3 z3 i3 w3 = ovl (ovl (ovl (ovl X' o0 z0 i0 w0) o1 z1 i1 w1) o2 z2 i2 w2) o3 z3 i3 w3 := by
  funext y
  by_cases h3 : ∀ a, o3 a ≤ (y a).val ∧ (y a).val < o3 a + z3 a
  · rw [ovl_of_mem _ _ _ _ _ _ h3, ovl_of_mem _ _ _ _ _ _ h3]
  rw [ovl_of_not_mem _ _ _ _ _ _ h3, ovl_of_not_mem _ _ _ _ _ _ h3]
  by_cases h2 : ∀ a, o2 a ≤ (y a).val ∧ (y a).val < o2 a + z2 a
  · rw [ovl_of_mem _ _ _ _ _ _ h2, ovl_of_mem _ _ _ _ _ _ h2]
  rw [ovl_of_not_mem _ _ _ _ _ _ h2, ovl_of_not_mem _ _ _ _ _ _ h2]
  by_cases h1 : ∀ a, o1 a ≤ (y a).val ∧ (y a).val < o1 a + z1 a
  · rw [ovl_of_mem _ _ _ _ _ _ h1, ovl_of_mem _ _ _ _ _ _ h1]
  rw [ovl_of_not_mem _ _ _ _ _ _ h1, ovl_of_not_mem _ _ _ _ _ _ h1]
  have h0 := (((h y).resolve_right fun h => h.elim h1 fun h => h.elim h2 h3))
  rw [ovl_of_mem _ _ _ _ _ _ h0, ovl_of_mem _ _ _ _ _ _ h0]

end Cert.Hand
-- ==== Proof.Four.lean ====
/- Four buffers held at their contents, as a state a short kernel body runs on: the three it reads and the one it fills. -/
module

public import proofs.«01_k».proof.Proof.Mem

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U]
variable {Lvl : Type} {Λ : Labels} [Preorder Lvl] {defs : Defs nD τ sig Val Λ} {𝒱 : Variants} {c : Dev nD}
variable {bd : Option 𝒱.V} {Γ : PendingWaitsCtx sig Ix} {E : Set Name} {α : Type}
variable {s2 s3 s4 s5 : Shape} {e2 e3 e4 e5 : EltTy}
variable {m2 : Memref sig .tc .vmem s2 e2} {m3 : Memref sig .tc .vmem s3 e3} {m4 : Memref sig .tc .vmem s4 e4} {m5 : Memref sig .tc .vmem s5 e5}
variable {X2 : s2.Idx → Val e2} {X3 : s3.Idx → Val e3} {X4 : s4.Idx → Val e4} {X5 : s5.Idx → Val e5}
variable {Q : α → sProp (MT nD τ sig Ix Val Name U Lvl)}

/-- The four buffers held. -/
def four (c : Dev nD) (m2 : Memref sig .tc .vmem s2 e2) (m3 : Memref sig .tc .vmem s3 e3) (m4 : Memref sig .tc .vmem s4 e4) (m5 : Memref sig .tc .vmem s5 e5)
    (X2 : s2.Idx → Val e2) (X3 : s3.Idx → Val e3) (X4 : s4.Idx → Val e4) (X5 : s5.Idx → Val e5) : sProp (MT nD τ sig Ix Val Name U Lvl) :=
  iprop(owns (c : Thread nD τ) m2 fullShare X2 ∗ owns (c : Thread nD τ) m3 fullShare X3 ∗ owns (c : Thread nD τ) m4 fullShare X4 ∗ owns (c : Thread nD τ) m5 fullShare X5)

theorem four_ld2 {r : LoadRect s2} {hl : m2.view.LoadsAt r} {k : (r.shape.Idx → Val e2) → Prog (TpuEff nD τ sig Val Λ .tc) α}
    (h : four c m2 m3 m4 m5 X2 X3 X4 X5 ⊢ wp frame (wpE' (Ix := Ix) (Name := Name) (U := U) (Lvl := Lvl) defs 𝒱 (c : Thread nD τ) bd Γ) E (k (rd X2 r)) Q) :
    four c m2 m3 m4 m5 X2 X3 X4 X5 ⊢ wp frame (wpE' (Ix := Ix) (Name := Name) (U := U) (Lvl := Lvl) defs 𝒱 (c : Thread nD τ) bd Γ) E (Prog.lift (.load m2 r hl) >>= k) Q :=
  ld_rule (c := (c : Thread nD τ)) (m := m2) (X := X2) (R := iprop(owns (c : Thread nD τ) m3 fullShare X3 ∗ owns (c : Thread nD τ) m4 fullShare X4 ∗ owns (c : Thread nD τ) m5 fullShare X5))
    .rfl .rfl h

theorem four_ld3 {r : LoadRect s3} {hl : m3.view.LoadsAt r} {k : (r.shape.Idx → Val e3) → Prog (TpuEff nD τ sig Val Λ .tc) α}
    (h : four c m2 m3 m4 m5 X2 X3 X4 X5 ⊢ wp frame (wpE' (Ix := Ix) (Name := Name) (U := U) (Lvl := Lvl) defs 𝒱 (c : Thread nD τ) bd Γ) E (k (rd X3 r)) Q) :
    four c m2 m3 m4 m5 X2 X3 X4 X5 ⊢ wp frame (wpE' (Ix := Ix) (Name := Name) (U := U) (Lvl := Lvl) defs 𝒱 (c : Thread nD τ) bd Γ) E (Prog.lift (.load m3 r hl) >>= k) Q :=
  ld_rule (c := (c : Thread nD τ)) (m := m3) (X := X3) (R := iprop(owns (c : Thread nD τ) m2 fullShare X2 ∗ owns (c : Thread nD τ) m4 fullShare X4 ∗ owns (c : Thread nD τ) m5 fullShare X5))
    (by unfold four; iintro ⟨H2, H3, H4, H5⟩; isplitl [H3]; · iexact H3
        isplitl [H2]; · iexact H2
        isplitl [H4] <;> iassumption)
    (by unfold four; iintro ⟨H3, H2, H4, H5⟩; isplitl [H2]; · iexact H2
        isplitl [H3]; · iexact H3
        isplitl [H4] <;> iassumption) h

theorem four_ld4 {r : LoadRect s4} {hl : m4.view.LoadsAt r} {k : (r.shape.Idx → Val e4) → Prog (TpuEff nD τ sig Val Λ .tc) α}
    (h : four c m2 m3 m4 m5 X2 X3 X4 X5 ⊢ wp frame (wpE' (Ix := Ix) (Name := Name) (U := U) (Lvl := Lvl) defs 𝒱 (c : Thread nD τ) bd Γ) E (k (rd X4 r)) Q) :
    four c m2 m3 m4 m5 X2 X3 X4 X5 ⊢ wp frame (wpE' (Ix := Ix) (Name := Name) (U := U) (Lvl := Lvl) defs 𝒱 (c : Thread nD τ) bd Γ) E (Prog.lift (.load m4 r hl) >>= k) Q :=
  ld_rule (c := (c : Thread nD τ)) (m := m4) (X := X4) (R := iprop(owns (c : Thread nD τ) m2 fullShare X2 ∗ owns (c : Thread nD τ) m3 fullShare X3 ∗ owns (c : Thread nD τ) m5 fullShare X5))
    (by unfold four; iintro ⟨H2, H3, H4, H5⟩; isplitl [H4]; · iexact H4
        isplitl [H2]; · iexact H2
        isplitl [H3] <;> iassumption)
    (by unfold four; iintro ⟨H4, H2, H3, H5⟩; isplitl [H2]; · iexact H2
        isplitl [H3]; · iexact H3
        isplitl [H4] <;> iassumption) h

theorem four_ld5 {r : LoadRect s5} {hl : m5.view.LoadsAt r} {k : (r.shape.Idx → Val e5) → Prog (TpuEff nD τ sig Val Λ .tc) α}
    (h : four c m2 m3 m4 m5 X2 X3 X4 X5 ⊢ wp frame (wpE' (Ix := Ix) (Name := Name) (U := U) (Lvl := Lvl) defs 𝒱 (c : Thread nD τ) bd Γ) E (k (rd X5 r)) Q) :
    four c m2 m3 m4 m5 X2 X3 X4 X5 ⊢ wp frame (wpE' (Ix := Ix) (Name := Name) (U := U) (Lvl := Lvl) defs 𝒱 (c : Thread nD τ) bd Γ) E (Prog.lift (.load m5 r hl) >>= k) Q :=
  ld_rule (c := (c : Thread nD τ)) (m := m5) (X := X5) (R := iprop(owns (c : Thread nD τ) m2 fullShare X2 ∗ owns (c : Thread nD τ) m3 fullShare X3 ∗ owns (c : Thread nD τ) m4 fullShare X4))
    (by unfold four; iintro ⟨H2, H3, H4, H5⟩; isplitl [H5]; · iexact H5
        isplitl [H2]; · iexact H2
        isplitl [H3] <;> iassumption)
    (by unfold four; iintro ⟨H5, H2, H3, H4⟩; isplitl [H2]; · iexact H2
        isplitl [H3]; · iexact H3
        isplitl [H4] <;> iassumption) h

theorem four_st5 {off size : Fin s5.rank → ℕ} {inb : ∀ a, off a + size a ≤ s5.size a} {w : (Rect.unit (s := s5) off size inb).shape.Idx → Val e5}
    {hx : (m5.access (Rect.unit (s := s5) off size inb)).Stores Finset.univ} {hm : (Finset.univ : Finset (Rect.unit (s := s5) off size inb).shape.Idx) = Finset.univ ∨ ∀ a, (Rect.unit (s := s5) off size inb).stride a = 1}
    {k : PUnit → Prog (TpuEff nD τ sig Val Λ .tc) α}
    (h : four c m2 m3 m4 m5 X2 X3 X4 (ovl X5 off size inb w) ⊢ wp frame (wpE' (Ix := Ix) (Name := Name) (U := U) (Lvl := Lvl) defs 𝒱 (c : Thread nD τ) bd Γ) E (k ⟨⟩) Q) :
    four c m2 m3 m4 m5 X2 X3 X4 X5 ⊢ wp frame (wpE' (Ix := Ix) (Name := Name) (U := U) (Lvl := Lvl) defs 𝒱 (c : Thread nD τ) bd Γ) E (Prog.lift (.store m5 (Rect.unit (s := s5) off size inb) w Finset.univ hx hm) >>= k) Q :=
  st_rule (c := (c : Thread nD τ)) (m := m5) (X := X5) (R := iprop(owns (c : Thread nD τ) m2 fullShare X2 ∗ owns (c : Thread nD τ) m3 fullShare X3 ∗ owns (c : Thread nD τ) m4 fullShare X4))
    (by unfold four; iintro ⟨H2, H3, H4, H5⟩; isplitl [H5]; · iexact H5
        isplitl [H2]; · iexact H2
        isplitl [H3] <;> iassumption)
    (P' := four c m2 m3 m4 m5 X2 X3 X4 (ovl X5 off size inb w))
    (by unfold four; iintro ⟨H5, H2, H3, H4⟩; isplitl [H2]; · iexact H2
        isplitl [H3]; · iexact H3
        isplitl [H4] <;> iassumption) h

end Cert.Hand
-- ==== Proof.State.lean ====
/- The state of the main kernel's body: the contents of its seventeen windows and thirteen scratch buffers, what holding
   them all means, and how one of them is taken out and put back. -/
module

public import proofs.«01_k».proof.Proof.Mem
public import proofs.«01_k».proof.Proof.Gen.KernelIdeal.Skeleton

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Hand

variable {F : FTy → Type} [FloatOps F]

/-- The body's buffers. -/
structure Mr where
  m2 : Memref sig .tc .vmem S384x1024 .bf16
  m3 : Memref sig .tc .vmem S1024x512 .bf16
  m4 : Memref sig .tc .vmem S1024x512 .bf16
  m5 : Memref sig .tc .vmem S1024x512 .bf16
  m6 : Memref sig .tc .vmem S1024x512 .bf16
  m7 : Memref sig .tc .vmem S4096x256 .bf16
  m8 : Memref sig .tc .vmem S4096x256 .bf16
  m9 : Memref sig .tc .vmem S4x6x1536 .f32
  m10 : Memref sig .tc .vmem S4x1024 .f32
  m11 : Memref sig .tc .vmem S6x1536 .f32
  m12 : Memref sig .tc .vmem S384x1024 .bf16
  m13 : Memref sig .tc .vmem S384x1024 .i8
  m14 : Memref sig .tc .vmem S6x1536 .f32
  m15 : Memref sig .tc .vmem S384x4096 .i8
  m16 : Memref sig .tc .vmem S6x1536 .f32
  m17 : Memref sig .tc .vmem S384x4096 .i8
  m18 : Memref sig .tc .vmem S6x1536 .f32
  m19 : Memref sig .tc .vmem S384x1024 .bf16
  m20 : Memref sig .tc .vmem S384x128 .f32
  m21 : Memref sig .tc .vmem S384x4096 .f32
  m22 : Memref sig .tc .vmem S384x4096 .f32
  m23 : Memref sig .tc .vmem S384x4096 .bf16
  m24 : Memref sig .tc .vmem S384x4096 .bf16
  m25 : Memref sig .tc .vmem S384x4096 .bf16
  m26 : Memref sig .tc .vmem S384x128 .f32
  m27 : Memref sig .tc .vmem S384x128 .f32
  m28 : Memref sig .tc .vmem S384x128 .f32
  m29 : Memref sig .tc .vmem S384x128 .f32
  m30 : Memref sig .tc .vmem S5x384x128 .f32
  m31 : Memref sig .tc .vmem S4x8x1024 .f32
  h2 : m2.IsWhole
  h3 : m3.IsWhole
  h4 : m4.IsWhole
  h5 : m5.IsWhole
  h6 : m6.IsWhole
  h7 : m7.IsWhole
  h8 : m8.IsWhole
  h9 : m9.IsWhole
  h10 : m10.IsWhole
  h11 : m11.IsWhole
  h12 : m12.IsWhole
  h13 : m13.IsWhole
  h14 : m14.IsWhole
  h15 : m15.IsWhole
  h16 : m16.IsWhole
  h17 : m17.IsWhole
  h18 : m18.IsWhole
  h19 : m19.IsWhole
  h20 : m20.IsWhole
  h21 : m21.IsWhole
  h22 : m22.IsWhole
  h23 : m23.IsWhole
  h24 : m24.IsWhole
  h25 : m25.IsWhole
  h26 : m26.IsWhole
  h27 : m27.IsWhole
  h28 : m28.IsWhole
  h29 : m29.IsWhole
  h30 : m30.IsWhole
  h31 : m31.IsWhole

/-- The body at the buffers `M`. -/
abbrev body (i : grid3.Coords) (M : Mr) : Prog (TpuEff nD τ sig (Elt F) Λ₀ .tc) PUnit :=
  cc3_probe_main i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 M.m21 M.h21 M.m22 M.h22 M.m23 M.h23 M.m24 M.h24 M.m25 M.h25 M.m26 M.h26 M.m27 M.h27 M.m28 M.h28 M.m29 M.h29 M.m30 M.h30 M.m31 M.h31

variable (F) in
/-- The contents of the body's buffers. -/
structure St where
  a2 : Vec F S384x1024 .bf16
  a3 : Vec F S1024x512 .bf16
  a4 : Vec F S1024x512 .bf16
  a5 : Vec F S1024x512 .bf16
  a6 : Vec F S1024x512 .bf16
  a7 : Vec F S4096x256 .bf16
  a8 : Vec F S4096x256 .bf16
  a9 : Vec F S4x6x1536 .f32
  a10 : Vec F S4x1024 .f32
  a11 : Vec F S6x1536 .f32
  a12 : Vec F S384x1024 .bf16
  a13 : Vec F S384x1024 .i8
  a14 : Vec F S6x1536 .f32
  a15 : Vec F S384x4096 .i8
  a16 : Vec F S6x1536 .f32
  a17 : Vec F S384x4096 .i8
  a18 : Vec F S6x1536 .f32
  a19 : Vec F S384x1024 .bf16
  a20 : Vec F S384x128 .f32
  a21 : Vec F S384x4096 .f32
  a22 : Vec F S384x4096 .f32
  a23 : Vec F S384x4096 .bf16
  a24 : Vec F S384x4096 .bf16
  a25 : Vec F S384x4096 .bf16
  a26 : Vec F S384x128 .f32
  a27 : Vec F S384x128 .f32
  a28 : Vec F S384x128 .f32
  a29 : Vec F S384x128 .f32
  a30 : Vec F S5x384x128 .f32
  a31 : Vec F S4x8x1024 .f32

section Own

variable {Ix : Type} [DecidableEq Ix] {Name : Type} [DecidableEq Name] {U : Type} [URA U] {Lvl : Type} [Preorder Lvl]

local notation "𝕄" => MT nD τ sig Ix (Elt F) Name U Lvl

/-- Group 0 of the buffers held. -/
def own0 (c : Dev nD) (M : Mr) (S : St F) : sProp 𝕄 :=
  iprop(owns (c : Thread nD τ) M.m2 fullShare S.a2 ∗ owns (c : Thread nD τ) M.m3 fullShare S.a3 ∗ owns (c : Thread nD τ) M.m4 fullShare S.a4 ∗ owns (c : Thread nD τ) M.m5 fullShare S.a5 ∗ owns (c : Thread nD τ) M.m6 fullShare S.a6 ∗ owns (c : Thread nD τ) M.m7 fullShare S.a7)

/-- Group 1 of the buffers held. -/
def own1 (c : Dev nD) (M : Mr) (S : St F) : sProp 𝕄 :=
  iprop(owns (c : Thread nD τ) M.m8 fullShare S.a8 ∗ owns (c : Thread nD τ) M.m9 fullShare S.a9 ∗ owns (c : Thread nD τ) M.m10 fullShare S.a10 ∗ owns (c : Thread nD τ) M.m11 fullShare S.a11 ∗ owns (c : Thread nD τ) M.m12 fullShare S.a12 ∗ owns (c : Thread nD τ) M.m13 fullShare S.a13)

/-- Group 2 of the buffers held. -/
def own2 (c : Dev nD) (M : Mr) (S : St F) : sProp 𝕄 :=
  iprop(owns (c : Thread nD τ) M.m14 fullShare S.a14 ∗ owns (c : Thread nD τ) M.m15 fullShare S.a15 ∗ owns (c : Thread nD τ) M.m16 fullShare S.a16 ∗ owns (c : Thread nD τ) M.m17 fullShare S.a17 ∗ owns (c : Thread nD τ) M.m18 fullShare S.a18 ∗ owns (c : Thread nD τ) M.m19 fullShare S.a19)

/-- Group 3 of the buffers held. -/
def own3 (c : Dev nD) (M : Mr) (S : St F) : sProp 𝕄 :=
  iprop(owns (c : Thread nD τ) M.m20 fullShare S.a20 ∗ owns (c : Thread nD τ) M.m21 fullShare S.a21 ∗ owns (c : Thread nD τ) M.m22 fullShare S.a22 ∗ owns (c : Thread nD τ) M.m23 fullShare S.a23 ∗ owns (c : Thread nD τ) M.m24 fullShare S.a24 ∗ owns (c : Thread nD τ) M.m25 fullShare S.a25)

/-- Group 4 of the buffers held. -/
def own4 (c : Dev nD) (M : Mr) (S : St F) : sProp 𝕄 :=
  iprop(owns (c : Thread nD τ) M.m26 fullShare S.a26 ∗ owns (c : Thread nD τ) M.m27 fullShare S.a27 ∗ owns (c : Thread nD τ) M.m28 fullShare S.a28 ∗ owns (c : Thread nD τ) M.m29 fullShare S.a29 ∗ owns (c : Thread nD τ) M.m30 fullShare S.a30 ∗ owns (c : Thread nD τ) M.m31 fullShare S.a31)

/-- Every buffer held at the contents the state names. -/
def own (c : Dev nD) (M : Mr) (S : St F) : sProp 𝕄 :=
  iprop(own0 c M S ∗ own1 c M S ∗ own2 c M S ∗ own3 c M S ∗ own4 c M S)

variable (c : Dev nD) (M : Mr) (S : St F)

theorem own_2 : (own c M S : sProp 𝕄) ⊢ iprop(owns (c : Thread nD τ) M.m2 fullShare S.a2
    ∗ (∀ X, owns (c : Thread nD τ) M.m2 fullShare X -∗ own c M { S with a2 := X })) := by
  unfold own own0
  iintro ⟨⟨H2, H3, H4, H5, H6, H7⟩, G1, G2, G3, G4⟩
  isplitl [H2]; · iexact H2
  iintro %X H2
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_3 : (own c M S : sProp 𝕄) ⊢ iprop(owns (c : Thread nD τ) M.m3 fullShare S.a3
    ∗ (∀ X, owns (c : Thread nD τ) M.m3 fullShare X -∗ own c M { S with a3 := X })) := by
  unfold own own0
  iintro ⟨⟨H2, H3, H4, H5, H6, H7⟩, G1, G2, G3, G4⟩
  isplitl [H3]; · iexact H3
  iintro %X H3
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_4 : (own c M S : sProp 𝕄) ⊢ iprop(owns (c : Thread nD τ) M.m4 fullShare S.a4
    ∗ (∀ X, owns (c : Thread nD τ) M.m4 fullShare X -∗ own c M { S with a4 := X })) := by
  unfold own own0
  iintro ⟨⟨H2, H3, H4, H5, H6, H7⟩, G1, G2, G3, G4⟩
  isplitl [H4]; · iexact H4
  iintro %X H4
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_5 : (own c M S : sProp 𝕄) ⊢ iprop(owns (c : Thread nD τ) M.m5 fullShare S.a5
    ∗ (∀ X, owns (c : Thread nD τ) M.m5 fullShare X -∗ own c M { S with a5 := X })) := by
  unfold own own0
  iintro ⟨⟨H2, H3, H4, H5, H6, H7⟩, G1, G2, G3, G4⟩
  isplitl [H5]; · iexact H5
  iintro %X H5
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_6 : (own c M S : sProp 𝕄) ⊢ iprop(owns (c : Thread nD τ) M.m6 fullShare S.a6
    ∗ (∀ X, owns (c : Thread nD τ) M.m6 fullShare X -∗ own c M { S with a6 := X })) := by
  unfold own own0
  iintro ⟨⟨H2, H3, H4, H5, H6, H7⟩, G1, G2, G3, G4⟩
  isplitl [H6]; · iexact H6
  iintro %X H6
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_7 : (own c M S : sProp 𝕄) ⊢ iprop(owns (c : Thread nD τ) M.m7 fullShare S.a7
    ∗ (∀ X, owns (c : Thread nD τ) M.m7 fullShare X -∗ own c M { S with a7 := X })) := by
  unfold own own0
  iintro ⟨⟨H2, H3, H4, H5, H6, H7⟩, G1, G2, G3, G4⟩
  isplitl [H7]; · iexact H7
  iintro %X H7
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_8 : (own c M S : sProp 𝕄) ⊢ iprop(owns (c : Thread nD τ) M.m8 fullShare S.a8
    ∗ (∀ X, owns (c : Thread nD τ) M.m8 fullShare X -∗ own c M { S with a8 := X })) := by
  unfold own own1
  iintro ⟨G0, ⟨H8, H9, H10, H11, H12, H13⟩, G2, G3, G4⟩
  isplitl [H8]; · iexact H8
  iintro %X H8
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_9 : (own c M S : sProp 𝕄) ⊢ iprop(owns (c : Thread nD τ) M.m9 fullShare S.a9
    ∗ (∀ X, owns (c : Thread nD τ) M.m9 fullShare X -∗ own c M { S with a9 := X })) := by
  unfold own own1
  iintro ⟨G0, ⟨H8, H9, H10, H11, H12, H13⟩, G2, G3, G4⟩
  isplitl [H9]; · iexact H9
  iintro %X H9
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_10 : (own c M S : sProp 𝕄) ⊢ iprop(owns (c : Thread nD τ) M.m10 fullShare S.a10
    ∗ (∀ X, owns (c : Thread nD τ) M.m10 fullShare X -∗ own c M { S with a10 := X })) := by
  unfold own own1
  iintro ⟨G0, ⟨H8, H9, H10, H11, H12, H13⟩, G2, G3, G4⟩
  isplitl [H10]; · iexact H10
  iintro %X H10
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_11 : (own c M S : sProp 𝕄) ⊢ iprop(owns (c : Thread nD τ) M.m11 fullShare S.a11
    ∗ (∀ X, owns (c : Thread nD τ) M.m11 fullShare X -∗ own c M { S with a11 := X })) := by
  unfold own own1
  iintro ⟨G0, ⟨H8, H9, H10, H11, H12, H13⟩, G2, G3, G4⟩
  isplitl [H11]; · iexact H11
  iintro %X H11
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_12 : (own c M S : sProp 𝕄) ⊢ iprop(owns (c : Thread nD τ) M.m12 fullShare S.a12
    ∗ (∀ X, owns (c : Thread nD τ) M.m12 fullShare X -∗ own c M { S with a12 := X })) := by
  unfold own own1
  iintro ⟨G0, ⟨H8, H9, H10, H11, H12, H13⟩, G2, G3, G4⟩
  isplitl [H12]; · iexact H12
  iintro %X H12
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_13 : (own c M S : sProp 𝕄) ⊢ iprop(owns (c : Thread nD τ) M.m13 fullShare S.a13
    ∗ (∀ X, owns (c : Thread nD τ) M.m13 fullShare X -∗ own c M { S with a13 := X })) := by
  unfold own own1
  iintro ⟨G0, ⟨H8, H9, H10, H11, H12, H13⟩, G2, G3, G4⟩
  isplitl [H13]; · iexact H13
  iintro %X H13
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_14 : (own c M S : sProp 𝕄) ⊢ iprop(owns (c : Thread nD τ) M.m14 fullShare S.a14
    ∗ (∀ X, owns (c : Thread nD τ) M.m14 fullShare X -∗ own c M { S with a14 := X })) := by
  unfold own own2
  iintro ⟨G0, G1, ⟨H14, H15, H16, H17, H18, H19⟩, G3, G4⟩
  isplitl [H14]; · iexact H14
  iintro %X H14
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_15 : (own c M S : sProp 𝕄) ⊢ iprop(owns (c : Thread nD τ) M.m15 fullShare S.a15
    ∗ (∀ X, owns (c : Thread nD τ) M.m15 fullShare X -∗ own c M { S with a15 := X })) := by
  unfold own own2
  iintro ⟨G0, G1, ⟨H14, H15, H16, H17, H18, H19⟩, G3, G4⟩
  isplitl [H15]; · iexact H15
  iintro %X H15
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_16 : (own c M S : sProp 𝕄) ⊢ iprop(owns (c : Thread nD τ) M.m16 fullShare S.a16
    ∗ (∀ X, owns (c : Thread nD τ) M.m16 fullShare X -∗ own c M { S with a16 := X })) := by
  unfold own own2
  iintro ⟨G0, G1, ⟨H14, H15, H16, H17, H18, H19⟩, G3, G4⟩
  isplitl [H16]; · iexact H16
  iintro %X H16
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_17 : (own c M S : sProp 𝕄) ⊢ iprop(owns (c : Thread nD τ) M.m17 fullShare S.a17
    ∗ (∀ X, owns (c : Thread nD τ) M.m17 fullShare X -∗ own c M { S with a17 := X })) := by
  unfold own own2
  iintro ⟨G0, G1, ⟨H14, H15, H16, H17, H18, H19⟩, G3, G4⟩
  isplitl [H17]; · iexact H17
  iintro %X H17
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_18 : (own c M S : sProp 𝕄) ⊢ iprop(owns (c : Thread nD τ) M.m18 fullShare S.a18
    ∗ (∀ X, owns (c : Thread nD τ) M.m18 fullShare X -∗ own c M { S with a18 := X })) := by
  unfold own own2
  iintro ⟨G0, G1, ⟨H14, H15, H16, H17, H18, H19⟩, G3, G4⟩
  isplitl [H18]; · iexact H18
  iintro %X H18
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_19 : (own c M S : sProp 𝕄) ⊢ iprop(owns (c : Thread nD τ) M.m19 fullShare S.a19
    ∗ (∀ X, owns (c : Thread nD τ) M.m19 fullShare X -∗ own c M { S with a19 := X })) := by
  unfold own own2
  iintro ⟨G0, G1, ⟨H14, H15, H16, H17, H18, H19⟩, G3, G4⟩
  isplitl [H19]; · iexact H19
  iintro %X H19
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_20 : (own c M S : sProp 𝕄) ⊢ iprop(owns (c : Thread nD τ) M.m20 fullShare S.a20
    ∗ (∀ X, owns (c : Thread nD τ) M.m20 fullShare X -∗ own c M { S with a20 := X })) := by
  unfold own own3
  iintro ⟨G0, G1, G2, ⟨H20, H21, H22, H23, H24, H25⟩, G4⟩
  isplitl [H20]; · iexact H20
  iintro %X H20
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_21 : (own c M S : sProp 𝕄) ⊢ iprop(owns (c : Thread nD τ) M.m21 fullShare S.a21
    ∗ (∀ X, owns (c : Thread nD τ) M.m21 fullShare X -∗ own c M { S with a21 := X })) := by
  unfold own own3
  iintro ⟨G0, G1, G2, ⟨H20, H21, H22, H23, H24, H25⟩, G4⟩
  isplitl [H21]; · iexact H21
  iintro %X H21
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_22 : (own c M S : sProp 𝕄) ⊢ iprop(owns (c : Thread nD τ) M.m22 fullShare S.a22
    ∗ (∀ X, owns (c : Thread nD τ) M.m22 fullShare X -∗ own c M { S with a22 := X })) := by
  unfold own own3
  iintro ⟨G0, G1, G2, ⟨H20, H21, H22, H23, H24, H25⟩, G4⟩
  isplitl [H22]; · iexact H22
  iintro %X H22
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_23 : (own c M S : sProp 𝕄) ⊢ iprop(owns (c : Thread nD τ) M.m23 fullShare S.a23
    ∗ (∀ X, owns (c : Thread nD τ) M.m23 fullShare X -∗ own c M { S with a23 := X })) := by
  unfold own own3
  iintro ⟨G0, G1, G2, ⟨H20, H21, H22, H23, H24, H25⟩, G4⟩
  isplitl [H23]; · iexact H23
  iintro %X H23
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_24 : (own c M S : sProp 𝕄) ⊢ iprop(owns (c : Thread nD τ) M.m24 fullShare S.a24
    ∗ (∀ X, owns (c : Thread nD τ) M.m24 fullShare X -∗ own c M { S with a24 := X })) := by
  unfold own own3
  iintro ⟨G0, G1, G2, ⟨H20, H21, H22, H23, H24, H25⟩, G4⟩
  isplitl [H24]; · iexact H24
  iintro %X H24
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_25 : (own c M S : sProp 𝕄) ⊢ iprop(owns (c : Thread nD τ) M.m25 fullShare S.a25
    ∗ (∀ X, owns (c : Thread nD τ) M.m25 fullShare X -∗ own c M { S with a25 := X })) := by
  unfold own own3
  iintro ⟨G0, G1, G2, ⟨H20, H21, H22, H23, H24, H25⟩, G4⟩
  isplitl [H25]; · iexact H25
  iintro %X H25
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_26 : (own c M S : sProp 𝕄) ⊢ iprop(owns (c : Thread nD τ) M.m26 fullShare S.a26
    ∗ (∀ X, owns (c : Thread nD τ) M.m26 fullShare X -∗ own c M { S with a26 := X })) := by
  unfold own own4
  iintro ⟨G0, G1, G2, G3, ⟨H26, H27, H28, H29, H30, H31⟩⟩
  isplitl [H26]; · iexact H26
  iintro %X H26
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_27 : (own c M S : sProp 𝕄) ⊢ iprop(owns (c : Thread nD τ) M.m27 fullShare S.a27
    ∗ (∀ X, owns (c : Thread nD τ) M.m27 fullShare X -∗ own c M { S with a27 := X })) := by
  unfold own own4
  iintro ⟨G0, G1, G2, G3, ⟨H26, H27, H28, H29, H30, H31⟩⟩
  isplitl [H27]; · iexact H27
  iintro %X H27
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_28 : (own c M S : sProp 𝕄) ⊢ iprop(owns (c : Thread nD τ) M.m28 fullShare S.a28
    ∗ (∀ X, owns (c : Thread nD τ) M.m28 fullShare X -∗ own c M { S with a28 := X })) := by
  unfold own own4
  iintro ⟨G0, G1, G2, G3, ⟨H26, H27, H28, H29, H30, H31⟩⟩
  isplitl [H28]; · iexact H28
  iintro %X H28
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_29 : (own c M S : sProp 𝕄) ⊢ iprop(owns (c : Thread nD τ) M.m29 fullShare S.a29
    ∗ (∀ X, owns (c : Thread nD τ) M.m29 fullShare X -∗ own c M { S with a29 := X })) := by
  unfold own own4
  iintro ⟨G0, G1, G2, G3, ⟨H26, H27, H28, H29, H30, H31⟩⟩
  isplitl [H29]; · iexact H29
  iintro %X H29
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_30 : (own c M S : sProp 𝕄) ⊢ iprop(owns (c : Thread nD τ) M.m30 fullShare S.a30
    ∗ (∀ X, owns (c : Thread nD τ) M.m30 fullShare X -∗ own c M { S with a30 := X })) := by
  unfold own own4
  iintro ⟨G0, G1, G2, G3, ⟨H26, H27, H28, H29, H30, H31⟩⟩
  isplitl [H30]; · iexact H30
  iintro %X H30
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_31 : (own c M S : sProp 𝕄) ⊢ iprop(owns (c : Thread nD τ) M.m31 fullShare S.a31
    ∗ (∀ X, owns (c : Thread nD τ) M.m31 fullShare X -∗ own c M { S with a31 := X })) := by
  unfold own own4
  iintro ⟨G0, G1, G2, G3, ⟨H26, H27, H28, H29, H30, H31⟩⟩
  isplitl [H31]; · iexact H31
  iintro %X H31
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

end Own

section Rules

variable {Ix : Type} [DecidableEq Ix] {Name : Type} [DecidableEq Name] {U : Type} [URA U] {Lvl : Type} [Preorder Lvl]
variable {defs : Defs nD τ sig (Elt F) Λ₀} {𝒱 : Variants} {c : Dev nD} {M : Mr} {S : St F}
variable {bd : Option 𝒱.V} {Γ : PendingWaitsCtx sig Ix} {E : Set Name} {α : Type}
variable {Q : α → sProp (MT nD τ sig Ix (Elt F) Name U Lvl)}

theorem ld_2 {r : LoadRect S384x1024} {hl : M.m2.view.LoadsAt r} {k : (r.shape.Idx → Elt F .bf16) → Prog (TpuEff nD τ sig (Elt F) Λ₀ .tc) α}
    (h : own c M S ⊢ wp frame (wpE' defs 𝒱 (c : Thread nD τ) bd Γ) E (k (rd S.a2 r)) Q) :
    own c M S ⊢ wp frame (wpE' defs 𝒱 (c : Thread nD τ) bd Γ) E (Prog.lift (.load M.m2 r hl) >>= k) Q :=
  ld_rule (own_2 c M S) (by iintro ⟨H, K⟩; ispecialize K $$ %S.a2; iapply K; iexact H) h

theorem st_2 {off size : Fin (S384x1024).rank → ℕ} {inb : ∀ a, off a + size a ≤ (S384x1024).size a} {w : (Rect.unit (s := S384x1024) off size inb).shape.Idx → Elt F .bf16}
    {hx : (M.m2.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a2 := ovl S.a2 off size inb w } ⊢ wp frame (wpE' defs 𝒱 (c : Thread nD τ) bd Γ) E (k ⟨⟩) Q) :
    own c M S ⊢ wp frame (wpE' defs 𝒱 (c : Thread nD τ) bd Γ) E (Prog.lift (.store M.m2 (Rect.unit (s := S384x1024) off size inb) w Finset.univ hx hm) >>= k) Q :=
  st_rule (own_2 c M S) (by iintro ⟨H, K⟩; iapply K; iexact H) h

theorem ld_3 {r : LoadRect S1024x512} {hl : M.m3.view.LoadsAt r} {k : (r.shape.Idx → Elt F .bf16) → Prog (TpuEff nD τ sig (Elt F) Λ₀ .tc) α}
    (h : own c M S ⊢ wp frame (wpE' defs 𝒱 (c : Thread nD τ) bd Γ) E (k (rd S.a3 r)) Q) :
    own c M S ⊢ wp frame (wpE' defs 𝒱 (c : Thread nD τ) bd Γ) E (Prog.lift (.load M.m3 r hl) >>= k) Q :=
  ld_rule (own_3 c M S) (by iintro ⟨H, K⟩; ispecialize K $$ %S.a3; iapply K; iexact H) h

theorem st_3 {off size : Fin (S1024x512).rank → ℕ} {inb : ∀ a, off a + size a ≤ (S1024x512).size a} {w : (Rect.unit (s := S1024x512) off size inb).shape.Idx → Elt F .bf16}
    {hx : (M.m3.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a3 := ovl S.a3 off size inb w } ⊢ wp frame (wpE' defs 𝒱 (c : Thread nD τ) bd Γ) E (k ⟨⟩) Q) :
    own c M S ⊢ wp frame (wpE' defs 𝒱 (c : Thread nD τ) bd Γ) E (Prog.lift (.store M.m3 (Rect.unit (s := S1024x512) off size inb) w Finset.univ hx hm) >>= k) Q :=
  st_rule (own_3 c M S) (by iintro ⟨H, K⟩; iapply K; iexact H) h

theorem ld_4 {r : LoadRect S1024x512} {hl : M.m4.view.LoadsAt r} {k : (r.shape.Idx → Elt F .bf16) → Prog (TpuEff nD τ sig (Elt F) Λ₀ .tc) α}
    (h : own c M S ⊢ wp frame (wpE' defs 𝒱 (c : Thread nD τ) bd Γ) E (k (rd S.a4 r)) Q) :
    own c M S ⊢ wp frame (wpE' defs 𝒱 (c : Thread nD τ) bd Γ) E (Prog.lift (.load M.m4 r hl) >>= k) Q :=
  ld_rule (own_4 c M S) (by iintro ⟨H, K⟩; ispecialize K $$ %S.a4; iapply K; iexact H) h

theorem st_4 {off size : Fin (S1024x512).rank → ℕ} {inb : ∀ a, off a + size a ≤ (S1024x512).size a} {w : (Rect.unit (s := S1024x512) off size inb).shape.Idx → Elt F .bf16}
    {hx : (M.m4.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a4 := ovl S.a4 off size inb w } ⊢ wp frame (wpE' defs 𝒱 (c : Thread nD τ) bd Γ) E (k ⟨⟩) Q) :
    own c M S ⊢ wp frame (wpE' defs 𝒱 (c : Thread nD τ) bd Γ) E (Prog.lift (.store M.m4 (Rect.unit (s := S1024x512) off size inb) w Finset.univ hx hm) >>= k) Q :=
  st_rule (own_4 c M S) (by iintro ⟨H, K⟩; iapply K; iexact H) h

theorem ld_5 {r : LoadRect S1024x512} {hl : M.m5.view.LoadsAt r} {k : (r.shape.Idx → Elt F .bf16) → Prog (TpuEff nD τ sig (Elt F) Λ₀ .tc) α}
    (h : own c M S ⊢ wp frame (wpE' defs 𝒱 (c : Thread nD τ) bd Γ) E (k (rd S.a5 r)) Q) :
    own c M S ⊢ wp frame (wpE' defs 𝒱 (c : Thread nD τ) bd Γ) E (Prog.lift (.load M.m5 r hl) >>= k) Q :=
  ld_rule (own_5 c M S) (by iintro ⟨H, K⟩; ispecialize K $$ %S.a5; iapply K; iexact H) h

theorem st_5 {off size : Fin (S1024x512).rank → ℕ} {inb : ∀ a, off a + size a ≤ (S1024x512).size a} {w : (Rect.unit (s := S1024x512) off size inb).shape.Idx → Elt F .bf16}
    {hx : (M.m5.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a5 := ovl S.a5 off size inb w } ⊢ wp frame (wpE' defs 𝒱 (c : Thread nD τ) bd Γ) E (k ⟨⟩) Q) :
    own c M S ⊢ wp frame (wpE' defs 𝒱 (c : Thread nD τ) bd Γ) E (Prog.lift (.store M.m5 (Rect.unit (s := S1024x512) off size inb) w Finset.univ hx hm) >>= k) Q :=
  st_rule (own_5 c M S) (by iintro ⟨H, K⟩; iapply K; iexact H) h

theorem ld_6 {r : LoadRect S1024x512} {hl : M.m6.view.LoadsAt r} {k : (r.shape.Idx → Elt F .bf16) → Prog (TpuEff nD τ sig (Elt F) Λ₀ .tc) α}
    (h : own c M S ⊢ wp frame (wpE' defs 𝒱 (c : Thread nD τ) bd Γ) E (k (rd S.a6 r)) Q) :
    own c M S ⊢ wp frame (wpE' defs 𝒱 (c : Thread nD τ) bd Γ) E (Prog.lift (.load M.m6 r hl) >>= k) Q :=
  ld_rule (own_6 c M S) (by iintro ⟨H, K⟩; ispecialize K $$ %S.a6; iapply K; iexact H) h

theorem st_6 {off size : Fin (S1024x512).rank → ℕ} {inb : ∀ a, off a + size a ≤ (S1024x512).size a} {w : (Rect.unit (s := S1024x512) off size inb).shape.Idx → Elt F .bf16}
    {hx : (M.m6.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a6 := ovl S.a6 off size inb w } ⊢ wp frame (wpE' defs 𝒱 (c : Thread nD τ) bd Γ) E (k ⟨⟩) Q) :
    own c M S ⊢ wp frame (wpE' defs 𝒱 (c : Thread nD τ) bd Γ) E (Prog.lift (.store M.m6 (Rect.unit (s := S1024x512) off size inb) w Finset.univ hx hm) >>= k) Q :=
  st_rule (own_6 c M S) (by iintro ⟨H, K⟩; iapply K; iexact H) h

theorem ld_7 {r : LoadRect S4096x256} {hl : M.m7.view.LoadsAt r} {k : (r.shape.Idx → Elt F .bf16) → Prog (TpuEff nD τ sig (Elt F) Λ₀ .tc) α}
    (h : own c M S ⊢ wp frame (wpE' defs 𝒱 (c : Thread nD τ) bd Γ) E (k (rd S.a7 r)) Q) :
    own c M S ⊢ wp frame (wpE' defs 𝒱 (c : Thread nD τ) bd Γ) E (Prog.lift (.load M.m7 r hl) >>= k) Q :=
  ld_rule (own_7 c M S) (by iintro ⟨H, K⟩; ispecialize K $$ %S.a7; iapply K; iexact H) h

theorem st_7 {off size : Fin (S4096x256).rank → ℕ} {inb : ∀ a, off a + size a ≤ (S4096x256).size a} {w : (Rect.unit (s := S4096x256) off size inb).shape.Idx → Elt F .bf16}
    {hx : (M.m7.access (Rect.unit (s := S4096x256) off size inb)).Stores Finset.univ} {hm : (Finset.univ : Finset (Rect.unit (s := S4096x256) off size inb).shape.Idx) = Finset.univ ∨ ∀ a, (Rect.unit (s := S4096x256) off size inb).stride a = 1}
    {k : PUnit → Prog (TpuEff nD τ sig (Elt F) Λ₀ .tc) α}
    (h : own c M { S with a7 := ovl S.a7 off size inb w } ⊢ wp frame (wpE' defs 𝒱 (c : Thread nD τ) bd Γ) E (k ⟨⟩) Q) :
    own c M S ⊢ wp frame (wpE' defs 𝒱 (c : Thread nD τ) bd Γ) E (Prog.lift (.store M.m7 (Rect.unit (s := S4096x256) off size inb) w Finset.univ hx hm) >>= k) Q :=
  st_rule (own_7 c M S) (by iintro ⟨H, K⟩; iapply K; iexact H) h

theorem ld_8 {r : LoadRect S4096x256} {hl : M.m8.view.LoadsAt r} {k : (r.shape.Idx → Elt F .bf16) → Prog (TpuEff nD τ sig (Elt F) Λ₀ .tc) α}
    (h : own c M S ⊢ wp frame (wpE' defs 𝒱 (c : Thread nD τ) bd Γ) E (k (rd S.a8 r)) Q) :
    own c M S ⊢ wp frame (wpE' defs 𝒱 (c : Thread nD τ) bd Γ) E (Prog.lift (.load M.m8 r hl) >>= k) Q :=
  ld_rule (own_8 c M S) (by iintro ⟨H, K⟩; ispecialize K $$ %S.a8; iapply K; iexact H) h

theorem st_8 {off size : Fin (S4096x256).rank → ℕ} {inb : ∀ a, off a + size a ≤ (S4096x256).size a} {w : (Rect.unit (s := S4096x256) off size inb).shape.Idx → Elt F .bf16}
    {hx : (M.m8.access (Rect.unit (s := S4096x256) off size inb)).Stores Finset.univ} {hm : (Finset.univ : Finset (Rect.unit (s := S4096x256) off size inb).shape.Idx) = Finset.univ ∨ ∀ a, (Rect.unit (s := S4096x256) off size inb).stride a = 1}
    {k : PUnit → Prog (TpuEff nD τ sig (Elt F) Λ₀ .tc) α}
    (h : own c M { S with a8 := ovl S.a8 off size inb w } ⊢ wp frame (wpE' defs 𝒱 (c : Thread nD τ) bd Γ) E (k ⟨⟩) Q) :
    own c M S ⊢ wp frame (wpE' defs 𝒱 (c : Thread nD τ) bd Γ) E (Prog.lift (.store M.m8 (Rect.unit (s := S4096x256) off size inb) w Finset.univ hx hm) >>= k) Q :=
  st_rule (own_8 c M S) (by iintro ⟨H, K⟩; iapply K; iexact H) h

theorem ld_9 {r : LoadRect S4x6x1536} {hl : M.m9.view.LoadsAt r} {k : (r.shape.Idx → Elt F .f32) → Prog (TpuEff nD τ sig (Elt F) Λ₀ .tc) α}
    (h : own c M S ⊢ wp frame (wpE' defs 𝒱 (c : Thread nD τ) bd Γ) E (k (rd S.a9 r)) Q) :
    own c M S ⊢ wp frame (wpE' defs 𝒱 (c : Thread nD τ) bd Γ) E (Prog.lift (.load M.m9 r hl) >>= k) Q :=
  ld_rule (own_9 c M S) (by iintro ⟨H, K⟩; ispecialize K $$ %S.a9; iapply K; iexact H) h

theorem st_9 {off size : Fin (S4x6x1536).rank → ℕ} {inb : ∀ a, off a + size a ≤ (S4x6x1536).size a} {w : (Rect.unit (s := S4x6x1536) off size inb).shape.Idx → Elt F .f32}
    {hx : (M.m9.access (Rect.unit (s := S4x6x1536) off size inb)).Stores Finset.univ} {hm : (Finset.univ : Finset (Rect.unit (s := S4x6x1536) off size inb).shape.Idx) = Finset.univ ∨ ∀ a, (Rect.unit (s := S4x6x1536) off size inb).stride a = 1}
    {k : PUnit → Prog (TpuEff nD τ sig (Elt F) Λ₀ .tc) α}
    (h : own c M { S with a9 := ovl S.a9 off size inb w } ⊢ wp frame (wpE' defs 𝒱 (c : Thread nD τ) bd Γ) E (k ⟨⟩) Q) :
    own c M S ⊢ wp frame (wpE' defs 𝒱 (c : Thread nD τ) bd Γ) E (Prog.lift (.store M.m9 (Rect.unit (s := S4x6x1536) off size inb) w Finset.univ hx hm) >>= k) Q :=
  st_rule (own_9 c M S) (by iintro ⟨H, K⟩; iapply K; iexact H) h

theorem ld_10 {r : LoadRect S4x1024} {hl : M.m10.view.LoadsAt r} {k : (r.shape.Idx → Elt F .f32) → Prog (TpuEff nD τ sig (Elt F) Λ₀ .tc) α}
    (h : own c M S ⊢ wp frame (wpE' defs 𝒱 (c : Thread nD τ) bd Γ) E (k (rd S.a10 r)) Q) :
    own c M S ⊢ wp frame (wpE' defs 𝒱 (c : Thread nD τ) bd Γ) E (Prog.lift (.load M.m10 r hl) >>= k) Q :=
  ld_rule (own_10 c M S) (by iintro ⟨H, K⟩; ispecialize K $$ %S.a10; iapply K; iexact H) h

theorem st_10 {off size : Fin (S4x1024).rank → ℕ} {inb : ∀ a, off a + size a ≤ (S4x1024).size a} {w : (Rect.unit (s := S4x1024) off size inb).shape.Idx → Elt F .f32}
    {hx : (M.m10.access (Rect.unit (s := S4x1024) off size inb)).Stores Finset.univ} {hm : (Finset.univ : Finset (Rect.unit (s := S4x1024) off size inb).shape.Idx) = Finset.univ ∨ ∀ a, (Rect.unit (s := S4x1024) off size inb).stride a = 1}
    {k : PUnit → Prog (TpuEff nD τ sig (Elt F) Λ₀ .tc) α}
    (h : own c M { S with a10 := ovl S.a10 off size inb w } ⊢ wp frame (wpE' defs 𝒱 (c : Thread nD τ) bd Γ) E (k ⟨⟩) Q) :
    own c M S ⊢ wp frame (wpE' defs 𝒱 (c : Thread nD τ) bd Γ) E (Prog.lift (.store M.m10 (Rect.unit (s := S4x1024) off size inb) w Finset.univ hx hm) >>= k) Q :=
  st_rule (own_10 c M S) (by iintro ⟨H, K⟩; iapply K; iexact H) h

theorem ld_11 {r : LoadRect S6x1536} {hl : M.m11.view.LoadsAt r} {k : (r.shape.Idx → Elt F .f32) → Prog (TpuEff nD τ sig (Elt F) Λ₀ .tc) α}
    (h : own c M S ⊢ wp frame (wpE' defs 𝒱 (c : Thread nD τ) bd Γ) E (k (rd S.a11 r)) Q) :
    own c M S ⊢ wp frame (wpE' defs 𝒱 (c : Thread nD τ) bd Γ) E (Prog.lift (.load M.m11 r hl) >>= k) Q :=
  ld_rule (own_11 c M S) (by iintro ⟨H, K⟩; ispecialize K $$ %S.a11; iapply K; iexact H) h

theorem st_11 {off size : Fin (S6x1536).rank → ℕ} {inb : ∀ a, off a + size a ≤ (S6x1536).size a} {w : (Rect.unit (s := S6x1536) off size inb).shape.Idx → Elt F .f32}
    {hx : (M.m11.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a11 := ovl S.a11 off size inb w } ⊢ wp frame (wpE' defs 𝒱 (c : Thread nD τ) bd Γ) E (k ⟨⟩) Q) :
    own c M S ⊢ wp frame (wpE' defs 𝒱 (c : Thread nD τ) bd Γ) E (Prog.lift (.store M.m11 (Rect.unit (s := S6x1536) off size inb) w Finset.univ hx hm) >>= k) Q :=
  st_rule (own_11 c M S) (by iintro ⟨H, K⟩; iapply K; iexact H) h

theorem ld_12 {r : LoadRect S384x1024} {hl : M.m12.view.LoadsAt r} {k : (r.shape.Idx → Elt F .bf16) → Prog (TpuEff nD τ sig (Elt F) Λ₀ .tc) α}
    (h : own c M S ⊢ wp frame (wpE' defs 𝒱 (c : Thread nD τ) bd Γ) E (k (rd S.a12 r)) Q) :
    own c M S ⊢ wp frame (wpE' defs 𝒱 (c : Thread nD τ) bd Γ) E (Prog.lift (.load M.m12 r hl) >>= k) Q :=
  ld_rule (own_12 c M S) (by iintro ⟨H, K⟩; ispecialize K $$ %S.a12; iapply K; iexact H) h

theorem st_12 {off size : Fin (S384x1024).rank → ℕ} {inb : ∀ a, off a + size a ≤ (S384x1024).size a} {w : (Rect.unit (s := S384x1024) off size inb).shape.Idx → Elt F .bf16}
    {hx : (M.m12.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a12 := ovl S.a12 off size inb w } ⊢ wp frame (wpE' defs 𝒱 (c : Thread nD τ) bd Γ) E (k ⟨⟩) Q) :
    own c M S ⊢ wp frame (wpE' defs 𝒱 (c : Thread nD τ) bd Γ) E (Prog.lift (.store M.m12 (Rect.unit (s := S384x1024) off size inb) w Finset.univ hx hm) >>= k) Q :=
  st_rule (own_12 c M S) (by iintro ⟨H, K⟩; iapply K; iexact H) h

theorem ld_13 {r : LoadRect S384x1024} {hl : M.m13.view.LoadsAt r} {k : (r.shape.Idx → Elt F .i8) → Prog (TpuEff nD τ sig (Elt F) Λ₀ .tc) α}
    (h : own c M S ⊢ wp frame (wpE' defs 𝒱 (c : Thread nD τ) bd Γ) E (k (rd S.a13 r)) Q) :
    own c M S ⊢ wp frame (wpE' defs 𝒱 (c : Thread nD τ) bd Γ) E (Prog.lift (.load M.m13 r hl) >>= k) Q :=
  ld_rule (own_13 c M S) (by iintro ⟨H, K⟩; ispecialize K $$ %S.a13; iapply K; iexact H) h

theorem st_13 {off size : Fin (S384x1024).rank → ℕ} {inb : ∀ a, off a + size a ≤ (S384x1024).size a} {w : (Rect.unit (s := S384x1024) off size inb).shape.Idx → Elt F .i8}
    {hx : (M.m13.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a13 := ovl S.a13 off size inb w } ⊢ wp frame (wpE' defs 𝒱 (c : Thread nD τ) bd Γ) E (k ⟨⟩) Q) :
    own c M S ⊢ wp frame (wpE' defs 𝒱 (c : Thread nD τ) bd Γ) E (Prog.lift (.store M.m13 (Rect.unit (s := S384x1024) off size inb) w Finset.univ hx hm) >>= k) Q :=
  st_rule (own_13 c M S) (by iintro ⟨H, K⟩; iapply K; iexact H) h

theorem ld_14 {r : LoadRect S6x1536} {hl : M.m14.view.LoadsAt r} {k : (r.shape.Idx → Elt F .f32) → Prog (TpuEff nD τ sig (Elt F) Λ₀ .tc) α}
    (h : own c M S ⊢ wp frame (wpE' defs 𝒱 (c : Thread nD τ) bd Γ) E (k (rd S.a14 r)) Q) :
    own c M S ⊢ wp frame (wpE' defs 𝒱 (c : Thread nD τ) bd Γ) E (Prog.lift (.load M.m14 r hl) >>= k) Q :=
  ld_rule (own_14 c M S) (by iintro ⟨H, K⟩; ispecialize K $$ %S.a14; iapply K; iexact H) h

theorem st_14 {off size : Fin (S6x1536).rank → ℕ} {inb : ∀ a, off a + size a ≤ (S6x1536).size a} {w : (Rect.unit (s := S6x1536) off size inb).shape.Idx → Elt F .f32}
    {hx : (M.m14.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a14 := ovl S.a14 off size inb w } ⊢ wp frame (wpE' defs 𝒱 (c : Thread nD τ) bd Γ) E (k ⟨⟩) Q) :
    own c M S ⊢ wp frame (wpE' defs 𝒱 (c : Thread nD τ) bd Γ) E (Prog.lift (.store M.m14 (Rect.unit (s := S6x1536) off size inb) w Finset.univ hx hm) >>= k) Q :=
  st_rule (own_14 c M S) (by iintro ⟨H, K⟩; iapply K; iexact H) h

theorem ld_15 {r : LoadRect S384x4096} {hl : M.m15.view.LoadsAt r} {k : (r.shape.Idx → Elt F .i8) → Prog (TpuEff nD τ sig (Elt F) Λ₀ .tc) α}
    (h : own c M S ⊢ wp frame (wpE' defs 𝒱 (c : Thread nD τ) bd Γ) E (k (rd S.a15 r)) Q) :
    own c M S ⊢ wp frame (wpE' defs 𝒱 (c : Thread nD τ) bd Γ) E (Prog.lift (.load M.m15 r hl) >>= k) Q :=
  ld_rule (own_15 c M S) (by iintro ⟨H, K⟩; ispecialize K $$ %S.a15; iapply K; iexact H) h

theorem st_15 {off size : Fin (S384x4096).rank → ℕ} {inb : ∀ a, off a + size a ≤ (S384x4096).size a} {w : (Rect.unit (s := S384x4096) off size inb).shape.Idx → Elt F .i8}
    {hx : (M.m15.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a15 := ovl S.a15 off size inb w } ⊢ wp frame (wpE' defs 𝒱 (c : Thread nD τ) bd Γ) E (k ⟨⟩) Q) :
    own c M S ⊢ wp frame (wpE' defs 𝒱 (c : Thread nD τ) bd Γ) E (Prog.lift (.store M.m15 (Rect.unit (s := S384x4096) off size inb) w Finset.univ hx hm) >>= k) Q :=
  st_rule (own_15 c M S) (by iintro ⟨H, K⟩; iapply K; iexact H) h

theorem ld_16 {r : LoadRect S6x1536} {hl : M.m16.view.LoadsAt r} {k : (r.shape.Idx → Elt F .f32) → Prog (TpuEff nD τ sig (Elt F) Λ₀ .tc) α}
    (h : own c M S ⊢ wp frame (wpE' defs 𝒱 (c : Thread nD τ) bd Γ) E (k (rd S.a16 r)) Q) :
    own c M S ⊢ wp frame (wpE' defs 𝒱 (c : Thread nD τ) bd Γ) E (Prog.lift (.load M.m16 r hl) >>= k) Q :=
  ld_rule (own_16 c M S) (by iintro ⟨H, K⟩; ispecialize K $$ %S.a16; iapply K; iexact H) h

theorem st_16 {off size : Fin (S6x1536).rank → ℕ} {inb : ∀ a, off a + size a ≤ (S6x1536).size a} {w : (Rect.unit (s := S6x1536) off size inb).shape.Idx → Elt F .f32}
    {hx : (M.m16.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a16 := ovl S.a16 off size inb w } ⊢ wp frame (wpE' defs 𝒱 (c : Thread nD τ) bd Γ) E (k ⟨⟩) Q) :
    own c M S ⊢ wp frame (wpE' defs 𝒱 (c : Thread nD τ) bd Γ) E (Prog.lift (.store M.m16 (Rect.unit (s := S6x1536) off size inb) w Finset.univ hx hm) >>= k) Q :=
  st_rule (own_16 c M S) (by iintro ⟨H, K⟩; iapply K; iexact H) h

theorem ld_17 {r : LoadRect S384x4096} {hl : M.m17.view.LoadsAt r} {k : (r.shape.Idx → Elt F .i8) → Prog (TpuEff nD τ sig (Elt F) Λ₀ .tc) α}
    (h : own c M S ⊢ wp frame (wpE' defs 𝒱 (c : Thread nD τ) bd Γ) E (k (rd S.a17 r)) Q) :
    own c M S ⊢ wp frame (wpE' defs 𝒱 (c : Thread nD τ) bd Γ) E (Prog.lift (.load M.m17 r hl) >>= k) Q :=
  ld_rule (own_17 c M S) (by iintro ⟨H, K⟩; ispecialize K $$ %S.a17; iapply K; iexact H) h

theorem st_17 {off size : Fin (S384x4096).rank → ℕ} {inb : ∀ a, off a + size a ≤ (S384x4096).size a} {w : (Rect.unit (s := S384x4096) off size inb).shape.Idx → Elt F .i8}
    {hx : (M.m17.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a17 := ovl S.a17 off size inb w } ⊢ wp frame (wpE' defs 𝒱 (c : Thread nD τ) bd Γ) E (k ⟨⟩) Q) :
    own c M S ⊢ wp frame (wpE' defs 𝒱 (c : Thread nD τ) bd Γ) E (Prog.lift (.store M.m17 (Rect.unit (s := S384x4096) off size inb) w Finset.univ hx hm) >>= k) Q :=
  st_rule (own_17 c M S) (by iintro ⟨H, K⟩; iapply K; iexact H) h

theorem ld_18 {r : LoadRect S6x1536} {hl : M.m18.view.LoadsAt r} {k : (r.shape.Idx → Elt F .f32) → Prog (TpuEff nD τ sig (Elt F) Λ₀ .tc) α}
    (h : own c M S ⊢ wp frame (wpE' defs 𝒱 (c : Thread nD τ) bd Γ) E (k (rd S.a18 r)) Q) :
    own c M S ⊢ wp frame (wpE' defs 𝒱 (c : Thread nD τ) bd Γ) E (Prog.lift (.load M.m18 r hl) >>= k) Q :=
  ld_rule (own_18 c M S) (by iintro ⟨H, K⟩; ispecialize K $$ %S.a18; iapply K; iexact H) h

theorem st_18 {off size : Fin (S6x1536).rank → ℕ} {inb : ∀ a, off a + size a ≤ (S6x1536).size a} {w : (Rect.unit (s := S6x1536) off size inb).shape.Idx → Elt F .f32}
    {hx : (M.m18.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a18 := ovl S.a18 off size inb w } ⊢ wp frame (wpE' defs 𝒱 (c : Thread nD τ) bd Γ) E (k ⟨⟩) Q) :
    own c M S ⊢ wp frame (wpE' defs 𝒱 (c : Thread nD τ) bd Γ) E (Prog.lift (.store M.m18 (Rect.unit (s := S6x1536) off size inb) w Finset.univ hx hm) >>= k) Q :=
  st_rule (own_18 c M S) (by iintro ⟨H, K⟩; iapply K; iexact H) h

theorem ld_19 {r : LoadRect S384x1024} {hl : M.m19.view.LoadsAt r} {k : (r.shape.Idx → Elt F .bf16) → Prog (TpuEff nD τ sig (Elt F) Λ₀ .tc) α}
    (h : own c M S ⊢ wp frame (wpE' defs 𝒱 (c : Thread nD τ) bd Γ) E (k (rd S.a19 r)) Q) :
    own c M S ⊢ wp frame (wpE' defs 𝒱 (c : Thread nD τ) bd Γ) E (Prog.lift (.load M.m19 r hl) >>= k) Q :=
  ld_rule (own_19 c M S) (by iintro ⟨H, K⟩; ispecialize K $$ %S.a19; iapply K; iexact H) h

theorem st_19 {off size : Fin (S384x1024).rank → ℕ} {inb : ∀ a, off a + size a ≤ (S384x1024).size a} {w : (Rect.unit (s := S384x1024) off size inb).shape.Idx → Elt F .bf16}
    {hx : (M.m19.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a19 := ovl S.a19 off size inb w } ⊢ wp frame (wpE' defs 𝒱 (c : Thread nD τ) bd Γ) E (k ⟨⟩) Q) :
    own c M S ⊢ wp frame (wpE' defs 𝒱 (c : Thread nD τ) bd Γ) E (Prog.lift (.store M.m19 (Rect.unit (s := S384x1024) off size inb) w Finset.univ hx hm) >>= k) Q :=
  st_rule (own_19 c M S) (by iintro ⟨H, K⟩; iapply K; iexact H) h

theorem ld_20 {r : LoadRect S384x128} {hl : M.m20.view.LoadsAt r} {k : (r.shape.Idx → Elt F .f32) → Prog (TpuEff nD τ sig (Elt F) Λ₀ .tc) α}
    (h : own c M S ⊢ wp frame (wpE' defs 𝒱 (c : Thread nD τ) bd Γ) E (k (rd S.a20 r)) Q) :
    own c M S ⊢ wp frame (wpE' defs 𝒱 (c : Thread nD τ) bd Γ) E (Prog.lift (.load M.m20 r hl) >>= k) Q :=
  ld_rule (own_20 c M S) (by iintro ⟨H, K⟩; ispecialize K $$ %S.a20; iapply K; iexact H) h

theorem st_20 {off size : Fin (S384x128).rank → ℕ} {inb : ∀ a, off a + size a ≤ (S384x128).size a} {w : (Rect.unit (s := S384x128) off size inb).shape.Idx → Elt F .f32}
    {hx : (M.m20.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a20 := ovl S.a20 off size inb w } ⊢ wp frame (wpE' defs 𝒱 (c : Thread nD τ) bd Γ) E (k ⟨⟩) Q) :
    own c M S ⊢ wp frame (wpE' defs 𝒱 (c : Thread nD τ) bd Γ) E (Prog.lift (.store M.m20 (Rect.unit (s := S384x128) off size inb) w Finset.univ hx hm) >>= k) Q :=
  st_rule (own_20 c M S) (by iintro ⟨H, K⟩; iapply K; iexact H) h

theorem ld_21 {r : LoadRect S384x4096} {hl : M.m21.view.LoadsAt r} {k : (r.shape.Idx → Elt F .f32) → Prog (TpuEff nD τ sig (Elt F) Λ₀ .tc) α}
    (h : own c M S ⊢ wp frame (wpE' defs 𝒱 (c : Thread nD τ) bd Γ) E (k (rd S.a21 r)) Q) :
    own c M S ⊢ wp frame (wpE' defs 𝒱 (c : Thread nD τ) bd Γ) E (Prog.lift (.load M.m21 r hl) >>= k) Q :=
  ld_rule (own_21 c M S) (by iintro ⟨H, K⟩; ispecialize K $$ %S.a21; iapply K; iexact H) h

theorem st_21 {off size : Fin (S384x4096).rank → ℕ} {inb : ∀ a, off a + size a ≤ (S384x4096).size a} {w : (Rect.unit (s := S384x4096) off size inb).shape.Idx → Elt F .f32}
    {hx : (M.m21.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a21 := ovl S.a21 off size inb w } ⊢ wp frame (wpE' defs 𝒱 (c : Thread nD τ) bd Γ) E (k ⟨⟩) Q) :
    own c M S ⊢ wp frame (wpE' defs 𝒱 (c : Thread nD τ) bd Γ) E (Prog.lift (.store M.m21 (Rect.unit (s := S384x4096) off size inb) w Finset.univ hx hm) >>= k) Q :=
  st_rule (own_21 c M S) (by iintro ⟨H, K⟩; iapply K; iexact H) h

theorem ld_22 {r : LoadRect S384x4096} {hl : M.m22.view.LoadsAt r} {k : (r.shape.Idx → Elt F .f32) → Prog (TpuEff nD τ sig (Elt F) Λ₀ .tc) α}
    (h : own c M S ⊢ wp frame (wpE' defs 𝒱 (c : Thread nD τ) bd Γ) E (k (rd S.a22 r)) Q) :
    own c M S ⊢ wp frame (wpE' defs 𝒱 (c : Thread nD τ) bd Γ) E (Prog.lift (.load M.m22 r hl) >>= k) Q :=
  ld_rule (own_22 c M S) (by iintro ⟨H, K⟩; ispecialize K $$ %S.a22; iapply K; iexact H) h

theorem st_22 {off size : Fin (S384x4096).rank → ℕ} {inb : ∀ a, off a + size a ≤ (S384x4096).size a} {w : (Rect.unit (s := S384x4096) off size inb).shape.Idx → Elt F .f32}
    {hx : (M.m22.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a22 := ovl S.a22 off size inb w } ⊢ wp frame (wpE' defs 𝒱 (c : Thread nD τ) bd Γ) E (k ⟨⟩) Q) :
    own c M S ⊢ wp frame (wpE' defs 𝒱 (c : Thread nD τ) bd Γ) E (Prog.lift (.store M.m22 (Rect.unit (s := S384x4096) off size inb) w Finset.univ hx hm) >>= k) Q :=
  st_rule (own_22 c M S) (by iintro ⟨H, K⟩; iapply K; iexact H) h

theorem ld_23 {r : LoadRect S384x4096} {hl : M.m23.view.LoadsAt r} {k : (r.shape.Idx → Elt F .bf16) → Prog (TpuEff nD τ sig (Elt F) Λ₀ .tc) α}
    (h : own c M S ⊢ wp frame (wpE' defs 𝒱 (c : Thread nD τ) bd Γ) E (k (rd S.a23 r)) Q) :
    own c M S ⊢ wp frame (wpE' defs 𝒱 (c : Thread nD τ) bd Γ) E (Prog.lift (.load M.m23 r hl) >>= k) Q :=
  ld_rule (own_23 c M S) (by iintro ⟨H, K⟩; ispecialize K $$ %S.a23; iapply K; iexact H) h

theorem st_23 {off size : Fin (S384x4096).rank → ℕ} {inb : ∀ a, off a + size a ≤ (S384x4096).size a} {w : (Rect.unit (s := S384x4096) off size inb).shape.Idx → Elt F .bf16}
    {hx : (M.m23.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a23 := ovl S.a23 off size inb w } ⊢ wp frame (wpE' defs 𝒱 (c : Thread nD τ) bd Γ) E (k ⟨⟩) Q) :
    own c M S ⊢ wp frame (wpE' defs 𝒱 (c : Thread nD τ) bd Γ) E (Prog.lift (.store M.m23 (Rect.unit (s := S384x4096) off size inb) w Finset.univ hx hm) >>= k) Q :=
  st_rule (own_23 c M S) (by iintro ⟨H, K⟩; iapply K; iexact H) h

theorem ld_24 {r : LoadRect S384x4096} {hl : M.m24.view.LoadsAt r} {k : (r.shape.Idx → Elt F .bf16) → Prog (TpuEff nD τ sig (Elt F) Λ₀ .tc) α}
    (h : own c M S ⊢ wp frame (wpE' defs 𝒱 (c : Thread nD τ) bd Γ) E (k (rd S.a24 r)) Q) :
    own c M S ⊢ wp frame (wpE' defs 𝒱 (c : Thread nD τ) bd Γ) E (Prog.lift (.load M.m24 r hl) >>= k) Q :=
  ld_rule (own_24 c M S) (by iintro ⟨H, K⟩; ispecialize K $$ %S.a24; iapply K; iexact H) h

theorem st_24 {off size : Fin (S384x4096).rank → ℕ} {inb : ∀ a, off a + size a ≤ (S384x4096).size a} {w : (Rect.unit (s := S384x4096) off size inb).shape.Idx → Elt F .bf16}
    {hx : (M.m24.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a24 := ovl S.a24 off size inb w } ⊢ wp frame (wpE' defs 𝒱 (c : Thread nD τ) bd Γ) E (k ⟨⟩) Q) :
    own c M S ⊢ wp frame (wpE' defs 𝒱 (c : Thread nD τ) bd Γ) E (Prog.lift (.store M.m24 (Rect.unit (s := S384x4096) off size inb) w Finset.univ hx hm) >>= k) Q :=
  st_rule (own_24 c M S) (by iintro ⟨H, K⟩; iapply K; iexact H) h

theorem ld_25 {r : LoadRect S384x4096} {hl : M.m25.view.LoadsAt r} {k : (r.shape.Idx → Elt F .bf16) → Prog (TpuEff nD τ sig (Elt F) Λ₀ .tc) α}
    (h : own c M S ⊢ wp frame (wpE' defs 𝒱 (c : Thread nD τ) bd Γ) E (k (rd S.a25 r)) Q) :
    own c M S ⊢ wp frame (wpE' defs 𝒱 (c : Thread nD τ) bd Γ) E (Prog.lift (.load M.m25 r hl) >>= k) Q :=
  ld_rule (own_25 c M S) (by iintro ⟨H, K⟩; ispecialize K $$ %S.a25; iapply K; iexact H) h

theorem st_25 {off size : Fin (S384x4096).rank → ℕ} {inb : ∀ a, off a + size a ≤ (S384x4096).size a} {w : (Rect.unit (s := S384x4096) off size inb).shape.Idx → Elt F .bf16}
    {hx : (M.m25.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a25 := ovl S.a25 off size inb w } ⊢ wp frame (wpE' defs 𝒱 (c : Thread nD τ) bd Γ) E (k ⟨⟩) Q) :
    own c M S ⊢ wp frame (wpE' defs 𝒱 (c : Thread nD τ) bd Γ) E (Prog.lift (.store M.m25 (Rect.unit (s := S384x4096) off size inb) w Finset.univ hx hm) >>= k) Q :=
  st_rule (own_25 c M S) (by iintro ⟨H, K⟩; iapply K; iexact H) h

theorem ld_26 {r : LoadRect S384x128} {hl : M.m26.view.LoadsAt r} {k : (r.shape.Idx → Elt F .f32) → Prog (TpuEff nD τ sig (Elt F) Λ₀ .tc) α}
    (h : own c M S ⊢ wp frame (wpE' defs 𝒱 (c : Thread nD τ) bd Γ) E (k (rd S.a26 r)) Q) :
    own c M S ⊢ wp frame (wpE' defs 𝒱 (c : Thread nD τ) bd Γ) E (Prog.lift (.load M.m26 r hl) >>= k) Q :=
  ld_rule (own_26 c M S) (by iintro ⟨H, K⟩; ispecialize K $$ %S.a26; iapply K; iexact H) h

theorem st_26 {off size : Fin (S384x128).rank → ℕ} {inb : ∀ a, off a + size a ≤ (S384x128).size a} {w : (Rect.unit (s := S384x128) off size inb).shape.Idx → Elt F .f32}
    {hx : (M.m26.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a26 := ovl S.a26 off size inb w } ⊢ wp frame (wpE' defs 𝒱 (c : Thread nD τ) bd Γ) E (k ⟨⟩) Q) :
    own c M S ⊢ wp frame (wpE' defs 𝒱 (c : Thread nD τ) bd Γ) E (Prog.lift (.store M.m26 (Rect.unit (s := S384x128) off size inb) w Finset.univ hx hm) >>= k) Q :=
  st_rule (own_26 c M S) (by iintro ⟨H, K⟩; iapply K; iexact H) h

theorem ld_27 {r : LoadRect S384x128} {hl : M.m27.view.LoadsAt r} {k : (r.shape.Idx → Elt F .f32) → Prog (TpuEff nD τ sig (Elt F) Λ₀ .tc) α}
    (h : own c M S ⊢ wp frame (wpE' defs 𝒱 (c : Thread nD τ) bd Γ) E (k (rd S.a27 r)) Q) :
    own c M S ⊢ wp frame (wpE' defs 𝒱 (c : Thread nD τ) bd Γ) E (Prog.lift (.load M.m27 r hl) >>= k) Q :=
  ld_rule (own_27 c M S) (by iintro ⟨H, K⟩; ispecialize K $$ %S.a27; iapply K; iexact H) h

theorem st_27 {off size : Fin (S384x128).rank → ℕ} {inb : ∀ a, off a + size a ≤ (S384x128).size a} {w : (Rect.unit (s := S384x128) off size inb).shape.Idx → Elt F .f32}
    {hx : (M.m27.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a27 := ovl S.a27 off size inb w } ⊢ wp frame (wpE' defs 𝒱 (c : Thread nD τ) bd Γ) E (k ⟨⟩) Q) :
    own c M S ⊢ wp frame (wpE' defs 𝒱 (c : Thread nD τ) bd Γ) E (Prog.lift (.store M.m27 (Rect.unit (s := S384x128) off size inb) w Finset.univ hx hm) >>= k) Q :=
  st_rule (own_27 c M S) (by iintro ⟨H, K⟩; iapply K; iexact H) h

theorem ld_28 {r : LoadRect S384x128} {hl : M.m28.view.LoadsAt r} {k : (r.shape.Idx → Elt F .f32) → Prog (TpuEff nD τ sig (Elt F) Λ₀ .tc) α}
    (h : own c M S ⊢ wp frame (wpE' defs 𝒱 (c : Thread nD τ) bd Γ) E (k (rd S.a28 r)) Q) :
    own c M S ⊢ wp frame (wpE' defs 𝒱 (c : Thread nD τ) bd Γ) E (Prog.lift (.load M.m28 r hl) >>= k) Q :=
  ld_rule (own_28 c M S) (by iintro ⟨H, K⟩; ispecialize K $$ %S.a28; iapply K; iexact H) h

theorem st_28 {off size : Fin (S384x128).rank → ℕ} {inb : ∀ a, off a + size a ≤ (S384x128).size a} {w : (Rect.unit (s := S384x128) off size inb).shape.Idx → Elt F .f32}
    {hx : (M.m28.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a28 := ovl S.a28 off size inb w } ⊢ wp frame (wpE' defs 𝒱 (c : Thread nD τ) bd Γ) E (k ⟨⟩) Q) :
    own c M S ⊢ wp frame (wpE' defs 𝒱 (c : Thread nD τ) bd Γ) E (Prog.lift (.store M.m28 (Rect.unit (s := S384x128) off size inb) w Finset.univ hx hm) >>= k) Q :=
  st_rule (own_28 c M S) (by iintro ⟨H, K⟩; iapply K; iexact H) h

theorem ld_29 {r : LoadRect S384x128} {hl : M.m29.view.LoadsAt r} {k : (r.shape.Idx → Elt F .f32) → Prog (TpuEff nD τ sig (Elt F) Λ₀ .tc) α}
    (h : own c M S ⊢ wp frame (wpE' defs 𝒱 (c : Thread nD τ) bd Γ) E (k (rd S.a29 r)) Q) :
    own c M S ⊢ wp frame (wpE' defs 𝒱 (c : Thread nD τ) bd Γ) E (Prog.lift (.load M.m29 r hl) >>= k) Q :=
  ld_rule (own_29 c M S) (by iintro ⟨H, K⟩; ispecialize K $$ %S.a29; iapply K; iexact H) h

theorem st_29 {off size : Fin (S384x128).rank → ℕ} {inb : ∀ a, off a + size a ≤ (S384x128).size a} {w : (Rect.unit (s := S384x128) off size inb).shape.Idx → Elt F .f32}
    {hx : (M.m29.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a29 := ovl S.a29 off size inb w } ⊢ wp frame (wpE' defs 𝒱 (c : Thread nD τ) bd Γ) E (k ⟨⟩) Q) :
    own c M S ⊢ wp frame (wpE' defs 𝒱 (c : Thread nD τ) bd Γ) E (Prog.lift (.store M.m29 (Rect.unit (s := S384x128) off size inb) w Finset.univ hx hm) >>= k) Q :=
  st_rule (own_29 c M S) (by iintro ⟨H, K⟩; iapply K; iexact H) h

theorem ld_30 {r : LoadRect S5x384x128} {hl : M.m30.view.LoadsAt r} {k : (r.shape.Idx → Elt F .f32) → Prog (TpuEff nD τ sig (Elt F) Λ₀ .tc) α}
    (h : own c M S ⊢ wp frame (wpE' defs 𝒱 (c : Thread nD τ) bd Γ) E (k (rd S.a30 r)) Q) :
    own c M S ⊢ wp frame (wpE' defs 𝒱 (c : Thread nD τ) bd Γ) E (Prog.lift (.load M.m30 r hl) >>= k) Q :=
  ld_rule (own_30 c M S) (by iintro ⟨H, K⟩; ispecialize K $$ %S.a30; iapply K; iexact H) h

theorem st_30 {off size : Fin (S5x384x128).rank → ℕ} {inb : ∀ a, off a + size a ≤ (S5x384x128).size a} {w : (Rect.unit (s := S5x384x128) off size inb).shape.Idx → Elt F .f32}
    {hx : (M.m30.access (Rect.unit (s := S5x384x128) off size inb)).Stores Finset.univ} {hm : (Finset.univ : Finset (Rect.unit (s := S5x384x128) off size inb).shape.Idx) = Finset.univ ∨ ∀ a, (Rect.unit (s := S5x384x128) off size inb).stride a = 1}
    {k : PUnit → Prog (TpuEff nD τ sig (Elt F) Λ₀ .tc) α}
    (h : own c M { S with a30 := ovl S.a30 off size inb w } ⊢ wp frame (wpE' defs 𝒱 (c : Thread nD τ) bd Γ) E (k ⟨⟩) Q) :
    own c M S ⊢ wp frame (wpE' defs 𝒱 (c : Thread nD τ) bd Γ) E (Prog.lift (.store M.m30 (Rect.unit (s := S5x384x128) off size inb) w Finset.univ hx hm) >>= k) Q :=
  st_rule (own_30 c M S) (by iintro ⟨H, K⟩; iapply K; iexact H) h

theorem ld_31 {r : LoadRect S4x8x1024} {hl : M.m31.view.LoadsAt r} {k : (r.shape.Idx → Elt F .f32) → Prog (TpuEff nD τ sig (Elt F) Λ₀ .tc) α}
    (h : own c M S ⊢ wp frame (wpE' defs 𝒱 (c : Thread nD τ) bd Γ) E (k (rd S.a31 r)) Q) :
    own c M S ⊢ wp frame (wpE' defs 𝒱 (c : Thread nD τ) bd Γ) E (Prog.lift (.load M.m31 r hl) >>= k) Q :=
  ld_rule (own_31 c M S) (by iintro ⟨H, K⟩; ispecialize K $$ %S.a31; iapply K; iexact H) h

theorem st_31 {off size : Fin (S4x8x1024).rank → ℕ} {inb : ∀ a, off a + size a ≤ (S4x8x1024).size a} {w : (Rect.unit (s := S4x8x1024) off size inb).shape.Idx → Elt F .f32}
    {hx : (M.m31.access (Rect.unit (s := S4x8x1024) off size inb)).Stores Finset.univ} {hm : (Finset.univ : Finset (Rect.unit (s := S4x8x1024) off size inb).shape.Idx) = Finset.univ ∨ ∀ a, (Rect.unit (s := S4x8x1024) off size inb).stride a = 1}
    {k : PUnit → Prog (TpuEff nD τ sig (Elt F) Λ₀ .tc) α}
    (h : own c M { S with a31 := ovl S.a31 off size inb w } ⊢ wp frame (wpE' defs 𝒱 (c : Thread nD τ) bd Γ) E (k ⟨⟩) Q) :
    own c M S ⊢ wp frame (wpE' defs 𝒱 (c : Thread nD τ) bd Γ) E (Prog.lift (.store M.m31 (Rect.unit (s := S4x8x1024) off size inb) w Finset.univ hx hm) >>= k) Q :=
  st_rule (own_31 c M S) (by iintro ⟨H, K⟩; iapply K; iexact H) h

end Rules

end Cert.KernelIdeal.Hand
-- ==== Proof.Body.lean ====
/- The main kernel's body as a function on the state: what each of its seven conditional blocks leaves, and the body run on
   the buffers held at any state. -/
module

public import proofs.«01_k».proof.Proof.State

@[expose] public section

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Hand Gen

variable {F : FTy → Type} [FloatOps F]

/-- Condition 2: the first column block of the first row tile. -/
def k3_cond2 (i : grid3.Coords) : BitVec 1 :=
  Scalar.cmpi .ne (Scalar.extui (Scalar.andi (Scalar.cmpi .eq (BitVec.ofNat 32 (i 1).val) 0#32) (Scalar.cmpi .eq (BitVec.ofNat 32 (i 0).val) 0#32))) 0#32

/-- What the block under condition 1 leaves. -/
def b1 (i : grid3.Coords) (h : k3_cond1 i = 1#1) (S : St F) : St F :=
  let l0 := rd S.a2 (Rect.unit (s := S384x1024) ![0, 0] S384x1024.size inb_S384x1024_S384x1024_0_0).toLoadRect
  let x2 := ovl S.a19 ![0, 0] S384x1024.size inb_S384x1024_S384x1024_0_0 (k3_pay21 l0)
  let x4 := ovl S.a13 ![0, 0] S384x1024.size inb_S384x1024_S384x1024_0_0 (k3_pay22 l0)
  let x6 := ovl S.a20 ![0, 0] S384x128.size inb_S384x128_S384x128_0_0 (k3_pay23 l0)
  let x8 := ovl S.a26 ![0, 0] S384x128.size inb_S384x128_S384x128_0_0 (k3_pay24 (F := F))
  let p10 := (k3_pay19 l0)
  let p11 := (k3_pay25 (F := F))
  let x12 := ovl S.a27 ![0, 0] S384x128.size inb_S384x128_S384x128_0_0 (k3_pay66 p11)
  let x14 := ovl S.a30 ![0, 0, 0] S5x384x128.size inb_S5x384x128_S5x384x128_0_0_0 (k3_pay67 (F := F))
  let x16 := ovl S.a14 (k3_off1 i) S1x384.size (k3_off1_inb i h) (k3_pay68 p10)
  { S with a19 := x2, a13 := x4, a20 := x6, a26 := x8, a27 := x12, a30 := x14, a14 := x16 }

def s1 (i : grid3.Coords) (S : St F) : St F := if h : k3_cond1 i = 1#1 then b1 i h S else S

/-- What the block under condition 2 leaves. -/
def b2 (i : grid3.Coords) (h : k3_cond2 i = 1#1) (S : St F) : St F :=
  let x1 := ovl S.a31 ![0, 0, 0] S4x8x1024.size inb_S4x8x1024_S4x8x1024_0_0_0 (k3_pay69 (F := F))
  { S with a31 := x1 }

def s2 (i : grid3.Coords) (S : St F) : St F := if h : k3_cond2 i = 1#1 then b2 i h S else S

/-- What the block under condition 3 leaves. -/
def b3 (i : grid3.Coords) (h : k3_cond3 i = 1#1) (S : St F) : St F :=
  let l0 := rd S.a2 (Rect.unit (s := S384x1024) ![0, 0] S384x1024.size inb_S384x1024_S384x1024_0_0).toLoadRect
  let l1 := rd S.a19 (Rect.unit (s := S384x1024) ![0, 0] S384x1024.size inb_S384x1024_S384x1024_0_0).toLoadRect
  let l2 := rd S.a20 (Rect.unit (s := S384x128) ![0, 0] S384x1.size inb_S384x128_S384x1_0_0).toLoadRect
  let l3 := rd S.a3 (Rect.unit (s := S1024x512) ![0, 0] S1024x512.size inb_S1024x512_S1024x512_0_0).toLoadRect
  let l4 := rd S.a4 (Rect.unit (s := S1024x512) ![0, 0] S1024x512.size inb_S1024x512_S1024x512_0_0).toLoadRect
  let l5 := rd S.a5 (Rect.unit (s := S1024x512) ![0, 0] S1024x512.size inb_S1024x512_S1024x512_0_0).toLoadRect
  let l6 := rd S.a6 (Rect.unit (s := S1024x512) ![0, 0] S1024x512.size inb_S1024x512_S1024x512_0_0).toLoadRect
  let x8 := ovl S.a21 (k3_off2 i) S384x512.size (k3_off2_inb i h) (k3_pay33 l1 l2 l5 l6)
  let x10 := ovl S.a22 (k3_off2 i) S384x512.size (k3_off2_inb i h) (k3_pay34 l0 l3 l4)
  let p11 := (k3_pay27 l0 l4)
  let p12 := (k3_pay28 l1 l2 l6)
  let p13 := (k3_pay29 l0 l3)
  let p14 := (k3_pay30 l1 l2 l5)
  let p15 := (k3_pay31 l1 l2 l5 l6)
  let p16 := (k3_pay32 l0 l3 l4)
  let p17 := (k3_pay35 l0 l3 l4)
  let x19 := ovl S.a25 (k3_off2 i) S384x512.size (k3_off2_inb i h) (k3_pay1 p17)
  let x21 := ovl S.a23 (k3_off2 i) S384x512.size (k3_off2_inb i h) (k3_pay2 p11 p14)
  let x23 := ovl S.a24 (k3_off2 i) S384x512.size (k3_off2_inb i h) (k3_pay3 p12 p13)
  let l24 := rd S.a26 (Rect.unit (s := S384x128) ![0, 0] S384x128.size inb_S384x128_S384x128_0_0).toLoadRect
  let x26 := ovl S.a26 ![0, 0] S384x128.size inb_S384x128_S384x128_0_0 (k3_pay4 p15 l24)
  let l27 := rd S.a27 (Rect.unit (s := S384x128) ![0, 0] S384x128.size inb_S384x128_S384x128_0_0).toLoadRect
  let x29 := ovl S.a27 ![0, 0] S384x128.size inb_S384x128_S384x128_0_0 (k3_pay5 p16 l27)
  { S with a21 := x8, a22 := x10, a25 := x19, a23 := x21, a24 := x23, a26 := x26, a27 := x29 }

def s3 (i : grid3.Coords) (S : St F) : St F := if h : k3_cond3 i = 1#1 then b3 i h S else S

/-- What the block under condition 4 leaves. -/
def b4 (i : grid3.Coords) (h : k3_cond4 i = 1#1) (S : St F) : St F :=
  let l0 := rd S.a26 (Rect.unit (s := S384x128) ![0, 0] S384x128.size inb_S384x128_S384x128_0_0).toLoadRect
  let x2 := ovl S.a28 ![0, 0] S384x128.size inb_S384x128_S384x128_0_0 (k3_pay37 l0)
  let x4 := ovl S.a16 (k3_off3 i) S1x384.size (k3_off3_inb i h) (k3_pay38 l0)
  let l5 := rd S.a21 (Rect.unit (s := S384x4096) ![0, 0] S384x4096.size inb_S384x4096_S384x4096_0_0).toLoadRect
  let x7 := ovl S.a15 ![0, 0] S384x4096.size inb_S384x4096_S384x4096_0_0 (k3_pay39 l0 l5)
  let l8 := rd S.a27 (Rect.unit (s := S384x128) ![0, 0] S384x128.size inb_S384x128_S384x128_0_0).toLoadRect
  let p9 := (k3_pay41 l8)
  let p10 := (k3_pay42 l8)
  let x12 := ovl S.a29 ![0, 0] S384x128.size inb_S384x128_S384x128_0_0 (k3_pay7 p9 p10)
  let x14 := ovl S.a18 (k3_off3 i) S1x384.size (k3_off3_inb i h) (k3_pay8 p9 p10)
  let l15 := rd S.a22 (Rect.unit (s := S384x4096) ![0, 0] S384x4096.size inb_S384x4096_S384x4096_0_0).toLoadRect
  let x17 := ovl S.a17 ![0, 0] S384x4096.size inb_S384x4096_S384x4096_0_0 (k3_pay9 p9 p10 l15)
  { S with a28 := x2, a16 := x4, a15 := x7, a29 := x12, a18 := x14, a17 := x17 }

def s4 (i : grid3.Coords) (S : St F) : St F := if h : k3_cond4 i = 1#1 then b4 i h S else S

/-- What the block under condition 5 leaves. -/
def b5 (i : grid3.Coords) (h : k3_cond5 i = 1#1) (S : St F) : St F :=
  let l0 := rd S.a7 (Rect.unit (s := S4096x256) ![0, 0] S4096x256.size inb_S4096x256_S4096x256_0_0).toLoadRect
  let l1 := rd S.a8 (Rect.unit (s := S4096x256) ![0, 0] S4096x256.size inb_S4096x256_S4096x256_0_0).toLoadRect
  let l2 := rd S.a25 (Rect.unit (s := S384x4096) ![0, 0] S384x4096.size inb_S384x4096_S384x4096_0_0).toLoadRect
  let x4 := ovl S.a12 (k3_off4 i) S384x256.size (k3_off4_inb i h) (k3_pay45 l0 l2)
  let l5 := rd S.a15 (Rect.unit (s := S384x4096) ![0, 0] S384x4096.size inb_S384x4096_S384x4096_0_0).toLoadRect
  let l6 := rd S.a28 (Rect.unit (s := S384x128) ![0, 0] S384x1.size inb_S384x128_S384x1_0_0).toLoadRect
  let l7 := rd S.a23 (Rect.unit (s := S384x4096) ![0, 0] S384x4096.size inb_S384x4096_S384x4096_0_0).toLoadRect
  let l8 := rd S.a24 (Rect.unit (s := S384x4096) ![0, 0] S384x4096.size inb_S384x4096_S384x4096_0_0).toLoadRect
  let l9 := rd S.a17 (Rect.unit (s := S384x4096) ![0, 0] S384x4096.size inb_S384x4096_S384x4096_0_0).toLoadRect
  let l10 := rd S.a29 (Rect.unit (s := S384x128) ![0, 0] S384x1.size inb_S384x128_S384x1_0_0).toLoadRect
  let l11 := rd S.a30 (Rect.unit (s := S5x384x128) ![4, 0, 0] S1x384x128.size inb_S5x384x128_S1x384x128_4_0_0).toLoadRect
  let p12 := (k3_pay44 l0 l2)
  let p13 := (k3_pay46 l1 l5 l6)
  let p14 := (k3_pay47 l0 l7)
  let p15 := (k3_pay48 l0 l8)
  let p16 := (k3_pay49 l1 l9 l10)
  let x18 := ovl S.a30 ![4, 0, 0] S1x384x128.size inb_S5x384x128_S1x384x128_4_0_0 (k3_pay50 p12 l11)
  let l19 := rd x18 (Rect.unit (s := S5x384x128) ![0, 0, 0] S1x384x128.size inb_S5x384x128_S1x384x128_0_0_0).toLoadRect
  let x21 := ovl x18 ![0, 0, 0] S1x384x128.size inb_S5x384x128_S1x384x128_0_0_0 (k3_pay52 p12 p13 l19)
  let l22 := rd S.a31 (Rect.unit (s := S4x8x1024) (k3_off5 i) S1x8x256.size (k3_off5_inb i h)).toLoadRect
  let x24 := ovl S.a31 (k3_off5 i) S1x8x256.size (k3_off5_inb i h) (k3_pay53 p12 p13 l22)
  let l25 := rd x21 (Rect.unit (s := S5x384x128) ![1, 0, 0] S1x384x128.size inb_S5x384x128_S1x384x128_1_0_0).toLoadRect
  let p26 := (k3_pay54 p12 p14)
  let p27 := (k3_pay55 l25)
  let p28 := (k3_pay56 p12 p14)
  let x30 := ovl x21 ![1, 0, 0] S1x384x128.size inb_S5x384x128_S1x384x128_1_0_0 (k3_pay57 p27 p28)
  let l31 := rd x24 (Rect.unit (s := S4x8x1024) (k3_off6 i) S1x8x256.size (k3_off6_inb i h)).toLoadRect
  let x33 := ovl x24 (k3_off6 i) S1x8x256.size (k3_off6_inb i h) (k3_pay58 p26 l31)
  let l34 := rd x30 (Rect.unit (s := S5x384x128) ![2, 0, 0] S1x384x128.size inb_S5x384x128_S1x384x128_2_0_0).toLoadRect
  let x36 := ovl x30 ![2, 0, 0] S1x384x128.size inb_S5x384x128_S1x384x128_2_0_0 (k3_pay60 p12 p15 l34)
  let l37 := rd x33 (Rect.unit (s := S4x8x1024) (k3_off7 i) S1x8x256.size (k3_off7_inb i h)).toLoadRect
  let x39 := ovl x33 (k3_off7 i) S1x8x256.size (k3_off7_inb i h) (k3_pay61 p12 p15 l37)
  let p40 := (k3_pay62 p12 p16)
  let l41 := rd x36 (Rect.unit (s := S5x384x128) ![3, 0, 0] S1x384x128.size inb_S5x384x128_S1x384x128_3_0_0).toLoadRect
  let x43 := ovl x36 ![3, 0, 0] S1x384x128.size inb_S5x384x128_S1x384x128_3_0_0 (k3_pay10 p40 l41)
  let l44 := rd x39 (Rect.unit (s := S4x8x1024) (k3_off8 i) S1x8x256.size (k3_off8_inb i h)).toLoadRect
  let x46 := ovl x39 (k3_off8 i) S1x8x256.size (k3_off8_inb i h) (k3_pay11 p40 l44)
  { S with a12 := x4, a30 := x43, a31 := x46 }

def s5 (i : grid3.Coords) (S : St F) : St F := if h : k3_cond5 i = 1#1 then b5 i h S else S

/-- What the block under condition 6 leaves. -/
def b6 (i : grid3.Coords) (h : k3_cond6 i = 1#1) (S : St F) : St F :=
  let l0 := rd S.a30 (Rect.unit (s := S5x384x128) ![0, 0, 0] S1x384x128.size inb_S5x384x128_S1x384x128_0_0_0).toLoadRect
  let x2 := ovl S.a9 (k3_off9 i) S1x1x384.size (k3_off9_inb i h) (k3_pay63 l0)
  let l3 := rd S.a30 (Rect.unit (s := S5x384x128) ![1, 0, 0] S1x384x128.size inb_S5x384x128_S1x384x128_1_0_0).toLoadRect
  let x5 := ovl x2 (k3_off10 i) S1x1x384.size (k3_off10_inb i h) (k3_pay64 l3)
  let l6 := rd S.a30 (Rect.unit (s := S5x384x128) ![2, 0, 0] S1x384x128.size inb_S5x384x128_S1x384x128_2_0_0).toLoadRect
  let x8 := ovl x5 (k3_off11 i) S1x1x384.size (k3_off11_inb i h) (k3_pay65 l6)
  let l9 := rd S.a30 (Rect.unit (s := S5x384x128) ![3, 0, 0] S1x384x128.size inb_S5x384x128_S1x384x128_3_0_0).toLoadRect
  let x11 := ovl x8 (k3_off12 i) S1x1x384.size (k3_off12_inb i h) (k3_pay12 l9)
  let l12 := rd S.a30 (Rect.unit (s := S5x384x128) ![4, 0, 0] S1x384x128.size inb_S5x384x128_S1x384x128_4_0_0).toLoadRect
  let x14 := ovl S.a11 (k3_off13 i) S1x384.size (k3_off13_inb i h) (k3_pay13 l12)
  { S with a9 := x11, a11 := x14 }

def s6 (i : grid3.Coords) (S : St F) : St F := if h : k3_cond6 i = 1#1 then b6 i h S else S

/-- What the block under condition 7 leaves. -/
def b7 (i : grid3.Coords) (h : k3_cond7 i = 1#1) (S : St F) : St F :=
  let l0 := rd S.a31 (Rect.unit (s := S4x8x1024) ![0, 0, 0] S1x8x1024.size inb_S4x8x1024_S1x8x1024_0_0_0).toLoadRect
  let x2 := ovl S.a10 ![0, 0] S1x1024.size inb_S4x1024_S1x1024_0_0 (k3_pay14 l0)
  let l3 := rd S.a31 (Rect.unit (s := S4x8x1024) ![1, 0, 0] S1x8x1024.size inb_S4x8x1024_S1x8x1024_1_0_0).toLoadRect
  let x5 := ovl x2 ![1, 0] S1x1024.size inb_S4x1024_S1x1024_1_0 (k3_pay15 l3)
  let l6 := rd S.a31 (Rect.unit (s := S4x8x1024) ![2, 0, 0] S1x8x1024.size inb_S4x8x1024_S1x8x1024_2_0_0).toLoadRect
  let x8 := ovl x5 ![2, 0] S1x1024.size inb_S4x1024_S1x1024_2_0 (k3_pay16 l6)
  let l9 := rd S.a31 (Rect.unit (s := S4x8x1024) ![3, 0, 0] S1x8x1024.size inb_S4x8x1024_S1x8x1024_3_0_0).toLoadRect
  let x11 := ovl x8 ![3, 0] S1x1024.size inb_S4x1024_S1x1024_3_0 (k3_pay17 l9)
  { S with a10 := x11 }

def s7 (i : grid3.Coords) (S : St F) : St F := if h : k3_cond7 i = 1#1 then b7 i h S else S

theorem s1_pos {i : grid3.Coords} {S : St F} (h : k3_cond1 i = 1#1) : s1 i S = b1 i h S := dif_pos h

theorem s1_neg {i : grid3.Coords} {S : St F} (h : ¬ k3_cond1 i = 1#1) : s1 i S = S := dif_neg h

theorem s2_pos {i : grid3.Coords} {S : St F} (h : k3_cond2 i = 1#1) : s2 i S = b2 i h S := dif_pos h

theorem s2_neg {i : grid3.Coords} {S : St F} (h : ¬ k3_cond2 i = 1#1) : s2 i S = S := dif_neg h

theorem s3_pos {i : grid3.Coords} {S : St F} (h : k3_cond3 i = 1#1) : s3 i S = b3 i h S := dif_pos h

theorem s3_neg {i : grid3.Coords} {S : St F} (h : ¬ k3_cond3 i = 1#1) : s3 i S = S := dif_neg h

theorem s4_pos {i : grid3.Coords} {S : St F} (h : k3_cond4 i = 1#1) : s4 i S = b4 i h S := dif_pos h

theorem s4_neg {i : grid3.Coords} {S : St F} (h : ¬ k3_cond4 i = 1#1) : s4 i S = S := dif_neg h

theorem s5_pos {i : grid3.Coords} {S : St F} (h : k3_cond5 i = 1#1) : s5 i S = b5 i h S := dif_pos h

theorem s5_neg {i : grid3.Coords} {S : St F} (h : ¬ k3_cond5 i = 1#1) : s5 i S = S := dif_neg h

theorem s6_pos {i : grid3.Coords} {S : St F} (h : k3_cond6 i = 1#1) : s6 i S = b6 i h S := dif_pos h

theorem s6_neg {i : grid3.Coords} {S : St F} (h : ¬ k3_cond6 i = 1#1) : s6 i S = S := dif_neg h

theorem s7_pos {i : grid3.Coords} {S : St F} (h : k3_cond7 i = 1#1) : s7 i S = b7 i h S := dif_pos h

theorem s7_neg {i : grid3.Coords} {S : St F} (h : ¬ k3_cond7 i = 1#1) : s7 i S = S := dif_neg h

/-- What the whole body leaves. -/
def step (i : grid3.Coords) (S : St F) : St F := s7 i (s6 i (s5 i (s4 i (s3 i (s2 i (s1 i S))))))

section Run

variable {Ix : Type} [DecidableEq Ix] {Name : Type} [DecidableEq Name] {U : Type} [URA U] {Lvl : Type} [Preorder Lvl]
variable {defs : Defs nD τ sig (Elt F) Λ₀} {𝒱 : Variants} {c : Dev nD} {M : Mr}
variable {bd : Option 𝒱.V} {Γ : PendingWaitsCtx sig Ix} {E : Set Name} {α β γ : Type}

set_option maxHeartbeats 1000000

local notation "𝕄" => MT nD τ sig Ix (Elt F) Name U Lvl

section Glue

variable {P : sProp (MT nD τ sig Ix (Elt F) Name U Lvl)} {Q : α → sProp (MT nD τ sig Ix (Elt F) Name U Lvl)}

theorem dif_rule {p : Prop} [Decidable p] {A : p → Prog (TpuEff nD τ sig (Elt F) Λ₀ .tc) α} {B : ¬ p → Prog (TpuEff nD τ sig (Elt F) Λ₀ .tc) α}
    (hA : ∀ h, P ⊢ wp frame (wpE' (Ix := Ix) (Name := Name) (U := U) (Lvl := Lvl) defs 𝒱 (c : Thread nD τ) bd Γ) E (A h) Q) (hB : ∀ h, P ⊢ wp frame (wpE' (Ix := Ix) (Name := Name) (U := U) (Lvl := Lvl) defs 𝒱 (c : Thread nD τ) bd Γ) E (B h) Q) : P ⊢ wp frame (wpE' (Ix := Ix) (Name := Name) (U := U) (Lvl := Lvl) defs 𝒱 (c : Thread nD τ) bd Γ) E (dite p A B) Q := by
  split
  · exact hA _
  · exact hB _

theorem assoc_rule {p : Prog (TpuEff nD τ sig (Elt F) Λ₀ .tc) β} {f : β → Prog (TpuEff nD τ sig (Elt F) Λ₀ .tc) γ}
    {k : γ → Prog (TpuEff nD τ sig (Elt F) Λ₀ .tc) α} (h : P ⊢ wp frame (wpE' (Ix := Ix) (Name := Name) (U := U) (Lvl := Lvl) defs 𝒱 (c : Thread nD τ) bd Γ) E (p >>= fun x => f x >>= k) Q) :
    P ⊢ wp frame (wpE' (Ix := Ix) (Name := Name) (U := U) (Lvl := Lvl) defs 𝒱 (c : Thread nD τ) bd Γ) E ((p >>= f) >>= k) Q := by
  rw [Prog.bind_assoc]; exact h

theorem ret_rule {a : β} {k : β → Prog (TpuEff nD τ sig (Elt F) Λ₀ .tc) α} (h : P ⊢ wp frame (wpE' (Ix := Ix) (Name := Name) (U := U) (Lvl := Lvl) defs 𝒱 (c : Thread nD τ) bd Γ) E (k a) Q) :
    P ⊢ wp frame (wpE' (Ix := Ix) (Name := Name) (U := U) (Lvl := Lvl) defs 𝒱 (c : Thread nD τ) bd Γ) E (Pure.pure a >>= k) Q := h

theorem done_rule {a : β} {P : sProp (MT nD τ sig Ix (Elt F) Name U Lvl)} : P ⊢ wp frame (wpE' (Ix := Ix) (Name := Name) (U := U) (Lvl := Lvl) defs 𝒱 (c : Thread nD τ) bd Γ) E (Pure.pure a) (fun _ => P) :=
  le_wp_ret _ _ _ a (fun _ => P)

end Glue

theorem own_congr {S S' : St F} (h : S = S') : (own c M S : sProp 𝕄) ⊢ own c M S' := by
  subst h; exact .rfl

variable (i : grid3.Coords) (S : St F)

/-- The first part: conditions 1 and 2. -/
theorem part8_run : own c M S ⊢ wp frame (wpE' (Ix := Ix) (Name := Name) (U := U) (Lvl := Lvl) defs 𝒱 (c : Thread nD τ) bd Γ) E (k3_part8 i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 M.m21 M.h21 M.m22 M.h22 M.m23 M.h23 M.m24 M.h24 M.m25 M.h25 M.m26 M.h26 M.m27 M.h27 M.m28 M.h28 M.m29 M.h29 M.m30 M.h30 M.m31 M.h31) (fun _ => own c M (s2 i (s1 i S))) := by
  rw [k3_part8_eq_skeleton]
  unfold k3_part8_skel
  extract_lets -lift
  rename_i jp2 jp1
  have hjp : ∀ u, own c M (s1 i S) ⊢ wp frame (wpE' (Ix := Ix) (Name := Name) (U := U) (Lvl := Lvl) defs 𝒱 (c : Thread nD τ) bd Γ) E (jp1 u) (fun _ => own c M (s2 i (s1 i S))) := by
    intro u
    subst jp1
    beta_reduce
    have hjp : ∀ u, own c M (s2 i (s1 i S)) ⊢ wp frame (wpE' (Ix := Ix) (Name := Name) (U := U) (Lvl := Lvl) defs 𝒱 (c : Thread nD τ) bd Γ) E (jp2 u) (fun _ => own c M (s2 i (s1 i S))) := by
      intro u
      subst jp2
      beta_reduce
      exact done_rule
    clear_value jp2
    refine dif_rule (fun h => ?_) (fun h => ?_)
    · refine ld_31 ?_
      refine st_31 ?_
      refine (own_congr (S' := b2 i h (s1 i S)) rfl).trans ?_
      exact (own_congr (s2_pos h).symm).trans (hjp _)
    · exact (own_congr (s2_neg h).symm).trans (hjp _)
  clear_value jp1
  refine dif_rule (fun h => ?_) (fun h => ?_)
  · rw [k3_part1_eq_skeleton]; unfold k3_part1_skel
    refine assoc_rule (ld_2 ?_)
    refine assoc_rule (ld_19 ?_)
    refine assoc_rule (st_19 ?_)
    refine assoc_rule (ld_13 ?_)
    refine assoc_rule (st_13 ?_)
    refine assoc_rule (ld_20 ?_)
    refine assoc_rule (st_20 ?_)
    refine assoc_rule (ld_26 ?_)
    refine assoc_rule (st_26 ?_)
    refine assoc_rule (ld_27 ?_)
    refine ret_rule ?_
    refine st_27 ?_
    refine ld_30 ?_
    refine st_30 ?_
    refine ld_14 ?_
    refine st_14 ?_
    refine (own_congr (S' := b1 i h S) rfl).trans ?_
    exact (own_congr (s1_pos h).symm).trans (hjp _)
  · exact (own_congr (s1_neg h).symm).trans (hjp _)

/-- The body on the buffers held at `S` leaves them at `step i S`. -/
theorem body_run : own c M S ⊢ wp frame (wpE' (Ix := Ix) (Name := Name) (U := U) (Lvl := Lvl) defs 𝒱 (c : Thread nD τ) bd Γ) E (body i M) (fun _ => own c M (step i S)) := by
  rw [body, cc3_probe_main_eq_skeleton]
  unfold cc3_probe_main_skel
  rw [wp_bind]
  refine (part8_run i S).trans (wp_mono _ _ _ fun a => ?_)
  obtain ⟨arg0, arg1, v16, v28⟩ := a
  show own c M (s2 i (s1 i S)) ⊢ wp frame (wpE' (Ix := Ix) (Name := Name) (U := U) (Lvl := Lvl) defs 𝒱 (c : Thread nD τ) bd Γ) E _ (fun _ => own c M (s7 i (s6 i (s5 i (s4 i (s3 i (s2 i (s1 i S))))))))
  generalize s2 i (s1 i S) = S
  dsimp -zeta only
  extract_lets -lift
  rename_i jp7 jp6 jp5 jp4 jp3
  have hjp : ∀ u, own c M (s3 i S) ⊢ wp frame (wpE' (Ix := Ix) (Name := Name) (U := U) (Lvl := Lvl) defs 𝒱 (c : Thread nD τ) bd Γ) E (jp3 u) (fun _ => own c M (s7 i (s6 i (s5 i (s4 i (s3 i S)))))) := by
    intro u
    subst jp3
    beta_reduce
    have hjp : ∀ u, own c M (s4 i (s3 i S)) ⊢ wp frame (wpE' (Ix := Ix) (Name := Name) (U := U) (Lvl := Lvl) defs 𝒱 (c : Thread nD τ) bd Γ) E (jp4 u) (fun _ => own c M (s7 i (s6 i (s5 i (s4 i (s3 i S)))))) := by
      intro u
      subst jp4
      beta_reduce
      have hjp : ∀ u, own c M (s5 i (s4 i (s3 i S))) ⊢ wp frame (wpE' (Ix := Ix) (Name := Name) (U := U) (Lvl := Lvl) defs 𝒱 (c : Thread nD τ) bd Γ) E (jp5 u) (fun _ => own c M (s7 i (s6 i (s5 i (s4 i (s3 i S)))))) := by
        intro u
        subst jp5
        beta_reduce
        have hjp : ∀ u, own c M (s6 i (s5 i (s4 i (s3 i S)))) ⊢ wp frame (wpE' (Ix := Ix) (Name := Name) (U := U) (Lvl := Lvl) defs 𝒱 (c : Thread nD τ) bd Γ) E (jp6 u) (fun _ => own c M (s7 i (s6 i (s5 i (s4 i (s3 i S)))))) := by
          intro u
          subst jp6
          beta_reduce
          have hjp : ∀ u, own c M (s7 i (s6 i (s5 i (s4 i (s3 i S))))) ⊢ wp frame (wpE' (Ix := Ix) (Name := Name) (U := U) (Lvl := Lvl) defs 𝒱 (c : Thread nD τ) bd Γ) E (jp7 u) (fun _ => own c M (s7 i (s6 i (s5 i (s4 i (s3 i S)))))) := by
            intro u
            subst jp7
            beta_reduce
            exact done_rule
          clear_value jp7
          refine dif_rule (fun h => ?_) (fun h => ?_)
          · refine ld_31 ?_
            refine ld_10 ?_
            refine st_10 ?_
            refine ld_31 ?_
            refine ld_10 ?_
            refine st_10 ?_
            refine ld_31 ?_
            refine ld_10 ?_
            refine st_10 ?_
            refine ld_31 ?_
            refine ld_10 ?_
            refine st_10 ?_
            refine (own_congr (S' := b7 i h (s6 i (s5 i (s4 i (s3 i S))))) rfl).trans ?_
            exact (own_congr (s7_pos h).symm).trans (hjp _)
          · exact (own_congr (s7_neg h).symm).trans (hjp _)
        clear_value jp6
        refine dif_rule (fun h => ?_) (fun h => ?_)
        · rw [k3_part7_eq_skeleton]; unfold k3_part7_skel
          refine assoc_rule (ld_30 ?_)
          refine assoc_rule (ld_9 ?_)
          refine assoc_rule (st_9 ?_)
          refine assoc_rule (ld_30 ?_)
          refine assoc_rule (ld_9 ?_)
          refine assoc_rule (st_9 ?_)
          refine assoc_rule (ld_30 ?_)
          refine assoc_rule (ld_9 ?_)
          refine assoc_rule (st_9 ?_)
          refine ret_rule ?_
          refine ld_30 ?_
          refine ld_9 ?_
          refine st_9 ?_
          refine ld_30 ?_
          refine ld_11 ?_
          refine st_11 ?_
          refine (own_congr (S' := b6 i h (s5 i (s4 i (s3 i S)))) rfl).trans ?_
          exact (own_congr (s6_pos h).symm).trans (hjp _)
        · exact (own_congr (s6_neg h).symm).trans (hjp _)
      clear_value jp5
      refine dif_rule (fun h => ?_) (fun h => ?_)
      · rw [k3_part4_eq_skeleton]; unfold k3_part4_skel
        refine assoc_rule (ld_7 ?_)
        refine assoc_rule (ld_8 ?_)
        refine assoc_rule (ld_25 ?_)
        refine assoc_rule (ld_12 ?_)
        refine assoc_rule (st_12 ?_)
        refine assoc_rule (ld_15 ?_)
        refine assoc_rule (ld_28 ?_)
        refine assoc_rule (ld_23 ?_)
        refine assoc_rule (ld_24 ?_)
        refine assoc_rule (ld_17 ?_)
        refine assoc_rule (ld_29 ?_)
        refine assoc_rule (ld_30 ?_)
        refine ret_rule ?_
        rw [k3_part5_eq_skeleton]; unfold k3_part5_skel
        refine assoc_rule (ld_30 ?_)
        refine assoc_rule (st_30 ?_)
        refine assoc_rule (ld_30 ?_)
        refine assoc_rule (ld_30 ?_)
        refine assoc_rule (st_30 ?_)
        refine assoc_rule (ld_31 ?_)
        refine assoc_rule (ld_31 ?_)
        refine assoc_rule (st_31 ?_)
        refine assoc_rule (ld_30 ?_)
        refine ret_rule ?_
        rw [k3_part6_eq_skeleton]; unfold k3_part6_skel
        refine assoc_rule (ld_30 ?_)
        refine assoc_rule (st_30 ?_)
        refine assoc_rule (ld_31 ?_)
        refine assoc_rule (ld_31 ?_)
        refine assoc_rule (st_31 ?_)
        refine assoc_rule (ld_30 ?_)
        refine assoc_rule (ld_30 ?_)
        refine assoc_rule (st_30 ?_)
        refine assoc_rule (ld_31 ?_)
        refine assoc_rule (ld_31 ?_)
        refine assoc_rule (st_31 ?_)
        refine ret_rule ?_
        refine ld_30 ?_
        refine ld_30 ?_
        refine st_30 ?_
        refine ld_31 ?_
        refine ld_31 ?_
        refine st_31 ?_
        refine (own_congr (S' := b5 i h (s4 i (s3 i S))) rfl).trans ?_
        exact (own_congr (s5_pos h).symm).trans (hjp _)
      · exact (own_congr (s5_neg h).symm).trans (hjp _)
    clear_value jp4
    refine dif_rule (fun h => ?_) (fun h => ?_)
    · rw [k3_part3_eq_skeleton]; unfold k3_part3_skel
      refine assoc_rule (ld_26 ?_)
      refine assoc_rule (ld_28 ?_)
      refine assoc_rule (st_28 ?_)
      refine assoc_rule (ld_16 ?_)
      refine assoc_rule (st_16 ?_)
      refine assoc_rule (ld_21 ?_)
      refine assoc_rule (ld_15 ?_)
      refine assoc_rule (st_15 ?_)
      refine assoc_rule (ld_27 ?_)
      refine ret_rule ?_
      refine ld_29 ?_
      refine st_29 ?_
      refine ld_18 ?_
      refine st_18 ?_
      refine ld_22 ?_
      refine ld_17 ?_
      refine st_17 ?_
      refine (own_congr (S' := b4 i h (s3 i S)) rfl).trans ?_
      exact (own_congr (s4_pos h).symm).trans (hjp _)
    · exact (own_congr (s4_neg h).symm).trans (hjp _)
  clear_value jp3
  refine dif_rule (fun h => ?_) (fun h => ?_)
  · rw [k3_part2_eq_skeleton]; unfold k3_part2_skel
    refine assoc_rule (ld_2 ?_)
    refine assoc_rule (ld_19 ?_)
    refine assoc_rule (ld_20 ?_)
    refine assoc_rule (ld_3 ?_)
    refine assoc_rule (ld_4 ?_)
    refine assoc_rule (ld_5 ?_)
    refine assoc_rule (ld_6 ?_)
    refine assoc_rule (ld_21 ?_)
    refine assoc_rule (st_21 ?_)
    refine assoc_rule (ld_22 ?_)
    refine assoc_rule (st_22 ?_)
    refine ret_rule ?_
    refine ld_25 ?_
    refine st_25 ?_
    refine ld_23 ?_
    refine st_23 ?_
    refine ld_24 ?_
    refine st_24 ?_
    refine ld_26 ?_
    refine ld_26 ?_
    refine st_26 ?_
    refine ld_27 ?_
    refine ld_27 ?_
    refine st_27 ?_
    refine (own_congr (S' := b3 i h S) rfl).trans ?_
    exact (own_congr (s3_pos h).symm).trans (hjp _)
  · exact (own_congr (s3_neg h).symm).trans (hjp _)

end Run

end Cert.KernelIdeal.Hand
-- ==== Proof.Dq.lean ====
/- The three regions that dequantise the weights: what each body leaves of its output block, and each region's proof data. -/
module

public import proofs.«01_k».proof.Proof.Four
public import proofs.«01_k».proof.Proof.Body
public import proofs.«01_k».proof.Proof.Gen.KernelIdeal.Points
public import proofs.«01_k».proof.Proof.Gen.KernelIdeal.Launch
public import Idealize.ShloMosaic.Lib.Pipeline.Frame

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Hand Cert.KernelIdeal.Gen

variable {F : FTy → Type} [FloatOps F]
variable {Ix : Type} [DecidableEq Ix] {Name : Type} [DecidableEq Name] {U : Type} [URA U] {Lvl : Type} [Preorder Lvl]
variable {defs : Defs nD τ sig (Elt F) Λ₀} {𝒱 : Variants} {c : Dev nD}
variable {bd : Option 𝒱.V} {Γ : PendingWaitsCtx sig Ix} {E : Set Name} {α : Type}

/-- Some value. -/
def arb (F : FTy → Type) [FloatOps F] (e : EltTy) : Elt F e := Classical.arbitrary (Elt F e)

/-- The launch's ghost state: the transfers' rounds. -/
abbrev UU : Type := UR sig nD τ × UR sig nD τ

theorem wp_use {p : Prog (TpuEff nD τ sig (Elt F) Λ₀ .tc) α} {P R : sProp (MT nD τ sig Ix (Elt F) Name U Lvl)} {Q Q' : α → sProp (MT nD τ sig Ix (Elt F) Name U Lvl)}
    (h : P ⊢ wp frame (wpE (Ix := Ix) (Name := Name) (U := U) (Lvl := Lvl) defs 𝒱 (c : Thread nD τ) bd) E p Q) (hq : ∀ a, iprop(R ∗ Q a) ⊢ Q' a) :
    iprop(R ∗ P) ⊢ wp frame (wpE (Ix := Ix) (Name := Name) (U := U) (Lvl := Lvl) defs 𝒱 (c : Thread nD τ) bd) E p Q' :=
  (sep_mono .rfl h).trans ((wp_frame_l _ _ E).trans (Idealize.SL.Sem.wp_mono _ _ _ hq))

/-! ## Region 0: the dequantised weight of the gate -/

/-- What the body of region 0 leaves of its output block, over contents `X`: four bands of rows, one per scale group. -/
def out0 (W : Vec F S256x2048 .i8) (S : Vec F S4x1x2048 .f32) (Z : Vec F S4x1x2048 .i8) (X : Vec F S512x2048 .bf16) : Vec F S512x2048 .bf16 :=
  ovl (ovl (ovl (ovl X
    ![0, 0] S128x2048.size inb_S512x2048_S128x2048_0_0
      (k0_pay3 (rd W (Rect.unit (s := S256x2048) ![0, 0] S64x2048.size inb_S256x2048_S64x2048_0_0).toLoadRect) (rd Z (Rect.unit (s := S4x1x2048) ![0, 0, 0] S1x1x2048.size inb_S4x1x2048_S1x1x2048_0_0_0).toLoadRect) (rd S (Rect.unit (s := S4x1x2048) ![0, 0, 0] S1x1x2048.size inb_S4x1x2048_S1x1x2048_0_0_0).toLoadRect)))
    ![128, 0] S128x2048.size inb_S512x2048_S128x2048_128_0
      (k0_pay8 (k0_pay5 (rd W (Rect.unit (s := S256x2048) ![64, 0] S64x2048.size inb_S256x2048_S64x2048_64_0).toLoadRect)) (k0_pay6 (rd W (Rect.unit (s := S256x2048) ![64, 0] S64x2048.size inb_S256x2048_S64x2048_64_0).toLoadRect)) k0_pay7 (rd Z (Rect.unit (s := S4x1x2048) ![1, 0, 0] S1x1x2048.size inb_S4x1x2048_S1x1x2048_1_0_0).toLoadRect) (rd S (Rect.unit (s := S4x1x2048) ![1, 0, 0] S1x1x2048.size inb_S4x1x2048_S1x1x2048_1_0_0).toLoadRect)))
    ![256, 0] S128x2048.size inb_S512x2048_S128x2048_256_0
      (k0_pay1 (k0_pay9 (rd W (Rect.unit (s := S256x2048) ![128, 0] S64x2048.size inb_S256x2048_S64x2048_128_0).toLoadRect)) (k0_pay10 (rd Z (Rect.unit (s := S4x1x2048) ![2, 0, 0] S1x1x2048.size inb_S4x1x2048_S1x1x2048_2_0_0).toLoadRect)) (rd S (Rect.unit (s := S4x1x2048) ![2, 0, 0] S1x1x2048.size inb_S4x1x2048_S1x1x2048_2_0_0).toLoadRect)))
    ![384, 0] S128x2048.size inb_S512x2048_S128x2048_384_0
      (k0_pay2 (rd W (Rect.unit (s := S256x2048) ![192, 0] S64x2048.size inb_S256x2048_S64x2048_192_0).toLoadRect) (rd Z (Rect.unit (s := S4x1x2048) ![3, 0, 0] S1x1x2048.size inb_S4x1x2048_S1x1x2048_3_0_0).toLoadRect) (rd S (Rect.unit (s := S4x1x2048) ![3, 0, 0] S1x1x2048.size inb_S4x1x2048_S1x1x2048_3_0_0).toLoadRect))

/-- The four bands fill the block: nothing of what was there before is left. -/
theorem out0_congr (W : Vec F S256x2048 .i8) (S : Vec F S4x1x2048 .f32) (Z : Vec F S4x1x2048 .i8) (X X' : Vec F S512x2048 .bf16) : out0 W S Z X = out0 W S Z X' := by
  unfold out0
  refine ovl4_congr _ _ _ _ _ _ _ _ _ _ _ _ _ _ _ _ _ _ fun y => ?_
  have h0 : (y 0).val < 512 := (y 0).isLt
  have h1 : (y 1).val < 2048 := (y 1).isLt
  rcases (by omega : (y 0).val < 128 ∨ (128 ≤ (y 0).val ∧ (y 0).val < 256) ∨ (256 ≤ (y 0).val ∧ (y 0).val < 384) ∨ 384 ≤ (y 0).val) with h | h | h | h
  · exact .inl (Fin.forall_fin_two.mpr ⟨⟨Nat.zero_le _, by simpa using h⟩, ⟨Nat.zero_le _, by simpa using h1⟩⟩)
  · exact .inr (.inl (Fin.forall_fin_two.mpr ⟨⟨h.1, by simpa using h.2⟩, ⟨Nat.zero_le _, by simpa using h1⟩⟩))
  · exact .inr (.inr (.inl (Fin.forall_fin_two.mpr ⟨⟨h.1, by simpa using h.2⟩, ⟨Nat.zero_le _, by simpa using h1⟩⟩)))
  · exact .inr (.inr (.inr (Fin.forall_fin_two.mpr ⟨⟨h, by simpa using h0⟩, ⟨Nat.zero_le _, by simpa using h1⟩⟩)))

section Run0
variable {m2 : Memref sig .tc .vmem S256x2048 .i8} {h2 : m2.IsWhole} {m3 : Memref sig .tc .vmem S4x1x2048 .f32} {h3 : m3.IsWhole} {m4 : Memref sig .tc .vmem S4x1x2048 .i8} {h4 : m4.IsWhole} {m5 : Memref sig .tc .vmem S512x2048 .bf16} {h5 : m5.IsWhole}
variable (i : grid0.Coords) (W : Vec F S256x2048 .i8) (S : Vec F S4x1x2048 .f32) (Z : Vec F S4x1x2048 .i8) (X : Vec F S512x2048 .bf16)

/-- The body of region 0 on its four buffers. -/
theorem run0 : four c m2 m3 m4 m5 W S Z X ⊢ wp frame (wpE' (Ix := Ix) (Name := Name) (U := U) (Lvl := Lvl) defs 𝒱 (c : Thread nD τ) bd Γ) E
    (cc0_dq_gate (F := F) i m2 h2 m3 h3 m4 h4 m5 h5) (fun _ => four c m2 m3 m4 m5 W S Z (out0 W S Z X)) := by
  rw [cc0_dq_gate_eq_skeleton]
  unfold cc0_dq_gate_skel
  rw [k0_part1_eq_skeleton]; unfold k0_part1_skel
  refine assoc_rule (four_ld2 ?_)
  refine assoc_rule (four_ld4 ?_)
  refine assoc_rule (four_ld3 ?_)
  refine assoc_rule (four_ld5 ?_)
  refine assoc_rule (four_st5 ?_)
  refine assoc_rule (four_ld2 ?_)
  refine ret_rule ?_
  dsimp -zeta only
  rw [k0_part2_eq_skeleton]; unfold k0_part2_skel
  refine assoc_rule (four_ld4 ?_)
  refine assoc_rule (four_ld3 ?_)
  refine assoc_rule (four_ld5 ?_)
  refine assoc_rule (four_st5 ?_)
  refine assoc_rule (four_ld2 ?_)
  refine assoc_rule (four_ld4 ?_)
  refine ret_rule ?_
  dsimp -zeta only
  refine four_ld3 ?_
  refine four_ld5 ?_
  refine four_st5 ?_
  refine four_ld2 ?_
  refine four_ld4 ?_
  refine four_ld3 ?_
  refine four_ld5 ?_
  refine four_st5 ?_
  exact done_rule

end Run0

section Dat0
variable (A : (c : Dev nD) → (w : Fin cfg0.W) → Buf (Elt F) ((cfg0.win w).arr.view.loc (c.tc : Thread nD τ)))

/-- The block window `w` reads at point `t`. -/
def blk0 (c : Dev nD) (w : Fin cfg0.W) (t : Fin cfg0.N) : (cfg0.win w).block.Idx → Elt F (cfg0.win w).elt :=
  (cfg0.win w).fill (cfg0.grid.coords t) (fun _ => arb F _) (((cfg0.win w).blk t).view.read (Elt F) (A c w))

/-- Region 0's proof data: the inputs stay, the output block is `out0` of them. -/
def dat0 (c : Dev nD) : Dat τ (Elt F) Unit ℕ UU ℕ cfg0 c where
  A := A c
  after w t := match w with
    | ⟨0, _⟩ => blk0 A c 0 t
    | ⟨1, _⟩ => blk0 A c 1 t
    | ⟨2, _⟩ => blk0 A c 2 t
    | ⟨3, _⟩ => out0 (blk0 A c 0 t) (blk0 A c 1 t) (blk0 A c 2 t) (fun _ => arb F _)
    | ⟨_ + 4, h⟩ => absurd h (Nat.not_lt.2 (Nat.le_add_left _ _))
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 A c).before 0 t d = blk0 A c 0 t :=
  ((dat0 A c).before_fetched 0 t (fetch0_0 t) d).trans ((dat0 A c).fetched_of_clip_none 0 t (fun _ => rfl) d (fun _ => arb F _))
theorem before0_1 (c : Dev nD) (t : Fin cfg0.N) (d) : (dat0 A c).before 1 t d = blk0 A c 1 t :=
  ((dat0 A c).before_fetched 1 t (fetch0_1 t) d).trans ((dat0 A c).fetched_of_clip_none 1 t (fun _ => rfl) d (fun _ => arb F _))
theorem before0_2 (c : Dev nD) (t : Fin cfg0.N) (d) : (dat0 A c).before 2 t d = blk0 A c 2 t :=
  ((dat0 A c).before_fetched 2 t (fetch0_2 t) d).trans ((dat0 A c).fetched_of_clip_none 2 t (fun _ => rfl) d (fun _ => arb F _))

theorem body0 (c : Dev nD) : Pipeline.BodyObligation (dat0 A c) (defs₀ (F := F)) Variants.none () Set.univ := fun t => by
  rw [bigSep_W0, bigSep_W0]
  rw [show (dat0 A c).Φ t.castSucc = (dat0 A c).Φ t.succ from rfl]
  show _ ⊢ wp frame _ _ (bodyAt0 t) _
  simp only [before0_0, before0_1, before0_2]
  iintro ⟨HΦ, HO, ⟨%d0, H0⟩, ⟨%d1, H1⟩, ⟨%d2, H2⟩, ⟨%d3, H3⟩⟩
  iapply (wp_use (R := iprop((dat0 A c).Φ t.succ ∗ (dat0 A c).owesAt () t.castSucc)) (run0 (c := c) (cfg0.grid.coords t) (blk0 A c 0 t) (blk0 A c 1 t) (blk0 A c 2 t) ((dat0 A c).before 3 t d3)) (fun _ => ?_)) $$ [HΦ HO H0 H1 H2 H3]
  swap
  · isplitl [HΦ HO]; · isplitl [HΦ] <;> iassumption
    unfold four
    isplitl [H0]; · iexact H0
    isplitl [H1]; · iexact H1
    isplitl [H2] <;> iassumption
  unfold four
  iintro ⟨⟨HΦ, HO⟩, ⟨H0, H1, H2, H3⟩⟩
  isplitl [HΦ]; · iexact HΦ
  isplitl [HO]; · iexact HO
  isplitl [H0]; · iexact H0
  isplitl [H1]; · iexact H1
  isplitl [H2]; · iexact H2
  rw [show (dat0 A c).after 3 t = out0 (blk0 A c 0 t) (blk0 A c 1 t) (blk0 A c 2 t) ((dat0 A c).before 3 t d3) from out0_congr _ _ _ _ _]
  iexact H3

end Dat0
/-! ## region 1: the dequantised weight up -/

/-- What the body of region 1 leaves of its output block, over contents `X`: four bands of rows, one per scale group. -/
def out1 (W : Vec F S256x2048 .i8) (S : Vec F S4x1x2048 .f32) (Z : Vec F S4x1x2048 .i8) (X : Vec F S512x2048 .bf16) : Vec F S512x2048 .bf16 :=
  ovl (ovl (ovl (ovl X
    ![0, 0] S128x2048.size inb_S512x2048_S128x2048_0_0
      (k1_pay3 (rd W (Rect.unit (s := S256x2048) ![0, 0] S64x2048.size inb_S256x2048_S64x2048_0_0).toLoadRect) (rd Z (Rect.unit (s := S4x1x2048) ![0, 0, 0] S1x1x2048.size inb_S4x1x2048_S1x1x2048_0_0_0).toLoadRect) (rd S (Rect.unit (s := S4x1x2048) ![0, 0, 0] S1x1x2048.size inb_S4x1x2048_S1x1x2048_0_0_0).toLoadRect)))
    ![128, 0] S128x2048.size inb_S512x2048_S128x2048_128_0
      (k1_pay8 (k1_pay5 (rd W (Rect.unit (s := S256x2048) ![64, 0] S64x2048.size inb_S256x2048_S64x2048_64_0).toLoadRect)) (k1_pay6 (rd W (Rect.unit (s := S256x2048) ![64, 0] S64x2048.size inb_S256x2048_S64x2048_64_0).toLoadRect)) k1_pay7 (rd Z (Rect.unit (s := S4x1x2048) ![1, 0, 0] S1x1x2048.size inb_S4x1x2048_S1x1x2048_1_0_0).toLoadRect) (rd S (Rect.unit (s := S4x1x2048) ![1, 0, 0] S1x1x2048.size inb_S4x1x2048_S1x1x2048_1_0_0).toLoadRect)))
    ![256, 0] S128x2048.size inb_S512x2048_S128x2048_256_0
      (k1_pay1 (k1_pay9 (rd W (Rect.unit (s := S256x2048) ![128, 0] S64x2048.size inb_S256x2048_S64x2048_128_0).toLoadRect)) (k1_pay10 (rd Z (Rect.unit (s := S4x1x2048) ![2, 0, 0] S1x1x2048.size inb_S4x1x2048_S1x1x2048_2_0_0).toLoadRect)) (rd S (Rect.unit (s := S4x1x2048) ![2, 0, 0] S1x1x2048.size inb_S4x1x2048_S1x1x2048_2_0_0).toLoadRect)))
    ![384, 0] S128x2048.size inb_S512x2048_S128x2048_384_0
      (k1_pay2 (rd W (Rect.unit (s := S256x2048) ![192, 0] S64x2048.size inb_S256x2048_S64x2048_192_0).toLoadRect) (rd Z (Rect.unit (s := S4x1x2048) ![3, 0, 0] S1x1x2048.size inb_S4x1x2048_S1x1x2048_3_0_0).toLoadRect) (rd S (Rect.unit (s := S4x1x2048) ![3, 0, 0] S1x1x2048.size inb_S4x1x2048_S1x1x2048_3_0_0).toLoadRect))

/-- The four bands fill the block: nothing of what was there before is left. -/
theorem out1_congr (W : Vec F S256x2048 .i8) (S : Vec F S4x1x2048 .f32) (Z : Vec F S4x1x2048 .i8) (X X' : Vec F S512x2048 .bf16) : out1 W S Z X = out1 W S Z X' := by
  unfold out1
  refine ovl4_congr _ _ _ _ _ _ _ _ _ _ _ _ _ _ _ _ _ _ fun y => ?_
  have h0 : (y 0).val < 512 := (y 0).isLt
  have h1 : (y 1).val < 2048 := (y 1).isLt
  rcases (by omega : (y 0).val < 128 ∨ (128 ≤ (y 0).val ∧ (y 0).val < 256) ∨ (256 ≤ (y 0).val ∧ (y 0).val < 384) ∨ 384 ≤ (y 0).val) with h | h | h | h
  · exact .inl (Fin.forall_fin_two.mpr ⟨⟨Nat.zero_le _, by simpa using h⟩, ⟨Nat.zero_le _, by simpa using h1⟩⟩)
  · exact .inr (.inl (Fin.forall_fin_two.mpr ⟨⟨h.1, by simpa using h.2⟩, ⟨Nat.zero_le _, by simpa using h1⟩⟩))
  · exact .inr (.inr (.inl (Fin.forall_fin_two.mpr ⟨⟨h.1, by simpa using h.2⟩, ⟨Nat.zero_le _, by simpa using h1⟩⟩)))
  · exact .inr (.inr (.inr (Fin.forall_fin_two.mpr ⟨⟨h, by simpa using h0⟩, ⟨Nat.zero_le _, by simpa using h1⟩⟩)))

section Run1
variable {m2 : Memref sig .tc .vmem S256x2048 .i8} {h2 : m2.IsWhole} {m3 : Memref sig .tc .vmem S4x1x2048 .f32} {h3 : m3.IsWhole} {m4 : Memref sig .tc .vmem S4x1x2048 .i8} {h4 : m4.IsWhole} {m5 : Memref sig .tc .vmem S512x2048 .bf16} {h5 : m5.IsWhole}
variable (i : grid1.Coords) (W : Vec F S256x2048 .i8) (S : Vec F S4x1x2048 .f32) (Z : Vec F S4x1x2048 .i8) (X : Vec F S512x2048 .bf16)

/-- The body of region 1 on its four buffers. -/
theorem run1 : four c m2 m3 m4 m5 W S Z X ⊢ wp frame (wpE' (Ix := Ix) (Name := Name) (U := U) (Lvl := Lvl) defs 𝒱 (c : Thread nD τ) bd Γ) E
    (cc1_dq_up (F := F) i m2 h2 m3 h3 m4 h4 m5 h5) (fun _ => four c m2 m3 m4 m5 W S Z (out1 W S Z X)) := by
  rw [cc1_dq_up_eq_skeleton]
  unfold cc1_dq_up_skel
  rw [k1_part1_eq_skeleton]; unfold k1_part1_skel
  refine assoc_rule (four_ld2 ?_)
  refine assoc_rule (four_ld4 ?_)
  refine assoc_rule (four_ld3 ?_)
  refine assoc_rule (four_ld5 ?_)
  refine assoc_rule (four_st5 ?_)
  refine assoc_rule (four_ld2 ?_)
  refine ret_rule ?_
  dsimp -zeta only
  rw [k1_part2_eq_skeleton]; unfold k1_part2_skel
  refine assoc_rule (four_ld4 ?_)
  refine assoc_rule (four_ld3 ?_)
  refine assoc_rule (four_ld5 ?_)
  refine assoc_rule (four_st5 ?_)
  refine assoc_rule (four_ld2 ?_)
  refine assoc_rule (four_ld4 ?_)
  refine ret_rule ?_
  dsimp -zeta only
  refine four_ld3 ?_
  refine four_ld5 ?_
  refine four_st5 ?_
  refine four_ld2 ?_
  refine four_ld4 ?_
  refine four_ld3 ?_
  refine four_ld5 ?_
  refine four_st5 ?_
  exact done_rule

end Run1

section Dat1
variable (A : (c : Dev nD) → (w : Fin cfg1.W) → Buf (Elt F) ((cfg1.win w).arr.view.loc (c.tc : Thread nD τ)))

/-- The block window `w` reads at point `t`. -/
def blk1 (c : Dev nD) (w : Fin cfg1.W) (t : Fin cfg1.N) : (cfg1.win w).block.Idx → Elt F (cfg1.win w).elt :=
  (cfg1.win w).fill (cfg1.grid.coords t) (fun _ => arb F _) (((cfg1.win w).blk t).view.read (Elt F) (A c w))

/-- region 1's proof data: the inputs stay, the output block is `out1` of them. -/
def dat1 (c : Dev nD) : Dat τ (Elt F) Unit ℕ UU ℕ cfg1 c where
  A := A c
  after w t := match w with
    | ⟨0, _⟩ => blk1 A c 0 t
    | ⟨1, _⟩ => blk1 A c 1 t
    | ⟨2, _⟩ => blk1 A c 2 t
    | ⟨3, _⟩ => out1 (blk1 A c 0 t) (blk1 A c 1 t) (blk1 A c 2 t) (fun _ => arb F _)
    | ⟨_ + 4, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

theorem before1_0 (c : Dev nD) (t : Fin cfg1.N) (d) : (dat1 A c).before 0 t d = blk1 A c 0 t :=
  ((dat1 A c).before_fetched 0 t (fetch1_0 t) d).trans ((dat1 A c).fetched_of_clip_none 0 t (fun _ => rfl) d (fun _ => arb F _))
theorem before1_1 (c : Dev nD) (t : Fin cfg1.N) (d) : (dat1 A c).before 1 t d = blk1 A c 1 t :=
  ((dat1 A c).before_fetched 1 t (fetch1_1 t) d).trans ((dat1 A c).fetched_of_clip_none 1 t (fun _ => rfl) d (fun _ => arb F _))
theorem before1_2 (c : Dev nD) (t : Fin cfg1.N) (d) : (dat1 A c).before 2 t d = blk1 A c 2 t :=
  ((dat1 A c).before_fetched 2 t (fetch1_2 t) d).trans ((dat1 A c).fetched_of_clip_none 2 t (fun _ => rfl) d (fun _ => arb F _))

theorem body1 (c : Dev nD) : Pipeline.BodyObligation (dat1 A c) (defs₀ (F := F)) Variants.none () Set.univ := fun t => by
  rw [bigSep_W1, bigSep_W1]
  rw [show (dat1 A c).Φ t.castSucc = (dat1 A c).Φ t.succ from rfl]
  show _ ⊢ wp frame _ _ (bodyAt1 t) _
  simp only [before1_0, before1_1, before1_2]
  iintro ⟨HΦ, HO, ⟨%d0, H0⟩, ⟨%d1, H1⟩, ⟨%d2, H2⟩, ⟨%d3, H3⟩⟩
  iapply (wp_use (R := iprop((dat1 A c).Φ t.succ ∗ (dat1 A c).owesAt () t.castSucc)) (run1 (c := c) (cfg1.grid.coords t) (blk1 A c 0 t) (blk1 A c 1 t) (blk1 A c 2 t) ((dat1 A c).before 3 t d3)) (fun _ => ?_)) $$ [HΦ HO H0 H1 H2 H3]
  swap
  · isplitl [HΦ HO]; · isplitl [HΦ] <;> iassumption
    unfold four
    isplitl [H0]; · iexact H0
    isplitl [H1]; · iexact H1
    isplitl [H2] <;> iassumption
  unfold four
  iintro ⟨⟨HΦ, HO⟩, ⟨H0, H1, H2, H3⟩⟩
  isplitl [HΦ]; · iexact HΦ
  isplitl [HO]; · iexact HO
  isplitl [H0]; · iexact H0
  isplitl [H1]; · iexact H1
  isplitl [H2]; · iexact H2
  rw [show (dat1 A c).after 3 t = out1 (blk1 A c 0 t) (blk1 A c 1 t) (blk1 A c 2 t) ((dat1 A c).before 3 t d3) from out1_congr _ _ _ _ _]
  iexact H3

end Dat1
/-! ## region 2: the dequantised weight down -/

/-- What the body of region 2 leaves of its output block, over contents `X`: four bands of rows, one per scale group. -/
def out2 (W : Vec F S256x1024 .i8) (S : Vec F S4x1x1024 .f32) (Z : Vec F S4x1x1024 .i8) (X : Vec F S512x1024 .bf16) : Vec F S512x1024 .bf16 :=
  ovl (ovl (ovl (ovl X
    ![0, 0] S128x1024.size inb_S512x1024_S128x1024_0_0
      (k2_pay3 (rd W (Rect.unit (s := S256x1024) ![0, 0] S64x1024.size inb_S256x1024_S64x1024_0_0).toLoadRect) (rd Z (Rect.unit (s := S4x1x1024) ![0, 0, 0] S1x1x1024.size inb_S4x1x1024_S1x1x1024_0_0_0).toLoadRect) (rd S (Rect.unit (s := S4x1x1024) ![0, 0, 0] S1x1x1024.size inb_S4x1x1024_S1x1x1024_0_0_0).toLoadRect)))
    ![128, 0] S128x1024.size inb_S512x1024_S128x1024_128_0
      (k2_pay8 (k2_pay5 (rd W (Rect.unit (s := S256x1024) ![64, 0] S64x1024.size inb_S256x1024_S64x1024_64_0).toLoadRect)) (k2_pay6 (rd W (Rect.unit (s := S256x1024) ![64, 0] S64x1024.size inb_S256x1024_S64x1024_64_0).toLoadRect)) k2_pay7 (rd Z (Rect.unit (s := S4x1x1024) ![1, 0, 0] S1x1x1024.size inb_S4x1x1024_S1x1x1024_1_0_0).toLoadRect) (rd S (Rect.unit (s := S4x1x1024) ![1, 0, 0] S1x1x1024.size inb_S4x1x1024_S1x1x1024_1_0_0).toLoadRect)))
    ![256, 0] S128x1024.size inb_S512x1024_S128x1024_256_0
      (k2_pay1 (k2_pay9 (rd W (Rect.unit (s := S256x1024) ![128, 0] S64x1024.size inb_S256x1024_S64x1024_128_0).toLoadRect)) (k2_pay10 (rd Z (Rect.unit (s := S4x1x1024) ![2, 0, 0] S1x1x1024.size inb_S4x1x1024_S1x1x1024_2_0_0).toLoadRect)) (rd S (Rect.unit (s := S4x1x1024) ![2, 0, 0] S1x1x1024.size inb_S4x1x1024_S1x1x1024_2_0_0).toLoadRect)))
    ![384, 0] S128x1024.size inb_S512x1024_S128x1024_384_0
      (k2_pay2 (rd W (Rect.unit (s := S256x1024) ![192, 0] S64x1024.size inb_S256x1024_S64x1024_192_0).toLoadRect) (rd Z (Rect.unit (s := S4x1x1024) ![3, 0, 0] S1x1x1024.size inb_S4x1x1024_S1x1x1024_3_0_0).toLoadRect) (rd S (Rect.unit (s := S4x1x1024) ![3, 0, 0] S1x1x1024.size inb_S4x1x1024_S1x1x1024_3_0_0).toLoadRect))

/-- The four bands fill the block: nothing of what was there before is left. -/
theorem out2_congr (W : Vec F S256x1024 .i8) (S : Vec F S4x1x1024 .f32) (Z : Vec F S4x1x1024 .i8) (X X' : Vec F S512x1024 .bf16) : out2 W S Z X = out2 W S Z X' := by
  unfold out2
  refine ovl4_congr _ _ _ _ _ _ _ _ _ _ _ _ _ _ _ _ _ _ fun y => ?_
  have h0 : (y 0).val < 512 := (y 0).isLt
  have h1 : (y 1).val < 1024 := (y 1).isLt
  rcases (by omega : (y 0).val < 128 ∨ (128 ≤ (y 0).val ∧ (y 0).val < 256) ∨ (256 ≤ (y 0).val ∧ (y 0).val < 384) ∨ 384 ≤ (y 0).val) with h | h | h | h
  · exact .inl (Fin.forall_fin_two.mpr ⟨⟨Nat.zero_le _, by simpa using h⟩, ⟨Nat.zero_le _, by simpa using h1⟩⟩)
  · exact .inr (.inl (Fin.forall_fin_two.mpr ⟨⟨h.1, by simpa using h.2⟩, ⟨Nat.zero_le _, by simpa using h1⟩⟩))
  · exact .inr (.inr (.inl (Fin.forall_fin_two.mpr ⟨⟨h.1, by simpa using h.2⟩, ⟨Nat.zero_le _, by simpa using h1⟩⟩)))
  · exact .inr (.inr (.inr (Fin.forall_fin_two.mpr ⟨⟨h, by simpa using h0⟩, ⟨Nat.zero_le _, by simpa using h1⟩⟩)))

section Run2
variable {m2 : Memref sig .tc .vmem S256x1024 .i8} {h2 : m2.IsWhole} {m3 : Memref sig .tc .vmem S4x1x1024 .f32} {h3 : m3.IsWhole} {m4 : Memref sig .tc .vmem S4x1x1024 .i8} {h4 : m4.IsWhole} {m5 : Memref sig .tc .vmem S512x1024 .bf16} {h5 : m5.IsWhole}
variable (i : grid2.Coords) (W : Vec F S256x1024 .i8) (S : Vec F S4x1x1024 .f32) (Z : Vec F S4x1x1024 .i8) (X : Vec F S512x1024 .bf16)

/-- The body of region 2 on its four buffers. -/
theorem run2 : four c m2 m3 m4 m5 W S Z X ⊢ wp frame (wpE' (Ix := Ix) (Name := Name) (U := U) (Lvl := Lvl) defs 𝒱 (c : Thread nD τ) bd Γ) E
    (cc2_dq_down (F := F) i m2 h2 m3 h3 m4 h4 m5 h5) (fun _ => four c m2 m3 m4 m5 W S Z (out2 W S Z X)) := by
  rw [cc2_dq_down_eq_skeleton]
  unfold cc2_dq_down_skel
  rw [k2_part1_eq_skeleton]; unfold k2_part1_skel
  refine assoc_rule (four_ld2 ?_)
  refine assoc_rule (four_ld4 ?_)
  refine assoc_rule (four_ld3 ?_)
  refine assoc_rule (four_ld5 ?_)
  refine assoc_rule (four_st5 ?_)
  refine assoc_rule (four_ld2 ?_)
  refine ret_rule ?_
  dsimp -zeta only
  rw [k2_part2_eq_skeleton]; unfold k2_part2_skel
  refine assoc_rule (four_ld4 ?_)
  refine assoc_rule (four_ld3 ?_)
  refine assoc_rule (four_ld5 ?_)
  refine assoc_rule (four_st5 ?_)
  refine assoc_rule (four_ld2 ?_)
  refine assoc_rule (four_ld4 ?_)
  refine ret_rule ?_
  dsimp -zeta only
  refine four_ld3 ?_
  refine four_ld5 ?_
  refine four_st5 ?_
  refine four_ld2 ?_
  refine four_ld4 ?_
  refine four_ld3 ?_
  refine four_ld5 ?_
  refine four_st5 ?_
  exact done_rule

end Run2

section Dat2
variable (A : (c : Dev nD) → (w : Fin cfg2.W) → Buf (Elt F) ((cfg2.win w).arr.view.loc (c.tc : Thread nD τ)))

/-- The block window `w` reads at point `t`. -/
def blk2 (c : Dev nD) (w : Fin cfg2.W) (t : Fin cfg2.N) : (cfg2.win w).block.Idx → Elt F (cfg2.win w).elt :=
  (cfg2.win w).fill (cfg2.grid.coords t) (fun _ => arb F _) (((cfg2.win w).blk t).view.read (Elt F) (A c w))

/-- region 2's proof data: the inputs stay, the output block is `out2` of them. -/
def dat2 (c : Dev nD) : Dat τ (Elt F) Unit ℕ UU ℕ cfg2 c where
  A := A c
  after w t := match w with
    | ⟨0, _⟩ => blk2 A c 0 t
    | ⟨1, _⟩ => blk2 A c 1 t
    | ⟨2, _⟩ => blk2 A c 2 t
    | ⟨3, _⟩ => out2 (blk2 A c 0 t) (blk2 A c 1 t) (blk2 A c 2 t) (fun _ => arb F _)
    | ⟨_ + 4, h⟩ => absurd h (Nat.not_lt.2 (Nat.le_add_left _ _))
  Φ _ := Pipeline.scopedRest (Ix := Unit) (Name := ℕ) (U := UU) (Lvl := ℕ) (Val := Elt F) spec2 c
  q _ := fullShare
  owed _ := 0

theorem before2_0 (c : Dev nD) (t : Fin cfg2.N) (d) : (dat2 A c).before 0 t d = blk2 A c 0 t :=
  ((dat2 A c).before_fetched 0 t (fetch2_0 t) d).trans ((dat2 A c).fetched_of_clip_none 0 t (fun _ => rfl) d (fun _ => arb F _))
theorem before2_1 (c : Dev nD) (t : Fin cfg2.N) (d) : (dat2 A c).before 1 t d = blk2 A c 1 t :=
  ((dat2 A c).before_fetched 1 t (fetch2_1 t) d).trans ((dat2 A c).fetched_of_clip_none 1 t (fun _ => rfl) d (fun _ => arb F _))
theorem before2_2 (c : Dev nD) (t : Fin cfg2.N) (d) : (dat2 A c).before 2 t d = blk2 A c 2 t :=
  ((dat2 A c).before_fetched 2 t (fetch2_2 t) d).trans ((dat2 A c).fetched_of_clip_none 2 t (fun _ => rfl) d (fun _ => arb F _))

theorem body2 (c : Dev nD) : Pipeline.BodyObligation (dat2 A c) (defs₀ (F := F)) Variants.none () Set.univ := fun t => by
  rw [bigSep_W2, bigSep_W2]
  rw [show (dat2 A c).Φ t.castSucc = (dat2 A c).Φ t.succ from rfl]
  show _ ⊢ wp frame _ _ (bodyAt2 t) _
  simp only [before2_0, before2_1, before2_2]
  iintro ⟨HΦ, HO, ⟨%d0, H0⟩, ⟨%d1, H1⟩, ⟨%d2, H2⟩, ⟨%d3, H3⟩⟩
  iapply (wp_use (R := iprop((dat2 A c).Φ t.succ ∗ (dat2 A c).owesAt () t.castSucc)) (run2 (c := c) (cfg2.grid.coords t) (blk2 A c 0 t) (blk2 A c 1 t) (blk2 A c 2 t) ((dat2 A c).before 3 t d3)) (fun _ => ?_)) $$ [HΦ HO H0 H1 H2 H3]
  swap
  · isplitl [HΦ HO]; · isplitl [HΦ] <;> iassumption
    unfold four
    isplitl [H0]; · iexact H0
    isplitl [H1]; · iexact H1
    isplitl [H2] <;> iassumption
  unfold four
  iintro ⟨⟨HΦ, HO⟩, ⟨H0, H1, H2, H3⟩⟩
  isplitl [HΦ]; · iexact HΦ
  isplitl [HO]; · iexact HO
  isplitl [H0]; · iexact H0
  isplitl [H1]; · iexact H1
  isplitl [H2]; · iexact H2
  rw [show (dat2 A c).after 3 t = out2 (blk2 A c 0 t) (blk2 A c 1 t) (blk2 A c 2 t) ((dat2 A c).before 3 t d3) from out2_congr _ _ _ _ _]
  iexact H3

end Dat2

end Cert.KernelIdeal.Hand
-- ==== Proof.Reg3.lean ====
/- The main region: its windows and scratch buffers as the state the body runs on, its proof data as a relation with an
   invariant on the scratch buffers, and its body obligation from a statement about the state alone. -/
module

public import proofs.«01_k».proof.Proof.Dq

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)
open Cert.Hand Cert.KernelIdeal.Gen

variable {F : FTy → Type} [FloatOps F]

variable (F) in
/-- The contents of the scratch buffers. -/
structure Sc where
  a19 : Vec F S384x1024 .bf16
  a20 : Vec F S384x128 .f32
  a21 : Vec F S384x4096 .f32
  a22 : Vec F S384x4096 .f32
  a23 : Vec F S384x4096 .bf16
  a24 : Vec F S384x4096 .bf16
  a25 : Vec F S384x4096 .bf16
  a26 : Vec F S384x128 .f32
  a27 : Vec F S384x128 .f32
  a28 : Vec F S384x128 .f32
  a29 : Vec F S384x128 .f32
  a30 : Vec F S5x384x128 .f32
  a31 : Vec F S4x8x1024 .f32

/-- The scratch part of a state. -/
def St.sc (S : St F) : Sc F := ⟨S.a19, S.a20, S.a21, S.a22, S.a23, S.a24, S.a25, S.a26, S.a27, S.a28, S.a29, S.a30, S.a31⟩

/-- Contents of every window's staging buffer. -/
abbrev Win (F : FTy → Type) : Type := (w : Fin cfg3.W) → (cfg3.win w).block.Idx → Elt F (cfg3.win w).elt

/-- A state from the windows' contents and the scratch. -/
def stOf (Y : Win F) (K : Sc F) : St F :=
  { a2 := Y 0, a3 := Y 1, a4 := Y 2, a5 := Y 3, a6 := Y 4, a7 := Y 5, a8 := Y 6, a9 := Y 7, a10 := Y 8, a11 := Y 9, a12 := Y 10, a13 := Y 11, a14 := Y 12, a15 := Y 13, a16 := Y 14, a17 := Y 15, a18 := Y 16,
    a19 := K.a19, a20 := K.a20, a21 := K.a21, a22 := K.a22, a23 := K.a23, a24 := K.a24, a25 := K.a25, a26 := K.a26, a27 := K.a27, a28 := K.a28, a29 := K.a29, a30 := K.a30, a31 := K.a31 }

/-- The windows' part of a state. -/
def winOf (S : St F) : Win F := fun w => match w with
  | ⟨0, _⟩ => S.a2
  | ⟨1, _⟩ => S.a3
  | ⟨2, _⟩ => S.a4
  | ⟨3, _⟩ => S.a5
  | ⟨4, _⟩ => S.a6
  | ⟨5, _⟩ => S.a7
  | ⟨6, _⟩ => S.a8
  | ⟨7, _⟩ => S.a9
  | ⟨8, _⟩ => S.a10
  | ⟨9, _⟩ => S.a11
  | ⟨10, _⟩ => S.a12
  | ⟨11, _⟩ => S.a13
  | ⟨12, _⟩ => S.a14
  | ⟨13, _⟩ => S.a15
  | ⟨14, _⟩ => S.a16
  | ⟨15, _⟩ => S.a17
  | ⟨16, _⟩ => S.a18
  | ⟨_ + 17, h⟩ => absurd h (Nat.not_lt.2 (Nat.le_add_left _ _))

/-- The buffers the body is called on at point `t`. -/
def Mt (t : Fin cfg3.N) : Mr :=
  { m2 := win3_0.stage (cfg3.slots t 0), h2 := hstage3_0 ((cfg3.slots t 0).cast nbuf3_0),
    m3 := win3_1.stage (cfg3.slots t 1), h3 := hstage3_1 ((cfg3.slots t 1).cast nbuf3_1),
    m4 := win3_2.stage (cfg3.slots t 2), h4 := hstage3_2 ((cfg3.slots t 2).cast nbuf3_2),
    m5 := win3_3.stage (cfg3.slots t 3), h5 := hstage3_3 ((cfg3.slots t 3).cast nbuf3_3),
    m6 := win3_4.stage (cfg3.slots t 4), h6 := hstage3_4 ((cfg3.slots t 4).cast nbuf3_4),
    m7 := win3_5.stage (cfg3.slots t 5), h7 := hstage3_5 ((cfg3.slots t 5).cast nbuf3_5),
    m8 := win3_6.stage (cfg3.slots t 6), h8 := hstage3_6 ((cfg3.slots t 6).cast nbuf3_6),
    m9 := win3_7.stage (cfg3.slots t 7), h9 := hstage3_7 ((cfg3.slots t 7).cast nbuf3_7),
    m10 := win3_8.stage (cfg3.slots t 8), h10 := hstage3_8 ((cfg3.slots t 8).cast nbuf3_8),
    m11 := win3_9.stage (cfg3.slots t 9), h11 := hstage3_9 ((cfg3.slots t 9).cast nbuf3_9),
    m12 := win3_10.stage (cfg3.slots t 10), h12 := hstage3_10 ((cfg3.slots t 10).cast nbuf3_10),
    m13 := win3_11.stage (cfg3.slots t 11), h13 := hstage3_11 ((cfg3.slots t 11).cast nbuf3_11),
    m14 := win3_12.stage (cfg3.slots t 12), h14 := hstage3_12 ((cfg3.slots t 12).cast nbuf3_12),
    m15 := win3_13.stage (cfg3.slots t 13), h15 := hstage3_13 ((cfg3.slots t 13).cast nbuf3_13),
    m16 := win3_14.stage (cfg3.slots t 14), h16 := hstage3_14 ((cfg3.slots t 14).cast nbuf3_14),
    m17 := win3_15.stage (cfg3.slots t 15), h17 := hstage3_15 ((cfg3.slots t 15).cast nbuf3_15),
    m18 := win3_16.stage (cfg3.slots t 16), h18 := hstage3_16 ((cfg3.slots t 16).cast nbuf3_16),
    m19 := Memref.whole cc3_scratch0, h19 := Memref.isWhole_whole _,
    m20 := Memref.whole cc3_scratch1, h20 := Memref.isWhole_whole _,
    m21 := Memref.whole cc3_scratch2, h21 := Memref.isWhole_whole _,
    m22 := Memref.whole cc3_scratch3, h22 := Memref.isWhole_whole _,
    m23 := Memref.whole cc3_scratch4, h23 := Memref.isWhole_whole _,
    m24 := Memref.whole cc3_scratch5, h24 := Memref.isWhole_whole _,
    m25 := Memref.whole cc3_scratch6, h25 := Memref.isWhole_whole _,
    m26 := Memref.whole cc3_scratch7, h26 := Memref.isWhole_whole _,
    m27 := Memref.whole cc3_scratch8, h27 := Memref.isWhole_whole _,
    m28 := Memref.whole cc3_scratch9, h28 := Memref.isWhole_whole _,
    m29 := Memref.whole cc3_scratch10, h29 := Memref.isWhole_whole _,
    m30 := Memref.whole cc3_scratch11, h30 := Memref.isWhole_whole _,
    m31 := Memref.whole cc3_scratch12, h31 := Memref.isWhole_whole _ }

section Held

variable {Ix : Type} [DecidableEq Ix] {Name : Type} [DecidableEq Name] {U : Type} [URA U] {Lvl : Type}

/-- The scratch buffers held at `K`. -/
def sch (c : Dev nD) (K : Sc F) : sProp (MT nD τ sig Ix (Elt F) Name U Lvl) :=
  iprop(owns (c : Thread nD τ) (Memref.whole cc3_scratch0) fullShare K.a19 ∗ owns (c : Thread nD τ) (Memref.whole cc3_scratch1) fullShare K.a20 ∗ owns (c : Thread nD τ) (Memref.whole cc3_scratch2) fullShare K.a21 ∗ owns (c : Thread nD τ) (Memref.whole cc3_scratch3) fullShare K.a22 ∗ owns (c : Thread nD τ) (Memref.whole cc3_scratch4) fullShare K.a23 ∗ owns (c : Thread nD τ) (Memref.whole cc3_scratch5) fullShare K.a24 ∗ owns (c : Thread nD τ) (Memref.whole cc3_scratch6) fullShare K.a25 ∗ owns (c : Thread nD τ) (Memref.whole cc3_scratch7) fullShare K.a26 ∗ owns (c : Thread nD τ) (Memref.whole cc3_scratch8) fullShare K.a27 ∗ owns (c : Thread nD τ) (Memref.whole cc3_scratch9) fullShare K.a28 ∗ owns (c : Thread nD τ) (Memref.whole cc3_scratch10) fullShare K.a29 ∗ owns (c : Thread nD τ) (Memref.whole cc3_scratch11) fullShare K.a30 ∗ owns (c : Thread nD τ) (Memref.whole cc3_scratch12) fullShare K.a31)

/-- The windows held at `Y`. -/
def wch (c : Dev nD) (t : Fin cfg3.N) (Y : Win F) : sProp (MT nD τ sig Ix (Elt F) Name U Lvl) :=
  bigSep Finset.univ fun w : Fin cfg3.W => owns (c : Thread nD τ) ((cfg3.win w).stage (cfg3.slots t w)) fullShare (Y w)

theorem own_intro (c : Dev nD) (t : Fin cfg3.N) (Y : Win F) (K : Sc F) :
    iprop(wch c t Y ∗ sch c K) ⊢ (own c (Mt t) (stOf Y K) : sProp (MT nD τ sig Ix (Elt F) Name U Lvl)) := by
  unfold wch sch own own0 own1 own2 own3 own4
  rw [bigSep_W3]
  iintro ⟨⟨H2, H3, H4, H5, H6, H7, H8, H9, H10, H11, H12, H13, H14, H15, H16, H17, H18⟩, ⟨H19, H20, H21, H22, H23, H24, H25, H26, H27, H28, H29, H30, H31⟩⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [H20 H21 H22 H23 H24 H25]
  · isplitl [H20]; · iexact H20
    isplitl [H21]; · iexact H21
    isplitl [H22]; · iexact H22
    isplitl [H23]; · iexact H23
    isplitl [H24]; · iexact H24
    iexact H25
  isplitl [H26]; · iexact H26
  isplitl [H27]; · iexact H27
  isplitl [H28]; · iexact H28
  isplitl [H29]; · iexact H29
  isplitl [H30]; · iexact H30
  iexact H31

theorem own_elim (c : Dev nD) (t : Fin cfg3.N) (S : St F) :
    (own c (Mt t) S : sProp (MT nD τ sig Ix (Elt F) Name U Lvl)) ⊢ iprop(wch c t (winOf S) ∗ sch c S.sc) := by
  unfold wch sch own own0 own1 own2 own3 own4
  rw [bigSep_W3]
  iintro ⟨⟨H2, H3, H4, H5, H6, H7⟩, ⟨H8, H9, H10, H11, H12, H13⟩, ⟨H14, H15, H16, H17, H18, H19⟩, ⟨H20, H21, H22, H23, H24, H25⟩, ⟨H26, H27, H28, H29, H30, H31⟩⟩
  isplitl [H2 H3 H4 H5 H6 H7 H8 H9 H10 H11 H12 H13 H14 H15 H16 H17 H18]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The scratch buffers and the rest of what the region may use, as the launch hands them over. -/
theorem sch_of_rest (c : Dev nD) :
    (Pipeline.scopedRest (Ix := Ix) (Name := Name) (U := U) (Lvl := Lvl) (Val := Elt F) spec3 c : sProp (MT nD τ sig Ix (Elt F) Name U Lvl))
      ⊢ iprop((∃ K : Sc F, sch c K) ∗ Pipeline.scopedRestBut (Ix := Ix) (Name := Name) (U := U) (Lvl := Lvl) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12]) := by
  rw [scopedRest3_split]
  unfold sch
  simp only [owns_whole]
  iintro ⟨⟨⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩⟩, Hr⟩
  isplitr [Hr]
  · iexists ⟨f19, f20, f21, f22, f23, f24, f25, f26, f27, f28, f29, f30, f31⟩
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iexact Hr

theorem rest_of_sch (c : Dev nD) (K : Sc F) :
    iprop(sch c K ∗ Pipeline.scopedRestBut (Ix := Ix) (Name := Name) (U := U) (Lvl := Lvl) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12])
      ⊢ (Pipeline.scopedRest (Ix := Ix) (Name := Name) (U := U) (Lvl := Lvl) (Val := Elt F) spec3 c : sProp (MT nD τ sig Ix (Elt F) Name U Lvl)) := by
  rw [scopedRest3_split]
  unfold sch
  simp only [owns_whole]
  iintro ⟨⟨H19, H20, H21, H22, H23, H24, H25, H26, H27, H28, H29, H30, H31⟩, Hr⟩
  isplitr [Hr]
  · isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31
  iexact Hr

end Held

section Dat3

variable (A : (c : Dev nD) → (w : Fin cfg3.W) → Buf (Elt F) ((cfg3.win w).arr.view.loc (c.tc : Thread nD τ)))
variable (aft : Dev nD → (w : Fin cfg3.W) → Fin cfg3.N → (Y X : (cfg3.win w).block.Idx → Elt F (cfg3.win w).elt) → Prop)
variable (Inv : Dev nD → ℕ → Sc F → Prop)

/-- The invariant before point `n`: the scratch buffers at contents of which `Inv` holds, and the rest untouched. -/
def Phi3 (c : Dev nD) (n : ℕ) : sProp (MT nD τ sig Unit (Elt F) ℕ UU ℕ) :=
  iprop((∃ K : Sc F, ⌜Inv c n K⌝ ∗ sch c K) ∗ Pipeline.scopedRestBut (Ix := Unit) (Name := ℕ) (U := UU) (Lvl := ℕ) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12])

/-- The main region's proof data. -/
def rd3 (c : Dev nD) : RDat τ (Elt F) Unit ℕ UU ℕ cfg3 c where
  A := A c
  after := aft c
  Φ n := Phi3 Inv c n.val
  q _ := fullShare
  owed _ := 0

/-- The statement about the state the body obligation asks for: at every point, from windows at what they may hold and
    scratch of which the invariant holds, the body leaves each window at what the relation allows and the invariant true. -/
def Good (c : Dev nD) : Prop :=
  ∀ (t : Fin cfg3.N) (Y : Win F) (K : Sc F), (∀ w, (rd3 A aft Inv c).Finds w t (Y w)) → Inv c t.val K →
    Inv c (t.val + 1) (step (grid3.coords t) (stOf Y K)).sc ∧ ∀ w, aft c w t (Y w) (winOf (step (grid3.coords t) (stOf Y K)) w)

theorem body3 (c : Dev nD) (hg : Good A aft Inv c) : (rd3 A aft Inv c).BodyObligation (defs₀ (F := F)) Variants.none () Set.univ := fun t Y hY => by
  show iprop(Phi3 Inv c t.val ∗ (rd3 A aft Inv c).owesAt () t.castSucc ∗ wch c t Y) ⊢ wp frame _ _ (body (grid3.coords t) (Mt t))
    (fun _ => iprop(Phi3 Inv c (t.val + 1) ∗ (rd3 A aft Inv c).owesAt () t.castSucc ∗ bigSep Finset.univ fun w : Fin cfg3.W => iprop(∃ X, ⌜aft c w t (Y w) X⌝ ∗ owns (c : Thread nD τ) ((cfg3.win w).stage (cfg3.slots t w)) fullShare X)))
  unfold Phi3
  iintro ⟨⟨⟨%K, %hK, HK⟩, Hr⟩, HO, HW⟩
  obtain ⟨h1, h2⟩ := hg t Y K hY hK
  iapply (wp_use (R := iprop((Pipeline.scopedRestBut (Ix := Unit) (Name := ℕ) (U := UU) (Lvl := ℕ) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12]) ∗ (rd3 A aft Inv c).owesAt () t.castSucc)) (body_run (c := c) (M := Mt t) (grid3.coords t) (stOf Y K)) (fun _ => ?_)) $$ [HK Hr HO HW]
  swap
  · isplitl [Hr HO]; · isplitl [Hr] <;> iassumption
    iapply own_intro
    isplitl [HW] <;> iassumption
  iintro ⟨⟨Hr, HO⟩, H⟩
  ihave H := (own_elim c t _) $$ H
  icases H with ⟨HW, HK⟩
  isplitl [HK Hr]
  · isplitl [HK]
    · iexists _
      isplitr; · ipureintro; exact h1
      iexact HK
    iexact Hr
  isplitl [HO]; · iexact HO
  have hm : (wch c t (winOf (step (grid3.coords t) (stOf Y K))) : sProp (MT nD τ sig Unit (Elt F) ℕ UU ℕ))
      ⊢ bigSep Finset.univ fun w : Fin cfg3.W => iprop(∃ X, ⌜aft c w t (Y w) X⌝ ∗ owns (c : Thread nD τ) ((cfg3.win w).stage (cfg3.slots t w)) fullShare X) :=
    bigSep_mono fun w _ => by
      show (owns (c : Thread nD τ) ((cfg3.win w).stage (cfg3.slots t w)) fullShare (winOf (step (grid3.coords t) (stOf Y K)) w) : sProp (MT nD τ sig Unit (Elt F) ℕ UU ℕ)) ⊢ iprop(∃ X, ⌜aft c w t (Y w) X⌝ ∗ owns (c : Thread nD τ) ((cfg3.win w).stage (cfg3.slots t w)) fullShare X)
      iintro H
      iexists _
      isplitr; · ipureintro; exact h2 w
      iexact H
  iapply hm
  iexact HW

end Dat3

end Cert.KernelIdeal.Hand
-- ==== Proof.Run.lean ====
/- The program's run: what every unscoped buffer holds between two items of @main, the four regions' records and the host
   stretches' in order, and what every final state has in the buffers. -/
module

public import proofs.«01_k».proof.Proof.Kit
public import proofs.«01_k».proof.Proof.Reg3
public import proofs.«01_k».proof.Proof.Gen.KernelIdeal.Regions
public import Idealize.ShloMosaic.Lib.Pipeline.RegionsOwned

@[expose] public section

set_option maxRecDepth 4096

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
open Cert.Hand Cert.KernelIdeal.Gen

variable {F : FTy → Type} [FloatOps F]

section Chain

variable (m : (ℓ : Loc nD τ sig) → Buf (Elt F) ℓ)

/-- Region 0's arrays at its entry. -/
def A0 (c : Dev nD) (w : Fin cfg0.W) : Buf (Elt F) ((cfg0.win w).arr.view.loc (c : Thread nD τ)) :=
  V1 m c (Proc.devRef .tc (Pipeline.arrRef spec0 w))
/-- The buffers after region 0. -/
def W2 (c : Dev nD) : Valuation τ sig (Elt F) :=
  Function.update (V1 m c) (Proc.devRef .tc main_v2) ((dat0 (A0 m) c).arrAt 3 cfg0.N)
/-- The buffers after the host stretch that follows. -/
def W3 (c : Dev nD) : Valuation τ sig (Elt F) := StableHlo.after hostOps1 (W2 m c)

/-- Region 1's arrays at its entry. -/
def A1 (c : Dev nD) (w : Fin cfg1.W) : Buf (Elt F) ((cfg1.win w).arr.view.loc (c : Thread nD τ)) :=
  W3 m c (Proc.devRef .tc (Pipeline.arrRef spec1 w))
/-- The buffers after region 1. -/
def W4 (c : Dev nD) : Valuation τ sig (Elt F) :=
  Function.update (W3 m c) (Proc.devRef .tc main_v5) ((dat1 (A1 m) c).arrAt 3 cfg1.N)
/-- The buffers after the host stretch that follows. -/
def W5 (c : Dev nD) : Valuation τ sig (Elt F) := StableHlo.after hostOps2 (W4 m c)

/-- Region 2's arrays at its entry. -/
def A2 (c : Dev nD) (w : Fin cfg2.W) : Buf (Elt F) ((cfg2.win w).arr.view.loc (c : Thread nD τ)) :=
  W5 m c (Proc.devRef .tc (Pipeline.arrRef spec2 w))
/-- The buffers after region 2. -/
def W6 (c : Dev nD) : Valuation τ sig (Elt F) :=
  Function.update (W5 m c) (Proc.devRef .tc main_v8) ((dat2 (A2 m) c).arrAt 3 cfg2.N)
/-- The buffers after the host stretch that follows. -/
def W7 (c : Dev nD) : Valuation τ sig (Elt F) := StableHlo.after hostOps3 (W6 m c)

/-- The main region's arrays at its entry. -/
def A3 (c : Dev nD) (w : Fin cfg3.W) : Buf (Elt F) ((cfg3.win w).arr.view.loc (c : Thread nD τ)) :=
  W7 m c (Proc.devRef .tc (Pipeline.arrRef spec3 w))

variable (aft : Dev nD → (w : Fin cfg3.W) → Fin cfg3.N → (Y X : (cfg3.win w).block.Idx → Elt F (cfg3.win w).elt) → Prop)
variable (Inv : Dev nD → ℕ → Sc F → Prop)

/-- The four regions' proof data. -/
def rdats : (p : Fin 4) → (c : Dev nD) → RDat τ (Elt F) Unit ℕ UU ℕ (cfgs p) c
  | ⟨0, _⟩, c => (dat0 (A0 m) c).toR
  | ⟨1, _⟩, c => (dat1 (A1 m) c).toR
  | ⟨2, _⟩, c => (dat2 (A2 m) c).toR
  | ⟨3, _⟩, c => rd3 (A3 m) aft Inv c
  | ⟨n + 4, h⟩, _ => absurd h (by omega)

abbrev LL : GSem nD τ sig → Finset Unit := fun _ => ∅
abbrev lvl : GSem nD τ sig → Unit → ℕ := fun _ _ => 0
abbrev EPP : Emb (UR sig nD τ) (MT nD τ sig Unit (Elt F) ℕ UU ℕ) := embL

abbrev rest0 {gr W : ℕ} (win : Fin W → Pipeline.WinSpec sig gr) (c : Dev nD) : sProp (MT nD τ sig Unit (Elt F) ℕ UU ℕ) :=
  Pipeline.scopedRest (Ix := Unit) (Name := ℕ) (U := UU) (Lvl := ℕ) (Val := Elt F) win c

abbrev RS (p : Fin 4) := RDat.RegionSeg (pcfgs (F := F)) adm (rdats m aft Inv) () defs₀ Variants.none LL lvl p

theorem phi_in0 (A) (c : Dev nD) (n) : rest0 spec0 c ⊢ (dat0 (F := F) A c).Φ n := by
  dsimp only [dat0]; exact BI.Entails.refl _
theorem phi_out0 (A) (c : Dev nD) (n) : (dat0 (F := F) A c).Φ n ⊢ rest0 spec0 c := by
  dsimp only [dat0]; exact BI.Entails.refl _
set_option backward.isDefEq.respectTransparency.types false in
/-- Region 0's record. -/
def reg0 : RS m aft Inv 0 :=
  regionOf (pcfgs (F := F)) adm (rdats m aft Inv) () defs₀ Variants.none LL lvl 0 launch0.toP rfl
    (by constructor <;> exact fun k => k.elim0) (fun c => (body0 (A0 m) c).toR) (fun _ _ => rfl) (fun _ => rfl) (fun c => (dat0 (A0 m) c).toR.share_full fun _ => rfl)
    (V1 m) (fun _ _ => rfl) (fun c => phi_in0 (A0 m) c 0) (fun c => phi_out0 (A0 m) c (Fin.last cfg0.N))

theorem phi_in1 (A) (c : Dev nD) (n) : rest0 spec1 c ⊢ (dat1 (F := F) A c).Φ n := by
  dsimp only [dat1]; exact BI.Entails.refl _
theorem phi_out1 (A) (c : Dev nD) (n) : (dat1 (F := F) A c).Φ n ⊢ rest0 spec1 c := by
  dsimp only [dat1]; exact BI.Entails.refl _
set_option backward.isDefEq.respectTransparency.types false in
/-- Region 1's record. -/
def reg1 : RS m aft Inv 1 :=
  regionOf (pcfgs (F := F)) adm (rdats m aft Inv) () defs₀ Variants.none LL lvl 1 launch1.toP rfl
    (by constructor <;> exact fun k => k.elim0) (fun c => (body1 (A1 m) c).toR) (fun _ _ => rfl) (fun _ => rfl) (fun c => (dat1 (A1 m) c).toR.share_full fun _ => rfl)
    (W3 m) (fun _ _ => rfl) (fun c => phi_in1 (A1 m) c 0) (fun c => phi_out1 (A1 m) c (Fin.last cfg1.N))

theorem phi_in2 (A) (c : Dev nD) (n) : rest0 spec2 c ⊢ (dat2 (F := F) A c).Φ n := by
  dsimp only [dat2]; exact BI.Entails.refl _
theorem phi_out2 (A) (c : Dev nD) (n) : (dat2 (F := F) A c).Φ n ⊢ rest0 spec2 c := by
  dsimp only [dat2]; exact BI.Entails.refl _
set_option backward.isDefEq.respectTransparency.types false in
/-- Region 2's record. -/
def reg2 : RS m aft Inv 2 :=
  regionOf (pcfgs (F := F)) adm (rdats m aft Inv) () defs₀ Variants.none LL lvl 2 launch2.toP rfl
    (by constructor <;> exact fun k => k.elim0) (fun c => (body2 (A2 m) c).toR) (fun _ _ => rfl) (fun _ => rfl) (fun c => (dat2 (A2 m) c).toR.share_full fun _ => rfl)
    (W5 m) (fun _ _ => rfl) (fun c => phi_in2 (A2 m) c 0) (fun c => phi_out2 (A2 m) c (Fin.last cfg2.N))

theorem phi_in' (c : Dev nD) (h0 : ∀ K, Inv c 0 K) :
    (Pipeline.scopedRest (Ix := Unit) (Name := ℕ) (U := UU) (Lvl := ℕ) (Val := Elt F) spec3 c : sProp (MT nD τ sig Unit (Elt F) ℕ UU ℕ)) ⊢ Phi3 Inv c 0 := by
  unfold Phi3
  iintro H
  ihave H := (sch_of_rest c) $$ H
  icases H with ⟨⟨%K, HK⟩, Hr⟩
  isplitl [HK]
  · iexists K
    isplitr; · ipureintro; exact h0 K
    iexact HK
  iexact Hr

theorem phi_out' (c : Dev nD) (n : ℕ) :
    Phi3 Inv c n ⊢ (Pipeline.scopedRest (Ix := Unit) (Name := ℕ) (U := UU) (Lvl := ℕ) (Val := Elt F) spec3 c : sProp (MT nD τ sig Unit (Elt F) ℕ UU ℕ)) := by
  unfold Phi3
  iintro ⟨⟨%K, -, HK⟩, Hr⟩
  iapply (rest_of_sch c K)
  isplitl [HK] <;> iassumption

set_option backward.isDefEq.respectTransparency.types false in
/-- Region 3's record. -/
def reg3 (hg : ∀ c, Good (A3 m) aft Inv c) (h0 : ∀ c K, Inv c 0 K) : RS m aft Inv 3 :=
  regionOf (pcfgs (F := F)) adm (rdats m aft Inv) () defs₀ Variants.none LL lvl 3 launch3.toP rfl
    (by constructor <;> exact fun k => k.elim0) (fun c => body3 (A3 m) aft Inv c (hg c)) (fun _ _ => rfl) (fun _ => rfl) (fun c => (rd3 (A3 m) aft Inv c).share_full fun _ => rfl)
    (W7 m) (fun _ _ => rfl) (fun c => phi_in' Inv c (h0 c)) (fun c => phi_out' Inv c _)

set_option backward.isDefEq.respectTransparency.types false in
/-- What region 0 leaves is named. -/
theorem left0 (c : Dev nD) (V : Valuation τ sig (Elt F)) (h : LeftAt (pcfgs (F := F)) adm (rdats m aft Inv) 0 (V1 m) c V) : V = W2 m c := by
  obtain ⟨h1, h2⟩ := h
  have hin (w : Fin cfg0.W) (hw : (cfg0.win w).isOut = false) : V (Proc.devRef .tc (Pipeline.arrRef spec0 w)) = V1 m c (Proc.devRef .tc (Pipeline.arrRef spec0 w)) := by
    have := h1 w
    change (dat0 (A0 m) c).toR.ArrAt w cfg0.N _ at this
    rw [RDat.ArrAt_in _ w hw] at this
    exact this
  funext d
  unfold W2
  by_cases hd : d = Proc.devRef .tc main_v2
  · subst hd
    rw [Function.update_self]
    exact (dat0 (A0 m) c).toR_arrAt 3 cfg0.N _ (h1 3)
  rw [Function.update_of_ne hd]
  by_cases hw : ∀ w, (Proc.devRef (τ := τ) .tc (Pipeline.arrRef spec0 w)) ≠ d
  · exact h2 d hw
  push Not at hw
  obtain ⟨w, rfl⟩ := hw
  match w with
  | ⟨0, _⟩ => exact hin 0 rfl
  | ⟨1, _⟩ => exact hin 1 rfl
  | ⟨2, _⟩ => exact hin 2 rfl
  | ⟨3, _⟩ => exact absurd rfl hd

set_option backward.isDefEq.respectTransparency.types false in
/-- What region 1 leaves is named. -/
theorem left1 (c : Dev nD) (V : Valuation τ sig (Elt F)) (h : LeftAt (pcfgs (F := F)) adm (rdats m aft Inv) 1 (W3 m) c V) : V = W4 m c := by
  obtain ⟨h1, h2⟩ := h
  have hin (w : Fin cfg1.W) (hw : (cfg1.win w).isOut = false) : V (Proc.devRef .tc (Pipeline.arrRef spec1 w)) = W3 m c (Proc.devRef .tc (Pipeline.arrRef spec1 w)) := by
    have := h1 w
    change (dat1 (A1 m) c).toR.ArrAt w cfg1.N _ at this
    rw [RDat.ArrAt_in _ w hw] at this
    exact this
  funext d
  unfold W4
  by_cases hd : d = Proc.devRef .tc main_v5
  · subst hd
    rw [Function.update_self]
    exact (dat1 (A1 m) c).toR_arrAt 3 cfg1.N _ (h1 3)
  rw [Function.update_of_ne hd]
  by_cases hw : ∀ w, (Proc.devRef (τ := τ) .tc (Pipeline.arrRef spec1 w)) ≠ d
  · exact h2 d hw
  push Not at hw
  obtain ⟨w, rfl⟩ := hw
  match w with
  | ⟨0, _⟩ => exact hin 0 rfl
  | ⟨1, _⟩ => exact hin 1 rfl
  | ⟨2, _⟩ => exact hin 2 rfl
  | ⟨3, _⟩ => exact absurd rfl hd

set_option backward.isDefEq.respectTransparency.types false in
/-- What region 2 leaves is named. -/
theorem left2 (c : Dev nD) (V : Valuation τ sig (Elt F)) (h : LeftAt (pcfgs (F := F)) adm (rdats m aft Inv) 2 (W5 m) c V) : V = W6 m c := by
  obtain ⟨h1, h2⟩ := h
  have hin (w : Fin cfg2.W) (hw : (cfg2.win w).isOut = false) : V (Proc.devRef .tc (Pipeline.arrRef spec2 w)) = W5 m c (Proc.devRef .tc (Pipeline.arrRef spec2 w)) := by
    have := h1 w
    change (dat2 (A2 m) c).toR.ArrAt w cfg2.N _ at this
    rw [RDat.ArrAt_in _ w hw] at this
    exact this
  funext d
  unfold W6
  by_cases hd : d = Proc.devRef .tc main_v8
  · subst hd
    rw [Function.update_self]
    exact (dat2 (A2 m) c).toR_arrAt 3 cfg2.N _ (h1 3)
  rw [Function.update_of_ne hd]
  by_cases hw : ∀ w, (Proc.devRef (τ := τ) .tc (Pipeline.arrRef spec2 w)) ≠ d
  · exact h2 d hw
  push Not at hw
  obtain ⟨w, rfl⟩ := hw
  match w with
  | ⟨0, _⟩ => exact hin 0 rfl
  | ⟨1, _⟩ => exact hin 1 rfl
  | ⟨2, _⟩ => exact hin 2 rfl
  | ⟨3, _⟩ => exact absurd rfl hd

variable (hg : ∀ c, Good (A3 m) aft Inv c) (h0 : ∀ c K, Inv c 0 K)

/-- The core owes nothing. -/
abbrev EE (c : Dev nD) : sProp (MT nD τ sig Unit (Elt F) ℕ UU ℕ) := iprop(∃ Wd, owes (c : Thread nD τ) (0 : CellTallies nD τ sig Unit) Wd)

/-- Host stretch 0. -/
def host0 : HostSeg (Ix := Unit) (Name := ℕ) (U := UU) (Lvl := ℕ) (pcfgs (F := F)) defs₀ Variants.none LL lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) EE
/-- Host stretch 1. -/
def host1 : HostSeg (Ix := Unit) (Name := ℕ) (U := UU) (Lvl := ℕ) (pcfgs (F := F)) defs₀ Variants.none LL lvl :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) EE
/-- Host stretch 2. -/
def host2 : HostSeg (Ix := Unit) (Name := ℕ) (U := UU) (Lvl := ℕ) (pcfgs (F := F)) defs₀ Variants.none LL lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) EE
/-- Host stretch 3. -/
def host3 : HostSeg (Ix := Unit) (Name := ℕ) (U := UU) (Lvl := ℕ) (pcfgs (F := F)) defs₀ Variants.none LL lvl :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) EE
/-- What the main region leaves. -/
def Left3 (c : Dev nD) : Type := { V : Valuation τ sig (Elt F) // LeftAt (pcfgs (F := F)) adm (rdats m aft Inv) 3 (W7 m) c V }
/-- Host stretch 4, from whatever the main region left. -/
def host4 : HostSeg (Ix := Unit) (Name := ℕ) (U := UU) (Lvl := ℕ) (pcfgs (F := F)) defs₀ Variants.none LL lvl :=
  Pipeline.HostSeg.ofOpsEx (Γ := Left3 m aft Inv) _ _ _ _ _ (Pipeline.ucRefs τ sig) hostOps4
    (fun op h => Pipeline.sub_ucRefs op ((List.forall_iff_forall_mem.mp hostOps4_sub) op h))
    (fun op h => (List.forall_iff_forall_mem.mp hostOps4_fresh) op h) (fun _ V => V.1) EE

/-- @main's items. -/
def items (_ : Dev nD) : List (RDat.Seg (pcfgs (F := F)) adm (rdats m aft Inv) () defs₀ Variants.none LL lvl) :=
  [.host (host0 m), .region (reg0 m aft Inv), .host (host1 m), .region (reg1 m aft Inv), .host (host2 m), .region (reg2 m aft Inv), .host (host3 m),
    .region (reg3 m aft Inv hg h0), .host (host4 m aft Inv)]

/-- What the core holds at the end. -/
def TN (c : Dev nD) : sProp (MT nD τ sig Unit (Elt F) ℕ UU ℕ) :=
  iprop(∃ V : Left3 m aft Inv c, StableHlo.held (c : Thread nD τ) (Pipeline.ucRefs τ sig) (StableHlo.after hostOps4 V.1))

set_option backward.isDefEq.respectTransparency.types false in
theorem post0 (c : Dev nD) : (reg0 m aft Inv).post c ⊢ (host1 m).pre c := by
  show iprop((∃ V, ⌜LeftAt (pcfgs (F := F)) adm (rdats m aft Inv) 0 _ c V⌝ ∗ StableHlo.held (c : Thread nD τ) (Pipeline.ucRefs τ sig) V) ∗ EE c)
    ⊢ iprop(StableHlo.held (c : Thread nD τ) (Pipeline.ucRefs τ sig) (W2 m c) ∗ EE c)
  iintro ⟨⟨%V, %h, H⟩, HO⟩
  rw [← left0 m aft Inv c V h]
  isplitl [H] <;> iassumption

set_option backward.isDefEq.respectTransparency.types false in
theorem post1 (c : Dev nD) : (reg1 m aft Inv).post c ⊢ (host2 m).pre c := by
  show iprop((∃ V, ⌜LeftAt (pcfgs (F := F)) adm (rdats m aft Inv) 1 _ c V⌝ ∗ StableHlo.held (c : Thread nD τ) (Pipeline.ucRefs τ sig) V) ∗ EE c)
    ⊢ iprop(StableHlo.held (c : Thread nD τ) (Pipeline.ucRefs τ sig) (W4 m c) ∗ EE c)
  iintro ⟨⟨%V, %h, H⟩, HO⟩
  rw [← left1 m aft Inv c V h]
  isplitl [H] <;> iassumption

set_option backward.isDefEq.respectTransparency.types false in
theorem post2 (c : Dev nD) : (reg2 m aft Inv).post c ⊢ (host3 m).pre c := by
  show iprop((∃ V, ⌜LeftAt (pcfgs (F := F)) adm (rdats m aft Inv) 2 _ c V⌝ ∗ StableHlo.held (c : Thread nD τ) (Pipeline.ucRefs τ sig) V) ∗ EE c)
    ⊢ iprop(StableHlo.held (c : Thread nD τ) (Pipeline.ucRefs τ sig) (W6 m c) ∗ EE c)
  iintro ⟨⟨%V, %h, H⟩, HO⟩
  rw [← left2 m aft Inv c V h]
  isplitl [H] <;> iassumption

set_option backward.isDefEq.respectTransparency.types false in
theorem post3 (c : Dev nD) : (reg3 m aft Inv hg h0).post c ⊢ (host4 m aft Inv).pre c := by
  show iprop((∃ V, ⌜LeftAt (pcfgs (F := F)) adm (rdats m aft Inv) 3 _ c V⌝ ∗ StableHlo.held (c : Thread nD τ) (Pipeline.ucRefs τ sig) V) ∗ EE c)
    ⊢ iprop((∃ V : Left3 m aft Inv c, StableHlo.held (c : Thread nD τ) (Pipeline.ucRefs τ sig) V.1) ∗ EE c)
  iintro ⟨⟨%V, %h, H⟩, HO⟩
  isplitl [H]
  · iexists (⟨V, h⟩ : Left3 m aft Inv c)
    iexact H
  iexact HO

set_option backward.isDefEq.respectTransparency.types false in
include hg h0 in
/-- At the compiled mesh, for any float values, from any memory with zero counters: every weakly fair execution of @main
    terminates, and every final state has the unscoped buffers at what the last host stretch makes of what the main region
    leaves, every semaphore counter at zero. -/
theorem run (ρ : Dev nD → PrngReg) : θ_run defs (onTc (τ := τ) (main (F := F))) ⟨m, fun _ => 0, ρ⟩
    (fun r => (∀ c : Dev nD, ∃ V : Left3 m aft Inv c, ∀ d ∈ Pipeline.ucRefs τ sig, r.2.mem (c, d) = StableHlo.after hostOps4 V.1 d) ∧ r.2.sem = fun _ => 0) := by
  refine RDat.θ_run_regions_kit_dev_sems (pcfgs (F := F)) adm (rdats m aft Inv) () cellOf_inj EPP defs₀ Variants.none LL lvl m ρ main
    (items m aft Inv hg h0)
    (fun c Q => by
      rewrite [main_chain c, RDat.Seg.run_eq_chain,
        show (items m aft Inv hg h0 c).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [items, RDat.Seg.pipes_host, RDat.Seg.pipes_region, RDat.Seg.pipes_nil]; decide) (O₀ := 0) (hL := fun _ _ => rfl)
    (G := fun _ => iprop(emp)) (u₀ := (initOf (Pipeline.cells cfgs cellOf_inj) (Pipeline.launchToks cfgs cellOf_inj), 1))
    (hu₀ := ?_)
    (T₀ := fun c => iprop(StableHlo.held (c : Thread nD τ) (Pipeline.ucRefs τ sig) (V0 m c) ∗ EE c)) (Tₙ := TN m aft Inv)
    (hch := fun c => ⟨.rfl, .rfl, post0 m aft Inv c, .rfl, post1 m aft Inv c, .rfl, post2 m aft Inv c, .rfl, post3 m aft Inv hg h0 c, .rfl⟩)
    (hinit := ?_) (QY := fun c s => ∃ V : Left3 m aft Inv c, ∀ d ∈ Pipeline.ucRefs τ sig, s.mem (c, d) = StableHlo.after hostOps4 V.1 d)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp (MT nD τ sig Unit (Elt F) ℕ UU ℕ)) ⊢ bigSep Finset.univ (fun _ : Dev nD => (BI.emp : sProp (MT nD τ sig Unit (Elt F) ℕ UU ℕ))) from by rw [BI.bigSep_emp_const])
    iempintro
  · refine Pipeline.initEach LL lvl fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold TN StableHlo.held
    iintro ⟨⟨%V, Hh⟩, HSI⟩
    ihave Hr := (pointsTo_read_all (Pipeline.ucRefs τ sig) (fun b => ((c : Thread nD τ).1, b)) (StableHlo.after hostOps4 V.1) s') $$ [Hh HSI]
    · isplitl [Hh] <;> iassumption
    icases Hr with ⟨%h, HSI⟩
    imodintro
    isplitr
    · ipureintro
      exact ⟨V, h⟩
    iexact HSI

end Chain

end Cert.KernelIdeal.Hand
-- ==== Proof.Frames.lean ====
/- What the run leaves unchanged: every argument, and so the program's frame. -/
module

public import proofs.«01_k».proof.Proof.Run
public import Idealize.ShloMosaic.Lib.Claim

@[expose] public section

set_option maxRecDepth 4096

noncomputable section

namespace Cert.KernelIdeal.Hand

open Idealize.ShloMosaic Idealize.ShloMosaic.TcCoe
open Idealize.SL.Sem
open Idealize.ShloMosaic.Pipeline (Dat RDat HostSeg)
open Cert.Hand Cert.KernelIdeal.Gen

variable {F : FTy → Type} [FloatOps F]
variable (m : (ℓ : Loc nD τ sig) → Buf (Elt F) ℓ)

theorem W2_of (c : Dev nD) (r : Ref sig .tc) (h : r ≠ main_v2) : W2 m c r = V1 m c r :=
  Function.update_of_ne (StableHlo.devRef_ne_of_ne h) _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v5) : W4 m c r = W3 m c r :=
  Function.update_of_ne (StableHlo.devRef_ne_of_ne h) _ _
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ≠ main_v8) : W6 m c r = W5 m c r :=
  Function.update_of_ne (StableHlo.devRef_ne_of_ne h) _ _
theorem W7_of (c : Dev nD) (r : Ref sig .tc) (h : r ∉ hostOps3_W) : W7 m c r = W6 m c r :=
  StableHlo.after_of_writes_sub hostOps3 _ hostOps3_writes h

/-- A buffer nothing before the main region writes is there as launched. -/
theorem W7_of_m (c : Dev nD) (r : Ref sig .tc) (h3 : r ∉ hostOps3_W) (h6 : r ≠ main_v8) (h2 : r ∉ hostOps2_W) (h4 : r ≠ main_v5)
    (h1 : r ∉ hostOps1_W) (h5 : r ≠ main_v2) (h0 : r ∉ hostOps0_W) : W7 m c r = m ((c : Thread nD τ).loc r) :=
  (W7_of m c r h3).trans <| (W6_of m c r h6).trans <| (W5_of m c r h2).trans <| (W4_of m c r h4).trans <| (W3_of m c r h1).trans <|
    (W2_of m c r h5).trans (V1_of m c r h0)

variable (aft : Dev nD → (w : Fin cfg3.W) → Fin cfg3.N → (Y X : (cfg3.win w).block.Idx → Elt F (cfg3.win w).elt) → Prop)
variable (Inv : Dev nD → ℕ → Sc F → Prop)

/-- A buffer that is no result of the main region is after it as before it. -/
theorem left3_of (c : Dev nD) (V : Left3 m aft Inv c) (r : Ref sig .tc) (h : ∀ w : Fin cfg3.W, (cfg3.win w).isOut = true → Pipeline.arrRef spec3 w ≠ r) :
    V.1 r = W7 m c r := by
  obtain ⟨V, h1, h2⟩ := V
  by_cases hw : ∃ w : Fin cfg3.W, Pipeline.arrRef spec3 w = r
  · obtain ⟨w, rfl⟩ := hw
    have hin : (cfg3.win w).isOut = false := by
      by_contra hh
      exact h w (by simpa using hh) rfl
    have := h1 w
    change (rd3 (A3 m) aft Inv c).ArrAt w cfg3.N _ at this
    rw [RDat.ArrAt_in _ w hin] at this
    exact this
  · exact h2 _ fun w hw' => hw ⟨w, Proc.devRef_injective _ hw'⟩

theorem last_of (c : Dev nD) (V : Left3 m aft Inv c) (r : Ref sig .tc) (h : r ∉ hostOps4_W) :
    StableHlo.after hostOps4 V.1 r = V.1 r := StableHlo.after_of_writes_sub hostOps4 _ hostOps4_writes h

theorem last_arg (c : Dev nD) (V : Left3 m aft Inv c) (r : Ref sig .tc) (h8 : r ∉ hostOps4_W)
    (h : ∀ w : Fin cfg3.W, (cfg3.win w).isOut = true → Pipeline.arrRef spec3 w ≠ r)
    (h3 : r ∉ hostOps3_W) (h6 : r ≠ main_v8) (h2 : r ∉ hostOps2_W) (h4 : r ≠ main_v5)
    (h1 : r ∉ hostOps1_W) (h5 : r ≠ main_v2) (h0 : r ∉ hostOps0_W) : StableHlo.after hostOps4 V.1 r = m ((c : Thread nD τ).loc r) :=
  (last_of m aft Inv c V r h8).trans ((left3_of m aft Inv c V r h).trans (W7_of_m m c r h3 h6 h2 h4 h1 h5 h0))

theorem last_arg0 (c : Dev nD) (V : Left3 m aft Inv c) : StableHlo.after hostOps4 V.1 main_arg0 = m ((c : Thread nD τ).loc main_arg0) :=
  last_arg m aft Inv c V main_arg0 (by decide) (by decide +kernel) (by decide) (by decide) (by decide) (by decide) (by decide) (by decide) (by decide)
theorem last_arg1 (c : Dev nD) (V : Left3 m aft Inv c) : StableHlo.after hostOps4 V.1 main_arg1 = m ((c : Thread nD τ).loc main_arg1) :=
  last_arg m aft Inv c V main_arg1 (by decide) (by decide +kernel) (by decide) (by decide) (by decide) (by decide) (by decide) (by decide) (by decide)
theorem last_arg2 (c : Dev nD) (V : Left3 m aft Inv c) : StableHlo.after hostOps4 V.1 main_arg2 = m ((c : Thread nD τ).loc main_arg2) :=
  last_arg m aft Inv c V main_arg2 (by decide) (by decide +kernel) (by decide) (by decide) (by decide) (by decide) (by decide) (by decide) (by decide)
theorem last_arg3 (c : Dev nD) (V : Left3 m aft Inv c) : StableHlo.after hostOps4 V.1 main_arg3 = m ((c : Thread nD τ).loc main_arg3) :=
  last_arg m aft Inv c V main_arg3 (by decide) (by decide +kernel) (by decide) (by decide) (by decide) (by decide) (by decide) (by decide) (by decide)
theorem last_arg4 (c : Dev nD) (V : Left3 m aft Inv c) : StableHlo.after hostOps4 V.1 main_arg4 = m ((c : Thread nD τ).loc main_arg4) :=
  last_arg m aft Inv c V main_arg4 (by decide) (by decide +kernel) (by decide) (by decide) (by decide) (by decide) (by decide) (by decide) (by decide)
theorem last_arg5 (c : Dev nD) (V : Left3 m aft Inv c) : StableHlo.after hostOps4 V.1 main_arg5 = m ((c : Thread nD τ).loc main_arg5) :=
  last_arg m aft Inv c V main_arg5 (by decide) (by decide +kernel) (by decide) (by decide) (by decide) (by decide) (by decide) (by decide) (by decide)
theorem last_arg6 (c : Dev nD) (V : Left3 m aft Inv c) : StableHlo.after hostOps4 V.1 main_arg6 = m ((c : Thread nD τ).loc main_arg6) :=
  last_arg m aft Inv c V main_arg6 (by decide) (by decide +kernel) (by decide) (by decide) (by decide) (by decide) (by decide) (by decide) (by decide)
theorem last_arg7 (c : Dev nD) (V : Left3 m aft Inv c) : StableHlo.after hostOps4 V.1 main_arg7 = m ((c : Thread nD τ).loc main_arg7) :=
  last_arg m aft Inv c V main_arg7 (by decide) (by decide +kernel) (by decide) (by decide) (by decide) (by decide) (by decide) (by decide) (by decide)
theorem last_arg8 (c : Dev nD) (V : Left3 m aft Inv c) : StableHlo.after hostOps4 V.1 main_arg8 = m ((c : Thread nD τ).loc main_arg8) :=
  last_arg m aft Inv c V main_arg8 (by decide) (by decide +kernel) (by decide) (by decide) (by decide) (by decide) (by decide) (by decide) (by decide)
theorem last_arg9 (c : Dev nD) (V : Left3 m aft Inv c) : StableHlo.after hostOps4 V.1 main_arg9 = m ((c : Thread nD τ).loc main_arg9) :=
  last_arg m aft Inv c V main_arg9 (by decide) (by decide +kernel) (by decide) (by decide) (by decide) (by decide) (by decide) (by decide) (by decide)
theorem last_arg10 (c : Dev nD) (V : Left3 m aft Inv c) : StableHlo.after hostOps4 V.1 main_arg10 = m ((c : Thread nD τ).loc main_arg10) :=
  last_arg m aft Inv c V main_arg10 (by decide) (by decide +kernel) (by decide) (by decide) (by decide) (by decide) (by decide) (by decide) (by decide)
theorem last_arg11 (c : Dev nD) (V : Left3 m aft Inv c) : StableHlo.after hostOps4 V.1 main_arg11 = m ((c : Thread nD τ).loc main_arg11) :=
  last_arg m aft Inv c V main_arg11 (by decide) (by decide +kernel) (by decide) (by decide) (by decide) (by decide) (by decide) (by decide) (by decide)
theorem last_arg12 (c : Dev nD) (V : Left3 m aft Inv c) : StableHlo.after hostOps4 V.1 main_arg12 = m ((c : Thread nD τ).loc main_arg12) :=
  last_arg m aft Inv c V main_arg12 (by decide) (by decide +kernel) (by decide) (by decide) (by decide) (by decide) (by decide) (by decide) (by decide)

/-- For any float values: every weakly fair execution of @main terminates with every argument unchanged and every semaphore
    counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  have h := run m (fun _ _ _ _ _ => True) (fun _ _ _ => True) (fun c t Y K _ _ => ⟨trivial, fun _ => trivial⟩) (fun _ _ => trivial) ρ
  refine Idealize.ShloMosaic.θ_run_mono h fun r hr => ⟨fun c => ?_, hr.2⟩
  obtain ⟨V, hV⟩ := hr.1 c
  exact ⟨(hV (Proc.devRef .tc main_arg0) (Finset.mem_filter.mpr ⟨StableHlo.devRef_mem_tcRefs main_arg0, by decide⟩)).trans (last_arg0 m _ _ c V),
        (hV (Proc.devRef .tc main_arg1) (Finset.mem_filter.mpr ⟨StableHlo.devRef_mem_tcRefs main_arg1, by decide⟩)).trans (last_arg1 m _ _ c V),
        (hV (Proc.devRef .tc main_arg2) (Finset.mem_filter.mpr ⟨StableHlo.devRef_mem_tcRefs main_arg2, by decide⟩)).trans (last_arg2 m _ _ c V),
        (hV (Proc.devRef .tc main_arg3) (Finset.mem_filter.mpr ⟨StableHlo.devRef_mem_tcRefs main_arg3, by decide⟩)).trans (last_arg3 m _ _ c V),
        (hV (Proc.devRef .tc main_arg4) (Finset.mem_filter.mpr ⟨StableHlo.devRef_mem_tcRefs main_arg4, by decide⟩)).trans (last_arg4 m _ _ c V),
        (hV (Proc.devRef .tc main_arg5) (Finset.mem_filter.mpr ⟨StableHlo.devRef_mem_tcRefs main_arg5, by decide⟩)).trans (last_arg5 m _ _ c V),
        (hV (Proc.devRef .tc main_arg6) (Finset.mem_filter.mpr ⟨StableHlo.devRef_mem_tcRefs main_arg6, by decide⟩)).trans (last_arg6 m _ _ c V),
        (hV (Proc.devRef .tc main_arg7) (Finset.mem_filter.mpr ⟨StableHlo.devRef_mem_tcRefs main_arg7, by decide⟩)).trans (last_arg7 m _ _ c V),
        (hV (Proc.devRef .tc main_arg8) (Finset.mem_filter.mpr ⟨StableHlo.devRef_mem_tcRefs main_arg8, by decide⟩)).trans (last_arg8 m _ _ c V),
        (hV (Proc.devRef .tc main_arg9) (Finset.mem_filter.mpr ⟨StableHlo.devRef_mem_tcRefs main_arg9, by decide⟩)).trans (last_arg9 m _ _ c V),
        (hV (Proc.devRef .tc main_arg10) (Finset.mem_filter.mpr ⟨StableHlo.devRef_mem_tcRefs main_arg10, by decide⟩)).trans (last_arg10 m _ _ c V),
        (hV (Proc.devRef .tc main_arg11) (Finset.mem_filter.mpr ⟨StableHlo.devRef_mem_tcRefs main_arg11, by decide⟩)).trans (last_arg11 m _ _ c V),
        (hV (Proc.devRef .tc main_arg12) (Finset.mem_filter.mpr ⟨StableHlo.devRef_mem_tcRefs main_arg12, by decide⟩)).trans (last_arg12 m _ _ c V)⟩

end Cert.KernelIdeal.Hand
-- ==== Proof.KState.lean ====
/- The state of the main kernel's body: the contents of its seventeen windows and thirteen scratch buffers, what holding
   them all means, and how one of them is taken out and put back. -/
module

public import proofs.«01_k».proof.Proof.Mem
public import proofs.«01_k».proof.Proof.Gen.Kernel.Skeleton

@[expose] public section

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Hand

variable {F : FTy → Type} [FloatOps F]

/-- The body's buffers. -/
structure Mr where
  m2 : Memref sig .tc .vmem S384x1024 .bf16
  m3 : Memref sig .tc .vmem S1024x512 .bf16
  m4 : Memref sig .tc .vmem S1024x512 .bf16
  m5 : Memref sig .tc .vmem S1024x512 .bf16
  m6 : Memref sig .tc .vmem S1024x512 .bf16
  m7 : Memref sig .tc .vmem S4096x256 .bf16
  m8 : Memref sig .tc .vmem S4096x256 .bf16
  m9 : Memref sig .tc .vmem S4x6x1536 .f32
  m10 : Memref sig .tc .vmem S4x1024 .f32
  m11 : Memref sig .tc .vmem S6x1536 .f32
  m12 : Memref sig .tc .vmem S384x1024 .bf16
  m13 : Memref sig .tc .vmem S384x1024 .i8
  m14 : Memref sig .tc .vmem S6x1536 .f32
  m15 : Memref sig .tc .vmem S384x4096 .i8
  m16 : Memref sig .tc .vmem S6x1536 .f32
  m17 : Memref sig .tc .vmem S384x4096 .i8
  m18 : Memref sig .tc .vmem S6x1536 .f32
  m19 : Memref sig .tc .vmem S384x1024 .bf16
  m20 : Memref sig .tc .vmem S384x128 .f32
  m21 : Memref sig .tc .vmem S384x4096 .f32
  m22 : Memref sig .tc .vmem S384x4096 .f32
  m23 : Memref sig .tc .vmem S384x4096 .bf16
  m24 : Memref sig .tc .vmem S384x4096 .bf16
  m25 : Memref sig .tc .vmem S384x4096 .bf16
  m26 : Memref sig .tc .vmem S384x128 .f32
  m27 : Memref sig .tc .vmem S384x128 .f32
  m28 : Memref sig .tc .vmem S384x128 .f32
  m29 : Memref sig .tc .vmem S384x128 .f32
  m30 : Memref sig .tc .vmem S5x384x128 .f32
  m31 : Memref sig .tc .vmem S4x8x1024 .f32
  h2 : m2.IsWhole
  h3 : m3.IsWhole
  h4 : m4.IsWhole
  h5 : m5.IsWhole
  h6 : m6.IsWhole
  h7 : m7.IsWhole
  h8 : m8.IsWhole
  h9 : m9.IsWhole
  h10 : m10.IsWhole
  h11 : m11.IsWhole
  h12 : m12.IsWhole
  h13 : m13.IsWhole
  h14 : m14.IsWhole
  h15 : m15.IsWhole
  h16 : m16.IsWhole
  h17 : m17.IsWhole
  h18 : m18.IsWhole
  h19 : m19.IsWhole
  h20 : m20.IsWhole
  h21 : m21.IsWhole
  h22 : m22.IsWhole
  h23 : m23.IsWhole
  h24 : m24.IsWhole
  h25 : m25.IsWhole
  h26 : m26.IsWhole
  h27 : m27.IsWhole
  h28 : m28.IsWhole
  h29 : m29.IsWhole
  h30 : m30.IsWhole
  h31 : m31.IsWhole

/-- The body at the buffers `M`. -/
abbrev body (i : grid3.Coords) (M : Mr) : Prog (TpuEff nD τ sig (Elt F) Λ₀ .tc) PUnit :=
  cc3_probe_main i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 M.m21 M.h21 M.m22 M.h22 M.m23 M.h23 M.m24 M.h24 M.m25 M.h25 M.m26 M.h26 M.m27 M.h27 M.m28 M.h28 M.m29 M.h29 M.m30 M.h30 M.m31 M.h31

variable (F) in
/-- The contents of the body's buffers. -/
structure St where
  a2 : Vec F S384x1024 .bf16
  a3 : Vec F S1024x512 .bf16
  a4 : Vec F S1024x512 .bf16
  a5 : Vec F S1024x512 .bf16
  a6 : Vec F S1024x512 .bf16
  a7 : Vec F S4096x256 .bf16
  a8 : Vec F S4096x256 .bf16
  a9 : Vec F S4x6x1536 .f32
  a10 : Vec F S4x1024 .f32
  a11 : Vec F S6x1536 .f32
  a12 : Vec F S384x1024 .bf16
  a13 : Vec F S384x1024 .i8
  a14 : Vec F S6x1536 .f32
  a15 : Vec F S384x4096 .i8
  a16 : Vec F S6x1536 .f32
  a17 : Vec F S384x4096 .i8
  a18 : Vec F S6x1536 .f32
  a19 : Vec F S384x1024 .bf16
  a20 : Vec F S384x128 .f32
  a21 : Vec F S384x4096 .f32
  a22 : Vec F S384x4096 .f32
  a23 : Vec F S384x4096 .bf16
  a24 : Vec F S384x4096 .bf16
  a25 : Vec F S384x4096 .bf16
  a26 : Vec F S384x128 .f32
  a27 : Vec F S384x128 .f32
  a28 : Vec F S384x128 .f32
  a29 : Vec F S384x128 .f32
  a30 : Vec F S5x384x128 .f32
  a31 : Vec F S4x8x1024 .f32

section Own

variable {Ix : Type} [DecidableEq Ix] {Name : Type} [DecidableEq Name] {U : Type} [URA U] {Lvl : Type} [Preorder Lvl]

local notation "𝕄" => MT nD τ sig Ix (Elt F) Name U Lvl

/-- Group 0 of the buffers held. -/
def own0 (c : Dev nD) (M : Mr) (S : St F) : sProp 𝕄 :=
  iprop(owns (c : Thread nD τ) M.m2 fullShare S.a2 ∗ owns (c : Thread nD τ) M.m3 fullShare S.a3 ∗ owns (c : Thread nD τ) M.m4 fullShare S.a4 ∗ owns (c : Thread nD τ) M.m5 fullShare S.a5 ∗ owns (c : Thread nD τ) M.m6 fullShare S.a6 ∗ owns (c : Thread nD τ) M.m7 fullShare S.a7)

/-- Group 1 of the buffers held. -/
def own1 (c : Dev nD) (M : Mr) (S : St F) : sProp 𝕄 :=
  iprop(owns (c : Thread nD τ) M.m8 fullShare S.a8 ∗ owns (c : Thread nD τ) M.m9 fullShare S.a9 ∗ owns (c : Thread nD τ) M.m10 fullShare S.a10 ∗ owns (c : Thread nD τ) M.m11 fullShare S.a11 ∗ owns (c : Thread nD τ) M.m12 fullShare S.a12 ∗ owns (c : Thread nD τ) M.m13 fullShare S.a13)

/-- Group 2 of the buffers held. -/
def own2 (c : Dev nD) (M : Mr) (S : St F) : sProp 𝕄 :=
  iprop(owns (c : Thread nD τ) M.m14 fullShare S.a14 ∗ owns (c : Thread nD τ) M.m15 fullShare S.a15 ∗ owns (c : Thread nD τ) M.m16 fullShare S.a16 ∗ owns (c : Thread nD τ) M.m17 fullShare S.a17 ∗ owns (c : Thread nD τ) M.m18 fullShare S.a18 ∗ owns (c : Thread nD τ) M.m19 fullShare S.a19)

/-- Group 3 of the buffers held. -/
def own3 (c : Dev nD) (M : Mr) (S : St F) : sProp 𝕄 :=
  iprop(owns (c : Thread nD τ) M.m20 fullShare S.a20 ∗ owns (c : Thread nD τ) M.m21 fullShare S.a21 ∗ owns (c : Thread nD τ) M.m22 fullShare S.a22 ∗ owns (c : Thread nD τ) M.m23 fullShare S.a23 ∗ owns (c : Thread nD τ) M.m24 fullShare S.a24 ∗ owns (c : Thread nD τ) M.m25 fullShare S.a25)

/-- Group 4 of the buffers held. -/
def own4 (c : Dev nD) (M : Mr) (S : St F) : sProp 𝕄 :=
  iprop(owns (c : Thread nD τ) M.m26 fullShare S.a26 ∗ owns (c : Thread nD τ) M.m27 fullShare S.a27 ∗ owns (c : Thread nD τ) M.m28 fullShare S.a28 ∗ owns (c : Thread nD τ) M.m29 fullShare S.a29 ∗ owns (c : Thread nD τ) M.m30 fullShare S.a30 ∗ owns (c : Thread nD τ) M.m31 fullShare S.a31)

/-- Every buffer held at the contents the state names. -/
def own (c : Dev nD) (M : Mr) (S : St F) : sProp 𝕄 :=
  iprop(own0 c M S ∗ own1 c M S ∗ own2 c M S ∗ own3 c M S ∗ own4 c M S)

variable (c : Dev nD) (M : Mr) (S : St F)

theorem own_2 : (own c M S : sProp 𝕄) ⊢ iprop(owns (c : Thread nD τ) M.m2 fullShare S.a2
    ∗ (∀ X, owns (c : Thread nD τ) M.m2 fullShare X -∗ own c M { S with a2 := X })) := by
  unfold own own0
  iintro ⟨⟨H2, H3, H4, H5, H6, H7⟩, G1, G2, G3, G4⟩
  isplitl [H2]; · iexact H2
  iintro %X H2
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_3 : (own c M S : sProp 𝕄) ⊢ iprop(owns (c : Thread nD τ) M.m3 fullShare S.a3
    ∗ (∀ X, owns (c : Thread nD τ) M.m3 fullShare X -∗ own c M { S with a3 := X })) := by
  unfold own own0
  iintro ⟨⟨H2, H3, H4, H5, H6, H7⟩, G1, G2, G3, G4⟩
  isplitl [H3]; · iexact H3
  iintro %X H3
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_4 : (own c M S : sProp 𝕄) ⊢ iprop(owns (c : Thread nD τ) M.m4 fullShare S.a4
    ∗ (∀ X, owns (c : Thread nD τ) M.m4 fullShare X -∗ own c M { S with a4 := X })) := by
  unfold own own0
  iintro ⟨⟨H2, H3, H4, H5, H6, H7⟩, G1, G2, G3, G4⟩
  isplitl [H4]; · iexact H4
  iintro %X H4
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_5 : (own c M S : sProp 𝕄) ⊢ iprop(owns (c : Thread nD τ) M.m5 fullShare S.a5
    ∗ (∀ X, owns (c : Thread nD τ) M.m5 fullShare X -∗ own c M { S with a5 := X })) := by
  unfold own own0
  iintro ⟨⟨H2, H3, H4, H5, H6, H7⟩, G1, G2, G3, G4⟩
  isplitl [H5]; · iexact H5
  iintro %X H5
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_6 : (own c M S : sProp 𝕄) ⊢ iprop(owns (c : Thread nD τ) M.m6 fullShare S.a6
    ∗ (∀ X, owns (c : Thread nD τ) M.m6 fullShare X -∗ own c M { S with a6 := X })) := by
  unfold own own0
  iintro ⟨⟨H2, H3, H4, H5, H6, H7⟩, G1, G2, G3, G4⟩
  isplitl [H6]; · iexact H6
  iintro %X H6
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_7 : (own c M S : sProp 𝕄) ⊢ iprop(owns (c : Thread nD τ) M.m7 fullShare S.a7
    ∗ (∀ X, owns (c : Thread nD τ) M.m7 fullShare X -∗ own c M { S with a7 := X })) := by
  unfold own own0
  iintro ⟨⟨H2, H3, H4, H5, H6, H7⟩, G1, G2, G3, G4⟩
  isplitl [H7]; · iexact H7
  iintro %X H7
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [G1]; · iexact G1
  isplitl [G2]; · iexact G2
  isplitl [G3]; · iexact G3
  iexact G4

theorem own_8 : (own c M S : sProp 𝕄) ⊢ iprop(owns (c : Thread nD τ) M.m8 fullShare S.a8
    ∗ (∀ X, owns (c : Thread nD τ) M.m8 fullShare X -∗ own c M { S with a8 := X })) := by
  unfold own own1
  iintro ⟨G0, ⟨H8, H9, H10, H11, H12, H13⟩, G2, G3, G4⟩
  isplitl [H8]; · iexact H8
  iintro %X H8
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_9 : (own c M S : sProp 𝕄) ⊢ iprop(owns (c : Thread nD τ) M.m9 fullShare S.a9
    ∗ (∀ X, owns (c : Thread nD τ) M.m9 fullShare X -∗ own c M { S with a9 := X })) := by
  unfold own own1
  iintro ⟨G0, ⟨H8, H9, H10, H11, H12, H13⟩, G2, G3, G4⟩
  isplitl [H9]; · iexact H9
  iintro %X H9
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_10 : (own c M S : sProp 𝕄) ⊢ iprop(owns (c : Thread nD τ) M.m10 fullShare S.a10
    ∗ (∀ X, owns (c : Thread nD τ) M.m10 fullShare X -∗ own c M { S with a10 := X })) := by
  unfold own own1
  iintro ⟨G0, ⟨H8, H9, H10, H11, H12, H13⟩, G2, G3, G4⟩
  isplitl [H10]; · iexact H10
  iintro %X H10
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_11 : (own c M S : sProp 𝕄) ⊢ iprop(owns (c : Thread nD τ) M.m11 fullShare S.a11
    ∗ (∀ X, owns (c : Thread nD τ) M.m11 fullShare X -∗ own c M { S with a11 := X })) := by
  unfold own own1
  iintro ⟨G0, ⟨H8, H9, H10, H11, H12, H13⟩, G2, G3, G4⟩
  isplitl [H11]; · iexact H11
  iintro %X H11
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_12 : (own c M S : sProp 𝕄) ⊢ iprop(owns (c : Thread nD τ) M.m12 fullShare S.a12
    ∗ (∀ X, owns (c : Thread nD τ) M.m12 fullShare X -∗ own c M { S with a12 := X })) := by
  unfold own own1
  iintro ⟨G0, ⟨H8, H9, H10, H11, H12, H13⟩, G2, G3, G4⟩
  isplitl [H12]; · iexact H12
  iintro %X H12
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_13 : (own c M S : sProp 𝕄) ⊢ iprop(owns (c : Thread nD τ) M.m13 fullShare S.a13
    ∗ (∀ X, owns (c : Thread nD τ) M.m13 fullShare X -∗ own c M { S with a13 := X })) := by
  unfold own own1
  iintro ⟨G0, ⟨H8, H9, H10, H11, H12, H13⟩, G2, G3, G4⟩
  isplitl [H13]; · iexact H13
  iintro %X H13
  isplitl [G0]; · iexact G0
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [G2]; · iexact G2
  isplitl [G3]; · iexact G3
  iexact G4

theorem own_14 : (own c M S : sProp 𝕄) ⊢ iprop(owns (c : Thread nD τ) M.m14 fullShare S.a14
    ∗ (∀ X, owns (c : Thread nD τ) M.m14 fullShare X -∗ own c M { S with a14 := X })) := by
  unfold own own2
  iintro ⟨G0, G1, ⟨H14, H15, H16, H17, H18, H19⟩, G3, G4⟩
  isplitl [H14]; · iexact H14
  iintro %X H14
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_15 : (own c M S : sProp 𝕄) ⊢ iprop(owns (c : Thread nD τ) M.m15 fullShare S.a15
    ∗ (∀ X, owns (c : Thread nD τ) M.m15 fullShare X -∗ own c M { S with a15 := X })) := by
  unfold own own2
  iintro ⟨G0, G1, ⟨H14, H15, H16, H17, H18, H19⟩, G3, G4⟩
  isplitl [H15]; · iexact H15
  iintro %X H15
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_16 : (own c M S : sProp 𝕄) ⊢ iprop(owns (c : Thread nD τ) M.m16 fullShare S.a16
    ∗ (∀ X, owns (c : Thread nD τ) M.m16 fullShare X -∗ own c M { S with a16 := X })) := by
  unfold own own2
  iintro ⟨G0, G1, ⟨H14, H15, H16, H17, H18, H19⟩, G3, G4⟩
  isplitl [H16]; · iexact H16
  iintro %X H16
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_17 : (own c M S : sProp 𝕄) ⊢ iprop(owns (c : Thread nD τ) M.m17 fullShare S.a17
    ∗ (∀ X, owns (c : Thread nD τ) M.m17 fullShare X -∗ own c M { S with a17 := X })) := by
  unfold own own2
  iintro ⟨G0, G1, ⟨H14, H15, H16, H17, H18, H19⟩, G3, G4⟩
  isplitl [H17]; · iexact H17
  iintro %X H17
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_18 : (own c M S : sProp 𝕄) ⊢ iprop(owns (c : Thread nD τ) M.m18 fullShare S.a18
    ∗ (∀ X, owns (c : Thread nD τ) M.m18 fullShare X -∗ own c M { S with a18 := X })) := by
  unfold own own2
  iintro ⟨G0, G1, ⟨H14, H15, H16, H17, H18, H19⟩, G3, G4⟩
  isplitl [H18]; · iexact H18
  iintro %X H18
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_19 : (own c M S : sProp 𝕄) ⊢ iprop(owns (c : Thread nD τ) M.m19 fullShare S.a19
    ∗ (∀ X, owns (c : Thread nD τ) M.m19 fullShare X -∗ own c M { S with a19 := X })) := by
  unfold own own2
  iintro ⟨G0, G1, ⟨H14, H15, H16, H17, H18, H19⟩, G3, G4⟩
  isplitl [H19]; · iexact H19
  iintro %X H19
  isplitl [G0]; · iexact G0
  isplitl [G1]; · iexact G1
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [G3]; · iexact G3
  iexact G4

theorem own_20 : (own c M S : sProp 𝕄) ⊢ iprop(owns (c : Thread nD τ) M.m20 fullShare S.a20
    ∗ (∀ X, owns (c : Thread nD τ) M.m20 fullShare X -∗ own c M { S with a20 := X })) := by
  unfold own own3
  iintro ⟨G0, G1, G2, ⟨H20, H21, H22, H23, H24, H25⟩, G4⟩
  isplitl [H20]; · iexact H20
  iintro %X H20
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_21 : (own c M S : sProp 𝕄) ⊢ iprop(owns (c : Thread nD τ) M.m21 fullShare S.a21
    ∗ (∀ X, owns (c : Thread nD τ) M.m21 fullShare X -∗ own c M { S with a21 := X })) := by
  unfold own own3
  iintro ⟨G0, G1, G2, ⟨H20, H21, H22, H23, H24, H25⟩, G4⟩
  isplitl [H21]; · iexact H21
  iintro %X H21
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_22 : (own c M S : sProp 𝕄) ⊢ iprop(owns (c : Thread nD τ) M.m22 fullShare S.a22
    ∗ (∀ X, owns (c : Thread nD τ) M.m22 fullShare X -∗ own c M { S with a22 := X })) := by
  unfold own own3
  iintro ⟨G0, G1, G2, ⟨H20, H21, H22, H23, H24, H25⟩, G4⟩
  isplitl [H22]; · iexact H22
  iintro %X H22
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_23 : (own c M S : sProp 𝕄) ⊢ iprop(owns (c : Thread nD τ) M.m23 fullShare S.a23
    ∗ (∀ X, owns (c : Thread nD τ) M.m23 fullShare X -∗ own c M { S with a23 := X })) := by
  unfold own own3
  iintro ⟨G0, G1, G2, ⟨H20, H21, H22, H23, H24, H25⟩, G4⟩
  isplitl [H23]; · iexact H23
  iintro %X H23
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_24 : (own c M S : sProp 𝕄) ⊢ iprop(owns (c : Thread nD τ) M.m24 fullShare S.a24
    ∗ (∀ X, owns (c : Thread nD τ) M.m24 fullShare X -∗ own c M { S with a24 := X })) := by
  unfold own own3
  iintro ⟨G0, G1, G2, ⟨H20, H21, H22, H23, H24, H25⟩, G4⟩
  isplitl [H24]; · iexact H24
  iintro %X H24
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_25 : (own c M S : sProp 𝕄) ⊢ iprop(owns (c : Thread nD τ) M.m25 fullShare S.a25
    ∗ (∀ X, owns (c : Thread nD τ) M.m25 fullShare X -∗ own c M { S with a25 := X })) := by
  unfold own own3
  iintro ⟨G0, G1, G2, ⟨H20, H21, H22, H23, H24, H25⟩, G4⟩
  isplitl [H25]; · iexact H25
  iintro %X H25
  isplitl [G0]; · iexact G0
  isplitl [G1]; · iexact G1
  isplitl [G2]; · iexact G2
  isplitl [H20 H21 H22 H23 H24 H25]
  · isplitl [H20]; · iexact H20
    isplitl [H21]; · iexact H21
    isplitl [H22]; · iexact H22
    isplitl [H23]; · iexact H23
    isplitl [H24]; · iexact H24
    iexact H25
  iexact G4

theorem own_26 : (own c M S : sProp 𝕄) ⊢ iprop(owns (c : Thread nD τ) M.m26 fullShare S.a26
    ∗ (∀ X, owns (c : Thread nD τ) M.m26 fullShare X -∗ own c M { S with a26 := X })) := by
  unfold own own4
  iintro ⟨G0, G1, G2, G3, ⟨H26, H27, H28, H29, H30, H31⟩⟩
  isplitl [H26]; · iexact H26
  iintro %X H26
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_27 : (own c M S : sProp 𝕄) ⊢ iprop(owns (c : Thread nD τ) M.m27 fullShare S.a27
    ∗ (∀ X, owns (c : Thread nD τ) M.m27 fullShare X -∗ own c M { S with a27 := X })) := by
  unfold own own4
  iintro ⟨G0, G1, G2, G3, ⟨H26, H27, H28, H29, H30, H31⟩⟩
  isplitl [H27]; · iexact H27
  iintro %X H27
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_28 : (own c M S : sProp 𝕄) ⊢ iprop(owns (c : Thread nD τ) M.m28 fullShare S.a28
    ∗ (∀ X, owns (c : Thread nD τ) M.m28 fullShare X -∗ own c M { S with a28 := X })) := by
  unfold own own4
  iintro ⟨G0, G1, G2, G3, ⟨H26, H27, H28, H29, H30, H31⟩⟩
  isplitl [H28]; · iexact H28
  iintro %X H28
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_29 : (own c M S : sProp 𝕄) ⊢ iprop(owns (c : Thread nD τ) M.m29 fullShare S.a29
    ∗ (∀ X, owns (c : Thread nD τ) M.m29 fullShare X -∗ own c M { S with a29 := X })) := by
  unfold own own4
  iintro ⟨G0, G1, G2, G3, ⟨H26, H27, H28, H29, H30, H31⟩⟩
  isplitl [H29]; · iexact H29
  iintro %X H29
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_30 : (own c M S : sProp 𝕄) ⊢ iprop(owns (c : Thread nD τ) M.m30 fullShare S.a30
    ∗ (∀ X, owns (c : Thread nD τ) M.m30 fullShare X -∗ own c M { S with a30 := X })) := by
  unfold own own4
  iintro ⟨G0, G1, G2, G3, ⟨H26, H27, H28, H29, H30, H31⟩⟩
  isplitl [H30]; · iexact H30
  iintro %X H30
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

theorem own_31 : (own c M S : sProp 𝕄) ⊢ iprop(owns (c : Thread nD τ) M.m31 fullShare S.a31
    ∗ (∀ X, owns (c : Thread nD τ) M.m31 fullShare X -∗ own c M { S with a31 := X })) := by
  unfold own own4
  iintro ⟨G0, G1, G2, G3, ⟨H26, H27, H28, H29, H30, H31⟩⟩
  isplitl [H31]; · iexact H31
  iintro %X H31
  isplitl [G0]; · iexact G0
  isplitl [G1]; · iexact G1
  isplitl [G2]; · iexact G2
  isplitl [G3]; · iexact G3
  · isplitl [H26]; · iexact H26
    isplitl [H27]; · iexact H27
    isplitl [H28]; · iexact H28
    isplitl [H29]; · iexact H29
    isplitl [H30]; · iexact H30
    iexact H31

end Own

section Rules

variable {Ix : Type} [DecidableEq Ix] {Name : Type} [DecidableEq Name] {U : Type} [URA U] {Lvl : Type} [Preorder Lvl]
variable {defs : Defs nD τ sig (Elt F) Λ₀} {𝒱 : Variants} {c : Dev nD} {M : Mr} {S : St F}
variable {bd : Option 𝒱.V} {Γ : PendingWaitsCtx sig Ix} {E : Set Name} {α : Type}
variable {Q : α → sProp (MT nD τ sig Ix (Elt F) Name U Lvl)}

theorem ld_2 {r : LoadRect S384x1024} {hl : M.m2.view.LoadsAt r} {k : (r.shape.Idx → Elt F .bf16) → Prog (TpuEff nD τ sig (Elt F) Λ₀ .tc) α}
    (h : own c M S ⊢ wp frame (wpE' defs 𝒱 (c : Thread nD τ) bd Γ) E (k (rd S.a2 r)) Q) :
    own c M S ⊢ wp frame (wpE' defs 𝒱 (c : Thread nD τ) bd Γ) E (Prog.lift (.load M.m2 r hl) >>= k) Q :=
  ld_rule (own_2 c M S) (by iintro ⟨H, K⟩; ispecialize K $$ %S.a2; iapply K; iexact H) h

theorem st_2 {off size : Fin (S384x1024).rank → ℕ} {inb : ∀ a, off a + size a ≤ (S384x1024).size a} {w : (Rect.unit (s := S384x1024) off size inb).shape.Idx → Elt F .bf16}
    {hx : (M.m2.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a2 := ovl S.a2 off size inb w } ⊢ wp frame (wpE' defs 𝒱 (c : Thread nD τ) bd Γ) E (k ⟨⟩) Q) :
    own c M S ⊢ wp frame (wpE' defs 𝒱 (c : Thread nD τ) bd Γ) E (Prog.lift (.store M.m2 (Rect.unit (s := S384x1024) off size inb) w Finset.univ hx hm) >>= k) Q :=
  st_rule (own_2 c M S) (by iintro ⟨H, K⟩; iapply K; iexact H) h

theorem ld_3 {r : LoadRect S1024x512} {hl : M.m3.view.LoadsAt r} {k : (r.shape.Idx → Elt F .bf16) → Prog (TpuEff nD τ sig (Elt F) Λ₀ .tc) α}
    (h : own c M S ⊢ wp frame (wpE' defs 𝒱 (c : Thread nD τ) bd Γ) E (k (rd S.a3 r)) Q) :
    own c M S ⊢ wp frame (wpE' defs 𝒱 (c : Thread nD τ) bd Γ) E (Prog.lift (.load M.m3 r hl) >>= k) Q :=
  ld_rule (own_3 c M S) (by iintro ⟨H, K⟩; ispecialize K $$ %S.a3; iapply K; iexact H) h

theorem st_3 {off size : Fin (S1024x512).rank → ℕ} {inb : ∀ a, off a + size a ≤ (S1024x512).size a} {w : (Rect.unit (s := S1024x512) off size inb).shape.Idx → Elt F .bf16}
    {hx : (M.m3.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a3 := ovl S.a3 off size inb w } ⊢ wp frame (wpE' defs 𝒱 (c : Thread nD τ) bd Γ) E (k ⟨⟩) Q) :
    own c M S ⊢ wp frame (wpE' defs 𝒱 (c : Thread nD τ) bd Γ) E (Prog.lift (.store M.m3 (Rect.unit (s := S1024x512) off size inb) w Finset.univ hx hm) >>= k) Q :=
  st_rule (own_3 c M S) (by iintro ⟨H, K⟩; iapply K; iexact H) h

theorem ld_4 {r : LoadRect S1024x512} {hl : M.m4.view.LoadsAt r} {k : (r.shape.Idx → Elt F .bf16) → Prog (TpuEff nD τ sig (Elt F) Λ₀ .tc) α}
    (h : own c M S ⊢ wp frame (wpE' defs 𝒱 (c : Thread nD τ) bd Γ) E (k (rd S.a4 r)) Q) :
    own c M S ⊢ wp frame (wpE' defs 𝒱 (c : Thread nD τ) bd Γ) E (Prog.lift (.load M.m4 r hl) >>= k) Q :=
  ld_rule (own_4 c M S) (by iintro ⟨H, K⟩; ispecialize K $$ %S.a4; iapply K; iexact H) h

theorem st_4 {off size : Fin (S1024x512).rank → ℕ} {inb : ∀ a, off a + size a ≤ (S1024x512).size a} {w : (Rect.unit (s := S1024x512) off size inb).shape.Idx → Elt F .bf16}
    {hx : (M.m4.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a4 := ovl S.a4 off size inb w } ⊢ wp frame (wpE' defs 𝒱 (c : Thread nD τ) bd Γ) E (k ⟨⟩) Q) :
    own c M S ⊢ wp frame (wpE' defs 𝒱 (c : Thread nD τ) bd Γ) E (Prog.lift (.store M.m4 (Rect.unit (s := S1024x512) off size inb) w Finset.univ hx hm) >>= k) Q :=
  st_rule (own_4 c M S) (by iintro ⟨H, K⟩; iapply K; iexact H) h

theorem ld_5 {r : LoadRect S1024x512} {hl : M.m5.view.LoadsAt r} {k : (r.shape.Idx → Elt F .bf16) → Prog (TpuEff nD τ sig (Elt F) Λ₀ .tc) α}
    (h : own c M S ⊢ wp frame (wpE' defs 𝒱 (c : Thread nD τ) bd Γ) E (k (rd S.a5 r)) Q) :
    own c M S ⊢ wp frame (wpE' defs 𝒱 (c : Thread nD τ) bd Γ) E (Prog.lift (.load M.m5 r hl) >>= k) Q :=
  ld_rule (own_5 c M S) (by iintro ⟨H, K⟩; ispecialize K $$ %S.a5; iapply K; iexact H) h

theorem st_5 {off size : Fin (S1024x512).rank → ℕ} {inb : ∀ a, off a + size a ≤ (S1024x512).size a} {w : (Rect.unit (s := S1024x512) off size inb).shape.Idx → Elt F .bf16}
    {hx : (M.m5.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a5 := ovl S.a5 off size inb w } ⊢ wp frame (wpE' defs 𝒱 (c : Thread nD τ) bd Γ) E (k ⟨⟩) Q) :
    own c M S ⊢ wp frame (wpE' defs 𝒱 (c : Thread nD τ) bd Γ) E (Prog.lift (.store M.m5 (Rect.unit (s := S1024x512) off size inb) w Finset.univ hx hm) >>= k) Q :=
  st_rule (own_5 c M S) (by iintro ⟨H, K⟩; iapply K; iexact H) h

theorem ld_6 {r : LoadRect S1024x512} {hl : M.m6.view.LoadsAt r} {k : (r.shape.Idx → Elt F .bf16) → Prog (TpuEff nD τ sig (Elt F) Λ₀ .tc) α}
    (h : own c M S ⊢ wp frame (wpE' defs 𝒱 (c : Thread nD τ) bd Γ) E (k (rd S.a6 r)) Q) :
    own c M S ⊢ wp frame (wpE' defs 𝒱 (c : Thread nD τ) bd Γ) E (Prog.lift (.load M.m6 r hl) >>= k) Q :=
  ld_rule (own_6 c M S) (by iintro ⟨H, K⟩; ispecialize K $$ %S.a6; iapply K; iexact H) h

theorem st_6 {off size : Fin (S1024x512).rank → ℕ} {inb : ∀ a, off a + size a ≤ (S1024x512).size a} {w : (Rect.unit (s := S1024x512) off size inb).shape.Idx → Elt F .bf16}
    {hx : (M.m6.access (Rect.unit (s := S1024x512) off size inb)).Stores Finset.univ} {hm : (Finset.univ : Finset (Rect.unit (s := S1024x512) off size inb).shape.Idx) = Finset.univ ∨ ∀ a, (Rect.unit (s := S1024x512) off size inb).stride a = 1}
    {k : PUnit → Prog (TpuEff nD τ sig (Elt F) Λ₀ .tc) α}
    (h : own c M { S with a6 := ovl S.a6 off size inb w } ⊢ wp frame (wpE' defs 𝒱 (c : Thread nD τ) bd Γ) E (k ⟨⟩) Q) :
    own c M S ⊢ wp frame (wpE' defs 𝒱 (c : Thread nD τ) bd Γ) E (Prog.lift (.store M.m6 (Rect.unit (s := S1024x512) off size inb) w Finset.univ hx hm) >>= k) Q :=
  st_rule (own_6 c M S) (by iintro ⟨H, K⟩; iapply K; iexact H) h

theorem ld_7 {r : LoadRect S4096x256} {hl : M.m7.view.LoadsAt r} {k : (r.shape.Idx → Elt F .bf16) → Prog (TpuEff nD τ sig (Elt F) Λ₀ .tc) α}
    (h : own c M S ⊢ wp frame (wpE' defs 𝒱 (c : Thread nD τ) bd Γ) E (k (rd S.a7 r)) Q) :
    own c M S ⊢ wp frame (wpE' defs 𝒱 (c : Thread nD τ) bd Γ) E (Prog.lift (.load M.m7 r hl) >>= k) Q :=
  ld_rule (own_7 c M S) (by iintro ⟨H, K⟩; ispecialize K $$ %S.a7; iapply K; iexact H) h

theorem st_7 {off size : Fin (S4096x256).rank → ℕ} {inb : ∀ a, off a + size a ≤ (S4096x256).size a} {w : (Rect.unit (s := S4096x256) off size inb).shape.Idx → Elt F .bf16}
    {hx : (M.m7.access (Rect.unit (s := S4096x256) off size inb)).Stores Finset.univ} {hm : (Finset.univ : Finset (Rect.unit (s := S4096x256) off size inb).shape.Idx) = Finset.univ ∨ ∀ a, (Rect.unit (s := S4096x256) off size inb).stride a = 1}
    {k : PUnit → Prog (TpuEff nD τ sig (Elt F) Λ₀ .tc) α}
    (h : own c M { S with a7 := ovl S.a7 off size inb w } ⊢ wp frame (wpE' defs 𝒱 (c : Thread nD τ) bd Γ) E (k ⟨⟩) Q) :
    own c M S ⊢ wp frame (wpE' defs 𝒱 (c : Thread nD τ) bd Γ) E (Prog.lift (.store M.m7 (Rect.unit (s := S4096x256) off size inb) w Finset.univ hx hm) >>= k) Q :=
  st_rule (own_7 c M S) (by iintro ⟨H, K⟩; iapply K; iexact H) h

theorem ld_8 {r : LoadRect S4096x256} {hl : M.m8.view.LoadsAt r} {k : (r.shape.Idx → Elt F .bf16) → Prog (TpuEff nD τ sig (Elt F) Λ₀ .tc) α}
    (h : own c M S ⊢ wp frame (wpE' defs 𝒱 (c : Thread nD τ) bd Γ) E (k (rd S.a8 r)) Q) :
    own c M S ⊢ wp frame (wpE' defs 𝒱 (c : Thread nD τ) bd Γ) E (Prog.lift (.load M.m8 r hl) >>= k) Q :=
  ld_rule (own_8 c M S) (by iintro ⟨H, K⟩; ispecialize K $$ %S.a8; iapply K; iexact H) h

theorem st_8 {off size : Fin (S4096x256).rank → ℕ} {inb : ∀ a, off a + size a ≤ (S4096x256).size a} {w : (Rect.unit (s := S4096x256) off size inb).shape.Idx → Elt F .bf16}
    {hx : (M.m8.access (Rect.unit (s := S4096x256) off size inb)).Stores Finset.univ} {hm : (Finset.univ : Finset (Rect.unit (s := S4096x256) off size inb).shape.Idx) = Finset.univ ∨ ∀ a, (Rect.unit (s := S4096x256) off size inb).stride a = 1}
    {k : PUnit → Prog (TpuEff nD τ sig (Elt F) Λ₀ .tc) α}
    (h : own c M { S with a8 := ovl S.a8 off size inb w } ⊢ wp frame (wpE' defs 𝒱 (c : Thread nD τ) bd Γ) E (k ⟨⟩) Q) :
    own c M S ⊢ wp frame (wpE' defs 𝒱 (c : Thread nD τ) bd Γ) E (Prog.lift (.store M.m8 (Rect.unit (s := S4096x256) off size inb) w Finset.univ hx hm) >>= k) Q :=
  st_rule (own_8 c M S) (by iintro ⟨H, K⟩; iapply K; iexact H) h

theorem ld_9 {r : LoadRect S4x6x1536} {hl : M.m9.view.LoadsAt r} {k : (r.shape.Idx → Elt F .f32) → Prog (TpuEff nD τ sig (Elt F) Λ₀ .tc) α}
    (h : own c M S ⊢ wp frame (wpE' defs 𝒱 (c : Thread nD τ) bd Γ) E (k (rd S.a9 r)) Q) :
    own c M S ⊢ wp frame (wpE' defs 𝒱 (c : Thread nD τ) bd Γ) E (Prog.lift (.load M.m9 r hl) >>= k) Q :=
  ld_rule (own_9 c M S) (by iintro ⟨H, K⟩; ispecialize K $$ %S.a9; iapply K; iexact H) h

theorem st_9 {off size : Fin (S4x6x1536).rank → ℕ} {inb : ∀ a, off a + size a ≤ (S4x6x1536).size a} {w : (Rect.unit (s := S4x6x1536) off size inb).shape.Idx → Elt F .f32}
    {hx : (M.m9.access (Rect.unit (s := S4x6x1536) off size inb)).Stores Finset.univ} {hm : (Finset.univ : Finset (Rect.unit (s := S4x6x1536) off size inb).shape.Idx) = Finset.univ ∨ ∀ a, (Rect.unit (s := S4x6x1536) off size inb).stride a = 1}
    {k : PUnit → Prog (TpuEff nD τ sig (Elt F) Λ₀ .tc) α}
    (h : own c M { S with a9 := ovl S.a9 off size inb w } ⊢ wp frame (wpE' defs 𝒱 (c : Thread nD τ) bd Γ) E (k ⟨⟩) Q) :
    own c M S ⊢ wp frame (wpE' defs 𝒱 (c : Thread nD τ) bd Γ) E (Prog.lift (.store M.m9 (Rect.unit (s := S4x6x1536) off size inb) w Finset.univ hx hm) >>= k) Q :=
  st_rule (own_9 c M S) (by iintro ⟨H, K⟩; iapply K; iexact H) h

theorem ld_10 {r : LoadRect S4x1024} {hl : M.m10.view.LoadsAt r} {k : (r.shape.Idx → Elt F .f32) → Prog (TpuEff nD τ sig (Elt F) Λ₀ .tc) α}
    (h : own c M S ⊢ wp frame (wpE' defs 𝒱 (c : Thread nD τ) bd Γ) E (k (rd S.a10 r)) Q) :
    own c M S ⊢ wp frame (wpE' defs 𝒱 (c : Thread nD τ) bd Γ) E (Prog.lift (.load M.m10 r hl) >>= k) Q :=
  ld_rule (own_10 c M S) (by iintro ⟨H, K⟩; ispecialize K $$ %S.a10; iapply K; iexact H) h

theorem st_10 {off size : Fin (S4x1024).rank → ℕ} {inb : ∀ a, off a + size a ≤ (S4x1024).size a} {w : (Rect.unit (s := S4x1024) off size inb).shape.Idx → Elt F .f32}
    {hx : (M.m10.access (Rect.unit (s := S4x1024) off size inb)).Stores Finset.univ} {hm : (Finset.univ : Finset (Rect.unit (s := S4x1024) off size inb).shape.Idx) = Finset.univ ∨ ∀ a, (Rect.unit (s := S4x1024) off size inb).stride a = 1}
    {k : PUnit → Prog (TpuEff nD τ sig (Elt F) Λ₀ .tc) α}
    (h : own c M { S with a10 := ovl S.a10 off size inb w } ⊢ wp frame (wpE' defs 𝒱 (c : Thread nD τ) bd Γ) E (k ⟨⟩) Q) :
    own c M S ⊢ wp frame (wpE' defs 𝒱 (c : Thread nD τ) bd Γ) E (Prog.lift (.store M.m10 (Rect.unit (s := S4x1024) off size inb) w Finset.univ hx hm) >>= k) Q :=
  st_rule (own_10 c M S) (by iintro ⟨H, K⟩; iapply K; iexact H) h

theorem ld_11 {r : LoadRect S6x1536} {hl : M.m11.view.LoadsAt r} {k : (r.shape.Idx → Elt F .f32) → Prog (TpuEff nD τ sig (Elt F) Λ₀ .tc) α}
    (h : own c M S ⊢ wp frame (wpE' defs 𝒱 (c : Thread nD τ) bd Γ) E (k (rd S.a11 r)) Q) :
    own c M S ⊢ wp frame (wpE' defs 𝒱 (c : Thread nD τ) bd Γ) E (Prog.lift (.load M.m11 r hl) >>= k) Q :=
  ld_rule (own_11 c M S) (by iintro ⟨H, K⟩; ispecialize K $$ %S.a11; iapply K; iexact H) h

theorem st_11 {off size : Fin (S6x1536).rank → ℕ} {inb : ∀ a, off a + size a ≤ (S6x1536).size a} {w : (Rect.unit (s := S6x1536) off size inb).shape.Idx → Elt F .f32}
    {hx : (M.m11.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a11 := ovl S.a11 off size inb w } ⊢ wp frame (wpE' defs 𝒱 (c : Thread nD τ) bd Γ) E (k ⟨⟩) Q) :
    own c M S ⊢ wp frame (wpE' defs 𝒱 (c : Thread nD τ) bd Γ) E (Prog.lift (.store M.m11 (Rect.unit (s := S6x1536) off size inb) w Finset.univ hx hm) >>= k) Q :=
  st_rule (own_11 c M S) (by iintro ⟨H, K⟩; iapply K; iexact H) h

theorem ld_12 {r : LoadRect S384x1024} {hl : M.m12.view.LoadsAt r} {k : (r.shape.Idx → Elt F .bf16) → Prog (TpuEff nD τ sig (Elt F) Λ₀ .tc) α}
    (h : own c M S ⊢ wp frame (wpE' defs 𝒱 (c : Thread nD τ) bd Γ) E (k (rd S.a12 r)) Q) :
    own c M S ⊢ wp frame (wpE' defs 𝒱 (c : Thread nD τ) bd Γ) E (Prog.lift (.load M.m12 r hl) >>= k) Q :=
  ld_rule (own_12 c M S) (by iintro ⟨H, K⟩; ispecialize K $$ %S.a12; iapply K; iexact H) h

theorem st_12 {off size : Fin (S384x1024).rank → ℕ} {inb : ∀ a, off a + size a ≤ (S384x1024).size a} {w : (Rect.unit (s := S384x1024) off size inb).shape.Idx → Elt F .bf16}
    {hx : (M.m12.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a12 := ovl S.a12 off size inb w } ⊢ wp frame (wpE' defs 𝒱 (c : Thread nD τ) bd Γ) E (k ⟨⟩) Q) :
    own c M S ⊢ wp frame (wpE' defs 𝒱 (c : Thread nD τ) bd Γ) E (Prog.lift (.store M.m12 (Rect.unit (s := S384x1024) off size inb) w Finset.univ hx hm) >>= k) Q :=
  st_rule (own_12 c M S) (by iintro ⟨H, K⟩; iapply K; iexact H) h

theorem ld_13 {r : LoadRect S384x1024} {hl : M.m13.view.LoadsAt r} {k : (r.shape.Idx → Elt F .i8) → Prog (TpuEff nD τ sig (Elt F) Λ₀ .tc) α}
    (h : own c M S ⊢ wp frame (wpE' defs 𝒱 (c : Thread nD τ) bd Γ) E (k (rd S.a13 r)) Q) :
    own c M S ⊢ wp frame (wpE' defs 𝒱 (c : Thread nD τ) bd Γ) E (Prog.lift (.load M.m13 r hl) >>= k) Q :=
  ld_rule (own_13 c M S) (by iintro ⟨H, K⟩; ispecialize K $$ %S.a13; iapply K; iexact H) h

theorem st_13 {off size : Fin (S384x1024).rank → ℕ} {inb : ∀ a, off a + size a ≤ (S384x1024).size a} {w : (Rect.unit (s := S384x1024) off size inb).shape.Idx → Elt F .i8}
    {hx : (M.m13.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a13 := ovl S.a13 off size inb w } ⊢ wp frame (wpE' defs 𝒱 (c : Thread nD τ) bd Γ) E (k ⟨⟩) Q) :
    own c M S ⊢ wp frame (wpE' defs 𝒱 (c : Thread nD τ) bd Γ) E (Prog.lift (.store M.m13 (Rect.unit (s := S384x1024) off size inb) w Finset.univ hx hm) >>= k) Q :=
  st_rule (own_13 c M S) (by iintro ⟨H, K⟩; iapply K; iexact H) h

theorem ld_14 {r : LoadRect S6x1536} {hl : M.m14.view.LoadsAt r} {k : (r.shape.Idx → Elt F .f32) → Prog (TpuEff nD τ sig (Elt F) Λ₀ .tc) α}
    (h : own c M S ⊢ wp frame (wpE' defs 𝒱 (c : Thread nD τ) bd Γ) E (k (rd S.a14 r)) Q) :
    own c M S ⊢ wp frame (wpE' defs 𝒱 (c : Thread nD τ) bd Γ) E (Prog.lift (.load M.m14 r hl) >>= k) Q :=
  ld_rule (own_14 c M S) (by iintro ⟨H, K⟩; ispecialize K $$ %S.a14; iapply K; iexact H) h

theorem st_14 {off size : Fin (S6x1536).rank → ℕ} {inb : ∀ a, off a + size a ≤ (S6x1536).size a} {w : (Rect.unit (s := S6x1536) off size inb).shape.Idx → Elt F .f32}
    {hx : (M.m14.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a14 := ovl S.a14 off size inb w } ⊢ wp frame (wpE' defs 𝒱 (c : Thread nD τ) bd Γ) E (k ⟨⟩) Q) :
    own c M S ⊢ wp frame (wpE' defs 𝒱 (c : Thread nD τ) bd Γ) E (Prog.lift (.store M.m14 (Rect.unit (s := S6x1536) off size inb) w Finset.univ hx hm) >>= k) Q :=
  st_rule (own_14 c M S) (by iintro ⟨H, K⟩; iapply K; iexact H) h

theorem ld_15 {r : LoadRect S384x4096} {hl : M.m15.view.LoadsAt r} {k : (r.shape.Idx → Elt F .i8) → Prog (TpuEff nD τ sig (Elt F) Λ₀ .tc) α}
    (h : own c M S ⊢ wp frame (wpE' defs 𝒱 (c : Thread nD τ) bd Γ) E (k (rd S.a15 r)) Q) :
    own c M S ⊢ wp frame (wpE' defs 𝒱 (c : Thread nD τ) bd Γ) E (Prog.lift (.load M.m15 r hl) >>= k) Q :=
  ld_rule (own_15 c M S) (by iintro ⟨H, K⟩; ispecialize K $$ %S.a15; iapply K; iexact H) h

theorem st_15 {off size : Fin (S384x4096).rank → ℕ} {inb : ∀ a, off a + size a ≤ (S384x4096).size a} {w : (Rect.unit (s := S384x4096) off size inb).shape.Idx → Elt F .i8}
    {hx : (M.m15.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a15 := ovl S.a15 off size inb w } ⊢ wp frame (wpE' defs 𝒱 (c : Thread nD τ) bd Γ) E (k ⟨⟩) Q) :
    own c M S ⊢ wp frame (wpE' defs 𝒱 (c : Thread nD τ) bd Γ) E (Prog.lift (.store M.m15 (Rect.unit (s := S384x4096) off size inb) w Finset.univ hx hm) >>= k) Q :=
  st_rule (own_15 c M S) (by iintro ⟨H, K⟩; iapply K; iexact H) h

theorem ld_16 {r : LoadRect S6x1536} {hl : M.m16.view.LoadsAt r} {k : (r.shape.Idx → Elt F .f32) → Prog (TpuEff nD τ sig (Elt F) Λ₀ .tc) α}
    (h : own c M S ⊢ wp frame (wpE' defs 𝒱 (c : Thread nD τ) bd Γ) E (k (rd S.a16 r)) Q) :
    own c M S ⊢ wp frame (wpE' defs 𝒱 (c : Thread nD τ) bd Γ) E (Prog.lift (.load M.m16 r hl) >>= k) Q :=
  ld_rule (own_16 c M S) (by iintro ⟨H, K⟩; ispecialize K $$ %S.a16; iapply K; iexact H) h

theorem st_16 {off size : Fin (S6x1536).rank → ℕ} {inb : ∀ a, off a + size a ≤ (S6x1536).size a} {w : (Rect.unit (s := S6x1536) off size inb).shape.Idx → Elt F .f32}
    {hx : (M.m16.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a16 := ovl S.a16 off size inb w } ⊢ wp frame (wpE' defs 𝒱 (c : Thread nD τ) bd Γ) E (k ⟨⟩) Q) :
    own c M S ⊢ wp frame (wpE' defs 𝒱 (c : Thread nD τ) bd Γ) E (Prog.lift (.store M.m16 (Rect.unit (s := S6x1536) off size inb) w Finset.univ hx hm) >>= k) Q :=
  st_rule (own_16 c M S) (by iintro ⟨H, K⟩; iapply K; iexact H) h

theorem ld_17 {r : LoadRect S384x4096} {hl : M.m17.view.LoadsAt r} {k : (r.shape.Idx → Elt F .i8) → Prog (TpuEff nD τ sig (Elt F) Λ₀ .tc) α}
    (h : own c M S ⊢ wp frame (wpE' defs 𝒱 (c : Thread nD τ) bd Γ) E (k (rd S.a17 r)) Q) :
    own c M S ⊢ wp frame (wpE' defs 𝒱 (c : Thread nD τ) bd Γ) E (Prog.lift (.load M.m17 r hl) >>= k) Q :=
  ld_rule (own_17 c M S) (by iintro ⟨H, K⟩; ispecialize K $$ %S.a17; iapply K; iexact H) h

theorem st_17 {off size : Fin (S384x4096).rank → ℕ} {inb : ∀ a, off a + size a ≤ (S384x4096).size a} {w : (Rect.unit (s := S384x4096) off size inb).shape.Idx → Elt F .i8}
    {hx : (M.m17.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a17 := ovl S.a17 off size inb w } ⊢ wp frame (wpE' defs 𝒱 (c : Thread nD τ) bd Γ) E (k ⟨⟩) Q) :
    own c M S ⊢ wp frame (wpE' defs 𝒱 (c : Thread nD τ) bd Γ) E (Prog.lift (.store M.m17 (Rect.unit (s := S384x4096) off size inb) w Finset.univ hx hm) >>= k) Q :=
  st_rule (own_17 c M S) (by iintro ⟨H, K⟩; iapply K; iexact H) h

theorem ld_18 {r : LoadRect S6x1536} {hl : M.m18.view.LoadsAt r} {k : (r.shape.Idx → Elt F .f32) → Prog (TpuEff nD τ sig (Elt F) Λ₀ .tc) α}
    (h : own c M S ⊢ wp frame (wpE' defs 𝒱 (c : Thread nD τ) bd Γ) E (k (rd S.a18 r)) Q) :
    own c M S ⊢ wp frame (wpE' defs 𝒱 (c : Thread nD τ) bd Γ) E (Prog.lift (.load M.m18 r hl) >>= k) Q :=
  ld_rule (own_18 c M S) (by iintro ⟨H, K⟩; ispecialize K $$ %S.a18; iapply K; iexact H) h

theorem st_18 {off size : Fin (S6x1536).rank → ℕ} {inb : ∀ a, off a + size a ≤ (S6x1536).size a} {w : (Rect.unit (s := S6x1536) off size inb).shape.Idx → Elt F .f32}
    {hx : (M.m18.access (Rect.unit (s := S6x1536) off size inb)).Stores Finset.univ} {hm : (Finset.univ : Finset (Rect.unit (s := S6x1536) off size inb).shape.Idx) = Finset.univ ∨ ∀ a, (Rect.unit (s := S6x1536) off size inb).stride a = 1}
    {k : PUnit → Prog (TpuEff nD τ sig (Elt F) Λ₀ .tc) α}
    (h : own c M { S with a18 := ovl S.a18 off size inb w } ⊢ wp frame (wpE' defs 𝒱 (c : Thread nD τ) bd Γ) E (k ⟨⟩) Q) :
    own c M S ⊢ wp frame (wpE' defs 𝒱 (c : Thread nD τ) bd Γ) E (Prog.lift (.store M.m18 (Rect.unit (s := S6x1536) off size inb) w Finset.univ hx hm) >>= k) Q :=
  st_rule (own_18 c M S) (by iintro ⟨H, K⟩; iapply K; iexact H) h

theorem ld_19 {r : LoadRect S384x1024} {hl : M.m19.view.LoadsAt r} {k : (r.shape.Idx → Elt F .bf16) → Prog (TpuEff nD τ sig (Elt F) Λ₀ .tc) α}
    (h : own c M S ⊢ wp frame (wpE' defs 𝒱 (c : Thread nD τ) bd Γ) E (k (rd S.a19 r)) Q) :
    own c M S ⊢ wp frame (wpE' defs 𝒱 (c : Thread nD τ) bd Γ) E (Prog.lift (.load M.m19 r hl) >>= k) Q :=
  ld_rule (own_19 c M S) (by iintro ⟨H, K⟩; ispecialize K $$ %S.a19; iapply K; iexact H) h

theorem st_19 {off size : Fin (S384x1024).rank → ℕ} {inb : ∀ a, off a + size a ≤ (S384x1024).size a} {w : (Rect.unit (s := S384x1024) off size inb).shape.Idx → Elt F .bf16}
    {hx : (M.m19.access (Rect.unit (s := S384x1024) off size inb)).Stores Finset.univ} {hm : (Finset.univ : Finset (Rect.unit (s := S384x1024) off size inb).shape.Idx) = Finset.univ ∨ ∀ a, (Rect.unit (s := S384x1024) off size inb).stride a = 1}
    {k : PUnit → Prog (TpuEff nD τ sig (Elt F) Λ₀ .tc) α}
    (h : own c M { S with a19 := ovl S.a19 off size inb w } ⊢ wp frame (wpE' defs 𝒱 (c : Thread nD τ) bd Γ) E (k ⟨⟩) Q) :
    own c M S ⊢ wp frame (wpE' defs 𝒱 (c : Thread nD τ) bd Γ) E (Prog.lift (.store M.m19 (Rect.unit (s := S384x1024) off size inb) w Finset.univ hx hm) >>= k) Q :=
  st_rule (own_19 c M S) (by iintro ⟨H, K⟩; iapply K; iexact H) h

theorem ld_20 {r : LoadRect S384x128} {hl : M.m20.view.LoadsAt r} {k : (r.shape.Idx → Elt F .f32) → Prog (TpuEff nD τ sig (Elt F) Λ₀ .tc) α}
    (h : own c M S ⊢ wp frame (wpE' defs 𝒱 (c : Thread nD τ) bd Γ) E (k (rd S.a20 r)) Q) :
    own c M S ⊢ wp frame (wpE' defs 𝒱 (c : Thread nD τ) bd Γ) E (Prog.lift (.load M.m20 r hl) >>= k) Q :=
  ld_rule (own_20 c M S) (by iintro ⟨H, K⟩; ispecialize K $$ %S.a20; iapply K; iexact H) h

theorem st_20 {off size : Fin (S384x128).rank → ℕ} {inb : ∀ a, off a + size a ≤ (S384x128).size a} {w : (Rect.unit (s := S384x128) off size inb).shape.Idx → Elt F .f32}
    {hx : (M.m20.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a20 := ovl S.a20 off size inb w } ⊢ wp frame (wpE' defs 𝒱 (c : Thread nD τ) bd Γ) E (k ⟨⟩) Q) :
    own c M S ⊢ wp frame (wpE' defs 𝒱 (c : Thread nD τ) bd Γ) E (Prog.lift (.store M.m20 (Rect.unit (s := S384x128) off size inb) w Finset.univ hx hm) >>= k) Q :=
  st_rule (own_20 c M S) (by iintro ⟨H, K⟩; iapply K; iexact H) h

theorem ld_21 {r : LoadRect S384x4096} {hl : M.m21.view.LoadsAt r} {k : (r.shape.Idx → Elt F .f32) → Prog (TpuEff nD τ sig (Elt F) Λ₀ .tc) α}
    (h : own c M S ⊢ wp frame (wpE' defs 𝒱 (c : Thread nD τ) bd Γ) E (k (rd S.a21 r)) Q) :
    own c M S ⊢ wp frame (wpE' defs 𝒱 (c : Thread nD τ) bd Γ) E (Prog.lift (.load M.m21 r hl) >>= k) Q :=
  ld_rule (own_21 c M S) (by iintro ⟨H, K⟩; ispecialize K $$ %S.a21; iapply K; iexact H) h

theorem st_21 {off size : Fin (S384x4096).rank → ℕ} {inb : ∀ a, off a + size a ≤ (S384x4096).size a} {w : (Rect.unit (s := S384x4096) off size inb).shape.Idx → Elt F .f32}
    {hx : (M.m21.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a21 := ovl S.a21 off size inb w } ⊢ wp frame (wpE' defs 𝒱 (c : Thread nD τ) bd Γ) E (k ⟨⟩) Q) :
    own c M S ⊢ wp frame (wpE' defs 𝒱 (c : Thread nD τ) bd Γ) E (Prog.lift (.store M.m21 (Rect.unit (s := S384x4096) off size inb) w Finset.univ hx hm) >>= k) Q :=
  st_rule (own_21 c M S) (by iintro ⟨H, K⟩; iapply K; iexact H) h

theorem ld_22 {r : LoadRect S384x4096} {hl : M.m22.view.LoadsAt r} {k : (r.shape.Idx → Elt F .f32) → Prog (TpuEff nD τ sig (Elt F) Λ₀ .tc) α}
    (h : own c M S ⊢ wp frame (wpE' defs 𝒱 (c : Thread nD τ) bd Γ) E (k (rd S.a22 r)) Q) :
    own c M S ⊢ wp frame (wpE' defs 𝒱 (c : Thread nD τ) bd Γ) E (Prog.lift (.load M.m22 r hl) >>= k) Q :=
  ld_rule (own_22 c M S) (by iintro ⟨H, K⟩; ispecialize K $$ %S.a22; iapply K; iexact H) h

theorem st_22 {off size : Fin (S384x4096).rank → ℕ} {inb : ∀ a, off a + size a ≤ (S384x4096).size a} {w : (Rect.unit (s := S384x4096) off size inb).shape.Idx → Elt F .f32}
    {hx : (M.m22.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a22 := ovl S.a22 off size inb w } ⊢ wp frame (wpE' defs 𝒱 (c : Thread nD τ) bd Γ) E (k ⟨⟩) Q) :
    own c M S ⊢ wp frame (wpE' defs 𝒱 (c : Thread nD τ) bd Γ) E (Prog.lift (.store M.m22 (Rect.unit (s := S384x4096) off size inb) w Finset.univ hx hm) >>= k) Q :=
  st_rule (own_22 c M S) (by iintro ⟨H, K⟩; iapply K; iexact H) h

theorem ld_23 {r : LoadRect S384x4096} {hl : M.m23.view.LoadsAt r} {k : (r.shape.Idx → Elt F .bf16) → Prog (TpuEff nD τ sig (Elt F) Λ₀ .tc) α}
    (h : own c M S ⊢ wp frame (wpE' defs 𝒱 (c : Thread nD τ) bd Γ) E (k (rd S.a23 r)) Q) :
    own c M S ⊢ wp frame (wpE' defs 𝒱 (c : Thread nD τ) bd Γ) E (Prog.lift (.load M.m23 r hl) >>= k) Q :=
  ld_rule (own_23 c M S) (by iintro ⟨H, K⟩; ispecialize K $$ %S.a23; iapply K; iexact H) h

theorem st_23 {off size : Fin (S384x4096).rank → ℕ} {inb : ∀ a, off a + size a ≤ (S384x4096).size a} {w : (Rect.unit (s := S384x4096) off size inb).shape.Idx → Elt F .bf16}
    {hx : (M.m23.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a23 := ovl S.a23 off size inb w } ⊢ wp frame (wpE' defs 𝒱 (c : Thread nD τ) bd Γ) E (k ⟨⟩) Q) :
    own c M S ⊢ wp frame (wpE' defs 𝒱 (c : Thread nD τ) bd Γ) E (Prog.lift (.store M.m23 (Rect.unit (s := S384x4096) off size inb) w Finset.univ hx hm) >>= k) Q :=
  st_rule (own_23 c M S) (by iintro ⟨H, K⟩; iapply K; iexact H) h

theorem ld_24 {r : LoadRect S384x4096} {hl : M.m24.view.LoadsAt r} {k : (r.shape.Idx → Elt F .bf16) → Prog (TpuEff nD τ sig (Elt F) Λ₀ .tc) α}
    (h : own c M S ⊢ wp frame (wpE' defs 𝒱 (c : Thread nD τ) bd Γ) E (k (rd S.a24 r)) Q) :
    own c M S ⊢ wp frame (wpE' defs 𝒱 (c : Thread nD τ) bd Γ) E (Prog.lift (.load M.m24 r hl) >>= k) Q :=
  ld_rule (own_24 c M S) (by iintro ⟨H, K⟩; ispecialize K $$ %S.a24; iapply K; iexact H) h

theorem st_24 {off size : Fin (S384x4096).rank → ℕ} {inb : ∀ a, off a + size a ≤ (S384x4096).size a} {w : (Rect.unit (s := S384x4096) off size inb).shape.Idx → Elt F .bf16}
    {hx : (M.m24.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a24 := ovl S.a24 off size inb w } ⊢ wp frame (wpE' defs 𝒱 (c : Thread nD τ) bd Γ) E (k ⟨⟩) Q) :
    own c M S ⊢ wp frame (wpE' defs 𝒱 (c : Thread nD τ) bd Γ) E (Prog.lift (.store M.m24 (Rect.unit (s := S384x4096) off size inb) w Finset.univ hx hm) >>= k) Q :=
  st_rule (own_24 c M S) (by iintro ⟨H, K⟩; iapply K; iexact H) h

theorem ld_25 {r : LoadRect S384x4096} {hl : M.m25.view.LoadsAt r} {k : (r.shape.Idx → Elt F .bf16) → Prog (TpuEff nD τ sig (Elt F) Λ₀ .tc) α}
    (h : own c M S ⊢ wp frame (wpE' defs 𝒱 (c : Thread nD τ) bd Γ) E (k (rd S.a25 r)) Q) :
    own c M S ⊢ wp frame (wpE' defs 𝒱 (c : Thread nD τ) bd Γ) E (Prog.lift (.load M.m25 r hl) >>= k) Q :=
  ld_rule (own_25 c M S) (by iintro ⟨H, K⟩; ispecialize K $$ %S.a25; iapply K; iexact H) h

theorem st_25 {off size : Fin (S384x4096).rank → ℕ} {inb : ∀ a, off a + size a ≤ (S384x4096).size a} {w : (Rect.unit (s := S384x4096) off size inb).shape.Idx → Elt F .bf16}
    {hx : (M.m25.access (Rect.unit (s := S384x4096) off size inb)).Stores Finset.univ} {hm : (Finset.univ : Finset (Rect.unit (s := S384x4096) off size inb).shape.Idx) = Finset.univ ∨ ∀ a, (Rect.unit (s := S384x4096) off size inb).stride a = 1}
    {k : PUnit → Prog (TpuEff nD τ sig (Elt F) Λ₀ .tc) α}
    (h : own c M { S with a25 := ovl S.a25 off size inb w } ⊢ wp frame (wpE' defs 𝒱 (c : Thread nD τ) bd Γ) E (k ⟨⟩) Q) :
    own c M S ⊢ wp frame (wpE' defs 𝒱 (c : Thread nD τ) bd Γ) E (Prog.lift (.store M.m25 (Rect.unit (s := S384x4096) off size inb) w Finset.univ hx hm) >>= k) Q :=
  st_rule (own_25 c M S) (by iintro ⟨H, K⟩; iapply K; iexact H) h

theorem ld_26 {r : LoadRect S384x128} {hl : M.m26.view.LoadsAt r} {k : (r.shape.Idx → Elt F .f32) → Prog (TpuEff nD τ sig (Elt F) Λ₀ .tc) α}
    (h : own c M S ⊢ wp frame (wpE' defs 𝒱 (c : Thread nD τ) bd Γ) E (k (rd S.a26 r)) Q) :
    own c M S ⊢ wp frame (wpE' defs 𝒱 (c : Thread nD τ) bd Γ) E (Prog.lift (.load M.m26 r hl) >>= k) Q :=
  ld_rule (own_26 c M S) (by iintro ⟨H, K⟩; ispecialize K $$ %S.a26; iapply K; iexact H) h

theorem st_26 {off size : Fin (S384x128).rank → ℕ} {inb : ∀ a, off a + size a ≤ (S384x128).size a} {w : (Rect.unit (s := S384x128) off size inb).shape.Idx → Elt F .f32}
    {hx : (M.m26.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a26 := ovl S.a26 off size inb w } ⊢ wp frame (wpE' defs 𝒱 (c : Thread nD τ) bd Γ) E (k ⟨⟩) Q) :
    own c M S ⊢ wp frame (wpE' defs 𝒱 (c : Thread nD τ) bd Γ) E (Prog.lift (.store M.m26 (Rect.unit (s := S384x128) off size inb) w Finset.univ hx hm) >>= k) Q :=
  st_rule (own_26 c M S) (by iintro ⟨H, K⟩; iapply K; iexact H) h

theorem ld_27 {r : LoadRect S384x128} {hl : M.m27.view.LoadsAt r} {k : (r.shape.Idx → Elt F .f32) → Prog (TpuEff nD τ sig (Elt F) Λ₀ .tc) α}
    (h : own c M S ⊢ wp frame (wpE' defs 𝒱 (c : Thread nD τ) bd Γ) E (k (rd S.a27 r)) Q) :
    own c M S ⊢ wp frame (wpE' defs 𝒱 (c : Thread nD τ) bd Γ) E (Prog.lift (.load M.m27 r hl) >>= k) Q :=
  ld_rule (own_27 c M S) (by iintro ⟨H, K⟩; ispecialize K $$ %S.a27; iapply K; iexact H) h

theorem st_27 {off size : Fin (S384x128).rank → ℕ} {inb : ∀ a, off a + size a ≤ (S384x128).size a} {w : (Rect.unit (s := S384x128) off size inb).shape.Idx → Elt F .f32}
    {hx : (M.m27.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a27 := ovl S.a27 off size inb w } ⊢ wp frame (wpE' defs 𝒱 (c : Thread nD τ) bd Γ) E (k ⟨⟩) Q) :
    own c M S ⊢ wp frame (wpE' defs 𝒱 (c : Thread nD τ) bd Γ) E (Prog.lift (.store M.m27 (Rect.unit (s := S384x128) off size inb) w Finset.univ hx hm) >>= k) Q :=
  st_rule (own_27 c M S) (by iintro ⟨H, K⟩; iapply K; iexact H) h

theorem ld_28 {r : LoadRect S384x128} {hl : M.m28.view.LoadsAt r} {k : (r.shape.Idx → Elt F .f32) → Prog (TpuEff nD τ sig (Elt F) Λ₀ .tc) α}
    (h : own c M S ⊢ wp frame (wpE' defs 𝒱 (c : Thread nD τ) bd Γ) E (k (rd S.a28 r)) Q) :
    own c M S ⊢ wp frame (wpE' defs 𝒱 (c : Thread nD τ) bd Γ) E (Prog.lift (.load M.m28 r hl) >>= k) Q :=
  ld_rule (own_28 c M S) (by iintro ⟨H, K⟩; ispecialize K $$ %S.a28; iapply K; iexact H) h

theorem st_28 {off size : Fin (S384x128).rank → ℕ} {inb : ∀ a, off a + size a ≤ (S384x128).size a} {w : (Rect.unit (s := S384x128) off size inb).shape.Idx → Elt F .f32}
    {hx : (M.m28.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a28 := ovl S.a28 off size inb w } ⊢ wp frame (wpE' defs 𝒱 (c : Thread nD τ) bd Γ) E (k ⟨⟩) Q) :
    own c M S ⊢ wp frame (wpE' defs 𝒱 (c : Thread nD τ) bd Γ) E (Prog.lift (.store M.m28 (Rect.unit (s := S384x128) off size inb) w Finset.univ hx hm) >>= k) Q :=
  st_rule (own_28 c M S) (by iintro ⟨H, K⟩; iapply K; iexact H) h

theorem ld_29 {r : LoadRect S384x128} {hl : M.m29.view.LoadsAt r} {k : (r.shape.Idx → Elt F .f32) → Prog (TpuEff nD τ sig (Elt F) Λ₀ .tc) α}
    (h : own c M S ⊢ wp frame (wpE' defs 𝒱 (c : Thread nD τ) bd Γ) E (k (rd S.a29 r)) Q) :
    own c M S ⊢ wp frame (wpE' defs 𝒱 (c : Thread nD τ) bd Γ) E (Prog.lift (.load M.m29 r hl) >>= k) Q :=
  ld_rule (own_29 c M S) (by iintro ⟨H, K⟩; ispecialize K $$ %S.a29; iapply K; iexact H) h

theorem st_29 {off size : Fin (S384x128).rank → ℕ} {inb : ∀ a, off a + size a ≤ (S384x128).size a} {w : (Rect.unit (s := S384x128) off size inb).shape.Idx → Elt F .f32}
    {hx : (M.m29.access (Rect.unit (s := S384x128) off size inb)).Stores Finset.univ} {hm : (Finset.univ : Finset (Rect.unit (s := S384x128) off size inb).shape.Idx) = Finset.univ ∨ ∀ a, (Rect.unit (s := S384x128) off size inb).stride a = 1}
    {k : PUnit → Prog (TpuEff nD τ sig (Elt F) Λ₀ .tc) α}
    (h : own c M { S with a29 := ovl S.a29 off size inb w } ⊢ wp frame (wpE' defs 𝒱 (c : Thread nD τ) bd Γ) E (k ⟨⟩) Q) :
    own c M S ⊢ wp frame (wpE' defs 𝒱 (c : Thread nD τ) bd Γ) E (Prog.lift (.store M.m29 (Rect.unit (s := S384x128) off size inb) w Finset.univ hx hm) >>= k) Q :=
  st_rule (own_29 c M S) (by iintro ⟨H, K⟩; iapply K; iexact H) h

theorem ld_30 {r : LoadRect S5x384x128} {hl : M.m30.view.LoadsAt r} {k : (r.shape.Idx → Elt F .f32) → Prog (TpuEff nD τ sig (Elt F) Λ₀ .tc) α}
    (h : own c M S ⊢ wp frame (wpE' defs 𝒱 (c : Thread nD τ) bd Γ) E (k (rd S.a30 r)) Q) :
    own c M S ⊢ wp frame (wpE' defs 𝒱 (c : Thread nD τ) bd Γ) E (Prog.lift (.load M.m30 r hl) >>= k) Q :=
  ld_rule (own_30 c M S) (by iintro ⟨H, K⟩; ispecialize K $$ %S.a30; iapply K; iexact H) h

theorem st_30 {off size : Fin (S5x384x128).rank → ℕ} {inb : ∀ a, off a + size a ≤ (S5x384x128).size a} {w : (Rect.unit (s := S5x384x128) off size inb).shape.Idx → Elt F .f32}
    {hx : (M.m30.access (Rect.unit (s := S5x384x128) off size inb)).Stores Finset.univ} {hm : (Finset.univ : Finset (Rect.unit (s := S5x384x128) off size inb).shape.Idx) = Finset.univ ∨ ∀ a, (Rect.unit (s := S5x384x128) off size inb).stride a = 1}
    {k : PUnit → Prog (TpuEff nD τ sig (Elt F) Λ₀ .tc) α}
    (h : own c M { S with a30 := ovl S.a30 off size inb w } ⊢ wp frame (wpE' defs 𝒱 (c : Thread nD τ) bd Γ) E (k ⟨⟩) Q) :
    own c M S ⊢ wp frame (wpE' defs 𝒱 (c : Thread nD τ) bd Γ) E (Prog.lift (.store M.m30 (Rect.unit (s := S5x384x128) off size inb) w Finset.univ hx hm) >>= k) Q :=
  st_rule (own_30 c M S) (by iintro ⟨H, K⟩; iapply K; iexact H) h

theorem ld_31 {r : LoadRect S4x8x1024} {hl : M.m31.view.LoadsAt r} {k : (r.shape.Idx → Elt F .f32) → Prog (TpuEff nD τ sig (Elt F) Λ₀ .tc) α}
    (h : own c M S ⊢ wp frame (wpE' defs 𝒱 (c : Thread nD τ) bd Γ) E (k (rd S.a31 r)) Q) :
    own c M S ⊢ wp frame (wpE' defs 𝒱 (c : Thread nD τ) bd Γ) E (Prog.lift (.load M.m31 r hl) >>= k) Q :=
  ld_rule (own_31 c M S) (by iintro ⟨H, K⟩; ispecialize K $$ %S.a31; iapply K; iexact H) h

theorem st_31 {off size : Fin (S4x8x1024).rank → ℕ} {inb : ∀ a, off a + size a ≤ (S4x8x1024).size a} {w : (Rect.unit (s := S4x8x1024) off size inb).shape.Idx → Elt F .f32}
    {hx : (M.m31.access (Rect.unit (s := S4x8x1024) off size inb)).Stores Finset.univ} {hm : (Finset.univ : Finset (Rect.unit (s := S4x8x1024) off size inb).shape.Idx) = Finset.univ ∨ ∀ a, (Rect.unit (s := S4x8x1024) off size inb).stride a = 1}
    {k : PUnit → Prog (TpuEff nD τ sig (Elt F) Λ₀ .tc) α}
    (h : own c M { S with a31 := ovl S.a31 off size inb w } ⊢ wp frame (wpE' defs 𝒱 (c : Thread nD τ) bd Γ) E (k ⟨⟩) Q) :
    own c M S ⊢ wp frame (wpE' defs 𝒱 (c : Thread nD τ) bd Γ) E (Prog.lift (.store M.m31 (Rect.unit (s := S4x8x1024) off size inb) w Finset.univ hx hm) >>= k) Q :=
  st_rule (own_31 c M S) (by iintro ⟨H, K⟩; iapply K; iexact H) h

end Rules

end Cert.Kernel.Hand
-- ==== Proof.KBody.lean ====
/- The main kernel's body as a function on the state: what each of its seven conditional blocks leaves, and the body run on
   the buffers held at any state. -/
module

public import proofs.«01_k».proof.Proof.KState

@[expose] public section

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.Hand Gen

variable {F : FTy → Type} [FloatOps F]

/-- Condition 2: the first column block of the first row tile. -/
def k3_cond2 (i : grid3.Coords) : BitVec 1 :=
  Scalar.cmpi .ne (Scalar.extui (Scalar.andi (Scalar.cmpi .eq (BitVec.ofNat 32 (i 1).val) 0#32) (Scalar.cmpi .eq (BitVec.ofNat 32 (i 0).val) 0#32))) 0#32

/-- What the block under condition 1 leaves. -/
def b1 (i : grid3.Coords) (h : k3_cond1 i = 1#1) (S : St F) : St F :=
  let l0 := rd S.a2 (Rect.unit (s := S384x1024) ![0, 0] S384x1024.size inb_S384x1024_S384x1024_0_0).toLoadRect
  let x2 := ovl S.a19 ![0, 0] S384x1024.size inb_S384x1024_S384x1024_0_0 (k3_pay21 l0)
  let x4 := ovl S.a13 ![0, 0] S384x1024.size inb_S384x1024_S384x1024_0_0 (k3_pay22 l0)
  let x6 := ovl S.a20 ![0, 0] S384x128.size inb_S384x128_S384x128_0_0 (k3_pay23 l0)
  let x8 := ovl S.a26 ![0, 0] S384x128.size inb_S384x128_S384x128_0_0 (k3_pay24 (F := F))
  let p10 := (k3_pay19 l0)
  let p11 := (k3_pay25 (F := F))
  let x12 := ovl S.a27 ![0, 0] S384x128.size inb_S384x128_S384x128_0_0 (k3_pay66 p11)
  let x14 := ovl S.a30 ![0, 0, 0] S5x384x128.size inb_S5x384x128_S5x384x128_0_0_0 (k3_pay67 (F := F))
  let x16 := ovl S.a14 (k3_off1 i) S1x384.size (k3_off1_inb i h) (k3_pay68 p10)
  { S with a19 := x2, a13 := x4, a20 := x6, a26 := x8, a27 := x12, a30 := x14, a14 := x16 }

def s1 (i : grid3.Coords) (S : St F) : St F := if h : k3_cond1 i = 1#1 then b1 i h S else S

/-- What the block under condition 2 leaves. -/
def b2 (i : grid3.Coords) (h : k3_cond2 i = 1#1) (S : St F) : St F :=
  let x1 := ovl S.a31 ![0, 0, 0] S4x8x1024.size inb_S4x8x1024_S4x8x1024_0_0_0 (k3_pay69 (F := F))
  { S with a31 := x1 }

def s2 (i : grid3.Coords) (S : St F) : St F := if h : k3_cond2 i = 1#1 then b2 i h S else S

/-- What the block under condition 3 leaves. -/
def b3 (i : grid3.Coords) (h : k3_cond3 i = 1#1) (S : St F) : St F :=
  let l0 := rd S.a2 (Rect.unit (s := S384x1024) ![0, 0] S384x1024.size inb_S384x1024_S384x1024_0_0).toLoadRect
  let l1 := rd S.a19 (Rect.unit (s := S384x1024) ![0, 0] S384x1024.size inb_S384x1024_S384x1024_0_0).toLoadRect
  let l2 := rd S.a20 (Rect.unit (s := S384x128) ![0, 0] S384x1.size inb_S384x128_S384x1_0_0).toLoadRect
  let l3 := rd S.a3 (Rect.unit (s := S1024x512) ![0, 0] S1024x512.size inb_S1024x512_S1024x512_0_0).toLoadRect
  let l4 := rd S.a4 (Rect.unit (s := S1024x512) ![0, 0] S1024x512.size inb_S1024x512_S1024x512_0_0).toLoadRect
  let l5 := rd S.a5 (Rect.unit (s := S1024x512) ![0, 0] S1024x512.size inb_S1024x512_S1024x512_0_0).toLoadRect
  let l6 := rd S.a6 (Rect.unit (s := S1024x512) ![0, 0] S1024x512.size inb_S1024x512_S1024x512_0_0).toLoadRect
  let x8 := ovl S.a21 (k3_off2 i) S384x512.size (k3_off2_inb i h) (k3_pay33 l1 l2 l5 l6)
  let x10 := ovl S.a22 (k3_off2 i) S384x512.size (k3_off2_inb i h) (k3_pay34 l0 l3 l4)
  let p11 := (k3_pay27 l0 l4)
  let p12 := (k3_pay28 l1 l2 l6)
  let p13 := (k3_pay29 l0 l3)
  let p14 := (k3_pay30 l1 l2 l5)
  let p15 := (k3_pay31 l1 l2 l5 l6)
  let p16 := (k3_pay32 l0 l3 l4)
  let p17 := (k3_pay35 l0 l3 l4)
  let x19 := ovl S.a25 (k3_off2 i) S384x512.size (k3_off2_inb i h) (k3_pay1 p17)
  let x21 := ovl S.a23 (k3_off2 i) S384x512.size (k3_off2_inb i h) (k3_pay2 p11 p14)
  let x23 := ovl S.a24 (k3_off2 i) S384x512.size (k3_off2_inb i h) (k3_pay3 p12 p13)
  let l24 := rd S.a26 (Rect.unit (s := S384x128) ![0, 0] S384x128.size inb_S384x128_S384x128_0_0).toLoadRect
  let x26 := ovl S.a26 ![0, 0] S384x128.size inb_S384x128_S384x128_0_0 (k3_pay4 p15 l24)
  let l27 := rd S.a27 (Rect.unit (s := S384x128) ![0, 0] S384x128.size inb_S384x128_S384x128_0_0).toLoadRect
  let x29 := ovl S.a27 ![0, 0] S384x128.size inb_S384x128_S384x128_0_0 (k3_pay5 p16 l27)
  { S with a21 := x8, a22 := x10, a25 := x19, a23 := x21, a24 := x23, a26 := x26, a27 := x29 }

def s3 (i : grid3.Coords) (S : St F) : St F := if h : k3_cond3 i = 1#1 then b3 i h S else S

/-- What the block under condition 4 leaves. -/
def b4 (i : grid3.Coords) (h : k3_cond4 i = 1#1) (S : St F) : St F :=
  let l0 := rd S.a26 (Rect.unit (s := S384x128) ![0, 0] S384x128.size inb_S384x128_S384x128_0_0).toLoadRect
  let x2 := ovl S.a28 ![0, 0] S384x128.size inb_S384x128_S384x128_0_0 (k3_pay37 l0)
  let x4 := ovl S.a16 (k3_off3 i) S1x384.size (k3_off3_inb i h) (k3_pay38 l0)
  let l5 := rd S.a21 (Rect.unit (s := S384x4096) ![0, 0] S384x4096.size inb_S384x4096_S384x4096_0_0).toLoadRect
  let x7 := ovl S.a15 ![0, 0] S384x4096.size inb_S384x4096_S384x4096_0_0 (k3_pay39 l0 l5)
  let l8 := rd S.a27 (Rect.unit (s := S384x128) ![0, 0] S384x128.size inb_S384x128_S384x128_0_0).toLoadRect
  let p9 := (k3_pay41 l8)
  let p10 := (k3_pay42 l8)
  let x12 := ovl S.a29 ![0, 0] S384x128.size inb_S384x128_S384x128_0_0 (k3_pay7 p9 p10)
  let x14 := ovl S.a18 (k3_off3 i) S1x384.size (k3_off3_inb i h) (k3_pay8 p9 p10)
  let l15 := rd S.a22 (Rect.unit (s := S384x4096) ![0, 0] S384x4096.size inb_S384x4096_S384x4096_0_0).toLoadRect
  let x17 := ovl S.a17 ![0, 0] S384x4096.size inb_S384x4096_S384x4096_0_0 (k3_pay9 p9 p10 l15)
  { S with a28 := x2, a16 := x4, a15 := x7, a29 := x12, a18 := x14, a17 := x17 }

def s4 (i : grid3.Coords) (S : St F) : St F := if h : k3_cond4 i = 1#1 then b4 i h S else S

/-- What the block under condition 5 leaves. -/
def b5 (i : grid3.Coords) (h : k3_cond5 i = 1#1) (S : St F) : St F :=
  let l0 := rd S.a7 (Rect.unit (s := S4096x256) ![0, 0] S4096x256.size inb_S4096x256_S4096x256_0_0).toLoadRect
  let l1 := rd S.a8 (Rect.unit (s := S4096x256) ![0, 0] S4096x256.size inb_S4096x256_S4096x256_0_0).toLoadRect
  let l2 := rd S.a25 (Rect.unit (s := S384x4096) ![0, 0] S384x4096.size inb_S384x4096_S384x4096_0_0).toLoadRect
  let x4 := ovl S.a12 (k3_off4 i) S384x256.size (k3_off4_inb i h) (k3_pay45 l0 l2)
  let l5 := rd S.a15 (Rect.unit (s := S384x4096) ![0, 0] S384x4096.size inb_S384x4096_S384x4096_0_0).toLoadRect
  let l6 := rd S.a28 (Rect.unit (s := S384x128) ![0, 0] S384x1.size inb_S384x128_S384x1_0_0).toLoadRect
  let l7 := rd S.a23 (Rect.unit (s := S384x4096) ![0, 0] S384x4096.size inb_S384x4096_S384x4096_0_0).toLoadRect
  let l8 := rd S.a24 (Rect.unit (s := S384x4096) ![0, 0] S384x4096.size inb_S384x4096_S384x4096_0_0).toLoadRect
  let l9 := rd S.a17 (Rect.unit (s := S384x4096) ![0, 0] S384x4096.size inb_S384x4096_S384x4096_0_0).toLoadRect
  let l10 := rd S.a29 (Rect.unit (s := S384x128) ![0, 0] S384x1.size inb_S384x128_S384x1_0_0).toLoadRect
  let l11 := rd S.a30 (Rect.unit (s := S5x384x128) ![4, 0, 0] S1x384x128.size inb_S5x384x128_S1x384x128_4_0_0).toLoadRect
  let p12 := (k3_pay44 l0 l2)
  let p13 := (k3_pay46 l1 l5 l6)
  let p14 := (k3_pay47 l0 l7)
  let p15 := (k3_pay48 l0 l8)
  let p16 := (k3_pay49 l1 l9 l10)
  let x18 := ovl S.a30 ![4, 0, 0] S1x384x128.size inb_S5x384x128_S1x384x128_4_0_0 (k3_pay50 p12 l11)
  let l19 := rd x18 (Rect.unit (s := S5x384x128) ![0, 0, 0] S1x384x128.size inb_S5x384x128_S1x384x128_0_0_0).toLoadRect
  let x21 := ovl x18 ![0, 0, 0] S1x384x128.size inb_S5x384x128_S1x384x128_0_0_0 (k3_pay52 p12 p13 l19)
  let l22 := rd S.a31 (Rect.unit (s := S4x8x1024) (k3_off5 i) S1x8x256.size (k3_off5_inb i h)).toLoadRect
  let x24 := ovl S.a31 (k3_off5 i) S1x8x256.size (k3_off5_inb i h) (k3_pay53 p12 p13 l22)
  let l25 := rd x21 (Rect.unit (s := S5x384x128) ![1, 0, 0] S1x384x128.size inb_S5x384x128_S1x384x128_1_0_0).toLoadRect
  let p26 := (k3_pay54 p12 p14)
  let p27 := (k3_pay55 l25)
  let p28 := (k3_pay56 p12 p14)
  let x30 := ovl x21 ![1, 0, 0] S1x384x128.size inb_S5x384x128_S1x384x128_1_0_0 (k3_pay57 p27 p28)
  let l31 := rd x24 (Rect.unit (s := S4x8x1024) (k3_off6 i) S1x8x256.size (k3_off6_inb i h)).toLoadRect
  let x33 := ovl x24 (k3_off6 i) S1x8x256.size (k3_off6_inb i h) (k3_pay58 p26 l31)
  let l34 := rd x30 (Rect.unit (s := S5x384x128) ![2, 0, 0] S1x384x128.size inb_S5x384x128_S1x384x128_2_0_0).toLoadRect
  let x36 := ovl x30 ![2, 0, 0] S1x384x128.size inb_S5x384x128_S1x384x128_2_0_0 (k3_pay60 p12 p15 l34)
  let l37 := rd x33 (Rect.unit (s := S4x8x1024) (k3_off7 i) S1x8x256.size (k3_off7_inb i h)).toLoadRect
  let x39 := ovl x33 (k3_off7 i) S1x8x256.size (k3_off7_inb i h) (k3_pay61 p12 p15 l37)
  let p40 := (k3_pay62 p12 p16)
  let l41 := rd x36 (Rect.unit (s := S5x384x128) ![3, 0, 0] S1x384x128.size inb_S5x384x128_S1x384x128_3_0_0).toLoadRect
  let x43 := ovl x36 ![3, 0, 0] S1x384x128.size inb_S5x384x128_S1x384x128_3_0_0 (k3_pay10 p40 l41)
  let l44 := rd x39 (Rect.unit (s := S4x8x1024) (k3_off8 i) S1x8x256.size (k3_off8_inb i h)).toLoadRect
  let x46 := ovl x39 (k3_off8 i) S1x8x256.size (k3_off8_inb i h) (k3_pay11 p40 l44)
  { S with a12 := x4, a30 := x43, a31 := x46 }

def s5 (i : grid3.Coords) (S : St F) : St F := if h : k3_cond5 i = 1#1 then b5 i h S else S

/-- What the block under condition 6 leaves. -/
def b6 (i : grid3.Coords) (h : k3_cond6 i = 1#1) (S : St F) : St F :=
  let l0 := rd S.a30 (Rect.unit (s := S5x384x128) ![0, 0, 0] S1x384x128.size inb_S5x384x128_S1x384x128_0_0_0).toLoadRect
  let x2 := ovl S.a9 (k3_off9 i) S1x1x384.size (k3_off9_inb i h) (k3_pay63 l0)
  let l3 := rd S.a30 (Rect.unit (s := S5x384x128) ![1, 0, 0] S1x384x128.size inb_S5x384x128_S1x384x128_1_0_0).toLoadRect
  let x5 := ovl x2 (k3_off10 i) S1x1x384.size (k3_off10_inb i h) (k3_pay64 l3)
  let l6 := rd S.a30 (Rect.unit (s := S5x384x128) ![2, 0, 0] S1x384x128.size inb_S5x384x128_S1x384x128_2_0_0).toLoadRect
  let x8 := ovl x5 (k3_off11 i) S1x1x384.size (k3_off11_inb i h) (k3_pay65 l6)
  let l9 := rd S.a30 (Rect.unit (s := S5x384x128) ![3, 0, 0] S1x384x128.size inb_S5x384x128_S1x384x128_3_0_0).toLoadRect
  let x11 := ovl x8 (k3_off12 i) S1x1x384.size (k3_off12_inb i h) (k3_pay12 l9)
  let l12 := rd S.a30 (Rect.unit (s := S5x384x128) ![4, 0, 0] S1x384x128.size inb_S5x384x128_S1x384x128_4_0_0).toLoadRect
  let x14 := ovl S.a11 (k3_off13 i) S1x384.size (k3_off13_inb i h) (k3_pay13 l12)
  { S with a9 := x11, a11 := x14 }

def s6 (i : grid3.Coords) (S : St F) : St F := if h : k3_cond6 i = 1#1 then b6 i h S else S

/-- What the block under condition 7 leaves. -/
def b7 (i : grid3.Coords) (h : k3_cond7 i = 1#1) (S : St F) : St F :=
  let l0 := rd S.a31 (Rect.unit (s := S4x8x1024) ![0, 0, 0] S1x8x1024.size inb_S4x8x1024_S1x8x1024_0_0_0).toLoadRect
  let x2 := ovl S.a10 ![0, 0] S1x1024.size inb_S4x1024_S1x1024_0_0 (k3_pay14 l0)
  let l3 := rd S.a31 (Rect.unit (s := S4x8x1024) ![1, 0, 0] S1x8x1024.size inb_S4x8x1024_S1x8x1024_1_0_0).toLoadRect
  let x5 := ovl x2 ![1, 0] S1x1024.size inb_S4x1024_S1x1024_1_0 (k3_pay15 l3)
  let l6 := rd S.a31 (Rect.unit (s := S4x8x1024) ![2, 0, 0] S1x8x1024.size inb_S4x8x1024_S1x8x1024_2_0_0).toLoadRect
  let x8 := ovl x5 ![2, 0] S1x1024.size inb_S4x1024_S1x1024_2_0 (k3_pay16 l6)
  let l9 := rd S.a31 (Rect.unit (s := S4x8x1024) ![3, 0, 0] S1x8x1024.size inb_S4x8x1024_S1x8x1024_3_0_0).toLoadRect
  let x11 := ovl x8 ![3, 0] S1x1024.size inb_S4x1024_S1x1024_3_0 (k3_pay17 l9)
  { S with a10 := x11 }

def s7 (i : grid3.Coords) (S : St F) : St F := if h : k3_cond7 i = 1#1 then b7 i h S else S

theorem s1_pos {i : grid3.Coords} {S : St F} (h : k3_cond1 i = 1#1) : s1 i S = b1 i h S := dif_pos h

theorem s1_neg {i : grid3.Coords} {S : St F} (h : ¬ k3_cond1 i = 1#1) : s1 i S = S := dif_neg h

theorem s2_pos {i : grid3.Coords} {S : St F} (h : k3_cond2 i = 1#1) : s2 i S = b2 i h S := dif_pos h

theorem s2_neg {i : grid3.Coords} {S : St F} (h : ¬ k3_cond2 i = 1#1) : s2 i S = S := dif_neg h

theorem s3_pos {i : grid3.Coords} {S : St F} (h : k3_cond3 i = 1#1) : s3 i S = b3 i h S := dif_pos h

theorem s3_neg {i : grid3.Coords} {S : St F} (h : ¬ k3_cond3 i = 1#1) : s3 i S = S := dif_neg h

theorem s4_pos {i : grid3.Coords} {S : St F} (h : k3_cond4 i = 1#1) : s4 i S = b4 i h S := dif_pos h

theorem s4_neg {i : grid3.Coords} {S : St F} (h : ¬ k3_cond4 i = 1#1) : s4 i S = S := dif_neg h

theorem s5_pos {i : grid3.Coords} {S : St F} (h : k3_cond5 i = 1#1) : s5 i S = b5 i h S := dif_pos h

theorem s5_neg {i : grid3.Coords} {S : St F} (h : ¬ k3_cond5 i = 1#1) : s5 i S = S := dif_neg h

theorem s6_pos {i : grid3.Coords} {S : St F} (h : k3_cond6 i = 1#1) : s6 i S = b6 i h S := dif_pos h

theorem s6_neg {i : grid3.Coords} {S : St F} (h : ¬ k3_cond6 i = 1#1) : s6 i S = S := dif_neg h

theorem s7_pos {i : grid3.Coords} {S : St F} (h : k3_cond7 i = 1#1) : s7 i S = b7 i h S := dif_pos h

theorem s7_neg {i : grid3.Coords} {S : St F} (h : ¬ k3_cond7 i = 1#1) : s7 i S = S := dif_neg h

/-- What the whole body leaves. -/
def step (i : grid3.Coords) (S : St F) : St F := s7 i (s6 i (s5 i (s4 i (s3 i (s2 i (s1 i S))))))

section Run

variable {Ix : Type} [DecidableEq Ix] {Name : Type} [DecidableEq Name] {U : Type} [URA U] {Lvl : Type} [Preorder Lvl]
variable {defs : Defs nD τ sig (Elt F) Λ₀} {𝒱 : Variants} {c : Dev nD} {M : Mr}
variable {bd : Option 𝒱.V} {Γ : PendingWaitsCtx sig Ix} {E : Set Name} {α β γ : Type}

set_option maxHeartbeats 1000000

local notation "𝕄" => MT nD τ sig Ix (Elt F) Name U Lvl

section Glue

variable {P : sProp (MT nD τ sig Ix (Elt F) Name U Lvl)} {Q : α → sProp (MT nD τ sig Ix (Elt F) Name U Lvl)}

theorem dif_rule {p : Prop} [Decidable p] {A : p → Prog (TpuEff nD τ sig (Elt F) Λ₀ .tc) α} {B : ¬ p → Prog (TpuEff nD τ sig (Elt F) Λ₀ .tc) α}
    (hA : ∀ h, P ⊢ wp frame (wpE' (Ix := Ix) (Name := Name) (U := U) (Lvl := Lvl) defs 𝒱 (c : Thread nD τ) bd Γ) E (A h) Q) (hB : ∀ h, P ⊢ wp frame (wpE' (Ix := Ix) (Name := Name) (U := U) (Lvl := Lvl) defs 𝒱 (c : Thread nD τ) bd Γ) E (B h) Q) : P ⊢ wp frame (wpE' (Ix := Ix) (Name := Name) (U := U) (Lvl := Lvl) defs 𝒱 (c : Thread nD τ) bd Γ) E (dite p A B) Q := by
  split
  · exact hA _
  · exact hB _

theorem assoc_rule {p : Prog (TpuEff nD τ sig (Elt F) Λ₀ .tc) β} {f : β → Prog (TpuEff nD τ sig (Elt F) Λ₀ .tc) γ}
    {k : γ → Prog (TpuEff nD τ sig (Elt F) Λ₀ .tc) α} (h : P ⊢ wp frame (wpE' (Ix := Ix) (Name := Name) (U := U) (Lvl := Lvl) defs 𝒱 (c : Thread nD τ) bd Γ) E (p >>= fun x => f x >>= k) Q) :
    P ⊢ wp frame (wpE' (Ix := Ix) (Name := Name) (U := U) (Lvl := Lvl) defs 𝒱 (c : Thread nD τ) bd Γ) E ((p >>= f) >>= k) Q := by
  rw [Prog.bind_assoc]; exact h

theorem ret_rule {a : β} {k : β → Prog (TpuEff nD τ sig (Elt F) Λ₀ .tc) α} (h : P ⊢ wp frame (wpE' (Ix := Ix) (Name := Name) (U := U) (Lvl := Lvl) defs 𝒱 (c : Thread nD τ) bd Γ) E (k a) Q) :
    P ⊢ wp frame (wpE' (Ix := Ix) (Name := Name) (U := U) (Lvl := Lvl) defs 𝒱 (c : Thread nD τ) bd Γ) E (Pure.pure a >>= k) Q := h

theorem done_rule {a : β} {P : sProp (MT nD τ sig Ix (Elt F) Name U Lvl)} : P ⊢ wp frame (wpE' (Ix := Ix) (Name := Name) (U := U) (Lvl := Lvl) defs 𝒱 (c : Thread nD τ) bd Γ) E (Pure.pure a) (fun _ => P) :=
  le_wp_ret _ _ _ a (fun _ => P)

end Glue

theorem own_congr {S S' : St F} (h : S = S') : (own c M S : sProp 𝕄) ⊢ own c M S' := by
  subst h; exact .rfl

variable (i : grid3.Coords) (S : St F)

/-- The first part: conditions 1 and 2. -/
theorem part8_run : own c M S ⊢ wp frame (wpE' (Ix := Ix) (Name := Name) (U := U) (Lvl := Lvl) defs 𝒱 (c : Thread nD τ) bd Γ) E (k3_part8 i M.m2 M.h2 M.m3 M.h3 M.m4 M.h4 M.m5 M.h5 M.m6 M.h6 M.m7 M.h7 M.m8 M.h8 M.m9 M.h9 M.m10 M.h10 M.m11 M.h11 M.m12 M.h12 M.m13 M.h13 M.m14 M.h14 M.m15 M.h15 M.m16 M.h16 M.m17 M.h17 M.m18 M.h18 M.m19 M.h19 M.m20 M.h20 M.m21 M.h21 M.m22 M.h22 M.m23 M.h23 M.m24 M.h24 M.m25 M.h25 M.m26 M.h26 M.m27 M.h27 M.m28 M.h28 M.m29 M.h29 M.m30 M.h30 M.m31 M.h31) (fun _ => own c M (s2 i (s1 i S))) := by
  rw [k3_part8_eq_skeleton]
  unfold k3_part8_skel
  extract_lets -lift
  rename_i jp2 jp1
  have hjp : ∀ u, own c M (s1 i S) ⊢ wp frame (wpE' (Ix := Ix) (Name := Name) (U := U) (Lvl := Lvl) defs 𝒱 (c : Thread nD τ) bd Γ) E (jp1 u) (fun _ => own c M (s2 i (s1 i S))) := by
    intro u
    subst jp1
    beta_reduce
    have hjp : ∀ u, own c M (s2 i (s1 i S)) ⊢ wp frame (wpE' (Ix := Ix) (Name := Name) (U := U) (Lvl := Lvl) defs 𝒱 (c : Thread nD τ) bd Γ) E (jp2 u) (fun _ => own c M (s2 i (s1 i S))) := by
      intro u
      subst jp2
      beta_reduce
      exact done_rule
    clear_value jp2
    refine dif_rule (fun h => ?_) (fun h => ?_)
    · refine ld_31 ?_
      refine st_31 ?_
      refine (own_congr (S' := b2 i h (s1 i S)) rfl).trans ?_
      exact (own_congr (s2_pos h).symm).trans (hjp _)
    · exact (own_congr (s2_neg h).symm).trans (hjp _)
  clear_value jp1
  refine dif_rule (fun h => ?_) (fun h => ?_)
  · rw [k3_part1_eq_skeleton]; unfold k3_part1_skel
    refine assoc_rule (ld_2 ?_)
    refine assoc_rule (ld_19 ?_)
    refine assoc_rule (st_19 ?_)
    refine assoc_rule (ld_13 ?_)
    refine assoc_rule (st_13 ?_)
    refine assoc_rule (ld_20 ?_)
    refine assoc_rule (st_20 ?_)
    refine assoc_rule (ld_26 ?_)
    refine assoc_rule (st_26 ?_)
    refine assoc_rule (ld_27 ?_)
    refine ret_rule ?_
    refine st_27 ?_
    refine ld_30 ?_
    refine st_30 ?_
    refine ld_14 ?_
    refine st_14 ?_
    refine (own_congr (S' := b1 i h S) rfl).trans ?_
    exact (own_congr (s1_pos h).symm).trans (hjp _)
  · exact (own_congr (s1_neg h).symm).trans (hjp _)

/-- The body on the buffers held at `S` leaves them at `step i S`. -/
theorem body_run : own c M S ⊢ wp frame (wpE' (Ix := Ix) (Name := Name) (U := U) (Lvl := Lvl) defs 𝒱 (c : Thread nD τ) bd Γ) E (body i M) (fun _ => own c M (step i S)) := by
  rw [body, cc3_probe_main_eq_skeleton]
  unfold cc3_probe_main_skel
  rw [wp_bind]
  refine (part8_run i S).trans (wp_mono _ _ _ fun a => ?_)
  obtain ⟨arg0, arg1, v16, v28⟩ := a
  show own c M (s2 i (s1 i S)) ⊢ wp frame (wpE' (Ix := Ix) (Name := Name) (U := U) (Lvl := Lvl) defs 𝒱 (c : Thread nD τ) bd Γ) E _ (fun _ => own c M (s7 i (s6 i (s5 i (s4 i (s3 i (s2 i (s1 i S))))))))
  generalize s2 i (s1 i S) = S
  dsimp -zeta only
  extract_lets -lift
  rename_i jp7 jp6 jp5 jp4 jp3
  have hjp : ∀ u, own c M (s3 i S) ⊢ wp frame (wpE' (Ix := Ix) (Name := Name) (U := U) (Lvl := Lvl) defs 𝒱 (c : Thread nD τ) bd Γ) E (jp3 u) (fun _ => own c M (s7 i (s6 i (s5 i (s4 i (s3 i S)))))) := by
    intro u
    subst jp3
    beta_reduce
    have hjp : ∀ u, own c M (s4 i (s3 i S)) ⊢ wp frame (wpE' (Ix := Ix) (Name := Name) (U := U) (Lvl := Lvl) defs 𝒱 (c : Thread nD τ) bd Γ) E (jp4 u) (fun _ => own c M (s7 i (s6 i (s5 i (s4 i (s3 i S)))))) := by
      intro u
      subst jp4
      beta_reduce
      have hjp : ∀ u, own c M (s5 i (s4 i (s3 i S))) ⊢ wp frame (wpE' (Ix := Ix) (Name := Name) (U := U) (Lvl := Lvl) defs 𝒱 (c : Thread nD τ) bd Γ) E (jp5 u) (fun _ => own c M (s7 i (s6 i (s5 i (s4 i (s3 i S)))))) := by
        intro u
        subst jp5
        beta_reduce
        have hjp : ∀ u, own c M (s6 i (s5 i (s4 i (s3 i S)))) ⊢ wp frame (wpE' (Ix := Ix) (Name := Name) (U := U) (Lvl := Lvl) defs 𝒱 (c : Thread nD τ) bd Γ) E (jp6 u) (fun _ => own c M (s7 i (s6 i (s5 i (s4 i (s3 i S)))))) := by
          intro u
          subst jp6
          beta_reduce
          have hjp : ∀ u, own c M (s7 i (s6 i (s5 i (s4 i (s3 i S))))) ⊢ wp frame (wpE' (Ix := Ix) (Name := Name) (U := U) (Lvl := Lvl) defs 𝒱 (c : Thread nD τ) bd Γ) E (jp7 u) (fun _ => own c M (s7 i (s6 i (s5 i (s4 i (s3 i S)))))) := by
            intro u
            subst jp7
            beta_reduce
            exact done_rule
          clear_value jp7
          refine dif_rule (fun h => ?_) (fun h => ?_)
          · refine ld_31 ?_
            refine ld_10 ?_
            refine st_10 ?_
            refine ld_31 ?_
            refine ld_10 ?_
            refine st_10 ?_
            refine ld_31 ?_
            refine ld_10 ?_
            refine st_10 ?_
            refine ld_31 ?_
            refine ld_10 ?_
            refine st_10 ?_
            refine (own_congr (S' := b7 i h (s6 i (s5 i (s4 i (s3 i S))))) rfl).trans ?_
            exact (own_congr (s7_pos h).symm).trans (hjp _)
          · exact (own_congr (s7_neg h).symm).trans (hjp _)
        clear_value jp6
        refine dif_rule (fun h => ?_) (fun h => ?_)
        · rw [k3_part7_eq_skeleton]; unfold k3_part7_skel
          refine assoc_rule (ld_30 ?_)
          refine assoc_rule (ld_9 ?_)
          refine assoc_rule (st_9 ?_)
          refine assoc_rule (ld_30 ?_)
          refine assoc_rule (ld_9 ?_)
          refine assoc_rule (st_9 ?_)
          refine assoc_rule (ld_30 ?_)
          refine assoc_rule (ld_9 ?_)
          refine assoc_rule (st_9 ?_)
          refine ret_rule ?_
          refine ld_30 ?_
          refine ld_9 ?_
          refine st_9 ?_
          refine ld_30 ?_
          refine ld_11 ?_
          refine st_11 ?_
          refine (own_congr (S' := b6 i h (s5 i (s4 i (s3 i S)))) rfl).trans ?_
          exact (own_congr (s6_pos h).symm).trans (hjp _)
        · exact (own_congr (s6_neg h).symm).trans (hjp _)
      clear_value jp5
      refine dif_rule (fun h => ?_) (fun h => ?_)
      · rw [k3_part4_eq_skeleton]; unfold k3_part4_skel
        refine assoc_rule (ld_7 ?_)
        refine assoc_rule (ld_8 ?_)
        refine assoc_rule (ld_25 ?_)
        refine assoc_rule (ld_12 ?_)
        refine assoc_rule (st_12 ?_)
        refine assoc_rule (ld_15 ?_)
        refine assoc_rule (ld_28 ?_)
        refine assoc_rule (ld_23 ?_)
        refine assoc_rule (ld_24 ?_)
        refine assoc_rule (ld_17 ?_)
        refine assoc_rule (ld_29 ?_)
        refine assoc_rule (ld_30 ?_)
        refine ret_rule ?_
        rw [k3_part5_eq_skeleton]; unfold k3_part5_skel
        refine assoc_rule (ld_30 ?_)
        refine assoc_rule (st_30 ?_)
        refine assoc_rule (ld_30 ?_)
        refine assoc_rule (ld_30 ?_)
        refine assoc_rule (st_30 ?_)
        refine assoc_rule (ld_31 ?_)
        refine assoc_rule (ld_31 ?_)
        refine assoc_rule (st_31 ?_)
        refine assoc_rule (ld_30 ?_)
        refine ret_rule ?_
        rw [k3_part6_eq_skeleton]; unfold k3_part6_skel
        refine assoc_rule (ld_30 ?_)
        refine assoc_rule (st_30 ?_)
        refine assoc_rule (ld_31 ?_)
        refine assoc_rule (ld_31 ?_)
        refine assoc_rule (st_31 ?_)
        refine assoc_rule (ld_30 ?_)
        refine assoc_rule (ld_30 ?_)
        refine assoc_rule (st_30 ?_)
        refine assoc_rule (ld_31 ?_)
        refine assoc_rule (ld_31 ?_)
        refine assoc_rule (st_31 ?_)
        refine ret_rule ?_
        refine ld_30 ?_
        refine ld_30 ?_
        refine st_30 ?_
        refine ld_31 ?_
        refine ld_31 ?_
        refine st_31 ?_
        refine (own_congr (S' := b5 i h (s4 i (s3 i S))) rfl).trans ?_
        exact (own_congr (s5_pos h).symm).trans (hjp _)
      · exact (own_congr (s5_neg h).symm).trans (hjp _)
    clear_value jp4
    refine dif_rule (fun h => ?_) (fun h => ?_)
    · rw [k3_part3_eq_skeleton]; unfold k3_part3_skel
      refine assoc_rule (ld_26 ?_)
      refine assoc_rule (ld_28 ?_)
      refine assoc_rule (st_28 ?_)
      refine assoc_rule (ld_16 ?_)
      refine assoc_rule (st_16 ?_)
      refine assoc_rule (ld_21 ?_)
      refine assoc_rule (ld_15 ?_)
      refine assoc_rule (st_15 ?_)
      refine assoc_rule (ld_27 ?_)
      refine ret_rule ?_
      refine ld_29 ?_
      refine st_29 ?_
      refine ld_18 ?_
      refine st_18 ?_
      refine ld_22 ?_
      refine ld_17 ?_
      refine st_17 ?_
      refine (own_congr (S' := b4 i h (s3 i S)) rfl).trans ?_
      exact (own_congr (s4_pos h).symm).trans (hjp _)
    · exact (own_congr (s4_neg h).symm).trans (hjp _)
  clear_value jp3
  refine dif_rule (fun h => ?_) (fun h => ?_)
  · rw [k3_part2_eq_skeleton]; unfold k3_part2_skel
    refine assoc_rule (ld_2 ?_)
    refine assoc_rule (ld_19 ?_)
    refine assoc_rule (ld_20 ?_)
    refine assoc_rule (ld_3 ?_)
    refine assoc_rule (ld_4 ?_)
    refine assoc_rule (ld_5 ?_)
    refine assoc_rule (ld_6 ?_)
    refine assoc_rule (ld_21 ?_)
    refine assoc_rule (st_21 ?_)
    refine assoc_rule (ld_22 ?_)
    refine assoc_rule (st_22 ?_)
    refine ret_rule ?_
    refine ld_25 ?_
    refine st_25 ?_
    refine ld_23 ?_
    refine st_23 ?_
    refine ld_24 ?_
    refine st_24 ?_
    refine ld_26 ?_
    refine ld_26 ?_
    refine st_26 ?_
    refine ld_27 ?_
    refine ld_27 ?_
    refine st_27 ?_
    refine (own_congr (S' := b3 i h S) rfl).trans ?_
    exact (own_congr (s3_pos h).symm).trans (hjp _)
  · exact (own_congr (s3_neg h).symm).trans (hjp _)

end Run

end Cert.Kernel.Hand
-- ==== Proof.KDq.lean ====
/- The three regions that dequantise the weights: what each body leaves of its output block, and each region's proof data. -/
module

public import proofs.«01_k».proof.Proof.Four
public import proofs.«01_k».proof.Proof.KBody
public import proofs.«01_k».proof.Proof.Gen.Kernel.Points
public import proofs.«01_k».proof.Proof.Gen.Kernel.Launch
public import Idealize.ShloMosaic.Lib.Pipeline.Frame

@[expose] public section

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Hand Cert.Kernel.Gen

variable {F : FTy → Type} [FloatOps F]
variable {Ix : Type} [DecidableEq Ix] {Name : Type} [DecidableEq Name] {U : Type} [URA U] {Lvl : Type} [Preorder Lvl]
variable {defs : Defs nD τ sig (Elt F) Λ₀} {𝒱 : Variants} {c : Dev nD}
variable {bd : Option 𝒱.V} {Γ : PendingWaitsCtx sig Ix} {E : Set Name} {α : Type}

/-- Some value. -/
def arb (F : FTy → Type) [FloatOps F] (e : EltTy) : Elt F e := Classical.arbitrary (Elt F e)

/-- The launch's ghost state: the transfers' rounds. -/
abbrev UU : Type := UR sig nD τ × UR sig nD τ

theorem wp_use {p : Prog (TpuEff nD τ sig (Elt F) Λ₀ .tc) α} {P R : sProp (MT nD τ sig Ix (Elt F) Name U Lvl)} {Q Q' : α → sProp (MT nD τ sig Ix (Elt F) Name U Lvl)}
    (h : P ⊢ wp frame (wpE (Ix := Ix) (Name := Name) (U := U) (Lvl := Lvl) defs 𝒱 (c : Thread nD τ) bd) E p Q) (hq : ∀ a, iprop(R ∗ Q a) ⊢ Q' a) :
    iprop(R ∗ P) ⊢ wp frame (wpE (Ix := Ix) (Name := Name) (U := U) (Lvl := Lvl) defs 𝒱 (c : Thread nD τ) bd) E p Q' :=
  (sep_mono .rfl h).trans ((wp_frame_l _ _ E).trans (Idealize.SL.Sem.wp_mono _ _ _ hq))

/-! ## Region 0: the dequantised weight of the gate -/

/-- What the body of region 0 leaves of its output block, over contents `X`: four bands of rows, one per scale group. -/
def out0 (W : Vec F S256x2048 .i8) (S : Vec F S4x1x2048 .f32) (Z : Vec F S4x1x2048 .i8) (X : Vec F S512x2048 .bf16) : Vec F S512x2048 .bf16 :=
  ovl (ovl (ovl (ovl X
    ![0, 0] S128x2048.size inb_S512x2048_S128x2048_0_0
      (k0_pay3 (rd W (Rect.unit (s := S256x2048) ![0, 0] S64x2048.size inb_S256x2048_S64x2048_0_0).toLoadRect) (rd Z (Rect.unit (s := S4x1x2048) ![0, 0, 0] S1x1x2048.size inb_S4x1x2048_S1x1x2048_0_0_0).toLoadRect) (rd S (Rect.unit (s := S4x1x2048) ![0, 0, 0] S1x1x2048.size inb_S4x1x2048_S1x1x2048_0_0_0).toLoadRect)))
    ![128, 0] S128x2048.size inb_S512x2048_S128x2048_128_0
      (k0_pay8 (k0_pay5 (rd W (Rect.unit (s := S256x2048) ![64, 0] S64x2048.size inb_S256x2048_S64x2048_64_0).toLoadRect)) (k0_pay6 (rd W (Rect.unit (s := S256x2048) ![64, 0] S64x2048.size inb_S256x2048_S64x2048_64_0).toLoadRect)) k0_pay7 (rd Z (Rect.unit (s := S4x1x2048) ![1, 0, 0] S1x1x2048.size inb_S4x1x2048_S1x1x2048_1_0_0).toLoadRect) (rd S (Rect.unit (s := S4x1x2048) ![1, 0, 0] S1x1x2048.size inb_S4x1x2048_S1x1x2048_1_0_0).toLoadRect)))
    ![256, 0] S128x2048.size inb_S512x2048_S128x2048_256_0
      (k0_pay1 (k0_pay9 (rd W (Rect.unit (s := S256x2048) ![128, 0] S64x2048.size inb_S256x2048_S64x2048_128_0).toLoadRect)) (k0_pay10 (rd Z (Rect.unit (s := S4x1x2048) ![2, 0, 0] S1x1x2048.size inb_S4x1x2048_S1x1x2048_2_0_0).toLoadRect)) (rd S (Rect.unit (s := S4x1x2048) ![2, 0, 0] S1x1x2048.size inb_S4x1x2048_S1x1x2048_2_0_0).toLoadRect)))
    ![384, 0] S128x2048.size inb_S512x2048_S128x2048_384_0
      (k0_pay2 (rd W (Rect.unit (s := S256x2048) ![192, 0] S64x2048.size inb_S256x2048_S64x2048_192_0).toLoadRect) (rd Z (Rect.unit (s := S4x1x2048) ![3, 0, 0] S1x1x2048.size inb_S4x1x2048_S1x1x2048_3_0_0).toLoadRect) (rd S (Rect.unit (s := S4x1x2048) ![3, 0, 0] S1x1x2048.size inb_S4x1x2048_S1x1x2048_3_0_0).toLoadRect))

/-- The four bands fill the block: nothing of what was there before is left. -/
theorem out0_congr (W : Vec F S256x2048 .i8) (S : Vec F S4x1x2048 .f32) (Z : Vec F S4x1x2048 .i8) (X X' : Vec F S512x2048 .bf16) : out0 W S Z X = out0 W S Z X' := by
  unfold out0
  refine ovl4_congr _ _ _ _ _ _ _ _ _ _ _ _ _ _ _ _ _ _ fun y => ?_
  have h0 : (y 0).val < 512 := (y 0).isLt
  have h1 : (y 1).val < 2048 := (y 1).isLt
  rcases (by omega : (y 0).val < 128 ∨ (128 ≤ (y 0).val ∧ (y 0).val < 256) ∨ (256 ≤ (y 0).val ∧ (y 0).val < 384) ∨ 384 ≤ (y 0).val) with h | h | h | h
  · exact .inl (Fin.forall_fin_two.mpr ⟨⟨Nat.zero_le _, by simpa using h⟩, ⟨Nat.zero_le _, by simpa using h1⟩⟩)
  · exact .inr (.inl (Fin.forall_fin_two.mpr ⟨⟨h.1, by simpa using h.2⟩, ⟨Nat.zero_le _, by simpa using h1⟩⟩))
  · exact .inr (.inr (.inl (Fin.forall_fin_two.mpr ⟨⟨h.1, by simpa using h.2⟩, ⟨Nat.zero_le _, by simpa using h1⟩⟩)))
  · exact .inr (.inr (.inr (Fin.forall_fin_two.mpr ⟨⟨h, by simpa using h0⟩, ⟨Nat.zero_le _, by simpa using h1⟩⟩)))

section Run0
variable {m2 : Memref sig .tc .vmem S256x2048 .i8} {h2 : m2.IsWhole} {m3 : Memref sig .tc .vmem S4x1x2048 .f32} {h3 : m3.IsWhole} {m4 : Memref sig .tc .vmem S4x1x2048 .i8} {h4 : m4.IsWhole} {m5 : Memref sig .tc .vmem S512x2048 .bf16} {h5 : m5.IsWhole}
variable (i : grid0.Coords) (W : Vec F S256x2048 .i8) (S : Vec F S4x1x2048 .f32) (Z : Vec F S4x1x2048 .i8) (X : Vec F S512x2048 .bf16)

/-- The body of region 0 on its four buffers. -/
theorem run0 : four c m2 m3 m4 m5 W S Z X ⊢ wp frame (wpE' (Ix := Ix) (Name := Name) (U := U) (Lvl := Lvl) defs 𝒱 (c : Thread nD τ) bd Γ) E
    (cc0_dq_gate (F := F) i m2 h2 m3 h3 m4 h4 m5 h5) (fun _ => four c m2 m3 m4 m5 W S Z (out0 W S Z X)) := by
  rw [cc0_dq_gate_eq_skeleton]
  unfold cc0_dq_gate_skel
  rw [k0_part1_eq_skeleton]; unfold k0_part1_skel
  refine assoc_rule (four_ld2 ?_)
  refine assoc_rule (four_ld4 ?_)
  refine assoc_rule (four_ld3 ?_)
  refine assoc_rule (four_ld5 ?_)
  refine assoc_rule (four_st5 ?_)
  refine assoc_rule (four_ld2 ?_)
  refine ret_rule ?_
  dsimp -zeta only
  rw [k0_part2_eq_skeleton]; unfold k0_part2_skel
  refine assoc_rule (four_ld4 ?_)
  refine assoc_rule (four_ld3 ?_)
  refine assoc_rule (four_ld5 ?_)
  refine assoc_rule (four_st5 ?_)
  refine assoc_rule (four_ld2 ?_)
  refine assoc_rule (four_ld4 ?_)
  refine ret_rule ?_
  dsimp -zeta only
  refine four_ld3 ?_
  refine four_ld5 ?_
  refine four_st5 ?_
  refine four_ld2 ?_
  refine four_ld4 ?_
  refine four_ld3 ?_
  refine four_ld5 ?_
  refine four_st5 ?_
  exact done_rule

end Run0

section Dat0
variable (A : (c : Dev nD) → (w : Fin cfg0.W) → Buf (Elt F) ((cfg0.win w).arr.view.loc (c.tc : Thread nD τ)))

/-- The block window `w` reads at point `t`. -/
def blk0 (c : Dev nD) (w : Fin cfg0.W) (t : Fin cfg0.N) : (cfg0.win w).block.Idx → Elt F (cfg0.win w).elt :=
  (cfg0.win w).fill (cfg0.grid.coords t) (fun _ => arb F _) (((cfg0.win w).blk t).view.read (Elt F) (A c w))

/-- Region 0's proof data: the inputs stay, the output block is `out0` of them. -/
def dat0 (c : Dev nD) : Dat τ (Elt F) Unit ℕ UU ℕ cfg0 c where
  A := A c
  after w t := match w with
    | ⟨0, _⟩ => blk0 A c 0 t
    | ⟨1, _⟩ => blk0 A c 1 t
    | ⟨2, _⟩ => blk0 A c 2 t
    | ⟨3, _⟩ => out0 (blk0 A c 0 t) (blk0 A c 1 t) (blk0 A c 2 t) (fun _ => arb F _)
    | ⟨_ + 4, h⟩ => absurd h (Nat.not_lt.2 (Nat.le_add_left _ _))
  Φ _ := Pipeline.scopedRest (Ix := Unit) (Name := ℕ) (U := UU) (Lvl := ℕ) (Val := Elt F) spec0 c
  q _ := fullShare
  owed _ := 0

theorem before0_0 (c : Dev nD) (t : Fin cfg0.N) (d) : (dat0 A c).before 0 t d = blk0 A c 0 t :=
  ((dat0 A c).before_fetched 0 t (fetch0_0 t) d).trans ((dat0 A c).fetched_of_clip_none 0 t (fun _ => rfl) d (fun _ => arb F _))
theorem before0_1 (c : Dev nD) (t : Fin cfg0.N) (d) : (dat0 A c).before 1 t d = blk0 A c 1 t :=
  ((dat0 A c).before_fetched 1 t (fetch0_1 t) d).trans ((dat0 A c).fetched_of_clip_none 1 t (fun _ => rfl) d (fun _ => arb F _))
theorem before0_2 (c : Dev nD) (t : Fin cfg0.N) (d) : (dat0 A c).before 2 t d = blk0 A c 2 t :=
  ((dat0 A c).before_fetched 2 t (fetch0_2 t) d).trans ((dat0 A c).fetched_of_clip_none 2 t (fun _ => rfl) d (fun _ => arb F _))

theorem body0 (c : Dev nD) : Pipeline.BodyObligation (dat0 A c) (defs₀ (F := F)) Variants.none () Set.univ := fun t => by
  rw [bigSep_W0, bigSep_W0]
  rw [show (dat0 A c).Φ t.castSucc = (dat0 A c).Φ t.succ from rfl]
  show _ ⊢ wp frame _ _ (bodyAt0 t) _
  simp only [before0_0, before0_1, before0_2]
  iintro ⟨HΦ, HO, ⟨%d0, H0⟩, ⟨%d1, H1⟩, ⟨%d2, H2⟩, ⟨%d3, H3⟩⟩
  iapply (wp_use (R := iprop((dat0 A c).Φ t.succ ∗ (dat0 A c).owesAt () t.castSucc)) (run0 (c := c) (cfg0.grid.coords t) (blk0 A c 0 t) (blk0 A c 1 t) (blk0 A c 2 t) ((dat0 A c).before 3 t d3)) (fun _ => ?_)) $$ [HΦ HO H0 H1 H2 H3]
  swap
  · isplitl [HΦ HO]; · isplitl [HΦ] <;> iassumption
    unfold four
    isplitl [H0]; · iexact H0
    isplitl [H1]; · iexact H1
    isplitl [H2] <;> iassumption
  unfold four
  iintro ⟨⟨HΦ, HO⟩, ⟨H0, H1, H2, H3⟩⟩
  isplitl [HΦ]; · iexact HΦ
  isplitl [HO]; · iexact HO
  isplitl [H0]; · iexact H0
  isplitl [H1]; · iexact H1
  isplitl [H2]; · iexact H2
  rw [show (dat0 A c).after 3 t = out0 (blk0 A c 0 t) (blk0 A c 1 t) (blk0 A c 2 t) ((dat0 A c).before 3 t d3) from out0_congr _ _ _ _ _]
  iexact H3

end Dat0
/-! ## region 1: the dequantised weight up -/

/-- What the body of region 1 leaves of its output block, over contents `X`: four bands of rows, one per scale group. -/
def out1 (W : Vec F S256x2048 .i8) (S : Vec F S4x1x2048 .f32) (Z : Vec F S4x1x2048 .i8) (X : Vec F S512x2048 .bf16) : Vec F S512x2048 .bf16 :=
  ovl (ovl (ovl (ovl X
    ![0, 0] S128x2048.size inb_S512x2048_S128x2048_0_0
      (k1_pay3 (rd W (Rect.unit (s := S256x2048) ![0, 0] S64x2048.size inb_S256x2048_S64x2048_0_0).toLoadRect) (rd Z (Rect.unit (s := S4x1x2048) ![0, 0, 0] S1x1x2048.size inb_S4x1x2048_S1x1x2048_0_0_0).toLoadRect) (rd S (Rect.unit (s := S4x1x2048) ![0, 0, 0] S1x1x2048.size inb_S4x1x2048_S1x1x2048_0_0_0).toLoadRect)))
    ![128, 0] S128x2048.size inb_S512x2048_S128x2048_128_0
      (k1_pay8 (k1_pay5 (rd W (Rect.unit (s := S256x2048) ![64, 0] S64x2048.size inb_S256x2048_S64x2048_64_0).toLoadRect)) (k1_pay6 (rd W (Rect.unit (s := S256x2048) ![64, 0] S64x2048.size inb_S256x2048_S64x2048_64_0).toLoadRect)) k1_pay7 (rd Z (Rect.unit (s := S4x1x2048) ![1, 0, 0] S1x1x2048.size inb_S4x1x2048_S1x1x2048_1_0_0).toLoadRect) (rd S (Rect.unit (s := S4x1x2048) ![1, 0, 0] S1x1x2048.size inb_S4x1x2048_S1x1x2048_1_0_0).toLoadRect)))
    ![256, 0] S128x2048.size inb_S512x2048_S128x2048_256_0
      (k1_pay1 (k1_pay9 (rd W (Rect.unit (s := S256x2048) ![128, 0] S64x2048.size inb_S256x2048_S64x2048_128_0).toLoadRect)) (k1_pay10 (rd Z (Rect.unit (s := S4x1x2048) ![2, 0, 0] S1x1x2048.size inb_S4x1x2048_S1x1x2048_2_0_0).toLoadRect)) (rd S (Rect.unit (s := S4x1x2048) ![2, 0, 0] S1x1x2048.size inb_S4x1x2048_S1x1x2048_2_0_0).toLoadRect)))
    ![384, 0] S128x2048.size inb_S512x2048_S128x2048_384_0
      (k1_pay2 (rd W (Rect.unit (s := S256x2048) ![192, 0] S64x2048.size inb_S256x2048_S64x2048_192_0).toLoadRect) (rd Z (Rect.unit (s := S4x1x2048) ![3, 0, 0] S1x1x2048.size inb_S4x1x2048_S1x1x2048_3_0_0).toLoadRect) (rd S (Rect.unit (s := S4x1x2048) ![3, 0, 0] S1x1x2048.size inb_S4x1x2048_S1x1x2048_3_0_0).toLoadRect))

/-- The four bands fill the block: nothing of what was there before is left. -/
theorem out1_congr (W : Vec F S256x2048 .i8) (S : Vec F S4x1x2048 .f32) (Z : Vec F S4x1x2048 .i8) (X X' : Vec F S512x2048 .bf16) : out1 W S Z X = out1 W S Z X' := by
  unfold out1
  refine ovl4_congr _ _ _ _ _ _ _ _ _ _ _ _ _ _ _ _ _ _ fun y => ?_
  have h0 : (y 0).val < 512 := (y 0).isLt
  have h1 : (y 1).val < 2048 := (y 1).isLt
  rcases (by omega : (y 0).val < 128 ∨ (128 ≤ (y 0).val ∧ (y 0).val < 256) ∨ (256 ≤ (y 0).val ∧ (y 0).val < 384) ∨ 384 ≤ (y 0).val) with h | h | h | h
  · exact .inl (Fin.forall_fin_two.mpr ⟨⟨Nat.zero_le _, by simpa using h⟩, ⟨Nat.zero_le _, by simpa using h1⟩⟩)
  · exact .inr (.inl (Fin.forall_fin_two.mpr ⟨⟨h.1, by simpa using h.2⟩, ⟨Nat.zero_le _, by simpa using h1⟩⟩))
  · exact .inr (.inr (.inl (Fin.forall_fin_two.mpr ⟨⟨h.1, by simpa using h.2⟩, ⟨Nat.zero_le _, by simpa using h1⟩⟩)))
  · exact .inr (.inr (.inr (Fin.forall_fin_two.mpr ⟨⟨h, by simpa using h0⟩, ⟨Nat.zero_le _, by simpa using h1⟩⟩)))

section Run1
variable {m2 : Memref sig .tc .vmem S256x2048 .i8} {h2 : m2.IsWhole} {m3 : Memref sig .tc .vmem S4x1x2048 .f32} {h3 : m3.IsWhole} {m4 : Memref sig .tc .vmem S4x1x2048 .i8} {h4 : m4.IsWhole} {m5 : Memref sig .tc .vmem S512x2048 .bf16} {h5 : m5.IsWhole}
variable (i : grid1.Coords) (W : Vec F S256x2048 .i8) (S : Vec F S4x1x2048 .f32) (Z : Vec F S4x1x2048 .i8) (X : Vec F S512x2048 .bf16)

/-- The body of region 1 on its four buffers. -/
theorem run1 : four c m2 m3 m4 m5 W S Z X ⊢ wp frame (wpE' (Ix := Ix) (Name := Name) (U := U) (Lvl := Lvl) defs 𝒱 (c : Thread nD τ) bd Γ) E
    (cc1_dq_up (F := F) i m2 h2 m3 h3 m4 h4 m5 h5) (fun _ => four c m2 m3 m4 m5 W S Z (out1 W S Z X)) := by
  rw [cc1_dq_up_eq_skeleton]
  unfold cc1_dq_up_skel
  rw [k1_part1_eq_skeleton]; unfold k1_part1_skel
  refine assoc_rule (four_ld2 ?_)
  refine assoc_rule (four_ld4 ?_)
  refine assoc_rule (four_ld3 ?_)
  refine assoc_rule (four_ld5 ?_)
  refine assoc_rule (four_st5 ?_)
  refine assoc_rule (four_ld2 ?_)
  refine ret_rule ?_
  dsimp -zeta only
  rw [k1_part2_eq_skeleton]; unfold k1_part2_skel
  refine assoc_rule (four_ld4 ?_)
  refine assoc_rule (four_ld3 ?_)
  refine assoc_rule (four_ld5 ?_)
  refine assoc_rule (four_st5 ?_)
  refine assoc_rule (four_ld2 ?_)
  refine assoc_rule (four_ld4 ?_)
  refine ret_rule ?_
  dsimp -zeta only
  refine four_ld3 ?_
  refine four_ld5 ?_
  refine four_st5 ?_
  refine four_ld2 ?_
  refine four_ld4 ?_
  refine four_ld3 ?_
  refine four_ld5 ?_
  refine four_st5 ?_
  exact done_rule

end Run1

section Dat1
variable (A : (c : Dev nD) → (w : Fin cfg1.W) → Buf (Elt F) ((cfg1.win w).arr.view.loc (c.tc : Thread nD τ)))

/-- The block window `w` reads at point `t`. -/
def blk1 (c : Dev nD) (w : Fin cfg1.W) (t : Fin cfg1.N) : (cfg1.win w).block.Idx → Elt F (cfg1.win w).elt :=
  (cfg1.win w).fill (cfg1.grid.coords t) (fun _ => arb F _) (((cfg1.win w).blk t).view.read (Elt F) (A c w))

/-- region 1's proof data: the inputs stay, the output block is `out1` of them. -/
def dat1 (c : Dev nD) : Dat τ (Elt F) Unit ℕ UU ℕ cfg1 c where
  A := A c
  after w t := match w with
    | ⟨0, _⟩ => blk1 A c 0 t
    | ⟨1, _⟩ => blk1 A c 1 t
    | ⟨2, _⟩ => blk1 A c 2 t
    | ⟨3, _⟩ => out1 (blk1 A c 0 t) (blk1 A c 1 t) (blk1 A c 2 t) (fun _ => arb F _)
    | ⟨_ + 4, h⟩ => absurd h (Nat.not_lt.2 (Nat.le_add_left _ _))
  Φ _ := Pipeline.scopedRest (Ix := Unit) (Name := ℕ) (U := UU) (Lvl := ℕ) (Val := Elt F) spec1 c
  q _ := fullShare
  owed _ := 0

theorem before1_0 (c : Dev nD) (t : Fin cfg1.N) (d) : (dat1 A c).before 0 t d = blk1 A c 0 t :=
  ((dat1 A c).before_fetched 0 t (fetch1_0 t) d).trans ((dat1 A c).fetched_of_clip_none 0 t (fun _ => rfl) d (fun _ => arb F _))
theorem before1_1 (c : Dev nD) (t : Fin cfg1.N) (d) : (dat1 A c).before 1 t d = blk1 A c 1 t :=
  ((dat1 A c).before_fetched 1 t (fetch1_1 t) d).trans ((dat1 A c).fetched_of_clip_none 1 t (fun _ => rfl) d (fun _ => arb F _))
theorem before1_2 (c : Dev nD) (t : Fin cfg1.N) (d) : (dat1 A c).before 2 t d = blk1 A c 2 t :=
  ((dat1 A c).before_fetched 2 t (fetch1_2 t) d).trans ((dat1 A c).fetched_of_clip_none 2 t (fun _ => rfl) d (fun _ => arb F _))

theorem body1 (c : Dev nD) : Pipeline.BodyObligation (dat1 A c) (defs₀ (F := F)) Variants.none () Set.univ := fun t => by
  rw [bigSep_W1, bigSep_W1]
  rw [show (dat1 A c).Φ t.castSucc = (dat1 A c).Φ t.succ from rfl]
  show _ ⊢ wp frame _ _ (bodyAt1 t) _
  simp only [before1_0, before1_1, before1_2]
  iintro ⟨HΦ, HO, ⟨%d0, H0⟩, ⟨%d1, H1⟩, ⟨%d2, H2⟩, ⟨%d3, H3⟩⟩
  iapply (wp_use (R := iprop((dat1 A c).Φ t.succ ∗ (dat1 A c).owesAt () t.castSucc)) (run1 (c := c) (cfg1.grid.coords t) (blk1 A c 0 t) (blk1 A c 1 t) (blk1 A c 2 t) ((dat1 A c).before 3 t d3)) (fun _ => ?_)) $$ [HΦ HO H0 H1 H2 H3]
  swap
  · isplitl [HΦ HO]; · isplitl [HΦ] <;> iassumption
    unfold four
    isplitl [H0]; · iexact H0
    isplitl [H1]; · iexact H1
    isplitl [H2] <;> iassumption
  unfold four
  iintro ⟨⟨HΦ, HO⟩, ⟨H0, H1, H2, H3⟩⟩
  isplitl [HΦ]; · iexact HΦ
  isplitl [HO]; · iexact HO
  isplitl [H0]; · iexact H0
  isplitl [H1]; · iexact H1
  isplitl [H2]; · iexact H2
  rw [show (dat1 A c).after 3 t = out1 (blk1 A c 0 t) (blk1 A c 1 t) (blk1 A c 2 t) ((dat1 A c).before 3 t d3) from out1_congr _ _ _ _ _]
  iexact H3

end Dat1
/-! ## region 2: the dequantised weight down -/

/-- What the body of region 2 leaves of its output block, over contents `X`: four bands of rows, one per scale group. -/
def out2 (W : Vec F S256x1024 .i8) (S : Vec F S4x1x1024 .f32) (Z : Vec F S4x1x1024 .i8) (X : Vec F S512x1024 .bf16) : Vec F S512x1024 .bf16 :=
  ovl (ovl (ovl (ovl X
    ![0, 0] S128x1024.size inb_S512x1024_S128x1024_0_0
      (k2_pay3 (rd W (Rect.unit (s := S256x1024) ![0, 0] S64x1024.size inb_S256x1024_S64x1024_0_0).toLoadRect) (rd Z (Rect.unit (s := S4x1x1024) ![0, 0, 0] S1x1x1024.size inb_S4x1x1024_S1x1x1024_0_0_0).toLoadRect) (rd S (Rect.unit (s := S4x1x1024) ![0, 0, 0] S1x1x1024.size inb_S4x1x1024_S1x1x1024_0_0_0).toLoadRect)))
    ![128, 0] S128x1024.size inb_S512x1024_S128x1024_128_0
      (k2_pay8 (k2_pay5 (rd W (Rect.unit (s := S256x1024) ![64, 0] S64x1024.size inb_S256x1024_S64x1024_64_0).toLoadRect)) (k2_pay6 (rd W (Rect.unit (s := S256x1024) ![64, 0] S64x1024.size inb_S256x1024_S64x1024_64_0).toLoadRect)) k2_pay7 (rd Z (Rect.unit (s := S4x1x1024) ![1, 0, 0] S1x1x1024.size inb_S4x1x1024_S1x1x1024_1_0_0).toLoadRect) (rd S (Rect.unit (s := S4x1x1024) ![1, 0, 0] S1x1x1024.size inb_S4x1x1024_S1x1x1024_1_0_0).toLoadRect)))
    ![256, 0] S128x1024.size inb_S512x1024_S128x1024_256_0
      (k2_pay1 (k2_pay9 (rd W (Rect.unit (s := S256x1024) ![128, 0] S64x1024.size inb_S256x1024_S64x1024_128_0).toLoadRect)) (k2_pay10 (rd Z (Rect.unit (s := S4x1x1024) ![2, 0, 0] S1x1x1024.size inb_S4x1x1024_S1x1x1024_2_0_0).toLoadRect)) (rd S (Rect.unit (s := S4x1x1024) ![2, 0, 0] S1x1x1024.size inb_S4x1x1024_S1x1x1024_2_0_0).toLoadRect)))
    ![384, 0] S128x1024.size inb_S512x1024_S128x1024_384_0
      (k2_pay2 (rd W (Rect.unit (s := S256x1024) ![192, 0] S64x1024.size inb_S256x1024_S64x1024_192_0).toLoadRect) (rd Z (Rect.unit (s := S4x1x1024) ![3, 0, 0] S1x1x1024.size inb_S4x1x1024_S1x1x1024_3_0_0).toLoadRect) (rd S (Rect.unit (s := S4x1x1024) ![3, 0, 0] S1x1x1024.size inb_S4x1x1024_S1x1x1024_3_0_0).toLoadRect))

/-- The four bands fill the block: nothing of what was there before is left. -/
theorem out2_congr (W : Vec F S256x1024 .i8) (S : Vec F S4x1x1024 .f32) (Z : Vec F S4x1x1024 .i8) (X X' : Vec F S512x1024 .bf16) : out2 W S Z X = out2 W S Z X' := by
  unfold out2
  refine ovl4_congr _ _ _ _ _ _ _ _ _ _ _ _ _ _ _ _ _ _ fun y => ?_
  have h0 : (y 0).val < 512 := (y 0).isLt
  have h1 : (y 1).val < 1024 := (y 1).isLt
  rcases (by omega : (y 0).val < 128 ∨ (128 ≤ (y 0).val ∧ (y 0).val < 256) ∨ (256 ≤ (y 0).val ∧ (y 0).val < 384) ∨ 384 ≤ (y 0).val) with h | h | h | h
  · exact .inl (Fin.forall_fin_two.mpr ⟨⟨Nat.zero_le _, by simpa using h⟩, ⟨Nat.zero_le _, by simpa using h1⟩⟩)
  · exact .inr (.inl (Fin.forall_fin_two.mpr ⟨⟨h.1, by simpa using h.2⟩, ⟨Nat.zero_le _, by simpa using h1⟩⟩))
  · exact .inr (.inr (.inl (Fin.forall_fin_two.mpr ⟨⟨h.1, by simpa using h.2⟩, ⟨Nat.zero_le _, by simpa using h1⟩⟩)))
  · exact .inr (.inr (.inr (Fin.forall_fin_two.mpr ⟨⟨h, by simpa using h0⟩, ⟨Nat.zero_le _, by simpa using h1⟩⟩)))

section Run2
variable {m2 : Memref sig .tc .vmem S256x1024 .i8} {h2 : m2.IsWhole} {m3 : Memref sig .tc .vmem S4x1x1024 .f32} {h3 : m3.IsWhole} {m4 : Memref sig .tc .vmem S4x1x1024 .i8} {h4 : m4.IsWhole} {m5 : Memref sig .tc .vmem S512x1024 .bf16} {h5 : m5.IsWhole}
variable (i : grid2.Coords) (W : Vec F S256x1024 .i8) (S : Vec F S4x1x1024 .f32) (Z : Vec F S4x1x1024 .i8) (X : Vec F S512x1024 .bf16)

/-- The body of region 2 on its four buffers. -/
theorem run2 : four c m2 m3 m4 m5 W S Z X ⊢ wp frame (wpE' (Ix := Ix) (Name := Name) (U := U) (Lvl := Lvl) defs 𝒱 (c : Thread nD τ) bd Γ) E
    (cc2_dq_down (F := F) i m2 h2 m3 h3 m4 h4 m5 h5) (fun _ => four c m2 m3 m4 m5 W S Z (out2 W S Z X)) := by
  rw [cc2_dq_down_eq_skeleton]
  unfold cc2_dq_down_skel
  rw [k2_part1_eq_skeleton]; unfold k2_part1_skel
  refine assoc_rule (four_ld2 ?_)
  refine assoc_rule (four_ld4 ?_)
  refine assoc_rule (four_ld3 ?_)
  refine assoc_rule (four_ld5 ?_)
  refine assoc_rule (four_st5 ?_)
  refine assoc_rule (four_ld2 ?_)
  refine ret_rule ?_
  dsimp -zeta only
  rw [k2_part2_eq_skeleton]; unfold k2_part2_skel
  refine assoc_rule (four_ld4 ?_)
  refine assoc_rule (four_ld3 ?_)
  refine assoc_rule (four_ld5 ?_)
  refine assoc_rule (four_st5 ?_)
  refine assoc_rule (four_ld2 ?_)
  refine assoc_rule (four_ld4 ?_)
  refine ret_rule ?_
  dsimp -zeta only
  refine four_ld3 ?_
  refine four_ld5 ?_
  refine four_st5 ?_
  refine four_ld2 ?_
  refine four_ld4 ?_
  refine four_ld3 ?_
  refine four_ld5 ?_
  refine four_st5 ?_
  exact done_rule

end Run2

section Dat2
variable (A : (c : Dev nD) → (w : Fin cfg2.W) → Buf (Elt F) ((cfg2.win w).arr.view.loc (c.tc : Thread nD τ)))

/-- The block window `w` reads at point `t`. -/
def blk2 (c : Dev nD) (w : Fin cfg2.W) (t : Fin cfg2.N) : (cfg2.win w).block.Idx → Elt F (cfg2.win w).elt :=
  (cfg2.win w).fill (cfg2.grid.coords t) (fun _ => arb F _) (((cfg2.win w).blk t).view.read (Elt F) (A c w))

/-- region 2's proof data: the inputs stay, the output block is `out2` of them. -/
def dat2 (c : Dev nD) : Dat τ (Elt F) Unit ℕ UU ℕ cfg2 c where
  A := A c
  after w t := match w with
    | ⟨0, _⟩ => blk2 A c 0 t
    | ⟨1, _⟩ => blk2 A c 1 t
    | ⟨2, _⟩ => blk2 A c 2 t
    | ⟨3, _⟩ => out2 (blk2 A c 0 t) (blk2 A c 1 t) (blk2 A c 2 t) (fun _ => arb F _)
    | ⟨_ + 4, h⟩ => absurd h (Nat.not_lt.2 (Nat.le_add_left _ _))
  Φ _ := Pipeline.scopedRest (Ix := Unit) (Name := ℕ) (U := UU) (Lvl := ℕ) (Val := Elt F) spec2 c
  q _ := fullShare
  owed _ := 0

theorem before2_0 (c : Dev nD) (t : Fin cfg2.N) (d) : (dat2 A c).before 0 t d = blk2 A c 0 t :=
  ((dat2 A c).before_fetched 0 t (fetch2_0 t) d).trans ((dat2 A c).fetched_of_clip_none 0 t (fun _ => rfl) d (fun _ => arb F _))
theorem before2_1 (c : Dev nD) (t : Fin cfg2.N) (d) : (dat2 A c).before 1 t d = blk2 A c 1 t :=
  ((dat2 A c).before_fetched 1 t (fetch2_1 t) d).trans ((dat2 A c).fetched_of_clip_none 1 t (fun _ => rfl) d (fun _ => arb F _))
theorem before2_2 (c : Dev nD) (t : Fin cfg2.N) (d) : (dat2 A c).before 2 t d = blk2 A c 2 t :=
  ((dat2 A c).before_fetched 2 t (fetch2_2 t) d).trans ((dat2 A c).fetched_of_clip_none 2 t (fun _ => rfl) d (fun _ => arb F _))

theorem body2 (c : Dev nD) : Pipeline.BodyObligation (dat2 A c) (defs₀ (F := F)) Variants.none () Set.univ := fun t => by
  rw [bigSep_W2, bigSep_W2]
  rw [show (dat2 A c).Φ t.castSucc = (dat2 A c).Φ t.succ from rfl]
  show _ ⊢ wp frame _ _ (bodyAt2 t) _
  simp only [before2_0, before2_1, before2_2]
  iintro ⟨HΦ, HO, ⟨%d0, H0⟩, ⟨%d1, H1⟩, ⟨%d2, H2⟩, ⟨%d3, H3⟩⟩
  iapply (wp_use (R := iprop((dat2 A c).Φ t.succ ∗ (dat2 A c).owesAt () t.castSucc)) (run2 (c := c) (cfg2.grid.coords t) (blk2 A c 0 t) (blk2 A c 1 t) (blk2 A c 2 t) ((dat2 A c).before 3 t d3)) (fun _ => ?_)) $$ [HΦ HO H0 H1 H2 H3]
  swap
  · isplitl [HΦ HO]; · isplitl [HΦ] <;> iassumption
    unfold four
    isplitl [H0]; · iexact H0
    isplitl [H1]; · iexact H1
    isplitl [H2] <;> iassumption
  unfold four
  iintro ⟨⟨HΦ, HO⟩, ⟨H0, H1, H2, H3⟩⟩
  isplitl [HΦ]; · iexact HΦ
  isplitl [HO]; · iexact HO
  isplitl [H0]; · iexact H0
  isplitl [H1]; · iexact H1
  isplitl [H2]; · iexact H2
  rw [show (dat2 A c).after 3 t = out2 (blk2 A c 0 t) (blk2 A c 1 t) (blk2 A c 2 t) ((dat2 A c).before 3 t d3) from out2_congr _ _ _ _ _]
  iexact H3

end Dat2

end Cert.Kernel.Hand
-- ==== Proof.KReg3.lean ====
/- The main region: its windows and scratch buffers as the state the body runs on, its proof data as a relation with an
   invariant on the scratch buffers, and its body obligation from a statement about the state alone. -/
module

public import proofs.«01_k».proof.Proof.KDq

@[expose] public section

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)
open Cert.Hand Cert.Kernel.Gen

variable {F : FTy → Type} [FloatOps F]

variable (F) in
/-- The contents of the scratch buffers. -/
structure Sc where
  a19 : Vec F S384x1024 .bf16
  a20 : Vec F S384x128 .f32
  a21 : Vec F S384x4096 .f32
  a22 : Vec F S384x4096 .f32
  a23 : Vec F S384x4096 .bf16
  a24 : Vec F S384x4096 .bf16
  a25 : Vec F S384x4096 .bf16
  a26 : Vec F S384x128 .f32
  a27 : Vec F S384x128 .f32
  a28 : Vec F S384x128 .f32
  a29 : Vec F S384x128 .f32
  a30 : Vec F S5x384x128 .f32
  a31 : Vec F S4x8x1024 .f32

/-- The scratch part of a state. -/
def St.sc (S : St F) : Sc F := ⟨S.a19, S.a20, S.a21, S.a22, S.a23, S.a24, S.a25, S.a26, S.a27, S.a28, S.a29, S.a30, S.a31⟩

/-- Contents of every window's staging buffer. -/
abbrev Win (F : FTy → Type) : Type := (w : Fin cfg3.W) → (cfg3.win w).block.Idx → Elt F (cfg3.win w).elt

/-- A state from the windows' contents and the scratch. -/
def stOf (Y : Win F) (K : Sc F) : St F :=
  { a2 := Y 0, a3 := Y 1, a4 := Y 2, a5 := Y 3, a6 := Y 4, a7 := Y 5, a8 := Y 6, a9 := Y 7, a10 := Y 8, a11 := Y 9, a12 := Y 10, a13 := Y 11, a14 := Y 12, a15 := Y 13, a16 := Y 14, a17 := Y 15, a18 := Y 16,
    a19 := K.a19, a20 := K.a20, a21 := K.a21, a22 := K.a22, a23 := K.a23, a24 := K.a24, a25 := K.a25, a26 := K.a26, a27 := K.a27, a28 := K.a28, a29 := K.a29, a30 := K.a30, a31 := K.a31 }

/-- The windows' part of a state. -/
def winOf (S : St F) : Win F := fun w => match w with
  | ⟨0, _⟩ => S.a2
  | ⟨1, _⟩ => S.a3
  | ⟨2, _⟩ => S.a4
  | ⟨3, _⟩ => S.a5
  | ⟨4, _⟩ => S.a6
  | ⟨5, _⟩ => S.a7
  | ⟨6, _⟩ => S.a8
  | ⟨7, _⟩ => S.a9
  | ⟨8, _⟩ => S.a10
  | ⟨9, _⟩ => S.a11
  | ⟨10, _⟩ => S.a12
  | ⟨11, _⟩ => S.a13
  | ⟨12, _⟩ => S.a14
  | ⟨13, _⟩ => S.a15
  | ⟨14, _⟩ => S.a16
  | ⟨15, _⟩ => S.a17
  | ⟨16, _⟩ => S.a18
  | ⟨_ + 17, h⟩ => absurd h (Nat.not_lt.2 (Nat.le_add_left _ _))

/-- The buffers the body is called on at point `t`. -/
def Mt (t : Fin cfg3.N) : Mr :=
  { m2 := win3_0.stage (cfg3.slots t 0), h2 := hstage3_0 ((cfg3.slots t 0).cast nbuf3_0),
    m3 := win3_1.stage (cfg3.slots t 1), h3 := hstage3_1 ((cfg3.slots t 1).cast nbuf3_1),
    m4 := win3_2.stage (cfg3.slots t 2), h4 := hstage3_2 ((cfg3.slots t 2).cast nbuf3_2),
    m5 := win3_3.stage (cfg3.slots t 3), h5 := hstage3_3 ((cfg3.slots t 3).cast nbuf3_3),
    m6 := win3_4.stage (cfg3.slots t 4), h6 := hstage3_4 ((cfg3.slots t 4).cast nbuf3_4),
    m7 := win3_5.stage (cfg3.slots t 5), h7 := hstage3_5 ((cfg3.slots t 5).cast nbuf3_5),
    m8 := win3_6.stage (cfg3.slots t 6), h8 := hstage3_6 ((cfg3.slots t 6).cast nbuf3_6),
    m9 := win3_7.stage (cfg3.slots t 7), h9 := hstage3_7 ((cfg3.slots t 7).cast nbuf3_7),
    m10 := win3_8.stage (cfg3.slots t 8), h10 := hstage3_8 ((cfg3.slots t 8).cast nbuf3_8),
    m11 := win3_9.stage (cfg3.slots t 9), h11 := hstage3_9 ((cfg3.slots t 9).cast nbuf3_9),
    m12 := win3_10.stage (cfg3.slots t 10), h12 := hstage3_10 ((cfg3.slots t 10).cast nbuf3_10),
    m13 := win3_11.stage (cfg3.slots t 11), h13 := hstage3_11 ((cfg3.slots t 11).cast nbuf3_11),
    m14 := win3_12.stage (cfg3.slots t 12), h14 := hstage3_12 ((cfg3.slots t 12).cast nbuf3_12),
    m15 := win3_13.stage (cfg3.slots t 13), h15 := hstage3_13 ((cfg3.slots t 13).cast nbuf3_13),
    m16 := win3_14.stage (cfg3.slots t 14), h16 := hstage3_14 ((cfg3.slots t 14).cast nbuf3_14),
    m17 := win3_15.stage (cfg3.slots t 15), h17 := hstage3_15 ((cfg3.slots t 15).cast nbuf3_15),
    m18 := win3_16.stage (cfg3.slots t 16), h18 := hstage3_16 ((cfg3.slots t 16).cast nbuf3_16),
    m19 := Memref.whole cc3_scratch0, h19 := Memref.isWhole_whole _,
    m20 := Memref.whole cc3_scratch1, h20 := Memref.isWhole_whole _,
    m21 := Memref.whole cc3_scratch2, h21 := Memref.isWhole_whole _,
    m22 := Memref.whole cc3_scratch3, h22 := Memref.isWhole_whole _,
    m23 := Memref.whole cc3_scratch4, h23 := Memref.isWhole_whole _,
    m24 := Memref.whole cc3_scratch5, h24 := Memref.isWhole_whole _,
    m25 := Memref.whole cc3_scratch6, h25 := Memref.isWhole_whole _,
    m26 := Memref.whole cc3_scratch7, h26 := Memref.isWhole_whole _,
    m27 := Memref.whole cc3_scratch8, h27 := Memref.isWhole_whole _,
    m28 := Memref.whole cc3_scratch9, h28 := Memref.isWhole_whole _,
    m29 := Memref.whole cc3_scratch10, h29 := Memref.isWhole_whole _,
    m30 := Memref.whole cc3_scratch11, h30 := Memref.isWhole_whole _,
    m31 := Memref.whole cc3_scratch12, h31 := Memref.isWhole_whole _ }

section Held

variable {Ix : Type} [DecidableEq Ix] {Name : Type} [DecidableEq Name] {U : Type} [URA U] {Lvl : Type}

/-- The scratch buffers held at `K`. -/
def sch (c : Dev nD) (K : Sc F) : sProp (MT nD τ sig Ix (Elt F) Name U Lvl) :=
  iprop(owns (c : Thread nD τ) (Memref.whole cc3_scratch0) fullShare K.a19 ∗ owns (c : Thread nD τ) (Memref.whole cc3_scratch1) fullShare K.a20 ∗ owns (c : Thread nD τ) (Memref.whole cc3_scratch2) fullShare K.a21 ∗ owns (c : Thread nD τ) (Memref.whole cc3_scratch3) fullShare K.a22 ∗ owns (c : Thread nD τ) (Memref.whole cc3_scratch4) fullShare K.a23 ∗ owns (c : Thread nD τ) (Memref.whole cc3_scratch5) fullShare K.a24 ∗ owns (c : Thread nD τ) (Memref.whole cc3_scratch6) fullShare K.a25 ∗ owns (c : Thread nD τ) (Memref.whole cc3_scratch7) fullShare K.a26 ∗ owns (c : Thread nD τ) (Memref.whole cc3_scratch8) fullShare K.a27 ∗ owns (c : Thread nD τ) (Memref.whole cc3_scratch9) fullShare K.a28 ∗ owns (c : Thread nD τ) (Memref.whole cc3_scratch10) fullShare K.a29 ∗ owns (c : Thread nD τ) (Memref.whole cc3_scratch11) fullShare K.a30 ∗ owns (c : Thread nD τ) (Memref.whole cc3_scratch12) fullShare K.a31)

/-- The windows held at `Y`. -/
def wch (c : Dev nD) (t : Fin cfg3.N) (Y : Win F) : sProp (MT nD τ sig Ix (Elt F) Name U Lvl) :=
  bigSep Finset.univ fun w : Fin cfg3.W => owns (c : Thread nD τ) ((cfg3.win w).stage (cfg3.slots t w)) fullShare (Y w)

theorem own_intro (c : Dev nD) (t : Fin cfg3.N) (Y : Win F) (K : Sc F) :
    iprop(wch c t Y ∗ sch c K) ⊢ (own c (Mt t) (stOf Y K) : sProp (MT nD τ sig Ix (Elt F) Name U Lvl)) := by
  unfold wch sch own own0 own1 own2 own3 own4
  rw [bigSep_W3]
  iintro ⟨⟨H2, H3, H4, H5, H6, H7, H8, H9, H10, H11, H12, H13, H14, H15, H16, H17, H18⟩, ⟨H19, H20, H21, H22, H23, H24, H25, H26, H27, H28, H29, H30, H31⟩⟩
  isplitl [H2 H3 H4 H5 H6 H7]
  · isplitl [H2]; · iexact H2
    isplitl [H3]; · iexact H3
    isplitl [H4]; · iexact H4
    isplitl [H5]; · iexact H5
    isplitl [H6]; · iexact H6
    iexact H7
  isplitl [H8 H9 H10 H11 H12 H13]
  · isplitl [H8]; · iexact H8
    isplitl [H9]; · iexact H9
    isplitl [H10]; · iexact H10
    isplitl [H11]; · iexact H11
    isplitl [H12]; · iexact H12
    iexact H13
  isplitl [H14 H15 H16 H17 H18 H19]
  · isplitl [H14]; · iexact H14
    isplitl [H15]; · iexact H15
    isplitl [H16]; · iexact H16
    isplitl [H17]; · iexact H17
    isplitl [H18]; · iexact H18
    iexact H19
  isplitl [H20 H21 H22 H23 H24 H25]
  · isplitl [H20]; · iexact H20
    isplitl [H21]; · iexact H21
    isplitl [H22]; · iexact H22
    isplitl [H23]; · iexact H23
    isplitl [H24]; · iexact H24
    iexact H25
  isplitl [H26]; · iexact H26
  isplitl [H27]; · iexact H27
  isplitl [H28]; · iexact H28
  isplitl [H29]; · iexact H29
  isplitl [H30]; · iexact H30
  iexact H31

theorem own_elim (c : Dev nD) (t : Fin cfg3.N) (S : St F) :
    (own c (Mt t) S : sProp (MT nD τ sig Ix (Elt F) Name U Lvl)) ⊢ iprop(wch c t (winOf S) ∗ sch c S.sc) := by
  unfold wch sch own own0 own1 own2 own3 own4
  rw [bigSep_W3]
  iintro ⟨⟨H2, H3, H4, H5, H6, H7⟩, ⟨H8, H9, H10, H11, H12, H13⟩, ⟨H14, H15, H16, H17, H18, H19⟩, ⟨H20, H21, H22, H23, H24, H25⟩, ⟨H26, H27, H28, H29, H30, H31⟩⟩
  isplitl [H2 H3 H4 H5 H6 H7 H8 H9 H10 H11 H12 H13 H14 H15 H16 H17 H18]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  iexact H31

/-- The scratch buffers and the rest of what the region may use, as the launch hands them over. -/
theorem sch_of_rest (c : Dev nD) :
    (Pipeline.scopedRest (Ix := Ix) (Name := Name) (U := U) (Lvl := Lvl) (Val := Elt F) spec3 c : sProp (MT nD τ sig Ix (Elt F) Name U Lvl))
      ⊢ iprop((∃ K : Sc F, sch c K) ∗ Pipeline.scopedRestBut (Ix := Ix) (Name := Name) (U := U) (Lvl := Lvl) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12]) := by
  rw [scopedRest3_split]
  unfold sch
  simp only [owns_whole]
  iintro ⟨⟨⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩⟩, Hr⟩
  isplitr [Hr]
  · iexists ⟨f19, f20, f21, f22, f23, f24, f25, f26, f27, f28, f29, f30, f31⟩
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  iexact Hr

theorem rest_of_sch (c : Dev nD) (K : Sc F) :
    iprop(sch c K ∗ Pipeline.scopedRestBut (Ix := Ix) (Name := Name) (U := U) (Lvl := Lvl) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12])
      ⊢ (Pipeline.scopedRest (Ix := Ix) (Name := Name) (U := U) (Lvl := Lvl) (Val := Elt F) spec3 c : sProp (MT nD τ sig Ix (Elt F) Name U Lvl)) := by
  rw [scopedRest3_split]
  unfold sch
  simp only [owns_whole]
  iintro ⟨⟨H19, H20, H21, H22, H23, H24, H25, H26, H27, H28, H29, H30, H31⟩, Hr⟩
  isplitr [Hr]
  · isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact H31
  iexact Hr

end Held

section Dat3

variable (A : (c : Dev nD) → (w : Fin cfg3.W) → Buf (Elt F) ((cfg3.win w).arr.view.loc (c.tc : Thread nD τ)))
variable (aft : Dev nD → (w : Fin cfg3.W) → Fin cfg3.N → (Y X : (cfg3.win w).block.Idx → Elt F (cfg3.win w).elt) → Prop)
variable (Inv : Dev nD → ℕ → Sc F → Prop)

/-- The invariant before point `n`: the scratch buffers at contents of which `Inv` holds, and the rest untouched. -/
def Phi3 (c : Dev nD) (n : ℕ) : sProp (MT nD τ sig Unit (Elt F) ℕ UU ℕ) :=
  iprop((∃ K : Sc F, ⌜Inv c n K⌝ ∗ sch c K) ∗ Pipeline.scopedRestBut (Ix := Unit) (Name := ℕ) (U := UU) (Lvl := ℕ) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12])

/-- The main region's proof data. -/
def rd3 (c : Dev nD) : RDat τ (Elt F) Unit ℕ UU ℕ cfg3 c where
  A := A c
  after := aft c
  Φ n := Phi3 Inv c n.val
  q _ := fullShare
  owed _ := 0

/-- The statement about the state the body obligation asks for: at every point, from windows at what they may hold and
    scratch of which the invariant holds, the body leaves each window at what the relation allows and the invariant true. -/
def Good (c : Dev nD) : Prop :=
  ∀ (t : Fin cfg3.N) (Y : Win F) (K : Sc F), (∀ w, (rd3 A aft Inv c).Finds w t (Y w)) → Inv c t.val K →
    Inv c (t.val + 1) (step (grid3.coords t) (stOf Y K)).sc ∧ ∀ w, aft c w t (Y w) (winOf (step (grid3.coords t) (stOf Y K)) w)

theorem body3 (c : Dev nD) (hg : Good A aft Inv c) : (rd3 A aft Inv c).BodyObligation (defs₀ (F := F)) Variants.none () Set.univ := fun t Y hY => by
  show iprop(Phi3 Inv c t.val ∗ (rd3 A aft Inv c).owesAt () t.castSucc ∗ wch c t Y) ⊢ wp frame _ _ (body (grid3.coords t) (Mt t))
    (fun _ => iprop(Phi3 Inv c (t.val + 1) ∗ (rd3 A aft Inv c).owesAt () t.castSucc ∗ bigSep Finset.univ fun w : Fin cfg3.W => iprop(∃ X, ⌜aft c w t (Y w) X⌝ ∗ owns (c : Thread nD τ) ((cfg3.win w).stage (cfg3.slots t w)) fullShare X)))
  unfold Phi3
  iintro ⟨⟨⟨%K, %hK, HK⟩, Hr⟩, HO, HW⟩
  obtain ⟨h1, h2⟩ := hg t Y K hY hK
  iapply (wp_use (R := iprop((Pipeline.scopedRestBut (Ix := Unit) (Name := ℕ) (U := UU) (Lvl := ℕ) (Val := Elt F) spec3 c [cc3_scratch0, cc3_scratch1, cc3_scratch2, cc3_scratch3, cc3_scratch4, cc3_scratch5, cc3_scratch6, cc3_scratch7, cc3_scratch8, cc3_scratch9, cc3_scratch10, cc3_scratch11, cc3_scratch12]) ∗ (rd3 A aft Inv c).owesAt () t.castSucc)) (body_run (c := c) (M := Mt t) (grid3.coords t) (stOf Y K)) (fun _ => ?_)) $$ [HK Hr HO HW]
  swap
  · isplitl [Hr HO]; · isplitl [Hr] <;> iassumption
    iapply own_intro
    isplitl [HW] <;> iassumption
  iintro ⟨⟨Hr, HO⟩, H⟩
  ihave H := (own_elim c t _) $$ H
  icases H with ⟨HW, HK⟩
  isplitl [HK Hr]
  · isplitl [HK]
    · iexists _
      isplitr; · ipureintro; exact h1
      iexact HK
    iexact Hr
  isplitl [HO]; · iexact HO
  have hm : (wch c t (winOf (step (grid3.coords t) (stOf Y K))) : sProp (MT nD τ sig Unit (Elt F) ℕ UU ℕ))
      ⊢ bigSep Finset.univ fun w : Fin cfg3.W => iprop(∃ X, ⌜aft c w t (Y w) X⌝ ∗ owns (c : Thread nD τ) ((cfg3.win w).stage (cfg3.slots t w)) fullShare X) :=
    bigSep_mono fun w _ => by
      show (owns (c : Thread nD τ) ((cfg3.win w).stage (cfg3.slots t w)) fullShare (winOf (step (grid3.coords t) (stOf Y K)) w) : sProp (MT nD τ sig Unit (Elt F) ℕ UU ℕ)) ⊢ iprop(∃ X, ⌜aft c w t (Y w) X⌝ ∗ owns (c : Thread nD τ) ((cfg3.win w).stage (cfg3.slots t w)) fullShare X)
      iintro H
      iexists _
      isplitr; · ipureintro; exact h2 w
      iexact H
  iapply hm
  iexact HW

end Dat3

end Cert.Kernel.Hand
-- ==== Proof.KRun.lean ====
/- The program's run: what every unscoped buffer holds between two items of @main, the four regions' records and the host
   stretches' in order, and what every final state has in the buffers. -/
module

public import proofs.«01_k».proof.Proof.Kit
public import proofs.«01_k».proof.Proof.KReg3
public import proofs.«01_k».proof.Proof.Gen.Kernel.Regions
public import Idealize.ShloMosaic.Lib.Pipeline.RegionsOwned

@[expose] public section

set_option maxRecDepth 4096

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat HostSeg)
open Cert.Hand Cert.Kernel.Gen

variable {F : FTy → Type} [FloatOps F]

section Chain

variable (m : (ℓ : Loc nD τ sig) → Buf (Elt F) ℓ)

/-- Region 0's arrays at its entry. -/
def A0 (c : Dev nD) (w : Fin cfg0.W) : Buf (Elt F) ((cfg0.win w).arr.view.loc (c : Thread nD τ)) :=
  V1 m c (Proc.devRef .tc (Pipeline.arrRef spec0 w))
/-- The buffers after region 0. -/
def W2 (c : Dev nD) : Valuation τ sig (Elt F) :=
  Function.update (V1 m c) (Proc.devRef .tc main_v2) ((dat0 (A0 m) c).arrAt 3 cfg0.N)
/-- The buffers after the host stretch that follows. -/
def W3 (c : Dev nD) : Valuation τ sig (Elt F) := StableHlo.after hostOps1 (W2 m c)

/-- Region 1's arrays at its entry. -/
def A1 (c : Dev nD) (w : Fin cfg1.W) : Buf (Elt F) ((cfg1.win w).arr.view.loc (c : Thread nD τ)) :=
  W3 m c (Proc.devRef .tc (Pipeline.arrRef spec1 w))
/-- The buffers after region 1. -/
def W4 (c : Dev nD) : Valuation τ sig (Elt F) :=
  Function.update (W3 m c) (Proc.devRef .tc main_v5) ((dat1 (A1 m) c).arrAt 3 cfg1.N)
/-- The buffers after the host stretch that follows. -/
def W5 (c : Dev nD) : Valuation τ sig (Elt F) := StableHlo.after hostOps2 (W4 m c)

/-- Region 2's arrays at its entry. -/
def A2 (c : Dev nD) (w : Fin cfg2.W) : Buf (Elt F) ((cfg2.win w).arr.view.loc (c : Thread nD τ)) :=
  W5 m c (Proc.devRef .tc (Pipeline.arrRef spec2 w))
/-- The buffers after region 2. -/
def W6 (c : Dev nD) : Valuation τ sig (Elt F) :=
  Function.update (W5 m c) (Proc.devRef .tc main_v8) ((dat2 (A2 m) c).arrAt 3 cfg2.N)
/-- The buffers after the host stretch that follows. -/
def W7 (c : Dev nD) : Valuation τ sig (Elt F) := StableHlo.after hostOps3 (W6 m c)

/-- The main region's arrays at its entry. -/
def A3 (c : Dev nD) (w : Fin cfg3.W) : Buf (Elt F) ((cfg3.win w).arr.view.loc (c : Thread nD τ)) :=
  W7 m c (Proc.devRef .tc (Pipeline.arrRef spec3 w))

variable (aft : Dev nD → (w : Fin cfg3.W) → Fin cfg3.N → (Y X : (cfg3.win w).block.Idx → Elt F (cfg3.win w).elt) → Prop)
variable (Inv : Dev nD → ℕ → Sc F → Prop)

/-- The four regions' proof data. -/
def rdats : (p : Fin 4) → (c : Dev nD) → RDat τ (Elt F) Unit ℕ UU ℕ (cfgs p) c
  | ⟨0, _⟩, c => (dat0 (A0 m) c).toR
  | ⟨1, _⟩, c => (dat1 (A1 m) c).toR
  | ⟨2, _⟩, c => (dat2 (A2 m) c).toR
  | ⟨3, _⟩, c => rd3 (A3 m) aft Inv c
  | ⟨n + 4, h⟩, _ => absurd h (by omega)

abbrev LL : GSem nD τ sig → Finset Unit := fun _ => ∅
abbrev lvl : GSem nD τ sig → Unit → ℕ := fun _ _ => 0
abbrev EPP : Emb (UR sig nD τ) (MT nD τ sig Unit (Elt F) ℕ UU ℕ) := embL

abbrev rest0 {gr W : ℕ} (win : Fin W → Pipeline.WinSpec sig gr) (c : Dev nD) : sProp (MT nD τ sig Unit (Elt F) ℕ UU ℕ) :=
  Pipeline.scopedRest (Ix := Unit) (Name := ℕ) (U := UU) (Lvl := ℕ) (Val := Elt F) win c

abbrev RS (p : Fin 4) := RDat.RegionSeg (pcfgs (F := F)) adm (rdats m aft Inv) () defs₀ Variants.none LL lvl p

theorem phi_in0 (A) (c : Dev nD) (n) : rest0 spec0 c ⊢ (dat0 (F := F) A c).Φ n := by
  dsimp only [dat0]; exact BI.Entails.refl _
theorem phi_out0 (A) (c : Dev nD) (n) : (dat0 (F := F) A c).Φ n ⊢ rest0 spec0 c := by
  dsimp only [dat0]; exact BI.Entails.refl _
set_option backward.isDefEq.respectTransparency.types false in
/-- Region 0's record. -/
def reg0 : RS m aft Inv 0 :=
  regionOf (pcfgs (F := F)) adm (rdats m aft Inv) () defs₀ Variants.none LL lvl 0 launch0.toP rfl
    (by constructor <;> exact fun k => k.elim0) (fun c => (body0 (A0 m) c).toR) (fun _ _ => rfl) (fun _ => rfl) (fun c => (dat0 (A0 m) c).toR.share_full fun _ => rfl)
    (V1 m) (fun _ _ => rfl) (fun c => phi_in0 (A0 m) c 0) (fun c => phi_out0 (A0 m) c (Fin.last cfg0.N))

theorem phi_in1 (A) (c : Dev nD) (n) : rest0 spec1 c ⊢ (dat1 (F := F) A c).Φ n := by
  dsimp only [dat1]; exact BI.Entails.refl _
theorem phi_out1 (A) (c : Dev nD) (n) : (dat1 (F := F) A c).Φ n ⊢ rest0 spec1 c := by
  dsimp only [dat1]; exact BI.Entails.refl _
set_option backward.isDefEq.respectTransparency.types false in
/-- Region 1's record. -/
def reg1 : RS m aft Inv 1 :=
  regionOf (pcfgs (F := F)) adm (rdats m aft Inv) () defs₀ Variants.none LL lvl 1 launch1.toP rfl
    (by constructor <;> exact fun k => k.elim0) (fun c => (body1 (A1 m) c).toR) (fun _ _ => rfl) (fun _ => rfl) (fun c => (dat1 (A1 m) c).toR.share_full fun _ => rfl)
    (W3 m) (fun _ _ => rfl) (fun c => phi_in1 (A1 m) c 0) (fun c => phi_out1 (A1 m) c (Fin.last cfg1.N))

theorem phi_in2 (A) (c : Dev nD) (n) : rest0 spec2 c ⊢ (dat2 (F := F) A c).Φ n := by
  dsimp only [dat2]; exact BI.Entails.refl _
theorem phi_out2 (A) (c : Dev nD) (n) : (dat2 (F := F) A c).Φ n ⊢ rest0 spec2 c := by
  dsimp only [dat2]; exact BI.Entails.refl _
set_option backward.isDefEq.respectTransparency.types false in
/-- Region 2's record. -/
def reg2 : RS m aft Inv 2 :=
  regionOf (pcfgs (F := F)) adm (rdats m aft Inv) () defs₀ Variants.none LL lvl 2 launch2.toP rfl
    (by constructor <;> exact fun k => k.elim0) (fun c => (body2 (A2 m) c).toR) (fun _ _ => rfl) (fun _ => rfl) (fun c => (dat2 (A2 m) c).toR.share_full fun _ => rfl)
    (W5 m) (fun _ _ => rfl) (fun c => phi_in2 (A2 m) c 0) (fun c => phi_out2 (A2 m) c (Fin.last cfg2.N))

theorem phi_in' (c : Dev nD) (h0 : ∀ K, Inv c 0 K) :
    (Pipeline.scopedRest (Ix := Unit) (Name := ℕ) (U := UU) (Lvl := ℕ) (Val := Elt F) spec3 c : sProp (MT nD τ sig Unit (Elt F) ℕ UU ℕ)) ⊢ Phi3 Inv c 0 := by
  unfold Phi3
  iintro H
  ihave H := (sch_of_rest c) $$ H
  icases H with ⟨⟨%K, HK⟩, Hr⟩
  isplitl [HK]
  · iexists K
    isplitr; · ipureintro; exact h0 K
    iexact HK
  iexact Hr

theorem phi_out' (c : Dev nD) (n : ℕ) :
    Phi3 Inv c n ⊢ (Pipeline.scopedRest (Ix := Unit) (Name := ℕ) (U := UU) (Lvl := ℕ) (Val := Elt F) spec3 c : sProp (MT nD τ sig Unit (Elt F) ℕ UU ℕ)) := by
  unfold Phi3
  iintro ⟨⟨%K, -, HK⟩, Hr⟩
  iapply (rest_of_sch c K)
  isplitl [HK] <;> iassumption

set_option backward.isDefEq.respectTransparency.types false in
/-- Region 3's record. -/
def reg3 (hg : ∀ c, Good (A3 m) aft Inv c) (h0 : ∀ c K, Inv c 0 K) : RS m aft Inv 3 :=
  regionOf (pcfgs (F := F)) adm (rdats m aft Inv) () defs₀ Variants.none LL lvl 3 launch3.toP rfl
    (by constructor <;> exact fun k => k.elim0) (fun c => body3 (A3 m) aft Inv c (hg c)) (fun _ _ => rfl) (fun _ => rfl) (fun c => (rd3 (A3 m) aft Inv c).share_full fun _ => rfl)
    (W7 m) (fun _ _ => rfl) (fun c => phi_in' Inv c (h0 c)) (fun c => phi_out' Inv c _)

set_option backward.isDefEq.respectTransparency.types false in
/-- What region 0 leaves is named. -/
theorem left0 (c : Dev nD) (V : Valuation τ sig (Elt F)) (h : LeftAt (pcfgs (F := F)) adm (rdats m aft Inv) 0 (V1 m) c V) : V = W2 m c := by
  obtain ⟨h1, h2⟩ := h
  have hin (w : Fin cfg0.W) (hw : (cfg0.win w).isOut = false) : V (Proc.devRef .tc (Pipeline.arrRef spec0 w)) = V1 m c (Proc.devRef .tc (Pipeline.arrRef spec0 w)) := by
    have := h1 w
    change (dat0 (A0 m) c).toR.ArrAt w cfg0.N _ at this
    rw [RDat.ArrAt_in _ w hw] at this
    exact this
  funext d
  unfold W2
  by_cases hd : d = Proc.devRef .tc main_v2
  · subst hd
    rw [Function.update_self]
    exact (dat0 (A0 m) c).toR_arrAt 3 cfg0.N _ (h1 3)
  rw [Function.update_of_ne hd]
  by_cases hw : ∀ w, (Proc.devRef (τ := τ) .tc (Pipeline.arrRef spec0 w)) ≠ d
  · exact h2 d hw
  push Not at hw
  obtain ⟨w, rfl⟩ := hw
  match w with
  | ⟨0, _⟩ => exact hin 0 rfl
  | ⟨1, _⟩ => exact hin 1 rfl
  | ⟨2, _⟩ => exact hin 2 rfl
  | ⟨3, _⟩ => exact absurd rfl hd

set_option backward.isDefEq.respectTransparency.types false in
/-- What region 1 leaves is named. -/
theorem left1 (c : Dev nD) (V : Valuation τ sig (Elt F)) (h : LeftAt (pcfgs (F := F)) adm (rdats m aft Inv) 1 (W3 m) c V) : V = W4 m c := by
  obtain ⟨h1, h2⟩ := h
  have hin (w : Fin cfg1.W) (hw : (cfg1.win w).isOut = false) : V (Proc.devRef .tc (Pipeline.arrRef spec1 w)) = W3 m c (Proc.devRef .tc (Pipeline.arrRef spec1 w)) := by
    have := h1 w
    change (dat1 (A1 m) c).toR.ArrAt w cfg1.N _ at this
    rw [RDat.ArrAt_in _ w hw] at this
    exact this
  funext d
  unfold W4
  by_cases hd : d = Proc.devRef .tc main_v5
  · subst hd
    rw [Function.update_self]
    exact (dat1 (A1 m) c).toR_arrAt 3 cfg1.N _ (h1 3)
  rw [Function.update_of_ne hd]
  by_cases hw : ∀ w, (Proc.devRef (τ := τ) .tc (Pipeline.arrRef spec1 w)) ≠ d
  · exact h2 d hw
  push Not at hw
  obtain ⟨w, rfl⟩ := hw
  match w with
  | ⟨0, _⟩ => exact hin 0 rfl
  | ⟨1, _⟩ => exact hin 1 rfl
  | ⟨2, _⟩ => exact hin 2 rfl
  | ⟨3, _⟩ => exact absurd rfl hd

set_option backward.isDefEq.respectTransparency.types false in
/-- What region 2 leaves is named. -/
theorem left2 (c : Dev nD) (V : Valuation τ sig (Elt F)) (h : LeftAt (pcfgs (F := F)) adm (rdats m aft Inv) 2 (W5 m) c V) : V = W6 m c := by
  obtain ⟨h1, h2⟩ := h
  have hin (w : Fin cfg2.W) (hw : (cfg2.win w).isOut = false) : V (Proc.devRef .tc (Pipeline.arrRef spec2 w)) = W5 m c (Proc.devRef .tc (Pipeline.arrRef spec2 w)) := by
    have := h1 w
    change (dat2 (A2 m) c).toR.ArrAt w cfg2.N _ at this
    rw [RDat.ArrAt_in _ w hw] at this
    exact this
  funext d
  unfold W6
  by_cases hd : d = Proc.devRef .tc main_v8
  · subst hd
    rw [Function.update_self]
    exact (dat2 (A2 m) c).toR_arrAt 3 cfg2.N _ (h1 3)
  rw [Function.update_of_ne hd]
  by_cases hw : ∀ w, (Proc.devRef (τ := τ) .tc (Pipeline.arrRef spec2 w)) ≠ d
  · exact h2 d hw
  push Not at hw
  obtain ⟨w, rfl⟩ := hw
  match w with
  | ⟨0, _⟩ => exact hin 0 rfl
  | ⟨1, _⟩ => exact hin 1 rfl
  | ⟨2, _⟩ => exact hin 2 rfl
  | ⟨3, _⟩ => exact absurd rfl hd

variable (hg : ∀ c, Good (A3 m) aft Inv c) (h0 : ∀ c K, Inv c 0 K)

/-- The core owes nothing. -/
abbrev EE (c : Dev nD) : sProp (MT nD τ sig Unit (Elt F) ℕ UU ℕ) := iprop(∃ Wd, owes (c : Thread nD τ) (0 : CellTallies nD τ sig Unit) Wd)

/-- Host stretch 0. -/
def host0 : HostSeg (Ix := Unit) (Name := ℕ) (U := UU) (Lvl := ℕ) (pcfgs (F := F)) defs₀ Variants.none LL lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) EE
/-- Host stretch 1. -/
def host1 : HostSeg (Ix := Unit) (Name := ℕ) (U := UU) (Lvl := ℕ) (pcfgs (F := F)) defs₀ Variants.none LL lvl :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W2 m) EE
/-- Host stretch 2. -/
def host2 : HostSeg (Ix := Unit) (Name := ℕ) (U := UU) (Lvl := ℕ) (pcfgs (F := F)) defs₀ Variants.none LL lvl :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W4 m) EE
/-- Host stretch 3. -/
def host3 : HostSeg (Ix := Unit) (Name := ℕ) (U := UU) (Lvl := ℕ) (pcfgs (F := F)) defs₀ Variants.none LL lvl :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W6 m) EE
/-- What the main region leaves. -/
def Left3 (c : Dev nD) : Type := { V : Valuation τ sig (Elt F) // LeftAt (pcfgs (F := F)) adm (rdats m aft Inv) 3 (W7 m) c V }
/-- Host stretch 4, from whatever the main region left. -/
def host4 : HostSeg (Ix := Unit) (Name := ℕ) (U := UU) (Lvl := ℕ) (pcfgs (F := F)) defs₀ Variants.none LL lvl :=
  Pipeline.HostSeg.ofOpsEx (Γ := Left3 m aft Inv) _ _ _ _ _ (Pipeline.ucRefs τ sig) hostOps4
    (fun op h => Pipeline.sub_ucRefs op ((List.forall_iff_forall_mem.mp hostOps4_sub) op h))
    (fun op h => (List.forall_iff_forall_mem.mp hostOps4_fresh) op h) (fun _ V => V.1) EE

/-- @main's items. -/
def items (_ : Dev nD) : List (RDat.Seg (pcfgs (F := F)) adm (rdats m aft Inv) () defs₀ Variants.none LL lvl) :=
  [.host (host0 m), .region (reg0 m aft Inv), .host (host1 m), .region (reg1 m aft Inv), .host (host2 m), .region (reg2 m aft Inv), .host (host3 m),
    .region (reg3 m aft Inv hg h0), .host (host4 m aft Inv)]

/-- What the core holds at the end. -/
def TN (c : Dev nD) : sProp (MT nD τ sig Unit (Elt F) ℕ UU ℕ) :=
  iprop(∃ V : Left3 m aft Inv c, StableHlo.held (c : Thread nD τ) (Pipeline.ucRefs τ sig) (StableHlo.after hostOps4 V.1))

set_option backward.isDefEq.respectTransparency.types false in
theorem post0 (c : Dev nD) : (reg0 m aft Inv).post c ⊢ (host1 m).pre c := by
  show iprop((∃ V, ⌜LeftAt (pcfgs (F := F)) adm (rdats m aft Inv) 0 _ c V⌝ ∗ StableHlo.held (c : Thread nD τ) (Pipeline.ucRefs τ sig) V) ∗ EE c)
    ⊢ iprop(StableHlo.held (c : Thread nD τ) (Pipeline.ucRefs τ sig) (W2 m c) ∗ EE c)
  iintro ⟨⟨%V, %h, H⟩, HO⟩
  rw [← left0 m aft Inv c V h]
  isplitl [H] <;> iassumption

set_option backward.isDefEq.respectTransparency.types false in
theorem post1 (c : Dev nD) : (reg1 m aft Inv).post c ⊢ (host2 m).pre c := by
  show iprop((∃ V, ⌜LeftAt (pcfgs (F := F)) adm (rdats m aft Inv) 1 _ c V⌝ ∗ StableHlo.held (c : Thread nD τ) (Pipeline.ucRefs τ sig) V) ∗ EE c)
    ⊢ iprop(StableHlo.held (c : Thread nD τ) (Pipeline.ucRefs τ sig) (W4 m c) ∗ EE c)
  iintro ⟨⟨%V, %h, H⟩, HO⟩
  rw [← left1 m aft Inv c V h]
  isplitl [H] <;> iassumption

set_option backward.isDefEq.respectTransparency.types false in
theorem post2 (c : Dev nD) : (reg2 m aft Inv).post c ⊢ (host3 m).pre c := by
  show iprop((∃ V, ⌜LeftAt (pcfgs (F := F)) adm (rdats m aft Inv) 2 _ c V⌝ ∗ StableHlo.held (c : Thread nD τ) (Pipeline.ucRefs τ sig) V) ∗ EE c)
    ⊢ iprop(StableHlo.held (c : Thread nD τ) (Pipeline.ucRefs τ sig) (W6 m c) ∗ EE c)
  iintro ⟨⟨%V, %h, H⟩, HO⟩
  rw [← left2 m aft Inv c V h]
  isplitl [H] <;> iassumption

set_option backward.isDefEq.respectTransparency.types false in
theorem post3 (c : Dev nD) : (reg3 m aft Inv hg h0).post c ⊢ (host4 m aft Inv).pre c := by
  show iprop((∃ V, ⌜LeftAt (pcfgs (F := F)) adm (rdats m aft Inv) 3 _ c V⌝ ∗ StableHlo.held (c : Thread nD τ) (Pipeline.ucRefs τ sig) V) ∗ EE c)
    ⊢ iprop((∃ V : Left3 m aft Inv c, StableHlo.held (c : Thread nD τ) (Pipeline.ucRefs τ sig) V.1) ∗ EE c)
  iintro ⟨⟨%V, %h, H⟩, HO⟩
  isplitl [H]
  · iexists (⟨V, h⟩ : Left3 m aft Inv c)
    iexact H
  iexact HO

set_option backward.isDefEq.respectTransparency.types false in
include hg h0 in
/-- At the compiled mesh, for any float values, from any memory with zero counters: every weakly fair execution of @main
    terminates, and every final state has the unscoped buffers at what the last host stretch makes of what the main region
    leaves, every semaphore counter at zero. -/
theorem run (ρ : Dev nD → PrngReg) : θ_run defs (onTc (τ := τ) (main (F := F))) ⟨m, fun _ => 0, ρ⟩
    (fun r => (∀ c : Dev nD, ∃ V : Left3 m aft Inv c, ∀ d ∈ Pipeline.ucRefs τ sig, r.2.mem (c, d) = StableHlo.after hostOps4 V.1 d) ∧ r.2.sem = fun _ => 0) := by
  refine RDat.θ_run_regions_kit_dev_sems (pcfgs (F := F)) adm (rdats m aft Inv) () cellOf_inj EPP defs₀ Variants.none LL lvl m ρ main
    (items m aft Inv hg h0)
    (fun c Q => by
      rewrite [main_chain c, RDat.Seg.run_eq_chain,
        show (items m aft Inv hg h0 c).map RDat.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [items, RDat.Seg.pipes_host, RDat.Seg.pipes_region, RDat.Seg.pipes_nil]; decide) (O₀ := 0) (hL := fun _ _ => rfl)
    (G := fun _ => iprop(emp)) (u₀ := (initOf (Pipeline.cells cfgs cellOf_inj) (Pipeline.launchToks cfgs cellOf_inj), 1))
    (hu₀ := ?_)
    (T₀ := fun c => iprop(StableHlo.held (c : Thread nD τ) (Pipeline.ucRefs τ sig) (V0 m c) ∗ EE c)) (Tₙ := TN m aft Inv)
    (hch := fun c => ⟨.rfl, .rfl, post0 m aft Inv c, .rfl, post1 m aft Inv c, .rfl, post2 m aft Inv c, .rfl, post3 m aft Inv hg h0 c, .rfl⟩)
    (hinit := ?_) (QY := fun c s => ∃ V : Left3 m aft Inv c, ∀ d ∈ Pipeline.ucRefs τ sig, s.mem (c, d) = StableHlo.after hostOps4 V.1 d)
    (hfin := fun c s' => ?_) (hQ := fun _ h hz => ⟨h, funext fun g => hz g (.inr (regions_no_unscoped g.2))⟩)
  · iintro Hu
    ihave H := (ownU_pair _ _) $$ Hu
    icases H with ⟨HP, -⟩
    imodintro
    isplitl [HP]; · iexact HP
    iapply (show (BI.emp : sProp (MT nD τ sig Unit (Elt F) ℕ UU ℕ)) ⊢ bigSep Finset.univ (fun _ : Dev nD => (BI.emp : sProp (MT nD τ sig Unit (Elt F) ℕ UU ℕ))) from by rw [BI.bigSep_emp_const])
    iempintro
  · refine Pipeline.initEach LL lvl fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold TN StableHlo.held
    iintro ⟨⟨%V, Hh⟩, HSI⟩
    ihave Hr := (pointsTo_read_all (Pipeline.ucRefs τ sig) (fun b => ((c : Thread nD τ).1, b)) (StableHlo.after hostOps4 V.1) s') $$ [Hh HSI]
    · isplitl [Hh] <;> iassumption
    icases Hr with ⟨%h, HSI⟩
    imodintro
    isplitr
    · ipureintro
      exact ⟨V, h⟩
    iexact HSI

end Chain

end Cert.Kernel.Hand
-- ==== Proof.KFrames.lean ====
/- What the run leaves unchanged: every argument, and so the program's frame. -/
module

public import proofs.«01_k».proof.Proof.KRun
public import Idealize.ShloMosaic.Lib.Claim

@[expose] public section

set_option maxRecDepth 4096

noncomputable section

namespace Cert.Kernel.Hand

open Idealize.ShloMosaic Idealize.ShloMosaic.TcCoe
open Idealize.SL.Sem
open Idealize.ShloMosaic.Pipeline (Dat RDat HostSeg)
open Cert.Hand Cert.Kernel.Gen

variable {F : FTy → Type} [FloatOps F]
variable (m : (ℓ : Loc nD τ sig) → Buf (Elt F) ℓ)

theorem W2_of (c : Dev nD) (r : Ref sig .tc) (h : r ≠ main_v2) : W2 m c r = V1 m c r :=
  Function.update_of_ne (StableHlo.devRef_ne_of_ne h) _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v5) : W4 m c r = W3 m c r :=
  Function.update_of_ne (StableHlo.devRef_ne_of_ne h) _ _
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ≠ main_v8) : W6 m c r = W5 m c r :=
  Function.update_of_ne (StableHlo.devRef_ne_of_ne h) _ _
theorem W7_of (c : Dev nD) (r : Ref sig .tc) (h : r ∉ hostOps3_W) : W7 m c r = W6 m c r :=
  StableHlo.after_of_writes_sub hostOps3 _ hostOps3_writes h

/-- A buffer nothing before the main region writes is there as launched. -/
theorem W7_of_m (c : Dev nD) (r : Ref sig .tc) (h3 : r ∉ hostOps3_W) (h6 : r ≠ main_v8) (h2 : r ∉ hostOps2_W) (h4 : r ≠ main_v5)
    (h1 : r ∉ hostOps1_W) (h5 : r ≠ main_v2) (h0 : r ∉ hostOps0_W) : W7 m c r = m ((c : Thread nD τ).loc r) :=
  (W7_of m c r h3).trans <| (W6_of m c r h6).trans <| (W5_of m c r h2).trans <| (W4_of m c r h4).trans <| (W3_of m c r h1).trans <|
    (W2_of m c r h5).trans (V1_of m c r h0)

variable (aft : Dev nD → (w : Fin cfg3.W) → Fin cfg3.N → (Y X : (cfg3.win w).block.Idx → Elt F (cfg3.win w).elt) → Prop)
variable (Inv : Dev nD → ℕ → Sc F → Prop)

/-- A buffer that is no result of the main region is after it as before it. -/
theorem left3_of (c : Dev nD) (V : Left3 m aft Inv c) (r : Ref sig .tc) (h : ∀ w : Fin cfg3.W, (cfg3.win w).isOut = true → Pipeline.arrRef spec3 w ≠ r) :
    V.1 r = W7 m c r := by
  obtain ⟨V, h1, h2⟩ := V
  by_cases hw : ∃ w : Fin cfg3.W, Pipeline.arrRef spec3 w = r
  · obtain ⟨w, rfl⟩ := hw
    have hin : (cfg3.win w).isOut = false := by
      by_contra hh
      exact h w (by simpa using hh) rfl
    have := h1 w
    change (rd3 (A3 m) aft Inv c).ArrAt w cfg3.N _ at this
    rw [RDat.ArrAt_in _ w hin] at this
    exact this
  · exact h2 _ fun w hw' => hw ⟨w, Proc.devRef_injective _ hw'⟩

theorem last_of (c : Dev nD) (V : Left3 m aft Inv c) (r : Ref sig .tc) (h : r ∉ hostOps4_W) :
    StableHlo.after hostOps4 V.1 r = V.1 r := StableHlo.after_of_writes_sub hostOps4 _ hostOps4_writes h

theorem last_arg (c : Dev nD) (V : Left3 m aft Inv c) (r : Ref sig .tc) (h8 : r ∉ hostOps4_W)
    (h : ∀ w : Fin cfg3.W, (cfg3.win w).isOut = true → Pipeline.arrRef spec3 w ≠ r)
    (h3 : r ∉ hostOps3_W) (h6 : r ≠ main_v8) (h2 : r ∉ hostOps2_W) (h4 : r ≠ main_v5)
    (h1 : r ∉ hostOps1_W) (h5 : r ≠ main_v2) (h0 : r ∉ hostOps0_W) : StableHlo.after hostOps4 V.1 r = m ((c : Thread nD τ).loc r) :=
  (last_of m aft Inv c V r h8).trans ((left3_of m aft Inv c V r h).trans (W7_of_m m c r h3 h6 h2 h4 h1 h5 h0))

theorem last_arg0 (c : Dev nD) (V : Left3 m aft Inv c) : StableHlo.after hostOps4 V.1 main_arg0 = m ((c : Thread nD τ).loc main_arg0) :=
  last_arg m aft Inv c V main_arg0 (by decide) (by decide +kernel) (by decide) (by decide) (by decide) (by decide) (by decide) (by decide) (by decide)
theorem last_arg1 (c : Dev nD) (V : Left3 m aft Inv c) : StableHlo.after hostOps4 V.1 main_arg1 = m ((c : Thread nD τ).loc main_arg1) :=
  last_arg m aft Inv c V main_arg1 (by decide) (by decide +kernel) (by decide) (by decide) (by decide) (by decide) (by decide) (by decide) (by decide)
theorem last_arg2 (c : Dev nD) (V : Left3 m aft Inv c) : StableHlo.after hostOps4 V.1 main_arg2 = m ((c : Thread nD τ).loc main_arg2) :=
  last_arg m aft Inv c V main_arg2 (by decide) (by decide +kernel) (by decide) (by decide) (by decide) (by decide) (by decide) (by decide) (by decide)
theorem last_arg3 (c : Dev nD) (V : Left3 m aft Inv c) : StableHlo.after hostOps4 V.1 main_arg3 = m ((c : Thread nD τ).loc main_arg3) :=
  last_arg m aft Inv c V main_arg3 (by decide) (by decide +kernel) (by decide) (by decide) (by decide) (by decide) (by decide) (by decide) (by decide)
theorem last_arg4 (c : Dev nD) (V : Left3 m aft Inv c) : StableHlo.after hostOps4 V.1 main_arg4 = m ((c : Thread nD τ).loc main_arg4) :=
  last_arg m aft Inv c V main_arg4 (by decide) (by decide +kernel) (by decide) (by decide) (by decide) (by decide) (by decide) (by decide) (by decide)
theorem last_arg5 (c : Dev nD) (V : Left3 m aft Inv c) : StableHlo.after hostOps4 V.1 main_arg5 = m ((c : Thread nD τ).loc main_arg5) :=
  last_arg m aft Inv c V main_arg5 (by decide) (by decide +kernel) (by decide) (by decide) (by decide) (by decide) (by decide) (by decide) (by decide)
theorem last_arg6 (c : Dev nD) (V : Left3 m aft Inv c) : StableHlo.after hostOps4 V.1 main_arg6 = m ((c : Thread nD τ).loc main_arg6) :=
  last_arg m aft Inv c V main_arg6 (by decide) (by decide +kernel) (by decide) (by decide) (by decide) (by decide) (by decide) (by decide) (by decide)
theorem last_arg7 (c : Dev nD) (V : Left3 m aft Inv c) : StableHlo.after hostOps4 V.1 main_arg7 = m ((c : Thread nD τ).loc main_arg7) :=
  last_arg m aft Inv c V main_arg7 (by decide) (by decide +kernel) (by decide) (by decide) (by decide) (by decide) (by decide) (by decide) (by decide)
theorem last_arg8 (c : Dev nD) (V : Left3 m aft Inv c) : StableHlo.after hostOps4 V.1 main_arg8 = m ((c : Thread nD τ).loc main_arg8) :=
  last_arg m aft Inv c V main_arg8 (by decide) (by decide +kernel) (by decide) (by decide) (by decide) (by decide) (by decide) (by decide) (by decide)
theorem last_arg9 (c : Dev nD) (V : Left3 m aft Inv c) : StableHlo.after hostOps4 V.1 main_arg9 = m ((c : Thread nD τ).loc main_arg9) :=
  last_arg m aft Inv c V main_arg9 (by decide) (by decide +kernel) (by decide) (by decide) (by decide) (by decide) (by decide) (by decide) (by decide)
theorem last_arg10 (c : Dev nD) (V : Left3 m aft Inv c) : StableHlo.after hostOps4 V.1 main_arg10 = m ((c : Thread nD τ).loc main_arg10) :=
  last_arg m aft Inv c V main_arg10 (by decide) (by decide +kernel) (by decide) (by decide) (by decide) (by decide) (by decide) (by decide) (by decide)
theorem last_arg11 (c : Dev nD) (V : Left3 m aft Inv c) : StableHlo.after hostOps4 V.1 main_arg11 = m ((c : Thread nD τ).loc main_arg11) :=
  last_arg m aft Inv c V main_arg11 (by decide) (by decide +kernel) (by decide) (by decide) (by decide) (by decide) (by decide) (by decide) (by decide)
theorem last_arg12 (c : Dev nD) (V : Left3 m aft Inv c) : StableHlo.after hostOps4 V.1 main_arg12 = m ((c : Thread nD τ).loc main_arg12) :=
  last_arg m aft Inv c V main_arg12 (by decide) (by decide +kernel) (by decide) (by decide) (by decide) (by decide) (by decide) (by decide) (by decide)

/-- For any float values: every weakly fair execution of @main terminates with every argument unchanged and every semaphore
    counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  have h := run m (fun _ _ _ _ _ => True) (fun _ _ _ => True) (fun c t Y K _ _ => ⟨trivial, fun _ => trivial⟩) (fun _ _ => trivial) ρ
  refine Idealize.ShloMosaic.θ_run_mono h fun r hr => ⟨fun c => ?_, hr.2⟩
  obtain ⟨V, hV⟩ := hr.1 c
  exact ⟨(hV (Proc.devRef .tc main_arg0) (Finset.mem_filter.mpr ⟨StableHlo.devRef_mem_tcRefs main_arg0, by decide⟩)).trans (last_arg0 m _ _ c V),
        (hV (Proc.devRef .tc main_arg1) (Finset.mem_filter.mpr ⟨StableHlo.devRef_mem_tcRefs main_arg1, by decide⟩)).trans (last_arg1 m _ _ c V),
        (hV (Proc.devRef .tc main_arg2) (Finset.mem_filter.mpr ⟨StableHlo.devRef_mem_tcRefs main_arg2, by decide⟩)).trans (last_arg2 m _ _ c V),
        (hV (Proc.devRef .tc main_arg3) (Finset.mem_filter.mpr ⟨StableHlo.devRef_mem_tcRefs main_arg3, by decide⟩)).trans (last_arg3 m _ _ c V),
        (hV (Proc.devRef .tc main_arg4) (Finset.mem_filter.mpr ⟨StableHlo.devRef_mem_tcRefs main_arg4, by decide⟩)).trans (last_arg4 m _ _ c V),
        (hV (Proc.devRef .tc main_arg5) (Finset.mem_filter.mpr ⟨StableHlo.devRef_mem_tcRefs main_arg5, by decide⟩)).trans (last_arg5 m _ _ c V),
        (hV (Proc.devRef .tc main_arg6) (Finset.mem_filter.mpr ⟨StableHlo.devRef_mem_tcRefs main_arg6, by decide⟩)).trans (last_arg6 m _ _ c V),
        (hV (Proc.devRef .tc main_arg7) (Finset.mem_filter.mpr ⟨StableHlo.devRef_mem_tcRefs main_arg7, by decide⟩)).trans (last_arg7 m _ _ c V),
        (hV (Proc.devRef .tc main_arg8) (Finset.mem_filter.mpr ⟨StableHlo.devRef_mem_tcRefs main_arg8, by decide⟩)).trans (last_arg8 m _ _ c V),
        (hV (Proc.devRef .tc main_arg9) (Finset.mem_filter.mpr ⟨StableHlo.devRef_mem_tcRefs main_arg9, by decide⟩)).trans (last_arg9 m _ _ c V),
        (hV (Proc.devRef .tc main_arg10) (Finset.mem_filter.mpr ⟨StableHlo.devRef_mem_tcRefs main_arg10, by decide⟩)).trans (last_arg10 m _ _ c V),
        (hV (Proc.devRef .tc main_arg11) (Finset.mem_filter.mpr ⟨StableHlo.devRef_mem_tcRefs main_arg11, by decide⟩)).trans (last_arg11 m _ _ c V),
        (hV (Proc.devRef .tc main_arg12) (Finset.mem_filter.mpr ⟨StableHlo.devRef_mem_tcRefs main_arg12, by decide⟩)).trans (last_arg12 m _ _ c V)⟩

end Cert.Kernel.Hand
-- ==== Proof.Ref.lean ====
/- The reference's frame, off its generated run. -/
module

public import proofs.«01_k».proof.Defs
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim

@[expose] public section

namespace Cert.ReferenceIdeal.Hand

open Idealize.ShloMosaic Idealize.ShloMosaic.TcCoe

/-- The reference has no semaphore. -/
theorem no_sem : ∀ sm : SemLoc sig, False := by decide

theorem quiescent : Cert.quiescent_ReferenceIdeal (hReferenceIdeal := Cert.ReferenceIdeal.Gen.facts) := fun m g _ =>
  θ_run_mono (Cert.ReferenceIdeal.Value.run m g) fun _ h =>
    ⟨fun c => (h c).2.2.2.2.2.2.2.2.2.2, funext fun s => (no_sem s.2).elim⟩

end Cert.ReferenceIdeal.Hand
-- ==== Proof.Spec.lean ====
/- What the layer computes, entry by entry over the extended reals: the projections, the per-row scales and clipped
   quotients of the quantised operands, the four products of gate and up branch, their down projections, and the sums of
   squared differences along rows and columns. Arrays are functions of two natural numbers. -/
module

public import proofs.«01_k».proof.Proof.Mem
public import Idealize.ShloMosaic.Lib.Pointwise

@[expose] public section

set_option maxRecDepth 16384

noncomputable section

namespace Cert.Hand

open Idealize.ShloMosaic

/-- The value a maximum starts from. -/
def nI : EReal := Ideal.ofBits .f32 4286578688#32
/-- The upper clip bound, 127. -/
def hi : EReal := Ideal.ofBits .f32 1123942400#32
/-- The lower clip bound, −127. -/
def lo : EReal := Ideal.ofBits .f32 3271426048#32

/-- The magnitude of a value. -/
def mag (x : EReal) : EReal := FloatOps.absf (F := Ideal) (φ := .f32) x

/-- The scale of a row whose largest magnitude is `a`. -/
def scal (a : EReal) : EReal := if a = 0 then 1 else Ideal.div a hi

/-- A value over its row's scale, rounded and clipped. -/
def clip (v s : EReal) : EReal := min hi (max lo (Ideal.liftRound Ideal.roundHalfEven (Ideal.div v s)))

/-- The largest magnitude in a row. -/
def amax (K : ℕ) (f : ℕ → EReal) : EReal := Finset.fold max nI (fun k : Fin K => mag (f k)) Finset.univ

/-- A value times its logistic. -/
def swish (v : EReal) : EReal := v * Ideal.logistic v

/-- An 8-bit code of a value. -/
def code (v : EReal) : BitVec 8 := FloatOps.fptosi (F := Ideal) (φ := .f32) 8 v

/-- The operands: the rows, the three weights, and the three dequantised weights. -/
structure Ops where
  x : ℕ → ℕ → EReal
  wg : ℕ → ℕ → EReal
  wu : ℕ → ℕ → EReal
  wd : ℕ → ℕ → EReal
  dg : ℕ → ℕ → EReal
  du : ℕ → ℕ → EReal
  dd : ℕ → ℕ → EReal

/-- A product of two arrays over `K` positions. -/
def dot (K : ℕ) (a b : ℕ → ℕ → EReal) (r n : ℕ) : EReal := ∑ k : Fin K, a r k * b k n

namespace Ops

variable (o : Ops)

def S (r : ℕ) : EReal := scal (amax 1024 (o.x r))
def C (r k : ℕ) : EReal := clip (o.x r k) (o.S r)
def GR : ℕ → ℕ → EReal := dot 1024 o.x o.wg
def UR : ℕ → ℕ → EReal := dot 1024 o.x o.wu
def GQ (r n : ℕ) : EReal := dot 1024 o.C o.dg r n * o.S r
def UQ (r n : ℕ) : EReal := dot 1024 o.C o.du r n * o.S r
def HF (r n : ℕ) : EReal := swish (o.GQ r n) * o.UQ r n
def HG (r n : ℕ) : EReal := swish (o.GQ r n) * o.UR r n
def HU (r n : ℕ) : EReal := swish (o.GR r n) * o.UQ r n
def HR (r n : ℕ) : EReal := swish (o.GR r n) * o.UR r n
def SF (r : ℕ) : EReal := scal (amax 4096 (o.HF r))
def CF (r k : ℕ) : EReal := clip (o.HF r k) (o.SF r)
def SR (r : ℕ) : EReal := scal (amax 4096 (o.HR r))
def CR (r k : ℕ) : EReal := clip (o.HR r k) (o.SR r)
def YR : ℕ → ℕ → EReal := dot 4096 o.HR o.wd
def Y0 (r n : ℕ) : EReal := dot 4096 o.CF o.dd r n * o.SF r
def Y1 : ℕ → ℕ → EReal := dot 4096 o.HG o.wd
def Y2 : ℕ → ℕ → EReal := dot 4096 o.HU o.wd
def Y3 (r n : ℕ) : EReal := dot 4096 o.CR o.dd r n * o.SR r

/-- The variant `q`'s output; any other number names the reference's. -/
def Y (q r n : ℕ) : EReal := if q = 0 then o.Y0 r n else if q = 1 then o.Y1 r n else if q = 2 then o.Y2 r n else o.Y3 r n

/-- The squared difference of the variant `q`; at 4 the squared reference. -/
def E (q r n : ℕ) : EReal := if q = 4 then o.YR r n * o.YR r n else (o.Y q r n - o.YR r n) * (o.Y q r n - o.YR r n)

/-- The squared differences summed along a row. -/
def TOK (q r : ℕ) : EReal := ∑ n : Fin 1024, o.E q r n

/-- The squared differences summed down a column. -/
def CHAN (q n : ℕ) : EReal := ∑ r : Fin 9216, o.E q r n

end Ops

/-- The largest magnitude over the first `n` chunks of 512, at the positions equal to `l` modulo 128. -/
def mx (f : ℕ → EReal) (l : ℕ) : ℕ → EReal
  | 0 => 0
  | n + 1 => max (mx f l n) (max (max (max (mag (f (512 * n + l))) (mag (f (512 * n + (128 + l))))) (mag (f (512 * n + (256 + l))))) (mag (f (512 * n + (384 + l)))))

/-- The sum over the first `n` chunks of 256, at the positions equal to `l` modulo 128. -/
def tk (f : ℕ → EReal) (l : ℕ) : ℕ → EReal
  | 0 => 0
  | n + 1 => tk f l n + (f (256 * n + l) + f (256 * n + (128 + l)))

/-- The sum over the first `n` chunks of 384, at the positions equal to `s` modulo 8. -/
def ch (f : ℕ → EReal) (s : ℕ) : ℕ → EReal
  | 0 => 0
  | n + 1 => ch f s n + ∑ b : Fin 48, f (384 * n + (b.val * 8 + s))

end Cert.Hand
-- ==== Proof.DqSpec.lean ====
/- A dequantised weight: a 4-bit half of a byte, less its group's zero point, times its group's scale. -/
module

public import proofs.«01_k».proof.Proof.Spec

@[expose] public section

set_option maxRecDepth 16384

noncomputable section

namespace Cert.Hand

open Idealize.ShloMosaic

/-- The half of a byte that row parity `b` names: the low one at 0, the high one at 1. -/
def nib (w : BitVec 8) (b : ℕ) : ℕ := if b = 0 then w.toNat % 16 else w.toNat / 16

/-- A number as a value. -/
def num (k : ℕ) : EReal := (((k : ℤ) : ℝ) : EReal)

/-- The dequantised weight of a byte's half, its zero point and its scale. -/
def deq (w : BitVec 8) (b : ℕ) (z : BitVec 8) (s : EReal) : EReal := (num (nib w b) - num z.toNat) * s

/-- The two halves of a byte, each below the bits of 128, in one word. -/
def packed (w : BitVec 8) : BitVec 32 :=
  (1124090624#32 ||| (w.setWidth 32 &&& 15#32)) ||| (BitVec.sshiftRight (w.setWidth 32) 4 <<< 16)

theorem nib_lt (w : BitVec 8) (b : ℕ) : nib w b < 16 := by
  have := w.isLt
  unfold nib; split <;> omega

theorem packed_half : ∀ (b : Fin 2) (w : Fin 256), (packed (BitVec.ofFin w)).extractLsb' (16 * b.val) 16 = BitVec.ofNat 16 (17152 + nib (BitVec.ofFin w) b.val) := by
  decide +kernel

theorem bits_num : ∀ k < 16, Ideal.ofBits .bf16 (BitVec.ofNat 16 (17152 + k)) = (((128 + k : ℕ) : ℝ) : EReal) := by
  intro k hk
  interval_cases k <;> (simp [Ideal.ofBits, Ideal.ieee, -EReal.coe_mul, -EReal.coe_add]; try norm_num)

theorem half_val (w : BitVec 8) (b : ℕ) (hb : b < 2) :
    Ideal.ofBits .bf16 ((packed w).extractLsb' (16 * b) 16) - Ideal.ofBits .bf16 17152#16 = num (nib w b) := by
  rw [show (packed w).extractLsb' (16 * b) 16 = BitVec.ofNat 16 (17152 + nib w b) from packed_half ⟨b, hb⟩ w.toFin, bits_num _ (nib_lt w b),
    show (17152#16 : BitVec 16) = BitVec.ofNat 16 (17152 + 0) from rfl, bits_num 0 (by decide)]
  unfold num
  rw [← EReal.coe_sub]
  congr 1
  push_cast
  ring

theorem wide_num (z : BitVec 8) : (((BitVec.setWidth 32 z).toInt : ℝ) : EReal) = num z.toNat := by
  unfold num
  have : (BitVec.setWidth 32 z).toInt = (z.toNat : ℤ) := by
    have := z.isLt
    rw [BitVec.toInt_eq_toNat_of_lt (by rw [BitVec.toNat_setWidth]; omega), BitVec.toNat_setWidth]
    congr 1; omega
  rw [this]

end Cert.Hand
-- ==== Proof.DqVal.lean ====
/- What the dequantised weights are, entry by entry. -/
module

public import proofs.«01_k».proof.Proof.Dq
public import proofs.«01_k».proof.Proof.DqSpec
public import Idealize.ShloMosaic.Lib.BitcastPair
public import Idealize.ShloMosaic.Lib.Pointwise

@[expose] public section

set_option maxRecDepth 16384

noncomputable section

namespace Cert.KernelIdeal.Hand

open Idealize.ShloMosaic Idealize.ShloMosaic.TcCoe
open Cert.KernelIdeal.Gen Cert.Hand

/-- The packed words read as 16-bit values. -/
theorem halves {N : ℕ} (W : (⟨2, ![64, N]⟩ : Shape).Idx → BitVec 8) (X : (⟨2, ![64, N]⟩ : Shape).Idx → BitVec 32) (hX : ∀ j, X j = packed (W j))
    (h : (⟨2, ![64, N]⟩ : Shape).Bitcasts 32 (⟨2, ![128, N]⟩ : Shape) 16) (p : Fin 128) (n : Fin N) :
    Ideal.ofBits .bf16 (bitcast (⟨2, ![128, N]⟩ : Shape) 16 X h (ix2 p n)) - Ideal.ofBits .bf16 17152#16
      = num (nib (W (ix2 ⟨p.val / 2, by omega⟩ n)) (p.val % 2)) := by
  rw [bitcast_32_16, hX, show ∀ h', h.srcIdx (ix2 p n) ((⟨2, ![128, N]⟩ : Shape).row (ix2 p n) / 2) h' = ix2 ⟨p.val / 2, by omega⟩ n from fun h' => ?_]
  · exact half_val _ _ (Nat.mod_lt _ (by decide))
  · funext a; apply Fin.ext; match a with | ⟨0, _⟩ => rfl | ⟨1, _⟩ => rfl

theorem dq0_3 (W : Vec Ideal S64x2048 .i8) (Z : Vec Ideal S1x1x2048 .i8) (S : Vec Ideal S1x1x2048 .f32) (p : Fin 128) (n : Fin 2048) :
    k0_pay3 W Z S (ix2 p n) = deq (W (ix2 ⟨p.val / 2, by omega⟩ n)) (p.val % 2) (Z (ix3 0 0 n)) (S (ix3 0 0 n)) := by
  pointwise [k0_pay3]
  exact congrArg₂ (fun a b => (a - b) * S (ix3 0 0 n)) (halves W _ (fun j => rfl) _ p n) (wide_num (Z (ix3 0 0 n)))

theorem dq0_2 (W : Vec Ideal S64x2048 .i8) (Z : Vec Ideal S1x1x2048 .i8) (S : Vec Ideal S1x1x2048 .f32) (p : Fin 128) (n : Fin 2048) :
    k0_pay2 W Z S (ix2 p n) = deq (W (ix2 ⟨p.val / 2, by omega⟩ n)) (p.val % 2) (Z (ix3 0 0 n)) (S (ix3 0 0 n)) := by
  pointwise [k0_pay2]
  exact congrArg₂ (fun a b => (a - b) * S (ix3 0 0 n)) (halves W _ (fun j => rfl) _ p n) (wide_num (Z (ix3 0 0 n)))

theorem dq0_8 (W : Vec Ideal S64x2048 .i8) (Z : Vec Ideal S1x1x2048 .i8) (S : Vec Ideal S1x1x2048 .f32) (p : Fin 128) (n : Fin 2048) :
    k0_pay8 (k0_pay5 (F := Ideal) W) (k0_pay6 (F := Ideal) W) k0_pay7 Z S (ix2 p n) = deq (W (ix2 ⟨p.val / 2, by omega⟩ n)) (p.val % 2) (Z (ix3 0 0 n)) (S (ix3 0 0 n)) := by
  pointwise [k0_pay8]
  exact congrArg₂ (fun a b => (a - b) * S (ix3 0 0 n)) (halves W _ (fun j => rfl) _ p n) (wide_num (Z (ix3 0 0 n)))

theorem dq0_1 (W : Vec Ideal S64x2048 .i8) (Z : Vec Ideal S1x1x2048 .i8) (S : Vec Ideal S1x1x2048 .f32) (p : Fin 128) (n : Fin 2048) :
    k0_pay1 (k0_pay9 (F := Ideal) W) (k0_pay10 (F := Ideal) Z) S (ix2 p n) = deq (W (ix2 ⟨p.val / 2, by omega⟩ n)) (p.val % 2) (Z (ix3 0 0 n)) (S (ix3 0 0 n)) := by
  pointwise [k0_pay1, k0_pay9, k0_pay10]
  exact congrArg₂ (fun a b => (a - b) * S (ix3 0 0 n)) (halves W _ (fun j => rfl) _ p n) (wide_num (Z (ix3 0 0 n)))

theorem dq1_3 (W : Vec Ideal S64x2048 .i8) (Z : Vec Ideal S1x1x2048 .i8) (S : Vec Ideal S1x1x2048 .f32) (p : Fin 128) (n : Fin 2048) :
    k1_pay3 W Z S (ix2 p n) = deq (W (ix2 ⟨p.val / 2, by omega⟩ n)) (p.val % 2) (Z (ix3 0 0 n)) (S (ix3 0 0 n)) := by
  pointwise [k1_pay3]
  exact congrArg₂ (fun a b => (a - b) * S (ix3 0 0 n)) (halves W _ (fun j => rfl) _ p n) (wide_num (Z (ix3 0 0 n)))

theorem dq1_2 (W : Vec Ideal S64x2048 .i8) (Z : Vec Ideal S1x1x2048 .i8) (S : Vec Ideal S1x1x2048 .f32) (p : Fin 128) (n : Fin 2048) :
    k1_pay2 W Z S (ix2 p n) = deq (W (ix2 ⟨p.val / 2, by omega⟩ n)) (p.val % 2) (Z (ix3 0 0 n)) (S (ix3 0 0 n)) := by
  pointwise [k1_pay2]
  exact congrArg₂ (fun a b => (a - b) * S (ix3 0 0 n)) (halves W _ (fun j => rfl) _ p n) (wide_num (Z (ix3 0 0 n)))

theorem dq1_8 (W : Vec Ideal S64x2048 .i8) (Z : Vec Ideal S1x1x2048 .i8) (S : Vec Ideal S1x1x2048 .f32) (p : Fin 128) (n : Fin 2048) :
    k1_pay8 (k1_pay5 (F := Ideal) W) (k1_pay6 (F := Ideal) W) k1_pay7 Z S (ix2 p n) = deq (W (ix2 ⟨p.val / 2, by omega⟩ n)) (p.val % 2) (Z (ix3 0 0 n)) (S (ix3 0 0 n)) := by
  pointwise [k1_pay8]
  exact congrArg₂ (fun a b => (a - b) * S (ix3 0 0 n)) (halves W _ (fun j => rfl) _ p n) (wide_num (Z (ix3 0 0 n)))

theorem dq1_1 (W : Vec Ideal S64x2048 .i8) (Z : Vec Ideal S1x1x2048 .i8) (S : Vec Ideal S1x1x2048 .f32) (p : Fin 128) (n : Fin 2048) :
    k1_pay1 (k1_pay9 (F := Ideal) W) (k1_pay10 (F := Ideal) Z) S (ix2 p n) = deq (W (ix2 ⟨p.val / 2, by omega⟩ n)) (p.val % 2) (Z (ix3 0 0 n)) (S (ix3 0 0 n)) := by
  pointwise [k1_pay1, k1_pay9, k1_pay10]
  exact congrArg₂ (fun a b => (a - b) * S (ix3 0 0 n)) (halves W _ (fun j => rfl) _ p n) (wide_num (Z (ix3 0 0 n)))

theorem dq2_3 (W : Vec Ideal S64x1024 .i8) (Z : Vec Ideal S1x1x1024 .i8) (S : Vec Ideal S1x1x1024 .f32) (p : Fin 128) (n : Fin 1024) :
    k2_pay3 W Z S (ix2 p n) = deq (W (ix2 ⟨p.val / 2, by omega⟩ n)) (p.val % 2) (Z (ix3 0 0 n)) (S (ix3 0 0 n)) := by
  pointwise [k2_pay3]
  exact congrArg₂ (fun a b => (a - b) * S (ix3 0 0 n)) (halves W _ (fun j => rfl) _ p n) (wide_num (Z (ix3 0 0 n)))

theorem dq2_2 (W : Vec Ideal S64x1024 .i8) (Z : Vec Ideal S1x1x1024 .i8) (S : Vec Ideal S1x1x1024 .f32) (p : Fin 128) (n : Fin 1024) :
    k2_pay2 W Z S (ix2 p n) = deq (W (ix2 ⟨p.val / 2, by omega⟩ n)) (p.val % 2) (Z (ix3 0 0 n)) (S (ix3 0 0 n)) := by
  pointwise [k2_pay2]
  exact congrArg₂ (fun a b => (a - b) * S (ix3 0 0 n)) (halves W _ (fun j => rfl) _ p n) (wide_num (Z (ix3 0 0 n)))

theorem dq2_8 (W : Vec Ideal S64x1024 .i8) (Z : Vec Ideal S1x1x1024 .i8) (S : Vec Ideal S1x1x1024 .f32) (p : Fin 128) (n : Fin 1024) :
    k2_pay8 (k2_pay5 (F := Ideal) W) (k2_pay6 (F := Ideal) W) k2_pay7 Z S (ix2 p n) = deq (W (ix2 ⟨p.val / 2, by omega⟩ n)) (p.val % 2) (Z (ix3 0 0 n)) (S (ix3 0 0 n)) := by
  pointwise [k2_pay8]
  exact congrArg₂ (fun a b => (a - b) * S (ix3 0 0 n)) (halves W _ (fun j => rfl) _ p n) (wide_num (Z (ix3 0 0 n)))

theorem dq2_1 (W : Vec Ideal S64x1024 .i8) (Z : Vec Ideal S1x1x1024 .i8) (S : Vec Ideal S1x1x1024 .f32) (p : Fin 128) (n : Fin 1024) :
    k2_pay1 (k2_pay9 (F := Ideal) W) (k2_pay10 (F := Ideal) Z) S (ix2 p n) = deq (W (ix2 ⟨p.val / 2, by omega⟩ n)) (p.val % 2) (Z (ix3 0 0 n)) (S (ix3 0 0 n)) := by
  pointwise [k2_pay1, k2_pay9, k2_pay10]
  exact congrArg₂ (fun a b => (a - b) * S (ix3 0 0 n)) (halves W _ (fun j => rfl) _ p n) (wide_num (Z (ix3 0 0 n)))

end Cert.KernelIdeal.Hand
-- ==== Proof.Acc.lean ====
/- Reading a rectangle of contents and contents with a rectangle replaced, entry by entry; and the conditions and offsets
   of the main body as arithmetic in the grid coordinates. -/
module

public import proofs.«01_k».proof.Proof.Reg3
public import proofs.«01_k».proof.Proof.Spec
public import Idealize.ShloMosaic.Lib.Pipeline.ValueKit.Tiles

@[expose] public section

set_option maxRecDepth 16384

noncomputable section

namespace Cert.Hand

open Idealize.ShloMosaic

section
variable {α : Type} {s : Shape}

theorem rd_at (X : s.Idx → α) (off size : Fin s.rank → ℕ) (inb : ∀ a, off a + size a ≤ s.size a)
    (x : (Rect.unit (s := s) off size inb).shape.Idx) (y : s.Idx) (h : ∀ a, (y a).val = off a + (x a).val) :
    rd X (Rect.unit (s := s) off size inb).toLoadRect x = X y := by
  unfold rd
  refine congrArg X (funext fun a => Fin.ext ?_)
  rw [h a]
  show off a + 1 * (x a).val = _
  omega

theorem rd_whole (X : s.Idx → α) (off : Fin s.rank → ℕ) (inb : ∀ a, off a + s.size a ≤ s.size a) :
    (rd X (Rect.unit (s := s) off s.size inb).toLoadRect : s.Idx → α) = X := by
  funext x
  exact rd_at X off s.size inb x x fun a => by have := inb a; omega

theorem ovl_in (X : s.Idx → α) (off size : Fin s.rank → ℕ) (inb : ∀ a, off a + size a ≤ s.size a)
    (w : (Rect.unit (s := s) off size inb).shape.Idx → α) (x : (Rect.unit (s := s) off size inb).shape.Idx) (y : s.Idx)
    (h : ∀ a, (y a).val = off a + (x a).val) : ovl X off size inb w y = w x := by
  have hx : ∀ a, (x a).val < size a := fun a => (x a).isLt
  rw [ovl_of_mem X off size inb w y fun a => by have := h a; have := hx a; omega]
  refine congrArg w (funext fun a => Fin.ext ?_)
  rw [Rect.unitLocal_val, h a]; omega

theorem ovl_out (X : s.Idx → α) (off size : Fin s.rank → ℕ) (inb : ∀ a, off a + size a ≤ s.size a)
    (w : (Rect.unit (s := s) off size inb).shape.Idx → α) (y : s.Idx) (a : Fin s.rank)
    (h : (y a).val < off a ∨ off a + size a ≤ (y a).val) : ovl X off size inb w y = X y :=
  ovl_of_not_mem X off size inb w y fun hh => by have := hh a; omega

theorem ovl_whole (X : s.Idx → α) (off : Fin s.rank → ℕ) (inb : ∀ a, off a + s.size a ≤ s.size a)
    (w : (Rect.unit (s := s) off s.size inb).shape.Idx → α) : (ovl X off s.size inb w : s.Idx → α) = w := by
  funext x
  exact ovl_in X off s.size inb w x x fun a => by have := inb a; omega

end

end Cert.Hand

namespace Cert.KernelIdeal.Hand

open Idealize.ShloMosaic Idealize.ShloMosaic.TcCoe
open Cert.KernelIdeal.Gen Cert.Hand

theorem crd0 : ∀ t : Fin cfg3.N, (grid3.coords t 0).val = t.val / 12 := by decide +kernel
theorem crd1 : ∀ t : Fin cfg3.N, (grid3.coords t 1).val = t.val % 12 := by decide +kernel
theorem crd0_lt (i : grid3.Coords) : (i 0).val < 24 := (i 0).isLt
theorem crd1_lt (i : grid3.Coords) : (i 1).val < 12 := (i 1).isLt

theorem cond1_iff : ∀ i : grid3.Coords, k3_cond1 i = 1#1 ↔ (i 1).val = 0 := by decide +kernel
theorem cond2_iff : ∀ i : grid3.Coords, k3_cond2 i = 1#1 ↔ (i 1).val = 0 ∧ (i 0).val = 0 := by decide +kernel
theorem cond3_iff : ∀ i : grid3.Coords, k3_cond3 i = 1#1 ↔ (i 1).val < 8 := by decide +kernel
theorem cond4_iff : ∀ i : grid3.Coords, k3_cond4 i = 1#1 ↔ (i 1).val = 8 := by decide +kernel
theorem cond5_iff : ∀ i : grid3.Coords, k3_cond5 i = 1#1 ↔ 8 ≤ (i 1).val := by decide +kernel
theorem cond6_iff : ∀ i : grid3.Coords, k3_cond6 i = 1#1 ↔ (i 1).val = 11 := by decide +kernel
theorem cond7_iff : ∀ i : grid3.Coords, k3_cond7 i = 1#1 ↔ (i 1).val = 11 ∧ (i 0).val = 23 := by decide +kernel

theorem off1_eq : ∀ i : grid3.Coords, k3_off1 i = ![(i 0).val / 4, 384 * ((i 0).val % 4)] := by decide +kernel
theorem off2_eq : ∀ i : grid3.Coords, k3_off2 i = ![0, 512 * (i 1).val] := k3_off2_eq
theorem off3_eq : ∀ i : grid3.Coords, k3_off3 i = ![(i 0).val / 4, 384 * ((i 0).val % 4)] := by decide +kernel
theorem off4_eq : ∀ i : grid3.Coords, 8 ≤ (i 1).val → k3_off4 i = ![0, 256 * ((i 1).val - 8)] := by decide +kernel
theorem off5_eq : ∀ i : grid3.Coords, 8 ≤ (i 1).val → k3_off5 i = ![0, 0, 256 * ((i 1).val - 8)] := by decide +kernel
theorem off6_eq : ∀ i : grid3.Coords, 8 ≤ (i 1).val → k3_off6 i = ![1, 0, 256 * ((i 1).val - 8)] := by decide +kernel
theorem off7_eq : ∀ i : grid3.Coords, 8 ≤ (i 1).val → k3_off7 i = ![2, 0, 256 * ((i 1).val - 8)] := by decide +kernel
theorem off8_eq : ∀ i : grid3.Coords, 8 ≤ (i 1).val → k3_off8 i = ![3, 0, 256 * ((i 1).val - 8)] := by decide +kernel
theorem off9_eq : ∀ i : grid3.Coords, k3_off9 i = ![0, (i 0).val / 4, 384 * ((i 0).val % 4)] := by decide +kernel
theorem off10_eq : ∀ i : grid3.Coords, k3_off10 i = ![1, (i 0).val / 4, 384 * ((i 0).val % 4)] := by decide +kernel
theorem off11_eq : ∀ i : grid3.Coords, k3_off11 i = ![2, (i 0).val / 4, 384 * ((i 0).val % 4)] := by decide +kernel
theorem off12_eq : ∀ i : grid3.Coords, k3_off12 i = ![3, (i 0).val / 4, 384 * ((i 0).val % 4)] := by decide +kernel
theorem off13_eq : ∀ i : grid3.Coords, k3_off13 i = ![(i 0).val / 4, 384 * ((i 0).val % 4)] := by decide +kernel

end Cert.KernelIdeal.Hand
-- ==== Proof.Pay.lean ====
/- The main body's arithmetic read at an entry, over the extended reals. -/
module

public import proofs.«01_k».proof.Proof.Spec
public import proofs.«01_k».proof.Proof.State

@[expose] public section

set_option maxRecDepth 16384

noncomputable section

namespace Cert.KernelIdeal.Hand

open Idealize.ShloMosaic Idealize.ShloMosaic.TcCoe
open Cert.KernelIdeal.Gen Cert.Hand

section X
variable (x : Vec Ideal S384x1024 .bf16) (p : Fin 384)

theorem pay19_at (z : Fin 1) : k3_pay19 (F := Ideal) x (ix2 p z) = scal (Finset.fold max nI (fun k : Fin 1024 => mag (x (ix2 p k))) Finset.univ) := by
  pointwise [k3_pay19, k3_pay18]
  rfl

theorem pay20_at (k : Fin 1024) : k3_pay20 (F := Ideal) x (ix2 p k) = clip (x (ix2 p k)) (k3_pay19 (F := Ideal) x (ix2 p 0)) := by
  pointwise [k3_pay20, k3_pay18]
  rfl

theorem pay21_at (k : Fin 1024) : k3_pay21 (F := Ideal) x (ix2 p k) = k3_pay20 (F := Ideal) x (ix2 p k) := by
  pointwise [k3_pay21]

theorem pay22_at (k : Fin 1024) : k3_pay22 (F := Ideal) x (ix2 p k) = code (k3_pay20 (F := Ideal) x (ix2 p k)) := by
  pointwise [k3_pay22]
  rfl

theorem pay23_at (l : Fin 128) : k3_pay23 (F := Ideal) x (ix2 p l) = k3_pay19 (F := Ideal) x (ix2 p 0) := by
  pointwise [k3_pay23]

theorem pay68_at (v : FVec Ideal S384x1 .f32) (z : Fin 1) : k3_pay68 (F := Ideal) v (ix2 z p) = v (ix2 p 0) := by
  pointwise [k3_pay68]

theorem pay24_at (l : Fin 128) : k3_pay24 (F := Ideal) (ix2 p l) = 0 := by
  pointwise [k3_pay24]

theorem pay66_at (l : Fin 128) : k3_pay66 (F := Ideal) (k3_pay25 (F := Ideal)) (ix2 p l) = 0 := by
  pointwise [k3_pay66, k3_pay25]

theorem pay67_at (q : Fin 5) (l : Fin 128) : k3_pay67 (F := Ideal) (ix3 q p l) = 0 := by
  pointwise [k3_pay67]

theorem pay69_at (q : Fin 4) (s : Fin 8) (l : Fin 1024) : k3_pay69 (F := Ideal) (ix3 q s l) = 0 := by
  pointwise [k3_pay69]

end X

section H
variable (x xc : Vec Ideal S384x1024 .bf16) (s : Vec Ideal S384x1 .f32) (g u : Vec Ideal S1024x512 .bf16) (p : Fin 384) (n : Fin 512)

theorem pay27_at : k3_pay27 (F := Ideal) x u (ix2 p n) = ∑ k : Fin 1024, x (ix2 p k) * u (ix2 k n) := by
  pointwise [k3_pay27, k3_pay26]

theorem pay28_at : k3_pay28 (F := Ideal) xc s u (ix2 p n) = (∑ k : Fin 1024, xc (ix2 p k) * u (ix2 k n)) * s (ix2 p 0) := by
  pointwise [k3_pay28]

theorem pay29_at : k3_pay29 (F := Ideal) x g (ix2 p n) = swish (∑ k : Fin 1024, x (ix2 p k) * g (ix2 k n)) := by
  pointwise [k3_pay29, k3_pay26]
  rfl

theorem pay30_at : k3_pay30 (F := Ideal) xc s g (ix2 p n) = swish ((∑ k : Fin 1024, xc (ix2 p k) * g (ix2 k n)) * s (ix2 p 0)) := by
  pointwise [k3_pay30]
  rfl

theorem pay31_at : k3_pay31 (F := Ideal) xc s g u (ix2 p n) = k3_pay30 (F := Ideal) xc s g (ix2 p n) * k3_pay28 (F := Ideal) xc s u (ix2 p n) := by
  pointwise [k3_pay31]

theorem pay32_at : k3_pay32 (F := Ideal) x g u (ix2 p n) = k3_pay29 (F := Ideal) x g (ix2 p n) * k3_pay27 (F := Ideal) x u (ix2 p n) := by
  pointwise [k3_pay32]

theorem pay33_at : k3_pay33 (F := Ideal) xc s g u (ix2 p n) = k3_pay31 (F := Ideal) xc s g u (ix2 p n) := by
  pointwise [k3_pay33]

theorem pay34_at : k3_pay34 (F := Ideal) x g u (ix2 p n) = k3_pay32 (F := Ideal) x g u (ix2 p n) := by
  pointwise [k3_pay34]

theorem pay1_at : k3_pay1 (F := Ideal) (k3_pay35 (F := Ideal) x g u) (ix2 p n) = k3_pay32 (F := Ideal) x g u (ix2 p n) := by
  pointwise [k3_pay1, k3_pay35]

theorem pay2_at (v w : FVec Ideal S384x512 .f32) : k3_pay2 (F := Ideal) v w (ix2 p n) = w (ix2 p n) * v (ix2 p n) := by
  pointwise [k3_pay2]

theorem pay3_at (v w : FVec Ideal S384x512 .f32) : k3_pay3 (F := Ideal) v w (ix2 p n) = w (ix2 p n) * v (ix2 p n) := by
  pointwise [k3_pay3]

theorem pay4_at (v : FVec Ideal S384x512 .f32) (m : Vec Ideal S384x128 .f32) (l : Fin 128) : k3_pay4 (F := Ideal) v m (ix2 p l)
    = max (m (ix2 p l)) (max (max (max (mag (v (ix2 p ⟨l.val, by omega⟩))) (mag (v (ix2 p ⟨128 + l.val, by omega⟩)))) (mag (v (ix2 p ⟨256 + l.val, by omega⟩)))) (mag (v (ix2 p ⟨384 + l.val, by omega⟩)))) := by
  pointwise [k3_pay4]
  rfl

theorem pay5_at (v : FVec Ideal S384x512 .f32) (m : Vec Ideal S384x128 .f32) (l : Fin 128) : k3_pay5 (F := Ideal) v m (ix2 p l)
    = max (m (ix2 p l)) (max (max (max (mag (v (ix2 p ⟨l.val, by omega⟩))) (mag (v (ix2 p ⟨128 + l.val, by omega⟩)))) (mag (v (ix2 p ⟨256 + l.val, by omega⟩)))) (mag (v (ix2 p ⟨384 + l.val, by omega⟩)))) := by
  pointwise [k3_pay5]
  rfl

end H

section Q
variable (m : Vec Ideal S384x128 .f32) (h : Vec Ideal S384x4096 .f32) (p : Fin 384)

theorem pay36_at (z : Fin 1) : k3_pay36 (F := Ideal) m (ix2 p z) = scal (Finset.fold max nI (fun l : Fin 128 => m (ix2 p l)) Finset.univ) := by
  pointwise [k3_pay36]
  rfl

theorem pay37_at (l : Fin 128) : k3_pay37 (F := Ideal) m (ix2 p l) = k3_pay36 (F := Ideal) m (ix2 p 0) := by
  pointwise [k3_pay37]

theorem pay38_at (z : Fin 1) : k3_pay38 (F := Ideal) m (ix2 z p) = k3_pay36 (F := Ideal) m (ix2 p 0) := by
  pointwise [k3_pay38]

theorem pay39_at (k : Fin 4096) : k3_pay39 (F := Ideal) m h (ix2 p k) = code (clip (h (ix2 p k)) (k3_pay36 (F := Ideal) m (ix2 p 0))) := by
  pointwise [k3_pay39]
  rfl

theorem pay6_at (z : Fin 1) : k3_pay6 (F := Ideal) (k3_pay41 (F := Ideal) m) (k3_pay42 (F := Ideal) m) (ix2 p z) = scal (Finset.fold max nI (fun l : Fin 128 => m (ix2 p l)) Finset.univ) := by
  pointwise [k3_pay6, k3_pay41, k3_pay42, k3_pay40]
  rfl

theorem pay7_at (a : IVec S384x1 1) (b : FVec Ideal S384x1 .f32) (l : Fin 128) : k3_pay7 (F := Ideal) a b (ix2 p l) = k3_pay6 (F := Ideal) a b (ix2 p 0) := by
  pointwise [k3_pay7]

theorem pay8_at (a : IVec S384x1 1) (b : FVec Ideal S384x1 .f32) (z : Fin 1) : k3_pay8 (F := Ideal) a b (ix2 z p) = k3_pay6 (F := Ideal) a b (ix2 p 0) := by
  pointwise [k3_pay8]

theorem pay9_at (a : IVec S384x1 1) (b : FVec Ideal S384x1 .f32) (k : Fin 4096) : k3_pay9 (F := Ideal) a b h (ix2 p k) = code (clip (h (ix2 p k)) (k3_pay6 (F := Ideal) a b (ix2 p 0))) := by
  pointwise [k3_pay9]
  rfl

end Q

section D
variable (w : Vec Ideal S4096x256 .bf16) (h : Vec Ideal S384x4096 .bf16) (c : Vec Ideal S384x4096 .i8) (s : Vec Ideal S384x1 .f32) (p : Fin 384) (n : Fin 256)

theorem pay44_at : k3_pay44 (F := Ideal) w h (ix2 p n) = ∑ k : Fin 4096, h (ix2 p k) * w (ix2 k n) := by
  pointwise [k3_pay44]

theorem pay45_at : k3_pay45 (F := Ideal) w h (ix2 p n) = k3_pay44 (F := Ideal) w h (ix2 p n) := by
  pointwise [k3_pay45]

theorem pay46_at : k3_pay46 (F := Ideal) w c s (ix2 p n) = (∑ k : Fin 4096, FloatOps.sitofp (F := Ideal) .bf16 (c (ix2 p k)) * w (ix2 k n)) * s (ix2 p 0) := by
  pointwise [k3_pay46, k3_pay43]

theorem pay47_at : k3_pay47 (F := Ideal) w h (ix2 p n) = ∑ k : Fin 4096, h (ix2 p k) * w (ix2 k n) := by
  pointwise [k3_pay47]

theorem pay48_at : k3_pay48 (F := Ideal) w h (ix2 p n) = ∑ k : Fin 4096, h (ix2 p k) * w (ix2 k n) := by
  pointwise [k3_pay48]

theorem pay49_at : k3_pay49 (F := Ideal) w c s (ix2 p n) = (∑ k : Fin 4096, FloatOps.sitofp (F := Ideal) .bf16 (c (ix2 p k)) * w (ix2 k n)) * s (ix2 p 0) := by
  pointwise [k3_pay49, k3_pay43]

end D

/-- A squared difference. -/
def sqd (a b : EReal) : EReal := (b - a) * (b - a)

section T
variable (y v : FVec Ideal S384x256 .f32) (t : Vec Ideal S1x384x128 .f32) (p : Fin 384) (l : Fin 128)

theorem pay50_at : k3_pay50 (F := Ideal) y t (ix3 0 p l) = t (ix3 0 p l) + (y (ix2 p ⟨l.val, by omega⟩) * y (ix2 p ⟨l.val, by omega⟩) + y (ix2 p ⟨128 + l.val, by omega⟩) * y (ix2 p ⟨128 + l.val, by omega⟩)) := by
  pointwise [k3_pay50]

theorem pay52_at : k3_pay52 (F := Ideal) y v t (ix3 0 p l) = t (ix3 0 p l) + (sqd (y (ix2 p ⟨l.val, by omega⟩)) (v (ix2 p ⟨l.val, by omega⟩)) + sqd (y (ix2 p ⟨128 + l.val, by omega⟩)) (v (ix2 p ⟨128 + l.val, by omega⟩))) := by
  pointwise [k3_pay52, k3_pay51]
  rfl

theorem pay57_at : k3_pay57 (F := Ideal) (k3_pay55 (F := Ideal) t) (k3_pay56 (F := Ideal) y v) (ix3 0 p l) = t (ix3 0 p l) + (sqd (y (ix2 p ⟨l.val, by omega⟩)) (v (ix2 p ⟨l.val, by omega⟩)) + sqd (y (ix2 p ⟨128 + l.val, by omega⟩)) (v (ix2 p ⟨128 + l.val, by omega⟩))) := by
  pointwise [k3_pay57, k3_pay56, k3_pay55, k3_pay54]
  rfl

theorem pay60_at : k3_pay60 (F := Ideal) y v t (ix3 0 p l) = t (ix3 0 p l) + (sqd (y (ix2 p ⟨l.val, by omega⟩)) (v (ix2 p ⟨l.val, by omega⟩)) + sqd (y (ix2 p ⟨128 + l.val, by omega⟩)) (v (ix2 p ⟨128 + l.val, by omega⟩))) := by
  pointwise [k3_pay60, k3_pay59]
  rfl

theorem pay10_at : k3_pay10 (F := Ideal) (k3_pay62 (F := Ideal) y v) t (ix3 0 p l) = t (ix3 0 p l) + (sqd (y (ix2 p ⟨l.val, by omega⟩)) (v (ix2 p ⟨l.val, by omega⟩)) + sqd (y (ix2 p ⟨128 + l.val, by omega⟩)) (v (ix2 p ⟨128 + l.val, by omega⟩))) := by
  pointwise [k3_pay10, k3_pay62]
  rfl

theorem pay63_at : k3_pay63 (F := Ideal) t (ix3 0 0 p) = ∑ l : Fin 128, t (ix3 0 p l) := by
  pointwise [k3_pay63]

theorem pay64_at : k3_pay64 (F := Ideal) t (ix3 0 0 p) = ∑ l : Fin 128, t (ix3 0 p l) := by
  pointwise [k3_pay64]

theorem pay65_at : k3_pay65 (F := Ideal) t (ix3 0 0 p) = ∑ l : Fin 128, t (ix3 0 p l) := by
  pointwise [k3_pay65]

theorem pay12_at : k3_pay12 (F := Ideal) t (ix3 0 0 p) = ∑ l : Fin 128, t (ix3 0 p l) := by
  pointwise [k3_pay12]

theorem pay13_at : k3_pay13 (F := Ideal) t (ix2 0 p) = ∑ l : Fin 128, t (ix3 0 p l) := by
  pointwise [k3_pay13]

end T

section G
variable (y v : FVec Ideal S384x256 .f32) (t : Vec Ideal S1x8x256 .f32) (s : Fin 8) (n : Fin 256)

theorem pay53_at : k3_pay53 (F := Ideal) y v t (ix3 0 s n) = t (ix3 0 s n) + ∑ b : Fin 48, sqd (y (ix2 ⟨b.val * 8 + s.val, by omega⟩ n)) (v (ix2 ⟨b.val * 8 + s.val, by omega⟩ n)) := by
  pointwise [k3_pay53, k3_pay51]
  rfl

theorem pay58_at : k3_pay58 (F := Ideal) (k3_pay54 (F := Ideal) y v) t (ix3 0 s n) = t (ix3 0 s n) + ∑ b : Fin 48, sqd (y (ix2 ⟨b.val * 8 + s.val, by omega⟩ n)) (v (ix2 ⟨b.val * 8 + s.val, by omega⟩ n)) := by
  pointwise [k3_pay58, k3_pay54]
  rfl

theorem pay61_at : k3_pay61 (F := Ideal) y v t (ix3 0 s n) = t (ix3 0 s n) + ∑ b : Fin 48, sqd (y (ix2 ⟨b.val * 8 + s.val, by omega⟩ n)) (v (ix2 ⟨b.val * 8 + s.val, by omega⟩ n)) := by
  pointwise [k3_pay61, k3_pay59]
  rfl

theorem pay11_at : k3_pay11 (F := Ideal) (k3_pay62 (F := Ideal) y v) t (ix3 0 s n) = t (ix3 0 s n) + ∑ b : Fin 48, sqd (y (ix2 ⟨b.val * 8 + s.val, by omega⟩ n)) (v (ix2 ⟨b.val * 8 + s.val, by omega⟩ n)) := by
  pointwise [k3_pay11, k3_pay62]
  rfl

end G

section C
variable (t : Vec Ideal S1x8x1024 .f32) (n : Fin 1024)

theorem pay14_at : k3_pay14 (F := Ideal) t (ix2 0 n) = ∑ s : Fin 8, t (ix3 0 s n) := by
  pointwise [k3_pay14]

theorem pay15_at : k3_pay15 (F := Ideal) t (ix2 0 n) = ∑ s : Fin 8, t (ix3 0 s n) := by
  pointwise [k3_pay15]

theorem pay16_at : k3_pay16 (F := Ideal) t (ix2 0 n) = ∑ s : Fin 8, t (ix3 0 s n) := by
  pointwise [k3_pay16]

theorem pay17_at : k3_pay17 (F := Ideal) t (ix2 0 n) = ∑ s : Fin 8, t (ix3 0 s n) := by
  pointwise [k3_pay17]

end C

end Cert.KernelIdeal.Hand
-- ==== Proof.Keep.lean ====
/- What each block of the main body leaves alone. -/
module

public import proofs.«01_k».proof.Proof.Body

@[expose] public section

noncomputable section

namespace Cert.KernelIdeal.Hand

open Idealize.ShloMosaic Idealize.ShloMosaic.TcCoe
open Cert.KernelIdeal.Gen Cert.Hand

variable {F : FTy → Type} [FloatOps F] (i : grid3.Coords) (S : St F)

theorem s1_2 : (s1 i S).a2 = S.a2 := by unfold s1; split <;> rfl
theorem s1_3 : (s1 i S).a3 = S.a3 := by unfold s1; split <;> rfl
theorem s1_4 : (s1 i S).a4 = S.a4 := by unfold s1; split <;> rfl
theorem s1_5 : (s1 i S).a5 = S.a5 := by unfold s1; split <;> rfl
theorem s1_6 : (s1 i S).a6 = S.a6 := by unfold s1; split <;> rfl
theorem s1_7 : (s1 i S).a7 = S.a7 := by unfold s1; split <;> rfl
theorem s1_8 : (s1 i S).a8 = S.a8 := by unfold s1; split <;> rfl
theorem s1_9 : (s1 i S).a9 = S.a9 := by unfold s1; split <;> rfl
theorem s1_10 : (s1 i S).a10 = S.a10 := by unfold s1; split <;> rfl
theorem s1_11 : (s1 i S).a11 = S.a11 := by unfold s1; split <;> rfl
theorem s1_12 : (s1 i S).a12 = S.a12 := by unfold s1; split <;> rfl
theorem s1_15 : (s1 i S).a15 = S.a15 := by unfold s1; split <;> rfl
theorem s1_16 : (s1 i S).a16 = S.a16 := by unfold s1; split <;> rfl
theorem s1_17 : (s1 i S).a17 = S.a17 := by unfold s1; split <;> rfl
theorem s1_18 : (s1 i S).a18 = S.a18 := by unfold s1; split <;> rfl
theorem s1_21 : (s1 i S).a21 = S.a21 := by unfold s1; split <;> rfl
theorem s1_22 : (s1 i S).a22 = S.a22 := by unfold s1; split <;> rfl
theorem s1_23 : (s1 i S).a23 = S.a23 := by unfold s1; split <;> rfl
theorem s1_24 : (s1 i S).a24 = S.a24 := by unfold s1; split <;> rfl
theorem s1_25 : (s1 i S).a25 = S.a25 := by unfold s1; split <;> rfl
theorem s1_28 : (s1 i S).a28 = S.a28 := by unfold s1; split <;> rfl
theorem s1_29 : (s1 i S).a29 = S.a29 := by unfold s1; split <;> rfl
theorem s1_31 : (s1 i S).a31 = S.a31 := by unfold s1; split <;> rfl
theorem s2_2 : (s2 i S).a2 = S.a2 := by unfold s2; split <;> rfl
theorem s2_3 : (s2 i S).a3 = S.a3 := by unfold s2; split <;> rfl
theorem s2_4 : (s2 i S).a4 = S.a4 := by unfold s2; split <;> rfl
theorem s2_5 : (s2 i S).a5 = S.a5 := by unfold s2; split <;> rfl
theorem s2_6 : (s2 i S).a6 = S.a6 := by unfold s2; split <;> rfl
theorem s2_7 : (s2 i S).a7 = S.a7 := by unfold s2; split <;> rfl
theorem s2_8 : (s2 i S).a8 = S.a8 := by unfold s2; split <;> rfl
theorem s2_9 : (s2 i S).a9 = S.a9 := by unfold s2; split <;> rfl
theorem s2_10 : (s2 i S).a10 = S.a10 := by unfold s2; split <;> rfl
theorem s2_11 : (s2 i S).a11 = S.a11 := by unfold s2; split <;> rfl
theorem s2_12 : (s2 i S).a12 = S.a12 := by unfold s2; split <;> rfl
theorem s2_13 : (s2 i S).a13 = S.a13 := by unfold s2; split <;> rfl
theorem s2_14 : (s2 i S).a14 = S.a14 := by unfold s2; split <;> rfl
theorem s2_15 : (s2 i S).a15 = S.a15 := by unfold s2; split <;> rfl
theorem s2_16 : (s2 i S).a16 = S.a16 := by unfold s2; split <;> rfl
theorem s2_17 : (s2 i S).a17 = S.a17 := by unfold s2; split <;> rfl
theorem s2_18 : (s2 i S).a18 = S.a18 := by unfold s2; split <;> rfl
theorem s2_19 : (s2 i S).a19 = S.a19 := by unfold s2; split <;> rfl
theorem s2_20 : (s2 i S).a20 = S.a20 := by unfold s2; split <;> rfl
theorem s2_21 : (s2 i S).a21 = S.a21 := by unfold s2; split <;> rfl
theorem s2_22 : (s2 i S).a22 = S.a22 := by unfold s2; split <;> rfl
theorem s2_23 : (s2 i S).a23 = S.a23 := by unfold s2; split <;> rfl
theorem s2_24 : (s2 i S).a24 = S.a24 := by unfold s2; split <;> rfl
theorem s2_25 : (s2 i S).a25 = S.a25 := by unfold s2; split <;> rfl
theorem s2_26 : (s2 i S).a26 = S.a26 := by unfold s2; split <;> rfl
theorem s2_27 : (s2 i S).a27 = S.a27 := by unfold s2; split <;> rfl
theorem s2_28 : (s2 i S).a28 = S.a28 := by unfold s2; split <;> rfl
theorem s2_29 : (s2 i S).a29 = S.a29 := by unfold s2; split <;> rfl
theorem s2_30 : (s2 i S).a30 = S.a30 := by unfold s2; split <;> rfl
theorem s3_2 : (s3 i S).a2 = S.a2 := by unfold s3; split <;> rfl
theorem s3_3 : (s3 i S).a3 = S.a3 := by unfold s3; split <;> rfl
theorem s3_4 : (s3 i S).a4 = S.a4 := by unfold s3; split <;> rfl
theorem s3_5 : (s3 i S).a5 = S.a5 := by unfold s3; split <;> rfl
theorem s3_6 : (s3 i S).a6 = S.a6 := by unfold s3; split <;> rfl
theorem s3_7 : (s3 i S).a7 = S.a7 := by unfold s3; split <;> rfl
theorem s3_8 : (s3 i S).a8 = S.a8 := by unfold s3; split <;> rfl
theorem s3_9 : (s3 i S).a9 = S.a9 := by unfold s3; split <;> rfl
theorem s3_10 : (s3 i S).a10 = S.a10 := by unfold s3; split <;> rfl
theorem s3_11 : (s3 i S).a11 = S.a11 := by unfold s3; split <;> rfl
theorem s3_12 : (s3 i S).a12 = S.a12 := by unfold s3; split <;> rfl
theorem s3_13 : (s3 i S).a13 = S.a13 := by unfold s3; split <;> rfl
theorem s3_14 : (s3 i S).a14 = S.a14 := by unfold s3; split <;> rfl
theorem s3_15 : (s3 i S).a15 = S.a15 := by unfold s3; split <;> rfl
theorem s3_16 : (s3 i S).a16 = S.a16 := by unfold s3; split <;> rfl
theorem s3_17 : (s3 i S).a17 = S.a17 := by unfold s3; split <;> rfl
theorem s3_18 : (s3 i S).a18 = S.a18 := by unfold s3; split <;> rfl
theorem s3_19 : (s3 i S).a19 = S.a19 := by unfold s3; split <;> rfl
theorem s3_20 : (s3 i S).a20 = S.a20 := by unfold s3; split <;> rfl
theorem s3_28 : (s3 i S).a28 = S.a28 := by unfold s3; split <;> rfl
theorem s3_29 : (s3 i S).a29 = S.a29 := by unfold s3; split <;> rfl
theorem s3_30 : (s3 i S).a30 = S.a30 := by unfold s3; split <;> rfl
theorem s3_31 : (s3 i S).a31 = S.a31 := by unfold s3; split <;> rfl
theorem s4_2 : (s4 i S).a2 = S.a2 := by unfold s4; split <;> rfl
theorem s4_3 : (s4 i S).a3 = S.a3 := by unfold s4; split <;> rfl
theorem s4_4 : (s4 i S).a4 = S.a4 := by unfold s4; split <;> rfl
theorem s4_5 : (s4 i S).a5 = S.a5 := by unfold s4; split <;> rfl
theorem s4_6 : (s4 i S).a6 = S.a6 := by unfold s4; split <;> rfl
theorem s4_7 : (s4 i S).a7 = S.a7 := by unfold s4; split <;> rfl
theorem s4_8 : (s4 i S).a8 = S.a8 := by unfold s4; split <;> rfl
theorem s4_9 : (s4 i S).a9 = S.a9 := by unfold s4; split <;> rfl
theorem s4_10 : (s4 i S).a10 = S.a10 := by unfold s4; split <;> rfl
theorem s4_11 : (s4 i S).a11 = S.a11 := by unfold s4; split <;> rfl
theorem s4_12 : (s4 i S).a12 = S.a12 := by unfold s4; split <;> rfl
theorem s4_13 : (s4 i S).a13 = S.a13 := by unfold s4; split <;> rfl
theorem s4_14 : (s4 i S).a14 = S.a14 := by unfold s4; split <;> rfl
theorem s4_19 : (s4 i S).a19 = S.a19 := by unfold s4; split <;> rfl
theorem s4_20 : (s4 i S).a20 = S.a20 := by unfold s4; split <;> rfl
theorem s4_21 : (s4 i S).a21 = S.a21 := by unfold s4; split <;> rfl
theorem s4_22 : (s4 i S).a22 = S.a22 := by unfold s4; split <;> rfl
theorem s4_23 : (s4 i S).a23 = S.a23 := by unfold s4; split <;> rfl
theorem s4_24 : (s4 i S).a24 = S.a24 := by unfold s4; split <;> rfl
theorem s4_25 : (s4 i S).a25 = S.a25 := by unfold s4; split <;> rfl
theorem s4_26 : (s4 i S).a26 = S.a26 := by unfold s4; split <;> rfl
theorem s4_27 : (s4 i S).a27 = S.a27 := by unfold s4; split <;> rfl
theorem s4_30 : (s4 i S).a30 = S.a30 := by unfold s4; split <;> rfl
theorem s4_31 : (s4 i S).a31 = S.a31 := by unfold s4; split <;> rfl
theorem s5_2 : (s5 i S).a2 = S.a2 := by unfold s5; split <;> rfl
theorem s5_3 : (s5 i S).a3 = S.a3 := by unfold s5; split <;> rfl
theorem s5_4 : (s5 i S).a4 = S.a4 := by unfold s5; split <;> rfl
theorem s5_5 : (s5 i S).a5 = S.a5 := by unfold s5; split <;> rfl
theorem s5_6 : (s5 i S).a6 = S.a6 := by unfold s5; split <;> rfl
theorem s5_7 : (s5 i S).a7 = S.a7 := by unfold s5; split <;> rfl
theorem s5_8 : (s5 i S).a8 = S.a8 := by unfold s5; split <;> rfl
theorem s5_9 : (s5 i S).a9 = S.a9 := by unfold s5; split <;> rfl
theorem s5_10 : (s5 i S).a10 = S.a10 := by unfold s5; split <;> rfl
theorem s5_11 : (s5 i S).a11 = S.a11 := by unfold s5; split <;> rfl
theorem s5_13 : (s5 i S).a13 = S.a13 := by unfold s5; split <;> rfl
theorem s5_14 : (s5 i S).a14 = S.a14 := by unfold s5; split <;> rfl
theorem s5_15 : (s5 i S).a15 = S.a15 := by unfold s5; split <;> rfl
theorem s5_16 : (s5 i S).a16 = S.a16 := by unfold s5; split <;> rfl
theorem s5_17 : (s5 i S).a17 = S.a17 := by unfold s5; split <;> rfl
theorem s5_18 : (s5 i S).a18 = S.a18 := by unfold s5; split <;> rfl
theorem s5_19 : (s5 i S).a19 = S.a19 := by unfold s5; split <;> rfl
theorem s5_20 : (s5 i S).a20 = S.a20 := by unfold s5; split <;> rfl
theorem s5_21 : (s5 i S).a21 = S.a21 := by unfold s5; split <;> rfl
theorem s5_22 : (s5 i S).a22 = S.a22 := by unfold s5; split <;> rfl
theorem s5_23 : (s5 i S).a23 = S.a23 := by unfold s5; split <;> rfl
theorem s5_24 : (s5 i S).a24 = S.a24 := by unfold s5; split <;> rfl
theorem s5_25 : (s5 i S).a25 = S.a25 := by unfold s5; split <;> rfl
theorem s5_26 : (s5 i S).a26 = S.a26 := by unfold s5; split <;> rfl
theorem s5_27 : (s5 i S).a27 = S.a27 := by unfold s5; split <;> rfl
theorem s5_28 : (s5 i S).a28 = S.a28 := by unfold s5; split <;> rfl
theorem s5_29 : (s5 i S).a29 = S.a29 := by unfold s5; split <;> rfl
theorem s6_2 : (s6 i S).a2 = S.a2 := by unfold s6; split <;> rfl
theorem s6_3 : (s6 i S).a3 = S.a3 := by unfold s6; split <;> rfl
theorem s6_4 : (s6 i S).a4 = S.a4 := by unfold s6; split <;> rfl
theorem s6_5 : (s6 i S).a5 = S.a5 := by unfold s6; split <;> rfl
theorem s6_6 : (s6 i S).a6 = S.a6 := by unfold s6; split <;> rfl
theorem s6_7 : (s6 i S).a7 = S.a7 := by unfold s6; split <;> rfl
theorem s6_8 : (s6 i S).a8 = S.a8 := by unfold s6; split <;> rfl
theorem s6_10 : (s6 i S).a10 = S.a10 := by unfold s6; split <;> rfl
theorem s6_12 : (s6 i S).a12 = S.a12 := by unfold s6; split <;> rfl
theorem s6_13 : (s6 i S).a13 = S.a13 := by unfold s6; split <;> rfl
theorem s6_14 : (s6 i S).a14 = S.a14 := by unfold s6; split <;> rfl
theorem s6_15 : (s6 i S).a15 = S.a15 := by unfold s6; split <;> rfl
theorem s6_16 : (s6 i S).a16 = S.a16 := by unfold s6; split <;> rfl
theorem s6_17 : (s6 i S).a17 = S.a17 := by unfold s6; split <;> rfl
theorem s6_18 : (s6 i S).a18 = S.a18 := by unfold s6; split <;> rfl
theorem s6_19 : (s6 i S).a19 = S.a19 := by unfold s6; split <;> rfl
theorem s6_20 : (s6 i S).a20 = S.a20 := by unfold s6; split <;> rfl
theorem s6_21 : (s6 i S).a21 = S.a21 := by unfold s6; split <;> rfl
theorem s6_22 : (s6 i S).a22 = S.a22 := by unfold s6; split <;> rfl
theorem s6_23 : (s6 i S).a23 = S.a23 := by unfold s6; split <;> rfl
theorem s6_24 : (s6 i S).a24 = S.a24 := by unfold s6; split <;> rfl
theorem s6_25 : (s6 i S).a25 = S.a25 := by unfold s6; split <;> rfl
theorem s6_26 : (s6 i S).a26 = S.a26 := by unfold s6; split <;> rfl
theorem s6_27 : (s6 i S).a27 = S.a27 := by unfold s6; split <;> rfl
theorem s6_28 : (s6 i S).a28 = S.a28 := by unfold s6; split <;> rfl
theorem s6_29 : (s6 i S).a29 = S.a29 := by unfold s6; split <;> rfl
theorem s6_30 : (s6 i S).a30 = S.a30 := by unfold s6; split <;> rfl
theorem s6_31 : (s6 i S).a31 = S.a31 := by unfold s6; split <;> rfl
theorem s7_2 : (s7 i S).a2 = S.a2 := by unfold s7; split <;> rfl
theorem s7_3 : (s7 i S).a3 = S.a3 := by unfold s7; split <;> rfl
theorem s7_4 : (s7 i S).a4 = S.a4 := by unfold s7; split <;> rfl
theorem s7_5 : (s7 i S).a5 = S.a5 := by unfold s7; split <;> rfl
theorem s7_6 : (s7 i S).a6 = S.a6 := by unfold s7; split <;> rfl
theorem s7_7 : (s7 i S).a7 = S.a7 := by unfold s7; split <;> rfl
theorem s7_8 : (s7 i S).a8 = S.a8 := by unfold s7; split <;> rfl
theorem s7_9 : (s7 i S).a9 = S.a9 := by unfold s7; split <;> rfl
theorem s7_11 : (s7 i S).a11 = S.a11 := by unfold s7; split <;> rfl
theorem s7_12 : (s7 i S).a12 = S.a12 := by unfold s7; split <;> rfl
theorem s7_13 : (s7 i S).a13 = S.a13 := by unfold s7; split <;> rfl
theorem s7_14 : (s7 i S).a14 = S.a14 := by unfold s7; split <;> rfl
theorem s7_15 : (s7 i S).a15 = S.a15 := by unfold s7; split <;> rfl
theorem s7_16 : (s7 i S).a16 = S.a16 := by unfold s7; split <;> rfl
theorem s7_17 : (s7 i S).a17 = S.a17 := by unfold s7; split <;> rfl
theorem s7_18 : (s7 i S).a18 = S.a18 := by unfold s7; split <;> rfl
theorem s7_19 : (s7 i S).a19 = S.a19 := by unfold s7; split <;> rfl
theorem s7_20 : (s7 i S).a20 = S.a20 := by unfold s7; split <;> rfl
theorem s7_21 : (s7 i S).a21 = S.a21 := by unfold s7; split <;> rfl
theorem s7_22 : (s7 i S).a22 = S.a22 := by unfold s7; split <;> rfl
theorem s7_23 : (s7 i S).a23 = S.a23 := by unfold s7; split <;> rfl
theorem s7_24 : (s7 i S).a24 = S.a24 := by unfold s7; split <;> rfl
theorem s7_25 : (s7 i S).a25 = S.a25 := by unfold s7; split <;> rfl
theorem s7_26 : (s7 i S).a26 = S.a26 := by unfold s7; split <;> rfl
theorem s7_27 : (s7 i S).a27 = S.a27 := by unfold s7; split <;> rfl
theorem s7_28 : (s7 i S).a28 = S.a28 := by unfold s7; split <;> rfl
theorem s7_29 : (s7 i S).a29 = S.a29 := by unfold s7; split <;> rfl
theorem s7_30 : (s7 i S).a30 = S.a30 := by unfold s7; split <;> rfl
theorem s7_31 : (s7 i S).a31 = S.a31 := by unfold s7; split <;> rfl

end Cert.KernelIdeal.Hand
-- ==== Proof.Inv.lean ====
/- The facts a grid point starts from and ends in: the tiles it is fed, and what the scratch buffers hold of the layer's
   values after so many points. -/
module

public import proofs.«01_k».proof.Proof.Acc
public import proofs.«01_k».proof.Proof.Pay
public import proofs.«01_k».proof.Proof.Keep

@[expose] public section

set_option maxRecDepth 16384

noncomputable section

namespace Cert.KernelIdeal.Hand

open Idealize.ShloMosaic Idealize.ShloMosaic.TcCoe
open Cert.KernelIdeal.Gen Cert.Hand

/-- The first `c` columns of a row tile hold the values of `f` at the tile's rows. -/
def Rows {N : ℕ} (i : ℕ) (f : ℕ → ℕ → EReal) (c : ℕ) (X : (⟨2, ![384, N]⟩ : Shape).Idx → EReal) : Prop :=
  ∀ (p : Fin 384) (n : Fin N), n.val < c → X (ix2 p n) = f (384 * i + p.val) n.val

/-- A column tile, starting at column `c`, of an array. -/
def Cols {M N : ℕ} (f : ℕ → ℕ → EReal) (c : ℕ) (X : (⟨2, ![M, N]⟩ : Shape).Idx → EReal) : Prop :=
  ∀ (k : Fin M) (n : Fin N), X (ix2 k n) = f k.val (c + n.val)

/-- The tiles a grid point is fed. -/
structure Feed (o : Ops) (i : grid3.Coords) (S : St Ideal) : Prop where
  x : Rows (i 0).val o.x 1024 S.a2
  g : (i 1).val < 8 → Cols o.wg (512 * (i 1).val) S.a3
  u : (i 1).val < 8 → Cols o.wu (512 * (i 1).val) S.a4
  dg : (i 1).val < 8 → Cols o.dg (512 * (i 1).val) S.a5
  du : (i 1).val < 8 → Cols o.du (512 * (i 1).val) S.a6
  d : 8 ≤ (i 1).val → Cols o.wd (256 * ((i 1).val - 8)) S.a7
  dd : 8 ≤ (i 1).val → Cols o.dd (256 * ((i 1).val - 8)) S.a8

/-- The row sums over the first `j` chunks. -/
def Tok (o : Ops) (i j : ℕ) (X : Vec Ideal S5x384x128 .f32) : Prop :=
  ∀ (q : Fin 5) (p : Fin 384) (l : Fin 128), X (ix3 q p l) = tk (o.E q.val (384 * i + p.val)) l.val j

/-- The column sums: over `i + 1` row tiles in the first `j` chunks of columns, over `i` in the others. -/
def Chan (o : Ops) (i j : ℕ) (X : Vec Ideal S4x8x1024 .f32) : Prop :=
  ∀ (q : Fin 4) (s : Fin 8) (n : Fin 1024), X (ix3 q s n) = ch (fun r => o.E q.val r n.val) s.val (if n.val < 256 * j then i + 1 else i)

/-- What the scratch buffers hold before chunk `j` of row tile `i`, of the row tile's quantised rows. -/
structure Quant (o : Ops) (i : ℕ) (K : Sc Ideal) : Prop where
  c : Rows i o.C 1024 K.a19
  s : Rows i (fun r _ => o.S r) 128 K.a20

/-- … of the hidden activations, over the first `j` chunks. -/
structure Hid (o : Ops) (i j : ℕ) (K : Sc Ideal) : Prop where
  hf : Rows i o.HF (512 * min j 8) K.a21
  hr : Rows i o.HR (512 * min j 8) K.a22
  hg : Rows i o.HG (512 * min j 8) K.a23
  hu : Rows i o.HU (512 * min j 8) K.a24
  hb : Rows i o.HR (512 * min j 8) K.a25
  mf : Rows i (fun r l => mx (o.HF r) l (min j 8)) 128 K.a26
  mr : Rows i (fun r l => mx (o.HR r) l (min j 8)) 128 K.a27

/-- … and of their scales. -/
structure Scl (o : Ops) (i : ℕ) (K : Sc Ideal) : Prop where
  sf : Rows i (fun r _ => o.SF r) 128 K.a28
  sr : Rows i (fun r _ => o.SR r) 128 K.a29

/-- The invariant before point `n`. -/
def InvO (o : Ops) (n : ℕ) (K : Sc Ideal) : Prop :=
  (n % 12 ≠ 0 → Quant o (n / 12) K ∧ Hid o (n / 12) (n % 12) K ∧ Tok o (n / 12) (n % 12 - 8) K.a30)
    ∧ (9 ≤ n % 12 → Scl o (n / 12) K) ∧ (n ≠ 0 → Chan o (n / 12) (n % 12 - 8) K.a31)

variable (o : Ops) (i : grid3.Coords)

theorem fold_mag {K : ℕ} {f : ℕ → EReal} {g : Fin K → EReal} (h : ∀ k, g k = f k.val) :
    Finset.fold max nI (fun k : Fin K => mag (g k)) Finset.univ = amax K f := by
  unfold amax; rw [show g = fun k => f k.val from funext h]

theorem q_19 (S : St Ideal) (hx : Rows (i 0).val o.x 1024 S.a2) (p : Fin 384) (z : Fin 1) :
    k3_pay19 (F := Ideal) S.a2 (ix2 p z) = o.S (384 * (i 0).val + p.val) := by
  rw [pay19_at]; exact congrArg scal (fold_mag fun k => hx p k k.isLt)

theorem q_20 (S : St Ideal) (hx : Rows (i 0).val o.x 1024 S.a2) (p : Fin 384) (k : Fin 1024) :
    k3_pay20 (F := Ideal) S.a2 (ix2 p k) = o.C (384 * (i 0).val + p.val) k.val := by
  rw [pay20_at, q_19 o i S hx, hx p k k.isLt]; rfl

/-- After the first block the quantised rows are there, and the running maxima and row sums are at their starts. -/
theorem t1 (S : St Ideal) (hS : Feed o i S) (hq : (i 1).val ≠ 0 → Quant o (i 0).val S.sc ∧ Hid o (i 0).val (i 1).val S.sc ∧ Tok o (i 0).val ((i 1).val - 8) S.sc.a30) :
    Quant o (i 0).val (s1 i S).sc ∧ Hid o (i 0).val (i 1).val (s1 i S).sc ∧ Tok o (i 0).val ((i 1).val - 8) (s1 i S).a30 := by
  by_cases hj : (i 1).val = 0
  swap
  · rw [s1_neg fun h => hj ((cond1_iff i).mp h)]; exact hq hj
  have h := (cond1_iff i).mpr hj
  rw [s1_pos h, hj]
  have e19 : (b1 i h S).a19 = k3_pay21 S.a2 := by dsimp only [b1]; rw [ovl_whole, rd_whole]
  have e20 : (b1 i h S).a20 = k3_pay23 S.a2 := by dsimp only [b1]; rw [ovl_whole, rd_whole]
  have e26 : (b1 i h S).a26 = k3_pay24 (F := Ideal) := by dsimp only [b1]; rw [ovl_whole]
  have e27 : (b1 i h S).a27 = k3_pay66 (k3_pay25 (F := Ideal)) := by dsimp only [b1]; rw [ovl_whole]
  have e30 : (b1 i h S).a30 = k3_pay67 (F := Ideal) := by dsimp only [b1]; rw [ovl_whole]
  refine ⟨⟨fun p k _ => ?_, fun p l _ => ?_⟩, ⟨fun p n hn => ?_, fun p n hn => ?_, fun p n hn => ?_, fun p n hn => ?_, fun p n hn => ?_, fun p l _ => ?_, fun p l _ => ?_⟩, fun q p l => ?_⟩
  · show (b1 i h S).a19 (ix2 p k) = _
    rw [e19, pay21_at, q_20 o i S hS.x]
  · show (b1 i h S).a20 (ix2 p l) = _
    rw [e20, pay23_at, q_19 o i S hS.x]
  · simp at hn
  · simp at hn
  · simp at hn
  · simp at hn
  · simp at hn
  · show (b1 i h S).a26 (ix2 p l) = _
    rw [e26, pay24_at]; rfl
  · show (b1 i h S).a27 (ix2 p l) = _
    rw [e27, pay66_at]; rfl
  · rw [e30, pay67_at]; rfl

/-- The codes of the quantised rows are written at the first chunk. -/
theorem t1_xc (S : St Ideal) (hS : Feed o i S) (hp : (i 1).val ≠ 0 → ∀ (p : Fin 384) (k : Fin 1024), S.a13 (ix2 p k) = code (o.C (384 * (i 0).val + p.val) k.val))
    (p : Fin 384) (k : Fin 1024) : (s1 i S).a13 (ix2 p k) = code (o.C (384 * (i 0).val + p.val) k.val) := by
  by_cases hj : (i 1).val = 0
  swap
  · rw [s1_neg fun h => hj ((cond1_iff i).mp h)]; exact hp hj p k
  have h := (cond1_iff i).mpr hj
  rw [s1_pos h]
  have e : (b1 i h S).a13 = k3_pay22 S.a2 := by dsimp only [b1]; rw [ovl_whole, rd_whole]
  rw [e, pay22_at, q_20 o i S hS.x]

/-- A row of scales written into the array of all rows' scales. -/
theorem row_at (f : ℕ → EReal) (iv : ℕ) (hi : iv < 24) (X : Vec Ideal S6x1536 .f32) (off : Fin 2 → ℕ) (inb : ∀ a, off a + S1x384.size a ≤ S6x1536.size a)
    (w : FVec Ideal S1x384 .f32) (ho : off = ![iv / 4, 384 * (iv % 4)]) (hw : ∀ p : Fin 384, w (ix2 0 p) = f (384 * iv + p.val))
    (hX : ∀ (a : Fin 6) (b : Fin 1536), 1536 * a.val + b.val < 384 * iv → X (ix2 a b) = f (1536 * a.val + b.val))
    (a : Fin 6) (b : Fin 1536) (hab : 1536 * a.val + b.val < 384 * (iv + 1)) :
    ovl X off S1x384.size inb w (ix2 a b) = f (1536 * a.val + b.val) := by
  subst ho
  by_cases hlt : 1536 * a.val + b.val < 384 * iv
  · rw [← hX a b hlt]
    have : a.val < iv / 4 ∨ b.val < 384 * (iv % 4) := by omega
    rcases this with h | h
    · exact ovl_out X _ _ inb w _ 0 (Or.inl h)
    · exact ovl_out X _ _ inb w _ 1 (Or.inl h)
  · have hb : 1536 * a.val + b.val - 384 * iv < 384 := by omega
    have e := ovl_in X _ _ inb w (ix2 (0 : Fin 1) (⟨1536 * a.val + b.val - 384 * iv, hb⟩ : Fin 384)) (ix2 a b) (fun c => by
      match c with
      | ⟨0, _⟩ => show a.val = iv / 4 + 0; omega
      | ⟨1, _⟩ => show b.val = 384 * (iv % 4) + (1536 * a.val + b.val - 384 * iv); omega)
    rw [e]
    refine (hw ⟨_, hb⟩).trans (congrArg f ?_)
    show 384 * iv + (1536 * a.val + b.val - 384 * iv) = _
    omega

/-- The first rows of an array of one value per row. -/
def Upto (f : ℕ → EReal) (r : ℕ) (X : Vec Ideal S6x1536 .f32) : Prop :=
  ∀ (a : Fin 6) (b : Fin 1536), 1536 * a.val + b.val < r → X (ix2 a b) = f (1536 * a.val + b.val)

theorem t1_xs (S : St Ideal) (hS : Feed o i S) (hp : Upto o.S (384 * (if 1 ≤ (i 1).val then (i 0).val + 1 else (i 0).val)) S.a14) :
    Upto o.S (384 * ((i 0).val + 1)) (s1 i S).a14 := by
  by_cases hj : (i 1).val = 0
  swap
  · rw [s1_neg fun h => hj ((cond1_iff i).mp h)]; rwa [if_pos (by omega)] at hp
  have h := (cond1_iff i).mpr hj
  rw [s1_pos h]
  rw [if_neg (by omega)] at hp
  have e : (b1 i h S).a14 = ovl S.a14 (k3_off1 i) S1x384.size (k3_off1_inb i h) (k3_pay68 (k3_pay19 S.a2)) := by dsimp only [b1]; rw [rd_whole]
  rw [e]
  exact fun a b hab => row_at o.S (i 0).val (crd0_lt i) S.a14 _ _ _ (off1_eq i) (fun p => by rw [pay68_at, q_19 o i S hS.x]) hp a b hab

/-- After the second block the column sums are there. -/
theorem t2 (S : St Ideal) (hp : ¬ ((i 1).val = 0 ∧ (i 0).val = 0) → Chan o (i 0).val ((i 1).val - 8) S.a31) : Chan o (i 0).val ((i 1).val - 8) (s2 i S).a31 := by
  by_cases hj : (i 1).val = 0 ∧ (i 0).val = 0
  swap
  · rw [s2_neg fun h => hj ((cond2_iff i).mp h)]; exact hp hj
  have h := (cond2_iff i).mpr hj
  rw [s2_pos h, hj.1, hj.2]
  have e : (b2 i h S).a31 = k3_pay69 (F := Ideal) := by dsimp only [b2]; rw [ovl_whole]
  intro q s n
  rw [e, pay69_at, if_neg (by omega)]; rfl

end Cert.KernelIdeal.Hand
-- ==== Proof.Inv3.lean ====
/- The hidden chunk: what the third block of the main body adds to the scratch buffers. -/
module

public import proofs.«01_k».proof.Proof.Inv

@[expose] public section

set_option maxRecDepth 16384

noncomputable section

namespace Cert.KernelIdeal.Hand

open Idealize.ShloMosaic Idealize.ShloMosaic.TcCoe
open Cert.KernelIdeal.Gen Cert.Hand

variable (o : Ops) (i : grid3.Coords)

theorem dot_of {N : ℕ} {K iv c : ℕ} {f g : ℕ → ℕ → EReal} {a : (⟨2, ![384, K]⟩ : Shape).Idx → EReal} {b : (⟨2, ![K, N]⟩ : Shape).Idx → EReal}
    (ha : Rows iv f K a) (hb : Cols g c b) (p : Fin 384) (n : Fin N) :
    ∑ k : Fin K, a (ix2 p k) * b (ix2 k n) = dot K f g (384 * iv + p.val) (c + n.val) :=
  Finset.sum_congr rfl fun k _ => by rw [ha p k k.isLt, hb k n]

/-- The first column of the broadcast scales, as the body loads it. -/
theorem col_at (f : ℕ → EReal) (iv : ℕ) (X : Vec Ideal S384x128 .f32) (hX : Rows iv (fun r _ => f r) 128 X) (p : Fin 384) :
    rd X (Rect.unit (s := S384x128) ![0, 0] S384x1.size inb_S384x128_S384x1_0_0).toLoadRect (ix2 p 0) = f (384 * iv + p.val) := by
  rw [rd_at X ![0, 0] S384x1.size inb_S384x128_S384x1_0_0 (ix2 p 0) (ix2 p 0) (fun c => by
    match c with
    | ⟨0, _⟩ => show p.val = 0 + p.val; omega
    | ⟨1, _⟩ => rfl)]
  exact hX p 0 (by decide)

/-- A chunk of columns written beside those already there. -/
theorem cols_at (f : ℕ → ℕ → EReal) (iv jv : ℕ) (hj : jv < 8) (X : S384x4096.Idx → EReal) (off : Fin 2 → ℕ)
    (inb : ∀ a, off a + S384x512.size a ≤ S384x4096.size a) (w : S384x512.Idx → EReal) (ho : off = ![0, 512 * jv])
    (hw : ∀ (p : Fin 384) (n : Fin 512), w (ix2 p n) = f (384 * iv + p.val) (512 * jv + n.val))
    (hX : Rows iv f (512 * min jv 8) X) : Rows iv f (512 * min (jv + 1) 8) (ovl X off S384x512.size inb w) := by
  subst ho
  intro p n hn
  by_cases hlt : n.val < 512 * jv
  · rw [ovl_out X _ _ inb w _ 1 (Or.inl hlt)]
    exact hX p n (by omega)
  · have hb : n.val - 512 * jv < 512 := by omega
    have e := ovl_in X _ _ inb w (ix2 p (⟨n.val - 512 * jv, hb⟩ : Fin 512)) (ix2 p n) (fun c => by
      match c with
      | ⟨0, _⟩ => show p.val = 0 + p.val; omega
      | ⟨1, _⟩ => show n.val = 512 * jv + (n.val - 512 * jv); omega)
    rw [e, hw]
    refine congrArg (f _) ?_
    show 512 * jv + (n.val - 512 * jv) = _
    omega

section Pays
variable (S : St Ideal) (hS : Feed o i S) (hq : Quant o (i 0).val S.sc) (hj : (i 1).val < 8)
include hS hq hj

theorem v27 (p : Fin 384) (n : Fin 512) : k3_pay27 (F := Ideal) S.a2 S.a4 (ix2 p n) = o.UR (384 * (i 0).val + p.val) (512 * (i 1).val + n.val) := by
  rw [pay27_at]; exact dot_of hS.x (hS.u hj) p n

theorem v29 (p : Fin 384) (n : Fin 512) : k3_pay29 (F := Ideal) S.a2 S.a3 (ix2 p n) = swish (o.GR (384 * (i 0).val + p.val) (512 * (i 1).val + n.val)) := by
  rw [pay29_at]; exact congrArg swish (dot_of hS.x (hS.g hj) p n)

theorem v28 (p : Fin 384) (n : Fin 512) : k3_pay28 (F := Ideal) S.a19 (rd S.a20 (Rect.unit (s := S384x128) ![0, 0] S384x1.size inb_S384x128_S384x1_0_0).toLoadRect) S.a6 (ix2 p n) = o.UQ (384 * (i 0).val + p.val) (512 * (i 1).val + n.val) := by
  rw [pay28_at, col_at o.S (i 0).val S.a20 hq.s p]; exact congrArg (· * _) (dot_of hq.c (hS.du hj) p n)

theorem v30 (p : Fin 384) (n : Fin 512) : k3_pay30 (F := Ideal) S.a19 (rd S.a20 (Rect.unit (s := S384x128) ![0, 0] S384x1.size inb_S384x128_S384x1_0_0).toLoadRect) S.a5 (ix2 p n) = swish (o.GQ (384 * (i 0).val + p.val) (512 * (i 1).val + n.val)) := by
  rw [pay30_at, col_at o.S (i 0).val S.a20 hq.s p]; exact congrArg (fun z => swish (z * _)) (dot_of hq.c (hS.dg hj) p n)

theorem v31 (p : Fin 384) (n : Fin 512) : k3_pay31 (F := Ideal) S.a19 (rd S.a20 (Rect.unit (s := S384x128) ![0, 0] S384x1.size inb_S384x128_S384x1_0_0).toLoadRect) S.a5 S.a6 (ix2 p n) = o.HF (384 * (i 0).val + p.val) (512 * (i 1).val + n.val) := by
  rw [pay31_at, v30 o i S hS hq hj, v28 o i S hS hq hj]; rfl

theorem v32 (p : Fin 384) (n : Fin 512) : k3_pay32 (F := Ideal) S.a2 S.a3 S.a4 (ix2 p n) = o.HR (384 * (i 0).val + p.val) (512 * (i 1).val + n.val) := by
  rw [pay32_at, v29 o i S hS hq hj, v27 o i S hS hq hj]; rfl

end Pays

/-- After the third block the hidden activations' chunk is there. -/
theorem t3 (S : St Ideal) (hS : Feed o i S) (hq : Quant o (i 0).val S.sc) (hh : Hid o (i 0).val (i 1).val S.sc) :
    Hid o (i 0).val ((i 1).val + 1) (s3 i S).sc := by
  by_cases hj : (i 1).val < 8
  swap
  · rw [s3_neg fun h => hj ((cond3_iff i).mp h)]
    have e : min ((i 1).val + 1) 8 = min (i 1).val 8 := by omega
    obtain ⟨a, b, c, d, f, g, h⟩ := hh
    refine ⟨?_, ?_, ?_, ?_, ?_, ?_, ?_⟩ <;> rw [e] <;> assumption
  have h := (cond3_iff i).mpr hj
  rw [s3_pos h]
  have m1 : min ((i 1).val + 1) 8 = (i 1).val + 1 := by omega
  have m0 : min (i 1).val 8 = (i 1).val := by omega
  have e21 : (b3 i h S).a21 = ovl S.a21 (k3_off2 i) S384x512.size (k3_off2_inb i h) (k3_pay33 S.a19 (rd S.a20 (Rect.unit (s := S384x128) ![0, 0] S384x1.size inb_S384x128_S384x1_0_0).toLoadRect) S.a5 S.a6) := by dsimp only [b3]; repeat rw [rd_whole]
  have e22 : (b3 i h S).a22 = ovl S.a22 (k3_off2 i) S384x512.size (k3_off2_inb i h) (k3_pay34 S.a2 S.a3 S.a4) := by dsimp only [b3]; repeat rw [rd_whole]
  have e23 : (b3 i h S).a23 = ovl S.a23 (k3_off2 i) S384x512.size (k3_off2_inb i h) (k3_pay2 (k3_pay27 S.a2 S.a4) (k3_pay30 S.a19 (rd S.a20 (Rect.unit (s := S384x128) ![0, 0] S384x1.size inb_S384x128_S384x1_0_0).toLoadRect) S.a5)) := by dsimp only [b3]; repeat rw [rd_whole]
  have e24 : (b3 i h S).a24 = ovl S.a24 (k3_off2 i) S384x512.size (k3_off2_inb i h) (k3_pay3 (k3_pay28 S.a19 (rd S.a20 (Rect.unit (s := S384x128) ![0, 0] S384x1.size inb_S384x128_S384x1_0_0).toLoadRect) S.a6) (k3_pay29 S.a2 S.a3)) := by dsimp only [b3]; repeat rw [rd_whole]
  have e25 : (b3 i h S).a25 = ovl S.a25 (k3_off2 i) S384x512.size (k3_off2_inb i h) (k3_pay1 (k3_pay35 S.a2 S.a3 S.a4)) := by dsimp only [b3]; repeat rw [rd_whole]
  have e26 : (b3 i h S).a26 = k3_pay4 (k3_pay31 S.a19 (rd S.a20 (Rect.unit (s := S384x128) ![0, 0] S384x1.size inb_S384x128_S384x1_0_0).toLoadRect) S.a5 S.a6) S.a26 := by dsimp only [b3]; rw [ovl_whole]; repeat rw [rd_whole]
  have e27 : (b3 i h S).a27 = k3_pay5 (k3_pay32 S.a2 S.a3 S.a4) S.a27 := by dsimp only [b3]; rw [ovl_whole]; repeat rw [rd_whole]
  refine ⟨?_, ?_, ?_, ?_, ?_, fun p l hl => ?_, fun p l hl => ?_⟩
  · show Rows _ _ _ (b3 i h S).a21
    rw [e21]
    exact cols_at o.HF _ _ hj S.a21 _ _ _ (off2_eq i) (fun p n => by rw [pay33_at, v31 o i S hS hq hj]) hh.hf
  · show Rows _ _ _ (b3 i h S).a22
    rw [e22]
    exact cols_at o.HR _ _ hj S.a22 _ _ _ (off2_eq i) (fun p n => by rw [pay34_at, v32 o i S hS hq hj]) hh.hr
  · show Rows _ _ _ (b3 i h S).a23
    rw [e23]
    exact cols_at o.HG _ _ hj S.a23 _ _ _ (off2_eq i) (fun p n => by rw [pay2_at, v27 o i S hS hq hj, v30 o i S hS hq hj]; rfl) hh.hg
  · show Rows _ _ _ (b3 i h S).a24
    rw [e24]
    exact cols_at o.HU _ _ hj S.a24 _ _ _ (off2_eq i) (fun p n => by rw [pay3_at, v29 o i S hS hq hj, v28 o i S hS hq hj]; rfl) hh.hu
  · show Rows _ _ _ (b3 i h S).a25
    rw [e25]
    exact cols_at o.HR _ _ hj S.a25 _ _ _ (off2_eq i) (fun p n => by rw [pay1_at, v32 o i S hS hq hj]) hh.hb
  · show (b3 i h S).a26 (ix2 p l) = _
    rw [e26, pay4_at, m1, v31 o i S hS hq hj, v31 o i S hS hq hj, v31 o i S hS hq hj, v31 o i S hS hq hj]
    have := hh.mf p l hl
    rw [m0] at this
    exact congrArg (fun z => max z _) this
  · show (b3 i h S).a27 (ix2 p l) = _
    rw [e27, pay5_at, m1, v32 o i S hS hq hj, v32 o i S hS hq hj, v32 o i S hS hq hj, v32 o i S hS hq hj]
    have := hh.mr p l hl
    rw [m0] at this
    exact congrArg (fun z => max z _) this

end Cert.KernelIdeal.Hand
-- ==== Proof.Alg.lean ====
/- Facts of the arithmetic the kernel does in an order of its own: a maximum and a sum gathered chunk by chunk and lane by
   lane are the whole row's or column's, and a rounded and clipped value goes through its code unchanged. -/
module

public import proofs.«01_k».proof.Proof.Spec

@[expose] public section

set_option maxRecDepth 16384

noncomputable section

namespace Cert.Hand

open Idealize.ShloMosaic

theorem hi_eq : hi = ((127 : ℤ) : ℝ) := by
  unfold hi
  simp [Ideal.ofBits, Ideal.ieee, -EReal.coe_mul]; norm_num

theorem lo_eq : lo = ((-127 : ℤ) : ℝ) := by
  unfold lo
  simp [Ideal.ofBits, Ideal.ieee, -EReal.coe_mul, -EReal.coe_neg]; norm_num

theorem clip_int (v s : EReal) : ∃ z : ℤ, -127 ≤ z ∧ z ≤ 127 ∧ clip v s = ((z : ℝ) : EReal) := by
  unfold clip
  rw [hi_eq, lo_eq]
  generalize Ideal.div v s = q
  induction q with
  | bot => exact ⟨-127, le_refl _, by norm_num, by rw [Ideal.liftRound_bot, max_eq_left bot_le, min_eq_right (by norm_cast)]⟩
  | top => exact ⟨127, by norm_num, le_refl _, by rw [Ideal.liftRound_top, max_eq_right le_top, min_eq_left le_top]⟩
  | coe r =>
    refine ⟨min 127 (max (-127) (Ideal.roundHalfEven r)), by omega, by omega, ?_⟩
    rw [Ideal.liftRound_coe, ← EReal.coe_strictMono.monotone.map_max, ← EReal.coe_strictMono.monotone.map_min]
    norm_cast

theorem code_int (z : ℤ) (h : -127 ≤ z) (h' : z ≤ 127) : code ((z : ℝ) : EReal) = BitVec.ofInt 8 z := by
  show Ideal.fptosi 8 _ = _
  unfold Ideal.fptosi
  rw [Ideal.toIntClamped_coe, Int.floor_intCast, Int.ceil_intCast, ite_self]
  congr 1
  norm_num
  omega

theorem code_back (v s : EReal) : (((code (clip v s)).toInt : ℝ) : EReal) = clip v s := by
  obtain ⟨z, h, h', e⟩ := clip_int v s
  rw [e, code_int z h h', BitVec.toInt_ofInt, Int.bmod_eq_of_le (by norm_num; omega) (by norm_num; omega)]

/-- The conversion by way of a wide integer gives the same code. -/
theorem code_wide (v s : EReal) : BitVec.truncate 8 (Ideal.fptosi 32 (clip v s)) = code (clip v s) := by
  obtain ⟨z, h, h', e⟩ := clip_int v s
  rw [e, code_int z h h']
  unfold Ideal.fptosi
  rw [Ideal.toIntClamped_coe, Int.floor_intCast, Int.ceil_intCast, ite_self]
  rw [show max (-((2 ^ (32 - 1) : ℕ) : ℤ)) (min (((2 ^ (32 - 1) : ℕ) : ℤ) - 1) z) = z by norm_num; omega]
  apply BitVec.eq_of_toInt_eq
  interval_cases z <;> decide

theorem mag_nonneg (x : EReal) : 0 ≤ mag x := by
  show 0 ≤ max x (-x)
  rcases le_total 0 x with h | h
  · exact le_max_of_le_left h
  · exact le_max_of_le_right (EReal.neg_nonneg.mpr h)

theorem mx_le (f : ℕ → EReal) (l : ℕ) (c : EReal) : ∀ n, mx f l n ≤ c ↔ 0 ≤ c ∧ ∀ m < n, mag (f (512 * m + l)) ≤ c ∧ mag (f (512 * m + (128 + l))) ≤ c ∧ mag (f (512 * m + (256 + l))) ≤ c ∧ mag (f (512 * m + (384 + l))) ≤ c := by
  intro n
  induction n with
  | zero => simp [mx]
  | succ n ih =>
    rw [mx, max_le_iff, max_le_iff, max_le_iff, max_le_iff, ih]
    constructor
    · rintro ⟨⟨h0, h⟩, ⟨⟨a, b⟩, d⟩, e⟩
      refine ⟨h0, fun m hm => ?_⟩
      rcases Nat.lt_succ_iff_lt_or_eq.mp hm with hm | rfl
      · exact h m hm
      · exact ⟨a, b, d, e⟩
    · rintro ⟨h0, h⟩
      obtain ⟨a, b, d, e⟩ := h n (by omega)
      exact ⟨⟨h0, fun m hm => h m (by omega)⟩, ⟨⟨a, b⟩, d⟩, e⟩

/-- The largest of the lanes' running maxima is the row's largest magnitude. -/
theorem fold_mx (f : ℕ → EReal) : Finset.fold max nI (fun l : Fin 128 => mx f l.val 8) Finset.univ = amax 4096 f := by
  apply eq_of_forall_ge_iff
  intro c
  unfold amax
  rw [Finset.fold_max_le, Finset.fold_max_le]
  refine and_congr_right fun _ => ⟨fun h k _ => ?_, fun h l _ => ?_⟩
  · have hl : k.val % 128 < 128 := Nat.mod_lt _ (by omega)
    obtain ⟨a, b, d, e⟩ := ((mx_le f _ c 8).mp (h ⟨k.val % 128, hl⟩ (Finset.mem_univ _))).2 (k.val / 512) (by omega)
    have : k.val = 512 * (k.val / 512) + k.val % 128 ∨ k.val = 512 * (k.val / 512) + (128 + k.val % 128) ∨ k.val = 512 * (k.val / 512) + (256 + k.val % 128) ∨ k.val = 512 * (k.val / 512) + (384 + k.val % 128) := by omega
    rcases this with q | q | q | q
    · rw [q]; exact a
    · rw [q]; exact b
    · rw [q]; exact d
    · rw [q]; exact e
  · refine (mx_le f _ c 8).mpr ⟨(mag_nonneg _).trans (h ⟨0, by omega⟩ (Finset.mem_univ _)), fun m hm => ?_⟩
    have := l.isLt
    exact ⟨h ⟨512 * m + l.val, by omega⟩ (Finset.mem_univ _), h ⟨512 * m + (128 + l.val), by omega⟩ (Finset.mem_univ _), h ⟨512 * m + (256 + l.val), by omega⟩ (Finset.mem_univ _), h ⟨512 * m + (384 + l.val), by omega⟩ (Finset.mem_univ _)⟩

theorem sum_tk_range (f : ℕ → EReal) : ∀ n, ∑ l ∈ Finset.range 128, tk f l n = ∑ k ∈ Finset.range (256 * n), f k := by
  intro n
  induction n with
  | zero => simp [tk]
  | succ n ih =>
    simp only [tk]
    rw [Finset.sum_add_distrib, ih, Finset.sum_add_distrib, show 256 * (n + 1) = 256 * n + (128 + 128) by omega, Finset.sum_range_add, Finset.sum_range_add]

/-- The lanes' running sums add up to the row's sum. -/
theorem sum_tk (f : ℕ → EReal) : ∑ l : Fin 128, tk f l.val 4 = ∑ n : Fin 1024, f n.val := by
  rw [Fin.sum_univ_eq_sum_range (fun l => tk f l 4) 128, sum_tk_range, Fin.sum_univ_eq_sum_range f 1024]

theorem sum_groups (g : ℕ → EReal) (m : ℕ) : ∑ b ∈ Finset.range m, ∑ s ∈ Finset.range 8, g (b * 8 + s) = ∑ k ∈ Finset.range (m * 8), g k := by
  induction m with
  | zero => simp
  | succ m ih => rw [Finset.sum_range_succ, ih, Nat.succ_mul, Finset.sum_range_add]

theorem sum_ch_range (f : ℕ → EReal) : ∀ n, ∑ s ∈ Finset.range 8, ch f s n = ∑ k ∈ Finset.range (384 * n), f k := by
  intro n
  induction n with
  | zero => simp [ch]
  | succ n ih =>
    simp only [ch]
    rw [Finset.sum_add_distrib, ih, show 384 * (n + 1) = 384 * n + 48 * 8 by omega, Finset.sum_range_add, ← sum_groups (fun k => f (384 * n + k)) 48, Finset.sum_comm]
    congr 1

/-- The groups' running sums add up to the column's sum. -/
theorem sum_ch (f : ℕ → EReal) : ∑ s : Fin 8, ch f s.val 24 = ∑ r : Fin 9216, f r.val := by
  rw [Fin.sum_univ_eq_sum_range (fun s => ch f s 24) 8, sum_ch_range, Fin.sum_univ_eq_sum_range f 9216]

end Cert.Hand
-- ==== Proof.Inv4.lean ====
/- The scales and codes of the hidden rows, and one chunk of the second projections: the fourth and fifth blocks of the
   main body. -/
module

public import proofs.«01_k».proof.Proof.Inv3
public import proofs.«01_k».proof.Proof.Alg

@[expose] public section

set_option maxRecDepth 16384

noncomputable section

namespace Cert.KernelIdeal.Hand

open Idealize.ShloMosaic Idealize.ShloMosaic.TcCoe
open Cert.KernelIdeal.Gen Cert.Hand

variable (o : Ops) (i : grid3.Coords)

theorem Hid.full {iv j : ℕ} {K : Sc Ideal} (h : Hid o iv j K) (hj : 8 ≤ j) : Hid o iv 8 K := by
  have e : min j 8 = min 8 8 := by omega
  obtain ⟨a, b, c, d, f, g, h⟩ := h
  rw [e] at a b c d f g h
  exact ⟨a, b, c, d, f, g, h⟩

/-- A whole tile of codes. -/
def Codes (iv : ℕ) (f : ℕ → ℕ → EReal) {N : ℕ} (X : (⟨2, ![384, N]⟩ : Shape).Idx → BitVec 8) : Prop :=
  ∀ (p : Fin 384) (k : Fin N), X (ix2 p k) = code (f (384 * iv + p.val) k.val)

section Quantise
variable (S : St Ideal) (hh : Hid o (i 0).val 8 S.sc)
include hh

theorem q_36 (p : Fin 384) : k3_pay36 (F := Ideal) S.a26 (ix2 p 0) = o.SF (384 * (i 0).val + p.val) := by
  rw [pay36_at, show (fun l : Fin 128 => S.a26 (ix2 p l)) = fun l => mx (o.HF (384 * (i 0).val + p.val)) l.val 8 from funext fun l => hh.mf p l l.isLt, fold_mx]
  rfl

theorem q_6 (p : Fin 384) : k3_pay6 (F := Ideal) (k3_pay41 (F := Ideal) S.a27) (k3_pay42 (F := Ideal) S.a27) (ix2 p 0) = o.SR (384 * (i 0).val + p.val) := by
  rw [pay6_at, show (fun l : Fin 128 => S.a27 (ix2 p l)) = fun l => mx (o.HR (384 * (i 0).val + p.val)) l.val 8 from funext fun l => hh.mr p l l.isLt, fold_mx]
  rfl

end Quantise

/-- After the fourth block the scales of the hidden rows are there, and their codes are written. -/
theorem t4 (S : St Ideal) (hh : 8 ≤ (i 1).val → Hid o (i 0).val 8 S.sc) (hs : 9 ≤ (i 1).val → Scl o (i 0).val S.sc ∧ Codes (i 0).val o.CF S.a15 ∧ Codes (i 0).val o.CR S.a17)
    (hj : 8 ≤ (i 1).val) : Scl o (i 0).val (s4 i S).sc ∧ Codes (i 0).val o.CF (s4 i S).a15 ∧ Codes (i 0).val o.CR (s4 i S).a17 := by
  by_cases h8 : (i 1).val = 8
  swap
  · rw [s4_neg fun h => h8 ((cond4_iff i).mp h)]; exact hs (by omega)
  have h := (cond4_iff i).mpr h8
  have hh := hh hj
  rw [s4_pos h]
  have e28 : (b4 i h S).a28 = k3_pay37 S.a26 := by dsimp only [b4]; rw [ovl_whole]; repeat rw [rd_whole]
  have e15 : (b4 i h S).a15 = k3_pay39 S.a26 S.a21 := by dsimp only [b4]; rw [ovl_whole]; repeat rw [rd_whole]
  have e29 : (b4 i h S).a29 = k3_pay7 (k3_pay41 S.a27) (k3_pay42 S.a27) := by dsimp only [b4]; rw [ovl_whole]; repeat rw [rd_whole]
  have e17 : (b4 i h S).a17 = k3_pay9 (k3_pay41 S.a27) (k3_pay42 S.a27) S.a22 := by dsimp only [b4]; rw [ovl_whole]; repeat rw [rd_whole]
  refine ⟨⟨fun p l _ => ?_, fun p l _ => ?_⟩, fun p k => ?_, fun p k => ?_⟩
  · show (b4 i h S).a28 (ix2 p l) = _
    rw [e28, pay37_at, q_36 o i S hh]
  · show (b4 i h S).a29 (ix2 p l) = _
    rw [e29, pay7_at, q_6 o i S hh]
  · rw [e15, pay39_at, q_36 o i S hh]
    exact congrArg (fun z => code (clip z _)) (hh.hf p k (by have := k.isLt; omega))
  · rw [e17, pay9_at, q_6 o i S hh]
    exact congrArg (fun z => code (clip z _)) (hh.hr p k (by have := k.isLt; omega))

theorem t4_sf (S : St Ideal) (hh : 8 ≤ (i 1).val → Hid o (i 0).val 8 S.sc) (hp : Upto o.SF (384 * (if 9 ≤ (i 1).val then (i 0).val + 1 else (i 0).val)) S.a16) :
    Upto o.SF (384 * (if 8 ≤ (i 1).val then (i 0).val + 1 else (i 0).val)) (s4 i S).a16 := by
  by_cases h8 : (i 1).val = 8
  swap
  · rw [s4_neg fun h => h8 ((cond4_iff i).mp h)]
    have : (8 ≤ (i 1).val) = (9 ≤ (i 1).val) := propext (by omega)
    simpa only [this] using hp
  have h := (cond4_iff i).mpr h8
  rw [s4_pos h]
  rw [if_neg (by omega)] at hp
  rw [if_pos (by omega)]
  have e : (b4 i h S).a16 = ovl S.a16 (k3_off3 i) S1x384.size (k3_off3_inb i h) (k3_pay38 S.a26) := by dsimp only [b4]; rw [rd_whole]
  rw [e]
  exact fun a b hab => row_at o.SF (i 0).val (crd0_lt i) S.a16 _ _ _ (off3_eq i) (fun p => by rw [pay38_at, q_36 o i S (hh (by omega))]) hp a b hab

theorem t4_sr (S : St Ideal) (hh : 8 ≤ (i 1).val → Hid o (i 0).val 8 S.sc) (hp : Upto o.SR (384 * (if 9 ≤ (i 1).val then (i 0).val + 1 else (i 0).val)) S.a18) :
    Upto o.SR (384 * (if 8 ≤ (i 1).val then (i 0).val + 1 else (i 0).val)) (s4 i S).a18 := by
  by_cases h8 : (i 1).val = 8
  swap
  · rw [s4_neg fun h => h8 ((cond4_iff i).mp h)]
    have : (8 ≤ (i 1).val) = (9 ≤ (i 1).val) := propext (by omega)
    simpa only [this] using hp
  have h := (cond4_iff i).mpr h8
  rw [s4_pos h]
  rw [if_neg (by omega)] at hp
  rw [if_pos (by omega)]
  have e : (b4 i h S).a18 = ovl S.a18 (k3_off3 i) S1x384.size (k3_off3_inb i h) (k3_pay8 (k3_pay41 S.a27) (k3_pay42 S.a27)) := by dsimp only [b4]; rw [rd_whole]
  rw [e]
  exact fun a b hab => row_at o.SR (i 0).val (crd0_lt i) S.a18 _ _ _ (off3_eq i) (fun p => by rw [pay8_at, q_6 o i S (hh (by omega))]) hp a b hab

/-- One plane of the row sums written over. -/
theorem tok1 (X : S5x384x128.Idx → EReal) (q : ℕ) (inb : ∀ a, (![q, 0, 0] : Fin 3 → ℕ) a + S1x384x128.size a ≤ S5x384x128.size a)
    (w : S1x384x128.Idx → EReal) (v : Fin 5) (p : Fin 384) (l : Fin 128) :
    ovl X ![q, 0, 0] S1x384x128.size inb w (ix3 v p l) = if v.val = q then w (ix3 0 p l) else X (ix3 v p l) := by
  split
  · next hv => exact ovl_in X _ _ inb w (ix3 0 p l) (ix3 v p l) (fun c => by
      match c with
      | ⟨0, _⟩ => show v.val = q + 0; omega
      | ⟨1, _⟩ => show p.val = 0 + p.val; omega
      | ⟨2, _⟩ => show l.val = 0 + l.val; omega)
  · next hv =>
    refine ovl_out X _ _ inb w _ 0 ?_
    show v.val < q ∨ q + 1 ≤ v.val
    omega

theorem tokr (X : S5x384x128.Idx → EReal) (q : Fin 5) (qn : ℕ) (hq : q.val = qn) (inb : ∀ a, (![qn, 0, 0] : Fin 3 → ℕ) a + S1x384x128.size a ≤ S5x384x128.size a) (p : Fin 384) (l : Fin 128) :
    rd X (Rect.unit (s := S5x384x128) ![qn, 0, 0] S1x384x128.size inb).toLoadRect (ix3 0 p l) = X (ix3 q p l) :=
  rd_at X _ _ inb (ix3 0 p l) (ix3 q p l) fun c => by
    match c with
    | ⟨0, _⟩ => show q.val = qn + 0; omega
    | ⟨1, _⟩ => show p.val = 0 + p.val; omega
    | ⟨2, _⟩ => show l.val = 0 + l.val; omega

/-- All five planes of the row sums added to, one after another. -/
theorem tok5 (X : S5x384x128.Idx → EReal) (b4 b0 b1 b2 b3) (w4 w0 w1 w2 w3 : S1x384x128.Idx → EReal) (e : ℕ → Fin 384 → Fin 128 → EReal)
    (h4 : ∀ p l, w4 (ix3 0 p l) = rd X (Rect.unit (s := S5x384x128) ![4, 0, 0] S1x384x128.size b4).toLoadRect (ix3 0 p l) + e 4 p l)
    (h0 : ∀ p l, w0 (ix3 0 p l) = rd (ovl X ![4, 0, 0] S1x384x128.size b4 w4) (Rect.unit (s := S5x384x128) ![0, 0, 0] S1x384x128.size b0).toLoadRect (ix3 0 p l) + e 0 p l)
    (h1 : ∀ p l, w1 (ix3 0 p l) = rd (ovl (ovl X ![4, 0, 0] S1x384x128.size b4 w4) ![0, 0, 0] S1x384x128.size b0 w0) (Rect.unit (s := S5x384x128) ![1, 0, 0] S1x384x128.size b1).toLoadRect (ix3 0 p l) + e 1 p l)
    (h2 : ∀ p l, w2 (ix3 0 p l) = rd (ovl (ovl (ovl X ![4, 0, 0] S1x384x128.size b4 w4) ![0, 0, 0] S1x384x128.size b0 w0) ![1, 0, 0] S1x384x128.size b1 w1) (Rect.unit (s := S5x384x128) ![2, 0, 0] S1x384x128.size b2).toLoadRect (ix3 0 p l) + e 2 p l)
    (h3 : ∀ p l, w3 (ix3 0 p l) = rd (ovl (ovl (ovl (ovl X ![4, 0, 0] S1x384x128.size b4 w4) ![0, 0, 0] S1x384x128.size b0 w0) ![1, 0, 0] S1x384x128.size b1 w1) ![2, 0, 0] S1x384x128.size b2 w2) (Rect.unit (s := S5x384x128) ![3, 0, 0] S1x384x128.size b3).toLoadRect (ix3 0 p l) + e 3 p l)
    (q : Fin 5) (p : Fin 384) (l : Fin 128) :
    ovl (ovl (ovl (ovl (ovl X ![4, 0, 0] S1x384x128.size b4 w4) ![0, 0, 0] S1x384x128.size b0 w0) ![1, 0, 0] S1x384x128.size b1 w1) ![2, 0, 0] S1x384x128.size b2 w2) ![3, 0, 0] S1x384x128.size b3 w3 (ix3 q p l)
      = X (ix3 q p l) + e q.val p l := by
  have r4 := h4 p l
  have r0 := h0 p l
  have r1 := h1 p l
  have r2 := h2 p l
  have r3 := h3 p l
  rw [tokr X 4 4 rfl b4] at r4
  rw [tokr _ 0 0 rfl b0, tok1, if_neg (by decide)] at r0
  rw [tokr _ 1 1 rfl b1, tok1, if_neg (by decide), tok1, if_neg (by decide)] at r1
  rw [tokr _ 2 2 rfl b2, tok1, if_neg (by decide), tok1, if_neg (by decide), tok1, if_neg (by decide)] at r2
  rw [tokr _ 3 3 rfl b3, tok1, if_neg (by decide), tok1, if_neg (by decide), tok1, if_neg (by decide), tok1, if_neg (by decide)] at r3
  rw [tok1, tok1, tok1, tok1, tok1]
  match q with
  | ⟨0, _⟩ => rw [if_neg (by dsimp only; decide), if_neg (by dsimp only; decide), if_neg (by dsimp only; decide), if_pos rfl, r0]; rfl
  | ⟨1, _⟩ => rw [if_neg (by dsimp only; decide), if_neg (by dsimp only; decide), if_pos rfl, r1]; rfl
  | ⟨2, _⟩ => rw [if_neg (by dsimp only; decide), if_pos rfl, r2]; rfl
  | ⟨3, _⟩ => rw [if_pos rfl, r3]; rfl
  | ⟨4, _⟩ => rw [if_neg (by dsimp only; decide), if_neg (by dsimp only; decide), if_neg (by dsimp only; decide), if_neg (by dsimp only; decide), if_pos rfl, r4]; rfl

/-- One chunk of one plane of the column sums written over. -/
theorem chan1 (X : S4x8x1024.Idx → EReal) (off : Fin 3 → ℕ) (q jv : ℕ) (inb : ∀ a, off a + S1x8x256.size a ≤ S4x8x1024.size a)
    (w : S1x8x256.Idx → EReal) (ho : off = ![q, 0, 256 * jv]) (v : Fin 4) (s : Fin 8) (n : Fin 1024) :
    ovl X off S1x8x256.size inb w (ix3 v s n)
      = if h : v.val = q ∧ 256 * jv ≤ n.val ∧ n.val - 256 * jv < 256 then w (ix3 0 s ⟨n.val - 256 * jv, h.2.2⟩) else X (ix3 v s n) := by
  subst ho
  split
  · next hv => exact ovl_in X _ _ inb w (ix3 0 s ⟨n.val - 256 * jv, hv.2.2⟩) (ix3 v s n) (fun c => by
      match c with
      | ⟨0, _⟩ => show v.val = q + 0; omega
      | ⟨1, _⟩ => show s.val = 0 + s.val; omega
      | ⟨2, _⟩ => show n.val = 256 * jv + (n.val - 256 * jv); omega)
  · next hv =>
    have : (v.val < q ∨ q + 1 ≤ v.val) ∨ (n.val < 256 * jv ∨ 256 * jv + 256 ≤ n.val) := by omega
    rcases this with h | h
    · exact ovl_out X _ _ inb w _ 0 h
    · exact ovl_out X _ _ inb w _ 2 h

theorem chanr (X : S4x8x1024.Idx → EReal) (off : Fin 3 → ℕ) (q : Fin 4) (qn : ℕ) (hq : q.val = qn) (jv : ℕ) (inb : ∀ a, off a + S1x8x256.size a ≤ S4x8x1024.size a)
    (ho : off = ![qn, 0, 256 * jv]) (s : Fin 8) (n : Fin 256) (n' : Fin 1024) (hn : n'.val = 256 * jv + n.val) :
    rd X (Rect.unit (s := S4x8x1024) off S1x8x256.size inb).toLoadRect (ix3 0 s n) = X (ix3 q s n') := by
  subst ho
  exact rd_at X _ _ inb (ix3 0 s n) (ix3 q s n') fun c => by
    match c with
    | ⟨0, _⟩ => show q.val = qn + 0; omega
    | ⟨1, _⟩ => show s.val = 0 + s.val; omega
    | ⟨2, _⟩ => exact hn

/-- One chunk of all four planes of the column sums added to, one after another. -/
theorem chan4 (X : S4x8x1024.Idx → EReal) (jv : ℕ) (hj : jv < 4) (f0 f1 f2 f3 : Fin 3 → ℕ) (b0 b1 b2 b3) (w0 w1 w2 w3 : S1x8x256.Idx → EReal) (e : ℕ → Fin 8 → ℕ → EReal)
    (g0 : f0 = ![0, 0, 256 * jv]) (g1 : f1 = ![1, 0, 256 * jv]) (g2 : f2 = ![2, 0, 256 * jv]) (g3 : f3 = ![3, 0, 256 * jv])
    (h0 : ∀ s n, w0 (ix3 0 s n) = rd X (Rect.unit (s := S4x8x1024) f0 S1x8x256.size b0).toLoadRect (ix3 0 s n) + e 0 s (256 * jv + n.val))
    (h1 : ∀ s n, w1 (ix3 0 s n) = rd (ovl X f0 S1x8x256.size b0 w0) (Rect.unit (s := S4x8x1024) f1 S1x8x256.size b1).toLoadRect (ix3 0 s n) + e 1 s (256 * jv + n.val))
    (h2 : ∀ s n, w2 (ix3 0 s n) = rd (ovl (ovl X f0 S1x8x256.size b0 w0) f1 S1x8x256.size b1 w1) (Rect.unit (s := S4x8x1024) f2 S1x8x256.size b2).toLoadRect (ix3 0 s n) + e 2 s (256 * jv + n.val))
    (h3 : ∀ s n, w3 (ix3 0 s n) = rd (ovl (ovl (ovl X f0 S1x8x256.size b0 w0) f1 S1x8x256.size b1 w1) f2 S1x8x256.size b2 w2) (Rect.unit (s := S4x8x1024) f3 S1x8x256.size b3).toLoadRect (ix3 0 s n) + e 3 s (256 * jv + n.val))
    (q : Fin 4) (s : Fin 8) (n : Fin 1024) :
    ovl (ovl (ovl (ovl X f0 S1x8x256.size b0 w0) f1 S1x8x256.size b1 w1) f2 S1x8x256.size b2 w2) f3 S1x8x256.size b3 w3 (ix3 q s n)
      = if 256 * jv ≤ n.val ∧ n.val - 256 * jv < 256 then X (ix3 q s n) + e q.val s n.val else X (ix3 q s n) := by
  rw [chan1 _ f3 3 jv _ _ g3, chan1 _ f2 2 jv _ _ g2, chan1 _ f1 1 jv _ _ g1, chan1 _ f0 0 jv _ _ g0]
  by_cases hn : 256 * jv ≤ n.val ∧ n.val - 256 * jv < 256
  swap
  · rw [if_neg hn, dif_neg fun h => hn h.2, dif_neg fun h => hn h.2, dif_neg fun h => hn h.2, dif_neg fun h => hn h.2]
  rw [if_pos hn]
  have hm : n.val = 256 * jv + (n.val - 256 * jv) := by omega
  have r0 := h0 s ⟨n.val - 256 * jv, hn.2⟩
  have r1 := h1 s ⟨n.val - 256 * jv, hn.2⟩
  have r2 := h2 s ⟨n.val - 256 * jv, hn.2⟩
  have r3 := h3 s ⟨n.val - 256 * jv, hn.2⟩
  dsimp only at r0 r1 r2 r3
  rw [← hm] at r0 r1 r2 r3
  rw [chanr _ f0 0 0 rfl jv b0 g0 s _ n hm] at r0
  rw [chanr _ f1 1 1 rfl jv b1 g1 s _ n hm, chan1 _ f0 0 jv _ _ g0, dif_neg fun h => absurd h.1 (by decide)] at r1
  rw [chanr _ f2 2 2 rfl jv b2 g2 s _ n hm, chan1 _ f1 1 jv _ _ g1, dif_neg fun h => absurd h.1 (by decide), chan1 _ f0 0 jv _ _ g0, dif_neg fun h => absurd h.1 (by decide)] at r2
  rw [chanr _ f3 3 3 rfl jv b3 g3 s _ n hm, chan1 _ f2 2 jv _ _ g2, dif_neg fun h => absurd h.1 (by decide), chan1 _ f1 1 jv _ _ g1, dif_neg fun h => absurd h.1 (by decide), chan1 _ f0 0 jv _ _ g0, dif_neg fun h => absurd h.1 (by decide)] at r3
  match q with
  | ⟨0, _⟩ => rw [dif_neg fun h => absurd h.1 (by show ¬ (0 = 3); decide), dif_neg fun h => absurd h.1 (by show ¬ (0 = 2); decide), dif_neg fun h => absurd h.1 (by show ¬ (0 = 1); decide), dif_pos ⟨rfl, hn⟩]; exact r0
  | ⟨1, _⟩ => rw [dif_neg fun h => absurd h.1 (by show ¬ (1 = 3); decide), dif_neg fun h => absurd h.1 (by show ¬ (1 = 2); decide), dif_pos ⟨rfl, hn⟩]; exact r1
  | ⟨2, _⟩ => rw [dif_neg fun h => absurd h.1 (by show ¬ (2 = 3); decide), dif_pos ⟨rfl, hn⟩]; exact r2
  | ⟨3, _⟩ => rw [dif_pos ⟨rfl, hn⟩]; exact r3

end Cert.KernelIdeal.Hand
-- ==== Proof.Inv5.lean ====
/- One chunk of the second projections with its errors, and the sums written out at the end: the fifth to seventh blocks
   of the main body. -/
module

public import proofs.«01_k».proof.Proof.Inv4

@[expose] public section

set_option maxRecDepth 16384

noncomputable section

namespace Cert.KernelIdeal.Hand

open Idealize.ShloMosaic Idealize.ShloMosaic.TcCoe
open Cert.KernelIdeal.Gen Cert.Hand

variable (o : Ops) (i : grid3.Coords)

theorem E4 (r n : ℕ) : o.E 4 r n = o.YR r n * o.YR r n := if_pos rfl
theorem E0 (r n : ℕ) : o.E 0 r n = sqd (o.YR r n) (o.Y0 r n) := by simp [Ops.E, Ops.Y, sqd]
theorem E1 (r n : ℕ) : o.E 1 r n = sqd (o.YR r n) (o.Y1 r n) := by simp [Ops.E, Ops.Y, sqd]
theorem E2 (r n : ℕ) : o.E 2 r n = sqd (o.YR r n) (o.Y2 r n) := by simp [Ops.E, Ops.Y, sqd]
theorem E3 (r n : ℕ) : o.E 3 r n = sqd (o.YR r n) (o.Y3 r n) := by simp [Ops.E, Ops.Y, sqd]

/-- A chunk of the reference's columns written beside those already there. -/
theorem y_at (f : ℕ → ℕ → EReal) (iv jv : ℕ) (X : S384x1024.Idx → EReal) (off : Fin 2 → ℕ)
    (inb : ∀ a, off a + S384x256.size a ≤ S384x1024.size a) (w : S384x256.Idx → EReal) (ho : off = ![0, 256 * jv])
    (hw : ∀ (p : Fin 384) (n : Fin 256), w (ix2 p n) = f (384 * iv + p.val) (256 * jv + n.val))
    (hX : 1 ≤ jv → Rows iv f (256 * jv) X) : Rows iv f (256 * (jv + 1)) (ovl X off S384x256.size inb w) := by
  subst ho
  intro p n hn
  by_cases hlt : n.val < 256 * jv
  · rw [ovl_out X _ _ inb w _ 1 (Or.inl hlt)]
    exact hX (by omega) p n hlt
  · have hb : n.val - 256 * jv < 256 := by omega
    have e := ovl_in X _ _ inb w (ix2 p (⟨n.val - 256 * jv, hb⟩ : Fin 256)) (ix2 p n) (fun c => by
      match c with
      | ⟨0, _⟩ => show p.val = 0 + p.val; omega
      | ⟨1, _⟩ => show n.val = 256 * jv + (n.val - 256 * jv); omega)
    rw [e, hw]
    refine congrArg (f _) ?_
    show 256 * jv + (n.val - 256 * jv) = _
    omega

/-- What the scratch buffers and codes hold when a chunk of the second projections starts. -/
structure Ready (S : St Ideal) : Prop where
  h : Hid o (i 0).val 8 S.sc
  s : Scl o (i 0).val S.sc
  cf : Codes (i 0).val o.CF S.a15
  cr : Codes (i 0).val o.CR S.a17

section Chunk
variable (S : St Ideal) (hS : Feed o i S) (R : Ready o i S) (hj : 8 ≤ (i 1).val)
include hS R hj

theorem w44 (p : Fin 384) (n : Fin 256) : k3_pay44 (F := Ideal) S.a7 S.a25 (ix2 p n) = o.YR (384 * (i 0).val + p.val) (256 * ((i 1).val - 8) + n.val) := by
  rw [pay44_at]; exact dot_of R.h.hb (hS.d hj) p n

theorem w47 (p : Fin 384) (n : Fin 256) : k3_pay47 (F := Ideal) S.a7 S.a23 (ix2 p n) = o.Y1 (384 * (i 0).val + p.val) (256 * ((i 1).val - 8) + n.val) := by
  rw [pay47_at]; exact dot_of R.h.hg (hS.d hj) p n

theorem w48 (p : Fin 384) (n : Fin 256) : k3_pay48 (F := Ideal) S.a7 S.a24 (ix2 p n) = o.Y2 (384 * (i 0).val + p.val) (256 * ((i 1).val - 8) + n.val) := by
  rw [pay48_at]; exact dot_of R.h.hu (hS.d hj) p n

theorem w46 (p : Fin 384) (n : Fin 256) : k3_pay46 (F := Ideal) S.a8 S.a15 (rd S.a28 (Rect.unit (s := S384x128) ![0, 0] S384x1.size inb_S384x128_S384x1_0_0).toLoadRect) (ix2 p n) = o.Y0 (384 * (i 0).val + p.val) (256 * ((i 1).val - 8) + n.val) := by
  rw [pay46_at, col_at o.SF (i 0).val S.a28 R.s.sf p]
  refine congrArg (· * _) (Finset.sum_congr rfl fun k _ => ?_)
  rw [R.cf p k, hS.dd hj k n]
  exact congrArg (· * _) (code_back _ _)

theorem w49 (p : Fin 384) (n : Fin 256) : k3_pay49 (F := Ideal) S.a8 S.a17 (rd S.a29 (Rect.unit (s := S384x128) ![0, 0] S384x1.size inb_S384x128_S384x1_0_0).toLoadRect) (ix2 p n) = o.Y3 (384 * (i 0).val + p.val) (256 * ((i 1).val - 8) + n.val) := by
  rw [pay49_at, col_at o.SR (i 0).val S.a29 R.s.sr p]
  refine congrArg (· * _) (Finset.sum_congr rfl fun k _ => ?_)
  rw [R.cr p k, hS.dd hj k n]
  exact congrArg (· * _) (code_back _ _)

theorem t5_y (hp : 9 ≤ (i 1).val → Rows (i 0).val o.YR (256 * ((i 1).val - 8)) S.a12) : Rows (i 0).val o.YR (256 * ((i 1).val - 7)) (s5 i S).a12 := by
  have h := (cond5_iff i).mpr hj
  rw [s5_pos h]
  have e : (b5 i h S).a12 = ovl S.a12 (k3_off4 i) S384x256.size (k3_off4_inb i h) (k3_pay45 S.a7 S.a25) := by dsimp only [b5]; repeat rw [rd_whole]
  rw [e]
  have := y_at o.YR (i 0).val ((i 1).val - 8) S.a12 _ (k3_off4_inb i h) (k3_pay45 S.a7 S.a25) (off4_eq i hj) (fun p n => by rw [pay45_at, w44 o i S hS R hj])
    (fun hj => hp (by omega))
  rwa [show (i 1).val - 7 = (i 1).val - 8 + 1 by omega]

theorem t5_tok (ht : Tok o (i 0).val ((i 1).val - 8) S.a30) : Tok o (i 0).val ((i 1).val - 8 + 1) (s5 i S).a30 := by
  have h := (cond5_iff i).mpr hj
  rw [s5_pos h]
  intro q p l
  dsimp only [b5]
  repeat rw [rd_whole]
  refine (tok5 S.a30 _ _ _ _ _ _ _ _ _ _ (fun q p l => o.E q (384 * (i 0).val + p.val) (256 * ((i 1).val - 8) + l.val) + o.E q (384 * (i 0).val + p.val) (256 * ((i 1).val - 8) + (128 + l.val))) ?_ ?_ ?_ ?_ ?_ q p l).trans ?_
  · intro p l; rw [pay50_at, w44 o i S hS R hj, w44 o i S hS R hj, E4, E4]
  · intro p l; rw [pay52_at, w44 o i S hS R hj, w44 o i S hS R hj, w46 o i S hS R hj, w46 o i S hS R hj, E0, E0]
  · intro p l; rw [pay57_at, w44 o i S hS R hj, w44 o i S hS R hj, w47 o i S hS R hj, w47 o i S hS R hj, E1, E1]
  · intro p l; rw [pay60_at, w44 o i S hS R hj, w44 o i S hS R hj, w48 o i S hS R hj, w48 o i S hS R hj, E2, E2]
  · intro p l; rw [pay10_at, w44 o i S hS R hj, w44 o i S hS R hj, w49 o i S hS R hj, w49 o i S hS R hj, E3, E3]
  · rw [ht q p l]; rfl

theorem t5_chan (ht : Chan o (i 0).val ((i 1).val - 8) S.a31) : Chan o (i 0).val ((i 1).val - 8 + 1) (s5 i S).a31 := by
  have h := (cond5_iff i).mpr hj
  have hjv : (i 1).val - 8 < 4 := by have := crd1_lt i; omega
  rw [s5_pos h]
  intro q s n
  dsimp only [b5]
  repeat rw [rd_whole]
  refine (chan4 S.a31 ((i 1).val - 8) hjv _ _ _ _ _ _ _ _ _ _ _ _ (fun q s n => ∑ b : Fin 48, o.E q (384 * (i 0).val + (b.val * 8 + s.val)) n) (off5_eq i hj) (off6_eq i hj) (off7_eq i hj) (off8_eq i hj) ?_ ?_ ?_ ?_ q s n).trans ?_
  · intro s n; rw [pay53_at]
    refine congrArg (_ + ·) (Finset.sum_congr rfl fun b _ => ?_)
    rw [w44 o i S hS R hj, w46 o i S hS R hj, E0]
  · intro s n; rw [pay58_at]
    refine congrArg (_ + ·) (Finset.sum_congr rfl fun b _ => ?_)
    rw [w44 o i S hS R hj, w47 o i S hS R hj, E1]
  · intro s n; rw [pay61_at]
    refine congrArg (_ + ·) (Finset.sum_congr rfl fun b _ => ?_)
    rw [w44 o i S hS R hj, w48 o i S hS R hj, E2]
  · intro s n; rw [pay11_at]
    refine congrArg (_ + ·) (Finset.sum_congr rfl fun b _ => ?_)
    rw [w44 o i S hS R hj, w49 o i S hS R hj, E3]
  · rw [ht q s n]
    by_cases h1 : n.val < 256 * ((i 1).val - 8)
    · rw [if_neg (by omega), if_pos h1, if_pos (by omega)]
    · by_cases h2 : n.val < 256 * ((i 1).val - 8 + 1)
      · rw [if_pos (by omega), if_neg h1, if_pos h2]; rfl
      · rw [if_neg (by omega), if_neg h1, if_neg h2]

end Chunk

/-- A row of sums written into one plane of the array of all rows' sums. -/
theorem plane_at (f : ℕ → EReal) (iv : ℕ) (X : S4x6x1536.Idx → EReal) (off : Fin 3 → ℕ) (q : ℕ) (inb : ∀ a, off a + S1x1x384.size a ≤ S4x6x1536.size a)
    (w : S1x1x384.Idx → EReal) (ho : off = ![q, iv / 4, 384 * (iv % 4)]) (hw : ∀ p : Fin 384, w (ix3 0 0 p) = f (384 * iv + p.val))
    (v : Fin 4) (a : Fin 6) (b : Fin 1536) :
    ovl X off S1x1x384.size inb w (ix3 v a b) = if v.val = q ∧ 384 * iv ≤ 1536 * a.val + b.val ∧ 1536 * a.val + b.val < 384 * (iv + 1) then f (1536 * a.val + b.val) else X (ix3 v a b) := by
  subst ho
  split
  · next hv =>
    have hb : 1536 * a.val + b.val - 384 * iv < 384 := by omega
    have e := ovl_in X _ _ inb w (ix3 (0 : Fin 1) (0 : Fin 1) (⟨1536 * a.val + b.val - 384 * iv, hb⟩ : Fin 384)) (ix3 v a b) (fun c => by
      match c with
      | ⟨0, _⟩ => show v.val = q + 0; omega
      | ⟨1, _⟩ => show a.val = iv / 4 + 0; omega
      | ⟨2, _⟩ => show b.val = 384 * (iv % 4) + (1536 * a.val + b.val - 384 * iv); omega)
    rw [e]
    refine (hw ⟨_, hb⟩).trans (congrArg f ?_)
    show 384 * iv + (1536 * a.val + b.val - 384 * iv) = _
    omega
  · next hv =>
    have : (v.val < q ∨ q + 1 ≤ v.val) ∨ (a.val < iv / 4 ∨ iv / 4 + 1 ≤ a.val) ∨ (b.val < 384 * (iv % 4) ∨ 384 * (iv % 4) + 384 ≤ b.val) := by omega
    rcases this with h | h | h
    · exact ovl_out X _ _ inb w _ 0 h
    · exact ovl_out X _ _ inb w _ 1 h
    · exact ovl_out X _ _ inb w _ 2 h

theorem tok_sum (S : St Ideal) (ht : Tok o (i 0).val 4 S.a30) (q : Fin 5) (qn : ℕ) (hq : q.val = qn) (inb) (p : Fin 384) :
    ∑ l : Fin 128, rd S.a30 (Rect.unit (s := S5x384x128) ![qn, 0, 0] S1x384x128.size inb).toLoadRect (ix3 0 p l) = o.TOK qn (384 * (i 0).val + p.val) := by
  subst hq
  rw [Finset.sum_congr rfl fun l _ => (tokr S.a30 q _ rfl inb p l).trans (ht q p l), sum_tk]
  rfl

/-- After the sixth block the row sums of the tile are in their array. -/
theorem t6 (S : St Ideal) (ht : (i 1).val = 11 → Tok o (i 0).val 4 S.a30)
    (hp : ∀ q : Fin 4, ∀ (a : Fin 6) (b : Fin 1536), 1536 * a.val + b.val < 384 * (i 0).val → S.a9 (ix3 q a b) = o.TOK q.val (1536 * a.val + b.val))
    (q : Fin 4) (a : Fin 6) (b : Fin 1536) (hab : 1536 * a.val + b.val < 384 * (if (i 1).val = 11 then (i 0).val + 1 else (i 0).val)) :
    (s6 i S).a9 (ix3 q a b) = o.TOK q.val (1536 * a.val + b.val) := by
  by_cases h11 : (i 1).val = 11
  swap
  · rw [s6_neg fun h => h11 ((cond6_iff i).mp h)]; rw [if_neg h11] at hab; exact hp q a b hab
  have h := (cond6_iff i).mpr h11
  rw [s6_pos h]
  rw [if_pos h11] at hab
  have ht := ht h11
  dsimp only [b6]
  rw [plane_at (o.TOK 3) (i 0).val _ _ 3 _ _ (off12_eq i) (fun p => by rw [pay12_at]; exact tok_sum o i S ht 3 3 rfl _ p),
    plane_at (o.TOK 2) (i 0).val _ _ 2 _ _ (off11_eq i) (fun p => by rw [pay65_at]; exact tok_sum o i S ht 2 2 rfl _ p),
    plane_at (o.TOK 1) (i 0).val _ _ 1 _ _ (off10_eq i) (fun p => by rw [pay64_at]; exact tok_sum o i S ht 1 1 rfl _ p),
    plane_at (o.TOK 0) (i 0).val _ _ 0 _ _ (off9_eq i) (fun p => by rw [pay63_at]; exact tok_sum o i S ht 0 0 rfl _ p)]
  have hq := q.isLt
  by_cases hlt : 1536 * a.val + b.val < 384 * (i 0).val
  · rw [if_neg (by omega), if_neg (by omega), if_neg (by omega), if_neg (by omega)]; exact hp q a b hlt
  · have : q.val = 3 ∨ q.val = 2 ∨ q.val = 1 ∨ q.val = 0 := by omega
    rcases this with e | e | e | e
    · rw [if_pos (by omega), e]
    · rw [if_neg (by omega), if_pos (by omega), e]
    · rw [if_neg (by omega), if_neg (by omega), if_pos (by omega), e]
    · rw [if_neg (by omega), if_neg (by omega), if_neg (by omega), if_pos (by omega), e]

theorem t6_sig (S : St Ideal) (ht : (i 1).val = 11 → Tok o (i 0).val 4 S.a30) (hp : Upto (o.TOK 4) (384 * (i 0).val) S.a11) :
    Upto (o.TOK 4) (384 * (if (i 1).val = 11 then (i 0).val + 1 else (i 0).val)) (s6 i S).a11 := by
  by_cases h11 : (i 1).val = 11
  swap
  · rw [s6_neg fun h => h11 ((cond6_iff i).mp h), if_neg h11]; exact hp
  have h := (cond6_iff i).mpr h11
  rw [s6_pos h, if_pos h11]
  dsimp only [b6]
  exact fun a b hab => row_at (o.TOK 4) (i 0).val (crd0_lt i) S.a11 _ _ _ (off13_eq i) (fun p => by rw [pay13_at]; exact tok_sum o i S (ht h11) 4 4 rfl _ p) hp a b hab

theorem chan_row (X : S4x1024.Idx → EReal) (q : ℕ) (inb : ∀ a, (![q, 0] : Fin 2 → ℕ) a + S1x1024.size a ≤ S4x1024.size a) (w : S1x1024.Idx → EReal) (v : Fin 4) (n : Fin 1024) :
    ovl X ![q, 0] S1x1024.size inb w (ix2 v n) = if v.val = q then w (ix2 0 n) else X (ix2 v n) := by
  split
  · next hv => exact ovl_in X _ _ inb w (ix2 0 n) (ix2 v n) (fun c => by
      match c with
      | ⟨0, _⟩ => show v.val = q + 0; omega
      | ⟨1, _⟩ => show n.val = 0 + n.val; omega)
  · next hv =>
    refine ovl_out X _ _ inb w _ 0 ?_
    show v.val < q ∨ q + 1 ≤ v.val
    omega

theorem chan_sum (S : St Ideal) (ht : Chan o 23 4 S.a31) (q : Fin 4) (qn : ℕ) (hq : q.val = qn) (inb) (n : Fin 1024) :
    ∑ s : Fin 8, rd S.a31 (Rect.unit (s := S4x8x1024) ![qn, 0, 0] S1x8x1024.size inb).toLoadRect (ix3 0 s n) = o.CHAN qn n.val := by
  subst hq
  have e : ∀ s : Fin 8, rd S.a31 (Rect.unit (s := S4x8x1024) ![q.val, 0, 0] S1x8x1024.size inb).toLoadRect (ix3 0 s n) = ch (fun r => o.E q.val r n.val) s.val 24 := fun s => by
    rw [rd_at S.a31 _ _ inb (ix3 0 s n) (ix3 q s n) fun c => by
      match c with
      | ⟨0, _⟩ => show q.val = q.val + 0; omega
      | ⟨1, _⟩ => show s.val = 0 + s.val; omega
      | ⟨2, _⟩ => show n.val = 0 + n.val; omega]
    have := ht q s n
    rw [if_pos (by have := n.isLt; omega)] at this
    exact this
  rw [Finset.sum_congr rfl fun s _ => e s, sum_ch]
  rfl

/-- At the last point the column sums are written. -/
theorem t7 (S : St Ideal) (hi : (i 0).val = 23) (hj : (i 1).val = 11) (ht : Chan o 23 4 S.a31) (q : Fin 4) (n : Fin 1024) :
    (s7 i S).a10 (ix2 q n) = o.CHAN q.val n.val := by
  have h := (cond7_iff i).mpr ⟨hj, hi⟩
  rw [s7_pos h]
  dsimp only [b7]
  rw [chan_row, chan_row, chan_row, chan_row, pay14_at, pay15_at, pay16_at, pay17_at, chan_sum o S ht 0 0 rfl, chan_sum o S ht 1 1 rfl, chan_sum o S ht 2 2 rfl, chan_sum o S ht 3 3 rfl]
  have hq := q.isLt
  have : q.val = 3 ∨ q.val = 2 ∨ q.val = 1 ∨ q.val = 0 := by omega
  rcases this with e | e | e | e
  · rw [if_pos e, e]
  · rw [if_neg (by omega), if_pos e, e]
  · rw [if_neg (by omega), if_neg (by omega), if_pos e, e]
  · rw [if_neg (by omega), if_neg (by omega), if_neg (by omega), if_pos e, e]

end Cert.KernelIdeal.Hand
-- ==== Proof.StepAll.lean ====
/- One point of the main region, all seven blocks of its body together: what the invariant and the windows' contents
   become. -/
module

public import proofs.«01_k».proof.Proof.Inv5
public import proofs.«01_k».proof.Proof.Keep

@[expose] public section

set_option maxRecDepth 16384

noncomputable section

namespace Cert.KernelIdeal.Hand

open Idealize.ShloMosaic Idealize.ShloMosaic.TcCoe
open Cert.KernelIdeal.Gen Cert.Hand

variable (o : Ops) (i : grid3.Coords)

/-- What the output windows hold when a point starts. -/
structure Prior (S : St Ideal) : Prop where
  tok : ∀ (q : Fin 4) (a : Fin 6) (b : Fin 1536), 1536 * a.val + b.val < 384 * (i 0).val → S.a9 (ix3 q a b) = o.TOK q.val (1536 * a.val + b.val)
  sig : Upto (o.TOK 4) (384 * (i 0).val) S.a11
  y : 9 ≤ (i 1).val → Rows (i 0).val o.YR (256 * ((i 1).val - 8)) S.a12
  xc : (i 1).val ≠ 0 → Codes (i 0).val o.C S.a13
  xs : Upto o.S (384 * (if 1 ≤ (i 1).val then (i 0).val + 1 else (i 0).val)) S.a14
  cf : 9 ≤ (i 1).val → Codes (i 0).val o.CF S.a15
  sf : Upto o.SF (384 * (if 9 ≤ (i 1).val then (i 0).val + 1 else (i 0).val)) S.a16
  cr : 9 ≤ (i 1).val → Codes (i 0).val o.CR S.a17
  sr : Upto o.SR (384 * (if 9 ≤ (i 1).val then (i 0).val + 1 else (i 0).val)) S.a18

/-- What they hold when it ends. -/
structure Post (S : St Ideal) : Prop where
  tok : ∀ (q : Fin 4) (a : Fin 6) (b : Fin 1536), 1536 * a.val + b.val < 384 * (if (i 1).val = 11 then (i 0).val + 1 else (i 0).val) → S.a9 (ix3 q a b) = o.TOK q.val (1536 * a.val + b.val)
  chan : (i 0).val = 23 → (i 1).val = 11 → ∀ (q : Fin 4) (n : Fin 1024), S.a10 (ix2 q n) = o.CHAN q.val n.val
  sig : Upto (o.TOK 4) (384 * (if (i 1).val = 11 then (i 0).val + 1 else (i 0).val)) S.a11
  y : 8 ≤ (i 1).val → Rows (i 0).val o.YR (256 * ((i 1).val - 7)) S.a12
  xc : Codes (i 0).val o.C S.a13
  xs : Upto o.S (384 * ((i 0).val + 1)) S.a14
  cf : 8 ≤ (i 1).val → Codes (i 0).val o.CF S.a15
  sf : Upto o.SF (384 * (if 8 ≤ (i 1).val then (i 0).val + 1 else (i 0).val)) S.a16
  cr : 8 ≤ (i 1).val → Codes (i 0).val o.CR S.a17
  sr : Upto o.SR (384 * (if 8 ≤ (i 1).val then (i 0).val + 1 else (i 0).val)) S.a18

theorem Quant.of {iv : ℕ} {S S' : St Ideal} (h : Quant o iv S.sc) (e19 : S'.a19 = S.a19) (e20 : S'.a20 = S.a20) : Quant o iv S'.sc :=
  ⟨by show Rows _ _ _ S'.a19; rw [e19]; exact h.c, by show Rows _ _ _ S'.a20; rw [e20]; exact h.s⟩

theorem Scl.of {iv : ℕ} {S S' : St Ideal} (h : Scl o iv S.sc) (e28 : S'.a28 = S.a28) (e29 : S'.a29 = S.a29) : Scl o iv S'.sc :=
  ⟨by show Rows _ _ _ S'.a28; rw [e28]; exact h.sf, by show Rows _ _ _ S'.a29; rw [e29]; exact h.sr⟩

theorem Hid.of {iv j : ℕ} {S S' : St Ideal} (h : Hid o iv j S.sc) (e21 : S'.a21 = S.a21) (e22 : S'.a22 = S.a22) (e23 : S'.a23 = S.a23) (e24 : S'.a24 = S.a24)
    (e25 : S'.a25 = S.a25) (e26 : S'.a26 = S.a26) (e27 : S'.a27 = S.a27) : Hid o iv j S'.sc :=
  ⟨by show Rows _ _ _ S'.a21; rw [e21]; exact h.hf, by show Rows _ _ _ S'.a22; rw [e22]; exact h.hr, by show Rows _ _ _ S'.a23; rw [e23]; exact h.hg,
   by show Rows _ _ _ S'.a24; rw [e24]; exact h.hu, by show Rows _ _ _ S'.a25; rw [e25]; exact h.hb, by show Rows _ _ _ S'.a26; rw [e26]; exact h.mf,
   by show Rows _ _ _ S'.a27; rw [e27]; exact h.mr⟩

theorem Feed.of {S S' : St Ideal} (h : Feed o i S) (e2 : S'.a2 = S.a2) (e3 : S'.a3 = S.a3) (e4 : S'.a4 = S.a4) (e5 : S'.a5 = S.a5) (e6 : S'.a6 = S.a6)
    (e7 : S'.a7 = S.a7) (e8 : S'.a8 = S.a8) : Feed o i S' :=
  ⟨by rw [e2]; exact h.x, by rw [e3]; exact h.g, by rw [e4]; exact h.u, by rw [e5]; exact h.dg, by rw [e6]; exact h.du, by rw [e7]; exact h.d, by rw [e8]; exact h.dd⟩

/-- The whole body at one point. -/
theorem step_all (S : St Ideal) (hS : Feed o i S) (hI : InvO o (12 * (i 0).val + (i 1).val) S.sc) (hP : Prior o i S) :
    InvO o (12 * (i 0).val + (i 1).val + 1) (step i S).sc ∧ Post o i (step i S) := by
  have hj := crd1_lt i
  have hi := crd0_lt i
  obtain ⟨I1, I2, I3⟩ := hI
  have d0 : (12 * (i 0).val + (i 1).val) / 12 = (i 0).val := by omega
  have d1 : (12 * (i 0).val + (i 1).val) % 12 = (i 1).val := by omega
  rw [d0, d1] at I1 I2 I3
  obtain ⟨q1, h1, k1⟩ := t1 o i S hS I1
  have xc1 := t1_xc o i S hS hP.xc
  have xs1 := t1_xs o i S hS hP.xs
  have c2 := t2 o i (s1 i S) (fun h => by rw [s1_31]; exact I3 (by omega))
  have q2 : Quant o (i 0).val (s2 i (s1 i S)).sc := q1.of o (s2_19 _ _) (s2_20 _ _)
  have h2 : Hid o (i 0).val (i 1).val (s2 i (s1 i S)).sc := h1.of o (s2_21 _ _) (s2_22 _ _) (s2_23 _ _) (s2_24 _ _) (s2_25 _ _) (s2_26 _ _) (s2_27 _ _)
  have f2 : Feed o i (s2 i (s1 i S)) := hS.of o i (by rw [s2_2, s1_2]) (by rw [s2_3, s1_3]) (by rw [s2_4, s1_4]) (by rw [s2_5, s1_5]) (by rw [s2_6, s1_6]) (by rw [s2_7, s1_7]) (by rw [s2_8, s1_8])
  have h3 := t3 o i (s2 i (s1 i S)) f2 q2 h2
  have f4 : Feed o i (s4 i (s3 i (s2 i (s1 i S)))) := f2.of o i (by rw [s4_2, s3_2]) (by rw [s4_3, s3_3]) (by rw [s4_4, s3_4]) (by rw [s4_5, s3_5]) (by rw [s4_6, s3_6]) (by rw [s4_7, s3_7]) (by rw [s4_8, s3_8])
  have r4 := t4 o i (s3 i (s2 i (s1 i S))) (fun h => h3.full o (by omega)) (fun h9 => ⟨(I2 h9).of o (by rw [s3_28, s2_28, s1_28]) (by rw [s3_29, s2_29, s1_29]),
    by rw [s3_15, s2_15, s1_15]; exact hP.cf h9, by rw [s3_17, s2_17, s1_17]; exact hP.cr h9⟩)
  have sf4 := t4_sf o i (s3 i (s2 i (s1 i S))) (fun h => h3.full o (by omega)) (by rw [s3_16, s2_16, s1_16]; exact hP.sf)
  have sr4 := t4_sr o i (s3 i (s2 i (s1 i S))) (fun h => h3.full o (by omega)) (by rw [s3_18, s2_18, s1_18]; exact hP.sr)
  have h4 : Hid o (i 0).val ((i 1).val + 1) (s4 i (s3 i (s2 i (s1 i S)))).sc := h3.of o (s4_21 _ _) (s4_22 _ _) (s4_23 _ _) (s4_24 _ _) (s4_25 _ _) (s4_26 _ _) (s4_27 _ _)
  have R (h8 : 8 ≤ (i 1).val) : Ready o i (s4 i (s3 i (s2 i (s1 i S)))) := ⟨h4.full o (by omega), (r4 h8).1, (r4 h8).2.1, (r4 h8).2.2⟩
  have k4 : Tok o (i 0).val ((i 1).val - 8) (s4 i (s3 i (s2 i (s1 i S)))).a30 := by rw [s4_30, s3_30, s2_30]; exact k1
  have c4 : Chan o (i 0).val ((i 1).val - 8) (s4 i (s3 i (s2 i (s1 i S)))).a31 := by rw [s4_31, s3_31]; exact c2
  have k5 : Tok o (i 0).val ((i 1).val + 1 - 8) (s5 i (s4 i (s3 i (s2 i (s1 i S))))).a30 := by
    by_cases h8 : 8 ≤ (i 1).val
    · rw [show (i 1).val + 1 - 8 = (i 1).val - 8 + 1 by omega]; exact t5_tok o i _ f4 (R h8) h8 k4
    · rw [s5_neg fun h => h8 ((cond5_iff i).mp h), show (i 1).val + 1 - 8 = (i 1).val - 8 by omega]; exact k4
  have c5 : Chan o (i 0).val ((i 1).val + 1 - 8) (s5 i (s4 i (s3 i (s2 i (s1 i S))))).a31 := by
    by_cases h8 : 8 ≤ (i 1).val
    · rw [show (i 1).val + 1 - 8 = (i 1).val - 8 + 1 by omega]; exact t5_chan o i _ f4 (R h8) h8 c4
    · rw [s5_neg fun h => h8 ((cond5_iff i).mp h), show (i 1).val + 1 - 8 = (i 1).val - 8 by omega]; exact c4
  have y5 (h8 : 8 ≤ (i 1).val) := t5_y o i _ f4 (R h8) h8 (fun h9 => by rw [s4_12, s3_12, s2_12, s1_12]; exact hP.y h9)
  have t6' := t6 o i (s5 i (s4 i (s3 i (s2 i (s1 i S))))) (fun h => by simpa only [h] using k5) (by rw [s5_9, s4_9, s3_9, s2_9, s1_9]; exact hP.tok)
  have g6 := t6_sig o i (s5 i (s4 i (s3 i (s2 i (s1 i S))))) (fun h => by simpa only [h] using k5) (by rw [s5_11, s4_11, s3_11, s2_11, s1_11]; exact hP.sig)
  have c7 : Chan o (i 0).val ((i 1).val + 1 - 8) (step i S).a31 := by unfold step; rw [s7_31, s6_31]; exact c5
  refine ⟨⟨fun hn => ?_, fun hn => ?_, fun _ => ?_⟩, ?_, ?_, ?_, ?_, ?_, ?_, ?_, ?_, ?_, ?_⟩
  · have e0 : (12 * (i 0).val + (i 1).val + 1) / 12 = (i 0).val := by omega
    have e1 : (12 * (i 0).val + (i 1).val + 1) % 12 = (i 1).val + 1 := by omega
    rw [e0, e1]
    exact ⟨q2.of o (by unfold step; rw [s7_19, s6_19, s5_19, s4_19, s3_19]) (by unfold step; rw [s7_20, s6_20, s5_20, s4_20, s3_20]), h4.of o (by unfold step; rw [s7_21, s6_21, s5_21]) (by unfold step; rw [s7_22, s6_22, s5_22]) (by unfold step; rw [s7_23, s6_23, s5_23]) (by unfold step; rw [s7_24, s6_24, s5_24]) (by unfold step; rw [s7_25, s6_25, s5_25]) (by unfold step; rw [s7_26, s6_26, s5_26]) (by unfold step; rw [s7_27, s6_27, s5_27]), by unfold step; show Tok _ _ _ (s7 i _).a30; rw [s7_30, s6_30]; exact k5⟩
  · have e0 : (12 * (i 0).val + (i 1).val + 1) / 12 = (i 0).val := by omega
    rw [e0]
    exact (r4 (by omega)).1.of o (by unfold step; rw [s7_28, s6_28, s5_28]) (by unfold step; rw [s7_29, s6_29, s5_29])
  · by_cases h11 : (i 1).val = 11
    · have e0 : (12 * (i 0).val + (i 1).val + 1) / 12 = (i 0).val + 1 := by omega
      have e1 : (12 * (i 0).val + (i 1).val + 1) % 12 = 0 := by omega
      rw [e0, e1]
      intro q s n
      have := c7 q s n
      rw [if_pos (by have := n.isLt; omega)] at this
      rw [if_neg (by omega)]
      exact this
    · have e0 : (12 * (i 0).val + (i 1).val + 1) / 12 = (i 0).val := by omega
      have e1 : (12 * (i 0).val + (i 1).val + 1) % 12 = (i 1).val + 1 := by omega
      rw [e0, e1]
      exact c7
  · unfold step; rw [s7_9]; exact t6'
  · intro hi hj
    exact t7 o i _ hi hj (by rw [s6_31]; have := c5; rwa [hi, hj] at this)
  · unfold step; rw [s7_11]; exact g6
  · intro h8; unfold step; rw [s7_12, s6_12]; exact y5 h8
  · unfold step; rw [s7_13, s6_13, s5_13, s4_13, s3_13, s2_13]; exact xc1
  · unfold step; rw [s7_14, s6_14, s5_14, s4_14, s3_14, s2_14]; exact xs1
  · intro h8; unfold step; rw [s7_15, s6_15, s5_15]; exact (r4 h8).2.1
  · unfold step; rw [s7_16, s6_16, s5_16]; exact sf4
  · intro h8; unfold step; rw [s7_17, s6_17, s5_17]; exact (r4 h8).2.2
  · unfold step; rw [s7_18, s6_18, s5_18]; exact sr4

end Cert.KernelIdeal.Hand
-- ==== Proof.Win.lean ====
/- What the main region's input windows hold at a point: the blocks of their arrays. -/
module

public import proofs.«01_k».proof.Proof.StepAll
public import proofs.«01_k».proof.Proof.Reg3
public import Idealize.ShloMosaic.Lib.Pipeline.FrameBody
public import Idealize.ShloMosaic.Lib.Pipeline.ValueKit.Geometry

@[expose] public section

set_option maxRecDepth 16384

noncomputable section

namespace Cert.KernelIdeal.Hand

open Idealize.ShloMosaic Idealize.ShloMosaic.TcCoe
open Idealize.ShloMosaic.Pipeline (Dat RDat)
open Cert.KernelIdeal.Gen Cert.Hand

/-- An array of two axes at a pair of numbers. -/
def arr2 {M N : ℕ} (X : (⟨2, ![M, N]⟩ : Shape).Idx → EReal) (r n : ℕ) : EReal := if h : r < M ∧ n < N then X (ix2 ⟨r, h.1⟩ ⟨n, h.2⟩) else 0

theorem arr2_at {M N : ℕ} (X : (⟨2, ![M, N]⟩ : Shape).Idx → EReal) (r : Fin M) (n : Fin N) : arr2 X r.val n.val = X (ix2 r n) :=
  dif_pos ⟨r.isLt, n.isLt⟩

theorem arr2_of {M N : ℕ} (X : (⟨2, ![M, N]⟩ : Shape).Idx → EReal) (y : (⟨2, ![M, N]⟩ : Shape).Idx) (r n : ℕ) (h0 : (y 0).val = r) (h1 : (y 1).val = n) : X y = arr2 X r n := by
  subst h0 h1
  exact (congrArg X (eq_ix2 y)).trans (arr2_at X (y 0) (y 1)).symm

theorem fill_moved {sig : RefSig} {G : Pipeline.Grid} (w : Pipeline.Window sig G) {α : Type} (i : G.Coords) (d : w.block.Idx → α) (g : (w.xblock i).Idx → α) (j : w.block.Idx)
    (h : ∀ a, (j a).val < w.xsize i a) : w.fill i d g j = g fun a => ⟨(j a).val, h a⟩ :=
  dif_pos ((w.moved_iff i j).mpr h)

variable (A : (c : Dev nD) → (w : Fin cfg3.W) → Buf (Elt Ideal) ((cfg3.win w).arr.view.loc (c.tc : Thread nD τ)))
variable (aft : Dev nD → (w : Fin cfg3.W) → Fin cfg3.N → (Y X : (cfg3.win w).block.Idx → Elt Ideal (cfg3.win w).elt) → Prop)
variable (Inv : Dev nD → ℕ → Sc Ideal → Prop) (c : Dev nD)

/-- The operands: the main region's input arrays. -/
def opsOf : Ops where
  x := arr2 (M := 9216) (N := 1024) (A c 0)
  wg := arr2 (M := 1024) (N := 4096) (A c 1)
  wu := arr2 (M := 1024) (N := 4096) (A c 2)
  dg := arr2 (M := 1024) (N := 4096) (A c 3)
  du := arr2 (M := 1024) (N := 4096) (A c 4)
  wd := arr2 (M := 4096) (N := 1024) (A c 5)
  dd := arr2 (M := 4096) (N := 1024) (A c 6)

theorem tr0 : ∀ i : grid3.Coords, cc3_transform_0 i = ![(i 0).val, 0] := by decide +kernel
theorem tr1 : ∀ i : grid3.Coords, (i 1).val < 8 → cc3_transform_1 i = ![0, (i 1).val] := by decide +kernel
theorem tr2 : ∀ i : grid3.Coords, (i 1).val < 8 → cc3_transform_2 i = ![0, (i 1).val] := by decide +kernel
theorem tr3 : ∀ i : grid3.Coords, (i 1).val < 8 → cc3_transform_3 i = ![0, (i 1).val] := by decide +kernel
theorem tr4 : ∀ i : grid3.Coords, (i 1).val < 8 → cc3_transform_4 i = ![0, (i 1).val] := by decide +kernel
theorem tr5 : ∀ i : grid3.Coords, 8 ≤ (i 1).val → cc3_transform_5 i = ![0, (i 1).val - 8] := by decide +kernel
theorem tr6 : ∀ i : grid3.Coords, 8 ≤ (i 1).val → cc3_transform_6 i = ![0, (i 1).val - 8] := by decide +kernel

section In
variable (hk : ∀ (w : Fin cfg3.W) t Y X, w.val < 7 → aft c w t Y X → X = Y)
include hk

theorem in0 (t : Fin cfg3.N) (Y) (h : (rd3 A aft Inv c).Finds 0 t Y) : Rows (grid3.coords t 0).val (opsOf A c).x 1024 (N := 1024) Y := by
  obtain ⟨d, rfl⟩ := RDat.finds_in_eq_fetched (rd3 A aft Inv c) 0 rfl (fun _ _ _ => rfl) (fun t Y X => hk 0 t Y X (by decide)) t Y h
  intro p n _
  refine (fill_moved (cfg3.win 0) (grid3.coords t) d ((rd3 A aft Inv c).blockOf 0 t) (ix2 p n) fun a => (ix2 p n a).isLt).trans ?_
  refine arr2_of (M := 9216) (N := 1024) (A c 0) _ _ _ ?_ ?_
  · show cc3_transform_0 (grid3.coords t) 0 * 384 + 1 * p.val = _
    rw [tr0]; show (grid3.coords t 0).val * 384 + 1 * p.val = _; omega
  · show cc3_transform_0 (grid3.coords t) 1 * 1024 + 1 * n.val = _
    rw [tr0]; show 0 * 1024 + 1 * n.val = _; omega

theorem in1 (t : Fin cfg3.N) (Y) (h : (rd3 A aft Inv c).Finds 1 t Y) (hj : (grid3.coords t 1).val < 8) : Cols (opsOf A c).wg (512 * (grid3.coords t 1).val) (M := 1024) (N := 512) Y := by
  obtain ⟨d, rfl⟩ := RDat.finds_in_eq_fetched (rd3 A aft Inv c) 1 rfl (fun _ _ _ => rfl) (fun t Y X => hk 1 t Y X (by decide)) t Y h
  intro p n
  refine (fill_moved (cfg3.win 1) (grid3.coords t) d ((rd3 A aft Inv c).blockOf 1 t) (ix2 p n) fun a => (ix2 p n a).isLt).trans ?_
  refine arr2_of (M := 1024) (N := 4096) (A c 1) _ _ _ ?_ ?_
  · show cc3_transform_1 (grid3.coords t) 0 * 1024 + 1 * p.val = _
    rw [tr1 _ hj]; show 0 * 1024 + 1 * p.val = _; omega
  · show cc3_transform_1 (grid3.coords t) 1 * 512 + 1 * n.val = _
    rw [tr1 _ hj]; show (grid3.coords t 1).val * 512 + 1 * n.val = _; omega

theorem in2 (t : Fin cfg3.N) (Y) (h : (rd3 A aft Inv c).Finds 2 t Y) (hj : (grid3.coords t 1).val < 8) : Cols (opsOf A c).wu (512 * (grid3.coords t 1).val) (M := 1024) (N := 512) Y := by
  obtain ⟨d, rfl⟩ := RDat.finds_in_eq_fetched (rd3 A aft Inv c) 2 rfl (fun _ _ _ => rfl) (fun t Y X => hk 2 t Y X (by decide)) t Y h
  intro p n
  refine (fill_moved (cfg3.win 2) (grid3.coords t) d ((rd3 A aft Inv c).blockOf 2 t) (ix2 p n) fun a => (ix2 p n a).isLt).trans ?_
  refine arr2_of (M := 1024) (N := 4096) (A c 2) _ _ _ ?_ ?_
  · show cc3_transform_2 (grid3.coords t) 0 * 1024 + 1 * p.val = _
    rw [tr2 _ hj]; show 0 * 1024 + 1 * p.val = _; omega
  · show cc3_transform_2 (grid3.coords t) 1 * 512 + 1 * n.val = _
    rw [tr2 _ hj]; show (grid3.coords t 1).val * 512 + 1 * n.val = _; omega

theorem in3 (t : Fin cfg3.N) (Y) (h : (rd3 A aft Inv c).Finds 3 t Y) (hj : (grid3.coords t 1).val < 8) : Cols (opsOf A c).dg (512 * (grid3.coords t 1).val) (M := 1024) (N := 512) Y := by
  obtain ⟨d, rfl⟩ := RDat.finds_in_eq_fetched (rd3 A aft Inv c) 3 rfl (fun _ _ _ => rfl) (fun t Y X => hk 3 t Y X (by decide)) t Y h
  intro p n
  refine (fill_moved (cfg3.win 3) (grid3.coords t) d ((rd3 A aft Inv c).blockOf 3 t) (ix2 p n) fun a => (ix2 p n a).isLt).trans ?_
  refine arr2_of (M := 1024) (N := 4096) (A c 3) _ _ _ ?_ ?_
  · show cc3_transform_3 (grid3.coords t) 0 * 1024 + 1 * p.val = _
    rw [tr3 _ hj]; show 0 * 1024 + 1 * p.val = _; omega
  · show cc3_transform_3 (grid3.coords t) 1 * 512 + 1 * n.val = _
    rw [tr3 _ hj]; show (grid3.coords t 1).val * 512 + 1 * n.val = _; omega

theorem in4 (t : Fin cfg3.N) (Y) (h : (rd3 A aft Inv c).Finds 4 t Y) (hj : (grid3.coords t 1).val < 8) : Cols (opsOf A c).du (512 * (grid3.coords t 1).val) (M := 1024) (N := 512) Y := by
  obtain ⟨d, rfl⟩ := RDat.finds_in_eq_fetched (rd3 A aft Inv c) 4 rfl (fun _ _ _ => rfl) (fun t Y X => hk 4 t Y X (by decide)) t Y h
  intro p n
  refine (fill_moved (cfg3.win 4) (grid3.coords t) d ((rd3 A aft Inv c).blockOf 4 t) (ix2 p n) fun a => (ix2 p n a).isLt).trans ?_
  refine arr2_of (M := 1024) (N := 4096) (A c 4) _ _ _ ?_ ?_
  · show cc3_transform_4 (grid3.coords t) 0 * 1024 + 1 * p.val = _
    rw [tr4 _ hj]; show 0 * 1024 + 1 * p.val = _; omega
  · show cc3_transform_4 (grid3.coords t) 1 * 512 + 1 * n.val = _
    rw [tr4 _ hj]; show (grid3.coords t 1).val * 512 + 1 * n.val = _; omega

theorem in5 (t : Fin cfg3.N) (Y) (h : (rd3 A aft Inv c).Finds 5 t Y) (hj : 8 ≤ (grid3.coords t 1).val) : Cols (opsOf A c).wd (256 * ((grid3.coords t 1).val - 8)) (M := 4096) (N := 256) Y := by
  obtain ⟨d, rfl⟩ := RDat.finds_in_eq_fetched (rd3 A aft Inv c) 5 rfl (fun _ _ _ => rfl) (fun t Y X => hk 5 t Y X (by decide)) t Y h
  intro p n
  refine (fill_moved (cfg3.win 5) (grid3.coords t) d ((rd3 A aft Inv c).blockOf 5 t) (ix2 p n) fun a => (ix2 p n a).isLt).trans ?_
  refine arr2_of (M := 4096) (N := 1024) (A c 5) _ _ _ ?_ ?_
  · show cc3_transform_5 (grid3.coords t) 0 * 4096 + 1 * p.val = _
    rw [tr5 _ hj]; show 0 * 4096 + 1 * p.val = _; omega
  · show cc3_transform_5 (grid3.coords t) 1 * 256 + 1 * n.val = _
    rw [tr5 _ hj]; show ((grid3.coords t 1).val - 8) * 256 + 1 * n.val = _; omega

theorem in6 (t : Fin cfg3.N) (Y) (h : (rd3 A aft Inv c).Finds 6 t Y) (hj : 8 ≤ (grid3.coords t 1).val) : Cols (opsOf A c).dd (256 * ((grid3.coords t 1).val - 8)) (M := 4096) (N := 256) Y := by
  obtain ⟨d, rfl⟩ := RDat.finds_in_eq_fetched (rd3 A aft Inv c) 6 rfl (fun _ _ _ => rfl) (fun t Y X => hk 6 t Y X (by decide)) t Y h
  intro p n
  refine (fill_moved (cfg3.win 6) (grid3.coords t) d ((rd3 A aft Inv c).blockOf 6 t) (ix2 p n) fun a => (ix2 p n a).isLt).trans ?_
  refine arr2_of (M := 4096) (N := 1024) (A c 6) _ _ _ ?_ ?_
  · show cc3_transform_6 (grid3.coords t) 0 * 4096 + 1 * p.val = _
    rw [tr6 _ hj]; show 0 * 4096 + 1 * p.val = _; omega
  · show cc3_transform_6 (grid3.coords t) 1 * 256 + 1 * n.val = _
    rw [tr6 _ hj]; show ((grid3.coords t 1).val - 8) * 256 + 1 * n.val = _; omega

theorem feed3 (t : Fin cfg3.N) (Y : Win Ideal) (K : Sc Ideal) (h : ∀ w, (rd3 A aft Inv c).Finds w t (Y w)) : Feed (opsOf A c) (grid3.coords t) (stOf Y K) where
  x := in0 A aft Inv c hk t _ (h 0)
  g := in1 A aft Inv c hk t _ (h 1)
  u := in2 A aft Inv c hk t _ (h 2)
  dg := in3 A aft Inv c hk t _ (h 3)
  du := in4 A aft Inv c hk t _ (h 4)
  d := in5 A aft Inv c hk t _ (h 5)
  dd := in6 A aft Inv c hk t _ (h 6)

end In

end Cert.KernelIdeal.Hand
-- ==== Proof.DqOut.lean ====
/- What each dequantising region leaves: its output array, entry by entry. -/
module

public import proofs.«01_k».proof.Proof.DqVal
public import proofs.«01_k».proof.Proof.Win
public import Idealize.ShloMosaic.Lib.Pipeline.ValueKit.Geometry

@[expose] public section

set_option maxRecDepth 16384

noncomputable section

namespace Cert.KernelIdeal.Hand

open Idealize.ShloMosaic Idealize.ShloMosaic.TcCoe
open Idealize.ShloMosaic.Pipeline (Dat RDat)
open Cert.KernelIdeal.Gen Cert.Hand

theorem band_in {N o : ℕ} (X : (⟨2, ![512, N]⟩ : Shape).Idx → EReal) (i : ∀ a, (![o, 0] : Fin 2 → ℕ) a + (![128, N] : Fin 2 → ℕ) a ≤ (![512, N] : Fin 2 → ℕ) a)
    (w : (⟨2, ![128, N]⟩ : Shape).Idx → EReal) (T : ℕ → ℕ → EReal) (hw : ∀ p n, w (ix2 p n) = T (o + p.val) n.val) (r : Fin 512) (n : Fin N) (h0 : o ≤ r.val) (h1 : r.val < o + 128) :
    ovl (s := (⟨2, ![512, N]⟩ : Shape)) X ![o, 0] ![128, N] i w (ix2 r n) = T r.val n.val := by
  rw [ovl_of_mem (s := (⟨2, ![512, N]⟩ : Shape)) X ![o, 0] ![128, N] i w (ix2 r n) (Fin.forall_fin_two.mpr ⟨⟨h0, h1⟩, ⟨Nat.zero_le _, by show n.val < 0 + N; omega⟩⟩)]
  refine (congrArg w (eq_ix2 (n0 := 128) (n1 := N) _)).trans ((hw _ _).trans (congr (congrArg T ?_) ?_))
  · show o + (r.val - o) = _; omega
  · show n.val - 0 = _; omega

theorem band_out {N o : ℕ} (X : (⟨2, ![512, N]⟩ : Shape).Idx → EReal) (i : ∀ a, (![o, 0] : Fin 2 → ℕ) a + (![128, N] : Fin 2 → ℕ) a ≤ (![512, N] : Fin 2 → ℕ) a)
    (w : (⟨2, ![128, N]⟩ : Shape).Idx → EReal) (r : Fin 512) (n : Fin N) (h : r.val < o) :
    ovl (s := (⟨2, ![512, N]⟩ : Shape)) X ![o, 0] ![128, N] i w (ix2 r n) = X (ix2 r n) :=
  ovl_of_not_mem (s := (⟨2, ![512, N]⟩ : Shape)) X ![o, 0] ![128, N] i w (ix2 r n) fun hh => absurd (show o ≤ r.val from (hh 0).1) (by omega)

theorem bands {N : ℕ} (X : (⟨2, ![512, N]⟩ : Shape).Idx → EReal) (i0 i1 i2 i3)
    (w0 w1 w2 w3 : (⟨2, ![128, N]⟩ : Shape).Idx → EReal) (T : ℕ → ℕ → EReal)
    (h0 : ∀ p n, w0 (ix2 p n) = T (0 + p.val) n.val) (h1 : ∀ p n, w1 (ix2 p n) = T (128 + p.val) n.val)
    (h2 : ∀ p n, w2 (ix2 p n) = T (256 + p.val) n.val) (h3 : ∀ p n, w3 (ix2 p n) = T (384 + p.val) n.val) (r : Fin 512) (n : Fin N) :
    ovl (s := (⟨2, ![512, N]⟩ : Shape)) (ovl (s := (⟨2, ![512, N]⟩ : Shape)) (ovl (s := (⟨2, ![512, N]⟩ : Shape)) (ovl (s := (⟨2, ![512, N]⟩ : Shape)) X ![0, 0] ![128, N] i0 w0)
      ![128, 0] ![128, N] i1 w1) ![256, 0] ![128, N] i2 w2) ![384, 0] ![128, N] i3 w3 (ix2 r n) = T r.val n.val := by
  have hr := r.isLt
  rcases (by omega : r.val < 128 ∨ (128 ≤ r.val ∧ r.val < 256) ∨ (256 ≤ r.val ∧ r.val < 384) ∨ 384 ≤ r.val) with h | h | h | h
  · rw [band_out _ i3 w3 r n (by omega), band_out _ i2 w2 r n (by omega), band_out _ i1 w1 r n (by omega)]
    exact band_in _ i0 w0 T h0 r n (by omega) (by omega)
  · rw [band_out _ i3 w3 r n (by omega), band_out _ i2 w2 r n (by omega)]
    exact band_in _ i1 w1 T h1 r n (by omega) (by omega)
  · rw [band_out _ i3 w3 r n (by omega)]
    exact band_in _ i2 w2 T h2 r n (by omega) (by omega)
  · exact band_in _ i3 w3 T h3 r n (by omega) (by omega)

/-- A byte of an array of two axes, at a pair of numbers. -/
def byt {M N : ℕ} (X : (⟨2, ![M, N]⟩ : Shape).Idx → BitVec 8) (r n : ℕ) : BitVec 8 := if h : r < M ∧ n < N then X (ix2 ⟨r, h.1⟩ ⟨n, h.2⟩) else 0

theorem byt_at {M N : ℕ} (X : (⟨2, ![M, N]⟩ : Shape).Idx → BitVec 8) (r : Fin M) (n : Fin N) : byt X r.val n.val = X (ix2 r n) :=
  dif_pos ⟨r.isLt, n.isLt⟩

theorem byt_of {M N : ℕ} (X : (⟨2, ![M, N]⟩ : Shape).Idx → BitVec 8) (y : (⟨2, ![M, N]⟩ : Shape).Idx) (r n : ℕ) (h0 : (y 0).val = r) (h1 : (y 1).val = n) : X y = byt X r n := by
  subst h0 h1
  exact (congrArg X (eq_ix2 y)).trans (byt_at X (y 0) (y 1)).symm

/-- An array of three axes, the middle one of extent 1, as one of two. -/
def flat3 {α : Type} {M N : ℕ} (X : (⟨3, ![M, 1, N]⟩ : Shape).Idx → α) : (⟨2, ![M, N]⟩ : Shape).Idx → α := fun y => X (ix3 (y 0) 0 (y 1))

theorem flat3_of {α : Type} {M N : ℕ} (X : (⟨3, ![M, 1, N]⟩ : Shape).Idx → α) (y : (⟨3, ![M, 1, N]⟩ : Shape).Idx) : X y = flat3 X (ix2 (y 0) (y 2)) := by
  refine congrArg X (funext fun a => ?_)
  match a with
  | ⟨0, _⟩ => rfl
  | ⟨1, _⟩ => exact Subsingleton.elim (α := Fin 1) _ _
  | ⟨2, _⟩ => rfl

/-- The dequantised weights over bytes, zero points and scales, of all rows. -/
def deqs (W : ℕ → ℕ → BitVec 8) (Z : ℕ → ℕ → BitVec 8) (S : ℕ → ℕ → EReal) (r n : ℕ) : EReal := deq (W (r / 2) n) (r % 2) (Z (r / 128) n) (S (r / 128) n)

theorem blk0_at (W : Vec Ideal S256x2048 .i8) (S : Vec Ideal S4x1x2048 .f32) (Z : Vec Ideal S4x1x2048 .i8) (X : Vec Ideal S512x2048 .bf16) (r : Fin 512) (n : Fin 2048) :
    out0 W S Z X (ix2 r n) = deqs (byt (M := 256) (N := 2048) W) (byt (M := 4) (N := 2048) (flat3 Z)) (arr2 (M := 4) (N := 2048) (flat3 S)) r.val n.val := by
  unfold out0
  refine bands (N := 2048) X _ _ _ _ _ _ _ _ _ ?_ ?_ ?_ ?_ r n
  · intro p n
    refine (dq0_3 _ _ _ p n).trans ?_
    rw [rd_at W ![0, 0] S64x2048.size _ _ (ix2 ⟨0 + p.val / 2, by omega⟩ n) (Fin.forall_fin_two.mpr ⟨rfl, by show n.val = 0 + n.val; omega⟩),
      rd_at Z ![0, 0, 0] S1x1x2048.size _ _ (ix3 0 0 n) (fun a => match a with | ⟨0, _⟩ => rfl | ⟨1, _⟩ => rfl | ⟨2, _⟩ => by show n.val = 0 + n.val; omega),
      rd_at S ![0, 0, 0] S1x1x2048.size _ _ (ix3 0 0 n) (fun a => match a with | ⟨0, _⟩ => rfl | ⟨1, _⟩ => rfl | ⟨2, _⟩ => by show n.val = 0 + n.val; omega)]
    have e1 : (0 + p.val) / 2 = 0 + p.val / 2 := by omega
    have e2 : (0 + p.val) % 2 = p.val % 2 := by omega
    have e3 : (0 + p.val) / 128 = 0 := by omega
    unfold deqs
    rw [e1, e2, e3]
    exact congr (congr (congrArg (deq · (p.val % 2)) (byt_at W ⟨0 + p.val / 2, by omega⟩ n).symm) (byt_at (flat3 Z) 0 n).symm) (arr2_at (flat3 S) 0 n).symm
  · intro p n
    refine (dq0_8 _ _ _ p n).trans ?_
    rw [rd_at W ![64, 0] S64x2048.size _ _ (ix2 ⟨64 + p.val / 2, by omega⟩ n) (Fin.forall_fin_two.mpr ⟨rfl, by show n.val = 0 + n.val; omega⟩),
      rd_at Z ![1, 0, 0] S1x1x2048.size _ _ (ix3 1 0 n) (fun a => match a with | ⟨0, _⟩ => rfl | ⟨1, _⟩ => rfl | ⟨2, _⟩ => by show n.val = 0 + n.val; omega),
      rd_at S ![1, 0, 0] S1x1x2048.size _ _ (ix3 1 0 n) (fun a => match a with | ⟨0, _⟩ => rfl | ⟨1, _⟩ => rfl | ⟨2, _⟩ => by show n.val = 0 + n.val; omega)]
    have e1 : (128 + p.val) / 2 = 64 + p.val / 2 := by omega
    have e2 : (128 + p.val) % 2 = p.val % 2 := by omega
    have e3 : (128 + p.val) / 128 = 1 := by omega
    unfold deqs
    rw [e1, e2, e3]
    exact congr (congr (congrArg (deq · (p.val % 2)) (byt_at W ⟨64 + p.val / 2, by omega⟩ n).symm) (byt_at (flat3 Z) 1 n).symm) (arr2_at (flat3 S) 1 n).symm
  · intro p n
    refine (dq0_1 _ _ _ p n).trans ?_
    rw [rd_at W ![128, 0] S64x2048.size _ _ (ix2 ⟨128 + p.val / 2, by omega⟩ n) (Fin.forall_fin_two.mpr ⟨rfl, by show n.val = 0 + n.val; omega⟩),
      rd_at Z ![2, 0, 0] S1x1x2048.size _ _ (ix3 2 0 n) (fun a => match a with | ⟨0, _⟩ => rfl | ⟨1, _⟩ => rfl | ⟨2, _⟩ => by show n.val = 0 + n.val; omega),
      rd_at S ![2, 0, 0] S1x1x2048.size _ _ (ix3 2 0 n) (fun a => match a with | ⟨0, _⟩ => rfl | ⟨1, _⟩ => rfl | ⟨2, _⟩ => by show n.val = 0 + n.val; omega)]
    have e1 : (256 + p.val) / 2 = 128 + p.val / 2 := by omega
    have e2 : (256 + p.val) % 2 = p.val % 2 := by omega
    have e3 : (256 + p.val) / 128 = 2 := by omega
    unfold deqs
    rw [e1, e2, e3]
    exact congr (congr (congrArg (deq · (p.val % 2)) (byt_at W ⟨128 + p.val / 2, by omega⟩ n).symm) (byt_at (flat3 Z) 2 n).symm) (arr2_at (flat3 S) 2 n).symm
  · intro p n
    refine (dq0_2 _ _ _ p n).trans ?_
    rw [rd_at W ![192, 0] S64x2048.size _ _ (ix2 ⟨192 + p.val / 2, by omega⟩ n) (Fin.forall_fin_two.mpr ⟨rfl, by show n.val = 0 + n.val; omega⟩),
      rd_at Z ![3, 0, 0] S1x1x2048.size _ _ (ix3 3 0 n) (fun a => match a with | ⟨0, _⟩ => rfl | ⟨1, _⟩ => rfl | ⟨2, _⟩ => by show n.val = 0 + n.val; omega),
      rd_at S ![3, 0, 0] S1x1x2048.size _ _ (ix3 3 0 n) (fun a => match a with | ⟨0, _⟩ => rfl | ⟨1, _⟩ => rfl | ⟨2, _⟩ => by show n.val = 0 + n.val; omega)]
    have e1 : (384 + p.val) / 2 = 192 + p.val / 2 := by omega
    have e2 : (384 + p.val) % 2 = p.val % 2 := by omega
    have e3 : (384 + p.val) / 128 = 3 := by omega
    unfold deqs
    rw [e1, e2, e3]
    exact congr (congr (congrArg (deq · (p.val % 2)) (byt_at W ⟨192 + p.val / 2, by omega⟩ n).symm) (byt_at (flat3 Z) 3 n).symm) (arr2_at (flat3 S) 3 n).symm

theorem blk1_at (W : Vec Ideal S256x2048 .i8) (S : Vec Ideal S4x1x2048 .f32) (Z : Vec Ideal S4x1x2048 .i8) (X : Vec Ideal S512x2048 .bf16) (r : Fin 512) (n : Fin 2048) :
    out1 W S Z X (ix2 r n) = deqs (byt (M := 256) (N := 2048) W) (byt (M := 4) (N := 2048) (flat3 Z)) (arr2 (M := 4) (N := 2048) (flat3 S)) r.val n.val := by
  unfold out1
  refine bands (N := 2048) X _ _ _ _ _ _ _ _ _ ?_ ?_ ?_ ?_ r n
  · intro p n
    refine (dq1_3 _ _ _ p n).trans ?_
    rw [rd_at W ![0, 0] S64x2048.size _ _ (ix2 ⟨0 + p.val / 2, by omega⟩ n) (Fin.forall_fin_two.mpr ⟨rfl, by show n.val = 0 + n.val; omega⟩),
      rd_at Z ![0, 0, 0] S1x1x2048.size _ _ (ix3 0 0 n) (fun a => match a with | ⟨0, _⟩ => rfl | ⟨1, _⟩ => rfl | ⟨2, _⟩ => by show n.val = 0 + n.val; omega),
      rd_at S ![0, 0, 0] S1x1x2048.size _ _ (ix3 0 0 n) (fun a => match a with | ⟨0, _⟩ => rfl | ⟨1, _⟩ => rfl | ⟨2, _⟩ => by show n.val = 0 + n.val; omega)]
    have e1 : (0 + p.val) / 2 = 0 + p.val / 2 := by omega
    have e2 : (0 + p.val) % 2 = p.val % 2 := by omega
    have e3 : (0 + p.val) / 128 = 0 := by omega
    unfold deqs
    rw [e1, e2, e3]
    exact congr (congr (congrArg (deq · (p.val % 2)) (byt_at W ⟨0 + p.val / 2, by omega⟩ n).symm) (byt_at (flat3 Z) 0 n).symm) (arr2_at (flat3 S) 0 n).symm
  · intro p n
    refine (dq1_8 _ _ _ p n).trans ?_
    rw [rd_at W ![64, 0] S64x2048.size _ _ (ix2 ⟨64 + p.val / 2, by omega⟩ n) (Fin.forall_fin_two.mpr ⟨rfl, by show n.val = 0 + n.val; omega⟩),
      rd_at Z ![1, 0, 0] S1x1x2048.size _ _ (ix3 1 0 n) (fun a => match a with | ⟨0, _⟩ => rfl | ⟨1, _⟩ => rfl | ⟨2, _⟩ => by show n.val = 0 + n.val; omega),
      rd_at S ![1, 0, 0] S1x1x2048.size _ _ (ix3 1 0 n) (fun a => match a with | ⟨0, _⟩ => rfl | ⟨1, _⟩ => rfl | ⟨2, _⟩ => by show n.val = 0 + n.val; omega)]
    have e1 : (128 + p.val) / 2 = 64 + p.val / 2 := by omega
    have e2 : (128 + p.val) % 2 = p.val % 2 := by omega
    have e3 : (128 + p.val) / 128 = 1 := by omega
    unfold deqs
    rw [e1, e2, e3]
    exact congr (congr (congrArg (deq · (p.val % 2)) (byt_at W ⟨64 + p.val / 2, by omega⟩ n).symm) (byt_at (flat3 Z) 1 n).symm) (arr2_at (flat3 S) 1 n).symm
  · intro p n
    refine (dq1_1 _ _ _ p n).trans ?_
    rw [rd_at W ![128, 0] S64x2048.size _ _ (ix2 ⟨128 + p.val / 2, by omega⟩ n) (Fin.forall_fin_two.mpr ⟨rfl, by show n.val = 0 + n.val; omega⟩),
      rd_at Z ![2, 0, 0] S1x1x2048.size _ _ (ix3 2 0 n) (fun a => match a with | ⟨0, _⟩ => rfl | ⟨1, _⟩ => rfl | ⟨2, _⟩ => by show n.val = 0 + n.val; omega),
      rd_at S ![2, 0, 0] S1x1x2048.size _ _ (ix3 2 0 n) (fun a => match a with | ⟨0, _⟩ => rfl | ⟨1, _⟩ => rfl | ⟨2, _⟩ => by show n.val = 0 + n.val; omega)]
    have e1 : (256 + p.val) / 2 = 128 + p.val / 2 := by omega
    have e2 : (256 + p.val) % 2 = p.val % 2 := by omega
    have e3 : (256 + p.val) / 128 = 2 := by omega
    unfold deqs
    rw [e1, e2, e3]
    exact congr (congr (congrArg (deq · (p.val % 2)) (byt_at W ⟨128 + p.val / 2, by omega⟩ n).symm) (byt_at (flat3 Z) 2 n).symm) (arr2_at (flat3 S) 2 n).symm
  · intro p n
    refine (dq1_2 _ _ _ p n).trans ?_
    rw [rd_at W ![192, 0] S64x2048.size _ _ (ix2 ⟨192 + p.val / 2, by omega⟩ n) (Fin.forall_fin_two.mpr ⟨rfl, by show n.val = 0 + n.val; omega⟩),
      rd_at Z ![3, 0, 0] S1x1x2048.size _ _ (ix3 3 0 n) (fun a => match a with | ⟨0, _⟩ => rfl | ⟨1, _⟩ => rfl | ⟨2, _⟩ => by show n.val = 0 + n.val; omega),
      rd_at S ![3, 0, 0] S1x1x2048.size _ _ (ix3 3 0 n) (fun a => match a with | ⟨0, _⟩ => rfl | ⟨1, _⟩ => rfl | ⟨2, _⟩ => by show n.val = 0 + n.val; omega)]
    have e1 : (384 + p.val) / 2 = 192 + p.val / 2 := by omega
    have e2 : (384 + p.val) % 2 = p.val % 2 := by omega
    have e3 : (384 + p.val) / 128 = 3 := by omega
    unfold deqs
    rw [e1, e2, e3]
    exact congr (congr (congrArg (deq · (p.val % 2)) (byt_at W ⟨192 + p.val / 2, by omega⟩ n).symm) (byt_at (flat3 Z) 3 n).symm) (arr2_at (flat3 S) 3 n).symm

theorem blk2_at (W : Vec Ideal S256x1024 .i8) (S : Vec Ideal S4x1x1024 .f32) (Z : Vec Ideal S4x1x1024 .i8) (X : Vec Ideal S512x1024 .bf16) (r : Fin 512) (n : Fin 1024) :
    out2 W S Z X (ix2 r n) = deqs (byt (M := 256) (N := 1024) W) (byt (M := 4) (N := 1024) (flat3 Z)) (arr2 (M := 4) (N := 1024) (flat3 S)) r.val n.val := by
  unfold out2
  refine bands (N := 1024) X _ _ _ _ _ _ _ _ _ ?_ ?_ ?_ ?_ r n
  · intro p n
    refine (dq2_3 _ _ _ p n).trans ?_
    rw [rd_at W ![0, 0] S64x1024.size _ _ (ix2 ⟨0 + p.val / 2, by omega⟩ n) (Fin.forall_fin_two.mpr ⟨rfl, by show n.val = 0 + n.val; omega⟩),
      rd_at Z ![0, 0, 0] S1x1x1024.size _ _ (ix3 0 0 n) (fun a => match a with | ⟨0, _⟩ => rfl | ⟨1, _⟩ => rfl | ⟨2, _⟩ => by show n.val = 0 + n.val; omega),
      rd_at S ![0, 0, 0] S1x1x1024.size _ _ (ix3 0 0 n) (fun a => match a with | ⟨0, _⟩ => rfl | ⟨1, _⟩ => rfl | ⟨2, _⟩ => by show n.val = 0 + n.val; omega)]
    have e1 : (0 + p.val) / 2 = 0 + p.val / 2 := by omega
    have e2 : (0 + p.val) % 2 = p.val % 2 := by omega
    have e3 : (0 + p.val) / 128 = 0 := by omega
    unfold deqs
    rw [e1, e2, e3]
    exact congr (congr (congrArg (deq · (p.val % 2)) (byt_at W ⟨0 + p.val / 2, by omega⟩ n).symm) (byt_at (flat3 Z) 0 n).symm) (arr2_at (flat3 S) 0 n).symm
  · intro p n
    refine (dq2_8 _ _ _ p n).trans ?_
    rw [rd_at W ![64, 0] S64x1024.size _ _ (ix2 ⟨64 + p.val / 2, by omega⟩ n) (Fin.forall_fin_two.mpr ⟨rfl, by show n.val = 0 + n.val; omega⟩),
      rd_at Z ![1, 0, 0] S1x1x1024.size _ _ (ix3 1 0 n) (fun a => match a with | ⟨0, _⟩ => rfl | ⟨1, _⟩ => rfl | ⟨2, _⟩ => by show n.val = 0 + n.val; omega),
      rd_at S ![1, 0, 0] S1x1x1024.size _ _ (ix3 1 0 n) (fun a => match a with | ⟨0, _⟩ => rfl | ⟨1, _⟩ => rfl | ⟨2, _⟩ => by show n.val = 0 + n.val; omega)]
    have e1 : (128 + p.val) / 2 = 64 + p.val / 2 := by omega
    have e2 : (128 + p.val) % 2 = p.val % 2 := by omega
    have e3 : (128 + p.val) / 128 = 1 := by omega
    unfold deqs
    rw [e1, e2, e3]
    exact congr (congr (congrArg (deq · (p.val % 2)) (byt_at W ⟨64 + p.val / 2, by omega⟩ n).symm) (byt_at (flat3 Z) 1 n).symm) (arr2_at (flat3 S) 1 n).symm
  · intro p n
    refine (dq2_1 _ _ _ p n).trans ?_
    rw [rd_at W ![128, 0] S64x1024.size _ _ (ix2 ⟨128 + p.val / 2, by omega⟩ n) (Fin.forall_fin_two.mpr ⟨rfl, by show n.val = 0 + n.val; omega⟩),
      rd_at Z ![2, 0, 0] S1x1x1024.size _ _ (ix3 2 0 n) (fun a => match a with | ⟨0, _⟩ => rfl | ⟨1, _⟩ => rfl | ⟨2, _⟩ => by show n.val = 0 + n.val; omega),
      rd_at S ![2, 0, 0] S1x1x1024.size _ _ (ix3 2 0 n) (fun a => match a with | ⟨0, _⟩ => rfl | ⟨1, _⟩ => rfl | ⟨2, _⟩ => by show n.val = 0 + n.val; omega)]
    have e1 : (256 + p.val) / 2 = 128 + p.val / 2 := by omega
    have e2 : (256 + p.val) % 2 = p.val % 2 := by omega
    have e3 : (256 + p.val) / 128 = 2 := by omega
    unfold deqs
    rw [e1, e2, e3]
    exact congr (congr (congrArg (deq · (p.val % 2)) (byt_at W ⟨128 + p.val / 2, by omega⟩ n).symm) (byt_at (flat3 Z) 2 n).symm) (arr2_at (flat3 S) 2 n).symm
  · intro p n
    refine (dq2_2 _ _ _ p n).trans ?_
    rw [rd_at W ![192, 0] S64x1024.size _ _ (ix2 ⟨192 + p.val / 2, by omega⟩ n) (Fin.forall_fin_two.mpr ⟨rfl, by show n.val = 0 + n.val; omega⟩),
      rd_at Z ![3, 0, 0] S1x1x1024.size _ _ (ix3 3 0 n) (fun a => match a with | ⟨0, _⟩ => rfl | ⟨1, _⟩ => rfl | ⟨2, _⟩ => by show n.val = 0 + n.val; omega),
      rd_at S ![3, 0, 0] S1x1x1024.size _ _ (ix3 3 0 n) (fun a => match a with | ⟨0, _⟩ => rfl | ⟨1, _⟩ => rfl | ⟨2, _⟩ => by show n.val = 0 + n.val; omega)]
    have e1 : (384 + p.val) / 2 = 192 + p.val / 2 := by omega
    have e2 : (384 + p.val) % 2 = p.val % 2 := by omega
    have e3 : (384 + p.val) / 128 = 3 := by omega
    unfold deqs
    rw [e1, e2, e3]
    exact congr (congr (congrArg (deq · (p.val % 2)) (byt_at W ⟨192 + p.val / 2, by omega⟩ n).symm) (byt_at (flat3 Z) 3 n).symm) (arr2_at (flat3 S) 3 n).symm

end Cert.KernelIdeal.Hand
-- ==== Proof.DqArr.lean ====
/- What each dequantising region leaves in its output array. -/
module

public import proofs.«01_k».proof.Proof.DqOut

@[expose] public section

set_option maxRecDepth 16384

noncomputable section

namespace Cert.KernelIdeal.Hand

open Idealize.ShloMosaic Idealize.ShloMosaic.TcCoe
open Idealize.ShloMosaic.Pipeline (Dat RDat)
open Cert.KernelIdeal.Gen Cert.Hand

section R0
variable (A : (c : Dev nD) → (w : Fin cfg0.W) → Buf (Elt Ideal) ((cfg0.win w).arr.view.loc (c.tc : Thread nD τ))) (c : Dev nD)

theorem td0_0 : ∀ i : grid0.Coords, cc0_transform_0 i = ![(i 0).val, (i 1).val] := by decide +kernel
theorem td0_1 : ∀ i : grid0.Coords, cc0_transform_1 i = ![(i 0).val, 0, (i 1).val] := by decide +kernel
theorem td0_2 : ∀ i : grid0.Coords, cc0_transform_2 i = ![(i 0).val, 0, (i 1).val] := by decide +kernel
theorem td0_3 : ∀ i : grid0.Coords, cc0_transform_3 i = ![(i 0).val, (i 1).val] := by decide +kernel

theorem cod0_at (t : Fin cfg0.N) (r n : ℕ) (hr : r < 256) (hn : n < 2048) :
    byt (M := 256) (N := 2048) (blk0 A c 0 t) r n = byt (M := 512) (N := 4096) (A c 0) (256 * (grid0.coords t 0).val + r) (2048 * (grid0.coords t 1).val + n) := by
  refine (dif_pos ⟨hr, hn⟩).trans ?_
  refine (fill_moved (cfg0.win 0) (grid0.coords t) (fun _ => arb Ideal _) (((cfg0.win 0).blk t).view.read (Elt Ideal) (A c 0)) (ix2 ⟨r, hr⟩ ⟨n, hn⟩) fun a => (ix2 (n0 := 256) (n1 := 2048) ⟨r, hr⟩ ⟨n, hn⟩ a).isLt).trans ?_
  refine byt_of (M := 512) (N := 4096) (A c 0) _ _ _ ?_ ?_
  · show cc0_transform_0 (grid0.coords t) 0 * 256 + 1 * r = _
    rw [td0_0]; show (grid0.coords t 0).val * 256 + 1 * r = _; omega
  · show cc0_transform_0 (grid0.coords t) 1 * 2048 + 1 * n = _
    rw [td0_0]; show (grid0.coords t 1).val * 2048 + 1 * n = _; omega

theorem sca0_at (t : Fin cfg0.N) (r n : ℕ) (hr : r < 4) (hn : n < 2048) :
    arr2 (M := 4) (N := 2048) (flat3 (blk0 A c 1 t)) r n = arr2 (M := 8) (N := 4096) (flat3 (A c 1)) (4 * (grid0.coords t 0).val + r) (2048 * (grid0.coords t 1).val + n) := by
  refine (dif_pos ⟨hr, hn⟩).trans ?_
  refine (fill_moved (cfg0.win 1) (grid0.coords t) (fun _ => arb Ideal _) (((cfg0.win 1).blk t).view.read (Elt Ideal) (A c 1)) (ix3 ⟨r, hr⟩ 0 ⟨n, hn⟩) fun a => (ix3 (n0 := 4) (n1 := 1) (n2 := 2048) ⟨r, hr⟩ 0 ⟨n, hn⟩ a).isLt).trans ?_
  refine (flat3_of (M := 8) (N := 4096) (A c 1) _).trans ?_
  refine arr2_of (M := 8) (N := 4096) (flat3 (A c 1)) _ _ _ ?_ ?_
  · show cc0_transform_1 (grid0.coords t) 0 * 4 + 1 * r = _
    rw [td0_1]; show (grid0.coords t 0).val * 4 + 1 * r = _; omega
  · show cc0_transform_1 (grid0.coords t) 2 * 2048 + 1 * n = _
    rw [td0_1]; show (grid0.coords t 1).val * 2048 + 1 * n = _; omega

theorem zer0_at (t : Fin cfg0.N) (r n : ℕ) (hr : r < 4) (hn : n < 2048) :
    byt (M := 4) (N := 2048) (flat3 (blk0 A c 2 t)) r n = byt (M := 8) (N := 4096) (flat3 (A c 2)) (4 * (grid0.coords t 0).val + r) (2048 * (grid0.coords t 1).val + n) := by
  refine (dif_pos ⟨hr, hn⟩).trans ?_
  refine (fill_moved (cfg0.win 2) (grid0.coords t) (fun _ => arb Ideal _) (((cfg0.win 2).blk t).view.read (Elt Ideal) (A c 2)) (ix3 ⟨r, hr⟩ 0 ⟨n, hn⟩) fun a => (ix3 (n0 := 4) (n1 := 1) (n2 := 2048) ⟨r, hr⟩ 0 ⟨n, hn⟩ a).isLt).trans ?_
  refine (flat3_of (M := 8) (N := 4096) (A c 2) _).trans ?_
  refine byt_of (M := 8) (N := 4096) (flat3 (A c 2)) _ _ _ ?_ ?_
  · show cc0_transform_2 (grid0.coords t) 0 * 4 + 1 * r = _
    rw [td0_2]; show (grid0.coords t 0).val * 4 + 1 * r = _; omega
  · show cc0_transform_2 (grid0.coords t) 2 * 2048 + 1 * n = _
    rw [td0_2]; show (grid0.coords t 1).val * 2048 + 1 * n = _; omega

theorem covd0 : (cfg0.win 3).Covers := by decide +kernel

theorem find0 : (dat0 A c).arrAt 3 cfg0.N = fun i : (⟨2, ![1024, 4096]⟩ : Shape).Idx =>
    deqs (byt (M := 512) (N := 4096) (A c 0)) (byt (M := 8) (N := 4096) (flat3 (A c 2))) (arr2 (M := 8) (N := 4096) (flat3 (A c 1))) (i 0).val (i 1).val := by
  refine Dat.arrAt_eq_of_covers (dat0 A c) 3 _ covd0 (fun t _ y => ?_) (Memref.isWhole_whole _)
  have h0 : (y 0).val < 512 := (y 0).isLt
  have h1 : (y 1).val < 2048 := (y 1).isLt
  refine (congrArg (out0 (blk0 A c 0 t) (blk0 A c 1 t) (blk0 A c 2 t) (fun _ => arb Ideal _)) (eq_ix2 (n0 := 512) (n1 := 2048) ((cfg0.win 3).xinj (cfg0.grid.coords t) y))).trans ?_
  refine (blk0_at _ _ _ _ _ _).trans ?_
  show deqs _ _ _ (y 0).val (y 1).val = deqs _ _ _ (cc0_transform_3 (grid0.coords t) 0 * 512 + 1 * (y 0).val) (cc0_transform_3 (grid0.coords t) 1 * 2048 + 1 * (y 1).val)
  rw [td0_3]
  show deqs _ _ _ (y 0).val (y 1).val = deqs _ _ _ ((grid0.coords t 0).val * 512 + 1 * (y 0).val) ((grid0.coords t 1).val * 2048 + 1 * (y 1).val)
  generalize (y 0).val = r at h0 ⊢
  generalize (y 1).val = n at h1 ⊢
  unfold deqs
  rw [cod0_at A c t (r / 2) n (by omega) h1, sca0_at A c t (r / 128) n (by omega) h1, zer0_at A c t (r / 128) n (by omega) h1]
  have e0 : (grid0.coords t 1).val * 2048 + 1 * n = 2048 * (grid0.coords t 1).val + n := by omega
  have e1 : ((grid0.coords t 0).val * 512 + 1 * r) / 2 = 256 * (grid0.coords t 0).val + r / 2 := by omega
  have e2 : ((grid0.coords t 0).val * 512 + 1 * r) % 2 = r % 2 := by omega
  have e3 : ((grid0.coords t 0).val * 512 + 1 * r) / 128 = 4 * (grid0.coords t 0).val + r / 128 := by omega
  rw [e0, e1, e2, e3]

end R0

section R1
variable (A : (c : Dev nD) → (w : Fin cfg1.W) → Buf (Elt Ideal) ((cfg1.win w).arr.view.loc (c.tc : Thread nD τ))) (c : Dev nD)

theorem td1_0 : ∀ i : grid1.Coords, cc1_transform_0 i = ![(i 0).val, (i 1).val] := by decide +kernel
theorem td1_1 : ∀ i : grid1.Coords, cc1_transform_1 i = ![(i 0).val, 0, (i 1).val] := by decide +kernel
theorem td1_2 : ∀ i : grid1.Coords, cc1_transform_2 i = ![(i 0).val, 0, (i 1).val] := by decide +kernel
theorem td1_3 : ∀ i : grid1.Coords, cc1_transform_3 i = ![(i 0).val, (i 1).val] := by decide +kernel

theorem cod1_at (t : Fin cfg1.N) (r n : ℕ) (hr : r < 256) (hn : n < 2048) :
    byt (M := 256) (N := 2048) (blk1 A c 0 t) r n = byt (M := 512) (N := 4096) (A c 0) (256 * (grid1.coords t 0).val + r) (2048 * (grid1.coords t 1).val + n) := by
  refine (dif_pos ⟨hr, hn⟩).trans ?_
  refine (fill_moved (cfg1.win 0) (grid1.coords t) (fun _ => arb Ideal _) (((cfg1.win 0).blk t).view.read (Elt Ideal) (A c 0)) (ix2 ⟨r, hr⟩ ⟨n, hn⟩) fun a => (ix2 (n0 := 256) (n1 := 2048) ⟨r, hr⟩ ⟨n, hn⟩ a).isLt).trans ?_
  refine byt_of (M := 512) (N := 4096) (A c 0) _ _ _ ?_ ?_
  · show cc1_transform_0 (grid1.coords t) 0 * 256 + 1 * r = _
    rw [td1_0]; show (grid1.coords t 0).val * 256 + 1 * r = _; omega
  · show cc1_transform_0 (grid1.coords t) 1 * 2048 + 1 * n = _
    rw [td1_0]; show (grid1.coords t 1).val * 2048 + 1 * n = _; omega

theorem sca1_at (t : Fin cfg1.N) (r n : ℕ) (hr : r < 4) (hn : n < 2048) :
    arr2 (M := 4) (N := 2048) (flat3 (blk1 A c 1 t)) r n = arr2 (M := 8) (N := 4096) (flat3 (A c 1)) (4 * (grid1.coords t 0).val + r) (2048 * (grid1.coords t 1).val + n) := by
  refine (dif_pos ⟨hr, hn⟩).trans ?_
  refine (fill_moved (cfg1.win 1) (grid1.coords t) (fun _ => arb Ideal _) (((cfg1.win 1).blk t).view.read (Elt Ideal) (A c 1)) (ix3 ⟨r, hr⟩ 0 ⟨n, hn⟩) fun a => (ix3 (n0 := 4) (n1 := 1) (n2 := 2048) ⟨r, hr⟩ 0 ⟨n, hn⟩ a).isLt).trans ?_
  refine (flat3_of (M := 8) (N := 4096) (A c 1) _).trans ?_
  refine arr2_of (M := 8) (N := 4096) (flat3 (A c 1)) _ _ _ ?_ ?_
  · show cc1_transform_1 (grid1.coords t) 0 * 4 + 1 * r = _
    rw [td1_1]; show (grid1.coords t 0).val * 4 + 1 * r = _; omega
  · show cc1_transform_1 (grid1.coords t) 2 * 2048 + 1 * n = _
    rw [td1_1]; show (grid1.coords t 1).val * 2048 + 1 * n = _; omega

theorem zer1_at (t : Fin cfg1.N) (r n : ℕ) (hr : r < 4) (hn : n < 2048) :
    byt (M := 4) (N := 2048) (flat3 (blk1 A c 2 t)) r n = byt (M := 8) (N := 4096) (flat3 (A c 2)) (4 * (grid1.coords t 0).val + r) (2048 * (grid1.coords t 1).val + n) := by
  refine (dif_pos ⟨hr, hn⟩).trans ?_
  refine (fill_moved (cfg1.win 2) (grid1.coords t) (fun _ => arb Ideal _) (((cfg1.win 2).blk t).view.read (Elt Ideal) (A c 2)) (ix3 ⟨r, hr⟩ 0 ⟨n, hn⟩) fun a => (ix3 (n0 := 4) (n1 := 1) (n2 := 2048) ⟨r, hr⟩ 0 ⟨n, hn⟩ a).isLt).trans ?_
  refine (flat3_of (M := 8) (N := 4096) (A c 2) _).trans ?_
  refine byt_of (M := 8) (N := 4096) (flat3 (A c 2)) _ _ _ ?_ ?_
  · show cc1_transform_2 (grid1.coords t) 0 * 4 + 1 * r = _
    rw [td1_2]; show (grid1.coords t 0).val * 4 + 1 * r = _; omega
  · show cc1_transform_2 (grid1.coords t) 2 * 2048 + 1 * n = _
    rw [td1_2]; show (grid1.coords t 1).val * 2048 + 1 * n = _; omega

theorem covd1 : (cfg1.win 3).Covers := by decide +kernel

theorem find1 : (dat1 A c).arrAt 3 cfg1.N = fun i : (⟨2, ![1024, 4096]⟩ : Shape).Idx =>
    deqs (byt (M := 512) (N := 4096) (A c 0)) (byt (M := 8) (N := 4096) (flat3 (A c 2))) (arr2 (M := 8) (N := 4096) (flat3 (A c 1))) (i 0).val (i 1).val := by
  refine Dat.arrAt_eq_of_covers (dat1 A c) 3 _ covd1 (fun t _ y => ?_) (Memref.isWhole_whole _)
  have h0 : (y 0).val < 512 := (y 0).isLt
  have h1 : (y 1).val < 2048 := (y 1).isLt
  refine (congrArg (out1 (blk1 A c 0 t) (blk1 A c 1 t) (blk1 A c 2 t) (fun _ => arb Ideal _)) (eq_ix2 (n0 := 512) (n1 := 2048) ((cfg1.win 3).xinj (cfg1.grid.coords t) y))).trans ?_
  refine (blk1_at _ _ _ _ _ _).trans ?_
  show deqs _ _ _ (y 0).val (y 1).val = deqs _ _ _ (cc1_transform_3 (grid1.coords t) 0 * 512 + 1 * (y 0).val) (cc1_transform_3 (grid1.coords t) 1 * 2048 + 1 * (y 1).val)
  rw [td1_3]
  show deqs _ _ _ (y 0).val (y 1).val = deqs _ _ _ ((grid1.coords t 0).val * 512 + 1 * (y 0).val) ((grid1.coords t 1).val * 2048 + 1 * (y 1).val)
  generalize (y 0).val = r at h0 ⊢
  generalize (y 1).val = n at h1 ⊢
  unfold deqs
  rw [cod1_at A c t (r / 2) n (by omega) h1, sca1_at A c t (r / 128) n (by omega) h1, zer1_at A c t (r / 128) n (by omega) h1]
  have e0 : (grid1.coords t 1).val * 2048 + 1 * n = 2048 * (grid1.coords t 1).val + n := by omega
  have e1 : ((grid1.coords t 0).val * 512 + 1 * r) / 2 = 256 * (grid1.coords t 0).val + r / 2 := by omega
  have e2 : ((grid1.coords t 0).val * 512 + 1 * r) % 2 = r % 2 := by omega
  have e3 : ((grid1.coords t 0).val * 512 + 1 * r) / 128 = 4 * (grid1.coords t 0).val + r / 128 := by omega
  rw [e0, e1, e2, e3]

end R1

section R2
variable (A : (c : Dev nD) → (w : Fin cfg2.W) → Buf (Elt Ideal) ((cfg2.win w).arr.view.loc (c.tc : Thread nD τ))) (c : Dev nD)

theorem td2_0 : ∀ i : grid2.Coords, cc2_transform_0 i = ![(i 0).val, (i 1).val] := by decide +kernel
theorem td2_1 : ∀ i : grid2.Coords, cc2_transform_1 i = ![(i 0).val, 0, (i 1).val] := by decide +kernel
theorem td2_2 : ∀ i : grid2.Coords, cc2_transform_2 i = ![(i 0).val, 0, (i 1).val] := by decide +kernel
theorem td2_3 : ∀ i : grid2.Coords, cc2_transform_3 i = ![(i 0).val, (i 1).val] := by decide +kernel

theorem cod2_at (t : Fin cfg2.N) (r n : ℕ) (hr : r < 256) (hn : n < 1024) :
    byt (M := 256) (N := 1024) (blk2 A c 0 t) r n = byt (M := 2048) (N := 1024) (A c 0) (256 * (grid2.coords t 0).val + r) (1024 * (grid2.coords t 1).val + n) := by
  refine (dif_pos ⟨hr, hn⟩).trans ?_
  refine (fill_moved (cfg2.win 0) (grid2.coords t) (fun _ => arb Ideal _) (((cfg2.win 0).blk t).view.read (Elt Ideal) (A c 0)) (ix2 ⟨r, hr⟩ ⟨n, hn⟩) fun a => (ix2 (n0 := 256) (n1 := 1024) ⟨r, hr⟩ ⟨n, hn⟩ a).isLt).trans ?_
  refine byt_of (M := 2048) (N := 1024) (A c 0) _ _ _ ?_ ?_
  · show cc2_transform_0 (grid2.coords t) 0 * 256 + 1 * r = _
    rw [td2_0]; show (grid2.coords t 0).val * 256 + 1 * r = _; omega
  · show cc2_transform_0 (grid2.coords t) 1 * 1024 + 1 * n = _
    rw [td2_0]; show (grid2.coords t 1).val * 1024 + 1 * n = _; omega

theorem sca2_at (t : Fin cfg2.N) (r n : ℕ) (hr : r < 4) (hn : n < 1024) :
    arr2 (M := 4) (N := 1024) (flat3 (blk2 A c 1 t)) r n = arr2 (M := 32) (N := 1024) (flat3 (A c 1)) (4 * (grid2.coords t 0).val + r) (1024 * (grid2.coords t 1).val + n) := by
  refine (dif_pos ⟨hr, hn⟩).trans ?_
  refine (fill_moved (cfg2.win 1) (grid2.coords t) (fun _ => arb Ideal _) (((cfg2.win 1).blk t).view.read (Elt Ideal) (A c 1)) (ix3 ⟨r, hr⟩ 0 ⟨n, hn⟩) fun a => (ix3 (n0 := 4) (n1 := 1) (n2 := 1024) ⟨r, hr⟩ 0 ⟨n, hn⟩ a).isLt).trans ?_
  refine (flat3_of (M := 32) (N := 1024) (A c 1) _).trans ?_
  refine arr2_of (M := 32) (N := 1024) (flat3 (A c 1)) _ _ _ ?_ ?_
  · show cc2_transform_1 (grid2.coords t) 0 * 4 + 1 * r = _
    rw [td2_1]; show (grid2.coords t 0).val * 4 + 1 * r = _; omega
  · show cc2_transform_1 (grid2.coords t) 2 * 1024 + 1 * n = _
    rw [td2_1]; show (grid2.coords t 1).val * 1024 + 1 * n = _; omega

theorem zer2_at (t : Fin cfg2.N) (r n : ℕ) (hr : r < 4) (hn : n < 1024) :
    byt (M := 4) (N := 1024) (flat3 (blk2 A c 2 t)) r n = byt (M := 32) (N := 1024) (flat3 (A c 2)) (4 * (grid2.coords t 0).val + r) (1024 * (grid2.coords t 1).val + n) := by
  refine (dif_pos ⟨hr, hn⟩).trans ?_
  refine (fill_moved (cfg2.win 2) (grid2.coords t) (fun _ => arb Ideal _) (((cfg2.win 2).blk t).view.read (Elt Ideal) (A c 2)) (ix3 ⟨r, hr⟩ 0 ⟨n, hn⟩) fun a => (ix3 (n0 := 4) (n1 := 1) (n2 := 1024) ⟨r, hr⟩ 0 ⟨n, hn⟩ a).isLt).trans ?_
  refine (flat3_of (M := 32) (N := 1024) (A c 2) _).trans ?_
  refine byt_of (M := 32) (N := 1024) (flat3 (A c 2)) _ _ _ ?_ ?_
  · show cc2_transform_2 (grid2.coords t) 0 * 4 + 1 * r = _
    rw [td2_2]; show (grid2.coords t 0).val * 4 + 1 * r = _; omega
  · show cc2_transform_2 (grid2.coords t) 2 * 1024 + 1 * n = _
    rw [td2_2]; show (grid2.coords t 1).val * 1024 + 1 * n = _; omega

theorem covd2 : (cfg2.win 3).Covers := by decide +kernel

theorem find2 : (dat2 A c).arrAt 3 cfg2.N = fun i : (⟨2, ![4096, 1024]⟩ : Shape).Idx =>
    deqs (byt (M := 2048) (N := 1024) (A c 0)) (byt (M := 32) (N := 1024) (flat3 (A c 2))) (arr2 (M := 32) (N := 1024) (flat3 (A c 1))) (i 0).val (i 1).val := by
  refine Dat.arrAt_eq_of_covers (dat2 A c) 3 _ covd2 (fun t _ y => ?_) (Memref.isWhole_whole _)
  have h0 : (y 0).val < 512 := (y 0).isLt
  have h1 : (y 1).val < 1024 := (y 1).isLt
  refine (congrArg (out2 (blk2 A c 0 t) (blk2 A c 1 t) (blk2 A c 2 t) (fun _ => arb Ideal _)) (eq_ix2 (n0 := 512) (n1 := 1024) ((cfg2.win 3).xinj (cfg2.grid.coords t) y))).trans ?_
  refine (blk2_at _ _ _ _ _ _).trans ?_
  show deqs _ _ _ (y 0).val (y 1).val = deqs _ _ _ (cc2_transform_3 (grid2.coords t) 0 * 512 + 1 * (y 0).val) (cc2_transform_3 (grid2.coords t) 1 * 1024 + 1 * (y 1).val)
  rw [td2_3]
  show deqs _ _ _ (y 0).val (y 1).val = deqs _ _ _ ((grid2.coords t 0).val * 512 + 1 * (y 0).val) ((grid2.coords t 1).val * 1024 + 1 * (y 1).val)
  generalize (y 0).val = r at h0 ⊢
  generalize (y 1).val = n at h1 ⊢
  unfold deqs
  rw [cod2_at A c t (r / 2) n (by omega) h1, sca2_at A c t (r / 128) n (by omega) h1, zer2_at A c t (r / 128) n (by omega) h1]
  have e0 : (grid2.coords t 1).val * 1024 + 1 * n = 1024 * (grid2.coords t 1).val + n := by omega
  have e1 : ((grid2.coords t 0).val * 512 + 1 * r) / 2 = 256 * (grid2.coords t 0).val + r / 2 := by omega
  have e2 : ((grid2.coords t 0).val * 512 + 1 * r) % 2 = r % 2 := by omega
  have e3 : ((grid2.coords t 0).val * 512 + 1 * r) / 128 = 4 * (grid2.coords t 0).val + r / 128 := by omega
  rw [e0, e1, e2, e3]

end R2

end Cert.KernelIdeal.Hand
-- ==== Proof.HostVal.lean ====
/- The reshapes around the regions, at an index. -/
module

public import proofs.«01_k».proof.Proof.Frames
public import Idealize.ShloMosaic.Lib.StableHlo.ReadAt
public import Idealize.ShloMosaic.Lib.Pointwise

@[expose] public section

set_option maxRecDepth 16384

noncomputable section

namespace Cert.KernelIdeal.Hand

open Idealize.ShloMosaic Idealize.ShloMosaic.TcCoe
open Cert.KernelIdeal.Gen Cert.Hand

variable (V : Valuation τ sig (Elt Ideal))

theorem ho4_11 (a : Fin 6) (b : Fin 1536) (n : Fin 1024) :
    (StableHlo.after hostOps4 V main_v11 : S6x1536x1024.Idx → EReal) (ix3 a b n) = (V main_v10_3 : S9216x1024.Idx → EReal) (ix2 ⟨1536 * a.val + b.val, by omega⟩ n) := by
  after_reads_at
  exact congrArg (fun k => V main_v10_3 (ix2 k n)) (Fin.ext (by show a.val * 1536 + b.val = 1536 * a.val + b.val; omega))

theorem ho4_12 (a : Fin 6) (b : Fin 1536) (n : Fin 1024) :
    (StableHlo.after hostOps4 V main_v12 : S6x1536x1024.Idx → BitVec 8) (ix3 a b n) = (V main_v10_4 : S9216x1024.Idx → BitVec 8) (ix2 ⟨1536 * a.val + b.val, by omega⟩ n) := by
  after_reads_at
  exact congrArg (fun k => V main_v10_4 (ix2 k n)) (Fin.ext (by show a.val * 1536 + b.val = 1536 * a.val + b.val; omega))

theorem ho4_13 (a : Fin 6) (b : Fin 1536) (n : Fin 4096) :
    (StableHlo.after hostOps4 V main_v13 : S6x1536x4096.Idx → BitVec 8) (ix3 a b n) = (V main_v10_6 : S9216x4096.Idx → BitVec 8) (ix2 ⟨1536 * a.val + b.val, by omega⟩ n) := by
  after_reads_at
  exact congrArg (fun k => V main_v10_6 (ix2 k n)) (Fin.ext (by show a.val * 1536 + b.val = 1536 * a.val + b.val; omega))

theorem ho4_14 (a : Fin 6) (b : Fin 1536) (n : Fin 4096) :
    (StableHlo.after hostOps4 V main_v14 : S6x1536x4096.Idx → BitVec 8) (ix3 a b n) = (V main_v10_8 : S9216x4096.Idx → BitVec 8) (ix2 ⟨1536 * a.val + b.val, by omega⟩ n) := by
  after_reads_at
  exact congrArg (fun k => V main_v10_8 (ix2 k n)) (Fin.ext (by show a.val * 1536 + b.val = 1536 * a.val + b.val; omega))

theorem ho3_9 (r : Fin 9216) (n : Fin 1024) :
    (StableHlo.after hostOps3 V main_v9 : S9216x1024.Idx → EReal) (ix2 r n) = (V main_arg0 : S6x1536x1024.Idx → EReal) (ix3 ⟨r.val / 1536, by omega⟩ ⟨r.val % 1536, by omega⟩ n) := by
  after_reads_at

theorem ho0_0 (g : Fin 8) (n : Fin 4096) :
    (StableHlo.after hostOps0 V main_v0 : S8x1x4096.Idx → EReal) (ix3 g 0 n) = (V main_arg7 : S8x4096.Idx → EReal) (ix2 g n) := by
  after_reads_at

theorem ho0_1 (g : Fin 8) (n : Fin 4096) :
    (StableHlo.after hostOps0 V main_v1 : S8x1x4096.Idx → BitVec 8) (ix3 g 0 n) = (V main_arg8 : S8x4096.Idx → BitVec 8) (ix2 g n) := by
  after_reads_at

theorem ho1_3 (g : Fin 8) (n : Fin 4096) :
    (StableHlo.after hostOps1 V main_v3 : S8x1x4096.Idx → EReal) (ix3 g 0 n) = (V main_arg9 : S8x4096.Idx → EReal) (ix2 g n) := by
  after_reads_at

theorem ho1_4 (g : Fin 8) (n : Fin 4096) :
    (StableHlo.after hostOps1 V main_v4 : S8x1x4096.Idx → BitVec 8) (ix3 g 0 n) = (V main_arg10 : S8x4096.Idx → BitVec 8) (ix2 g n) := by
  after_reads_at

theorem ho2_6 (g : Fin 32) (n : Fin 1024) :
    (StableHlo.after hostOps2 V main_v6 : S32x1x1024.Idx → EReal) (ix3 g 0 n) = (V main_arg11 : S32x1024.Idx → EReal) (ix2 g n) := by
  after_reads_at

theorem ho2_7 (g : Fin 32) (n : Fin 1024) :
    (StableHlo.after hostOps2 V main_v7 : S32x1x1024.Idx → BitVec 8) (ix3 g 0 n) = (V main_arg12 : S32x1024.Idx → BitVec 8) (ix2 g n) := by
  after_reads_at

end Cert.KernelIdeal.Hand
-- ==== Proof.Good3.lean ====
/- The main region's relation and invariant, and the body's statement for them. -/
module

public import proofs.«01_k».proof.Proof.Win

@[expose] public section

set_option maxRecDepth 16384

noncomputable section

namespace Cert.KernelIdeal.Hand

open Idealize.ShloMosaic Idealize.ShloMosaic.TcCoe
open Idealize.ShloMosaic.Pipeline (Dat RDat)
open Cert.KernelIdeal.Gen Cert.Hand

/-- What an output window holds after the body at a point. -/
def P3 (o : Ops) (i : grid3.Coords) : (w : Fin cfg3.W) → ((cfg3.win w).block.Idx → Elt Ideal (cfg3.win w).elt) → Prop := fun w => match w with
  | ⟨7, _⟩ => fun X => ∀ (q : Fin 4) (a : Fin 6) (b : Fin 1536), 1536 * a.val + b.val < 384 * (if (i 1).val = 11 then (i 0).val + 1 else (i 0).val) → X (ix3 q a b) = o.TOK q.val (1536 * a.val + b.val)
  | ⟨8, _⟩ => fun X => (i 0).val = 23 → (i 1).val = 11 → ∀ (q : Fin 4) (n : Fin 1024), X (ix2 q n) = o.CHAN q.val n.val
  | ⟨9, _⟩ => fun X => Upto (o.TOK 4) (384 * (if (i 1).val = 11 then (i 0).val + 1 else (i 0).val)) X
  | ⟨10, _⟩ => fun X => 8 ≤ (i 1).val → Rows (i 0).val o.YR (256 * ((i 1).val - 7)) (N := 1024) X
  | ⟨11, _⟩ => fun X => Codes (i 0).val o.C (N := 1024) X
  | ⟨12, _⟩ => fun X => Upto o.S (384 * ((i 0).val + 1)) X
  | ⟨13, _⟩ => fun X => 8 ≤ (i 1).val → Codes (i 0).val o.CF (N := 4096) X
  | ⟨14, _⟩ => fun X => Upto o.SF (384 * (if 8 ≤ (i 1).val then (i 0).val + 1 else (i 0).val)) X
  | ⟨15, _⟩ => fun X => 8 ≤ (i 1).val → Codes (i 0).val o.CR (N := 4096) X
  | ⟨16, _⟩ => fun X => Upto o.SR (384 * (if 8 ≤ (i 1).val then (i 0).val + 1 else (i 0).val)) X
  | _ => fun _ => True

variable (A : (c : Dev nD) → (w : Fin cfg3.W) → Buf (Elt Ideal) ((cfg3.win w).arr.view.loc (c.tc : Thread nD τ)))

/-- The relation: an input window is left alone, an output window at what `P3` says. -/
def aft (c : Dev nD) (w : Fin cfg3.W) (t : Fin cfg3.N) (Y X : (cfg3.win w).block.Idx → Elt Ideal (cfg3.win w).elt) : Prop :=
  (w.val < 7 → X = Y) ∧ P3 (opsOf A c) (grid3.coords t) w X

/-- The invariant. -/
def inv (c : Dev nD) (n : ℕ) (K : Sc Ideal) : Prop := InvO (opsOf A c) n K

theorem inv0 (c : Dev nD) (K : Sc Ideal) : inv A c 0 K :=
  ⟨fun h => absurd rfl h, fun h => absurd h (by decide), fun h => absurd rfl h⟩

variable (c : Dev nD)

theorem out_of : ∀ w : Fin cfg3.W, 7 ≤ w.val → ∀ t : Fin cfg3.N, (cfg3.win w).fetch t = false := by
  intro w hw t
  unfold Pipeline.Window.fetch
  have : (cfg3.win w).isOut = true := (by decide : ∀ w : Fin 17, 7 ≤ w.val → (win3 w).isOut = true) w hw
  rw [this]; rfl

/-- An output window at a point after the first: just written back, or left by the body at the point before. -/
theorem before (w : Fin cfg3.W) (hw : 7 ≤ w.val) (t t' : Fin cfg3.N) (ht : t.val = t'.val + 1) (X) (h : (rd3 A (aft A) (inv A) c).Finds w t X) :
    (cfg3.win w).flush t' = true ∨ P3 (opsOf A c) (grid3.coords t') w X := by
  have e : (⟨t.val - 1, Nat.lt_of_le_of_lt (Nat.sub_le _ _) t.isLt⟩ : Fin cfg3.N) = t' := Fin.ext (by show t.val - 1 = _; omega)
  rcases ((rd3 A (aft A) (inv A) c).finds_of_pos (out_of w hw t) (by omega) X).mp h with hf | ⟨Y, _, hR⟩
  · left; rw [← e]; exact hf
  · right
    have := hR.2
    rw [e] at this
    exact this

theorem prior3 (t : Fin cfg3.N) (Y : Win Ideal) (K : Sc Ideal) (h : ∀ w, (rd3 A (aft A) (inv A) c).Finds w t (Y w)) :
    Prior (opsOf A c) (grid3.coords t) (stOf Y K) := by
  have c0 := crd0 t
  have c1 := crd1 t
  have tl : t.val < 288 := t.isLt
  by_cases h0 : t.val = 0
  · have z0 : (grid3.coords t 0).val = 0 := by omega
    have z1 : (grid3.coords t 1).val = 0 := by omega
    constructor
    · intro q a b hab; rw [z0] at hab; omega
    · intro a b hab; rw [z0] at hab; omega
    · intro h; omega
    · intro h; omega
    · intro a b hab; rw [z0, z1] at hab; simp at hab
    · intro h; omega
    · intro a b hab; rw [z0, z1] at hab; simp at hab
    · intro h; omega
    · intro a b hab; rw [z0, z1] at hab; simp at hab
  obtain ⟨t', ht⟩ : ∃ t' : Fin cfg3.N, t.val = t'.val + 1 := ⟨⟨t.val - 1, by show t.val - 1 < 288; omega⟩, by show _ = t.val - 1 + 1; omega⟩
  have d0 := crd0 t'
  have d1 := crd1 t'
  have B (w) (hw : 7 ≤ w.val) := before A c w hw t t' ht _ (h w)
  constructor
  · intro q a b hab
    refine (B 7 (by decide)).elim (fun h => absurd ((flush3_7 t').mp h) (by omega)) (fun h => h q a b ?_)
    split <;> omega
  · refine (B 9 (by decide)).elim (fun h => absurd ((flush3_9 t').mp h) (by omega)) (fun h a b hab => h a b ?_)
    split <;> omega
  · intro hj
    refine (B 10 (by decide)).elim (fun h => absurd ((flush3_10 t').mp h) (by omega)) (fun h => ?_)
    have := h (by omega)
    rw [show (grid3.coords t 0).val = (grid3.coords t' 0).val by omega, show (grid3.coords t 1).val - 8 = (grid3.coords t' 1).val - 7 by omega]
    exact this
  · intro hj
    refine (B 11 (by decide)).elim (fun h => absurd ((flush3_11 t').mp h) (by omega)) (fun h => ?_)
    rw [show (grid3.coords t 0).val = (grid3.coords t' 0).val by omega]
    exact h
  · refine (B 12 (by decide)).elim (fun h => absurd ((flush3_12 t').mp h) (by omega)) (fun h a b hab => h a b ?_)
    split at hab <;> omega
  · intro hj
    refine (B 13 (by decide)).elim (fun h => absurd ((flush3_13 t').mp h) (by omega)) (fun h => ?_)
    rw [show (grid3.coords t 0).val = (grid3.coords t' 0).val by omega]
    exact h (by omega)
  · refine (B 14 (by decide)).elim (fun h => absurd ((flush3_14 t').mp h) (by omega)) (fun h a b hab => h a b ?_)
    split at hab <;> split <;> omega
  · intro hj
    refine (B 15 (by decide)).elim (fun h => absurd ((flush3_15 t').mp h) (by omega)) (fun h => ?_)
    rw [show (grid3.coords t 0).val = (grid3.coords t' 0).val by omega]
    exact h (by omega)
  · refine (B 16 (by decide)).elim (fun h => absurd ((flush3_16 t').mp h) (by omega)) (fun h a b hab => h a b ?_)
    split at hab <;> split <;> omega

theorem kept_in (i : grid3.Coords) (Y : Win Ideal) (K : Sc Ideal) : ∀ w : Fin cfg3.W, w.val < 7 → winOf (step i (stOf Y K)) w = Y w := by
  intro w hw
  match w, hw with
  | ⟨0, _⟩, _ => show (step i (stOf Y K)).a2 = _; unfold step; rw [s7_2, s6_2, s5_2, s4_2, s3_2, s2_2, s1_2]; rfl
  | ⟨1, _⟩, _ => show (step i (stOf Y K)).a3 = _; unfold step; rw [s7_3, s6_3, s5_3, s4_3, s3_3, s2_3, s1_3]; rfl
  | ⟨2, _⟩, _ => show (step i (stOf Y K)).a4 = _; unfold step; rw [s7_4, s6_4, s5_4, s4_4, s3_4, s2_4, s1_4]; rfl
  | ⟨3, _⟩, _ => show (step i (stOf Y K)).a5 = _; unfold step; rw [s7_5, s6_5, s5_5, s4_5, s3_5, s2_5, s1_5]; rfl
  | ⟨4, _⟩, _ => show (step i (stOf Y K)).a6 = _; unfold step; rw [s7_6, s6_6, s5_6, s4_6, s3_6, s2_6, s1_6]; rfl
  | ⟨5, _⟩, _ => show (step i (stOf Y K)).a7 = _; unfold step; rw [s7_7, s6_7, s5_7, s4_7, s3_7, s2_7, s1_7]; rfl
  | ⟨6, _⟩, _ => show (step i (stOf Y K)).a8 = _; unfold step; rw [s7_8, s6_8, s5_8, s4_8, s3_8, s2_8, s1_8]; rfl
  | ⟨n + 7, _⟩, hw => exact absurd hw (by show ¬ n + 7 < 7; omega)

/-- Every point's body keeps the invariant and leaves the windows at what the relation says. -/
theorem good3 : Good A (aft A) (inv A) c := by
  intro t Y K h hK
  have c0 := crd0 t
  have c1 := crd1 t
  have hn : t.val = 12 * (grid3.coords t 0).val + (grid3.coords t 1).val := by omega
  rw [hn] at hK
  obtain ⟨I, P⟩ := step_all (opsOf A c) (grid3.coords t) (stOf Y K) (feed3 A (aft A) (inv A) c (fun w _ _ _ hw h => h.1 hw) t Y K h) hK (prior3 A c t Y K h)
  refine ⟨by rw [hn]; exact I, fun w => ⟨fun hw => kept_in (grid3.coords t) Y K w hw, ?_⟩⟩
  match w with
  | ⟨0, _⟩ => trivial
  | ⟨1, _⟩ => trivial
  | ⟨2, _⟩ => trivial
  | ⟨3, _⟩ => trivial
  | ⟨4, _⟩ => trivial
  | ⟨5, _⟩ => trivial
  | ⟨6, _⟩ => trivial
  | ⟨7, _⟩ => exact P.tok
  | ⟨8, _⟩ => exact P.chan
  | ⟨9, _⟩ => exact P.sig
  | ⟨10, _⟩ => exact P.y
  | ⟨11, _⟩ => exact P.xc
  | ⟨12, _⟩ => exact P.xs
  | ⟨13, _⟩ => exact P.cf
  | ⟨14, _⟩ => exact P.sf
  | ⟨15, _⟩ => exact P.cr
  | ⟨16, _⟩ => exact P.sr
  | ⟨n + 17, h⟩ => exact absurd h (Nat.not_lt.2 (Nat.le_add_left _ _))

end Cert.KernelIdeal.Hand
-- ==== Proof.Out3.lean ====
/- What the main region leaves in its output arrays: each entry of each array is the layer's. -/
module

public import proofs.«01_k».proof.Proof.Good3
public import Idealize.ShloMosaic.Lib.Pipeline.ArrRel

@[expose] public section

set_option maxRecDepth 16384

noncomputable section

namespace Cert.KernelIdeal.Hand

open Idealize.ShloMosaic Idealize.ShloMosaic.TcCoe
open Idealize.ShloMosaic.Pipeline (Dat RDat)
open Cert.KernelIdeal.Gen Cert.Hand

variable (A : (c : Dev nD) → (w : Fin cfg3.W) → Buf (Elt Ideal) ((cfg3.win w).arr.view.loc (c.tc : Thread nD τ))) (c : Dev nD)

/-- An output array whose blocks, as written back, hold `T`, holds `T`. -/
theorem arr_from (w : Fin cfg3.W) (T G : Buf (Elt Ideal) ((cfg3.win w).arr.view.loc (c.tc : Thread nD τ)))
    (hG : (rd3 A (aft A) (inv A) c).ArrAt w cfg3.N G) (hcov : (cfg3.win w).Covers)
    (hT : ∀ t, (cfg3.win w).flush t = true → ∀ X, P3 (opsOf A c) (grid3.coords t) w X → ∀ y : ((cfg3.win w).xblock (cfg3.grid.coords t)).Idx,
      _root_.cast (congrArg (Elt Ideal) ((cfg3.win w).blk t).view.elt_eq.symm) (X ((cfg3.win w).xinj (cfg3.grid.coords t) y)) = T (((cfg3.win w).blk t).view.emb y))
    (harr : (cfg3.win w).arr.IsWhole) : G = T := by
  obtain ⟨X, hX, hG⟩ := RDat.ArrAt.exists_exact hG
  rw [hG (Function.update (fun _ _ _ => arb Ideal _) w X) fun u _ _ => by rw [Function.update_self]]
  refine Dat.arrAt_eq_of_covers _ w T hcov (fun t hf y => ?_) harr
  rw [RDat.withAfter_after, Function.update_self]
  obtain ⟨Y, _, h⟩ := hX t t.isLt hf
  exact hT t hf _ h.2 y

theorem cov7 : (cfg3.win 7).Covers := by decide +kernel
theorem cov8 : (cfg3.win 8).Covers := by decide +kernel
theorem cov9 : (cfg3.win 9).Covers := by decide +kernel
theorem cov10 : (cfg3.win 10).Covers := by decide +kernel
theorem cov11 : (cfg3.win 11).Covers := by decide +kernel
theorem cov12 : (cfg3.win 12).Covers := by decide +kernel
theorem cov13 : (cfg3.win 13).Covers := by decide +kernel
theorem cov14 : (cfg3.win 14).Covers := by decide +kernel
theorem cov15 : (cfg3.win 15).Covers := by decide +kernel
theorem cov16 : (cfg3.win 16).Covers := by decide +kernel

theorem to10 : ∀ i : grid3.Coords, cc3_transform_10 i = ![(i 0).val, 0] := by decide +kernel
theorem to11 : ∀ i : grid3.Coords, cc3_transform_11 i = ![(i 0).val, 0] := by decide +kernel
theorem to13 : ∀ i : grid3.Coords, cc3_transform_13 i = ![(i 0).val, 0] := by decide +kernel
theorem to15 : ∀ i : grid3.Coords, cc3_transform_15 i = ![(i 0).val, 0] := by decide +kernel
theorem to8 : ∀ i : grid3.Coords, cc3_transform_8 i = ![0, 0] := by decide +kernel
theorem to9 : ∀ i : grid3.Coords, cc3_transform_9 i = ![0, 0] := by decide +kernel
theorem to12 : ∀ i : grid3.Coords, cc3_transform_12 i = ![0, 0] := by decide +kernel
theorem to14 : ∀ i : grid3.Coords, cc3_transform_14 i = ![0, 0] := by decide +kernel
theorem to16 : ∀ i : grid3.Coords, cc3_transform_16 i = ![0, 0] := by decide +kernel
theorem to7 : ∀ i : grid3.Coords, cc3_transform_7 i = ![0, 0, 0] := by decide +kernel

/-- The array of the sums along rows. -/
def aTok (o : Ops) : (⟨3, ![4, 6, 1536]⟩ : Shape).Idx → EReal := fun i => o.TOK (i 0).val (1536 * (i 1).val + (i 2).val)
/-- The array of the sums down columns. -/
def aChan (o : Ops) : (⟨2, ![4, 1024]⟩ : Shape).Idx → EReal := fun i => o.CHAN (i 0).val (i 1).val
/-- An array of one number per row. -/
def aRow (f : ℕ → EReal) : (⟨2, ![6, 1536]⟩ : Shape).Idx → EReal := fun i => f (1536 * (i 0).val + (i 1).val)
/-- A flat array of numbers. -/
def aFlat (N : ℕ) (f : ℕ → ℕ → EReal) : (⟨2, ![9216, N]⟩ : Shape).Idx → EReal := fun i => f (i 0).val (i 1).val
/-- A flat array of 8-bit codes. -/
def aCode (N : ℕ) (f : ℕ → ℕ → EReal) : (⟨2, ![9216, N]⟩ : Shape).Idx → BitVec 8 := fun i => code (f (i 0).val (i 1).val)

theorem fin7 (G) (hG : (rd3 A (aft A) (inv A) c).ArrAt 7 cfg3.N G) : G = aTok (opsOf A c) := by
  refine arr_from A c 7 _ G hG cov7 (fun t hf X hX y => ?_) (Memref.isWhole_whole _)
  have ht := (flush3_7 t).mp hf
  have tl : t.val < 288 := t.isLt
  have c0 := crd0 t
  have c1 := crd1 t
  refine (congrArg X (eq_ix3 (n0 := 4) (n1 := 6) (n2 := 1536) ((cfg3.win 7).xinj (cfg3.grid.coords t) y))).trans ?_
  refine (hX _ _ _ ?_).trans ?_
  · rw [if_pos (by omega)]
    have h1 : ((((cfg3.win 7).xinj (cfg3.grid.coords t) y) : (⟨3, ![4, 6, 1536]⟩ : Shape).Idx) 1).val < 6 := Fin.isLt _
    have h2 : ((((cfg3.win 7).xinj (cfg3.grid.coords t) y) : (⟨3, ![4, 6, 1536]⟩ : Shape).Idx) 2).val < 1536 := Fin.isLt _
    omega
  · refine congr (congrArg _ ?_) (congr (congrArg _ (congrArg _ ?_)) ?_)
    · show (y 0).val = cc3_transform_7 (grid3.coords t) 0 * 4 + 1 * (y 0).val
      rw [to7]; show _ = 0 * 4 + 1 * (y 0).val; omega
    · show (y 1).val = cc3_transform_7 (grid3.coords t) 1 * 6 + 1 * (y 1).val
      rw [to7]; show _ = 0 * 6 + 1 * (y 1).val; omega
    · show (y 2).val = cc3_transform_7 (grid3.coords t) 2 * 1536 + 1 * (y 2).val
      rw [to7]; show _ = 0 * 1536 + 1 * (y 2).val; omega

theorem fin8 (G) (hG : (rd3 A (aft A) (inv A) c).ArrAt 8 cfg3.N G) : G = aChan (opsOf A c) := by
  refine arr_from A c 8 _ G hG cov8 (fun t hf X hX y => ?_) (Memref.isWhole_whole _)
  have ht := (flush3_8 t).mp hf
  have tl : t.val < 288 := t.isLt
  have c0 := crd0 t
  have c1 := crd1 t
  refine (congrArg X (eq_ix2 (n0 := 4) (n1 := 1024) ((cfg3.win 8).xinj (cfg3.grid.coords t) y))).trans ?_
  refine (hX (by omega) (by omega) _ _).trans ?_
  refine congr (congrArg _ ?_) ?_
  · show (y 0).val = cc3_transform_8 (grid3.coords t) 0 * 4 + 1 * (y 0).val
    rw [to8]; show _ = 0 * 4 + 1 * (y 0).val; omega
  · show (y 1).val = cc3_transform_8 (grid3.coords t) 1 * 1024 + 1 * (y 1).val
    rw [to8]; show _ = 0 * 1024 + 1 * (y 1).val; omega

theorem fin9 (G) (hG : (rd3 A (aft A) (inv A) c).ArrAt 9 cfg3.N G) : G = aRow ((opsOf A c).TOK 4) := by
  refine arr_from A c 9 _ G hG cov9 (fun t hf X hX y => ?_) (Memref.isWhole_whole _)
  have ht := (flush3_9 t).mp hf
  have tl : t.val < 288 := t.isLt
  have c0 := crd0 t
  have c1 := crd1 t
  refine (congrArg X (eq_ix2 (n0 := 6) (n1 := 1536) ((cfg3.win 9).xinj (cfg3.grid.coords t) y))).trans ?_
  refine (hX _ _ ?_).trans ?_
  · have h1 : ((((cfg3.win 9).xinj (cfg3.grid.coords t) y) : (⟨2, ![6, 1536]⟩ : Shape).Idx) 0).val < 6 := Fin.isLt _
    have h2 : ((((cfg3.win 9).xinj (cfg3.grid.coords t) y) : (⟨2, ![6, 1536]⟩ : Shape).Idx) 1).val < 1536 := Fin.isLt _
    rw [if_pos (by omega)]
    omega
  · refine congrArg _ (congr (congrArg _ (congrArg _ ?_)) ?_)
    · show (y 0).val = cc3_transform_9 (grid3.coords t) 0 * 6 + 1 * (y 0).val
      rw [to9]; show _ = 0 * 6 + 1 * (y 0).val; omega
    · show (y 1).val = cc3_transform_9 (grid3.coords t) 1 * 1536 + 1 * (y 1).val
      rw [to9]; show _ = 0 * 1536 + 1 * (y 1).val; omega

theorem fin12 (G) (hG : (rd3 A (aft A) (inv A) c).ArrAt 12 cfg3.N G) : G = aRow (opsOf A c).S := by
  refine arr_from A c 12 _ G hG cov12 (fun t hf X hX y => ?_) (Memref.isWhole_whole _)
  have ht := (flush3_12 t).mp hf
  have tl : t.val < 288 := t.isLt
  have c0 := crd0 t
  have c1 := crd1 t
  refine (congrArg X (eq_ix2 (n0 := 6) (n1 := 1536) ((cfg3.win 12).xinj (cfg3.grid.coords t) y))).trans ?_
  refine (hX _ _ ?_).trans ?_
  · have h1 : ((((cfg3.win 12).xinj (cfg3.grid.coords t) y) : (⟨2, ![6, 1536]⟩ : Shape).Idx) 0).val < 6 := Fin.isLt _
    have h2 : ((((cfg3.win 12).xinj (cfg3.grid.coords t) y) : (⟨2, ![6, 1536]⟩ : Shape).Idx) 1).val < 1536 := Fin.isLt _
    omega
  · refine congrArg _ (congr (congrArg _ (congrArg _ ?_)) ?_)
    · show (y 0).val = cc3_transform_12 (grid3.coords t) 0 * 6 + 1 * (y 0).val
      rw [to12]; show _ = 0 * 6 + 1 * (y 0).val; omega
    · show (y 1).val = cc3_transform_12 (grid3.coords t) 1 * 1536 + 1 * (y 1).val
      rw [to12]; show _ = 0 * 1536 + 1 * (y 1).val; omega

theorem fin14 (G) (hG : (rd3 A (aft A) (inv A) c).ArrAt 14 cfg3.N G) : G = aRow (opsOf A c).SF := by
  refine arr_from A c 14 _ G hG cov14 (fun t hf X hX y => ?_) (Memref.isWhole_whole _)
  have ht := (flush3_14 t).mp hf
  have tl : t.val < 288 := t.isLt
  have c0 := crd0 t
  have c1 := crd1 t
  refine (congrArg X (eq_ix2 (n0 := 6) (n1 := 1536) ((cfg3.win 14).xinj (cfg3.grid.coords t) y))).trans ?_
  refine (hX _ _ ?_).trans ?_
  · have h1 : ((((cfg3.win 14).xinj (cfg3.grid.coords t) y) : (⟨2, ![6, 1536]⟩ : Shape).Idx) 0).val < 6 := Fin.isLt _
    have h2 : ((((cfg3.win 14).xinj (cfg3.grid.coords t) y) : (⟨2, ![6, 1536]⟩ : Shape).Idx) 1).val < 1536 := Fin.isLt _
    rw [if_pos (by omega)]
    omega
  · refine congrArg _ (congr (congrArg _ (congrArg _ ?_)) ?_)
    · show (y 0).val = cc3_transform_14 (grid3.coords t) 0 * 6 + 1 * (y 0).val
      rw [to14]; show _ = 0 * 6 + 1 * (y 0).val; omega
    · show (y 1).val = cc3_transform_14 (grid3.coords t) 1 * 1536 + 1 * (y 1).val
      rw [to14]; show _ = 0 * 1536 + 1 * (y 1).val; omega

theorem fin16 (G) (hG : (rd3 A (aft A) (inv A) c).ArrAt 16 cfg3.N G) : G = aRow (opsOf A c).SR := by
  refine arr_from A c 16 _ G hG cov16 (fun t hf X hX y => ?_) (Memref.isWhole_whole _)
  have ht := (flush3_16 t).mp hf
  have tl : t.val < 288 := t.isLt
  have c0 := crd0 t
  have c1 := crd1 t
  refine (congrArg X (eq_ix2 (n0 := 6) (n1 := 1536) ((cfg3.win 16).xinj (cfg3.grid.coords t) y))).trans ?_
  refine (hX _ _ ?_).trans ?_
  · have h1 : ((((cfg3.win 16).xinj (cfg3.grid.coords t) y) : (⟨2, ![6, 1536]⟩ : Shape).Idx) 0).val < 6 := Fin.isLt _
    have h2 : ((((cfg3.win 16).xinj (cfg3.grid.coords t) y) : (⟨2, ![6, 1536]⟩ : Shape).Idx) 1).val < 1536 := Fin.isLt _
    rw [if_pos (by omega)]
    omega
  · refine congrArg _ (congr (congrArg _ (congrArg _ ?_)) ?_)
    · show (y 0).val = cc3_transform_16 (grid3.coords t) 0 * 6 + 1 * (y 0).val
      rw [to16]; show _ = 0 * 6 + 1 * (y 0).val; omega
    · show (y 1).val = cc3_transform_16 (grid3.coords t) 1 * 1536 + 1 * (y 1).val
      rw [to16]; show _ = 0 * 1536 + 1 * (y 1).val; omega

theorem fin10 (G) (hG : (rd3 A (aft A) (inv A) c).ArrAt 10 cfg3.N G) : G = aFlat 1024 (opsOf A c).YR := by
  refine arr_from A c 10 _ G hG cov10 (fun t hf X hX y => ?_) (Memref.isWhole_whole _)
  have ht := (flush3_10 t).mp hf
  have c0 := crd0 t
  have c1 := crd1 t
  refine (congrArg X (eq_ix2 (n0 := 384) (n1 := 1024) ((cfg3.win 10).xinj (cfg3.grid.coords t) y))).trans ?_
  refine (hX (by omega) _ _ ?_).trans ?_
  · have h1 : ((((cfg3.win 10).xinj (cfg3.grid.coords t) y) : (⟨2, ![384, 1024]⟩ : Shape).Idx) 1).val < 1024 := Fin.isLt _
    omega
  · refine congr (congrArg _ ?_) ?_
    · show 384 * (grid3.coords t 0).val + (y 0).val = cc3_transform_10 (grid3.coords t) 0 * 384 + 1 * (y 0).val
      rw [to10]; show _ = (grid3.coords t 0).val * 384 + 1 * (y 0).val; omega
    · show (y 1).val = cc3_transform_10 (grid3.coords t) 1 * 1024 + 1 * (y 1).val
      rw [to10]; show _ = 0 * 1024 + 1 * (y 1).val; omega

theorem fin11 (G) (hG : (rd3 A (aft A) (inv A) c).ArrAt 11 cfg3.N G) : G = aCode 1024 (opsOf A c).C := by
  refine arr_from A c 11 _ G hG cov11 (fun t hf X hX y => ?_) (Memref.isWhole_whole _)
  have ht := (flush3_11 t).mp hf
  have c0 := crd0 t
  have c1 := crd1 t
  refine (congrArg X (eq_ix2 (n0 := 384) (n1 := 1024) ((cfg3.win 11).xinj (cfg3.grid.coords t) y))).trans ?_
  refine (hX _ _).trans ?_
  · refine congrArg code (congr (congrArg _ ?_) ?_)
    · show 384 * (grid3.coords t 0).val + (y 0).val = cc3_transform_11 (grid3.coords t) 0 * 384 + 1 * (y 0).val
      rw [to11]; show _ = (grid3.coords t 0).val * 384 + 1 * (y 0).val; omega
    · show (y 1).val = cc3_transform_11 (grid3.coords t) 1 * 1024 + 1 * (y 1).val
      rw [to11]; show _ = 0 * 1024 + 1 * (y 1).val; omega

theorem fin13 (G) (hG : (rd3 A (aft A) (inv A) c).ArrAt 13 cfg3.N G) : G = aCode 4096 (opsOf A c).CF := by
  refine arr_from A c 13 _ G hG cov13 (fun t hf X hX y => ?_) (Memref.isWhole_whole _)
  have ht := (flush3_13 t).mp hf
  have c0 := crd0 t
  have c1 := crd1 t
  refine (congrArg X (eq_ix2 (n0 := 384) (n1 := 4096) ((cfg3.win 13).xinj (cfg3.grid.coords t) y))).trans ?_
  refine (hX (by omega) _ _).trans ?_
  · refine congrArg code (congr (congrArg _ ?_) ?_)
    · show 384 * (grid3.coords t 0).val + (y 0).val = cc3_transform_13 (grid3.coords t) 0 * 384 + 1 * (y 0).val
      rw [to13]; show _ = (grid3.coords t 0).val * 384 + 1 * (y 0).val; omega
    · show (y 1).val = cc3_transform_13 (grid3.coords t) 1 * 4096 + 1 * (y 1).val
      rw [to13]; show _ = 0 * 4096 + 1 * (y 1).val; omega

theorem fin15 (G) (hG : (rd3 A (aft A) (inv A) c).ArrAt 15 cfg3.N G) : G = aCode 4096 (opsOf A c).CR := by
  refine arr_from A c 15 _ G hG cov15 (fun t hf X hX y => ?_) (Memref.isWhole_whole _)
  have ht := (flush3_15 t).mp hf
  have c0 := crd0 t
  have c1 := crd1 t
  refine (congrArg X (eq_ix2 (n0 := 384) (n1 := 4096) ((cfg3.win 15).xinj (cfg3.grid.coords t) y))).trans ?_
  refine (hX (by omega) _ _).trans ?_
  · refine congrArg code (congr (congrArg _ ?_) ?_)
    · show 384 * (grid3.coords t 0).val + (y 0).val = cc3_transform_15 (grid3.coords t) 0 * 384 + 1 * (y 0).val
      rw [to15]; show _ = (grid3.coords t 0).val * 384 + 1 * (y 0).val; omega
    · show (y 1).val = cc3_transform_15 (grid3.coords t) 1 * 4096 + 1 * (y 1).val
      rw [to15]; show _ = 0 * 4096 + 1 * (y 1).val; omega

end Cert.KernelIdeal.Hand
-- ==== Proof.Res.lean ====
/- The main region's operands, in terms of the program's arguments. -/
module

public import proofs.«01_k».proof.Proof.DqArr
public import proofs.«01_k».proof.Proof.HostVal
public import proofs.«01_k».proof.Proof.Out3

@[expose] public section

set_option maxRecDepth 16384

noncomputable section

namespace Cert.KernelIdeal.Hand

open Idealize.ShloMosaic Idealize.ShloMosaic.TcCoe
open Idealize.ShloMosaic.Pipeline (Dat RDat)
open Cert.KernelIdeal.Gen Cert.Hand

/-- The rows of the two leading axes as one axis. -/
def rows3 (X : (⟨3, ![6, 1536, 1024]⟩ : Shape).Idx → EReal) : (⟨2, ![9216, 1024]⟩ : Shape).Idx → EReal :=
  fun i => X (ix3 ⟨(i 0).val / 1536, by have : (i 0).val < 9216 := (i 0).isLt; omega⟩ ⟨(i 0).val % 1536, by omega⟩ (i 1))

/-- The array of the dequantised weights. -/
def dqa (M N : ℕ) (W : (⟨2, ![M / 2, N]⟩ : Shape).Idx → BitVec 8) (S : (⟨2, ![M / 128, N]⟩ : Shape).Idx → EReal) (Z : (⟨2, ![M / 128, N]⟩ : Shape).Idx → BitVec 8) :
    (⟨2, ![M, N]⟩ : Shape).Idx → EReal := fun i => deqs (byt W) (byt Z) (arr2 S) (i 0).val (i 1).val

/-- The operands, of the thirteen arguments. -/
def ops (a0 : (⟨3, ![6, 1536, 1024]⟩ : Shape).Idx → EReal) (a1 a2 : (⟨2, ![1024, 4096]⟩ : Shape).Idx → EReal) (a3 : (⟨2, ![4096, 1024]⟩ : Shape).Idx → EReal)
    (a4 a5 : (⟨2, ![512, 4096]⟩ : Shape).Idx → BitVec 8) (a6 : (⟨2, ![2048, 1024]⟩ : Shape).Idx → BitVec 8)
    (a7 : (⟨2, ![8, 4096]⟩ : Shape).Idx → EReal) (a8 : (⟨2, ![8, 4096]⟩ : Shape).Idx → BitVec 8)
    (a9 : (⟨2, ![8, 4096]⟩ : Shape).Idx → EReal) (a10 : (⟨2, ![8, 4096]⟩ : Shape).Idx → BitVec 8)
    (a11 : (⟨2, ![32, 1024]⟩ : Shape).Idx → EReal) (a12 : (⟨2, ![32, 1024]⟩ : Shape).Idx → BitVec 8) : Ops where
  x := arr2 (rows3 a0)
  wg := arr2 a1
  wu := arr2 a2
  wd := arr2 a3
  dg := arr2 (dqa 1024 4096 a4 a7 a8)
  du := arr2 (dqa 1024 4096 a5 a9 a10)
  dd := arr2 (dqa 4096 1024 a6 a11 a12)

variable (m : (ℓ : Loc nD τ sig) → Buf (Elt Ideal) ℓ) (c : Dev nD)

theorem x_m : (W7 m c main_v9 : S9216x1024.Idx → EReal) = rows3 (m ((c : Thread nD τ).loc main_arg0)) := by
  funext i
  refine (congrArg (W7 m c main_v9 : S9216x1024.Idx → EReal) (eq_ix2 (n0 := 9216) (n1 := 1024) i)).trans ?_
  refine (ho3_9 (W6 m c) (i 0) (i 1)).trans ?_
  have e : W6 m c main_arg0 = m ((c : Thread nD τ).loc main_arg0) :=
    (W6_of m c main_arg0 (by decide)).trans <| (W5_of m c main_arg0 (by decide)).trans <| (W4_of m c main_arg0 (by decide)).trans <|
      (W3_of m c main_arg0 (by decide)).trans <| (W2_of m c main_arg0 (by decide)).trans (V1_of m c main_arg0 (by decide))
  exact congrFun e _

theorem w1_m : W7 m c main_arg1 = m ((c : Thread nD τ).loc main_arg1) :=
  W7_of_m m c main_arg1 (by decide) (by decide) (by decide) (by decide) (by decide) (by decide) (by decide)
theorem w2_m : W7 m c main_arg2 = m ((c : Thread nD τ).loc main_arg2) :=
  W7_of_m m c main_arg2 (by decide) (by decide) (by decide) (by decide) (by decide) (by decide) (by decide)
theorem w5_m : W7 m c main_arg3 = m ((c : Thread nD τ).loc main_arg3) :=
  W7_of_m m c main_arg3 (by decide) (by decide) (by decide) (by decide) (by decide) (by decide) (by decide)

theorem cod0_m : A0 m c 0 = m ((c : Thread nD τ).loc main_arg4) := (V1_of m c main_arg4 (by decide))

theorem sca0_m : flat3 (M := 8) (N := 4096) (A0 m c 1) = m ((c : Thread nD τ).loc main_arg7) := by
  funext y
  refine (ho0_0 (V0 m c) (y 0) (y 1)).trans ?_
  have e : V0 m c main_arg7 = m ((c : Thread nD τ).loc main_arg7) := rfl
  exact (congrFun e _).trans (congrArg (m ((c : Thread nD τ).loc main_arg7)) (eq_ix2 (n0 := 8) (n1 := 4096) y).symm)

theorem zer0_m : flat3 (M := 8) (N := 4096) (A0 m c 2) = m ((c : Thread nD τ).loc main_arg8) := by
  funext y
  refine (ho0_1 (V0 m c) (y 0) (y 1)).trans ?_
  have e : V0 m c main_arg8 = m ((c : Thread nD τ).loc main_arg8) := rfl
  exact (congrFun e _).trans (congrArg (m ((c : Thread nD τ).loc main_arg8)) (eq_ix2 (n0 := 8) (n1 := 4096) y).symm)

theorem dq0_m : (W7 m c main_v2 : S1024x4096.Idx → EReal) = dqa 1024 4096 (m ((c : Thread nD τ).loc main_arg4)) (m ((c : Thread nD τ).loc main_arg7)) (m ((c : Thread nD τ).loc main_arg8)) := by
  have e : W7 m c main_v2 = W2 m c main_v2 := (W7_of m c main_v2 (by decide)).trans <| (W6_of m c main_v2 (by decide)).trans <| (W5_of m c main_v2 (by decide)).trans <| (W4_of m c main_v2 (by decide)).trans <| (W3_of m c main_v2 (by decide))
  have e' : W2 m c main_v2 = (dat0 (A0 m) c).arrAt 3 cfg0.N := Function.update_self _ _ _
  refine (e.trans e').trans ((find0 (A0 m) c).trans ?_)
  rw [sca0_m, zer0_m, cod0_m]
  rfl

theorem cod1_m : A1 m c 0 = m ((c : Thread nD τ).loc main_arg5) := (W3_of m c main_arg5 (by decide)).trans <| (W2_of m c main_arg5 (by decide)).trans (V1_of m c main_arg5 (by decide))

theorem sca1_m : flat3 (M := 8) (N := 4096) (A1 m c 1) = m ((c : Thread nD τ).loc main_arg9) := by
  funext y
  refine (ho1_3 (W2 m c) (y 0) (y 1)).trans ?_
  have e : W2 m c main_arg9 = m ((c : Thread nD τ).loc main_arg9) := (W2_of m c main_arg9 (by decide)).trans (V1_of m c main_arg9 (by decide))
  exact (congrFun e _).trans (congrArg (m ((c : Thread nD τ).loc main_arg9)) (eq_ix2 (n0 := 8) (n1 := 4096) y).symm)

theorem zer1_m : flat3 (M := 8) (N := 4096) (A1 m c 2) = m ((c : Thread nD τ).loc main_arg10) := by
  funext y
  refine (ho1_4 (W2 m c) (y 0) (y 1)).trans ?_
  have e : W2 m c main_arg10 = m ((c : Thread nD τ).loc main_arg10) := (W2_of m c main_arg10 (by decide)).trans (V1_of m c main_arg10 (by decide))
  exact (congrFun e _).trans (congrArg (m ((c : Thread nD τ).loc main_arg10)) (eq_ix2 (n0 := 8) (n1 := 4096) y).symm)

theorem dq1_m : (W7 m c main_v5 : S1024x4096.Idx → EReal) = dqa 1024 4096 (m ((c : Thread nD τ).loc main_arg5)) (m ((c : Thread nD τ).loc main_arg9)) (m ((c : Thread nD τ).loc main_arg10)) := by
  have e : W7 m c main_v5 = W4 m c main_v5 := (W7_of m c main_v5 (by decide)).trans <| (W6_of m c main_v5 (by decide)).trans <| (W5_of m c main_v5 (by decide))
  have e' : W4 m c main_v5 = (dat1 (A1 m) c).arrAt 3 cfg1.N := Function.update_self _ _ _
  refine (e.trans e').trans ((find1 (A1 m) c).trans ?_)
  rw [sca1_m, zer1_m, cod1_m]
  rfl

theorem cod2_m : A2 m c 0 = m ((c : Thread nD τ).loc main_arg6) := (W5_of m c main_arg6 (by decide)).trans <| (W4_of m c main_arg6 (by decide)).trans <| (W3_of m c main_arg6 (by decide)).trans <| (W2_of m c main_arg6 (by decide)).trans (V1_of m c main_arg6 (by decide))

theorem sca2_m : flat3 (M := 32) (N := 1024) (A2 m c 1) = m ((c : Thread nD τ).loc main_arg11) := by
  funext y
  refine (ho2_6 (W4 m c) (y 0) (y 1)).trans ?_
  have e : W4 m c main_arg11 = m ((c : Thread nD τ).loc main_arg11) := (W4_of m c main_arg11 (by decide)).trans <| (W3_of m c main_arg11 (by decide)).trans <| (W2_of m c main_arg11 (by decide)).trans (V1_of m c main_arg11 (by decide))
  exact (congrFun e _).trans (congrArg (m ((c : Thread nD τ).loc main_arg11)) (eq_ix2 (n0 := 32) (n1 := 1024) y).symm)

theorem zer2_m : flat3 (M := 32) (N := 1024) (A2 m c 2) = m ((c : Thread nD τ).loc main_arg12) := by
  funext y
  refine (ho2_7 (W4 m c) (y 0) (y 1)).trans ?_
  have e : W4 m c main_arg12 = m ((c : Thread nD τ).loc main_arg12) := (W4_of m c main_arg12 (by decide)).trans <| (W3_of m c main_arg12 (by decide)).trans <| (W2_of m c main_arg12 (by decide)).trans (V1_of m c main_arg12 (by decide))
  exact (congrFun e _).trans (congrArg (m ((c : Thread nD τ).loc main_arg12)) (eq_ix2 (n0 := 32) (n1 := 1024) y).symm)

theorem dq2_m : (W7 m c main_v8 : S4096x1024.Idx → EReal) = dqa 4096 1024 (m ((c : Thread nD τ).loc main_arg6)) (m ((c : Thread nD τ).loc main_arg11)) (m ((c : Thread nD τ).loc main_arg12)) := by
  have e : W7 m c main_v8 = W6 m c main_v8 := (W7_of m c main_v8 (by decide))
  have e' : W6 m c main_v8 = (dat2 (A2 m) c).arrAt 3 cfg2.N := Function.update_self _ _ _
  refine (e.trans e').trans ((find2 (A2 m) c).trans ?_)
  rw [sca2_m, zer2_m, cod2_m]
  rfl

theorem ops_m : opsOf (A3 m) c = ops (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) := by
  have h : ∀ p q : Ops, p.x = q.x → p.wg = q.wg → p.wu = q.wu → p.wd = q.wd → p.dg = q.dg → p.du = q.du → p.dd = q.dd → p = q := by
    rintro ⟨⟩ ⟨⟩ h1 h2 h3 h4 h5 h6 h7
    dsimp only at h1 h2 h3 h4 h5 h6 h7
    subst h1 h2 h3 h4 h5 h6 h7
    rfl
  apply h
  · exact congrArg (arr2 (M := 9216) (N := 1024)) (x_m m c)
  · exact congrArg (arr2 (M := 1024) (N := 4096)) (w1_m m c)
  · exact congrArg (arr2 (M := 1024) (N := 4096)) (w2_m m c)
  · exact congrArg (arr2 (M := 4096) (N := 1024)) (w5_m m c)
  · exact congrArg (arr2 (M := 1024) (N := 4096)) (dq0_m m c)
  · exact congrArg (arr2 (M := 1024) (N := 4096)) (dq1_m m c)
  · exact congrArg (arr2 (M := 4096) (N := 1024)) (dq2_m m c)

end Cert.KernelIdeal.Hand
-- ==== Proof.RefVal.lean ====
/- The reference, entry by entry: its weights, its scales, its quantised operands, its products. -/
module

public import proofs.«01_k».proof.Proof.Ref
public import proofs.«01_k».proof.Proof.Res
public import proofs.«01_k».proof.Proof.Alg

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read Cert.Hand
open Cert.KernelIdeal.Hand (ops arr2 arr2_at arr2_of rows3 dqa deqs byt byt_at byt_of)

theorem half_host : ∀ (p : Fin 2) (w : Fin 256), (if p.val < 1 then IntOp.andi (BitVec.setWidth 32 (BitVec.ofFin w : BitVec 8)) 15#32
    else IntOp.shrsi ArithUnit.host (BitVec.setWidth 32 (BitVec.ofFin w : BitVec 8)) 4#32).toInt = (nib (BitVec.ofFin w) p.val : ℤ) := by
  decide +kernel

theorem half_num (p : ℕ) (hp : p < 2) (w : BitVec 8) : (((if p < 1 then IntOp.andi (BitVec.setWidth 32 w) 15#32
    else IntOp.shrsi ArithUnit.host (BitVec.setWidth 32 w) 4#32).toInt : ℝ) : EReal) = num (nib w p) :=
  congrArg (fun k : ℤ => ((k : ℝ) : EReal)) (half_host ⟨p, hp⟩ w.toFin)

theorem back (v s : EReal) : ((((BitVec.signExtend 32 (BitVec.truncate 8 (Ideal.fptosi 32 (clip v s)) : BitVec 8))).toInt : ℝ) : EReal) = clip v s := by
  rw [code_wide, BitVec.toInt_signExtend_of_le (by decide), code_back]

variable (x0 : (⟨S6x1536x1024, .bf16⟩ : BufTy).Contents (Elt Ideal)) (x1 : (⟨S1024x4096, .bf16⟩ : BufTy).Contents (Elt Ideal)) (x2 : (⟨S1024x4096, .bf16⟩ : BufTy).Contents (Elt Ideal)) (x3 : (⟨S4096x1024, .bf16⟩ : BufTy).Contents (Elt Ideal)) (x4 : (⟨S512x4096, .i8⟩ : BufTy).Contents (Elt Ideal)) (x5 : (⟨S512x4096, .i8⟩ : BufTy).Contents (Elt Ideal)) (x6 : (⟨S2048x1024, .i8⟩ : BufTy).Contents (Elt Ideal)) (x7 : (⟨S8x4096, .f32⟩ : BufTy).Contents (Elt Ideal)) (x8 : (⟨S8x4096, .i8⟩ : BufTy).Contents (Elt Ideal)) (x9 : (⟨S8x4096, .f32⟩ : BufTy).Contents (Elt Ideal)) (x10 : (⟨S8x4096, .i8⟩ : BufTy).Contents (Elt Ideal)) (x11 : (⟨S32x1024, .f32⟩ : BufTy).Contents (Elt Ideal)) (x12 : (⟨S32x1024, .i8⟩ : BufTy).Contents (Elt Ideal))

theorem r15 (r : Fin 1024) (n : Fin 4096) : FloatOps.sitofp (F := Ideal) .bf16 ((val_main_v15 (F := Ideal) x4) (ix2 r n)) = num (nib (byt (M := 512) (N := 4096) x4 (r.val / 2) n.val) (r.val % 2)) := by
  rw [show (r.val / 2) = ((⟨r.val / 2, by omega⟩ : Fin 512) : ℕ) from rfl, byt_at]
  rw [← half_num (r.val % 2) (by omega)]
  refine congrArg (fun k : BitVec 32 => (((k.toInt : ℤ) : ℝ) : EReal)) ?_
  pointwise [val_main_v15, val_main_v14, val_main_v13, val_main_v12, val_main_v11, val_main_v10, val_main_v9, val_main_v8, val_main_v7, val_main_c, val_main_c_0]
  rfl

theorem r18 (r : Fin 1024) (n : Fin 4096) : (val_main_v18 (F := Ideal) x4 x7 x8) (ix2 r n) = dqa 1024 4096 x4 x7 x8 (ix2 r n) := by
  pointwise [val_main_v18, val_main_v17, val_main_v16, val_main_v6, val_main_v5, val_main_v4, val_main_v3, val_main_v2, val_main_v1, val_main_v0]
  rw [r15]
  refine (congrArg (fun z => (_ - z) * _) (wide_num _)).trans ?_
  exact congrArg₂ (fun (z : BitVec 8) (s : EReal) => (num (nib (byt (M := 512) (N := 4096) x4 (r.val / 2) n.val) (r.val % 2)) - num z.toNat) * s)
    (byt_at (M := 8) (N := 4096) x8 ⟨r.val / 128, by omega⟩ n).symm (arr2_at (M := 8) (N := 4096) x7 ⟨r.val / 128, by omega⟩ n).symm

theorem r34 (r : Fin 1024) (n : Fin 4096) : FloatOps.sitofp (F := Ideal) .bf16 ((val_main_v34 (F := Ideal) x5) (ix2 r n)) = num (nib (byt (M := 512) (N := 4096) x5 (r.val / 2) n.val) (r.val % 2)) := by
  rw [show (r.val / 2) = ((⟨r.val / 2, by omega⟩ : Fin 512) : ℕ) from rfl, byt_at]
  rw [← half_num (r.val % 2) (by omega)]
  refine congrArg (fun k : BitVec 32 => (((k.toInt : ℤ) : ℝ) : EReal)) ?_
  pointwise [val_main_v34, val_main_v33, val_main_v32, val_main_v31, val_main_v30, val_main_v29, val_main_v28, val_main_v27, val_main_v26, val_main_c_1, val_main_c_2]
  rfl

theorem r37 (r : Fin 1024) (n : Fin 4096) : (val_main_v37 (F := Ideal) x5 x9 x10) (ix2 r n) = dqa 1024 4096 x5 x9 x10 (ix2 r n) := by
  pointwise [val_main_v37, val_main_v36, val_main_v35, val_main_v25, val_main_v24, val_main_v23, val_main_v22, val_main_v21, val_main_v20, val_main_v19]
  rw [r34]
  refine (congrArg (fun z => (_ - z) * _) (wide_num _)).trans ?_
  exact congrArg₂ (fun (z : BitVec 8) (s : EReal) => (num (nib (byt (M := 512) (N := 4096) x5 (r.val / 2) n.val) (r.val % 2)) - num z.toNat) * s)
    (byt_at (M := 8) (N := 4096) x10 ⟨r.val / 128, by omega⟩ n).symm (arr2_at (M := 8) (N := 4096) x9 ⟨r.val / 128, by omega⟩ n).symm

theorem r53 (r : Fin 4096) (n : Fin 1024) : FloatOps.sitofp (F := Ideal) .bf16 ((val_main_v53 (F := Ideal) x6) (ix2 r n)) = num (nib (byt (M := 2048) (N := 1024) x6 (r.val / 2) n.val) (r.val % 2)) := by
  rw [show (r.val / 2) = ((⟨r.val / 2, by omega⟩ : Fin 2048) : ℕ) from rfl, byt_at]
  rw [← half_num (r.val % 2) (by omega)]
  refine congrArg (fun k : BitVec 32 => (((k.toInt : ℤ) : ℝ) : EReal)) ?_
  pointwise [val_main_v53, val_main_v52, val_main_v51, val_main_v50, val_main_v49, val_main_v48, val_main_v47, val_main_v46, val_main_v45, val_main_c_3, val_main_c_4]
  rfl

theorem r56 (r : Fin 4096) (n : Fin 1024) : (val_main_v56 (F := Ideal) x6 x11 x12) (ix2 r n) = dqa 4096 1024 x6 x11 x12 (ix2 r n) := by
  pointwise [val_main_v56, val_main_v55, val_main_v54, val_main_v44, val_main_v43, val_main_v42, val_main_v41, val_main_v40, val_main_v39, val_main_v38]
  rw [r53]
  refine (congrArg (fun z => (_ - z) * _) (wide_num _)).trans ?_
  exact congrArg₂ (fun (z : BitVec 8) (s : EReal) => (num (nib (byt (M := 2048) (N := 1024) x6 (r.val / 2) n.val) (r.val % 2)) - num z.toNat) * s)
    (byt_at (M := 32) (N := 1024) x12 ⟨r.val / 128, by omega⟩ n).symm (arr2_at (M := 32) (N := 1024) x11 ⟨r.val / 128, by omega⟩ n).symm

end Cert.ReferenceIdeal.Hand
-- ==== Proof.RefAct.lean ====
/- The reference's products, scales, codes and gates, entry by entry: row `b` of group `a` is row `1536 a + b` of the layer. -/
module

public import proofs.«01_k».proof.Proof.RefVal

@[expose] public section

set_option maxRecDepth 16384
set_option maxHeartbeats 1000000

noncomputable section

namespace Cert.ReferenceIdeal.Hand

open Idealize.ShloMosaic Idealize.ShloMosaic.TcCoe
open Cert.ReferenceIdeal Cert.ReferenceIdeal.Gen Cert.ReferenceIdeal.Read Cert.Hand
open Cert.KernelIdeal.Hand (ops arr2 arr2_at arr2_of rows3 dqa deqs byt byt_at byt_of)

theorem back' (v s : EReal) : (((BitVec.signExtend 32 (code (clip v s))).toInt : ℝ) : EReal) = clip v s := by
  rw [BitVec.toInt_signExtend_of_le (by decide), code_back]

theorem pick (q : EReal) : Scalar.select (FloatOps.cmpf (F := Ideal) (φ := .f32) .oeq q (FloatOps.ofBits (F := Ideal) .f32 0x00000000#32)) (FloatOps.ofBits (F := Ideal) .f32 0x3F800000#32)
    (FloatOps.hostDivf (F := Ideal) (φ := .f32) q (FloatOps.ofBits (F := Ideal) .f32 0x42FE0000#32)) = scal q := by
  have e0 : FloatOps.ofBits (F := Ideal) .f32 0x00000000#32 = 0 := Ideal.ofBits_zero_f32
  have e1 : FloatOps.ofBits (F := Ideal) .f32 0x3F800000#32 = 1 := Ideal.ofBits_one_f32
  rw [e0, e1]
  show Scalar.select (Ideal.cmp .oeq q 0) (1 : EReal) (Ideal.div q hi) = scal q
  unfold scal
  by_cases h : q = 0 <;> simp [Scalar.select, Ideal.cmp, h]

variable (x0 : (⟨S6x1536x1024, .bf16⟩ : BufTy).Contents (Elt Ideal)) (x1 : (⟨S1024x4096, .bf16⟩ : BufTy).Contents (Elt Ideal)) (x2 : (⟨S1024x4096, .bf16⟩ : BufTy).Contents (Elt Ideal)) (x3 : (⟨S4096x1024, .bf16⟩ : BufTy).Contents (Elt Ideal)) (x4 : (⟨S512x4096, .i8⟩ : BufTy).Contents (Elt Ideal)) (x5 : (⟨S512x4096, .i8⟩ : BufTy).Contents (Elt Ideal)) (x6 : (⟨S2048x1024, .i8⟩ : BufTy).Contents (Elt Ideal)) (x7 : (⟨S8x4096, .f32⟩ : BufTy).Contents (Elt Ideal)) (x8 : (⟨S8x4096, .i8⟩ : BufTy).Contents (Elt Ideal)) (x9 : (⟨S8x4096, .f32⟩ : BufTy).Contents (Elt Ideal)) (x10 : (⟨S8x4096, .i8⟩ : BufTy).Contents (Elt Ideal)) (x11 : (⟨S32x1024, .f32⟩ : BufTy).Contents (Elt Ideal)) (x12 : (⟨S32x1024, .i8⟩ : BufTy).Contents (Elt Ideal))

theorem x_at (a : Fin 6) (b : Fin 1536) (k : Fin 1024) : (ops x0 x1 x2 x3 x4 x5 x6 x7 x8 x9 x10 x11 x12).x (1536 * a.val + b.val) k.val = x0 (ix3 a b k) := by
  refine (arr2_at (M := 9216) (N := 1024) (rows3 x0) ⟨1536 * a.val + b.val, by omega⟩ k).trans ?_
  have e0 : (⟨(1536 * a.val + b.val) / 1536, by omega⟩ : Fin 6) = a := Fin.ext (by show (1536 * a.val + b.val) / 1536 = a.val; omega)
  have e1 : (⟨(1536 * a.val + b.val) % 1536, by omega⟩ : Fin 1536) = b := Fin.ext (by show (1536 * a.val + b.val) % 1536 = b.val; omega)
  show x0 (ix3 ⟨(1536 * a.val + b.val) / 1536, _⟩ ⟨(1536 * a.val + b.val) % 1536, _⟩ k) = _
  rw [e0, e1]

theorem r57 (a : Fin 6) (b : Fin 1536) (n : Fin 4096) : (val_main_v57 (F := Ideal) x0 x1) (ix3 a b n) = (ops x0 x1 x2 x3 x4 x5 x6 x7 x8 x9 x10 x11 x12).GR (1536 * a.val + b.val) n.val := by
  pointwise [val_main_v57]
  exact Finset.sum_congr rfl fun k _ => congrArg₂ (fun p q : EReal => p * q) (x_at x0 x1 x2 x3 x4 x5 x6 x7 x8 x9 x10 x11 x12 a b k).symm (arr2_at (M := 1024) (N := 4096) x1 k n).symm

theorem r58 (a : Fin 6) (b : Fin 1536) (n : Fin 4096) : (val_main_v58 (F := Ideal) x0 x2) (ix3 a b n) = (ops x0 x1 x2 x3 x4 x5 x6 x7 x8 x9 x10 x11 x12).UR (1536 * a.val + b.val) n.val := by
  pointwise [val_main_v58]
  exact Finset.sum_congr rfl fun k _ => congrArg₂ (fun p q : EReal => p * q) (x_at x0 x1 x2 x3 x4 x5 x6 x7 x8 x9 x10 x11 x12 a b k).symm (arr2_at (M := 1024) (N := 4096) x2 k n).symm

theorem r61 (a : Fin 6) (b : Fin 1536) : (val_main_v61 (F := Ideal) x0) (ix2 a b) = amax 1024 ((ops x0 x1 x2 x3 x4 x5 x6 x7 x8 x9 x10 x11 x12).x (1536 * a.val + b.val)) := by
  pointwise [val_main_v61, val_main_v60, val_main_v59, val_main_cst]
  exact congrArg (fun f : Fin 1024 → EReal => Finset.fold max nI f Finset.univ) (funext fun k => congrArg mag (x_at x0 x1 x2 x3 x4 x5 x6 x7 x8 x9 x10 x11 x12 a b k).symm)

theorem r66 (a : Fin 6) (b : Fin 1536) : (val_main_v66 (F := Ideal) x0) (ix2 a b) = (ops x0 x1 x2 x3 x4 x5 x6 x7 x8 x9 x10 x11 x12).S (1536 * a.val + b.val) := by
  rw [val_main_v66_apply, val_main_v63_apply, val_main_v65_apply, r61 x0 x1 x2 x3 x4 x5 x6 x7 x8 x9 x10 x11 x12 a b, val_main_v62_apply, val_main_cst_5_apply, val_main_v64_apply, val_main_cst_6_apply, val_main_call0_v1_apply, val_main_call0_v0_apply, val_main_cst_7_apply]
  exact pick _

theorem r71 (a : Fin 6) (b : Fin 1536) (n : Fin 1024) : (val_main_v71 (F := Ideal) x0) (ix3 a b n) = (ops x0 x1 x2 x3 x4 x5 x6 x7 x8 x9 x10 x11 x12).C (1536 * a.val + b.val) n.val := by
  have e : idx_main_v67 (idx_main_v68 (ix3 a b n)) = ix2 a b := eq_ix2 _
  rw [val_main_v71_apply, val_main_call2_v4_apply, val_main_call2_v3_apply, val_main_call2_v2_apply, val_main_call2_v1_apply, val_main_call2_v0_apply, val_main_cst_9_apply, val_main_cst_8_apply, val_main_v70_apply, val_main_v69_apply, val_main_v68_apply, val_main_v67_apply, e, r66 x0 x1 x2 x3 x4 x5 x6 x7 x8 x9 x10 x11 x12 a b, val_main_v59_apply, ← x_at x0 x1 x2 x3 x4 x5 x6 x7 x8 x9 x10 x11 x12 a b n]
  rfl

theorem r73 (a : Fin 6) (b : Fin 1536) (n : Fin 1024) : (val_main_v73 (F := Ideal) x0) (ix3 a b n) = code ((ops x0 x1 x2 x3 x4 x5 x6 x7 x8 x9 x10 x11 x12).C (1536 * a.val + b.val) n.val) := by
  pointwise [val_main_v73, val_main_v72]
  rw [r71 x0 x1 x2 x3 x4 x5 x6 x7 x8 x9 x10 x11 x12 a b n]
  exact code_wide _ _

theorem r75 (a : Fin 6) (b : Fin 1536) (n : Fin 1024) : (val_main_v75 (F := Ideal) x0) (ix3 a b n) = (ops x0 x1 x2 x3 x4 x5 x6 x7 x8 x9 x10 x11 x12).C (1536 * a.val + b.val) n.val := by
  pointwise [val_main_v75, val_main_v74]
  rw [r73 x0 x1 x2 x3 x4 x5 x6 x7 x8 x9 x10 x11 x12 a b n]
  exact back' _ _

theorem r81 (a : Fin 6) (b : Fin 1536) (n : Fin 1024) : (val_main_v81 (F := Ideal) x0) (ix3 a b n) = (ops x0 x1 x2 x3 x4 x5 x6 x7 x8 x9 x10 x11 x12).C (1536 * a.val + b.val) n.val := by
  pointwise [val_main_v81, val_main_v80]
  rw [r73 x0 x1 x2 x3 x4 x5 x6 x7 x8 x9 x10 x11 x12 a b n]
  exact back' _ _

theorem r76 (a : Fin 6) (b : Fin 1536) (n : Fin 4096) : (val_main_v76 (F := Ideal) x0 x4 x7 x8) (ix3 a b n) = dot 1024 (ops x0 x1 x2 x3 x4 x5 x6 x7 x8 x9 x10 x11 x12).C (ops x0 x1 x2 x3 x4 x5 x6 x7 x8 x9 x10 x11 x12).dg (1536 * a.val + b.val) n.val := by
  pointwise [val_main_v76]
  exact Finset.sum_congr rfl fun k _ => congrArg₂ (fun p q : EReal => p * q) (r75 x0 x1 x2 x3 x4 x5 x6 x7 x8 x9 x10 x11 x12 a b k)
    ((r18 x4 x7 x8 k n).trans (arr2_at (M := 1024) (N := 4096) (dqa 1024 4096 x4 x7 x8) k n).symm)

theorem r79 (a : Fin 6) (b : Fin 1536) (n : Fin 4096) : (val_main_v79 (F := Ideal) x0 x4 x7 x8) (ix3 a b n) = (ops x0 x1 x2 x3 x4 x5 x6 x7 x8 x9 x10 x11 x12).GQ (1536 * a.val + b.val) n.val := by
  have e : idx_main_v77 (idx_main_v78 (ix3 a b n)) = ix2 a b := eq_ix2 _
  rw [val_main_v79_apply, val_main_v78_apply, val_main_v77_apply, e, r76 x0 x1 x2 x3 x4 x5 x6 x7 x8 x9 x10 x11 x12 a b n, r66 x0 x1 x2 x3 x4 x5 x6 x7 x8 x9 x10 x11 x12 a b]
  rfl

theorem r82 (a : Fin 6) (b : Fin 1536) (n : Fin 4096) : (val_main_v82 (F := Ideal) x0 x5 x9 x10) (ix3 a b n) = dot 1024 (ops x0 x1 x2 x3 x4 x5 x6 x7 x8 x9 x10 x11 x12).C (ops x0 x1 x2 x3 x4 x5 x6 x7 x8 x9 x10 x11 x12).du (1536 * a.val + b.val) n.val := by
  pointwise [val_main_v82]
  exact Finset.sum_congr rfl fun k _ => congrArg₂ (fun p q : EReal => p * q) (r81 x0 x1 x2 x3 x4 x5 x6 x7 x8 x9 x10 x11 x12 a b k)
    ((r37 x5 x9 x10 k n).trans (arr2_at (M := 1024) (N := 4096) (dqa 1024 4096 x5 x9 x10) k n).symm)

theorem r85 (a : Fin 6) (b : Fin 1536) (n : Fin 4096) : (val_main_v85 (F := Ideal) x0 x5 x9 x10) (ix3 a b n) = (ops x0 x1 x2 x3 x4 x5 x6 x7 x8 x9 x10 x11 x12).UQ (1536 * a.val + b.val) n.val := by
  have e : idx_main_v83 (idx_main_v84 (ix3 a b n)) = ix2 a b := eq_ix2 _
  rw [val_main_v85_apply, val_main_v84_apply, val_main_v83_apply, e, r82 x0 x1 x2 x3 x4 x5 x6 x7 x8 x9 x10 x11 x12 a b n, r66 x0 x1 x2 x3 x4 x5 x6 x7 x8 x9 x10 x11 x12 a b]
  rfl

theorem r92 (a : Fin 6) (b : Fin 1536) (n : Fin 4096) : (val_main_v92 (F := Ideal) x0 x4 x7 x8) (ix3 a b n) = swish ((ops x0 x1 x2 x3 x4 x5 x6 x7 x8 x9 x10 x11 x12).GQ (1536 * a.val + b.val) n.val) := by
  pointwise [val_main_v92, val_main_v91, val_main_v90, val_main_v89, val_main_v88, val_main_v87, val_main_v86, val_main_cst_10, val_main_cst_11]
  rw [r79 x0 x1 x2 x3 x4 x5 x6 x7 x8 x9 x10 x11 x12 a b n]
  rfl

theorem r99 (a : Fin 6) (b : Fin 1536) (n : Fin 4096) : (val_main_v99 (F := Ideal) x0 x1) (ix3 a b n) = swish ((ops x0 x1 x2 x3 x4 x5 x6 x7 x8 x9 x10 x11 x12).GR (1536 * a.val + b.val) n.val) := by
  pointwise [val_main_v99, val_main_v98, val_main_v97, val_main_v96, val_main_v95, val_main_v94, val_main_v93, val_main_cst_12, val_main_cst_13]
  rw [r57 x0 x1 x2 x3 x4 x5 x6 x7 x8 x9 x10 x11 x12 a b n]
  rfl

theorem r100 (a : Fin 6) (b : Fin 1536) (n : Fin 4096) : (val_main_v100 (F := Ideal) x0 x4 x5 x7 x8 x9 x10) (ix3 a b n) = (ops x0 x1 x2 x3 x4 x5 x6 x7 x8 x9 x10 x11 x12).HF (1536 * a.val + b.val) n.val := by
  pointwise [val_main_v100]
  rw [r92 x0 x1 x2 x3 x4 x5 x6 x7 x8 x9 x10 x11 x12 a b n, r85 x0 x1 x2 x3 x4 x5 x6 x7 x8 x9 x10 x11 x12 a b n]
  rfl

theorem r101 (a : Fin 6) (b : Fin 1536) (n : Fin 4096) : (val_main_v101 (F := Ideal) x0 x2 x4 x7 x8) (ix3 a b n) = (ops x0 x1 x2 x3 x4 x5 x6 x7 x8 x9 x10 x11 x12).HG (1536 * a.val + b.val) n.val := by
  pointwise [val_main_v101]
  rw [r92 x0 x1 x2 x3 x4 x5 x6 x7 x8 x9 x10 x11 x12 a b n, r58 x0 x1 x2 x3 x4 x5 x6 x7 x8 x9 x10 x11 x12 a b n]
  rfl

theorem r102 (a : Fin 6) (b : Fin 1536) (n : Fin 4096) : (val_main_v102 (F := Ideal) x0 x1 x5 x9 x10) (ix3 a b n) = (ops x0 x1 x2 x3 x4 x5 x6 x7 x8 x9 x10 x11 x12).HU (1536 * a.val + b.val) n.val := by
  pointwise [val_main_v102]
  rw [r99 x0 x1 x2 x3 x4 x5 x6 x7 x8 x9 x10 x11 x12 a b n, r85 x0 x1 x2 x3 x4 x5 x6 x7 x8 x9 x10 x11 x12 a b n]
  rfl

theorem r103 (a : Fin 6) (b : Fin 1536) (n : Fin 4096) : (val_main_v103 (F := Ideal) x0 x1 x2) (ix3 a b n) = (ops x0 x1 x2 x3 x4 x5 x6 x7 x8 x9 x10 x11 x12).HR (1536 * a.val + b.val) n.val := by
  pointwise [val_main_v103]
  rw [r99 x0 x1 x2 x3 x4 x5 x6 x7 x8 x9 x10 x11 x12 a b n, r58 x0 x1 x2 x3 x4 x5 x6 x7 x8 x9 x10 x11 x12 a b n]
  rfl

theorem r104 (a : Fin 6) (b : Fin 1536) (n : Fin 4096) : (val_main_v104 (F := Ideal) x0 x1 x2) (ix3 a b n) = (ops x0 x1 x2 x3 x4 x5 x6 x7 x8 x9 x10 x11 x12).HR (1536 * a.val + b.val) n.val := by
  pointwise [val_main_v104]
  exact r103 x0 x1 x2 x3 x4 x5 x6 x7 x8 x9 x10 x11 x12 a b n

theorem r105 (a : Fin 6) (b : Fin 1536) (n : Fin 1024) : (val_main_v105 (F := Ideal) x0 x1 x2 x3) (ix3 a b n) = (ops x0 x1 x2 x3 x4 x5 x6 x7 x8 x9 x10 x11 x12).YR (1536 * a.val + b.val) n.val := by
  pointwise [val_main_v105]
  exact Finset.sum_congr rfl fun k _ => congrArg₂ (fun p q : EReal => p * q) (r104 x0 x1 x2 x3 x4 x5 x6 x7 x8 x9 x10 x11 x12 a b k) (arr2_at (M := 4096) (N := 1024) x3 k n).symm

theorem r126 (a : Fin 6) (b : Fin 1536) (n : Fin 4096) : (val_main_v126 (F := Ideal) x0 x2 x4 x7 x8) (ix3 a b n) = (ops x0 x1 x2 x3 x4 x5 x6 x7 x8 x9 x10 x11 x12).HG (1536 * a.val + b.val) n.val := by
  pointwise [val_main_v126]
  exact r101 x0 x1 x2 x3 x4 x5 x6 x7 x8 x9 x10 x11 x12 a b n

theorem r127 (a : Fin 6) (b : Fin 1536) (n : Fin 1024) : (val_main_v127 (F := Ideal) x0 x2 x3 x4 x7 x8) (ix3 a b n) = (ops x0 x1 x2 x3 x4 x5 x6 x7 x8 x9 x10 x11 x12).Y1 (1536 * a.val + b.val) n.val := by
  pointwise [val_main_v127]
  exact Finset.sum_congr rfl fun k _ => congrArg₂ (fun p q : EReal => p * q) (r126 x0 x1 x2 x3 x4 x5 x6 x7 x8 x9 x10 x11 x12 a b k) (arr2_at (M := 4096) (N := 1024) x3 k n).symm

theorem r128 (a : Fin 6) (b : Fin 1536) (n : Fin 4096) : (val_main_v128 (F := Ideal) x0 x1 x5 x9 x10) (ix3 a b n) = (ops x0 x1 x2 x3 x4 x5 x6 x7 x8 x9 x10 x11 x12).HU (1536 * a.val + b.val) n.val := by
  pointwise [val_main_v128]
  exact r102 x0 x1 x2 x3 x4 x5 x6 x7 x8 x9 x10 x11 x12 a b n

theorem r129 (a : Fin 6) (b : Fin 1536) (n : Fin 1024) : (val_main_v129 (F := Ideal) x0 x1 x3 x5 x9 x10) (ix3 a b n) = (ops x0 x1 x2 x3 x4 x5 x6 x7 x8 x9 x10 x11 x12).Y2 (1536 * a.val + b.val) n.val := by
  pointwise [val_main_v129]
  exact Finset.sum_congr rfl fun k _ => congrArg₂ (fun p q : EReal => p * q) (r128 x0 x1 x2 x3 x4 x5 x6 x7 x8 x9 x10 x11 x12 a b k) (arr2_at (M := 4096) (N := 1024) x3 k n).symm

theorem r107 (a : Fin 6) (b : Fin 1536) : (val_main_v107 (F := Ideal) x0 x4 x5 x7 x8 x9 x10) (ix2 a b) = amax 4096 ((ops x0 x1 x2 x3 x4 x5 x6 x7 x8 x9 x10 x11 x12).HF (1536 * a.val + b.val)) := by
  pointwise [val_main_v107, val_main_v106, val_main_cst_14]
  exact congrArg (fun f : Fin 4096 → EReal => Finset.fold max nI f Finset.univ) (funext fun k => congrArg mag (r100 x0 x1 x2 x3 x4 x5 x6 x7 x8 x9 x10 x11 x12 a b k))

theorem r112 (a : Fin 6) (b : Fin 1536) : (val_main_v112 (F := Ideal) x0 x4 x5 x7 x8 x9 x10) (ix2 a b) = (ops x0 x1 x2 x3 x4 x5 x6 x7 x8 x9 x10 x11 x12).SF (1536 * a.val + b.val) := by
  rw [val_main_v112_apply, val_main_v109_apply, val_main_v111_apply, r107 x0 x1 x2 x3 x4 x5 x6 x7 x8 x9 x10 x11 x12 a b, val_main_v108_apply, val_main_cst_15_apply, val_main_v110_apply, val_main_cst_16_apply, val_main_call3_v1_apply, val_main_call3_v0_apply, val_main_cst_17_apply]
  exact pick _

theorem r117 (a : Fin 6) (b : Fin 1536) (n : Fin 4096) : (val_main_v117 (F := Ideal) x0 x4 x5 x7 x8 x9 x10) (ix3 a b n) = (ops x0 x1 x2 x3 x4 x5 x6 x7 x8 x9 x10 x11 x12).CF (1536 * a.val + b.val) n.val := by
  have e : idx_main_v113 (idx_main_v114 (ix3 a b n)) = ix2 a b := eq_ix2 _
  rw [val_main_v117_apply, val_main_call5_v4_apply, val_main_call5_v3_apply, val_main_call5_v2_apply, val_main_call5_v1_apply, val_main_call5_v0_apply, val_main_cst_19_apply, val_main_cst_18_apply, val_main_v116_apply, val_main_v115_apply, val_main_v114_apply, val_main_v113_apply, e, r112 x0 x1 x2 x3 x4 x5 x6 x7 x8 x9 x10 x11 x12 a b, r100 x0 x1 x2 x3 x4 x5 x6 x7 x8 x9 x10 x11 x12 a b n]
  rfl

theorem r119 (a : Fin 6) (b : Fin 1536) (n : Fin 4096) : (val_main_v119 (F := Ideal) x0 x4 x5 x7 x8 x9 x10) (ix3 a b n) = code ((ops x0 x1 x2 x3 x4 x5 x6 x7 x8 x9 x10 x11 x12).CF (1536 * a.val + b.val) n.val) := by
  pointwise [val_main_v119, val_main_v118]
  rw [r117 x0 x1 x2 x3 x4 x5 x6 x7 x8 x9 x10 x11 x12 a b n]
  exact code_wide _ _

theorem r121 (a : Fin 6) (b : Fin 1536) (n : Fin 4096) : (val_main_v121 (F := Ideal) x0 x4 x5 x7 x8 x9 x10) (ix3 a b n) = (ops x0 x1 x2 x3 x4 x5 x6 x7 x8 x9 x10 x11 x12).CF (1536 * a.val + b.val) n.val := by
  pointwise [val_main_v121, val_main_v120]
  rw [r119 x0 x1 x2 x3 x4 x5 x6 x7 x8 x9 x10 x11 x12 a b n]
  exact back' _ _

theorem r122 (a : Fin 6) (b : Fin 1536) (n : Fin 1024) : (val_main_v122 (F := Ideal) x0 x4 x5 x6 x7 x8 x9 x10 x11 x12) (ix3 a b n) = dot 4096 (ops x0 x1 x2 x3 x4 x5 x6 x7 x8 x9 x10 x11 x12).CF (ops x0 x1 x2 x3 x4 x5 x6 x7 x8 x9 x10 x11 x12).dd (1536 * a.val + b.val) n.val := by
  pointwise [val_main_v122]
  exact Finset.sum_congr rfl fun k _ => congrArg₂ (fun p q : EReal => p * q) (r121 x0 x1 x2 x3 x4 x5 x6 x7 x8 x9 x10 x11 x12 a b k)
    ((r56 x6 x11 x12 k n).trans (arr2_at (M := 4096) (N := 1024) (dqa 4096 1024 x6 x11 x12) k n).symm)

theorem r125 (a : Fin 6) (b : Fin 1536) (n : Fin 1024) : (val_main_v125 (F := Ideal) x0 x4 x5 x6 x7 x8 x9 x10 x11 x12) (ix3 a b n) = (ops x0 x1 x2 x3 x4 x5 x6 x7 x8 x9 x10 x11 x12).Y0 (1536 * a.val + b.val) n.val := by
  have e : idx_main_v123 (idx_main_v124 (ix3 a b n)) = ix2 a b := eq_ix2 _
  rw [val_main_v125_apply, val_main_v124_apply, val_main_v123_apply, e, r122 x0 x1 x2 x3 x4 x5 x6 x7 x8 x9 x10 x11 x12 a b n, r112 x0 x1 x2 x3 x4 x5 x6 x7 x8 x9 x10 x11 x12 a b]
  rfl

theorem r131 (a : Fin 6) (b : Fin 1536) : (val_main_v131 (F := Ideal) x0 x1 x2) (ix2 a b) = amax 4096 ((ops x0 x1 x2 x3 x4 x5 x6 x7 x8 x9 x10 x11 x12).HR (1536 * a.val + b.val)) := by
  pointwise [val_main_v131, val_main_v130, val_main_cst_20]
  exact congrArg (fun f : Fin 4096 → EReal => Finset.fold max nI f Finset.univ) (funext fun k => congrArg mag (r103 x0 x1 x2 x3 x4 x5 x6 x7 x8 x9 x10 x11 x12 a b k))

theorem r136 (a : Fin 6) (b : Fin 1536) : (val_main_v136 (F := Ideal) x0 x1 x2) (ix2 a b) = (ops x0 x1 x2 x3 x4 x5 x6 x7 x8 x9 x10 x11 x12).SR (1536 * a.val + b.val) := by
  rw [val_main_v136_apply, val_main_v133_apply, val_main_v135_apply, r131 x0 x1 x2 x3 x4 x5 x6 x7 x8 x9 x10 x11 x12 a b, val_main_v132_apply, val_main_cst_21_apply, val_main_v134_apply, val_main_cst_22_apply, val_main_call6_v1_apply, val_main_call6_v0_apply, val_main_cst_23_apply]
  exact pick _

theorem r141 (a : Fin 6) (b : Fin 1536) (n : Fin 4096) : (val_main_v141 (F := Ideal) x0 x1 x2) (ix3 a b n) = (ops x0 x1 x2 x3 x4 x5 x6 x7 x8 x9 x10 x11 x12).CR (1536 * a.val + b.val) n.val := by
  have e : idx_main_v137 (idx_main_v138 (ix3 a b n)) = ix2 a b := eq_ix2 _
  rw [val_main_v141_apply, val_main_call8_v4_apply, val_main_call8_v3_apply, val_main_call8_v2_apply, val_main_call8_v1_apply, val_main_call8_v0_apply, val_main_cst_25_apply, val_main_cst_24_apply, val_main_v140_apply, val_main_v139_apply, val_main_v138_apply, val_main_v137_apply, e, r136 x0 x1 x2 x3 x4 x5 x6 x7 x8 x9 x10 x11 x12 a b, r103 x0 x1 x2 x3 x4 x5 x6 x7 x8 x9 x10 x11 x12 a b n]
  rfl

theorem r143 (a : Fin 6) (b : Fin 1536) (n : Fin 4096) : (val_main_v143 (F := Ideal) x0 x1 x2) (ix3 a b n) = code ((ops x0 x1 x2 x3 x4 x5 x6 x7 x8 x9 x10 x11 x12).CR (1536 * a.val + b.val) n.val) := by
  pointwise [val_main_v143, val_main_v142]
  rw [r141 x0 x1 x2 x3 x4 x5 x6 x7 x8 x9 x10 x11 x12 a b n]
  exact code_wide _ _

theorem r145 (a : Fin 6) (b : Fin 1536) (n : Fin 4096) : (val_main_v145 (F := Ideal) x0 x1 x2) (ix3 a b n) = (ops x0 x1 x2 x3 x4 x5 x6 x7 x8 x9 x10 x11 x12).CR (1536 * a.val + b.val) n.val := by
  pointwise [val_main_v145, val_main_v144]
  rw [r143 x0 x1 x2 x3 x4 x5 x6 x7 x8 x9 x10 x11 x12 a b n]
  exact back' _ _

theorem r146 (a : Fin 6) (b : Fin 1536) (n : Fin 1024) : (val_main_v146 (F := Ideal) x0 x1 x2 x6 x11 x12) (ix3 a b n) = dot 4096 (ops x0 x1 x2 x3 x4 x5 x6 x7 x8 x9 x10 x11 x12).CR (ops x0 x1 x2 x3 x4 x5 x6 x7 x8 x9 x10 x11 x12).dd (1536 * a.val + b.val) n.val := by
  pointwise [val_main_v146]
  exact Finset.sum_congr rfl fun k _ => congrArg₂ (fun p q : EReal => p * q) (r145 x0 x1 x2 x3 x4 x5 x6 x7 x8 x9 x10 x11 x12 a b k)
    ((r56 x6 x11 x12 k n).trans (arr2_at (M := 4096) (N := 1024) (dqa 4096 1024 x6 x11 x12) k n).symm)

theorem r149 (a : Fin 6) (b : Fin 1536) (n : Fin 1024) : (val_main_v149 (F := Ideal) x0 x1 x2 x6 x11 x12) (ix3 a b n) = (ops x0 x1 x2 x3 x4 x5 x6 x7 x8 x9 x10 x11 x12).Y3 (1536 * a.val + b.val) n.val := by
  have e : idx_main_v147 (idx_main_v148 (ix3 a b n)) = ix2 a b := eq_ix2 _
  rw [val_main_v149_apply, val_main_v148_apply, val_main_v147_apply, e, r146 x0 x1 x2 x3 x4 x5 x6 x7 x8 x9 x10 x11 x12 a b n, r136 x0 x1 x2 x3 x4 x5 x6 x7 x8 x9 x10 x11 x12 a b]
  rfl

end Cert.ReferenceIdeal.Hand
-- ==== Proof.KVal.lean ====
/- What the program's ten results are, in terms of its arguments. -/
module

public import proofs.«01_k».proof.Proof.Res

@[expose] public section

set_option maxRecDepth 16384

noncomputable section

namespace Cert.KernelIdeal.Hand

open Idealize.ShloMosaic Idealize.ShloMosaic.TcCoe
open Idealize.ShloMosaic.Pipeline (Dat RDat)
open Cert.KernelIdeal.Gen Cert.Hand

/-- An array of numbers whose two leading axes are the rows. -/
def aCube (N : ℕ) (f : ℕ → ℕ → EReal) : (⟨3, ![6, 1536, N]⟩ : Shape).Idx → EReal := fun i => f (1536 * (i 0).val + (i 1).val) (i 2).val
/-- An array of 8-bit codes whose two leading axes are the rows. -/
def aBytes (N : ℕ) (f : ℕ → ℕ → EReal) : (⟨3, ![6, 1536, N]⟩ : Shape).Idx → BitVec 8 := fun i => code (f (1536 * (i 0).val + (i 1).val) (i 2).val)

variable (m : (ℓ : Loc nD τ sig) → Buf (Elt Ideal) ℓ) (c : Dev nD)

/-- The operands as launched. -/
abbrev opsM : Ops := ops (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12))

variable (V : Left3 m (aft (A3 m)) (inv (A3 m)) c)

theorem left_v10_0 : V.1 main_v10_0 = aTok (opsM m c) := by
  have h := fin7 (A3 m) c _ (V.2.1 7)
  rw [ops_m m c] at h
  exact h

theorem left_v10_1 : V.1 main_v10_1 = aChan (opsM m c) := by
  have h := fin8 (A3 m) c _ (V.2.1 8)
  rw [ops_m m c] at h
  exact h

theorem left_v10_2 : V.1 main_v10_2 = aRow ((opsM m c).TOK 4) := by
  have h := fin9 (A3 m) c _ (V.2.1 9)
  rw [ops_m m c] at h
  exact h

theorem left_v10_5 : V.1 main_v10_5 = aRow (opsM m c).S := by
  have h := fin12 (A3 m) c _ (V.2.1 12)
  rw [ops_m m c] at h
  exact h

theorem left_v10_7 : V.1 main_v10_7 = aRow (opsM m c).SF := by
  have h := fin14 (A3 m) c _ (V.2.1 14)
  rw [ops_m m c] at h
  exact h

theorem left_v10_9 : V.1 main_v10_9 = aRow (opsM m c).SR := by
  have h := fin16 (A3 m) c _ (V.2.1 16)
  rw [ops_m m c] at h
  exact h

theorem left_v10_3 : V.1 main_v10_3 = aFlat 1024 (opsM m c).YR := by
  have h := fin10 (A3 m) c _ (V.2.1 10)
  rw [ops_m m c] at h
  exact h

theorem left_v10_4 : V.1 main_v10_4 = aCode 1024 (opsM m c).C := by
  have h := fin11 (A3 m) c _ (V.2.1 11)
  rw [ops_m m c] at h
  exact h

theorem left_v10_6 : V.1 main_v10_6 = aCode 4096 (opsM m c).CF := by
  have h := fin13 (A3 m) c _ (V.2.1 13)
  rw [ops_m m c] at h
  exact h

theorem left_v10_8 : V.1 main_v10_8 = aCode 4096 (opsM m c).CR := by
  have h := fin15 (A3 m) c _ (V.2.1 15)
  rw [ops_m m c] at h
  exact h

theorem last_v10_0 : StableHlo.after hostOps4 V.1 main_v10_0 = aTok (opsM m c) :=
  (last_of m _ _ c V main_v10_0 (by decide)).trans (left_v10_0 m c V)

theorem last_v10_1 : StableHlo.after hostOps4 V.1 main_v10_1 = aChan (opsM m c) :=
  (last_of m _ _ c V main_v10_1 (by decide)).trans (left_v10_1 m c V)

theorem last_v10_2 : StableHlo.after hostOps4 V.1 main_v10_2 = aRow ((opsM m c).TOK 4) :=
  (last_of m _ _ c V main_v10_2 (by decide)).trans (left_v10_2 m c V)

theorem last_v10_5 : StableHlo.after hostOps4 V.1 main_v10_5 = aRow (opsM m c).S :=
  (last_of m _ _ c V main_v10_5 (by decide)).trans (left_v10_5 m c V)

theorem last_v10_7 : StableHlo.after hostOps4 V.1 main_v10_7 = aRow (opsM m c).SF :=
  (last_of m _ _ c V main_v10_7 (by decide)).trans (left_v10_7 m c V)

theorem last_v10_9 : StableHlo.after hostOps4 V.1 main_v10_9 = aRow (opsM m c).SR :=
  (last_of m _ _ c V main_v10_9 (by decide)).trans (left_v10_9 m c V)

theorem last_v11 : StableHlo.after hostOps4 V.1 main_v11 = aCube 1024 (opsM m c).YR := by
  funext i
  refine (congrArg (StableHlo.after hostOps4 V.1 main_v11 : S6x1536x1024.Idx → EReal) (eq_ix3 (n0 := 6) (n1 := 1536) (n2 := 1024) i)).trans ?_
  refine (ho4_11 V.1 (i 0) (i 1) (i 2)).trans ?_
  exact congrFun (left_v10_3 m c V) _

theorem last_v12 : StableHlo.after hostOps4 V.1 main_v12 = aBytes 1024 (opsM m c).C := by
  funext i
  refine (congrArg (StableHlo.after hostOps4 V.1 main_v12 : S6x1536x1024.Idx → BitVec 8) (eq_ix3 (n0 := 6) (n1 := 1536) (n2 := 1024) i)).trans ?_
  refine (ho4_12 V.1 (i 0) (i 1) (i 2)).trans ?_
  exact congrFun (left_v10_4 m c V) _

theorem last_v13 : StableHlo.after hostOps4 V.1 main_v13 = aBytes 4096 (opsM m c).CF := by
  funext i
  refine (congrArg (StableHlo.after hostOps4 V.1 main_v13 : S6x1536x4096.Idx → BitVec 8) (eq_ix3 (n0 := 6) (n1 := 1536) (n2 := 4096) i)).trans ?_
  refine (ho4_13 V.1 (i 0) (i 1) (i 2)).trans ?_
  exact congrFun (left_v10_6 m c V) _

theorem last_v14 : StableHlo.after hostOps4 V.1 main_v14 = aBytes 4096 (opsM m c).CR := by
  funext i
  refine (congrArg (StableHlo.after hostOps4 V.1 main_v14 : S6x1536x4096.Idx → BitVec 8) (eq_ix3 (n0 := 6) (n1 := 1536) (n2 := 4096) i)).trans ?_
  refine (ho4_14 V.1 (i 0) (i 1) (i 2)).trans ?_
  exact congrFun (left_v10_8 m c V) _

theorem value (ρ : Dev nD → PrngReg) : θ_run defs (onTc (τ := τ) (main (F := Ideal))) ⟨m, fun _ => 0, ρ⟩ (fun r => ∀ c : Dev nD,
r.2.mem ((c.tc : Thread nD τ).loc main_v10_0) = aTok (opsM m c)
      ∧ r.2.mem ((c.tc : Thread nD τ).loc main_v10_1) = aChan (opsM m c)
      ∧ r.2.mem ((c.tc : Thread nD τ).loc main_v10_2) = aRow ((opsM m c).TOK 4)
      ∧ r.2.mem ((c.tc : Thread nD τ).loc main_v11) = aCube 1024 (opsM m c).YR
      ∧ r.2.mem ((c.tc : Thread nD τ).loc main_v12) = aBytes 1024 (opsM m c).C
      ∧ r.2.mem ((c.tc : Thread nD τ).loc main_v10_5) = aRow (opsM m c).S
      ∧ r.2.mem ((c.tc : Thread nD τ).loc main_v13) = aBytes 4096 (opsM m c).CF
      ∧ r.2.mem ((c.tc : Thread nD τ).loc main_v10_7) = aRow (opsM m c).SF
      ∧ r.2.mem ((c.tc : Thread nD τ).loc main_v14) = aBytes 4096 (opsM m c).CR
      ∧ r.2.mem ((c.tc : Thread nD τ).loc main_v10_9) = aRow (opsM m c).SR) := by
  have h := run m (aft (A3 m)) (inv (A3 m)) (good3 (A3 m)) (inv0 (A3 m)) ρ
  refine Idealize.ShloMosaic.θ_run_mono h fun r hr => fun c => ?_
  obtain ⟨V, hV⟩ := hr.1 c
  exact ⟨(hV (Proc.devRef .tc main_v10_0) (Finset.mem_filter.mpr ⟨StableHlo.devRef_mem_tcRefs main_v10_0, by decide⟩)).trans (last_v10_0 m c V),
    (hV (Proc.devRef .tc main_v10_1) (Finset.mem_filter.mpr ⟨StableHlo.devRef_mem_tcRefs main_v10_1, by decide⟩)).trans (last_v10_1 m c V),
    (hV (Proc.devRef .tc main_v10_2) (Finset.mem_filter.mpr ⟨StableHlo.devRef_mem_tcRefs main_v10_2, by decide⟩)).trans (last_v10_2 m c V),
    (hV (Proc.devRef .tc main_v11) (Finset.mem_filter.mpr ⟨StableHlo.devRef_mem_tcRefs main_v11, by decide⟩)).trans (last_v11 m c V),
    (hV (Proc.devRef .tc main_v12) (Finset.mem_filter.mpr ⟨StableHlo.devRef_mem_tcRefs main_v12, by decide⟩)).trans (last_v12 m c V),
    (hV (Proc.devRef .tc main_v10_5) (Finset.mem_filter.mpr ⟨StableHlo.devRef_mem_tcRefs main_v10_5, by decide⟩)).trans (last_v10_5 m c V),
    (hV (Proc.devRef .tc main_v13) (Finset.mem_filter.mpr ⟨StableHlo.devRef_mem_tcRefs main_v13, by decide⟩)).trans (last_v13 m c V),
    (hV (Proc.devRef .tc main_v10_7) (Finset.mem_filter.mpr ⟨StableHlo.devRef_mem_tcRefs main_v10_7, by decide⟩)).trans (last_v10_7 m c V),
    (hV (Proc.devRef .tc main_v14) (Finset.mem_filter.mpr ⟨StableHlo.devRef_mem_tcRefs main_v14, by decide⟩)).trans (last_v14 m c V),
    (hV (Proc.devRef .tc main_v10_9) (Finset.mem_filter.mpr ⟨StableHlo.devRef_mem_tcRefs main_v10_9, by decide⟩)).trans (last_v10_9 m c V)⟩

end Cert.KernelIdeal.Hand
-- ==== Proof.RefOut.lean ====
/- The reference's sums of squared differences along rows and down columns, and the arrays they are stacked into. -/
module

public import proofs.«01_k».proof.Proof.RefAct
public import proofs.«01_k».proof.Proof.KVal

@[expose] public section

set_option maxRecDepth 16384

noncomputable section

namespace Cert.ReferenceIdeal.Hand

open Idealize.ShloMosaic Idealize.ShloMosaic.TcCoe
open Cert.ReferenceIdeal Cert.ReferenceIdeal.Gen Cert.ReferenceIdeal.Read Cert.Hand
open Cert.KernelIdeal.Hand (aTok aChan aRow aCube aBytes ops arr2 arr2_at arr2_of rows3 dqa deqs byt byt_at byt_of)

/-- The sum over the first two axes, as one sum over the rows numbered through. -/
theorem down_cols (y : (⟨S6x1536x1024, .f32⟩ : BufTy).Contents (Elt Ideal)) (z : EReal) (n : Fin 1024) :
    Ideal.hostReduceAdd reducesTo_S6x1536x1024_S1024_d0_1 y z (ix1 n)
      = z + ∑ r : Fin 9216, y (ix3 (⟨r.val / 1536, by omega⟩ : Fin 6) (⟨r.val % 1536, by omega⟩ : Fin 1536) n) := by
  refine congrArg (z + ·) ?_
  refine Finset.sum_nbij' (fun i => (⟨1536 * (i 0).val + (i 1).val, by
      have h0 : (i 0).val < 6 := (i 0).isLt
      have h1 : (i 1).val < 1536 := (i 1).isLt
      omega⟩ : Fin 9216))
    (fun r => ix3 (⟨r.val / 1536, by omega⟩ : Fin 6) (⟨r.val % 1536, by omega⟩ : Fin 1536) n) ?_ ?_ ?_ ?_ ?_
  · intro i _
    exact Finset.mem_univ _
  · intro r _
    rw [Finset.mem_filter]
    exact ⟨Finset.mem_univ _, funext fun b => Fin.ext (by match b with | ⟨0, _⟩ => rfl)⟩
  · intro i hi
    rw [Finset.mem_filter] at hi
    have h1 : (i 1).val < 1536 := (i 1).isLt
    have h2 : (i 2).val = n.val := congrArg (fun j : S1024.Idx => (j 0).val) hi.2
    refine funext fun b => Fin.ext ?_
    match b with
    | ⟨0, _⟩ => show (1536 * (i 0).val + (i 1).val) / 1536 = (i 0).val; omega
    | ⟨1, _⟩ => show (1536 * (i 0).val + (i 1).val) % 1536 = (i 1).val; omega
    | ⟨2, _⟩ => exact h2.symm
  · intro r _
    refine Fin.ext ?_
    show 1536 * (r.val / 1536) + r.val % 1536 = r.val
    omega
  · intro i hi
    rw [Finset.mem_filter] at hi
    have h1 : (i 1).val < 1536 := (i 1).isLt
    have h2 : (i 2).val = n.val := congrArg (fun j : S1024.Idx => (j 0).val) hi.2
    refine congrArg y (funext fun b => Fin.ext ?_)
    match b with
    | ⟨0, _⟩ => show (i 0).val = (1536 * (i 0).val + (i 1).val) / 1536; omega
    | ⟨1, _⟩ => show (i 1).val = (1536 * (i 0).val + (i 1).val) % 1536; omega
    | ⟨2, _⟩ => exact h2

theorem stack3 (A B C D : (⟨S1x6x1536, .f32⟩ : BufTy).Contents (Elt Ideal)) (f : ℕ → EReal) (q : Fin 4) (a : Fin 6) (b : Fin 1536) (h)
    (hA : A (ix3 0 a b) = f 0) (hB : B (ix3 0 a b) = f 1) (hC : C (ix3 0 a b) = f 2) (hD : D (ix3 0 a b) = f 3) :
    (concatenate S4x6x1536 0 [⟨S1x6x1536, A⟩, ⟨S1x6x1536, B⟩, ⟨S1x6x1536, C⟩, ⟨S1x6x1536, D⟩] h : (⟨S4x6x1536, .f32⟩ : BufTy).Contents (Elt Ideal)) (ix3 q a b) = f q.val := by
  pointwise []
  match q with
  | ⟨0, _⟩ => exact hA
  | ⟨1, _⟩ => exact hB
  | ⟨2, _⟩ => exact hC
  | ⟨3, _⟩ => exact hD

theorem stack2 (A B C D : (⟨S1x1024, .f32⟩ : BufTy).Contents (Elt Ideal)) (f : ℕ → EReal) (q : Fin 4) (n : Fin 1024) (h)
    (hA : A (ix2 0 n) = f 0) (hB : B (ix2 0 n) = f 1) (hC : C (ix2 0 n) = f 2) (hD : D (ix2 0 n) = f 3) :
    (concatenate S4x1024 0 [⟨S1x1024, A⟩, ⟨S1x1024, B⟩, ⟨S1x1024, C⟩, ⟨S1x1024, D⟩] h : (⟨S4x1024, .f32⟩ : BufTy).Contents (Elt Ideal)) (ix2 q n) = f q.val := by
  pointwise []
  match q with
  | ⟨0, _⟩ => exact hA
  | ⟨1, _⟩ => exact hB
  | ⟨2, _⟩ => exact hC
  | ⟨3, _⟩ => exact hD

theorem E_0 (o : Ops) (r n : ℕ) : o.E 0 r n = (o.Y0 r n - o.YR r n) * (o.Y0 r n - o.YR r n) := rfl
theorem E_1 (o : Ops) (r n : ℕ) : o.E 1 r n = (o.Y1 r n - o.YR r n) * (o.Y1 r n - o.YR r n) := rfl
theorem E_2 (o : Ops) (r n : ℕ) : o.E 2 r n = (o.Y2 r n - o.YR r n) * (o.Y2 r n - o.YR r n) := rfl
theorem E_3 (o : Ops) (r n : ℕ) : o.E 3 r n = (o.Y3 r n - o.YR r n) * (o.Y3 r n - o.YR r n) := rfl
theorem E_4 (o : Ops) (r n : ℕ) : o.E 4 r n = o.YR r n * o.YR r n := rfl

theorem zero_start : FloatOps.ofBits (F := Ideal) .f32 0x00000000#32 = 0 := Ideal.ofBits_zero_f32

variable (x0 : (⟨S6x1536x1024, .bf16⟩ : BufTy).Contents (Elt Ideal)) (x1 : (⟨S1024x4096, .bf16⟩ : BufTy).Contents (Elt Ideal)) (x2 : (⟨S1024x4096, .bf16⟩ : BufTy).Contents (Elt Ideal)) (x3 : (⟨S4096x1024, .bf16⟩ : BufTy).Contents (Elt Ideal)) (x4 : (⟨S512x4096, .i8⟩ : BufTy).Contents (Elt Ideal)) (x5 : (⟨S512x4096, .i8⟩ : BufTy).Contents (Elt Ideal)) (x6 : (⟨S2048x1024, .i8⟩ : BufTy).Contents (Elt Ideal)) (x7 : (⟨S8x4096, .f32⟩ : BufTy).Contents (Elt Ideal)) (x8 : (⟨S8x4096, .i8⟩ : BufTy).Contents (Elt Ideal)) (x9 : (⟨S8x4096, .f32⟩ : BufTy).Contents (Elt Ideal)) (x10 : (⟨S8x4096, .i8⟩ : BufTy).Contents (Elt Ideal)) (x11 : (⟨S32x1024, .f32⟩ : BufTy).Contents (Elt Ideal)) (x12 : (⟨S32x1024, .i8⟩ : BufTy).Contents (Elt Ideal))

theorem sq0 (a : Fin 6) (b : Fin 1536) (n : Fin 1024) : (val_main_v151 (F := Ideal) x0 x1 x2 x3 x4 x5 x6 x7 x8 x9 x10 x11 x12) (ix3 a b n) = (ops x0 x1 x2 x3 x4 x5 x6 x7 x8 x9 x10 x11 x12).E 0 (1536 * a.val + b.val) n.val := by
  rw [val_main_v151_apply, val_main_v150_apply, r125 x0 x1 x2 x3 x4 x5 x6 x7 x8 x9 x10 x11 x12 a b n, r105 x0 x1 x2 x3 x4 x5 x6 x7 x8 x9 x10 x11 x12 a b n, E_0]
  rfl

theorem t0 (a : Fin 6) (b : Fin 1536) : (val_main_v152 (F := Ideal) x0 x1 x2 x3 x4 x5 x6 x7 x8 x9 x10 x11 x12) (ix2 a b) = (ops x0 x1 x2 x3 x4 x5 x6 x7 x8 x9 x10 x11 x12).TOK 0 (1536 * a.val + b.val) := by
  rw [val_main_v152_apply, val_main_cst_26_apply, zero_start]
  refine (zero_add (∑ k : Fin 1024, (val_main_v151 (F := Ideal) x0 x1 x2 x3 x4 x5 x6 x7 x8 x9 x10 x11 x12) (idx_main_v152 (ix2 a b) k))).trans (Finset.sum_congr rfl fun k _ => ?_)
  exact (congrArg (val_main_v151 (F := Ideal) x0 x1 x2 x3 x4 x5 x6 x7 x8 x9 x10 x11 x12) (eq_ix3 (idx_main_v152 (ix2 a b) k))).trans (sq0 x0 x1 x2 x3 x4 x5 x6 x7 x8 x9 x10 x11 x12 a b k)

theorem c0 (n : Fin 1024) : (val_main_v153 (F := Ideal) x0 x1 x2 x3 x4 x5 x6 x7 x8 x9 x10 x11 x12) (ix1 n) = (ops x0 x1 x2 x3 x4 x5 x6 x7 x8 x9 x10 x11 x12).CHAN 0 n.val := by
  refine (down_cols (val_main_v151 (F := Ideal) x0 x1 x2 x3 x4 x5 x6 x7 x8 x9 x10 x11 x12) _ n).trans ?_
  refine (congrArg (· + _) zero_start).trans ((zero_add _).trans (Finset.sum_congr rfl fun r _ => ?_))
  refine (sq0 x0 x1 x2 x3 x4 x5 x6 x7 x8 x9 x10 x11 x12 ⟨r.val / 1536, by omega⟩ ⟨r.val % 1536, by omega⟩ n).trans ?_
  exact congrArg (fun j => (ops x0 x1 x2 x3 x4 x5 x6 x7 x8 x9 x10 x11 x12).E 0 j n.val) (show 1536 * (r.val / 1536) + r.val % 1536 = r.val by omega)

theorem sq1 (a : Fin 6) (b : Fin 1536) (n : Fin 1024) : (val_main_v155 (F := Ideal) x0 x1 x2 x3 x4 x7 x8) (ix3 a b n) = (ops x0 x1 x2 x3 x4 x5 x6 x7 x8 x9 x10 x11 x12).E 1 (1536 * a.val + b.val) n.val := by
  rw [val_main_v155_apply, val_main_v154_apply, r127 x0 x1 x2 x3 x4 x5 x6 x7 x8 x9 x10 x11 x12 a b n, r105 x0 x1 x2 x3 x4 x5 x6 x7 x8 x9 x10 x11 x12 a b n, E_1]
  rfl

theorem t1 (a : Fin 6) (b : Fin 1536) : (val_main_v156 (F := Ideal) x0 x1 x2 x3 x4 x7 x8) (ix2 a b) = (ops x0 x1 x2 x3 x4 x5 x6 x7 x8 x9 x10 x11 x12).TOK 1 (1536 * a.val + b.val) := by
  rw [val_main_v156_apply, val_main_cst_28_apply, zero_start]
  refine (zero_add (∑ k : Fin 1024, (val_main_v155 (F := Ideal) x0 x1 x2 x3 x4 x7 x8) (idx_main_v156 (ix2 a b) k))).trans (Finset.sum_congr rfl fun k _ => ?_)
  exact (congrArg (val_main_v155 (F := Ideal) x0 x1 x2 x3 x4 x7 x8) (eq_ix3 (idx_main_v156 (ix2 a b) k))).trans (sq1 x0 x1 x2 x3 x4 x5 x6 x7 x8 x9 x10 x11 x12 a b k)

theorem c1 (n : Fin 1024) : (val_main_v157 (F := Ideal) x0 x1 x2 x3 x4 x7 x8) (ix1 n) = (ops x0 x1 x2 x3 x4 x5 x6 x7 x8 x9 x10 x11 x12).CHAN 1 n.val := by
  refine (down_cols (val_main_v155 (F := Ideal) x0 x1 x2 x3 x4 x7 x8) _ n).trans ?_
  refine (congrArg (· + _) zero_start).trans ((zero_add _).trans (Finset.sum_congr rfl fun r _ => ?_))
  refine (sq1 x0 x1 x2 x3 x4 x5 x6 x7 x8 x9 x10 x11 x12 ⟨r.val / 1536, by omega⟩ ⟨r.val % 1536, by omega⟩ n).trans ?_
  exact congrArg (fun j => (ops x0 x1 x2 x3 x4 x5 x6 x7 x8 x9 x10 x11 x12).E 1 j n.val) (show 1536 * (r.val / 1536) + r.val % 1536 = r.val by omega)

theorem sq2 (a : Fin 6) (b : Fin 1536) (n : Fin 1024) : (val_main_v159 (F := Ideal) x0 x1 x2 x3 x5 x9 x10) (ix3 a b n) = (ops x0 x1 x2 x3 x4 x5 x6 x7 x8 x9 x10 x11 x12).E 2 (1536 * a.val + b.val) n.val := by
  rw [val_main_v159_apply, val_main_v158_apply, r129 x0 x1 x2 x3 x4 x5 x6 x7 x8 x9 x10 x11 x12 a b n, r105 x0 x1 x2 x3 x4 x5 x6 x7 x8 x9 x10 x11 x12 a b n, E_2]
  rfl

theorem t2 (a : Fin 6) (b : Fin 1536) : (val_main_v160 (F := Ideal) x0 x1 x2 x3 x5 x9 x10) (ix2 a b) = (ops x0 x1 x2 x3 x4 x5 x6 x7 x8 x9 x10 x11 x12).TOK 2 (1536 * a.val + b.val) := by
  rw [val_main_v160_apply, val_main_cst_30_apply, zero_start]
  refine (zero_add (∑ k : Fin 1024, (val_main_v159 (F := Ideal) x0 x1 x2 x3 x5 x9 x10) (idx_main_v160 (ix2 a b) k))).trans (Finset.sum_congr rfl fun k _ => ?_)
  exact (congrArg (val_main_v159 (F := Ideal) x0 x1 x2 x3 x5 x9 x10) (eq_ix3 (idx_main_v160 (ix2 a b) k))).trans (sq2 x0 x1 x2 x3 x4 x5 x6 x7 x8 x9 x10 x11 x12 a b k)

theorem c2 (n : Fin 1024) : (val_main_v161 (F := Ideal) x0 x1 x2 x3 x5 x9 x10) (ix1 n) = (ops x0 x1 x2 x3 x4 x5 x6 x7 x8 x9 x10 x11 x12).CHAN 2 n.val := by
  refine (down_cols (val_main_v159 (F := Ideal) x0 x1 x2 x3 x5 x9 x10) _ n).trans ?_
  refine (congrArg (· + _) zero_start).trans ((zero_add _).trans (Finset.sum_congr rfl fun r _ => ?_))
  refine (sq2 x0 x1 x2 x3 x4 x5 x6 x7 x8 x9 x10 x11 x12 ⟨r.val / 1536, by omega⟩ ⟨r.val % 1536, by omega⟩ n).trans ?_
  exact congrArg (fun j => (ops x0 x1 x2 x3 x4 x5 x6 x7 x8 x9 x10 x11 x12).E 2 j n.val) (show 1536 * (r.val / 1536) + r.val % 1536 = r.val by omega)

theorem sq3 (a : Fin 6) (b : Fin 1536) (n : Fin 1024) : (val_main_v163 (F := Ideal) x0 x1 x2 x3 x6 x11 x12) (ix3 a b n) = (ops x0 x1 x2 x3 x4 x5 x6 x7 x8 x9 x10 x11 x12).E 3 (1536 * a.val + b.val) n.val := by
  rw [val_main_v163_apply, val_main_v162_apply, r149 x0 x1 x2 x3 x4 x5 x6 x7 x8 x9 x10 x11 x12 a b n, r105 x0 x1 x2 x3 x4 x5 x6 x7 x8 x9 x10 x11 x12 a b n, E_3]
  rfl

theorem t3 (a : Fin 6) (b : Fin 1536) : (val_main_v164 (F := Ideal) x0 x1 x2 x3 x6 x11 x12) (ix2 a b) = (ops x0 x1 x2 x3 x4 x5 x6 x7 x8 x9 x10 x11 x12).TOK 3 (1536 * a.val + b.val) := by
  rw [val_main_v164_apply, val_main_cst_32_apply, zero_start]
  refine (zero_add (∑ k : Fin 1024, (val_main_v163 (F := Ideal) x0 x1 x2 x3 x6 x11 x12) (idx_main_v164 (ix2 a b) k))).trans (Finset.sum_congr rfl fun k _ => ?_)
  exact (congrArg (val_main_v163 (F := Ideal) x0 x1 x2 x3 x6 x11 x12) (eq_ix3 (idx_main_v164 (ix2 a b) k))).trans (sq3 x0 x1 x2 x3 x4 x5 x6 x7 x8 x9 x10 x11 x12 a b k)

theorem c3 (n : Fin 1024) : (val_main_v165 (F := Ideal) x0 x1 x2 x3 x6 x11 x12) (ix1 n) = (ops x0 x1 x2 x3 x4 x5 x6 x7 x8 x9 x10 x11 x12).CHAN 3 n.val := by
  refine (down_cols (val_main_v163 (F := Ideal) x0 x1 x2 x3 x6 x11 x12) _ n).trans ?_
  refine (congrArg (· + _) zero_start).trans ((zero_add _).trans (Finset.sum_congr rfl fun r _ => ?_))
  refine (sq3 x0 x1 x2 x3 x4 x5 x6 x7 x8 x9 x10 x11 x12 ⟨r.val / 1536, by omega⟩ ⟨r.val % 1536, by omega⟩ n).trans ?_
  exact congrArg (fun j => (ops x0 x1 x2 x3 x4 x5 x6 x7 x8 x9 x10 x11 x12).E 3 j n.val) (show 1536 * (r.val / 1536) + r.val % 1536 = r.val by omega)

theorem sq4 (a : Fin 6) (b : Fin 1536) (n : Fin 1024) : (val_main_v176 (F := Ideal) x0 x1 x2 x3) (ix3 a b n) = (ops x0 x1 x2 x3 x4 x5 x6 x7 x8 x9 x10 x11 x12).E 4 (1536 * a.val + b.val) n.val := by
  rw [val_main_v176_apply, r105 x0 x1 x2 x3 x4 x5 x6 x7 x8 x9 x10 x11 x12 a b n, E_4]
  rfl

theorem t4 (a : Fin 6) (b : Fin 1536) : (val_main_v177 (F := Ideal) x0 x1 x2 x3) (ix2 a b) = (ops x0 x1 x2 x3 x4 x5 x6 x7 x8 x9 x10 x11 x12).TOK 4 (1536 * a.val + b.val) := by
  rw [val_main_v177_apply, val_main_cst_34_apply, zero_start]
  refine (zero_add (∑ k : Fin 1024, (val_main_v176 (F := Ideal) x0 x1 x2 x3) (idx_main_v177 (ix2 a b) k))).trans (Finset.sum_congr rfl fun k _ => ?_)
  exact (congrArg (val_main_v176 (F := Ideal) x0 x1 x2 x3) (eq_ix3 (idx_main_v177 (ix2 a b) k))).trans (sq4 x0 x1 x2 x3 x4 x5 x6 x7 x8 x9 x10 x11 x12 a b k)

theorem u0 (a : Fin 6) (b : Fin 1536) : (val_main_v166 (F := Ideal) x0 x1 x2 x3 x4 x5 x6 x7 x8 x9 x10 x11 x12) (ix3 0 a b) = (ops x0 x1 x2 x3 x4 x5 x6 x7 x8 x9 x10 x11 x12).TOK 0 (1536 * a.val + b.val) := by
  rw [val_main_v166_apply]
  exact (congrArg (val_main_v152 (F := Ideal) x0 x1 x2 x3 x4 x5 x6 x7 x8 x9 x10 x11 x12) (eq_ix2 (idx_main_v166 (ix3 0 a b)))).trans (t0 x0 x1 x2 x3 x4 x5 x6 x7 x8 x9 x10 x11 x12 a b)

theorem u1 (a : Fin 6) (b : Fin 1536) : (val_main_v167 (F := Ideal) x0 x1 x2 x3 x4 x7 x8) (ix3 0 a b) = (ops x0 x1 x2 x3 x4 x5 x6 x7 x8 x9 x10 x11 x12).TOK 1 (1536 * a.val + b.val) := by
  rw [val_main_v167_apply]
  exact (congrArg (val_main_v156 (F := Ideal) x0 x1 x2 x3 x4 x7 x8) (eq_ix2 (idx_main_v167 (ix3 0 a b)))).trans (t1 x0 x1 x2 x3 x4 x5 x6 x7 x8 x9 x10 x11 x12 a b)

theorem u2 (a : Fin 6) (b : Fin 1536) : (val_main_v168 (F := Ideal) x0 x1 x2 x3 x5 x9 x10) (ix3 0 a b) = (ops x0 x1 x2 x3 x4 x5 x6 x7 x8 x9 x10 x11 x12).TOK 2 (1536 * a.val + b.val) := by
  rw [val_main_v168_apply]
  exact (congrArg (val_main_v160 (F := Ideal) x0 x1 x2 x3 x5 x9 x10) (eq_ix2 (idx_main_v168 (ix3 0 a b)))).trans (t2 x0 x1 x2 x3 x4 x5 x6 x7 x8 x9 x10 x11 x12 a b)

theorem u3 (a : Fin 6) (b : Fin 1536) : (val_main_v169 (F := Ideal) x0 x1 x2 x3 x6 x11 x12) (ix3 0 a b) = (ops x0 x1 x2 x3 x4 x5 x6 x7 x8 x9 x10 x11 x12).TOK 3 (1536 * a.val + b.val) := by
  rw [val_main_v169_apply]
  exact (congrArg (val_main_v164 (F := Ideal) x0 x1 x2 x3 x6 x11 x12) (eq_ix2 (idx_main_v169 (ix3 0 a b)))).trans (t3 x0 x1 x2 x3 x4 x5 x6 x7 x8 x9 x10 x11 x12 a b)

theorem w0 (n : Fin 1024) : (val_main_v171 (F := Ideal) x0 x1 x2 x3 x4 x5 x6 x7 x8 x9 x10 x11 x12) (ix2 0 n) = (ops x0 x1 x2 x3 x4 x5 x6 x7 x8 x9 x10 x11 x12).CHAN 0 n.val := by
  rw [val_main_v171_apply]
  exact (congrArg (val_main_v153 (F := Ideal) x0 x1 x2 x3 x4 x5 x6 x7 x8 x9 x10 x11 x12) (eq_ix1 (idx_main_v171 (ix2 0 n)))).trans (c0 x0 x1 x2 x3 x4 x5 x6 x7 x8 x9 x10 x11 x12 n)

theorem w1 (n : Fin 1024) : (val_main_v172 (F := Ideal) x0 x1 x2 x3 x4 x7 x8) (ix2 0 n) = (ops x0 x1 x2 x3 x4 x5 x6 x7 x8 x9 x10 x11 x12).CHAN 1 n.val := by
  rw [val_main_v172_apply]
  exact (congrArg (val_main_v157 (F := Ideal) x0 x1 x2 x3 x4 x7 x8) (eq_ix1 (idx_main_v172 (ix2 0 n)))).trans (c1 x0 x1 x2 x3 x4 x5 x6 x7 x8 x9 x10 x11 x12 n)

theorem w2 (n : Fin 1024) : (val_main_v173 (F := Ideal) x0 x1 x2 x3 x5 x9 x10) (ix2 0 n) = (ops x0 x1 x2 x3 x4 x5 x6 x7 x8 x9 x10 x11 x12).CHAN 2 n.val := by
  rw [val_main_v173_apply]
  exact (congrArg (val_main_v161 (F := Ideal) x0 x1 x2 x3 x5 x9 x10) (eq_ix1 (idx_main_v173 (ix2 0 n)))).trans (c2 x0 x1 x2 x3 x4 x5 x6 x7 x8 x9 x10 x11 x12 n)

theorem w3 (n : Fin 1024) : (val_main_v174 (F := Ideal) x0 x1 x2 x3 x6 x11 x12) (ix2 0 n) = (ops x0 x1 x2 x3 x4 x5 x6 x7 x8 x9 x10 x11 x12).CHAN 3 n.val := by
  rw [val_main_v174_apply]
  exact (congrArg (val_main_v165 (F := Ideal) x0 x1 x2 x3 x6 x11 x12) (eq_ix1 (idx_main_v174 (ix2 0 n)))).trans (c3 x0 x1 x2 x3 x4 x5 x6 x7 x8 x9 x10 x11 x12 n)

/-- The stacked row sums. -/
theorem out_tok : (val_main_v170 (F := Ideal) x0 x1 x2 x3 x4 x5 x6 x7 x8 x9 x10 x11 x12) = aTok (ops x0 x1 x2 x3 x4 x5 x6 x7 x8 x9 x10 x11 x12) := by
  funext i
  refine (congrArg (val_main_v170 (F := Ideal) x0 x1 x2 x3 x4 x5 x6 x7 x8 x9 x10 x11 x12) (eq_ix3 (n0 := 4) (n1 := 6) (n2 := 1536) i)).trans ?_
  exact stack3 _ _ _ _ (fun q => (ops x0 x1 x2 x3 x4 x5 x6 x7 x8 x9 x10 x11 x12).TOK q (1536 * (i 1).val + (i 2).val)) (i 0) (i 1) (i 2) _ (u0 x0 x1 x2 x3 x4 x5 x6 x7 x8 x9 x10 x11 x12 (i 1) (i 2)) (u1 x0 x1 x2 x3 x4 x5 x6 x7 x8 x9 x10 x11 x12 (i 1) (i 2)) (u2 x0 x1 x2 x3 x4 x5 x6 x7 x8 x9 x10 x11 x12 (i 1) (i 2)) (u3 x0 x1 x2 x3 x4 x5 x6 x7 x8 x9 x10 x11 x12 (i 1) (i 2))

/-- The stacked column sums. -/
theorem out_chan : (val_main_v175 (F := Ideal) x0 x1 x2 x3 x4 x5 x6 x7 x8 x9 x10 x11 x12) = aChan (ops x0 x1 x2 x3 x4 x5 x6 x7 x8 x9 x10 x11 x12) := by
  funext i
  refine (congrArg (val_main_v175 (F := Ideal) x0 x1 x2 x3 x4 x5 x6 x7 x8 x9 x10 x11 x12) (eq_ix2 (n0 := 4) (n1 := 1024) i)).trans ?_
  exact stack2 _ _ _ _ (fun q => (ops x0 x1 x2 x3 x4 x5 x6 x7 x8 x9 x10 x11 x12).CHAN q (i 1).val) (i 0) (i 1) _ (w0 x0 x1 x2 x3 x4 x5 x6 x7 x8 x9 x10 x11 x12 (i 1)) (w1 x0 x1 x2 x3 x4 x5 x6 x7 x8 x9 x10 x11 x12 (i 1)) (w2 x0 x1 x2 x3 x4 x5 x6 x7 x8 x9 x10 x11 x12 (i 1)) (w3 x0 x1 x2 x3 x4 x5 x6 x7 x8 x9 x10 x11 x12 (i 1))

/-- The squared reference summed along rows. -/
theorem out_sig : (val_main_v177 (F := Ideal) x0 x1 x2 x3) = aRow ((ops x0 x1 x2 x3 x4 x5 x6 x7 x8 x9 x10 x11 x12).TOK 4) :=
  funext fun i => (congrArg (val_main_v177 (F := Ideal) x0 x1 x2 x3) (eq_ix2 (n0 := 6) (n1 := 1536) i)).trans (t4 x0 x1 x2 x3 x4 x5 x6 x7 x8 x9 x10 x11 x12 (i 0) (i 1))

/-- The scales of the rows. -/
theorem out_xs : (val_main_v66 (F := Ideal) x0) = aRow (ops x0 x1 x2 x3 x4 x5 x6 x7 x8 x9 x10 x11 x12).S :=
  funext fun i => (congrArg (val_main_v66 (F := Ideal) x0) (eq_ix2 (n0 := 6) (n1 := 1536) i)).trans (r66 x0 x1 x2 x3 x4 x5 x6 x7 x8 x9 x10 x11 x12 (i 0) (i 1))

/-- The scales of the quantised hidden rows. -/
theorem out_hfs : (val_main_v112 (F := Ideal) x0 x4 x5 x7 x8 x9 x10) = aRow (ops x0 x1 x2 x3 x4 x5 x6 x7 x8 x9 x10 x11 x12).SF :=
  funext fun i => (congrArg (val_main_v112 (F := Ideal) x0 x4 x5 x7 x8 x9 x10) (eq_ix2 (n0 := 6) (n1 := 1536) i)).trans (r112 x0 x1 x2 x3 x4 x5 x6 x7 x8 x9 x10 x11 x12 (i 0) (i 1))

/-- The scales of the reference hidden rows. -/
theorem out_hrs : (val_main_v136 (F := Ideal) x0 x1 x2) = aRow (ops x0 x1 x2 x3 x4 x5 x6 x7 x8 x9 x10 x11 x12).SR :=
  funext fun i => (congrArg (val_main_v136 (F := Ideal) x0 x1 x2) (eq_ix2 (n0 := 6) (n1 := 1536) i)).trans (r136 x0 x1 x2 x3 x4 x5 x6 x7 x8 x9 x10 x11 x12 (i 0) (i 1))

/-- The layer's own output. -/
theorem out_y : (val_main_v178 (F := Ideal) x0 x1 x2 x3) = aCube 1024 (ops x0 x1 x2 x3 x4 x5 x6 x7 x8 x9 x10 x11 x12).YR :=
  funext fun i => (congrArg (val_main_v178 (F := Ideal) x0 x1 x2 x3) (eq_ix3 (n0 := 6) (n1 := 1536) (n2 := 1024) i)).trans (r105 x0 x1 x2 x3 x4 x5 x6 x7 x8 x9 x10 x11 x12 (i 0) (i 1) (i 2))

/-- The codes of the rows. -/
theorem out_xc : (val_main_v73 (F := Ideal) x0) = aBytes 1024 (ops x0 x1 x2 x3 x4 x5 x6 x7 x8 x9 x10 x11 x12).C :=
  funext fun i => (congrArg (val_main_v73 (F := Ideal) x0) (eq_ix3 (n0 := 6) (n1 := 1536) (n2 := 1024) i)).trans (r73 x0 x1 x2 x3 x4 x5 x6 x7 x8 x9 x10 x11 x12 (i 0) (i 1) (i 2))

/-- The codes of the quantised hidden rows. -/
theorem out_hfc : (val_main_v119 (F := Ideal) x0 x4 x5 x7 x8 x9 x10) = aBytes 4096 (ops x0 x1 x2 x3 x4 x5 x6 x7 x8 x9 x10 x11 x12).CF :=
  funext fun i => (congrArg (val_main_v119 (F := Ideal) x0 x4 x5 x7 x8 x9 x10) (eq_ix3 (n0 := 6) (n1 := 1536) (n2 := 4096) i)).trans (r119 x0 x1 x2 x3 x4 x5 x6 x7 x8 x9 x10 x11 x12 (i 0) (i 1) (i 2))

/-- The codes of the reference hidden rows. -/
theorem out_hrc : (val_main_v143 (F := Ideal) x0 x1 x2) = aBytes 4096 (ops x0 x1 x2 x3 x4 x5 x6 x7 x8 x9 x10 x11 x12).CR :=
  funext fun i => (congrArg (val_main_v143 (F := Ideal) x0 x1 x2) (eq_ix3 (n0 := 6) (n1 := 1536) (n2 := 4096) i)).trans (r143 x0 x1 x2 x3 x4 x5 x6 x7 x8 x9 x10 x11 x12 (i 0) (i 1) (i 2))

end Cert.ReferenceIdeal.Hand
-- ==== Proof.Final.lean ====
/- The reference's results as arrays of the layer's functions, and the equality of both programs' results. -/
module

public import proofs.«01_k».proof.Proof.RefOut
public import proofs.«01_k».proof.Proof.KVal
public import proofs.«01_k».proof.Proof.Frames
public import proofs.«01_k».proof.Defs

@[expose] public section

set_option maxRecDepth 16384

noncomputable section

namespace Cert.ReferenceIdeal.Hand

open Idealize.ShloMosaic Idealize.ShloMosaic.TcCoe Idealize.ShloMosaic.StableHlo
open Cert.ReferenceIdeal Cert.ReferenceIdeal.Gen Cert.ReferenceIdeal.Read Cert.Hand
open Cert.KernelIdeal.Hand (aTok aChan aRow aCube aBytes ops arr2 arr2_at arr2_of rows3 dqa deqs byt byt_at byt_of)

/-- The layer's operands off the reference's arguments. -/
abbrev opsR (m : (ℓ : Loc nD τ sig) → Buf (Elt Ideal) ℓ) (c : Dev nD) : Ops := ops (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

theorem value (m : (ℓ : Loc nD τ sig) → Buf (Elt Ideal) ℓ) (ρ : Dev nD → PrngReg) : θ_run defs (onTc (τ := τ) (main (F := Ideal))) ⟨m, fun _ => 0, ρ⟩ (fun r => ∀ c : Dev nD,
      r.2.mem ((c.tc : Thread nD τ).loc main_v170) = aTok (opsR m c)
      ∧ r.2.mem ((c.tc : Thread nD τ).loc main_v175) = aChan (opsR m c)
      ∧ r.2.mem ((c.tc : Thread nD τ).loc main_v177) = aRow ((opsR m c).TOK 4)
      ∧ r.2.mem ((c.tc : Thread nD τ).loc main_v178) = aCube 1024 (opsR m c).YR
      ∧ r.2.mem ((c.tc : Thread nD τ).loc main_v73) = aBytes 1024 (opsR m c).C
      ∧ r.2.mem ((c.tc : Thread nD τ).loc main_v66) = aRow (opsR m c).S
      ∧ r.2.mem ((c.tc : Thread nD τ).loc main_v119) = aBytes 4096 (opsR m c).CF
      ∧ r.2.mem ((c.tc : Thread nD τ).loc main_v112) = aRow (opsR m c).SF
      ∧ r.2.mem ((c.tc : Thread nD τ).loc main_v143) = aBytes 4096 (opsR m c).CR
      ∧ r.2.mem ((c.tc : Thread nD τ).loc main_v136) = aRow (opsR m c).SR
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) := by
  refine θ_run_mono (Cert.ReferenceIdeal.Value.run m ρ) fun r h c => ?_
  obtain ⟨h0, h1, h2, h3, h4, h5, h6, h7, h8, h9, ha⟩ := h c
  exact ⟨h0.trans ((val_main_v170_eq (launchContents m c)).trans (out_tok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h1.trans ((val_main_v175_eq (launchContents m c)).trans (out_chan (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h2.trans ((val_main_v177_eq (launchContents m c)).trans (out_sig (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h3.trans ((val_main_v178_eq (launchContents m c)).trans (out_y (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h4.trans ((val_main_v73_eq (launchContents m c)).trans (out_xc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h5.trans ((val_main_v66_eq (launchContents m c)).trans (out_xs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h6.trans ((val_main_v119_eq (launchContents m c)).trans (out_hfc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h7.trans ((val_main_v112_eq (launchContents m c)).trans (out_hfs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h8.trans ((val_main_v143_eq (launchContents m c)).trans (out_hrc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))),
    h9.trans ((val_main_v136_eq (launchContents m c)).trans (out_hrs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))), ha⟩

/-- Both programs end with the same ten results. -/
theorem algebraic : Cert.algebraic_KernelIdeal_ReferenceIdeal (hKernelIdeal := Cert.KernelIdeal.Gen.facts) (hReferenceIdeal := Cert.ReferenceIdeal.Gen.facts) := by
  intro m g m' g' _ hag
  have e : ∀ c : Dev nD, opsR m' c = Cert.KernelIdeal.Hand.opsM m c := by
    intro c
    obtain ⟨e0, e1, e2, e3, e4, e5, e6, e7, e8, e9, e10, e11, e12⟩ := hag c
    unfold opsR
    rw [e0, e1, e2, e3, e4, e5, e6, e7, e8, e9, e10, e11, e12]
  refine ⟨fun c => aTok (Cert.KernelIdeal.Hand.opsM m c), fun c => aChan (Cert.KernelIdeal.Hand.opsM m c), fun c => aRow ((Cert.KernelIdeal.Hand.opsM m c).TOK 4), fun c => aCube 1024 (Cert.KernelIdeal.Hand.opsM m c).YR, fun c => aBytes 1024 (Cert.KernelIdeal.Hand.opsM m c).C, fun c => aRow (Cert.KernelIdeal.Hand.opsM m c).S, fun c => aBytes 4096 (Cert.KernelIdeal.Hand.opsM m c).CF, fun c => aRow (Cert.KernelIdeal.Hand.opsM m c).SF, fun c => aBytes 4096 (Cert.KernelIdeal.Hand.opsM m c).CR, fun c => aRow (Cert.KernelIdeal.Hand.opsM m c).SR, ?_, ?_⟩
  · refine θ_run_mono (θ_run_and (Cert.KernelIdeal.Hand.value m g) (Cert.KernelIdeal.Hand.frame (F := Ideal) m g)) fun r h c => ?_
    obtain ⟨h0, h1, h2, h3, h4, h5, h6, h7, h8, h9⟩ := h.1 c
    exact ⟨h0, h1, h2, h3, h4, h5, h6, h7, h8, h9, h.2.1 c⟩
  · refine θ_run_mono (value m' g') fun r h c => ?_
    obtain ⟨h0, h1, h2, h3, h4, h5, h6, h7, h8, h9, ha⟩ := h c
    exact ⟨h0.trans (congrArg (fun o : Ops => aTok o) (e c)),
      h1.trans (congrArg (fun o : Ops => aChan o) (e c)),
      h2.trans (congrArg (fun o : Ops => aRow (o.TOK 4)) (e c)),
      h3.trans (congrArg (fun o : Ops => aCube 1024 o.YR) (e c)),
      h4.trans (congrArg (fun o : Ops => aBytes 1024 o.C) (e c)),
      h5.trans (congrArg (fun o : Ops => aRow o.S) (e c)),
      h6.trans (congrArg (fun o : Ops => aBytes 4096 o.CF) (e c)),
      h7.trans (congrArg (fun o : Ops => aRow o.SF) (e c)),
      h8.trans (congrArg (fun o : Ops => aBytes 4096 o.CR) (e c)),
      h9.trans (congrArg (fun o : Ops => aRow o.SR) (e c)), ha⟩

end Cert.ReferenceIdeal.Hand
-- ==== Proof.lean ====
/- The certificate's claims. -/
module

public import proofs.«01_k».proof.Defs
public import proofs.«01_k».proof.Proof.Gen.Kernel
public import proofs.«01_k».proof.Proof.Frames
public import proofs.«01_k».proof.Proof.KFrames
public import proofs.«01_k».proof.Proof.Ref
public import proofs.«01_k».proof.Proof.Final

@[expose] public section

namespace Cert.Proof

theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g, Cert.ReferenceIdeal.Hand.quiescent,
    trivial, Cert.ReferenceIdeal.Hand.algebraic⟩

end Cert.Proof
